-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0))) = (fun _ => 1#1)

def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnRefIdeal (m : (ℓ : Loc Cert.FfnRefIdeal.nD Cert.FfnRefIdeal.τ Cert.FfnRefIdeal.sig) → Buf (Elt Ideal) ℓ) : Prop :=
  True

def Pre_Inproj (m : (ℓ : Loc Cert.Inproj.nD Cert.Inproj.τ Cert.Inproj.sig) → Buf (Elt Bits) ℓ) : Prop :=
  True

def Pre_InprojIdeal (m : (ℓ : Loc Cert.InprojIdeal.nD Cert.InprojIdeal.τ Cert.InprojIdeal.sig) → Buf (Elt Ideal) ℓ) : Prop :=
  True

def Pre_InprojRefIdeal (m : (ℓ : Loc Cert.InprojRefIdeal.nD Cert.InprojRefIdeal.τ Cert.InprojRefIdeal.sig) → Buf (Elt Ideal) ℓ) : Prop :=
  True

def Pre_Mixout (m : (ℓ : Loc Cert.Mixout.nD Cert.Mixout.τ Cert.Mixout.sig) → Buf (Elt Bits) ℓ) : Prop :=
  True

def Pre_MixoutIdeal (m : (ℓ : Loc Cert.MixoutIdeal.nD Cert.MixoutIdeal.τ Cert.MixoutIdeal.sig) → Buf (Elt Ideal) ℓ) : Prop :=
  True

def Pre_MixoutRefIdeal (m : (ℓ : Loc Cert.MixoutRefIdeal.nD Cert.MixoutRefIdeal.τ Cert.MixoutRefIdeal.sig) → Buf (Elt Ideal) ℓ) : Prop :=
  True

def Pre_FfnSample (m : (ℓ : Loc Cert.FfnSample.nD Cert.FfnSample.τ Cert.FfnSample.sig) → Buf (Elt Bits) ℓ) : Prop :=
  True

def Pre_FfnSampleIdeal (m : (ℓ : Loc Cert.FfnSampleIdeal.nD Cert.FfnSampleIdeal.τ Cert.FfnSampleIdeal.sig) → Buf (Elt Ideal) ℓ) : Prop :=
  True

def Pre_FfnSampleRefIdeal (m : (ℓ : Loc Cert.FfnSampleRefIdeal.nD Cert.FfnSampleRefIdeal.τ Cert.FfnSampleRefIdeal.sig) → Buf (Elt Ideal) ℓ) : Prop :=
  True

def Pre_RetSample (m : (ℓ : Loc Cert.RetSample.nD Cert.RetSample.τ Cert.RetSample.sig) → Buf (Elt Bits) ℓ) : Prop :=
  True

def Pre_RetSampleIdeal (m : (ℓ : Loc Cert.RetSampleIdeal.nD Cert.RetSampleIdeal.τ Cert.RetSampleIdeal.sig) → Buf (Elt Ideal) ℓ) : Prop :=
  True

def Pre_RetSampleRefIdeal (m : (ℓ : Loc Cert.RetSampleRefIdeal.nD Cert.RetSampleRefIdeal.τ Cert.RetSampleRefIdeal.sig) → Buf (Elt Ideal) ℓ) : Prop :=
  True

def Pre_PrepSample (m : (ℓ : Loc Cert.PrepSample.nD Cert.PrepSample.τ Cert.PrepSample.sig) → Buf (Elt Bits) ℓ) : Prop :=
  True

def Pre_PrepSampleIdeal (m : (ℓ : Loc Cert.PrepSampleIdeal.nD Cert.PrepSampleIdeal.τ Cert.PrepSampleIdeal.sig) → Buf (Elt Ideal) ℓ) : Prop :=
  True

def Pre_PrepSampleRefIdeal (m : (ℓ : Loc Cert.PrepSampleRefIdeal.nD Cert.PrepSampleRefIdeal.τ Cert.PrepSampleRefIdeal.sig) → Buf (Elt Ideal) ℓ) : Prop :=
  True

def Pre_ConvSample (m : (ℓ : Loc Cert.ConvSample.nD Cert.ConvSample.τ Cert.ConvSample.sig) → Buf (Elt Bits) ℓ) : Prop :=
  True

def Pre_ConvSampleIdeal (m : (ℓ : Loc Cert.ConvSampleIdeal.nD Cert.ConvSampleIdeal.τ Cert.ConvSampleIdeal.sig) → Buf (Elt Ideal) ℓ) : Prop :=
  True

def Pre_ConvSampleRefIdeal (m : (ℓ : Loc Cert.ConvSampleRefIdeal.nD Cert.ConvSampleRefIdeal.τ Cert.ConvSampleRefIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3)
      ∧ r.2.mem ((c.tc : Thread Cert.Ffn.nD Cert.Ffn.τ).loc Cert.Ffn.main_arg4) = m ((c.tc : Thread Cert.Ffn.nD Cert.Ffn.τ).loc Cert.Ffn.main_arg4)
      ∧ r.2.mem ((c.tc : Thread Cert.Ffn.nD Cert.Ffn.τ).loc Cert.Ffn.main_arg5) = m ((c.tc : Thread Cert.Ffn.nD Cert.Ffn.τ).loc Cert.Ffn.main_arg5)
      ∧ r.2.mem ((c.tc : Thread Cert.Ffn.nD Cert.Ffn.τ).loc Cert.Ffn.main_arg6) = m ((c.tc : Thread Cert.Ffn.nD Cert.Ffn.τ).loc Cert.Ffn.main_arg6))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
      ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5)
      ∧ r.2.mem ((c.tc : Thread Cert.FfnIdeal.nD Cert.FfnIdeal.τ).loc Cert.FfnIdeal.main_arg6) = m ((c.tc : Thread Cert.FfnIdeal.nD Cert.FfnIdeal.τ).loc Cert.FfnIdeal.main_arg6))
      ∧ r.2.sem = fun _ => 0)

def quiescent_FfnRefIdeal [hFfnRefIdeal : Cert.FfnRefIdeal.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3)
      ∧ r.2.mem ((c.tc : Thread Cert.FfnRefIdeal.nD Cert.FfnRefIdeal.τ).loc Cert.FfnRefIdeal.main_arg4) = m ((c.tc : Thread Cert.FfnRefIdeal.nD Cert.FfnRefIdeal.τ).loc Cert.FfnRefIdeal.main_arg4)
      ∧ r.2.mem ((c.tc : Thread Cert.FfnRefIdeal.nD Cert.FfnRefIdeal.τ).loc Cert.FfnRefIdeal.main_arg5) = m ((c.tc : Thread Cert.FfnRefIdeal.nD Cert.FfnRefIdeal.τ).loc Cert.FfnRefIdeal.main_arg5)
      ∧ r.2.mem ((c.tc : Thread Cert.FfnRefIdeal.nD Cert.FfnRefIdeal.τ).loc Cert.FfnRefIdeal.main_arg6) = m ((c.tc : Thread Cert.FfnRefIdeal.nD Cert.FfnRefIdeal.τ).loc Cert.FfnRefIdeal.main_arg6))
      ∧ r.2.sem = fun _ => 0)

def quiescent_Inproj [hInproj : Cert.Inproj.Facts] : Prop :=
  ∀ (m : (ℓ : Loc Cert.Inproj.nD Cert.Inproj.τ Cert.Inproj.sig) → Buf (Elt Bits) ℓ) (g : Dev Cert.Inproj.nD → PrngReg), Pre_Inproj m →
    θ_run (Cert.Inproj.defs (F := Bits)) (onTc (τ := Cert.Inproj.τ) (Cert.Inproj.main (F := Bits))) ⟨m, fun _ => 0, g⟩ (fun r => (∀ c : Dev Cert.Inproj.nD,
      r.2.mem ((c.tc : Thread Cert.Inproj.nD Cert.Inproj.τ).loc Cert.Inproj.main_arg0) = m ((c.tc : Thread Cert.Inproj.nD Cert.Inproj.τ).loc Cert.Inproj.main_arg0)
      ∧ r.2.mem ((c.tc : Thread Cert.Inproj.nD Cert.Inproj.τ).loc Cert.Inproj.main_arg1) = m ((c.tc : Thread Cert.Inproj.nD Cert.Inproj.τ).loc Cert.Inproj.main_arg1)
      ∧ r.2.mem ((c.tc : Thread Cert.Inproj.nD Cert.Inproj.τ).loc Cert.Inproj.main_arg2) = m ((c.tc : Thread Cert.Inproj.nD Cert.Inproj.τ).loc Cert.Inproj.main_arg2)
      ∧ r.2.mem ((c.tc : Thread Cert.Inproj.nD Cert.Inproj.τ).loc Cert.Inproj.main_arg3) = m ((c.tc : Thread Cert.Inproj.nD Cert.Inproj.τ).loc Cert.Inproj.main_arg3)
      ∧ r.2.mem ((c.tc : Thread Cert.Inproj.nD Cert.Inproj.τ).loc Cert.Inproj.main_arg4) = m ((c.tc : Thread Cert.Inproj.nD Cert.Inproj.τ).loc Cert.Inproj.main_arg4))
      ∧ r.2.sem = fun _ => 0)

def quiescent_InprojIdeal [hInprojIdeal : Cert.InprojIdeal.Facts] : Prop :=
  ∀ (m : (ℓ : Loc Cert.InprojIdeal.nD Cert.InprojIdeal.τ Cert.InprojIdeal.sig) → Buf (Elt Ideal) ℓ) (g : Dev Cert.InprojIdeal.nD → PrngReg), Pre_InprojIdeal m →
    θ_run (Cert.InprojIdeal.defs (F := Ideal)) (onTc (τ := Cert.InprojIdeal.τ) (Cert.InprojIdeal.main (F := Ideal))) ⟨m, fun _ => 0, g⟩ (fun r => (∀ c : Dev Cert.InprojIdeal.nD,
      r.2.mem ((c.tc : Thread Cert.InprojIdeal.nD Cert.InprojIdeal.τ).loc Cert.InprojIdeal.main_arg0) = m ((c.tc : Thread Cert.InprojIdeal.nD Cert.InprojIdeal.τ).loc Cert.InprojIdeal.main_arg0)
      ∧ r.2.mem ((c.tc : Thread Cert.InprojIdeal.nD Cert.InprojIdeal.τ).loc Cert.InprojIdeal.main_arg1) = m ((c.tc : Thread Cert.InprojIdeal.nD Cert.InprojIdeal.τ).loc Cert.InprojIdeal.main_arg1)
      ∧ r.2.mem ((c.tc : Thread Cert.InprojIdeal.nD Cert.InprojIdeal.τ).loc Cert.InprojIdeal.main_arg2) = m ((c.tc : Thread Cert.InprojIdeal.nD Cert.InprojIdeal.τ).loc Cert.InprojIdeal.main_arg2)
      ∧ r.2.mem ((c.tc : Thread Cert.InprojIdeal.nD Cert.InprojIdeal.τ).loc Cert.InprojIdeal.main_arg3) = m ((c.tc : Thread Cert.InprojIdeal.nD Cert.InprojIdeal.τ).loc Cert.InprojIdeal.main_arg3)
      ∧ r.2.mem ((c.tc : Thread Cert.InprojIdeal.nD Cert.InprojIdeal.τ).loc Cert.InprojIdeal.main_arg4) = m ((c.tc : Thread Cert.InprojIdeal.nD Cert.InprojIdeal.τ).loc Cert.InprojIdeal.main_arg4))
      ∧ r.2.sem = fun _ => 0)

def quiescent_InprojRefIdeal [hInprojRefIdeal : Cert.InprojRefIdeal.Facts] : Prop :=
  ∀ (m : (ℓ : Loc Cert.InprojRefIdeal.nD Cert.InprojRefIdeal.τ Cert.InprojRefIdeal.sig) → Buf (Elt Ideal) ℓ) (g : Dev Cert.InprojRefIdeal.nD → PrngReg), Pre_InprojRefIdeal m →
    θ_run (Cert.InprojRefIdeal.defs (F := Ideal)) (onTc (τ := Cert.InprojRefIdeal.τ) (Cert.InprojRefIdeal.main (F := Ideal))) ⟨m, fun _ => 0, g⟩ (fun r => (∀ c : Dev Cert.InprojRefIdeal.nD,
      r.2.mem ((c.tc : Thread Cert.InprojRefIdeal.nD Cert.InprojRefIdeal.τ).loc Cert.InprojRefIdeal.main_arg0) = m ((c.tc : Thread Cert.InprojRefIdeal.nD Cert.InprojRefIdeal.τ).loc Cert.InprojRefIdeal.main_arg0)
      ∧ r.2.mem ((c.tc : Thread Cert.InprojRefIdeal.nD Cert.InprojRefIdeal.τ).loc Cert.InprojRefIdeal.main_arg1) = m ((c.tc : Thread Cert.InprojRefIdeal.nD Cert.InprojRefIdeal.τ).loc Cert.InprojRefIdeal.main_arg1)
      ∧ r.2.mem ((c.tc : Thread Cert.InprojRefIdeal.nD Cert.InprojRefIdeal.τ).loc Cert.InprojRefIdeal.main_arg2) = m ((c.tc : Thread Cert.InprojRefIdeal.nD Cert.InprojRefIdeal.τ).loc Cert.InprojRefIdeal.main_arg2)
      ∧ r.2.mem ((c.tc : Thread Cert.InprojRefIdeal.nD Cert.InprojRefIdeal.τ).loc Cert.InprojRefIdeal.main_arg3) = m ((c.tc : Thread Cert.InprojRefIdeal.nD Cert.InprojRefIdeal.τ).loc Cert.InprojRefIdeal.main_arg3)
      ∧ r.2.mem ((c.tc : Thread Cert.InprojRefIdeal.nD Cert.InprojRefIdeal.τ).loc Cert.InprojRefIdeal.main_arg4) = m ((c.tc : Thread Cert.InprojRefIdeal.nD Cert.InprojRefIdeal.τ).loc Cert.InprojRefIdeal.main_arg4))
      ∧ r.2.sem = fun _ => 0)

def quiescent_Mixout [hMixout : Cert.Mixout.Facts] : Prop :=
  ∀ (m : (ℓ : Loc Cert.Mixout.nD Cert.Mixout.τ Cert.Mixout.sig) → Buf (Elt Bits) ℓ) (g : Dev Cert.Mixout.nD → PrngReg), Pre_Mixout m →
    θ_run (Cert.Mixout.defs (F := Bits)) (onTc (τ := Cert.Mixout.τ) (Cert.Mixout.main (F := Bits))) ⟨m, fun _ => 0, g⟩ (fun r => (∀ c : Dev Cert.Mixout.nD,
      r.2.mem ((c.tc : Thread Cert.Mixout.nD Cert.Mixout.τ).loc Cert.Mixout.main_arg0) = m ((c.tc : Thread Cert.Mixout.nD Cert.Mixout.τ).loc Cert.Mixout.main_arg0)
      ∧ r.2.mem ((c.tc : Thread Cert.Mixout.nD Cert.Mixout.τ).loc Cert.Mixout.main_arg1) = m ((c.tc : Thread Cert.Mixout.nD Cert.Mixout.τ).loc Cert.Mixout.main_arg1)
      ∧ r.2.mem ((c.tc : Thread Cert.Mixout.nD Cert.Mixout.τ).loc Cert.Mixout.main_arg2) = m ((c.tc : Thread Cert.Mixout.nD Cert.Mixout.τ).loc Cert.Mixout.main_arg2)
      ∧ r.2.mem ((c.tc : Thread Cert.Mixout.nD Cert.Mixout.τ).loc Cert.Mixout.main_arg3) = m ((c.tc : Thread Cert.Mixout.nD Cert.Mixout.τ).loc Cert.Mixout.main_arg3)
      ∧ r.2.mem ((c.tc : Thread Cert.Mixout.nD Cert.Mixout.τ).loc Cert.Mixout.main_arg4) = m ((c.tc : Thread Cert.Mixout.nD Cert.Mixout.τ).loc Cert.Mixout.main_arg4)
      ∧ r.2.mem ((c.tc : Thread Cert.Mixout.nD Cert.Mixout.τ).loc Cert.Mixout.main_arg5) = m ((c.tc : Thread Cert.Mixout.nD Cert.Mixout.τ).loc Cert.Mixout.main_arg5)
      ∧ r.2.mem ((c.tc : Thread Cert.Mixout.nD Cert.Mixout.τ).loc Cert.Mixout.main_arg6) = m ((c.tc : Thread Cert.Mixout.nD Cert.Mixout.τ).loc Cert.Mixout.main_arg6)
      ∧ r.2.mem ((c.tc : Thread Cert.Mixout.nD Cert.Mixout.τ).loc Cert.Mixout.main_arg7) = m ((c.tc : Thread Cert.Mixout.nD Cert.Mixout.τ).loc Cert.Mixout.main_arg7)
      ∧ r.2.mem ((c.tc : Thread Cert.Mixout.nD Cert.Mixout.τ).loc Cert.Mixout.main_arg8) = m ((c.tc : Thread Cert.Mixout.nD Cert.Mixout.τ).loc Cert.Mixout.main_arg8)
      ∧ r.2.mem ((c.tc : Thread Cert.Mixout.nD Cert.Mixout.τ).loc Cert.Mixout.main_arg9) = m ((c.tc : Thread Cert.Mixout.nD Cert.Mixout.τ).loc Cert.Mixout.main_arg9))
      ∧ r.2.sem = fun _ => 0)

def quiescent_MixoutIdeal [hMixoutIdeal : Cert.MixoutIdeal.Facts] : Prop :=
  ∀ (m : (ℓ : Loc Cert.MixoutIdeal.nD Cert.MixoutIdeal.τ Cert.MixoutIdeal.sig) → Buf (Elt Ideal) ℓ) (g : Dev Cert.MixoutIdeal.nD → PrngReg), Pre_MixoutIdeal m →
    θ_run (Cert.MixoutIdeal.defs (F := Ideal)) (onTc (τ := Cert.MixoutIdeal.τ) (Cert.MixoutIdeal.main (F := Ideal))) ⟨m, fun _ => 0, g⟩ (fun r => (∀ c : Dev Cert.MixoutIdeal.nD,
      r.2.mem ((c.tc : Thread Cert.MixoutIdeal.nD Cert.MixoutIdeal.τ).loc Cert.MixoutIdeal.main_arg0) = m ((c.tc : Thread Cert.MixoutIdeal.nD Cert.MixoutIdeal.τ).loc Cert.MixoutIdeal.main_arg0)
      ∧ r.2.mem ((c.tc : Thread Cert.MixoutIdeal.nD Cert.MixoutIdeal.τ).loc Cert.MixoutIdeal.main_arg1) = m ((c.tc : Thread Cert.MixoutIdeal.nD Cert.MixoutIdeal.τ).loc Cert.MixoutIdeal.main_arg1)
      ∧ r.2.mem ((c.tc : Thread Cert.MixoutIdeal.nD Cert.MixoutIdeal.τ).loc Cert.MixoutIdeal.main_arg2) = m ((c.tc : Thread Cert.MixoutIdeal.nD Cert.MixoutIdeal.τ).loc Cert.MixoutIdeal.main_arg2)
      ∧ r.2.mem ((c.tc : Thread Cert.MixoutIdeal.nD Cert.MixoutIdeal.τ).loc Cert.MixoutIdeal.main_arg3) = m ((c.tc : Thread Cert.MixoutIdeal.nD Cert.MixoutIdeal.τ).loc Cert.MixoutIdeal.main_arg3)
      ∧ r.2.mem ((c.tc : Thread Cert.MixoutIdeal.nD Cert.MixoutIdeal.τ).loc Cert.MixoutIdeal.main_arg4) = m ((c.tc : Thread Cert.MixoutIdeal.nD Cert.MixoutIdeal.τ).loc Cert.MixoutIdeal.main_arg4)
      ∧ r.2.mem ((c.tc : Thread Cert.MixoutIdeal.nD Cert.MixoutIdeal.τ).loc Cert.MixoutIdeal.main_arg5) = m ((c.tc : Thread Cert.MixoutIdeal.nD Cert.MixoutIdeal.τ).loc Cert.MixoutIdeal.main_arg5)
      ∧ r.2.mem ((c.tc : Thread Cert.MixoutIdeal.nD Cert.MixoutIdeal.τ).loc Cert.MixoutIdeal.main_arg6) = m ((c.tc : Thread Cert.MixoutIdeal.nD Cert.MixoutIdeal.τ).loc Cert.MixoutIdeal.main_arg6)
      ∧ r.2.mem ((c.tc : Thread Cert.MixoutIdeal.nD Cert.MixoutIdeal.τ).loc Cert.MixoutIdeal.main_arg7) = m ((c.tc : Thread Cert.MixoutIdeal.nD Cert.MixoutIdeal.τ).loc Cert.MixoutIdeal.main_arg7)
      ∧ r.2.mem ((c.tc : Thread Cert.MixoutIdeal.nD Cert.MixoutIdeal.τ).loc Cert.MixoutIdeal.main_arg8) = m ((c.tc : Thread Cert.MixoutIdeal.nD Cert.MixoutIdeal.τ).loc Cert.MixoutIdeal.main_arg8)
      ∧ r.2.mem ((c.tc : Thread Cert.MixoutIdeal.nD Cert.MixoutIdeal.τ).loc Cert.MixoutIdeal.main_arg9) = m ((c.tc : Thread Cert.MixoutIdeal.nD Cert.MixoutIdeal.τ).loc Cert.MixoutIdeal.main_arg9))
      ∧ r.2.sem = fun _ => 0)

def quiescent_MixoutRefIdeal [hMixoutRefIdeal : Cert.MixoutRefIdeal.Facts] : Prop :=
  ∀ (m : (ℓ : Loc Cert.MixoutRefIdeal.nD Cert.MixoutRefIdeal.τ Cert.MixoutRefIdeal.sig) → Buf (Elt Ideal) ℓ) (g : Dev Cert.MixoutRefIdeal.nD → PrngReg), Pre_MixoutRefIdeal m →
    θ_run (Cert.MixoutRefIdeal.defs (F := Ideal)) (onTc (τ := Cert.MixoutRefIdeal.τ) (Cert.MixoutRefIdeal.main (F := Ideal))) ⟨m, fun _ => 0, g⟩ (fun r => (∀ c : Dev Cert.MixoutRefIdeal.nD,
      r.2.mem ((c.tc : Thread Cert.MixoutRefIdeal.nD Cert.MixoutRefIdeal.τ).loc Cert.MixoutRefIdeal.main_arg0) = m ((c.tc : Thread Cert.MixoutRefIdeal.nD Cert.MixoutRefIdeal.τ).loc Cert.MixoutRefIdeal.main_arg0)
      ∧ r.2.mem ((c.tc : Thread Cert.MixoutRefIdeal.nD Cert.MixoutRefIdeal.τ).loc Cert.MixoutRefIdeal.main_arg1) = m ((c.tc : Thread Cert.MixoutRefIdeal.nD Cert.MixoutRefIdeal.τ).loc Cert.MixoutRefIdeal.main_arg1)
      ∧ r.2.mem ((c.tc : Thread Cert.MixoutRefIdeal.nD Cert.MixoutRefIdeal.τ).loc Cert.MixoutRefIdeal.main_arg2) = m ((c.tc : Thread Cert.MixoutRefIdeal.nD Cert.MixoutRefIdeal.τ).loc Cert.MixoutRefIdeal.main_arg2)
      ∧ r.2.mem ((c.tc : Thread Cert.MixoutRefIdeal.nD Cert.MixoutRefIdeal.τ).loc Cert.MixoutRefIdeal.main_arg3) = m ((c.tc : Thread Cert.MixoutRefIdeal.nD Cert.MixoutRefIdeal.τ).loc Cert.MixoutRefIdeal.main_arg3)
      ∧ r.2.mem ((c.tc : Thread Cert.MixoutRefIdeal.nD Cert.MixoutRefIdeal.τ).loc Cert.MixoutRefIdeal.main_arg4) = m ((c.tc : Thread Cert.MixoutRefIdeal.nD Cert.MixoutRefIdeal.τ).loc Cert.MixoutRefIdeal.main_arg4)
      ∧ r.2.mem ((c.tc : Thread Cert.MixoutRefIdeal.nD Cert.MixoutRefIdeal.τ).loc Cert.MixoutRefIdeal.main_arg5) = m ((c.tc : Thread Cert.MixoutRefIdeal.nD Cert.MixoutRefIdeal.τ).loc Cert.MixoutRefIdeal.main_arg5)
      ∧ r.2.mem ((c.tc : Thread Cert.MixoutRefIdeal.nD Cert.MixoutRefIdeal.τ).loc Cert.MixoutRefIdeal.main_arg6) = m ((c.tc : Thread Cert.MixoutRefIdeal.nD Cert.MixoutRefIdeal.τ).loc Cert.MixoutRefIdeal.main_arg6)
      ∧ r.2.mem ((c.tc : Thread Cert.MixoutRefIdeal.nD Cert.MixoutRefIdeal.τ).loc Cert.MixoutRefIdeal.main_arg7) = m ((c.tc : Thread Cert.MixoutRefIdeal.nD Cert.MixoutRefIdeal.τ).loc Cert.MixoutRefIdeal.main_arg7)
      ∧ r.2.mem ((c.tc : Thread Cert.MixoutRefIdeal.nD Cert.MixoutRefIdeal.τ).loc Cert.MixoutRefIdeal.main_arg8) = m ((c.tc : Thread Cert.MixoutRefIdeal.nD Cert.MixoutRefIdeal.τ).loc Cert.MixoutRefIdeal.main_arg8)
      ∧ r.2.mem ((c.tc : Thread Cert.MixoutRefIdeal.nD Cert.MixoutRefIdeal.τ).loc Cert.MixoutRefIdeal.main_arg9) = m ((c.tc : Thread Cert.MixoutRefIdeal.nD Cert.MixoutRefIdeal.τ).loc Cert.MixoutRefIdeal.main_arg9))
      ∧ r.2.sem = fun _ => 0)

def quiescent_FfnSample [hFfnSample : Cert.FfnSample.Facts] : Prop :=
  ∀ (m : (ℓ : Loc Cert.FfnSample.nD Cert.FfnSample.τ Cert.FfnSample.sig) → Buf (Elt Bits) ℓ) (g : Dev Cert.FfnSample.nD → PrngReg), Pre_FfnSample m →
    θ_run (Cert.FfnSample.defs (F := Bits)) (onTc (τ := Cert.FfnSample.τ) (Cert.FfnSample.main (F := Bits))) ⟨m, fun _ => 0, g⟩ (fun r => (∀ c : Dev Cert.FfnSample.nD,
      r.2.mem ((c.tc : Thread Cert.FfnSample.nD Cert.FfnSample.τ).loc Cert.FfnSample.main_arg0) = m ((c.tc : Thread Cert.FfnSample.nD Cert.FfnSample.τ).loc Cert.FfnSample.main_arg0)
      ∧ r.2.mem ((c.tc : Thread Cert.FfnSample.nD Cert.FfnSample.τ).loc Cert.FfnSample.main_arg1) = m ((c.tc : Thread Cert.FfnSample.nD Cert.FfnSample.τ).loc Cert.FfnSample.main_arg1)
      ∧ r.2.mem ((c.tc : Thread Cert.FfnSample.nD Cert.FfnSample.τ).loc Cert.FfnSample.main_arg2) = m ((c.tc : Thread Cert.FfnSample.nD Cert.FfnSample.τ).loc Cert.FfnSample.main_arg2)
      ∧ r.2.mem ((c.tc : Thread Cert.FfnSample.nD Cert.FfnSample.τ).loc Cert.FfnSample.main_arg3) = m ((c.tc : Thread Cert.FfnSample.nD Cert.FfnSample.τ).loc Cert.FfnSample.main_arg3)
      ∧ r.2.mem ((c.tc : Thread Cert.FfnSample.nD Cert.FfnSample.τ).loc Cert.FfnSample.main_arg4) = m ((c.tc : Thread Cert.FfnSample.nD Cert.FfnSample.τ).loc Cert.FfnSample.main_arg4)
      ∧ r.2.mem ((c.tc : Thread Cert.FfnSample.nD Cert.FfnSample.τ).loc Cert.FfnSample.main_arg5) = m ((c.tc : Thread Cert.FfnSample.nD Cert.FfnSample.τ).loc Cert.FfnSample.main_arg5)
      ∧ r.2.mem ((c.tc : Thread Cert.FfnSample.nD Cert.FfnSample.τ).loc Cert.FfnSample.main_arg6) = m ((c.tc : Thread Cert.FfnSample.nD Cert.FfnSample.τ).loc Cert.FfnSample.main_arg6))
      ∧ r.2.sem = fun _ => 0)

def quiescent_FfnSampleIdeal [hFfnSampleIdeal : Cert.FfnSampleIdeal.Facts] : Prop :=
  ∀ (m : (ℓ : Loc Cert.FfnSampleIdeal.nD Cert.FfnSampleIdeal.τ Cert.FfnSampleIdeal.sig) → Buf (Elt Ideal) ℓ) (g : Dev Cert.FfnSampleIdeal.nD → PrngReg), Pre_FfnSampleIdeal m →
    θ_run (Cert.FfnSampleIdeal.defs (F := Ideal)) (onTc (τ := Cert.FfnSampleIdeal.τ) (Cert.FfnSampleIdeal.main (F := Ideal))) ⟨m, fun _ => 0, g⟩ (fun r => (∀ c : Dev Cert.FfnSampleIdeal.nD,
      r.2.mem ((c.tc : Thread Cert.FfnSampleIdeal.nD Cert.FfnSampleIdeal.τ).loc Cert.FfnSampleIdeal.main_arg0) = m ((c.tc : Thread Cert.FfnSampleIdeal.nD Cert.FfnSampleIdeal.τ).loc Cert.FfnSampleIdeal.main_arg0)
      ∧ r.2.mem ((c.tc : Thread Cert.FfnSampleIdeal.nD Cert.FfnSampleIdeal.τ).loc Cert.FfnSampleIdeal.main_arg1) = m ((c.tc : Thread Cert.FfnSampleIdeal.nD Cert.FfnSampleIdeal.τ).loc Cert.FfnSampleIdeal.main_arg1)
      ∧ r.2.mem ((c.tc : Thread Cert.FfnSampleIdeal.nD Cert.FfnSampleIdeal.τ).loc Cert.FfnSampleIdeal.main_arg2) = m ((c.tc : Thread Cert.FfnSampleIdeal.nD Cert.FfnSampleIdeal.τ).loc Cert.FfnSampleIdeal.main_arg2)
      ∧ r.2.mem ((c.tc : Thread Cert.FfnSampleIdeal.nD Cert.FfnSampleIdeal.τ).loc Cert.FfnSampleIdeal.main_arg3) = m ((c.tc : Thread Cert.FfnSampleIdeal.nD Cert.FfnSampleIdeal.τ).loc Cert.FfnSampleIdeal.main_arg3)
      ∧ r.2.mem ((c.tc : Thread Cert.FfnSampleIdeal.nD Cert.FfnSampleIdeal.τ).loc Cert.FfnSampleIdeal.main_arg4) = m ((c.tc : Thread Cert.FfnSampleIdeal.nD Cert.FfnSampleIdeal.τ).loc Cert.FfnSampleIdeal.main_arg4)
      ∧ r.2.mem ((c.tc : Thread Cert.FfnSampleIdeal.nD Cert.FfnSampleIdeal.τ).loc Cert.FfnSampleIdeal.main_arg5) = m ((c.tc : Thread Cert.FfnSampleIdeal.nD Cert.FfnSampleIdeal.τ).loc Cert.FfnSampleIdeal.main_arg5)
      ∧ r.2.mem ((c.tc : Thread Cert.FfnSampleIdeal.nD Cert.FfnSampleIdeal.τ).loc Cert.FfnSampleIdeal.main_arg6) = m ((c.tc : Thread Cert.FfnSampleIdeal.nD Cert.FfnSampleIdeal.τ).loc Cert.FfnSampleIdeal.main_arg6))
      ∧ r.2.sem = fun _ => 0)

def quiescent_FfnSampleRefIdeal [hFfnSampleRefIdeal : Cert.FfnSampleRefIdeal.Facts] : Prop :=
  ∀ (m : (ℓ : Loc Cert.FfnSampleRefIdeal.nD Cert.FfnSampleRefIdeal.τ Cert.FfnSampleRefIdeal.sig) → Buf (Elt Ideal) ℓ) (g : Dev Cert.FfnSampleRefIdeal.nD → PrngReg), Pre_FfnSampleRefIdeal m →
    θ_run (Cert.FfnSampleRefIdeal.defs (F := Ideal)) (onTc (τ := Cert.FfnSampleRefIdeal.τ) (Cert.FfnSampleRefIdeal.main (F := Ideal))) ⟨m, fun _ => 0, g⟩ (fun r => (∀ c : Dev Cert.FfnSampleRefIdeal.nD,
      r.2.mem ((c.tc : Thread Cert.FfnSampleRefIdeal.nD Cert.FfnSampleRefIdeal.τ).loc Cert.FfnSampleRefIdeal.main_arg0) = m ((c.tc : Thread Cert.FfnSampleRefIdeal.nD Cert.FfnSampleRefIdeal.τ).loc Cert.FfnSampleRefIdeal.main_arg0)
      ∧ r.2.mem ((c.tc : Thread Cert.FfnSampleRefIdeal.nD Cert.FfnSampleRefIdeal.τ).loc Cert.FfnSampleRefIdeal.main_arg1) = m ((c.tc : Thread Cert.FfnSampleRefIdeal.nD Cert.FfnSampleRefIdeal.τ).loc Cert.FfnSampleRefIdeal.main_arg1)
      ∧ r.2.mem ((c.tc : Thread Cert.FfnSampleRefIdeal.nD Cert.FfnSampleRefIdeal.τ).loc Cert.FfnSampleRefIdeal.main_arg2) = m ((c.tc : Thread Cert.FfnSampleRefIdeal.nD Cert.FfnSampleRefIdeal.τ).loc Cert.FfnSampleRefIdeal.main_arg2)
      ∧ r.2.mem ((c.tc : Thread Cert.FfnSampleRefIdeal.nD Cert.FfnSampleRefIdeal.τ).loc Cert.FfnSampleRefIdeal.main_arg3) = m ((c.tc : Thread Cert.FfnSampleRefIdeal.nD Cert.FfnSampleRefIdeal.τ).loc Cert.FfnSampleRefIdeal.main_arg3)
      ∧ r.2.mem ((c.tc : Thread Cert.FfnSampleRefIdeal.nD Cert.FfnSampleRefIdeal.τ).loc Cert.FfnSampleRefIdeal.main_arg4) = m ((c.tc : Thread Cert.FfnSampleRefIdeal.nD Cert.FfnSampleRefIdeal.τ).loc Cert.FfnSampleRefIdeal.main_arg4)
      ∧ r.2.mem ((c.tc : Thread Cert.FfnSampleRefIdeal.nD Cert.FfnSampleRefIdeal.τ).loc Cert.FfnSampleRefIdeal.main_arg5) = m ((c.tc : Thread Cert.FfnSampleRefIdeal.nD Cert.FfnSampleRefIdeal.τ).loc Cert.FfnSampleRefIdeal.main_arg5)
      ∧ r.2.mem ((c.tc : Thread Cert.FfnSampleRefIdeal.nD Cert.FfnSampleRefIdeal.τ).loc Cert.FfnSampleRefIdeal.main_arg6) = m ((c.tc : Thread Cert.FfnSampleRefIdeal.nD Cert.FfnSampleRefIdeal.τ).loc Cert.FfnSampleRefIdeal.main_arg6))
      ∧ r.2.sem = fun _ => 0)

def quiescent_RetSample [hRetSample : Cert.RetSample.Facts] : Prop :=
  ∀ (m : (ℓ : Loc Cert.RetSample.nD Cert.RetSample.τ Cert.RetSample.sig) → Buf (Elt Bits) ℓ) (g : Dev Cert.RetSample.nD → PrngReg), Pre_RetSample m →
    θ_run (Cert.RetSample.defs (F := Bits)) (onTc (τ := Cert.RetSample.τ) (Cert.RetSample.main (F := Bits))) ⟨m, fun _ => 0, g⟩ (fun r => (∀ c : Dev Cert.RetSample.nD,
      r.2.mem ((c.tc : Thread Cert.RetSample.nD Cert.RetSample.τ).loc Cert.RetSample.main_arg0) = m ((c.tc : Thread Cert.RetSample.nD Cert.RetSample.τ).loc Cert.RetSample.main_arg0)
      ∧ r.2.mem ((c.tc : Thread Cert.RetSample.nD Cert.RetSample.τ).loc Cert.RetSample.main_arg1) = m ((c.tc : Thread Cert.RetSample.nD Cert.RetSample.τ).loc Cert.RetSample.main_arg1))
      ∧ r.2.sem = fun _ => 0)

def quiescent_RetSampleIdeal [hRetSampleIdeal : Cert.RetSampleIdeal.Facts] : Prop :=
  ∀ (m : (ℓ : Loc Cert.RetSampleIdeal.nD Cert.RetSampleIdeal.τ Cert.RetSampleIdeal.sig) → Buf (Elt Ideal) ℓ) (g : Dev Cert.RetSampleIdeal.nD → PrngReg), Pre_RetSampleIdeal m →
    θ_run (Cert.RetSampleIdeal.defs (F := Ideal)) (onTc (τ := Cert.RetSampleIdeal.τ) (Cert.RetSampleIdeal.main (F := Ideal))) ⟨m, fun _ => 0, g⟩ (fun r => (∀ c : Dev Cert.RetSampleIdeal.nD,
      r.2.mem ((c.tc : Thread Cert.RetSampleIdeal.nD Cert.RetSampleIdeal.τ).loc Cert.RetSampleIdeal.main_arg0) = m ((c.tc : Thread Cert.RetSampleIdeal.nD Cert.RetSampleIdeal.τ).loc Cert.RetSampleIdeal.main_arg0)
      ∧ r.2.mem ((c.tc : Thread Cert.RetSampleIdeal.nD Cert.RetSampleIdeal.τ).loc Cert.RetSampleIdeal.main_arg1) = m ((c.tc : Thread Cert.RetSampleIdeal.nD Cert.RetSampleIdeal.τ).loc Cert.RetSampleIdeal.main_arg1))
      ∧ r.2.sem = fun _ => 0)

def quiescent_RetSampleRefIdeal [hRetSampleRefIdeal : Cert.RetSampleRefIdeal.Facts] : Prop :=
  ∀ (m : (ℓ : Loc Cert.RetSampleRefIdeal.nD Cert.RetSampleRefIdeal.τ Cert.RetSampleRefIdeal.sig) → Buf (Elt Ideal) ℓ) (g : Dev Cert.RetSampleRefIdeal.nD → PrngReg), Pre_RetSampleRefIdeal m →
    θ_run (Cert.RetSampleRefIdeal.defs (F := Ideal)) (onTc (τ := Cert.RetSampleRefIdeal.τ) (Cert.RetSampleRefIdeal.main (F := Ideal))) ⟨m, fun _ => 0, g⟩ (fun r => (∀ c : Dev Cert.RetSampleRefIdeal.nD,
      r.2.mem ((c.tc : Thread Cert.RetSampleRefIdeal.nD Cert.RetSampleRefIdeal.τ).loc Cert.RetSampleRefIdeal.main_arg0) = m ((c.tc : Thread Cert.RetSampleRefIdeal.nD Cert.RetSampleRefIdeal.τ).loc Cert.RetSampleRefIdeal.main_arg0)
      ∧ r.2.mem ((c.tc : Thread Cert.RetSampleRefIdeal.nD Cert.RetSampleRefIdeal.τ).loc Cert.RetSampleRefIdeal.main_arg1) = m ((c.tc : Thread Cert.RetSampleRefIdeal.nD Cert.RetSampleRefIdeal.τ).loc Cert.RetSampleRefIdeal.main_arg1))
      ∧ r.2.sem = fun _ => 0)

def quiescent_PrepSample [hPrepSample : Cert.PrepSample.Facts] : Prop :=
  ∀ (m : (ℓ : Loc Cert.PrepSample.nD Cert.PrepSample.τ Cert.PrepSample.sig) → Buf (Elt Bits) ℓ) (g : Dev Cert.PrepSample.nD → PrngReg), Pre_PrepSample m →
    θ_run (Cert.PrepSample.defs (F := Bits)) (onTc (τ := Cert.PrepSample.τ) (Cert.PrepSample.main (F := Bits))) ⟨m, fun _ => 0, g⟩ (fun r => (∀ c : Dev Cert.PrepSample.nD,
      r.2.mem ((c.tc : Thread Cert.PrepSample.nD Cert.PrepSample.τ).loc Cert.PrepSample.main_arg0) = m ((c.tc : Thread Cert.PrepSample.nD Cert.PrepSample.τ).loc Cert.PrepSample.main_arg0)
      ∧ r.2.mem ((c.tc : Thread Cert.PrepSample.nD Cert.PrepSample.τ).loc Cert.PrepSample.main_arg1) = m ((c.tc : Thread Cert.PrepSample.nD Cert.PrepSample.τ).loc Cert.PrepSample.main_arg1)
      ∧ r.2.mem ((c.tc : Thread Cert.PrepSample.nD Cert.PrepSample.τ).loc Cert.PrepSample.main_arg2) = m ((c.tc : Thread Cert.PrepSample.nD Cert.PrepSample.τ).loc Cert.PrepSample.main_arg2)
      ∧ r.2.mem ((c.tc : Thread Cert.PrepSample.nD Cert.PrepSample.τ).loc Cert.PrepSample.main_arg3) = m ((c.tc : Thread Cert.PrepSample.nD Cert.PrepSample.τ).loc Cert.PrepSample.main_arg3))
      ∧ r.2.sem = fun _ => 0)

def quiescent_PrepSampleIdeal [hPrepSampleIdeal : Cert.PrepSampleIdeal.Facts] : Prop :=
  ∀ (m : (ℓ : Loc Cert.PrepSampleIdeal.nD Cert.PrepSampleIdeal.τ Cert.PrepSampleIdeal.sig) → Buf (Elt Ideal) ℓ) (g : Dev Cert.PrepSampleIdeal.nD → PrngReg), Pre_PrepSampleIdeal m →
    θ_run (Cert.PrepSampleIdeal.defs (F := Ideal)) (onTc (τ := Cert.PrepSampleIdeal.τ) (Cert.PrepSampleIdeal.main (F := Ideal))) ⟨m, fun _ => 0, g⟩ (fun r => (∀ c : Dev Cert.PrepSampleIdeal.nD,
      r.2.mem ((c.tc : Thread Cert.PrepSampleIdeal.nD Cert.PrepSampleIdeal.τ).loc Cert.PrepSampleIdeal.main_arg0) = m ((c.tc : Thread Cert.PrepSampleIdeal.nD Cert.PrepSampleIdeal.τ).loc Cert.PrepSampleIdeal.main_arg0)
      ∧ r.2.mem ((c.tc : Thread Cert.PrepSampleIdeal.nD Cert.PrepSampleIdeal.τ).loc Cert.PrepSampleIdeal.main_arg1) = m ((c.tc : Thread Cert.PrepSampleIdeal.nD Cert.PrepSampleIdeal.τ).loc Cert.PrepSampleIdeal.main_arg1)
      ∧ r.2.mem ((c.tc : Thread Cert.PrepSampleIdeal.nD Cert.PrepSampleIdeal.τ).loc Cert.PrepSampleIdeal.main_arg2) = m ((c.tc : Thread Cert.PrepSampleIdeal.nD Cert.PrepSampleIdeal.τ).loc Cert.PrepSampleIdeal.main_arg2)
      ∧ r.2.mem ((c.tc : Thread Cert.PrepSampleIdeal.nD Cert.PrepSampleIdeal.τ).loc Cert.PrepSampleIdeal.main_arg3) = m ((c.tc : Thread Cert.PrepSampleIdeal.nD Cert.PrepSampleIdeal.τ).loc Cert.PrepSampleIdeal.main_arg3))
      ∧ r.2.sem = fun _ => 0)

def quiescent_PrepSampleRefIdeal [hPrepSampleRefIdeal : Cert.PrepSampleRefIdeal.Facts] : Prop :=
  ∀ (m : (ℓ : Loc Cert.PrepSampleRefIdeal.nD Cert.PrepSampleRefIdeal.τ Cert.PrepSampleRefIdeal.sig) → Buf (Elt Ideal) ℓ) (g : Dev Cert.PrepSampleRefIdeal.nD → PrngReg), Pre_PrepSampleRefIdeal m →
    θ_run (Cert.PrepSampleRefIdeal.defs (F := Ideal)) (onTc (τ := Cert.PrepSampleRefIdeal.τ) (Cert.PrepSampleRefIdeal.main (F := Ideal))) ⟨m, fun _ => 0, g⟩ (fun r => (∀ c : Dev Cert.PrepSampleRefIdeal.nD,
      r.2.mem ((c.tc : Thread Cert.PrepSampleRefIdeal.nD Cert.PrepSampleRefIdeal.τ).loc Cert.PrepSampleRefIdeal.main_arg0) = m ((c.tc : Thread Cert.PrepSampleRefIdeal.nD Cert.PrepSampleRefIdeal.τ).loc Cert.PrepSampleRefIdeal.main_arg0)
      ∧ r.2.mem ((c.tc : Thread Cert.PrepSampleRefIdeal.nD Cert.PrepSampleRefIdeal.τ).loc Cert.PrepSampleRefIdeal.main_arg1) = m ((c.tc : Thread Cert.PrepSampleRefIdeal.nD Cert.PrepSampleRefIdeal.τ).loc Cert.PrepSampleRefIdeal.main_arg1)
      ∧ r.2.mem ((c.tc : Thread Cert.PrepSampleRefIdeal.nD Cert.PrepSampleRefIdeal.τ).loc Cert.PrepSampleRefIdeal.main_arg2) = m ((c.tc : Thread Cert.PrepSampleRefIdeal.nD Cert.PrepSampleRefIdeal.τ).loc Cert.PrepSampleRefIdeal.main_arg2)
      ∧ r.2.mem ((c.tc : Thread Cert.PrepSampleRefIdeal.nD Cert.PrepSampleRefIdeal.τ).loc Cert.PrepSampleRefIdeal.main_arg3) = m ((c.tc : Thread Cert.PrepSampleRefIdeal.nD Cert.PrepSampleRefIdeal.τ).loc Cert.PrepSampleRefIdeal.main_arg3))
      ∧ r.2.sem = fun _ => 0)

def quiescent_ConvSample [hConvSample : Cert.ConvSample.Facts] : Prop :=
  ∀ (m : (ℓ : Loc Cert.ConvSample.nD Cert.ConvSample.τ Cert.ConvSample.sig) → Buf (Elt Bits) ℓ) (g : Dev Cert.ConvSample.nD → PrngReg), Pre_ConvSample m →
    θ_run (Cert.ConvSample.defs (F := Bits)) (onTc (τ := Cert.ConvSample.τ) (Cert.ConvSample.main (F := Bits))) ⟨m, fun _ => 0, g⟩ (fun r => (∀ c : Dev Cert.ConvSample.nD,
      r.2.mem ((c.tc : Thread Cert.ConvSample.nD Cert.ConvSample.τ).loc Cert.ConvSample.main_arg0) = m ((c.tc : Thread Cert.ConvSample.nD Cert.ConvSample.τ).loc Cert.ConvSample.main_arg0)
      ∧ r.2.mem ((c.tc : Thread Cert.ConvSample.nD Cert.ConvSample.τ).loc Cert.ConvSample.main_arg1) = m ((c.tc : Thread Cert.ConvSample.nD Cert.ConvSample.τ).loc Cert.ConvSample.main_arg1)
      ∧ r.2.mem ((c.tc : Thread Cert.ConvSample.nD Cert.ConvSample.τ).loc Cert.ConvSample.main_arg2) = m ((c.tc : Thread Cert.ConvSample.nD Cert.ConvSample.τ).loc Cert.ConvSample.main_arg2)
      ∧ r.2.mem ((c.tc : Thread Cert.ConvSample.nD Cert.ConvSample.τ).loc Cert.ConvSample.main_arg3) = m ((c.tc : Thread Cert.ConvSample.nD Cert.ConvSample.τ).loc Cert.ConvSample.main_arg3)
      ∧ r.2.mem ((c.tc : Thread Cert.ConvSample.nD Cert.ConvSample.τ).loc Cert.ConvSample.main_arg4) = m ((c.tc : Thread Cert.ConvSample.nD Cert.ConvSample.τ).loc Cert.ConvSample.main_arg4))
      ∧ r.2.sem = fun _ => 0)

def quiescent_ConvSampleIdeal [hConvSampleIdeal : Cert.ConvSampleIdeal.Facts] : Prop :=
  ∀ (m : (ℓ : Loc Cert.ConvSampleIdeal.nD Cert.ConvSampleIdeal.τ Cert.ConvSampleIdeal.sig) → Buf (Elt Ideal) ℓ) (g : Dev Cert.ConvSampleIdeal.nD → PrngReg), Pre_ConvSampleIdeal m →
    θ_run (Cert.ConvSampleIdeal.defs (F := Ideal)) (onTc (τ := Cert.ConvSampleIdeal.τ) (Cert.ConvSampleIdeal.main (F := Ideal))) ⟨m, fun _ => 0, g⟩ (fun r => (∀ c : Dev Cert.ConvSampleIdeal.nD,
      r.2.mem ((c.tc : Thread Cert.ConvSampleIdeal.nD Cert.ConvSampleIdeal.τ).loc Cert.ConvSampleIdeal.main_arg0) = m ((c.tc : Thread Cert.ConvSampleIdeal.nD Cert.ConvSampleIdeal.τ).loc Cert.ConvSampleIdeal.main_arg0)
      ∧ r.2.mem ((c.tc : Thread Cert.ConvSampleIdeal.nD Cert.ConvSampleIdeal.τ).loc Cert.ConvSampleIdeal.main_arg1) = m ((c.tc : Thread Cert.ConvSampleIdeal.nD Cert.ConvSampleIdeal.τ).loc Cert.ConvSampleIdeal.main_arg1)
      ∧ r.2.mem ((c.tc : Thread Cert.ConvSampleIdeal.nD Cert.ConvSampleIdeal.τ).loc Cert.ConvSampleIdeal.main_arg2) = m ((c.tc : Thread Cert.ConvSampleIdeal.nD Cert.ConvSampleIdeal.τ).loc Cert.ConvSampleIdeal.main_arg2)
      ∧ r.2.mem ((c.tc : Thread Cert.ConvSampleIdeal.nD Cert.ConvSampleIdeal.τ).loc Cert.ConvSampleIdeal.main_arg3) = m ((c.tc : Thread Cert.ConvSampleIdeal.nD Cert.ConvSampleIdeal.τ).loc Cert.ConvSampleIdeal.main_arg3)
      ∧ r.2.mem ((c.tc : Thread Cert.ConvSampleIdeal.nD Cert.ConvSampleIdeal.τ).loc Cert.ConvSampleIdeal.main_arg4) = m ((c.tc : Thread Cert.ConvSampleIdeal.nD Cert.ConvSampleIdeal.τ).loc Cert.ConvSampleIdeal.main_arg4))
      ∧ r.2.sem = fun _ => 0)

def quiescent_ConvSampleRefIdeal [hConvSampleRefIdeal : Cert.ConvSampleRefIdeal.Facts] : Prop :=
  ∀ (m : (ℓ : Loc Cert.ConvSampleRefIdeal.nD Cert.ConvSampleRefIdeal.τ Cert.ConvSampleRefIdeal.sig) → Buf (Elt Ideal) ℓ) (g : Dev Cert.ConvSampleRefIdeal.nD → PrngReg), Pre_ConvSampleRefIdeal m →
    θ_run (Cert.ConvSampleRefIdeal.defs (F := Ideal)) (onTc (τ := Cert.ConvSampleRefIdeal.τ) (Cert.ConvSampleRefIdeal.main (F := Ideal))) ⟨m, fun _ => 0, g⟩ (fun r => (∀ c : Dev Cert.ConvSampleRefIdeal.nD,
      r.2.mem ((c.tc : Thread Cert.ConvSampleRefIdeal.nD Cert.ConvSampleRefIdeal.τ).loc Cert.ConvSampleRefIdeal.main_arg0) = m ((c.tc : Thread Cert.ConvSampleRefIdeal.nD Cert.ConvSampleRefIdeal.τ).loc Cert.ConvSampleRefIdeal.main_arg0)
      ∧ r.2.mem ((c.tc : Thread Cert.ConvSampleRefIdeal.nD Cert.ConvSampleRefIdeal.τ).loc Cert.ConvSampleRefIdeal.main_arg1) = m ((c.tc : Thread Cert.ConvSampleRefIdeal.nD Cert.ConvSampleRefIdeal.τ).loc Cert.ConvSampleRefIdeal.main_arg1)
      ∧ r.2.mem ((c.tc : Thread Cert.ConvSampleRefIdeal.nD Cert.ConvSampleRefIdeal.τ).loc Cert.ConvSampleRefIdeal.main_arg2) = m ((c.tc : Thread Cert.ConvSampleRefIdeal.nD Cert.ConvSampleRefIdeal.τ).loc Cert.ConvSampleRefIdeal.main_arg2)
      ∧ r.2.mem ((c.tc : Thread Cert.ConvSampleRefIdeal.nD Cert.ConvSampleRefIdeal.τ).loc Cert.ConvSampleRefIdeal.main_arg3) = m ((c.tc : Thread Cert.ConvSampleRefIdeal.nD Cert.ConvSampleRefIdeal.τ).loc Cert.ConvSampleRefIdeal.main_arg3)
      ∧ r.2.mem ((c.tc : Thread Cert.ConvSampleRefIdeal.nD Cert.ConvSampleRefIdeal.τ).loc Cert.ConvSampleRefIdeal.main_arg4) = m ((c.tc : Thread Cert.ConvSampleRefIdeal.nD Cert.ConvSampleRefIdeal.τ).loc Cert.ConvSampleRefIdeal.main_arg4))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v41_0)) (v1 : (c : Dev Cert.KernelIdeal.nD) → Buf (Elt Ideal) ((c.tc : Thread Cert.KernelIdeal.nD Cert.KernelIdeal.τ).loc Cert.KernelIdeal.main_v41_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v41_0) = v0 c
          ∧ r.2.mem ((c.tc : Thread Cert.KernelIdeal.nD Cert.KernelIdeal.τ).loc Cert.KernelIdeal.main_v41_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v146) = v0 c
          ∧ r.2.mem ((c.tc : Thread Cert.ReferenceIdeal.nD Cert.ReferenceIdeal.τ).loc Cert.ReferenceIdeal.main_v129_8) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def preserves_Ffn_FfnIdeal : Prop :=
  True

def algebraic_FfnIdeal_FfnRefIdeal [hFfnIdeal : Cert.FfnIdeal.Facts] [hFfnRefIdeal : Cert.FfnRefIdeal.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnRefIdeal.nD Cert.FfnRefIdeal.τ Cert.FfnRefIdeal.sig) → Buf (Elt Ideal) ℓ) (g' : Dev Cert.FfnRefIdeal.nD → PrngReg), Pre_FfnIdeal m →
    (∀ c : Dev Cert.FfnIdeal.nD,
      m' ((c.tc : Thread Cert.FfnRefIdeal.nD Cert.FfnRefIdeal.τ).loc Cert.FfnRefIdeal.main_arg0) = m ((c.tc : Thread Cert.FfnIdeal.nD Cert.FfnIdeal.τ).loc Cert.FfnIdeal.main_arg0)
      ∧ m' ((c.tc : Thread Cert.FfnRefIdeal.nD Cert.FfnRefIdeal.τ).loc Cert.FfnRefIdeal.main_arg1) = m ((c.tc : Thread Cert.FfnIdeal.nD Cert.FfnIdeal.τ).loc Cert.FfnIdeal.main_arg1)
      ∧ m' ((c.tc : Thread Cert.FfnRefIdeal.nD Cert.FfnRefIdeal.τ).loc Cert.FfnRefIdeal.main_arg2) = m ((c.tc : Thread Cert.FfnIdeal.nD Cert.FfnIdeal.τ).loc Cert.FfnIdeal.main_arg2)
      ∧ m' ((c.tc : Thread Cert.FfnRefIdeal.nD Cert.FfnRefIdeal.τ).loc Cert.FfnRefIdeal.main_arg3) = m ((c.tc : Thread Cert.FfnIdeal.nD Cert.FfnIdeal.τ).loc Cert.FfnIdeal.main_arg3)
      ∧ m' ((c.tc : Thread Cert.FfnRefIdeal.nD Cert.FfnRefIdeal.τ).loc Cert.FfnRefIdeal.main_arg4) = m ((c.tc : Thread Cert.FfnIdeal.nD Cert.FfnIdeal.τ).loc Cert.FfnIdeal.main_arg4)
      ∧ m' ((c.tc : Thread Cert.FfnRefIdeal.nD Cert.FfnRefIdeal.τ).loc Cert.FfnRefIdeal.main_arg5) = m ((c.tc : Thread Cert.FfnIdeal.nD Cert.FfnIdeal.τ).loc Cert.FfnIdeal.main_arg5)
      ∧ m' ((c.tc : Thread Cert.FfnRefIdeal.nD Cert.FfnRefIdeal.τ).loc Cert.FfnRefIdeal.main_arg6) = m ((c.tc : Thread Cert.FfnIdeal.nD Cert.FfnIdeal.τ).loc Cert.FfnIdeal.main_arg6)) →
    ∃ (v0 : (c : Dev Cert.FfnIdeal.nD) → Buf (Elt Ideal) ((c.tc : Thread Cert.FfnIdeal.nD Cert.FfnIdeal.τ).loc Cert.FfnIdeal.main_v2)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v2) = v0 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
          ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
          ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5)
          ∧ r.2.mem ((c.tc : Thread Cert.FfnIdeal.nD Cert.FfnIdeal.τ).loc Cert.FfnIdeal.main_arg6) = m ((c.tc : Thread Cert.FfnIdeal.nD Cert.FfnIdeal.τ).loc Cert.FfnIdeal.main_arg6))
      ∧ θ_run (Cert.FfnRefIdeal.defs (F := Ideal)) (onTc (τ := Cert.FfnRefIdeal.τ) (Cert.FfnRefIdeal.main (F := Ideal))) ⟨m', fun _ => 0, g'⟩ (fun r => ∀ c : Dev Cert.FfnRefIdeal.nD,
          r.2.mem ((c.tc : Thread Cert.FfnRefIdeal.nD Cert.FfnRefIdeal.τ).loc Cert.FfnRefIdeal.main_v32) = v0 c
          ∧ r.2.mem ((c.tc : Thread Cert.FfnRefIdeal.nD Cert.FfnRefIdeal.τ).loc Cert.FfnRefIdeal.main_arg0) = m' ((c.tc : Thread Cert.FfnRefIdeal.nD Cert.FfnRefIdeal.τ).loc Cert.FfnRefIdeal.main_arg0)
          ∧ r.2.mem ((c.tc : Thread Cert.FfnRefIdeal.nD Cert.FfnRefIdeal.τ).loc Cert.FfnRefIdeal.main_arg1) = m' ((c.tc : Thread Cert.FfnRefIdeal.nD Cert.FfnRefIdeal.τ).loc Cert.FfnRefIdeal.main_arg1)
          ∧ r.2.mem ((c.tc : Thread Cert.FfnRefIdeal.nD Cert.FfnRefIdeal.τ).loc Cert.FfnRefIdeal.main_arg2) = m' ((c.tc : Thread Cert.FfnRefIdeal.nD Cert.FfnRefIdeal.τ).loc Cert.FfnRefIdeal.main_arg2)
          ∧ r.2.mem ((c.tc : Thread Cert.FfnRefIdeal.nD Cert.FfnRefIdeal.τ).loc Cert.FfnRefIdeal.main_arg3) = m' ((c.tc : Thread Cert.FfnRefIdeal.nD Cert.FfnRefIdeal.τ).loc Cert.FfnRefIdeal.main_arg3)
          ∧ r.2.mem ((c.tc : Thread Cert.FfnRefIdeal.nD Cert.FfnRefIdeal.τ).loc Cert.FfnRefIdeal.main_arg4) = m' ((c.tc : Thread Cert.FfnRefIdeal.nD Cert.FfnRefIdeal.τ).loc Cert.FfnRefIdeal.main_arg4)
          ∧ r.2.mem ((c.tc : Thread Cert.FfnRefIdeal.nD Cert.FfnRefIdeal.τ).loc Cert.FfnRefIdeal.main_arg5) = m' ((c.tc : Thread Cert.FfnRefIdeal.nD Cert.FfnRefIdeal.τ).loc Cert.FfnRefIdeal.main_arg5)
          ∧ r.2.mem ((c.tc : Thread Cert.FfnRefIdeal.nD Cert.FfnRefIdeal.τ).loc Cert.FfnRefIdeal.main_arg6) = m' ((c.tc : Thread Cert.FfnRefIdeal.nD Cert.FfnRefIdeal.τ).loc Cert.FfnRefIdeal.main_arg6))

def preserves_Inproj_InprojIdeal : Prop :=
  True

def algebraic_InprojIdeal_InprojRefIdeal [hInprojIdeal : Cert.InprojIdeal.Facts] [hInprojRefIdeal : Cert.InprojRefIdeal.Facts] : Prop :=
  ∀ (m : (ℓ : Loc Cert.InprojIdeal.nD Cert.InprojIdeal.τ Cert.InprojIdeal.sig) → Buf (Elt Ideal) ℓ) (g : Dev Cert.InprojIdeal.nD → PrngReg)
    (m' : (ℓ : Loc Cert.InprojRefIdeal.nD Cert.InprojRefIdeal.τ Cert.InprojRefIdeal.sig) → Buf (Elt Ideal) ℓ) (g' : Dev Cert.InprojRefIdeal.nD → PrngReg), Pre_InprojIdeal m →
    (∀ c : Dev Cert.InprojIdeal.nD,
      m' ((c.tc : Thread Cert.InprojRefIdeal.nD Cert.InprojRefIdeal.τ).loc Cert.InprojRefIdeal.main_arg0) = m ((c.tc : Thread Cert.InprojIdeal.nD Cert.InprojIdeal.τ).loc Cert.InprojIdeal.main_arg0)
      ∧ m' ((c.tc : Thread Cert.InprojRefIdeal.nD Cert.InprojRefIdeal.τ).loc Cert.InprojRefIdeal.main_arg1) = m ((c.tc : Thread Cert.InprojIdeal.nD Cert.InprojIdeal.τ).loc Cert.InprojIdeal.main_arg1)
      ∧ m' ((c.tc : Thread Cert.InprojRefIdeal.nD Cert.InprojRefIdeal.τ).loc Cert.InprojRefIdeal.main_arg2) = m ((c.tc : Thread Cert.InprojIdeal.nD Cert.InprojIdeal.τ).loc Cert.InprojIdeal.main_arg2)
      ∧ m' ((c.tc : Thread Cert.InprojRefIdeal.nD Cert.InprojRefIdeal.τ).loc Cert.InprojRefIdeal.main_arg3) = m ((c.tc : Thread Cert.InprojIdeal.nD Cert.InprojIdeal.τ).loc Cert.InprojIdeal.main_arg3)
      ∧ m' ((c.tc : Thread Cert.InprojRefIdeal.nD Cert.InprojRefIdeal.τ).loc Cert.InprojRefIdeal.main_arg4) = m ((c.tc : Thread Cert.InprojIdeal.nD Cert.InprojIdeal.τ).loc Cert.InprojIdeal.main_arg4)) →
    ∃ (v0 : (c : Dev Cert.InprojIdeal.nD) → Buf (Elt Ideal) ((c.tc : Thread Cert.InprojIdeal.nD Cert.InprojIdeal.τ).loc Cert.InprojIdeal.main_v7)),
      θ_run (Cert.InprojIdeal.defs (F := Ideal)) (onTc (τ := Cert.InprojIdeal.τ) (Cert.InprojIdeal.main (F := Ideal))) ⟨m, fun _ => 0, g⟩ (fun r => ∀ c : Dev Cert.InprojIdeal.nD,
          r.2.mem ((c.tc : Thread Cert.InprojIdeal.nD Cert.InprojIdeal.τ).loc Cert.InprojIdeal.main_v7) = v0 c
          ∧ r.2.mem ((c.tc : Thread Cert.InprojIdeal.nD Cert.InprojIdeal.τ).loc Cert.InprojIdeal.main_arg0) = m ((c.tc : Thread Cert.InprojIdeal.nD Cert.InprojIdeal.τ).loc Cert.InprojIdeal.main_arg0)
          ∧ r.2.mem ((c.tc : Thread Cert.InprojIdeal.nD Cert.InprojIdeal.τ).loc Cert.InprojIdeal.main_arg1) = m ((c.tc : Thread Cert.InprojIdeal.nD Cert.InprojIdeal.τ).loc Cert.InprojIdeal.main_arg1)
          ∧ r.2.mem ((c.tc : Thread Cert.InprojIdeal.nD Cert.InprojIdeal.τ).loc Cert.InprojIdeal.main_arg2) = m ((c.tc : Thread Cert.InprojIdeal.nD Cert.InprojIdeal.τ).loc Cert.InprojIdeal.main_arg2)
          ∧ r.2.mem ((c.tc : Thread Cert.InprojIdeal.nD Cert.InprojIdeal.τ).loc Cert.InprojIdeal.main_arg3) = m ((c.tc : Thread Cert.InprojIdeal.nD Cert.InprojIdeal.τ).loc Cert.InprojIdeal.main_arg3)
          ∧ r.2.mem ((c.tc : Thread Cert.InprojIdeal.nD Cert.InprojIdeal.τ).loc Cert.InprojIdeal.main_arg4) = m ((c.tc : Thread Cert.InprojIdeal.nD Cert.InprojIdeal.τ).loc Cert.InprojIdeal.main_arg4))
      ∧ θ_run (Cert.InprojRefIdeal.defs (F := Ideal)) (onTc (τ := Cert.InprojRefIdeal.τ) (Cert.InprojRefIdeal.main (F := Ideal))) ⟨m', fun _ => 0, g'⟩ (fun r => ∀ c : Dev Cert.InprojRefIdeal.nD,
          r.2.mem ((c.tc : Thread Cert.InprojRefIdeal.nD Cert.InprojRefIdeal.τ).loc Cert.InprojRefIdeal.main_v28) = v0 c
          ∧ r.2.mem ((c.tc : Thread Cert.InprojRefIdeal.nD Cert.InprojRefIdeal.τ).loc Cert.InprojRefIdeal.main_arg0) = m' ((c.tc : Thread Cert.InprojRefIdeal.nD Cert.InprojRefIdeal.τ).loc Cert.InprojRefIdeal.main_arg0)
          ∧ r.2.mem ((c.tc : Thread Cert.InprojRefIdeal.nD Cert.InprojRefIdeal.τ).loc Cert.InprojRefIdeal.main_arg1) = m' ((c.tc : Thread Cert.InprojRefIdeal.nD Cert.InprojRefIdeal.τ).loc Cert.InprojRefIdeal.main_arg1)
          ∧ r.2.mem ((c.tc : Thread Cert.InprojRefIdeal.nD Cert.InprojRefIdeal.τ).loc Cert.InprojRefIdeal.main_arg2) = m' ((c.tc : Thread Cert.InprojRefIdeal.nD Cert.InprojRefIdeal.τ).loc Cert.InprojRefIdeal.main_arg2)
          ∧ r.2.mem ((c.tc : Thread Cert.InprojRefIdeal.nD Cert.InprojRefIdeal.τ).loc Cert.InprojRefIdeal.main_arg3) = m' ((c.tc : Thread Cert.InprojRefIdeal.nD Cert.InprojRefIdeal.τ).loc Cert.InprojRefIdeal.main_arg3)
          ∧ r.2.mem ((c.tc : Thread Cert.InprojRefIdeal.nD Cert.InprojRefIdeal.τ).loc Cert.InprojRefIdeal.main_arg4) = m' ((c.tc : Thread Cert.InprojRefIdeal.nD Cert.InprojRefIdeal.τ).loc Cert.InprojRefIdeal.main_arg4))

def preserves_Mixout_MixoutIdeal : Prop :=
  True

def algebraic_MixoutIdeal_MixoutRefIdeal [hMixoutIdeal : Cert.MixoutIdeal.Facts] [hMixoutRefIdeal : Cert.MixoutRefIdeal.Facts] : Prop :=
  ∀ (m : (ℓ : Loc Cert.MixoutIdeal.nD Cert.MixoutIdeal.τ Cert.MixoutIdeal.sig) → Buf (Elt Ideal) ℓ) (g : Dev Cert.MixoutIdeal.nD → PrngReg)
    (m' : (ℓ : Loc Cert.MixoutRefIdeal.nD Cert.MixoutRefIdeal.τ Cert.MixoutRefIdeal.sig) → Buf (Elt Ideal) ℓ) (g' : Dev Cert.MixoutRefIdeal.nD → PrngReg), Pre_MixoutIdeal m →
    (∀ c : Dev Cert.MixoutIdeal.nD,
      m' ((c.tc : Thread Cert.MixoutRefIdeal.nD Cert.MixoutRefIdeal.τ).loc Cert.MixoutRefIdeal.main_arg0) = m ((c.tc : Thread Cert.MixoutIdeal.nD Cert.MixoutIdeal.τ).loc Cert.MixoutIdeal.main_arg0)
      ∧ m' ((c.tc : Thread Cert.MixoutRefIdeal.nD Cert.MixoutRefIdeal.τ).loc Cert.MixoutRefIdeal.main_arg1) = m ((c.tc : Thread Cert.MixoutIdeal.nD Cert.MixoutIdeal.τ).loc Cert.MixoutIdeal.main_arg1)
      ∧ m' ((c.tc : Thread Cert.MixoutRefIdeal.nD Cert.MixoutRefIdeal.τ).loc Cert.MixoutRefIdeal.main_arg2) = m ((c.tc : Thread Cert.MixoutIdeal.nD Cert.MixoutIdeal.τ).loc Cert.MixoutIdeal.main_arg2)
      ∧ m' ((c.tc : Thread Cert.MixoutRefIdeal.nD Cert.MixoutRefIdeal.τ).loc Cert.MixoutRefIdeal.main_arg3) = m ((c.tc : Thread Cert.MixoutIdeal.nD Cert.MixoutIdeal.τ).loc Cert.MixoutIdeal.main_arg3)
      ∧ m' ((c.tc : Thread Cert.MixoutRefIdeal.nD Cert.MixoutRefIdeal.τ).loc Cert.MixoutRefIdeal.main_arg4) = m ((c.tc : Thread Cert.MixoutIdeal.nD Cert.MixoutIdeal.τ).loc Cert.MixoutIdeal.main_arg4)
      ∧ m' ((c.tc : Thread Cert.MixoutRefIdeal.nD Cert.MixoutRefIdeal.τ).loc Cert.MixoutRefIdeal.main_arg5) = m ((c.tc : Thread Cert.MixoutIdeal.nD Cert.MixoutIdeal.τ).loc Cert.MixoutIdeal.main_arg5)
      ∧ m' ((c.tc : Thread Cert.MixoutRefIdeal.nD Cert.MixoutRefIdeal.τ).loc Cert.MixoutRefIdeal.main_arg6) = m ((c.tc : Thread Cert.MixoutIdeal.nD Cert.MixoutIdeal.τ).loc Cert.MixoutIdeal.main_arg6)
      ∧ m' ((c.tc : Thread Cert.MixoutRefIdeal.nD Cert.MixoutRefIdeal.τ).loc Cert.MixoutRefIdeal.main_arg7) = m ((c.tc : Thread Cert.MixoutIdeal.nD Cert.MixoutIdeal.τ).loc Cert.MixoutIdeal.main_arg7)
      ∧ m' ((c.tc : Thread Cert.MixoutRefIdeal.nD Cert.MixoutRefIdeal.τ).loc Cert.MixoutRefIdeal.main_arg8) = m ((c.tc : Thread Cert.MixoutIdeal.nD Cert.MixoutIdeal.τ).loc Cert.MixoutIdeal.main_arg8)
      ∧ m' ((c.tc : Thread Cert.MixoutRefIdeal.nD Cert.MixoutRefIdeal.τ).loc Cert.MixoutRefIdeal.main_arg9) = m ((c.tc : Thread Cert.MixoutIdeal.nD Cert.MixoutIdeal.τ).loc Cert.MixoutIdeal.main_arg9)) →
    ∃ (v0 : (c : Dev Cert.MixoutIdeal.nD) → Buf (Elt Ideal) ((c.tc : Thread Cert.MixoutIdeal.nD Cert.MixoutIdeal.τ).loc Cert.MixoutIdeal.main_v4)),
      θ_run (Cert.MixoutIdeal.defs (F := Ideal)) (onTc (τ := Cert.MixoutIdeal.τ) (Cert.MixoutIdeal.main (F := Ideal))) ⟨m, fun _ => 0, g⟩ (fun r => ∀ c : Dev Cert.MixoutIdeal.nD,
          r.2.mem ((c.tc : Thread Cert.MixoutIdeal.nD Cert.MixoutIdeal.τ).loc Cert.MixoutIdeal.main_v4) = v0 c
          ∧ r.2.mem ((c.tc : Thread Cert.MixoutIdeal.nD Cert.MixoutIdeal.τ).loc Cert.MixoutIdeal.main_arg0) = m ((c.tc : Thread Cert.MixoutIdeal.nD Cert.MixoutIdeal.τ).loc Cert.MixoutIdeal.main_arg0)
          ∧ r.2.mem ((c.tc : Thread Cert.MixoutIdeal.nD Cert.MixoutIdeal.τ).loc Cert.MixoutIdeal.main_arg1) = m ((c.tc : Thread Cert.MixoutIdeal.nD Cert.MixoutIdeal.τ).loc Cert.MixoutIdeal.main_arg1)
          ∧ r.2.mem ((c.tc : Thread Cert.MixoutIdeal.nD Cert.MixoutIdeal.τ).loc Cert.MixoutIdeal.main_arg2) = m ((c.tc : Thread Cert.MixoutIdeal.nD Cert.MixoutIdeal.τ).loc Cert.MixoutIdeal.main_arg2)
          ∧ r.2.mem ((c.tc : Thread Cert.MixoutIdeal.nD Cert.MixoutIdeal.τ).loc Cert.MixoutIdeal.main_arg3) = m ((c.tc : Thread Cert.MixoutIdeal.nD Cert.MixoutIdeal.τ).loc Cert.MixoutIdeal.main_arg3)
          ∧ r.2.mem ((c.tc : Thread Cert.MixoutIdeal.nD Cert.MixoutIdeal.τ).loc Cert.MixoutIdeal.main_arg4) = m ((c.tc : Thread Cert.MixoutIdeal.nD Cert.MixoutIdeal.τ).loc Cert.MixoutIdeal.main_arg4)
          ∧ r.2.mem ((c.tc : Thread Cert.MixoutIdeal.nD Cert.MixoutIdeal.τ).loc Cert.MixoutIdeal.main_arg5) = m ((c.tc : Thread Cert.MixoutIdeal.nD Cert.MixoutIdeal.τ).loc Cert.MixoutIdeal.main_arg5)
          ∧ r.2.mem ((c.tc : Thread Cert.MixoutIdeal.nD Cert.MixoutIdeal.τ).loc Cert.MixoutIdeal.main_arg6) = m ((c.tc : Thread Cert.MixoutIdeal.nD Cert.MixoutIdeal.τ).loc Cert.MixoutIdeal.main_arg6)
          ∧ r.2.mem ((c.tc : Thread Cert.MixoutIdeal.nD Cert.MixoutIdeal.τ).loc Cert.MixoutIdeal.main_arg7) = m ((c.tc : Thread Cert.MixoutIdeal.nD Cert.MixoutIdeal.τ).loc Cert.MixoutIdeal.main_arg7)
          ∧ r.2.mem ((c.tc : Thread Cert.MixoutIdeal.nD Cert.MixoutIdeal.τ).loc Cert.MixoutIdeal.main_arg8) = m ((c.tc : Thread Cert.MixoutIdeal.nD Cert.MixoutIdeal.τ).loc Cert.MixoutIdeal.main_arg8)
          ∧ r.2.mem ((c.tc : Thread Cert.MixoutIdeal.nD Cert.MixoutIdeal.τ).loc Cert.MixoutIdeal.main_arg9) = m ((c.tc : Thread Cert.MixoutIdeal.nD Cert.MixoutIdeal.τ).loc Cert.MixoutIdeal.main_arg9))
      ∧ θ_run (Cert.MixoutRefIdeal.defs (F := Ideal)) (onTc (τ := Cert.MixoutRefIdeal.τ) (Cert.MixoutRefIdeal.main (F := Ideal))) ⟨m', fun _ => 0, g'⟩ (fun r => ∀ c : Dev Cert.MixoutRefIdeal.nD,
          r.2.mem ((c.tc : Thread Cert.MixoutRefIdeal.nD Cert.MixoutRefIdeal.τ).loc Cert.MixoutRefIdeal.main_v33) = v0 c
          ∧ r.2.mem ((c.tc : Thread Cert.MixoutRefIdeal.nD Cert.MixoutRefIdeal.τ).loc Cert.MixoutRefIdeal.main_arg0) = m' ((c.tc : Thread Cert.MixoutRefIdeal.nD Cert.MixoutRefIdeal.τ).loc Cert.MixoutRefIdeal.main_arg0)
          ∧ r.2.mem ((c.tc : Thread Cert.MixoutRefIdeal.nD Cert.MixoutRefIdeal.τ).loc Cert.MixoutRefIdeal.main_arg1) = m' ((c.tc : Thread Cert.MixoutRefIdeal.nD Cert.MixoutRefIdeal.τ).loc Cert.MixoutRefIdeal.main_arg1)
          ∧ r.2.mem ((c.tc : Thread Cert.MixoutRefIdeal.nD Cert.MixoutRefIdeal.τ).loc Cert.MixoutRefIdeal.main_arg2) = m' ((c.tc : Thread Cert.MixoutRefIdeal.nD Cert.MixoutRefIdeal.τ).loc Cert.MixoutRefIdeal.main_arg2)
          ∧ r.2.mem ((c.tc : Thread Cert.MixoutRefIdeal.nD Cert.MixoutRefIdeal.τ).loc Cert.MixoutRefIdeal.main_arg3) = m' ((c.tc : Thread Cert.MixoutRefIdeal.nD Cert.MixoutRefIdeal.τ).loc Cert.MixoutRefIdeal.main_arg3)
          ∧ r.2.mem ((c.tc : Thread Cert.MixoutRefIdeal.nD Cert.MixoutRefIdeal.τ).loc Cert.MixoutRefIdeal.main_arg4) = m' ((c.tc : Thread Cert.MixoutRefIdeal.nD Cert.MixoutRefIdeal.τ).loc Cert.MixoutRefIdeal.main_arg4)
          ∧ r.2.mem ((c.tc : Thread Cert.MixoutRefIdeal.nD Cert.MixoutRefIdeal.τ).loc Cert.MixoutRefIdeal.main_arg5) = m' ((c.tc : Thread Cert.MixoutRefIdeal.nD Cert.MixoutRefIdeal.τ).loc Cert.MixoutRefIdeal.main_arg5)
          ∧ r.2.mem ((c.tc : Thread Cert.MixoutRefIdeal.nD Cert.MixoutRefIdeal.τ).loc Cert.MixoutRefIdeal.main_arg6) = m' ((c.tc : Thread Cert.MixoutRefIdeal.nD Cert.MixoutRefIdeal.τ).loc Cert.MixoutRefIdeal.main_arg6)
          ∧ r.2.mem ((c.tc : Thread Cert.MixoutRefIdeal.nD Cert.MixoutRefIdeal.τ).loc Cert.MixoutRefIdeal.main_arg7) = m' ((c.tc : Thread Cert.MixoutRefIdeal.nD Cert.MixoutRefIdeal.τ).loc Cert.MixoutRefIdeal.main_arg7)
          ∧ r.2.mem ((c.tc : Thread Cert.MixoutRefIdeal.nD Cert.MixoutRefIdeal.τ).loc Cert.MixoutRefIdeal.main_arg8) = m' ((c.tc : Thread Cert.MixoutRefIdeal.nD Cert.MixoutRefIdeal.τ).loc Cert.MixoutRefIdeal.main_arg8)
          ∧ r.2.mem ((c.tc : Thread Cert.MixoutRefIdeal.nD Cert.MixoutRefIdeal.τ).loc Cert.MixoutRefIdeal.main_arg9) = m' ((c.tc : Thread Cert.MixoutRefIdeal.nD Cert.MixoutRefIdeal.τ).loc Cert.MixoutRefIdeal.main_arg9))

def preserves_FfnSample_FfnSampleIdeal : Prop :=
  True

def algebraic_FfnSampleIdeal_FfnSampleRefIdeal [hFfnSampleIdeal : Cert.FfnSampleIdeal.Facts] [hFfnSampleRefIdeal : Cert.FfnSampleRefIdeal.Facts] : Prop :=
  ∀ (m : (ℓ : Loc Cert.FfnSampleIdeal.nD Cert.FfnSampleIdeal.τ Cert.FfnSampleIdeal.sig) → Buf (Elt Ideal) ℓ) (g : Dev Cert.FfnSampleIdeal.nD → PrngReg)
    (m' : (ℓ : Loc Cert.FfnSampleRefIdeal.nD Cert.FfnSampleRefIdeal.τ Cert.FfnSampleRefIdeal.sig) → Buf (Elt Ideal) ℓ) (g' : Dev Cert.FfnSampleRefIdeal.nD → PrngReg), Pre_FfnSampleIdeal m →
    (∀ c : Dev Cert.FfnSampleIdeal.nD,
      m' ((c.tc : Thread Cert.FfnSampleRefIdeal.nD Cert.FfnSampleRefIdeal.τ).loc Cert.FfnSampleRefIdeal.main_arg0) = m ((c.tc : Thread Cert.FfnSampleIdeal.nD Cert.FfnSampleIdeal.τ).loc Cert.FfnSampleIdeal.main_arg0)
      ∧ m' ((c.tc : Thread Cert.FfnSampleRefIdeal.nD Cert.FfnSampleRefIdeal.τ).loc Cert.FfnSampleRefIdeal.main_arg1) = m ((c.tc : Thread Cert.FfnSampleIdeal.nD Cert.FfnSampleIdeal.τ).loc Cert.FfnSampleIdeal.main_arg1)
      ∧ m' ((c.tc : Thread Cert.FfnSampleRefIdeal.nD Cert.FfnSampleRefIdeal.τ).loc Cert.FfnSampleRefIdeal.main_arg2) = m ((c.tc : Thread Cert.FfnSampleIdeal.nD Cert.FfnSampleIdeal.τ).loc Cert.FfnSampleIdeal.main_arg2)
      ∧ m' ((c.tc : Thread Cert.FfnSampleRefIdeal.nD Cert.FfnSampleRefIdeal.τ).loc Cert.FfnSampleRefIdeal.main_arg3) = m ((c.tc : Thread Cert.FfnSampleIdeal.nD Cert.FfnSampleIdeal.τ).loc Cert.FfnSampleIdeal.main_arg3)
      ∧ m' ((c.tc : Thread Cert.FfnSampleRefIdeal.nD Cert.FfnSampleRefIdeal.τ).loc Cert.FfnSampleRefIdeal.main_arg4) = m ((c.tc : Thread Cert.FfnSampleIdeal.nD Cert.FfnSampleIdeal.τ).loc Cert.FfnSampleIdeal.main_arg4)
      ∧ m' ((c.tc : Thread Cert.FfnSampleRefIdeal.nD Cert.FfnSampleRefIdeal.τ).loc Cert.FfnSampleRefIdeal.main_arg5) = m ((c.tc : Thread Cert.FfnSampleIdeal.nD Cert.FfnSampleIdeal.τ).loc Cert.FfnSampleIdeal.main_arg5)
      ∧ m' ((c.tc : Thread Cert.FfnSampleRefIdeal.nD Cert.FfnSampleRefIdeal.τ).loc Cert.FfnSampleRefIdeal.main_arg6) = m ((c.tc : Thread Cert.FfnSampleIdeal.nD Cert.FfnSampleIdeal.τ).loc Cert.FfnSampleIdeal.main_arg6)) →
    ∃ (v0 : (c : Dev Cert.FfnSampleIdeal.nD) → Buf (Elt Ideal) ((c.tc : Thread Cert.FfnSampleIdeal.nD Cert.FfnSampleIdeal.τ).loc Cert.FfnSampleIdeal.main_v2)),
      θ_run (Cert.FfnSampleIdeal.defs (F := Ideal)) (onTc (τ := Cert.FfnSampleIdeal.τ) (Cert.FfnSampleIdeal.main (F := Ideal))) ⟨m, fun _ => 0, g⟩ (fun r => ∀ c : Dev Cert.FfnSampleIdeal.nD,
          r.2.mem ((c.tc : Thread Cert.FfnSampleIdeal.nD Cert.FfnSampleIdeal.τ).loc Cert.FfnSampleIdeal.main_v2) = v0 c
          ∧ r.2.mem ((c.tc : Thread Cert.FfnSampleIdeal.nD Cert.FfnSampleIdeal.τ).loc Cert.FfnSampleIdeal.main_arg0) = m ((c.tc : Thread Cert.FfnSampleIdeal.nD Cert.FfnSampleIdeal.τ).loc Cert.FfnSampleIdeal.main_arg0)
          ∧ r.2.mem ((c.tc : Thread Cert.FfnSampleIdeal.nD Cert.FfnSampleIdeal.τ).loc Cert.FfnSampleIdeal.main_arg1) = m ((c.tc : Thread Cert.FfnSampleIdeal.nD Cert.FfnSampleIdeal.τ).loc Cert.FfnSampleIdeal.main_arg1)
          ∧ r.2.mem ((c.tc : Thread Cert.FfnSampleIdeal.nD Cert.FfnSampleIdeal.τ).loc Cert.FfnSampleIdeal.main_arg2) = m ((c.tc : Thread Cert.FfnSampleIdeal.nD Cert.FfnSampleIdeal.τ).loc Cert.FfnSampleIdeal.main_arg2)
          ∧ r.2.mem ((c.tc : Thread Cert.FfnSampleIdeal.nD Cert.FfnSampleIdeal.τ).loc Cert.FfnSampleIdeal.main_arg3) = m ((c.tc : Thread Cert.FfnSampleIdeal.nD Cert.FfnSampleIdeal.τ).loc Cert.FfnSampleIdeal.main_arg3)
          ∧ r.2.mem ((c.tc : Thread Cert.FfnSampleIdeal.nD Cert.FfnSampleIdeal.τ).loc Cert.FfnSampleIdeal.main_arg4) = m ((c.tc : Thread Cert.FfnSampleIdeal.nD Cert.FfnSampleIdeal.τ).loc Cert.FfnSampleIdeal.main_arg4)
          ∧ r.2.mem ((c.tc : Thread Cert.FfnSampleIdeal.nD Cert.FfnSampleIdeal.τ).loc Cert.FfnSampleIdeal.main_arg5) = m ((c.tc : Thread Cert.FfnSampleIdeal.nD Cert.FfnSampleIdeal.τ).loc Cert.FfnSampleIdeal.main_arg5)
          ∧ r.2.mem ((c.tc : Thread Cert.FfnSampleIdeal.nD Cert.FfnSampleIdeal.τ).loc Cert.FfnSampleIdeal.main_arg6) = m ((c.tc : Thread Cert.FfnSampleIdeal.nD Cert.FfnSampleIdeal.τ).loc Cert.FfnSampleIdeal.main_arg6))
      ∧ θ_run (Cert.FfnSampleRefIdeal.defs (F := Ideal)) (onTc (τ := Cert.FfnSampleRefIdeal.τ) (Cert.FfnSampleRefIdeal.main (F := Ideal))) ⟨m', fun _ => 0, g'⟩ (fun r => ∀ c : Dev Cert.FfnSampleRefIdeal.nD,
          r.2.mem ((c.tc : Thread Cert.FfnSampleRefIdeal.nD Cert.FfnSampleRefIdeal.τ).loc Cert.FfnSampleRefIdeal.main_v32) = v0 c
          ∧ r.2.mem ((c.tc : Thread Cert.FfnSampleRefIdeal.nD Cert.FfnSampleRefIdeal.τ).loc Cert.FfnSampleRefIdeal.main_arg0) = m' ((c.tc : Thread Cert.FfnSampleRefIdeal.nD Cert.FfnSampleRefIdeal.τ).loc Cert.FfnSampleRefIdeal.main_arg0)
          ∧ r.2.mem ((c.tc : Thread Cert.FfnSampleRefIdeal.nD Cert.FfnSampleRefIdeal.τ).loc Cert.FfnSampleRefIdeal.main_arg1) = m' ((c.tc : Thread Cert.FfnSampleRefIdeal.nD Cert.FfnSampleRefIdeal.τ).loc Cert.FfnSampleRefIdeal.main_arg1)
          ∧ r.2.mem ((c.tc : Thread Cert.FfnSampleRefIdeal.nD Cert.FfnSampleRefIdeal.τ).loc Cert.FfnSampleRefIdeal.main_arg2) = m' ((c.tc : Thread Cert.FfnSampleRefIdeal.nD Cert.FfnSampleRefIdeal.τ).loc Cert.FfnSampleRefIdeal.main_arg2)
          ∧ r.2.mem ((c.tc : Thread Cert.FfnSampleRefIdeal.nD Cert.FfnSampleRefIdeal.τ).loc Cert.FfnSampleRefIdeal.main_arg3) = m' ((c.tc : Thread Cert.FfnSampleRefIdeal.nD Cert.FfnSampleRefIdeal.τ).loc Cert.FfnSampleRefIdeal.main_arg3)
          ∧ r.2.mem ((c.tc : Thread Cert.FfnSampleRefIdeal.nD Cert.FfnSampleRefIdeal.τ).loc Cert.FfnSampleRefIdeal.main_arg4) = m' ((c.tc : Thread Cert.FfnSampleRefIdeal.nD Cert.FfnSampleRefIdeal.τ).loc Cert.FfnSampleRefIdeal.main_arg4)
          ∧ r.2.mem ((c.tc : Thread Cert.FfnSampleRefIdeal.nD Cert.FfnSampleRefIdeal.τ).loc Cert.FfnSampleRefIdeal.main_arg5) = m' ((c.tc : Thread Cert.FfnSampleRefIdeal.nD Cert.FfnSampleRefIdeal.τ).loc Cert.FfnSampleRefIdeal.main_arg5)
          ∧ r.2.mem ((c.tc : Thread Cert.FfnSampleRefIdeal.nD Cert.FfnSampleRefIdeal.τ).loc Cert.FfnSampleRefIdeal.main_arg6) = m' ((c.tc : Thread Cert.FfnSampleRefIdeal.nD Cert.FfnSampleRefIdeal.τ).loc Cert.FfnSampleRefIdeal.main_arg6))

def preserves_RetSample_RetSampleIdeal : Prop :=
  True

def algebraic_RetSampleIdeal_RetSampleRefIdeal [hRetSampleIdeal : Cert.RetSampleIdeal.Facts] [hRetSampleRefIdeal : Cert.RetSampleRefIdeal.Facts] : Prop :=
  ∀ (m : (ℓ : Loc Cert.RetSampleIdeal.nD Cert.RetSampleIdeal.τ Cert.RetSampleIdeal.sig) → Buf (Elt Ideal) ℓ) (g : Dev Cert.RetSampleIdeal.nD → PrngReg)
    (m' : (ℓ : Loc Cert.RetSampleRefIdeal.nD Cert.RetSampleRefIdeal.τ Cert.RetSampleRefIdeal.sig) → Buf (Elt Ideal) ℓ) (g' : Dev Cert.RetSampleRefIdeal.nD → PrngReg), Pre_RetSampleIdeal m →
    (∀ c : Dev Cert.RetSampleIdeal.nD,
      m' ((c.tc : Thread Cert.RetSampleRefIdeal.nD Cert.RetSampleRefIdeal.τ).loc Cert.RetSampleRefIdeal.main_arg0) = m ((c.tc : Thread Cert.RetSampleIdeal.nD Cert.RetSampleIdeal.τ).loc Cert.RetSampleIdeal.main_arg0)
      ∧ m' ((c.tc : Thread Cert.RetSampleRefIdeal.nD Cert.RetSampleRefIdeal.τ).loc Cert.RetSampleRefIdeal.main_arg1) = m ((c.tc : Thread Cert.RetSampleIdeal.nD Cert.RetSampleIdeal.τ).loc Cert.RetSampleIdeal.main_arg1)) →
    ∃ (v0 : (c : Dev Cert.RetSampleIdeal.nD) → Buf (Elt Ideal) ((c.tc : Thread Cert.RetSampleIdeal.nD Cert.RetSampleIdeal.τ).loc Cert.RetSampleIdeal.main_v43_0)) (v1 : (c : Dev Cert.RetSampleIdeal.nD) → Buf (Elt Ideal) ((c.tc : Thread Cert.RetSampleIdeal.nD Cert.RetSampleIdeal.τ).loc Cert.RetSampleIdeal.main_v43_1)),
      θ_run (Cert.RetSampleIdeal.defs (F := Ideal)) (onTc (τ := Cert.RetSampleIdeal.τ) (Cert.RetSampleIdeal.main (F := Ideal))) ⟨m, fun _ => 0, g⟩ (fun r => ∀ c : Dev Cert.RetSampleIdeal.nD,
          r.2.mem ((c.tc : Thread Cert.RetSampleIdeal.nD Cert.RetSampleIdeal.τ).loc Cert.RetSampleIdeal.main_v43_0) = v0 c
          ∧ r.2.mem ((c.tc : Thread Cert.RetSampleIdeal.nD Cert.RetSampleIdeal.τ).loc Cert.RetSampleIdeal.main_v43_1) = v1 c
          ∧ r.2.mem ((c.tc : Thread Cert.RetSampleIdeal.nD Cert.RetSampleIdeal.τ).loc Cert.RetSampleIdeal.main_arg0) = m ((c.tc : Thread Cert.RetSampleIdeal.nD Cert.RetSampleIdeal.τ).loc Cert.RetSampleIdeal.main_arg0)
          ∧ r.2.mem ((c.tc : Thread Cert.RetSampleIdeal.nD Cert.RetSampleIdeal.τ).loc Cert.RetSampleIdeal.main_arg1) = m ((c.tc : Thread Cert.RetSampleIdeal.nD Cert.RetSampleIdeal.τ).loc Cert.RetSampleIdeal.main_arg1))
      ∧ θ_run (Cert.RetSampleRefIdeal.defs (F := Ideal)) (onTc (τ := Cert.RetSampleRefIdeal.τ) (Cert.RetSampleRefIdeal.main (F := Ideal))) ⟨m', fun _ => 0, g'⟩ (fun r => ∀ c : Dev Cert.RetSampleRefIdeal.nD,
          r.2.mem ((c.tc : Thread Cert.RetSampleRefIdeal.nD Cert.RetSampleRefIdeal.τ).loc Cert.RetSampleRefIdeal.main_v117) = v0 c
          ∧ r.2.mem ((c.tc : Thread Cert.RetSampleRefIdeal.nD Cert.RetSampleRefIdeal.τ).loc Cert.RetSampleRefIdeal.main_v101) = v1 c
          ∧ r.2.mem ((c.tc : Thread Cert.RetSampleRefIdeal.nD Cert.RetSampleRefIdeal.τ).loc Cert.RetSampleRefIdeal.main_arg0) = m' ((c.tc : Thread Cert.RetSampleRefIdeal.nD Cert.RetSampleRefIdeal.τ).loc Cert.RetSampleRefIdeal.main_arg0)
          ∧ r.2.mem ((c.tc : Thread Cert.RetSampleRefIdeal.nD Cert.RetSampleRefIdeal.τ).loc Cert.RetSampleRefIdeal.main_arg1) = m' ((c.tc : Thread Cert.RetSampleRefIdeal.nD Cert.RetSampleRefIdeal.τ).loc Cert.RetSampleRefIdeal.main_arg1))

def preserves_PrepSample_PrepSampleIdeal : Prop :=
  True

def algebraic_PrepSampleIdeal_PrepSampleRefIdeal [hPrepSampleIdeal : Cert.PrepSampleIdeal.Facts] [hPrepSampleRefIdeal : Cert.PrepSampleRefIdeal.Facts] : Prop :=
  ∀ (m : (ℓ : Loc Cert.PrepSampleIdeal.nD Cert.PrepSampleIdeal.τ Cert.PrepSampleIdeal.sig) → Buf (Elt Ideal) ℓ) (g : Dev Cert.PrepSampleIdeal.nD → PrngReg)
    (m' : (ℓ : Loc Cert.PrepSampleRefIdeal.nD Cert.PrepSampleRefIdeal.τ Cert.PrepSampleRefIdeal.sig) → Buf (Elt Ideal) ℓ) (g' : Dev Cert.PrepSampleRefIdeal.nD → PrngReg), Pre_PrepSampleIdeal m →
    (∀ c : Dev Cert.PrepSampleIdeal.nD,
      m' ((c.tc : Thread Cert.PrepSampleRefIdeal.nD Cert.PrepSampleRefIdeal.τ).loc Cert.PrepSampleRefIdeal.main_arg0) = m ((c.tc : Thread Cert.PrepSampleIdeal.nD Cert.PrepSampleIdeal.τ).loc Cert.PrepSampleIdeal.main_arg0)
      ∧ m' ((c.tc : Thread Cert.PrepSampleRefIdeal.nD Cert.PrepSampleRefIdeal.τ).loc Cert.PrepSampleRefIdeal.main_arg1) = m ((c.tc : Thread Cert.PrepSampleIdeal.nD Cert.PrepSampleIdeal.τ).loc Cert.PrepSampleIdeal.main_arg1)
      ∧ m' ((c.tc : Thread Cert.PrepSampleRefIdeal.nD Cert.PrepSampleRefIdeal.τ).loc Cert.PrepSampleRefIdeal.main_arg2) = m ((c.tc : Thread Cert.PrepSampleIdeal.nD Cert.PrepSampleIdeal.τ).loc Cert.PrepSampleIdeal.main_arg2)
      ∧ m' ((c.tc : Thread Cert.PrepSampleRefIdeal.nD Cert.PrepSampleRefIdeal.τ).loc Cert.PrepSampleRefIdeal.main_arg3) = m ((c.tc : Thread Cert.PrepSampleIdeal.nD Cert.PrepSampleIdeal.τ).loc Cert.PrepSampleIdeal.main_arg3)) →
    ∃ (v0 : (c : Dev Cert.PrepSampleIdeal.nD) → Buf (Elt Ideal) ((c.tc : Thread Cert.PrepSampleIdeal.nD Cert.PrepSampleIdeal.τ).loc Cert.PrepSampleIdeal.main_v64_1)) (v1 : (c : Dev Cert.PrepSampleIdeal.nD) → Buf (Elt Ideal) ((c.tc : Thread Cert.PrepSampleIdeal.nD Cert.PrepSampleIdeal.τ).loc Cert.PrepSampleIdeal.main_v64_3)) (v2 : (c : Dev Cert.PrepSampleIdeal.nD) → Buf (Elt Ideal) ((c.tc : Thread Cert.PrepSampleIdeal.nD Cert.PrepSampleIdeal.τ).loc Cert.PrepSampleIdeal.main_v64_6)),
      θ_run (Cert.PrepSampleIdeal.defs (F := Ideal)) (onTc (τ := Cert.PrepSampleIdeal.τ) (Cert.PrepSampleIdeal.main (F := Ideal))) ⟨m, fun _ => 0, g⟩ (fun r => ∀ c : Dev Cert.PrepSampleIdeal.nD,
          r.2.mem ((c.tc : Thread Cert.PrepSampleIdeal.nD Cert.PrepSampleIdeal.τ).loc Cert.PrepSampleIdeal.main_v64_1) = v0 c
          ∧ r.2.mem ((c.tc : Thread Cert.PrepSampleIdeal.nD Cert.PrepSampleIdeal.τ).loc Cert.PrepSampleIdeal.main_v64_3) = v1 c
          ∧ r.2.mem ((c.tc : Thread Cert.PrepSampleIdeal.nD Cert.PrepSampleIdeal.τ).loc Cert.PrepSampleIdeal.main_v64_6) = v2 c
          ∧ r.2.mem ((c.tc : Thread Cert.PrepSampleIdeal.nD Cert.PrepSampleIdeal.τ).loc Cert.PrepSampleIdeal.main_arg0) = m ((c.tc : Thread Cert.PrepSampleIdeal.nD Cert.PrepSampleIdeal.τ).loc Cert.PrepSampleIdeal.main_arg0)
          ∧ r.2.mem ((c.tc : Thread Cert.PrepSampleIdeal.nD Cert.PrepSampleIdeal.τ).loc Cert.PrepSampleIdeal.main_arg1) = m ((c.tc : Thread Cert.PrepSampleIdeal.nD Cert.PrepSampleIdeal.τ).loc Cert.PrepSampleIdeal.main_arg1)
          ∧ r.2.mem ((c.tc : Thread Cert.PrepSampleIdeal.nD Cert.PrepSampleIdeal.τ).loc Cert.PrepSampleIdeal.main_arg2) = m ((c.tc : Thread Cert.PrepSampleIdeal.nD Cert.PrepSampleIdeal.τ).loc Cert.PrepSampleIdeal.main_arg2)
          ∧ r.2.mem ((c.tc : Thread Cert.PrepSampleIdeal.nD Cert.PrepSampleIdeal.τ).loc Cert.PrepSampleIdeal.main_arg3) = m ((c.tc : Thread Cert.PrepSampleIdeal.nD Cert.PrepSampleIdeal.τ).loc Cert.PrepSampleIdeal.main_arg3))
      ∧ θ_run (Cert.PrepSampleRefIdeal.defs (F := Ideal)) (onTc (τ := Cert.PrepSampleRefIdeal.τ) (Cert.PrepSampleRefIdeal.main (F := Ideal))) ⟨m', fun _ => 0, g'⟩ (fun r => ∀ c : Dev Cert.PrepSampleRefIdeal.nD,
          r.2.mem ((c.tc : Thread Cert.PrepSampleRefIdeal.nD Cert.PrepSampleRefIdeal.τ).loc Cert.PrepSampleRefIdeal.main_v104) = v0 c
          ∧ r.2.mem ((c.tc : Thread Cert.PrepSampleRefIdeal.nD Cert.PrepSampleRefIdeal.τ).loc Cert.PrepSampleRefIdeal.main_v105) = v1 c
          ∧ r.2.mem ((c.tc : Thread Cert.PrepSampleRefIdeal.nD Cert.PrepSampleRefIdeal.τ).loc Cert.PrepSampleRefIdeal.main_v106) = v2 c
          ∧ r.2.mem ((c.tc : Thread Cert.PrepSampleRefIdeal.nD Cert.PrepSampleRefIdeal.τ).loc Cert.PrepSampleRefIdeal.main_arg0) = m' ((c.tc : Thread Cert.PrepSampleRefIdeal.nD Cert.PrepSampleRefIdeal.τ).loc Cert.PrepSampleRefIdeal.main_arg0)
          ∧ r.2.mem ((c.tc : Thread Cert.PrepSampleRefIdeal.nD Cert.PrepSampleRefIdeal.τ).loc Cert.PrepSampleRefIdeal.main_arg1) = m' ((c.tc : Thread Cert.PrepSampleRefIdeal.nD Cert.PrepSampleRefIdeal.τ).loc Cert.PrepSampleRefIdeal.main_arg1)
          ∧ r.2.mem ((c.tc : Thread Cert.PrepSampleRefIdeal.nD Cert.PrepSampleRefIdeal.τ).loc Cert.PrepSampleRefIdeal.main_arg2) = m' ((c.tc : Thread Cert.PrepSampleRefIdeal.nD Cert.PrepSampleRefIdeal.τ).loc Cert.PrepSampleRefIdeal.main_arg2)
          ∧ r.2.mem ((c.tc : Thread Cert.PrepSampleRefIdeal.nD Cert.PrepSampleRefIdeal.τ).loc Cert.PrepSampleRefIdeal.main_arg3) = m' ((c.tc : Thread Cert.PrepSampleRefIdeal.nD Cert.PrepSampleRefIdeal.τ).loc Cert.PrepSampleRefIdeal.main_arg3))

def preserves_ConvSample_ConvSampleIdeal : Prop :=
  True

def algebraic_ConvSampleIdeal_ConvSampleRefIdeal [hConvSampleIdeal : Cert.ConvSampleIdeal.Facts] [hConvSampleRefIdeal : Cert.ConvSampleRefIdeal.Facts] : Prop :=
  ∀ (m : (ℓ : Loc Cert.ConvSampleIdeal.nD Cert.ConvSampleIdeal.τ Cert.ConvSampleIdeal.sig) → Buf (Elt Ideal) ℓ) (g : Dev Cert.ConvSampleIdeal.nD → PrngReg)
    (m' : (ℓ : Loc Cert.ConvSampleRefIdeal.nD Cert.ConvSampleRefIdeal.τ Cert.ConvSampleRefIdeal.sig) → Buf (Elt Ideal) ℓ) (g' : Dev Cert.ConvSampleRefIdeal.nD → PrngReg), Pre_ConvSampleIdeal m →
    (∀ c : Dev Cert.ConvSampleIdeal.nD,
      m' ((c.tc : Thread Cert.ConvSampleRefIdeal.nD Cert.ConvSampleRefIdeal.τ).loc Cert.ConvSampleRefIdeal.main_arg0) = m ((c.tc : Thread Cert.ConvSampleIdeal.nD Cert.ConvSampleIdeal.τ).loc Cert.ConvSampleIdeal.main_arg0)
      ∧ m' ((c.tc : Thread Cert.ConvSampleRefIdeal.nD Cert.ConvSampleRefIdeal.τ).loc Cert.ConvSampleRefIdeal.main_arg1) = m ((c.tc : Thread Cert.ConvSampleIdeal.nD Cert.ConvSampleIdeal.τ).loc Cert.ConvSampleIdeal.main_arg1)
      ∧ m' ((c.tc : Thread Cert.ConvSampleRefIdeal.nD Cert.ConvSampleRefIdeal.τ).loc Cert.ConvSampleRefIdeal.main_arg2) = m ((c.tc : Thread Cert.ConvSampleIdeal.nD Cert.ConvSampleIdeal.τ).loc Cert.ConvSampleIdeal.main_arg2)
      ∧ m' ((c.tc : Thread Cert.ConvSampleRefIdeal.nD Cert.ConvSampleRefIdeal.τ).loc Cert.ConvSampleRefIdeal.main_arg3) = m ((c.tc : Thread Cert.ConvSampleIdeal.nD Cert.ConvSampleIdeal.τ).loc Cert.ConvSampleIdeal.main_arg3)
      ∧ m' ((c.tc : Thread Cert.ConvSampleRefIdeal.nD Cert.ConvSampleRefIdeal.τ).loc Cert.ConvSampleRefIdeal.main_arg4) = m ((c.tc : Thread Cert.ConvSampleIdeal.nD Cert.ConvSampleIdeal.τ).loc Cert.ConvSampleIdeal.main_arg4)) →
    ∃ (v0 : (c : Dev Cert.ConvSampleIdeal.nD) → Buf (Elt Ideal) ((c.tc : Thread Cert.ConvSampleIdeal.nD Cert.ConvSampleIdeal.τ).loc Cert.ConvSampleIdeal.main_v2_0)) (v1 : (c : Dev Cert.ConvSampleIdeal.nD) → Buf (Elt Ideal) ((c.tc : Thread Cert.ConvSampleIdeal.nD Cert.ConvSampleIdeal.τ).loc Cert.ConvSampleIdeal.main_v2_1)),
      θ_run (Cert.ConvSampleIdeal.defs (F := Ideal)) (onTc (τ := Cert.ConvSampleIdeal.τ) (Cert.ConvSampleIdeal.main (F := Ideal))) ⟨m, fun _ => 0, g⟩ (fun r => ∀ c : Dev Cert.ConvSampleIdeal.nD,
          r.2.mem ((c.tc : Thread Cert.ConvSampleIdeal.nD Cert.ConvSampleIdeal.τ).loc Cert.ConvSampleIdeal.main_v2_0) = v0 c
          ∧ r.2.mem ((c.tc : Thread Cert.ConvSampleIdeal.nD Cert.ConvSampleIdeal.τ).loc Cert.ConvSampleIdeal.main_v2_1) = v1 c
          ∧ r.2.mem ((c.tc : Thread Cert.ConvSampleIdeal.nD Cert.ConvSampleIdeal.τ).loc Cert.ConvSampleIdeal.main_arg0) = m ((c.tc : Thread Cert.ConvSampleIdeal.nD Cert.ConvSampleIdeal.τ).loc Cert.ConvSampleIdeal.main_arg0)
          ∧ r.2.mem ((c.tc : Thread Cert.ConvSampleIdeal.nD Cert.ConvSampleIdeal.τ).loc Cert.ConvSampleIdeal.main_arg1) = m ((c.tc : Thread Cert.ConvSampleIdeal.nD Cert.ConvSampleIdeal.τ).loc Cert.ConvSampleIdeal.main_arg1)
          ∧ r.2.mem ((c.tc : Thread Cert.ConvSampleIdeal.nD Cert.ConvSampleIdeal.τ).loc Cert.ConvSampleIdeal.main_arg2) = m ((c.tc : Thread Cert.ConvSampleIdeal.nD Cert.ConvSampleIdeal.τ).loc Cert.ConvSampleIdeal.main_arg2)
          ∧ r.2.mem ((c.tc : Thread Cert.ConvSampleIdeal.nD Cert.ConvSampleIdeal.τ).loc Cert.ConvSampleIdeal.main_arg3) = m ((c.tc : Thread Cert.ConvSampleIdeal.nD Cert.ConvSampleIdeal.τ).loc Cert.ConvSampleIdeal.main_arg3)
          ∧ r.2.mem ((c.tc : Thread Cert.ConvSampleIdeal.nD Cert.ConvSampleIdeal.τ).loc Cert.ConvSampleIdeal.main_arg4) = m ((c.tc : Thread Cert.ConvSampleIdeal.nD Cert.ConvSampleIdeal.τ).loc Cert.ConvSampleIdeal.main_arg4))
      ∧ θ_run (Cert.ConvSampleRefIdeal.defs (F := Ideal)) (onTc (τ := Cert.ConvSampleRefIdeal.τ) (Cert.ConvSampleRefIdeal.main (F := Ideal))) ⟨m', fun _ => 0, g'⟩ (fun r => ∀ c : Dev Cert.ConvSampleRefIdeal.nD,
          r.2.mem ((c.tc : Thread Cert.ConvSampleRefIdeal.nD Cert.ConvSampleRefIdeal.τ).loc Cert.ConvSampleRefIdeal.main_v40) = v0 c
          ∧ r.2.mem ((c.tc : Thread Cert.ConvSampleRefIdeal.nD Cert.ConvSampleRefIdeal.τ).loc Cert.ConvSampleRefIdeal.main_v41) = v1 c
          ∧ r.2.mem ((c.tc : Thread Cert.ConvSampleRefIdeal.nD Cert.ConvSampleRefIdeal.τ).loc Cert.ConvSampleRefIdeal.main_arg0) = m' ((c.tc : Thread Cert.ConvSampleRefIdeal.nD Cert.ConvSampleRefIdeal.τ).loc Cert.ConvSampleRefIdeal.main_arg0)
          ∧ r.2.mem ((c.tc : Thread Cert.ConvSampleRefIdeal.nD Cert.ConvSampleRefIdeal.τ).loc Cert.ConvSampleRefIdeal.main_arg1) = m' ((c.tc : Thread Cert.ConvSampleRefIdeal.nD Cert.ConvSampleRefIdeal.τ).loc Cert.ConvSampleRefIdeal.main_arg1)
          ∧ r.2.mem ((c.tc : Thread Cert.ConvSampleRefIdeal.nD Cert.ConvSampleRefIdeal.τ).loc Cert.ConvSampleRefIdeal.main_arg2) = m' ((c.tc : Thread Cert.ConvSampleRefIdeal.nD Cert.ConvSampleRefIdeal.τ).loc Cert.ConvSampleRefIdeal.main_arg2)
          ∧ r.2.mem ((c.tc : Thread Cert.ConvSampleRefIdeal.nD Cert.ConvSampleRefIdeal.τ).loc Cert.ConvSampleRefIdeal.main_arg3) = m' ((c.tc : Thread Cert.ConvSampleRefIdeal.nD Cert.ConvSampleRefIdeal.τ).loc Cert.ConvSampleRefIdeal.main_arg3)
          ∧ r.2.mem ((c.tc : Thread Cert.ConvSampleRefIdeal.nD Cert.ConvSampleRefIdeal.τ).loc Cert.ConvSampleRefIdeal.main_arg4) = m' ((c.tc : Thread Cert.ConvSampleRefIdeal.nD Cert.ConvSampleRefIdeal.τ).loc Cert.ConvSampleRefIdeal.main_arg4))

def Claim : Prop :=
  ∃ (hKernel : Cert.Kernel.Facts) (hKernelIdeal : Cert.KernelIdeal.Facts) (hReferenceIdeal : Cert.ReferenceIdeal.Facts) (hFfn : Cert.Ffn.Facts) (hFfnIdeal : Cert.FfnIdeal.Facts) (hFfnRefIdeal : Cert.FfnRefIdeal.Facts) (hInproj : Cert.Inproj.Facts) (hInprojIdeal : Cert.InprojIdeal.Facts) (hInprojRefIdeal : Cert.InprojRefIdeal.Facts) (hMixout : Cert.Mixout.Facts) (hMixoutIdeal : Cert.MixoutIdeal.Facts) (hMixoutRefIdeal : Cert.MixoutRefIdeal.Facts) (hFfnSample : Cert.FfnSample.Facts) (hFfnSampleIdeal : Cert.FfnSampleIdeal.Facts) (hFfnSampleRefIdeal : Cert.FfnSampleRefIdeal.Facts) (hRetSample : Cert.RetSample.Facts) (hRetSampleIdeal : Cert.RetSampleIdeal.Facts) (hRetSampleRefIdeal : Cert.RetSampleRefIdeal.Facts) (hPrepSample : Cert.PrepSample.Facts) (hPrepSampleIdeal : Cert.PrepSampleIdeal.Facts) (hPrepSampleRefIdeal : Cert.PrepSampleRefIdeal.Facts) (hConvSample : Cert.ConvSample.Facts) (hConvSampleIdeal : Cert.ConvSampleIdeal.Facts) (hConvSampleRefIdeal : Cert.ConvSampleRefIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Ffn (hFfn := hFfn)
    ∧ quiescent_FfnIdeal (hFfnIdeal := hFfnIdeal)
    ∧ quiescent_FfnRefIdeal (hFfnRefIdeal := hFfnRefIdeal)
    ∧ quiescent_Inproj (hInproj := hInproj)
    ∧ quiescent_InprojIdeal (hInprojIdeal := hInprojIdeal)
    ∧ quiescent_InprojRefIdeal (hInprojRefIdeal := hInprojRefIdeal)
    ∧ quiescent_Mixout (hMixout := hMixout)
    ∧ quiescent_MixoutIdeal (hMixoutIdeal := hMixoutIdeal)
    ∧ quiescent_MixoutRefIdeal (hMixoutRefIdeal := hMixoutRefIdeal)
    ∧ quiescent_FfnSample (hFfnSample := hFfnSample)
    ∧ quiescent_FfnSampleIdeal (hFfnSampleIdeal := hFfnSampleIdeal)
    ∧ quiescent_FfnSampleRefIdeal (hFfnSampleRefIdeal := hFfnSampleRefIdeal)
    ∧ quiescent_RetSample (hRetSample := hRetSample)
    ∧ quiescent_RetSampleIdeal (hRetSampleIdeal := hRetSampleIdeal)
    ∧ quiescent_RetSampleRefIdeal (hRetSampleRefIdeal := hRetSampleRefIdeal)
    ∧ quiescent_PrepSample (hPrepSample := hPrepSample)
    ∧ quiescent_PrepSampleIdeal (hPrepSampleIdeal := hPrepSampleIdeal)
    ∧ quiescent_PrepSampleRefIdeal (hPrepSampleRefIdeal := hPrepSampleRefIdeal)
    ∧ quiescent_ConvSample (hConvSample := hConvSample)
    ∧ quiescent_ConvSampleIdeal (hConvSampleIdeal := hConvSampleIdeal)
    ∧ quiescent_ConvSampleRefIdeal (hConvSampleRefIdeal := hConvSampleRefIdeal)
    ∧ preserves_Kernel_KernelIdeal
    ∧ algebraic_KernelIdeal_ReferenceIdeal_pre_finite (hKernelIdeal := hKernelIdeal) (hReferenceIdeal := hReferenceIdeal) (hPre_finite := hPre_finite)
    ∧ preserves_Ffn_FfnIdeal
    ∧ algebraic_FfnIdeal_FfnRefIdeal (hFfnIdeal := hFfnIdeal) (hFfnRefIdeal := hFfnRefIdeal)
    ∧ preserves_Inproj_InprojIdeal
    ∧ algebraic_InprojIdeal_InprojRefIdeal (hInprojIdeal := hInprojIdeal) (hInprojRefIdeal := hInprojRefIdeal)
    ∧ preserves_Mixout_MixoutIdeal
    ∧ algebraic_MixoutIdeal_MixoutRefIdeal (hMixoutIdeal := hMixoutIdeal) (hMixoutRefIdeal := hMixoutRefIdeal)
    ∧ preserves_FfnSample_FfnSampleIdeal
    ∧ algebraic_FfnSampleIdeal_FfnSampleRefIdeal (hFfnSampleIdeal := hFfnSampleIdeal) (hFfnSampleRefIdeal := hFfnSampleRefIdeal)
    ∧ preserves_RetSample_RetSampleIdeal
    ∧ algebraic_RetSampleIdeal_RetSampleRefIdeal (hRetSampleIdeal := hRetSampleIdeal) (hRetSampleRefIdeal := hRetSampleRefIdeal)
    ∧ preserves_PrepSample_PrepSampleIdeal
    ∧ algebraic_PrepSampleIdeal_PrepSampleRefIdeal (hPrepSampleIdeal := hPrepSampleIdeal) (hPrepSampleRefIdeal := hPrepSampleRefIdeal)
    ∧ preserves_ConvSample_ConvSampleIdeal
    ∧ algebraic_ConvSampleIdeal_ConvSampleRefIdeal (hConvSampleIdeal := hConvSampleIdeal) (hConvSampleRefIdeal := hConvSampleRefIdeal)
-- ==== Pre_finite.lean ====
abbrev S2x8192x10880 : Shape := ⟨3, ![2, 8192, 10880]⟩
abbrev S2x8192x2048 : Shape := ⟨3, ![2, 8192, 2048]⟩
abbrev S_ : Shape := ⟨0, ![]⟩

class Facts : Prop where
  slices_S2x8192x10880_S2x8192x2048_0_0_0 : S2x8192x10880.Slices ![0, 0, 0] S2x8192x2048
  bcast_S_S2x8192x2048 : S_.BroadcastsInDim S2x8192x2048 (![] : Fin 0 → Fin S2x8192x2048.rank)

variable [Facts]

def fn {F : FTy → Type} [FloatOps F] (main_arg0 : FVec F S2x8192x10880 .f32) : IVec S2x8192x2048 1 :=
  let main_v0 : FVec F S2x8192x2048 .f32 := (extractStridedSlice S2x8192x2048 ![0, 0, 0] · slices_S2x8192x10880_S2x8192x2048_0_0_0) main_arg0
  let main_v1 : FVec F S2x8192x2048 .f32 := Host.absf main_v0
  let main_cst : FVec F S_ .f32 := constant S_ .f32 0x7F800000#32
  let main_v2 : FVec F S2x8192x2048 .f32 := broadcastInDim S2x8192x2048 ![] bcast_S_S2x8192x2048 main_cst
  let main_v3 : IVec S2x8192x2048 1 := cmpf .olt main_v1 main_v2
  main_v3
-- ==== Kernel.lean ====
abbrev S2x8192x10880 : Shape := ⟨3, ![2, 8192, 10880]⟩
abbrev S128 : Shape := ⟨1, ![128]⟩
abbrev S8192 : Shape := ⟨1, ![8192]⟩
abbrev S64 : Shape := ⟨1, ![64]⟩
abbrev S_ : Shape := ⟨0, ![]⟩
abbrev S8192x1 : Shape := ⟨2, ![8192, 1]⟩
abbrev S1x64 : Shape := ⟨2, ![1, 64]⟩
abbrev S8192x64 : Shape := ⟨2, ![8192, 64]⟩
abbrev S128x1 : Shape := ⟨2, ![128, 1]⟩
abbrev S8192x128 : Shape := ⟨2, ![8192, 128]⟩
abbrev S4 : Shape := ⟨1, ![4]⟩
abbrev S4x1 : Shape := ⟨2, ![4, 1]⟩
abbrev S4x128 : Shape := ⟨2, ![4, 128]⟩
abbrev S2x8192x1024 : Shape := ⟨3, ![2, 8192, 1024]⟩
abbrev S2x4x128x256 : Shape := ⟨4, ![2, 4, 128, 256]⟩
abbrev S2x128x512 : Shape := ⟨3, ![2, 128, 512]⟩
abbrev S2x128x1024 : Shape := ⟨3, ![2, 128, 1024]⟩
abbrev S128x128 : Shape := ⟨2, ![128, 128]⟩
abbrev S8x128x256 : Shape := ⟨3, ![8, 128, 256]⟩
abbrev S128x256 : Shape := ⟨2, ![128, 256]⟩
abbrev S1x128 : Shape := ⟨2, ![1, 128]⟩
abbrev S1x256 : Shape := ⟨2, ![1, 256]⟩
abbrev S1x128x128 : Shape := ⟨3, ![1, 128, 128]⟩
abbrev S1x128x256 : Shape := ⟨3, ![1, 128, 256]⟩
abbrev S1x1x128x256 : Shape := ⟨4, ![1, 1, 128, 256]⟩

abbrev nBuf : Space → Nat
  | .hbm => 70
  | .vmem => 17
  | .smem => 0
  | _ => 0

abbrev bufTy : (tb : Table) → Fin (tcTables nBuf tb) → BufTy
  | .hbm, ⟨0, _⟩ => ⟨S2x8192x10880, .f32⟩
  | .hbm, ⟨1, _⟩ => ⟨S128, .i32⟩
  | .hbm, ⟨2, _⟩ => ⟨S128, .i1⟩
  | .hbm, ⟨3, _⟩ => ⟨S128, .i1⟩
  | .hbm, ⟨4, _⟩ => ⟨S128, .i1⟩
  | .hbm, ⟨5, _⟩ => ⟨S128, .i1⟩
  | .hbm, ⟨6, _⟩ => ⟨S128, .i1⟩
  | .hbm, ⟨7, _⟩ => ⟨S8192, .i32⟩
  | .hbm, ⟨8, _⟩ => ⟨S64, .f32⟩
  | .hbm, ⟨9, _⟩ => ⟨S_, .f32⟩
  | .hbm, ⟨10, _⟩ => ⟨S64, .f32⟩
  | .hbm, ⟨11, _⟩ => ⟨S64, .f32⟩
  | .hbm, ⟨12, _⟩ => ⟨S_, .f32⟩
  | .hbm, ⟨13, _⟩ => ⟨S64, .f32⟩
  | .hbm, ⟨14, _⟩ => ⟨S64, .f32⟩
  | .hbm, ⟨15, _⟩ => ⟨S_, .f32⟩
  | .hbm, ⟨16, _⟩ => ⟨S64, .f32⟩
  | .hbm, ⟨17, _⟩ => ⟨S64, .f32⟩
  | .hbm, ⟨18, _⟩ => ⟨S8192, .f32⟩
  | .hbm, ⟨19, _⟩ => ⟨S8192x1, .f32⟩
  | .hbm, ⟨20, _⟩ => ⟨S1x64, .f32⟩
  | .hbm, ⟨21, _⟩ => ⟨S8192x64, .f32⟩
  | .hbm, ⟨22, _⟩ => ⟨S8192x64, .f32⟩
  | .hbm, ⟨23, _⟩ => ⟨S8192x64, .f32⟩
  | .hbm, ⟨24, _⟩ => ⟨S8192x64, .f32⟩
  | .hbm, ⟨25, _⟩ => ⟨S_, .i32⟩
  | .hbm, ⟨26, _⟩ => ⟨S128, .i32⟩
  | .hbm, ⟨27, _⟩ => ⟨S128, .i32⟩
  | .hbm, ⟨28, _⟩ => ⟨S128, .i32⟩
  | .hbm, ⟨29, _⟩ => ⟨S128x1, .i32⟩
  | .hbm, ⟨30, _⟩ => ⟨S8192x128, .f32⟩
  | .hbm, ⟨31, _⟩ => ⟨S_, .f32⟩
  | .hbm, ⟨32, _⟩ => ⟨S_, .f32⟩
  | .hbm, ⟨33, _⟩ => ⟨S8192x128, .i1⟩
  | .hbm, ⟨34, _⟩ => ⟨S8192x128, .f32⟩
  | .hbm, ⟨35, _⟩ => ⟨S8192x128, .f32⟩
  | .hbm, ⟨36, _⟩ => ⟨S8192x64, .f32⟩
  | .hbm, ⟨37, _⟩ => ⟨S_, .i32⟩
  | .hbm, ⟨38, _⟩ => ⟨S128, .i32⟩
  | .hbm, ⟨39, _⟩ => ⟨S128, .i32⟩
  | .hbm, ⟨40, _⟩ => ⟨S128, .i32⟩
  | .hbm, ⟨41, _⟩ => ⟨S128x1, .i32⟩
  | .hbm, ⟨42, _⟩ => ⟨S8192x128, .f32⟩
  | .hbm, ⟨43, _⟩ => ⟨S8192x128, .f32⟩
  | .hbm, ⟨44, _⟩ => ⟨S_, .f32⟩
  | .hbm, ⟨45, _⟩ => ⟨S_, .f32⟩
  | .hbm, ⟨46, _⟩ => ⟨S8192x128, .i1⟩
  | .hbm, ⟨47, _⟩ => ⟨S8192x128, .f32⟩
  | .hbm, ⟨48, _⟩ => ⟨S8192x128, .f32⟩
  | .hbm, ⟨49, _⟩ => ⟨S_, .f32⟩
  | .hbm, ⟨50, _⟩ => ⟨S_, .f32⟩
  | .hbm, ⟨51, _⟩ => ⟨S8192x128, .i1⟩
  | .hbm, ⟨52, _⟩ => ⟨S8192x128, .f32⟩
  | .hbm, ⟨53, _⟩ => ⟨S8192x128, .f32⟩
  | .hbm, ⟨54, _⟩ => ⟨S4, .f32⟩
  | .hbm, ⟨55, _⟩ => ⟨S_, .f32⟩
  | .hbm, ⟨56, _⟩ => ⟨S4, .f32⟩
  | .hbm, ⟨57, _⟩ => ⟨S4, .f32⟩
  | .hbm, ⟨58, _⟩ => ⟨S_, .f32⟩
  | .hbm, ⟨59, _⟩ => ⟨S4, .f32⟩
  | .hbm, ⟨60, _⟩ => ⟨S4, .f32⟩
  | .hbm, ⟨61, _⟩ => ⟨S_, .f32⟩
  | .hbm, ⟨62, _⟩ => ⟨S4, .f32⟩
  | .hbm, ⟨63, _⟩ => ⟨S4, .f32⟩
  | .hbm, ⟨64, _⟩ => ⟨S4, .f32⟩
  | .hbm, ⟨65, _⟩ => ⟨S4x1, .f32⟩
  | .hbm, ⟨66, _⟩ => ⟨S4x128, .f32⟩
  | .hbm, ⟨67, _⟩ => ⟨S8192x128, .f32⟩
  | .hbm, ⟨68, _⟩ => ⟨S2x8192x1024, .bf16⟩
  | .hbm, ⟨69, _⟩ => ⟨S2x4x128x256, .f32⟩
  | .local _ .vmem, ⟨0, _⟩ => ⟨S2x128x512, .f32⟩
  | .local _ .vmem, ⟨1, _⟩ => ⟨S2x128x512, .f32⟩
  | .local _ .vmem, ⟨2, _⟩ => ⟨S2x128x512, .f32⟩
  | .local _ .vmem, ⟨3, _⟩ => ⟨S2x128x512, .f32⟩
  | .local _ .vmem, ⟨4, _⟩ => ⟨S2x128x1024, .f32⟩
  | .local _ .vmem, ⟨5, _⟩ => ⟨S2x128x1024, .f32⟩
  | .local _ .vmem, ⟨6, _⟩ => ⟨S2x128x1024, .f32⟩
  | .local _ .vmem, ⟨7, _⟩ => ⟨S2x128x1024, .f32⟩
  | .local _ .vmem, ⟨8, _⟩ => ⟨S128x128, .f32⟩
  | .local _ .vmem, ⟨9, _⟩ => ⟨S128x128, .f32⟩
  | .local _ .vmem, ⟨10, _⟩ => ⟨S128x128, .f32⟩
  | .local _ .vmem, ⟨11, _⟩ => ⟨S128x128, .f32⟩
  | .local _ .vmem, ⟨12, _⟩ => ⟨S4x128, .f32⟩
  | .local _ .vmem, ⟨13, _⟩ => ⟨S2x128x1024, .bf16⟩
  | .local _ .vmem, ⟨14, _⟩ => ⟨S2x128x1024, .bf16⟩
  | .local _ .vmem, ⟨15, _⟩ => ⟨S2x4x128x256, .f32⟩
  | .local _ .vmem, ⟨16, _⟩ => ⟨S8x128x256, .f32⟩
  | _, _ => ⟨S2x8192x10880, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_c : Ref sig .tc := ⟨.hbm, 1, rfl⟩
abbrev main_c_0 : Ref sig .tc := ⟨.hbm, 2, rfl⟩
abbrev main_c_1 : Ref sig .tc := ⟨.hbm, 3, rfl⟩
abbrev main_c_2 : Ref sig .tc := ⟨.hbm, 4, rfl⟩
abbrev main_c_3 : Ref sig .tc := ⟨.hbm, 5, rfl⟩
abbrev main_c_4 : Ref sig .tc := ⟨.hbm, 6, rfl⟩
abbrev main_v0 : Ref sig .tc := ⟨.hbm, 7, rfl⟩
abbrev main_v1 : Ref sig .tc := ⟨.hbm, 8, rfl⟩
abbrev main_cst : Ref sig .tc := ⟨.hbm, 9, rfl⟩
abbrev main_v2 : Ref sig .tc := ⟨.hbm, 10, rfl⟩
abbrev main_v3 : Ref sig .tc := ⟨.hbm, 11, rfl⟩
abbrev main_cst_5 : Ref sig .tc := ⟨.hbm, 12, rfl⟩
abbrev main_v4 : Ref sig .tc := ⟨.hbm, 13, rfl⟩
abbrev main_v5 : Ref sig .tc := ⟨.hbm, 14, rfl⟩
abbrev main_cst_6 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_c_7 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst_8 : Ref sig .tc := ⟨.hbm, 31, rfl⟩
abbrev main_call0_v0 : Ref sig .tc := ⟨.hbm, 32, rfl⟩
abbrev main_call0_v1 : Ref sig .tc := ⟨.hbm, 33, rfl⟩
abbrev main_call0_v2 : Ref sig .tc := ⟨.hbm, 34, rfl⟩
abbrev main_v20 : Ref sig .tc := ⟨.hbm, 35, rfl⟩
abbrev main_v21 : Ref sig .tc := ⟨.hbm, 36, rfl⟩
abbrev main_c_9 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_cst_10 : Ref sig .tc := ⟨.hbm, 44, rfl⟩
abbrev main_call1_v0 : Ref sig .tc := ⟨.hbm, 45, rfl⟩
abbrev main_call1_v1 : Ref sig .tc := ⟨.hbm, 46, rfl⟩
abbrev main_call1_v2 : Ref sig .tc := ⟨.hbm, 47, rfl⟩
abbrev main_v28 : Ref sig .tc := ⟨.hbm, 48, rfl⟩
abbrev main_cst_11 : Ref sig .tc := ⟨.hbm, 49, rfl⟩
abbrev main_call2_v0 : Ref sig .tc := ⟨.hbm, 50, rfl⟩
abbrev main_call2_v1 : Ref sig .tc := ⟨.hbm, 51, rfl⟩
abbrev main_call2_v2 : Ref sig .tc := ⟨.hbm, 52, rfl⟩
abbrev main_v29 : Ref sig .tc := ⟨.hbm, 53, rfl⟩
abbrev main_v30 : Ref sig .tc := ⟨.hbm, 54, rfl⟩
abbrev main_cst_12 : Ref sig .tc := ⟨.hbm, 55, rfl⟩
abbrev main_v31 : Ref sig .tc := ⟨.hbm, 56, rfl⟩
abbrev main_v32 : Ref sig .tc := ⟨.hbm, 57, rfl⟩
abbrev main_cst_13 : Ref sig .tc := ⟨.hbm, 58, rfl⟩
abbrev main_v33 : Ref sig .tc := ⟨.hbm, 59, rfl⟩
abbrev main_v34 : Ref sig .tc := ⟨.hbm, 60, rfl⟩
abbrev main_cst_14 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_v41_0 : Ref sig .tc := ⟨.hbm, 68, rfl⟩
abbrev main_v41_1 : Ref sig .tc := ⟨.hbm, 69, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_scratch0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem7_1 : DmaSem sig := 14
abbrev cc0_sem8_0 : DmaSem sig := 15

abbrev nD : Nat := 1
abbrev τ : Topo := Topo.v7x

variable {F : FTy → Type} [FloatOps F]

abbrev grid0 : Pipeline.Grid := ⟨1, ![64], ![false]⟩

def k0_cond2 (i : grid0.Coords) : BitVec 1 :=
  let arg0 : BitVec 32 := BitVec.ofNat 32 (i 0).val
  let c63_i32 : BitVec 32 := 63#32
  let v914 : BitVec 1 := Scalar.cmpi .eq arg0 c63_i32
  let v915 : BitVec 32 := Scalar.extui v914
  let c0_i32_334 : BitVec 32 := 0#32
  let v916 : BitVec 1 := Scalar.cmpi .ne v915 c0_i32_334
  v916

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c1_i32 : BitVec 32 := 1#32
  let c0_i32_0 : BitVec 32 := 0#32
  ![c0_i32.toNat, arg0.toNat, c1_i32.toNat]

def cc0_transform_2 (i : grid0.Coords) : Fin 3 → Nat :=
  let arg0 : BitVec 32 := BitVec.ofNat 32 (i 0).val
  let c0_i32 : BitVec 32 := 0#32
  let c1_i32 : BitVec 32 := 1#32
  let c0_i32_0 : BitVec 32 := 0#32
  ![c0_i32.toNat, arg0.toNat, c1_i32.toNat]

def cc0_transform_3 (i : grid0.Coords) : Fin 3 → Nat :=
  let arg0 : BitVec 32 := BitVec.ofNat 32 (i 0).val
  let c0_i32 : BitVec 32 := 0#32
  let c2_i32 : BitVec 32 := 2#32
  let c0_i32_0 : BitVec 32 := 0#32
  ![c0_i32.toNat, arg0.toNat, c2_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_8 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

abbrev stage0_0 : Fin 2 → Memref sig .tc .vmem S2x128x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2x128x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2x128x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2x128x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S4x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S2x128x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S2x4x128x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== ReferenceIdeal.lean ====
abbrev S2x8192x10880 : Shape := ⟨3, ![2, 8192, 10880]⟩
abbrev S8192 : Shape := ⟨1, ![8192]⟩
abbrev S2x8192x512 : Shape := ⟨3, ![2, 8192, 512]⟩
abbrev S2x8192x1024 : Shape := ⟨3, ![2, 8192, 1024]⟩
abbrev S2x8192x4x128 : Shape := ⟨4, ![2, 8192, 4, 128]⟩
abbrev S64 : Shape := ⟨1, ![64]⟩
abbrev S_ : Shape := ⟨0, ![]⟩
abbrev S8192x1 : Shape := ⟨2, ![8192, 1]⟩
abbrev S1x64 : Shape := ⟨2, ![1, 64]⟩
abbrev S8192x64 : Shape := ⟨2, ![8192, 64]⟩
abbrev S8192x1x64 : Shape := ⟨3, ![8192, 1, 64]⟩
abbrev S2x8192x4x64 : Shape := ⟨4, ![2, 8192, 4, 64]⟩
abbrev S1x8192x1x64 : Shape := ⟨4, ![1, 8192, 1, 64]⟩
abbrev S2x4x128x256 : Shape := ⟨4, ![2, 4, 128, 256]⟩
abbrev S2x8192x4x256 : Shape := ⟨4, ![2, 8192, 4, 256]⟩
abbrev S4 : Shape := ⟨1, ![4]⟩
abbrev S128 : Shape := ⟨1, ![128]⟩
abbrev S128x1 : Shape := ⟨2, ![128, 1]⟩
abbrev S1x128 : Shape := ⟨2, ![1, 128]⟩
abbrev S128x128 : Shape := ⟨2, ![128, 128]⟩
abbrev S1x128x128 : Shape := ⟨3, ![1, 128, 128]⟩
abbrev S4x1x1 : Shape := ⟨3, ![4, 1, 1]⟩
abbrev S4x128x128 : Shape := ⟨3, ![4, 128, 128]⟩
abbrev S4x1 : Shape := ⟨2, ![4, 1]⟩
abbrev S4x128 : Shape := ⟨2, ![4, 128]⟩
abbrev S2x64x128x4x128 : Shape := ⟨5, ![2, 64, 128, 4, 128]⟩
abbrev S64x2x4x128x128 : Shape := ⟨5, ![64, 2, 4, 128, 128]⟩
abbrev S2x64x128x4x256 : Shape := ⟨5, ![2, 64, 128, 4, 256]⟩
abbrev S64x2x4x128x256 : Shape := ⟨5, ![64, 2, 4, 128, 256]⟩
abbrev S1x2x4x128x128 : Shape := ⟨5, ![1, 2, 4, 128, 128]⟩
abbrev S2x4x128x128 : Shape := ⟨4, ![2, 4, 128, 128]⟩
abbrev S1x2x4x128x256 : Shape := ⟨5, ![1, 2, 4, 128, 256]⟩
abbrev S1x4x128x128 : Shape := ⟨4, ![1, 4, 128, 128]⟩
abbrev S1x4x128x1 : Shape := ⟨4, ![1, 4, 128, 1]⟩
abbrev S1x4x1x1 : Shape := ⟨4, ![1, 4, 1, 1]⟩
abbrev S2x8192x4 : Shape := ⟨3, ![2, 8192, 4]⟩
abbrev S2x8192x4x1 : Shape := ⟨4, ![2, 8192, 4, 1]⟩

abbrev nBuf : Space → Nat
  | .hbm => 236
  | .vmem => 0
  | .smem => 0
  | _ => 0

abbrev hbmTy0_0 (i : Nat) : BufTy := match i % 128 with
  | 0 => ⟨S2x8192x10880, .f32⟩
  | 1 => ⟨S8192, .i32⟩
  | 2 => ⟨S2x8192x512, .f32⟩
  | 3 => ⟨S2x8192x512, .f32⟩
  | 4 => ⟨S2x8192x1024, .f32⟩
  | 5 => ⟨S2x8192x4x128, .f32⟩
  | 6 => ⟨S64, .f32⟩
  | 7 => ⟨S_, .f32⟩
  | 8 => ⟨S64, .f32⟩
  | 9 => ⟨S64, .f32⟩
  | 10 => ⟨S_, .f32⟩
  | 11 => ⟨S64, .f32⟩
  | 12 => ⟨S64, .f32⟩
  | 13 => ⟨S_, .f32⟩
  | 14 => ⟨S64, .f32⟩
  | 15 => ⟨S64, .f32⟩
  | 16 => ⟨S8192, .f32⟩
  | 17 => ⟨S8192x1, .f32⟩
  | 18 => ⟨S1x64, .f32⟩
  | 19 => ⟨S8192x64, .f32⟩
  | 20 => ⟨S8192x64, .f32⟩
  | 21 => ⟨S8192x64, .f32⟩
  | 22 => ⟨S8192x64, .f32⟩
  | 23 => ⟨S8192x1x64, .f32⟩
  | 24 => ⟨S8192x64, .f32⟩
  | 25 => ⟨S8192x1x64, .f32⟩
  | 26 => ⟨S2x8192x4x64, .f32⟩
  | 27 => ⟨S2x8192x4x64, .f32⟩
  | 28 => ⟨S1x8192x1x64, .f32⟩
  | 29 => ⟨S2x8192x4x64, .f32⟩
  | 30 => ⟨S2x8192x4x64, .f32⟩
  | 31 => ⟨S1x8192x1x64, .f32⟩
  | 32 => ⟨S2x8192x4x64, .f32⟩
  | 33 => ⟨S2x8192x4x64, .f32⟩
  | 34 => ⟨S2x8192x4x64, .f32⟩
  | 35 => ⟨S1x8192x1x64, .f32⟩
  | 36 => ⟨S2x8192x4x64, .f32⟩
  | 37 => ⟨S2x8192x4x64, .f32⟩
  | 38 => ⟨S1x8192x1x64, .f32⟩
  | 39 => ⟨S2x8192x4x64, .f32⟩
  | 40 => ⟨S2x8192x4x64, .f32⟩
  | 41 => ⟨S2x8192x4x64, .f32⟩
  | 42 => ⟨S2x8192x4x128, .f32⟩
  | 43 => ⟨S2x8192x4x128, .f32⟩
  | 44 => ⟨S64, .f32⟩
  | 45 => ⟨S_, .f32⟩
  | 46 => ⟨S64, .f32⟩
  | 47 => ⟨S64, .f32⟩
  | 48 => ⟨S_, .f32⟩
  | 49 => ⟨S64, .f32⟩
  | 50 => ⟨S64, .f32⟩
  | 51 => ⟨S_, .f32⟩
  | 52 => ⟨S64, .f32⟩
  | 53 => ⟨S64, .f32⟩
  | 54 => ⟨S8192, .f32⟩
  | 55 => ⟨S8192x1, .f32⟩
  | 56 => ⟨S1x64, .f32⟩
  | 57 => ⟨S8192x64, .f32⟩
  | 58 => ⟨S8192x64, .f32⟩
  | 59 => ⟨S8192x64, .f32⟩
  | 60 => ⟨S8192x64, .f32⟩
  | 61 => ⟨S8192x1x64, .f32⟩
  | 62 => ⟨S8192x64, .f32⟩
  | 63 => ⟨S8192x1x64, .f32⟩
  | 64 => ⟨S2x8192x4x64, .f32⟩
  | 65 => ⟨S2x8192x4x64, .f32⟩
  | 66 => ⟨S1x8192x1x64, .f32⟩
  | 67 => ⟨S2x8192x4x64, .f32⟩
  | 68 => ⟨S2x8192x4x64, .f32⟩
  | 69 => ⟨S1x8192x1x64, .f32⟩
  | 70 => ⟨S2x8192x4x64, .f32⟩
  | 71 => ⟨S2x8192x4x64, .f32⟩
  | 72 => ⟨S2x8192x4x64, .f32⟩
  | 73 => ⟨S1x8192x1x64, .f32⟩
  | 74 => ⟨S2x8192x4x64, .f32⟩
  | 75 => ⟨S2x8192x4x64, .f32⟩
  | 76 => ⟨S1x8192x1x64, .f32⟩
  | 77 => ⟨S2x8192x4x64, .f32⟩
  | 78 => ⟨S2x8192x4x64, .f32⟩
  | 79 => ⟨S2x8192x4x64, .f32⟩
  | 80 => ⟨S2x8192x4x128, .f32⟩
  | 81 => ⟨S_, .f32⟩
  | 82 => ⟨S2x8192x4x128, .f32⟩
  | 83 => ⟨S2x8192x4x128, .f32⟩
  | 84 => ⟨S_, .f32⟩
  | 85 => ⟨S2x4x128x256, .f32⟩
  | 86 => ⟨S2x8192x4x256, .f32⟩
  | 87 => ⟨S4, .f32⟩
  | 88 => ⟨S_, .f32⟩
  | 89 => ⟨S4, .f32⟩
  | 90 => ⟨S4, .f32⟩
  | 91 => ⟨S_, .f32⟩
  | 92 => ⟨S4, .f32⟩
  | 93 => ⟨S4, .f32⟩
  | 94 => ⟨S_, .f32⟩
  | 95 => ⟨S4, .f32⟩
  | 96 => ⟨S4, .f32⟩
  | 97 => ⟨S4, .f32⟩
  | 98 => ⟨S128, .f32⟩
  | 99 => ⟨S128x1, .f32⟩
  | 100 => ⟨S1x128, .f32⟩
  | 101 => ⟨S128x128, .f32⟩
  | 102 => ⟨S128x128, .f32⟩
  | 103 => ⟨S128x128, .f32⟩
  | 104 => ⟨S_, .f32⟩
  | 105 => ⟨S128x128, .f32⟩
  | 106 => ⟨S128x128, .i1⟩
  | 107 => ⟨S_, .f32⟩
  | 108 => ⟨S128x128, .f32⟩
  | 109 => ⟨S128x128, .f32⟩
  | 110 => ⟨S1x128x128, .f32⟩
  | 111 => ⟨S4x1x1, .f32⟩
  | 112 => ⟨S4x128x128, .f32⟩
  | 113 => ⟨S4x128x128, .f32⟩
  | 114 => ⟨S4x128x128, .f32⟩
  | 115 => ⟨S4x128x128, .f32⟩
  | 116 => ⟨S_, .f32⟩
  | 117 => ⟨S_, .f32⟩
  | 118 => ⟨S4x128x128, .i1⟩
  | 119 => ⟨S4x128x128, .f32⟩
  | 120 => ⟨S4x128x128, .f32⟩
  | 121 => ⟨S_, .f32⟩
  | 122 => ⟨S128, .f32⟩
  | 123 => ⟨S128, .f32⟩
  | 124 => ⟨S1x128, .f32⟩
  | 125 => ⟨S4x1, .f32⟩
  | 126 => ⟨S4x128, .f32⟩
  | 127 => ⟨S4x128, .f32⟩
  | _ => ⟨S2x8192x10880, .f32⟩

abbrev hbmTy0_1 (i : Nat) : BufTy := match i % 128 with
  | 0 => ⟨S4x128, .f32⟩
  | 1 => ⟨S4x128, .f32⟩
  | 2 => ⟨S_, .f32⟩
  | 3 => ⟨S128, .f32⟩
  | 4 => ⟨S128, .f32⟩
  | 5 => ⟨S1x128, .f32⟩
  | 6 => ⟨S4x1, .f32⟩
  | 7 => ⟨S4x128, .f32⟩
  | 8 => ⟨S4x128, .f32⟩
  | 9 => ⟨S4x128, .f32⟩
  | 10 => ⟨S4x128, .f32⟩
  | 11 => ⟨S_, .f32⟩
  | 12 => ⟨S4, .f32⟩
  | 13 => ⟨S4, .f32⟩
  | 14 => ⟨S4, .f32⟩
  | 15 => ⟨S2x64x128x4x128, .f32⟩
  | 16 => ⟨S64x2x4x128x128, .f32⟩
  | 17 => ⟨S2x64x128x4x128, .f32⟩
  | 18 => ⟨S64x2x4x128x128, .f32⟩
  | 19 => ⟨S2x64x128x4x256, .f32⟩
  | 20 => ⟨S64x2x4x128x256, .f32⟩
  | 21 => ⟨S_, .f32⟩
  | 22 => ⟨S64x2x4x128x256, .f32⟩
  | 23 => ⟨S_, .i32⟩
  | 24 => ⟨S64x2x4x128x128, .f32⟩
  | 25 => ⟨S64x2x4x128x128, .f32⟩
  | 26 => ⟨S64x2x4x128x256, .f32⟩
  | 27 => ⟨S4x128x128, .f32⟩
  | 28 => ⟨S4x128, .f32⟩
  | 29 => ⟨S4, .f32⟩
  | 30 => ⟨S4x128, .f32⟩
  | 31 => ⟨S_, .i32⟩
  | 32 => ⟨S2x4x128x256, .f32⟩
  | 33 => ⟨S64x2x4x128x256, .f32⟩
  | 34 => ⟨S_, .i32⟩
  | 35 => ⟨S_, .i1⟩
  | 36 => ⟨S_, .i32⟩
  | 37 => ⟨S_, .i32⟩
  | 38 => ⟨S_, .i32⟩
  | 39 => ⟨S_, .i32⟩
  | 40 => ⟨S1x2x4x128x128, .f32⟩
  | 41 => ⟨S2x4x128x128, .f32⟩
  | 42 => ⟨S_, .i32⟩
  | 43 => ⟨S_, .i32⟩
  | 44 => ⟨S_, .i32⟩
  | 45 => ⟨S_, .i32⟩
  | 46 => ⟨S1x2x4x128x128, .f32⟩
  | 47 => ⟨S2x4x128x128, .f32⟩
  | 48 => ⟨S_, .i32⟩
  | 49 => ⟨S_, .i32⟩
  | 50 => ⟨S_, .i32⟩
  | 51 => ⟨S_, .i32⟩
  | 52 => ⟨S1x2x4x128x256, .f32⟩
  | 53 => ⟨S2x4x128x256, .f32⟩
  | 54 => ⟨S2x4x128x128, .f32⟩
  | 55 => ⟨S1x4x128x128, .f32⟩
  | 56 => ⟨S2x4x128x128, .f32⟩
  | 57 => ⟨S2x4x128x128, .f32⟩
  | 58 => ⟨S2x4x128x256, .f32⟩
  | 59 => ⟨S2x4x128x256, .f32⟩
  | 60 => ⟨S1x4x128x1, .f32⟩
  | 61 => ⟨S2x4x128x256, .f32⟩
  | 62 => ⟨S2x4x128x256, .f32⟩
  | 63 => ⟨S1x4x1x1, .f32⟩
  | 64 => ⟨S2x4x128x256, .f32⟩
  | 65 => ⟨S2x4x128x256, .f32⟩
  | 66 => ⟨S1x4x128x1, .f32⟩
  | 67 => ⟨S2x4x128x128, .f32⟩
  | 68 => ⟨S2x4x128x128, .f32⟩
  | 69 => ⟨S2x4x128x256, .f32⟩
  | 70 => ⟨S2x4x128x256, .f32⟩
  | 71 => ⟨S2x4x128x256, .f32⟩
  | 72 => ⟨S1x2x4x128x256, .f32⟩
  | 73 => ⟨S_, .i32⟩
  | 74 => ⟨S_, .i32⟩
  | 75 => ⟨S_, .i32⟩
  | 76 => ⟨S_, .i32⟩
  | 77 => ⟨S64x2x4x128x256, .f32⟩
  | 78 => ⟨S_, .i32⟩
  | 79 => ⟨S_, .i32⟩
  | 80 => ⟨S2x64x128x4x256, .f32⟩
  | 81 => ⟨S2x8192x4x256, .f32⟩
  | 82 => ⟨S2x8192x4x256, .f32⟩
  | 83 => ⟨S_, .f32⟩
  | 84 => ⟨S2x8192x4, .f32⟩
  | 85 => ⟨S2x8192x4x1, .f32⟩
  | 86 => ⟨S_, .f32⟩
  | 87 => ⟨S2x8192x4x1, .f32⟩
  | 88 => ⟨S2x8192x4x1, .f32⟩
  | 89 => ⟨S_, .f32⟩
  | 90 => ⟨S2x8192x4x1, .f32⟩
  | 91 => ⟨S2x8192x4x1, .f32⟩
  | 92 => ⟨S2x8192x4x1, .f32⟩
  | 93 => ⟨S2x8192x4x256, .f32⟩
  | 94 => ⟨S2x8192x4x256, .f32⟩
  | 95 => ⟨S2x8192x1024, .f32⟩
  | 96 => ⟨S2x8192x1024, .f32⟩
  | 97 => ⟨S2x8192x1024, .f32⟩
  | 98 => ⟨S2x8192x1024, .f32⟩
  | 99 => ⟨S_, .f32⟩
  | 100 => ⟨S2x8192x1024, .f32⟩
  | 101 => ⟨S2x8192x1024, .f32⟩
  | 102 => ⟨S_, .f32⟩
  | 103 => ⟨S2x8192x1024, .f32⟩
  | 104 => ⟨S2x8192x1024, .f32⟩
  | 105 => ⟨S2x8192x1024, .f32⟩
  | 106 => ⟨S2x8192x1024, .f32⟩
  | 107 => ⟨S2x8192x1024, .bf16⟩
  | _ => ⟨S2x8192x10880, .f32⟩

abbrev hbmTy (i : Nat) : BufTy := match i / 128 with
  | 0 => hbmTy0_0 i
  | 1 => hbmTy0_1 i
  | _ => ⟨S2x8192x10880, .f32⟩

abbrev bufTy : (tb : Table) → Fin (tcTables nBuf tb) → BufTy
  | .hbm, ⟨i, _⟩ => hbmTy i
  | _, _ => ⟨S2x8192x10880, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_cst : Ref sig .tc := ⟨.hbm, 7, rfl⟩
abbrev main_v6 : Ref sig .tc := ⟨.hbm, 8, rfl⟩
abbrev main_v7 : Ref sig .tc := ⟨.hbm, 9, rfl⟩
abbrev main_cst_0 : Ref sig .tc := ⟨.hbm, 10, rfl⟩
abbrev main_v8 : Ref sig .tc := ⟨.hbm, 11, rfl⟩
abbrev main_v9 : Ref sig .tc := ⟨.hbm, 12, rfl⟩
abbrev main_cst_1 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_v28 : Ref sig .tc := ⟨.hbm, 32, rfl⟩
abbrev main_v29 : Ref sig .tc := ⟨.hbm, 33, rfl⟩
abbrev main_v30 : Ref sig .tc := ⟨.hbm, 34, rfl⟩
abbrev main_v31 : Ref sig .tc := ⟨.hbm, 35, rfl⟩
abbrev main_v32 : Ref sig .tc := ⟨.hbm, 36, rfl⟩
abbrev main_v33 : Ref sig .tc := ⟨.hbm, 37, rfl⟩
abbrev main_v34 : Ref sig .tc := ⟨.hbm, 38, rfl⟩
abbrev main_v35 : Ref sig .tc := ⟨.hbm, 39, rfl⟩
abbrev main_v36 : Ref sig .tc := ⟨.hbm, 40, rfl⟩
abbrev main_v37 : Ref sig .tc := ⟨.hbm, 41, rfl⟩
abbrev main_v38 : Ref sig .tc := ⟨.hbm, 42, rfl⟩
abbrev main_v39 : Ref sig .tc := ⟨.hbm, 43, rfl⟩
abbrev main_v40 : Ref sig .tc := ⟨.hbm, 44, rfl⟩
abbrev main_cst_2 : Ref sig .tc := ⟨.hbm, 45, rfl⟩
abbrev main_v41 : Ref sig .tc := ⟨.hbm, 46, rfl⟩
abbrev main_v42 : Ref sig .tc := ⟨.hbm, 47, rfl⟩
abbrev main_cst_3 : Ref sig .tc := ⟨.hbm, 48, rfl⟩
abbrev main_v43 : Ref sig .tc := ⟨.hbm, 49, rfl⟩
abbrev main_v44 : Ref sig .tc := ⟨.hbm, 50, rfl⟩
abbrev main_cst_4 : Ref sig .tc := ⟨.hbm, 51, rfl⟩
abbrev main_v45 : Ref sig .tc := ⟨.hbm, 52, rfl⟩
abbrev main_v46 : Ref sig .tc := ⟨.hbm, 53, rfl⟩
abbrev main_v47 : Ref sig .tc := ⟨.hbm, 54, rfl⟩
abbrev main_v48 : Ref sig .tc := ⟨.hbm, 55, rfl⟩
abbrev main_v49 : Ref sig .tc := ⟨.hbm, 56, rfl⟩
abbrev main_v50 : Ref sig .tc := ⟨.hbm, 57, rfl⟩
abbrev main_v51 : Ref sig .tc := ⟨.hbm, 58, rfl⟩
abbrev main_v52 : Ref sig .tc := ⟨.hbm, 59, rfl⟩
abbrev main_v53 : Ref sig .tc := ⟨.hbm, 60, rfl⟩
abbrev main_v54 : Ref sig .tc := ⟨.hbm, 61, rfl⟩
abbrev main_v55 : Ref sig .tc := ⟨.hbm, 62, rfl⟩
abbrev main_v56 : Ref sig .tc := ⟨.hbm, 63, rfl⟩
abbrev main_v57 : Ref sig .tc := ⟨.hbm, 64, rfl⟩
abbrev main_v58 : Ref sig .tc := ⟨.hbm, 65, rfl⟩
abbrev main_v59 : Ref sig .tc := ⟨.hbm, 66, rfl⟩
abbrev main_v60 : Ref sig .tc := ⟨.hbm, 67, rfl⟩
abbrev main_v61 : Ref sig .tc := ⟨.hbm, 68, rfl⟩
abbrev main_v62 : Ref sig .tc := ⟨.hbm, 69, rfl⟩
abbrev main_v63 : Ref sig .tc := ⟨.hbm, 70, rfl⟩
abbrev main_v64 : Ref sig .tc := ⟨.hbm, 71, rfl⟩
abbrev main_v65 : Ref sig .tc := ⟨.hbm, 72, rfl⟩
abbrev main_v66 : Ref sig .tc := ⟨.hbm, 73, rfl⟩
abbrev main_v67 : Ref sig .tc := ⟨.hbm, 74, rfl⟩
abbrev main_v68 : Ref sig .tc := ⟨.hbm, 75, rfl⟩
abbrev main_v69 : Ref sig .tc := ⟨.hbm, 76, rfl⟩
abbrev main_v70 : Ref sig .tc := ⟨.hbm, 77, rfl⟩
abbrev main_v71 : Ref sig .tc := ⟨.hbm, 78, rfl⟩
abbrev main_v72 : Ref sig .tc := ⟨.hbm, 79, rfl⟩
abbrev main_v73 : Ref sig .tc := ⟨.hbm, 80, rfl⟩
abbrev main_cst_5 : Ref sig .tc := ⟨.hbm, 81, rfl⟩
abbrev main_v74 : Ref sig .tc := ⟨.hbm, 82, rfl⟩
abbrev main_v75 : Ref sig .tc := ⟨.hbm, 83, rfl⟩
abbrev main_cst_6 : Ref sig .tc := ⟨.hbm, 84, rfl⟩
abbrev main_v76 : Ref sig .tc := ⟨.hbm, 85, rfl⟩
abbrev main_v77 : Ref sig .tc := ⟨.hbm, 86, rfl⟩
abbrev main_v78 : Ref sig .tc := ⟨.hbm, 87, rfl⟩
abbrev main_cst_7 : Ref sig .tc := ⟨.hbm, 88, rfl⟩
abbrev main_v79 : Ref sig .tc := ⟨.hbm, 89, rfl⟩
abbrev main_v80 : Ref sig .tc := ⟨.hbm, 90, rfl⟩
abbrev main_cst_8 : Ref sig .tc := ⟨.hbm, 91, rfl⟩
abbrev main_v81 : Ref sig .tc := ⟨.hbm, 92, rfl⟩
abbrev main_v82 : Ref sig .tc := ⟨.hbm, 93, rfl⟩
abbrev main_cst_9 : Ref sig .tc := ⟨.hbm, 94, rfl⟩
abbrev main_v83 : Ref sig .tc := ⟨.hbm, 95, rfl⟩
abbrev main_v84 : Ref sig .tc := ⟨.hbm, 96, rfl⟩
abbrev main_v85 : Ref sig .tc := ⟨.hbm, 97, rfl⟩
abbrev main_v86 : Ref sig .tc := ⟨.hbm, 98, rfl⟩
abbrev main_v87 : Ref sig .tc := ⟨.hbm, 99, rfl⟩
abbrev main_v88 : Ref sig .tc := ⟨.hbm, 100, rfl⟩
abbrev main_v89 : Ref sig .tc := ⟨.hbm, 101, rfl⟩
abbrev main_v90 : Ref sig .tc := ⟨.hbm, 102, rfl⟩
abbrev main_v91 : Ref sig .tc := ⟨.hbm, 103, rfl⟩
abbrev main_cst_10 : Ref sig .tc := ⟨.hbm, 104, rfl⟩
abbrev main_v92 : Ref sig .tc := ⟨.hbm, 105, rfl⟩
abbrev main_v93 : Ref sig .tc := ⟨.hbm, 106, rfl⟩
abbrev main_cst_11 : Ref sig .tc := ⟨.hbm, 107, rfl⟩
abbrev main_v94 : Ref sig .tc := ⟨.hbm, 108, rfl⟩
abbrev main_v95 : Ref sig .tc := ⟨.hbm, 109, rfl⟩
abbrev main_v96 : Ref sig .tc := ⟨.hbm, 110, rfl⟩
abbrev main_v97 : Ref sig .tc := ⟨.hbm, 111, rfl⟩
abbrev main_v98 : Ref sig .tc := ⟨.hbm, 112, rfl⟩
abbrev main_v99 : Ref sig .tc := ⟨.hbm, 113, rfl⟩
abbrev main_v100 : Ref sig .tc := ⟨.hbm, 114, rfl⟩
abbrev main_v101 : Ref sig .tc := ⟨.hbm, 115, rfl⟩
abbrev main_cst_12 : Ref sig .tc := ⟨.hbm, 116, rfl⟩
abbrev main_call0_v0 : Ref sig .tc := ⟨.hbm, 117, rfl⟩
abbrev main_call0_v1 : Ref sig .tc := ⟨.hbm, 118, rfl⟩
abbrev main_call0_v2 : Ref sig .tc := ⟨.hbm, 119, rfl⟩
abbrev main_v102 : Ref sig .tc := ⟨.hbm, 120, rfl⟩
abbrev main_cst_13 : Ref sig .tc := ⟨.hbm, 121, rfl⟩
abbrev main_v103 : Ref sig .tc := ⟨.hbm, 122, rfl⟩
abbrev main_v104 : Ref sig .tc := ⟨.hbm, 123, rfl⟩
abbrev main_v105 : Ref sig .tc := ⟨.hbm, 124, rfl⟩
abbrev main_v106 : Ref sig .tc := ⟨.hbm, 125, rfl⟩
abbrev main_v107 : Ref sig .tc := ⟨.hbm, 126, rfl⟩
abbrev main_v108 : Ref sig .tc := ⟨.hbm, 127, rfl⟩
abbrev main_v109 : Ref sig .tc := ⟨.hbm, 128, rfl⟩
abbrev main_v110 : Ref sig .tc := ⟨.hbm, 129, rfl⟩
abbrev main_cst_14 : Ref sig .tc := ⟨.hbm, 130, rfl⟩
abbrev main_v111 : Ref sig .tc := ⟨.hbm, 131, rfl⟩
abbrev main_v112 : Ref sig .tc := ⟨.hbm, 132, rfl⟩
abbrev main_v113 : Ref sig .tc := ⟨.hbm, 133, rfl⟩
abbrev main_v114 : Ref sig .tc := ⟨.hbm, 134, rfl⟩
abbrev main_v115 : Ref sig .tc := ⟨.hbm, 135, rfl⟩
abbrev main_v116 : Ref sig .tc := ⟨.hbm, 136, rfl⟩
abbrev main_v117 : Ref sig .tc := ⟨.hbm, 137, rfl⟩
abbrev main_v118 : Ref sig .tc := ⟨.hbm, 138, rfl⟩
abbrev main_cst_15 : Ref sig .tc := ⟨.hbm, 139, rfl⟩
abbrev main_v119 : Ref sig .tc := ⟨.hbm, 140, rfl⟩
abbrev main_v120 : Ref sig .tc := ⟨.hbm, 141, rfl⟩
abbrev main_v121 : Ref sig .tc := ⟨.hbm, 142, rfl⟩
abbrev main_v122 : Ref sig .tc := ⟨.hbm, 143, rfl⟩
abbrev main_v123 : Ref sig .tc := ⟨.hbm, 144, rfl⟩
abbrev main_v124 : Ref sig .tc := ⟨.hbm, 145, rfl⟩
abbrev main_v125 : Ref sig .tc := ⟨.hbm, 146, rfl⟩
abbrev main_v126 : Ref sig .tc := ⟨.hbm, 147, rfl⟩
abbrev main_v127 : Ref sig .tc := ⟨.hbm, 148, rfl⟩
abbrev main_cst_16 : Ref sig .tc := ⟨.hbm, 149, rfl⟩
abbrev main_v128 : Ref sig .tc := ⟨.hbm, 150, rfl⟩
abbrev main_c : Ref sig .tc := ⟨.hbm, 151, rfl⟩
abbrev main_v129_0 : Ref sig .tc := ⟨.hbm, 152, rfl⟩
abbrev main_v129_1 : Ref sig .tc := ⟨.hbm, 153, rfl⟩
abbrev main_v129_2 : Ref sig .tc := ⟨.hbm, 154, rfl⟩
abbrev main_v129_3 : Ref sig .tc := ⟨.hbm, 155, rfl⟩
abbrev main_v129_4 : Ref sig .tc := ⟨.hbm, 156, rfl⟩
abbrev main_v129_5 : Ref sig .tc := ⟨.hbm, 157, rfl⟩
abbrev main_v129_6 : Ref sig .tc := ⟨.hbm, 158, rfl⟩
abbrev main_v129_7 : Ref sig .tc := ⟨.hbm, 159, rfl⟩
abbrev main_v129_8 : Ref sig .tc := ⟨.hbm, 160, rfl⟩
abbrev main_v129_9 : Ref sig .tc := ⟨.hbm, 161, rfl⟩
abbrev main_while0c_c_29 : Ref sig .tc := ⟨.hbm, 162, rfl⟩
abbrev main_while0c_v147 : Ref sig .tc := ⟨.hbm, 163, rfl⟩
abbrev main_while0b_call1_c : Ref sig .tc := ⟨.hbm, 164, rfl⟩
abbrev main_while0b_call1_c_0 : Ref sig .tc := ⟨.hbm, 165, rfl⟩
abbrev main_while0b_call1_c_1 : Ref sig .tc := ⟨.hbm, 166, rfl⟩
abbrev main_while0b_call1_c_2 : Ref sig .tc := ⟨.hbm, 167, rfl⟩
abbrev main_while0b_call1_v0 : Ref sig .tc := ⟨.hbm, 168, rfl⟩
abbrev main_while0b_v147 : Ref sig .tc := ⟨.hbm, 169, rfl⟩
abbrev main_while0b_call2_c : Ref sig .tc := ⟨.hbm, 170, rfl⟩
abbrev main_while0b_call2_c_0 : Ref sig .tc := ⟨.hbm, 171, rfl⟩
abbrev main_while0b_call2_c_1 : Ref sig .tc := ⟨.hbm, 172, rfl⟩
abbrev main_while0b_call2_c_2 : Ref sig .tc := ⟨.hbm, 173, rfl⟩
abbrev main_while0b_call2_v0 : Ref sig .tc := ⟨.hbm, 174, rfl⟩
abbrev main_while0b_v148 : Ref sig .tc := ⟨.hbm, 175, rfl⟩
abbrev main_while0b_call3_c : Ref sig .tc := ⟨.hbm, 176, rfl⟩
abbrev main_while0b_call3_c_0 : Ref sig .tc := ⟨.hbm, 177, rfl⟩
abbrev main_while0b_call3_c_1 : Ref sig .tc := ⟨.hbm, 178, rfl⟩
abbrev main_while0b_call3_c_2 : Ref sig .tc := ⟨.hbm, 179, rfl⟩
abbrev main_while0b_call3_v0 : Ref sig .tc := ⟨.hbm, 180, rfl⟩
abbrev main_while0b_v149 : Ref sig .tc := ⟨.hbm, 181, rfl⟩
abbrev main_while0b_v150 : Ref sig .tc := ⟨.hbm, 182, rfl⟩
abbrev main_while0b_v151 : Ref sig .tc := ⟨.hbm, 183, rfl⟩
abbrev main_while0b_v152 : Ref sig .tc := ⟨.hbm, 184, rfl⟩
abbrev main_while0b_v153 : Ref sig .tc := ⟨.hbm, 185, rfl⟩
abbrev main_while0b_v154 : Ref sig .tc := ⟨.hbm, 186, rfl⟩
abbrev main_while0b_v155 : Ref sig .tc := ⟨.hbm, 187, rfl⟩
abbrev main_while0b_v156 : Ref sig .tc := ⟨.hbm, 188, rfl⟩
abbrev main_while0b_v157 : Ref sig .tc := ⟨.hbm, 189, rfl⟩
abbrev main_while0b_v158 : Ref sig .tc := ⟨.hbm, 190, rfl⟩
abbrev main_while0b_v159 : Ref sig .tc := ⟨.hbm, 191, rfl⟩
abbrev main_while0b_v160 : Ref sig .tc := ⟨.hbm, 192, rfl⟩
abbrev main_while0b_v161 : Ref sig .tc := ⟨.hbm, 193, rfl⟩
abbrev main_while0b_v162 : Ref sig .tc := ⟨.hbm, 194, rfl⟩
abbrev main_while0b_v163 : Ref sig .tc := ⟨.hbm, 195, rfl⟩
abbrev main_while0b_v164 : Ref sig .tc := ⟨.hbm, 196, rfl⟩
abbrev main_while0b_v165 : Ref sig .tc := ⟨.hbm, 197, rfl⟩
abbrev main_while0b_v166 : Ref sig .tc := ⟨.hbm, 198, rfl⟩
abbrev main_while0b_v167 : Ref sig .tc := ⟨.hbm, 199, rfl⟩
abbrev main_while0b_call4_v0 : Ref sig .tc := ⟨.hbm, 200, rfl⟩
abbrev main_while0b_call4_c : Ref sig .tc := ⟨.hbm, 201, rfl⟩
abbrev main_while0b_call4_c_0 : Ref sig .tc := ⟨.hbm, 202, rfl⟩
abbrev main_while0b_call4_c_1 : Ref sig .tc := ⟨.hbm, 203, rfl⟩
abbrev main_while0b_call4_c_2 : Ref sig .tc := ⟨.hbm, 204, rfl⟩
abbrev main_while0b_v168 : Ref sig .tc := ⟨.hbm, 205, rfl⟩
abbrev main_while0b_c_29 : Ref sig .tc := ⟨.hbm, 206, rfl⟩
abbrev main_while0b_v169 : Ref sig .tc := ⟨.hbm, 207, rfl⟩
abbrev main_v130 : Ref sig .tc := ⟨.hbm, 208, rfl⟩
abbrev main_v131 : Ref sig .tc := ⟨.hbm, 209, rfl⟩
abbrev main_v132 : Ref sig .tc := ⟨.hbm, 210, rfl⟩
abbrev main_cst_17 : Ref sig .tc := ⟨.hbm, 211, rfl⟩
abbrev main_v133 : Ref sig .tc := ⟨.hbm, 212, rfl⟩
abbrev main_v134 : Ref sig .tc := ⟨.hbm, 213, rfl⟩
abbrev main_cst_18 : Ref sig .tc := ⟨.hbm, 214, rfl⟩
abbrev main_v135 : Ref sig .tc := ⟨.hbm, 215, rfl⟩
abbrev main_v136 : Ref sig .tc := ⟨.hbm, 216, rfl⟩
abbrev main_cst_19 : Ref sig .tc := ⟨.hbm, 217, rfl⟩
abbrev main_v137 : Ref sig .tc := ⟨.hbm, 218, rfl⟩
abbrev main_v138 : Ref sig .tc := ⟨.hbm, 219, rfl⟩
abbrev main_v139 : Ref sig .tc := ⟨.hbm, 220, rfl⟩
abbrev main_v140 : Ref sig .tc := ⟨.hbm, 221, rfl⟩
abbrev main_v141 : Ref sig .tc := ⟨.hbm, 222, rfl⟩
abbrev main_v142 : Ref sig .tc := ⟨.hbm, 223, rfl⟩
abbrev main_v143 : Ref sig .tc := ⟨.hbm, 224, rfl⟩
abbrev main_call5_v0 : Ref sig .tc := ⟨.hbm, 225, rfl⟩
abbrev main_call5_v1 : Ref sig .tc := ⟨.hbm, 226, rfl⟩
abbrev main_call5_cst : Ref sig .tc := ⟨.hbm, 227, rfl⟩
abbrev main_call5_v2 : Ref sig .tc := ⟨.hbm, 228, rfl⟩
abbrev main_call5_v3 : Ref sig .tc := ⟨.hbm, 229, rfl⟩
abbrev main_call5_cst_0 : Ref sig .tc := ⟨.hbm, 230, rfl⟩
abbrev main_call5_v4 : Ref sig .tc := ⟨.hbm, 231, rfl⟩
abbrev main_call5_v5 : Ref sig .tc := ⟨.hbm, 232, rfl⟩
abbrev main_v144 : Ref sig .tc := ⟨.hbm, 233, rfl⟩
abbrev main_v145 : Ref sig .tc := ⟨.hbm, 234, rfl⟩
abbrev main_v146 : Ref sig .tc := ⟨.hbm, 235, rfl⟩

abbrev nD : Nat := 1
abbrev τ : Topo := Topo.v7x

variable {F : FTy → Type} [FloatOps F]

abbrev main_while0_count : Scf.Loop 32 := ⟨0#32, 64#32, 1#32⟩
-- ==== Ffn.lean ====
abbrev S16384x1024 : Shape := ⟨2, ![16384, 1024]⟩
abbrev S2x1x1024 : Shape := ⟨3, ![2, 1, 1024]⟩
abbrev S1x1024 : Shape := ⟨2, ![1, 1024]⟩
abbrev S1024x5632 : Shape := ⟨2, ![1024, 5632]⟩
abbrev S2816x1024 : Shape := ⟨2, ![2816, 1024]⟩
abbrev S512x1024 : Shape := ⟨2, ![512, 1024]⟩
abbrev S1x1x1024 : Shape := ⟨3, ![1, 1, 1024]⟩
abbrev S512 : Shape := ⟨1, ![512]⟩
abbrev S512x1 : Shape := ⟨2, ![512, 1]⟩
abbrev S1024x256 : Shape := ⟨2, ![1024, 256]⟩
abbrev S512x256 : Shape := ⟨2, ![512, 256]⟩
abbrev S256x1024 : Shape := ⟨2, ![256, 1024]⟩

abbrev nBuf : Space → Nat
  | .hbm => 10
  | .vmem => 14
  | .smem => 0
  | _ => 0

abbrev bufTy : (tb : Table) → Fin (tcTables nBuf tb) → BufTy
  | .hbm, ⟨0, _⟩ => ⟨S16384x1024, .f32⟩
  | .hbm, ⟨1, _⟩ => ⟨S2x1x1024, .f32⟩
  | .hbm, ⟨2, _⟩ => ⟨S2x1x1024, .f32⟩
  | .hbm, ⟨3, _⟩ => ⟨S2x1x1024, .f32⟩
  | .hbm, ⟨4, _⟩ => ⟨S1x1024, .f32⟩
  | .hbm, ⟨5, _⟩ => ⟨S1024x5632, .f32⟩
  | .hbm, ⟨6, _⟩ => ⟨S2816x1024, .f32⟩
  | .hbm, ⟨7, _⟩ => ⟨S1024x5632, .bf16⟩
  | .hbm, ⟨8, _⟩ => ⟨S2816x1024, .bf16⟩
  | .hbm, ⟨9, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S1x1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x1x1024, .f32⟩
  | .local _ .vmem, ⟨7, _⟩ => ⟨S1x1x1024, .f32⟩
  | .local _ .vmem, ⟨8, _⟩ => ⟨S1x1024, .f32⟩
  | .local _ .vmem, ⟨9, _⟩ => ⟨S1024x5632, .bf16⟩
  | .local _ .vmem, ⟨10, _⟩ => ⟨S2816x1024, .bf16⟩
  | .local _ .vmem, ⟨11, _⟩ => ⟨S512x1024, .f32⟩
  | .local _ .vmem, ⟨12, _⟩ => ⟨S512x1024, .f32⟩
  | .local _ .vmem, ⟨13, _⟩ => ⟨S512x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_scratch0 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c512_i32 : BitVec 32 := 512#32
  let v0 : BitVec 32 := Scalar.muli arg0 c512_i32
  let c8192_i32 : BitVec 32 := 8192#32
  let v1 : BitVec 32 := Scalar.divsi v0 c8192_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c8192_i32 c0_i32_1
  let v8 : BitVec 32 := Scalar.extui v7
  let c0_i32_2 : BitVec 32 := 0#32
  let v9 : BitVec 1 := Scalar.cmpi .slt c8192_i32 c0_i32_2
  let v10 : BitVec 32 := Scalar.extui v9
  let v11 : BitVec 32 := Scalar.subi v8 v10
  let v12 : BitVec 1 := Scalar.cmpi .ne v6 v11
  let v13 : BitVec 32 := Scalar.remsi v0 c8192_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c0_i32_4 : BitVec 32 := 0#32
  let c0_i32_5 : BitVec 32 := 0#32
  let c0_i32_6 : BitVec 32 := 0#32
  ![v17.toNat, c0_i32_4.toNat, c0_i32_5.toNat]

def cc0_transform_2 (i : grid0.Coords) : Fin 3 → Nat :=
  let arg0 : BitVec 32 := BitVec.ofNat 32 (i 0).val
  let c512_i32 : BitVec 32 := 512#32
  let v0 : BitVec 32 := Scalar.muli arg0 c512_i32
  let c8192_i32 : BitVec 32 := 8192#32
  let v1 : BitVec 32 := Scalar.divsi v0 c8192_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c8192_i32 c0_i32_1
  let v8 : BitVec 32 := Scalar.extui v7
  let c0_i32_2 : BitVec 32 := 0#32
  let v9 : BitVec 1 := Scalar.cmpi .slt c8192_i32 c0_i32_2
  let v10 : BitVec 32 := Scalar.extui v9
  let v11 : BitVec 32 := Scalar.subi v8 v10
  let v12 : BitVec 1 := Scalar.cmpi .ne v6 v11
  let v13 : BitVec 32 := Scalar.remsi v0 c8192_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c0_i32_4 : BitVec 32 := 0#32
  let c0_i32_5 : BitVec 32 := 0#32
  let c0_i32_6 : BitVec 32 := 0#32
  ![v17.toNat, c0_i32_4.toNat, c0_i32_5.toNat]

def cc0_transform_3 (i : grid0.Coords) : Fin 3 → Nat :=
  let arg0 : BitVec 32 := BitVec.ofNat 32 (i 0).val
  let c512_i32 : BitVec 32 := 512#32
  let v0 : BitVec 32 := Scalar.muli arg0 c512_i32
  let c8192_i32 : BitVec 32 := 8192#32
  let v1 : BitVec 32 := Scalar.divsi v0 c8192_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c8192_i32 c0_i32_1
  let v8 : BitVec 32 := Scalar.extui v7
  let c0_i32_2 : BitVec 32 := 0#32
  let v9 : BitVec 1 := Scalar.cmpi .slt c8192_i32 c0_i32_2
  let v10 : BitVec 32 := Scalar.extui v9
  let v11 : BitVec 32 := Scalar.subi v8 v10
  let v12 : BitVec 1 := Scalar.cmpi .ne v6 v11
  let v13 : BitVec 32 := Scalar.remsi v0 c8192_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c0_i32_4 : BitVec 32 := 0#32
  let c0_i32_5 : BitVec 32 := 0#32
  let c0_i32_6 : BitVec 32 := 0#32
  ![v17.toNat, c0_i32_4.toNat, c0_i32_5.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x5632 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S2816x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== FfnRefIdeal.lean ====
abbrev S16384x1024 : Shape := ⟨2, ![16384, 1024]⟩
abbrev S2x1x1024 : Shape := ⟨3, ![2, 1, 1024]⟩
abbrev S1x1024 : Shape := ⟨2, ![1, 1024]⟩
abbrev S1024x5632 : Shape := ⟨2, ![1024, 5632]⟩
abbrev S2816x1024 : Shape := ⟨2, ![2816, 1024]⟩
abbrev S2x8192x1024 : Shape := ⟨3, ![2, 8192, 1024]⟩
abbrev S_ : Shape := ⟨0, ![]⟩
abbrev S1024 : Shape := ⟨1, ![1024]⟩
abbrev S2x8192 : Shape := ⟨2, ![2, 8192]⟩
abbrev S2x8192x1 : Shape := ⟨3, ![2, 8192, 1]⟩
abbrev S1x1x1024 : Shape := ⟨3, ![1, 1, 1024]⟩
abbrev S2x8192x5632 : Shape := ⟨3, ![2, 8192, 5632]⟩
abbrev S2x8192x2816 : Shape := ⟨3, ![2, 8192, 2816]⟩

abbrev nBuf : Space → Nat
  | .hbm => 53
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S2x1x1024, .f32⟩
  | .hbm, ⟨2, _⟩ => ⟨S2x1x1024, .f32⟩
  | .hbm, ⟨3, _⟩ => ⟨S2x1x1024, .f32⟩
  | .hbm, ⟨4, _⟩ => ⟨S1x1024, .f32⟩
  | .hbm, ⟨5, _⟩ => ⟨S1024x5632, .f32⟩
  | .hbm, ⟨6, _⟩ => ⟨S2816x1024, .f32⟩
  | .hbm, ⟨7, _⟩ => ⟨S2x8192x1024, .f32⟩
  | .hbm, ⟨8, _⟩ => ⟨S_, .f32⟩
  | .hbm, ⟨9, _⟩ => ⟨S2x1x1024, .f32⟩
  | .hbm, ⟨10, _⟩ => ⟨S2x1x1024, .f32⟩
  | .hbm, ⟨11, _⟩ => ⟨S1024, .f32⟩
  | .hbm, ⟨12, _⟩ => ⟨S2x8192x1024, .f32⟩
  | .hbm, ⟨13, _⟩ => ⟨S_, .f32⟩
  | .hbm, ⟨14, _⟩ => ⟨S2x8192, .f32⟩
  | .hbm, ⟨15, _⟩ => ⟨S2x8192x1, .f32⟩
  | .hbm, ⟨16, _⟩ => ⟨S_, .f32⟩
  | .hbm, ⟨17, _⟩ => ⟨S2x8192x1, .f32⟩
  | .hbm, ⟨18, _⟩ => ⟨S2x8192x1, .f32⟩
  | .hbm, ⟨19, _⟩ => ⟨S_, .f32⟩
  | .hbm, ⟨20, _⟩ => ⟨S2x8192x1, .f32⟩
  | .hbm, ⟨21, _⟩ => ⟨S2x8192x1, .f32⟩
  | .hbm, ⟨22, _⟩ => ⟨S2x8192x1, .f32⟩
  | .hbm, ⟨23, _⟩ => ⟨S2x8192x1024, .f32⟩
  | .hbm, ⟨24, _⟩ => ⟨S2x8192x1024, .f32⟩
  | .hbm, ⟨25, _⟩ => ⟨S1x1x1024, .f32⟩
  | .hbm, ⟨26, _⟩ => ⟨S2x8192x1024, .f32⟩
  | .hbm, ⟨27, _⟩ => ⟨S2x8192x1024, .f32⟩
  | .hbm, ⟨28, _⟩ => ⟨S_, .f32⟩
  | .hbm, ⟨29, _⟩ => ⟨S2x1x1024, .f32⟩
  | .hbm, ⟨30, _⟩ => ⟨S2x1x1024, .f32⟩
  | .hbm, ⟨31, _⟩ => ⟨S2x8192x1024, .f32⟩
  | .hbm, ⟨32, _⟩ => ⟨S2x8192x1024, .f32⟩
  | .hbm, ⟨33, _⟩ => ⟨S2x8192x1024, .f32⟩
  | .hbm, ⟨34, _⟩ => ⟨S2x8192x1024, .f32⟩
  | .hbm, ⟨35, _⟩ => ⟨S2x8192x5632, .f32⟩
  | .hbm, ⟨36, _⟩ => ⟨S2x8192x2816, .f32⟩
  | .hbm, ⟨37, _⟩ => ⟨S2x8192x2816, .f32⟩
  | .hbm, ⟨38, _⟩ => ⟨S2x8192x2816, .f32⟩
  | .hbm, ⟨39, _⟩ => ⟨S2x8192x2816, .f32⟩
  | .hbm, ⟨40, _⟩ => ⟨S_, .f32⟩
  | .hbm, ⟨41, _⟩ => ⟨S2x8192x2816, .f32⟩
  | .hbm, ⟨42, _⟩ => ⟨S2x8192x2816, .f32⟩
  | .hbm, ⟨43, _⟩ => ⟨S_, .f32⟩
  | .hbm, ⟨44, _⟩ => ⟨S2x8192x2816, .f32⟩
  | .hbm, ⟨45, _⟩ => ⟨S2x8192x2816, .f32⟩
  | .hbm, ⟨46, _⟩ => ⟨S2x8192x2816, .f32⟩
  | .hbm, ⟨47, _⟩ => ⟨S2x8192x2816, .f32⟩
  | .hbm, ⟨48, _⟩ => ⟨S2x8192x1024, .f32⟩
  | .hbm, ⟨49, _⟩ => ⟨S2x8192x1024, .f32⟩
  | .hbm, ⟨50, _⟩ => ⟨S2x8192x1024, .f32⟩
  | .hbm, ⟨51, _⟩ => ⟨S2x8192x1024, .f32⟩
  | .hbm, ⟨52, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_cst_0 : Ref sig .tc := ⟨.hbm, 13, rfl⟩
abbrev main_v5 : Ref sig .tc := ⟨.hbm, 14, rfl⟩
abbrev main_v6 : Ref sig .tc := ⟨.hbm, 15, rfl⟩
abbrev main_cst_1 : Ref sig .tc := ⟨.hbm, 16, rfl⟩
abbrev main_v7 : Ref sig .tc := ⟨.hbm, 17, rfl⟩
abbrev main_v8 : Ref sig .tc := ⟨.hbm, 18, rfl⟩
abbrev main_cst_2 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_3 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_call0_v0 : Ref sig .tc := ⟨.hbm, 38, rfl⟩
abbrev main_call0_v1 : Ref sig .tc := ⟨.hbm, 39, rfl⟩
abbrev main_call0_cst : Ref sig .tc := ⟨.hbm, 40, rfl⟩
abbrev main_call0_v2 : Ref sig .tc := ⟨.hbm, 41, rfl⟩
abbrev main_call0_v3 : Ref sig .tc := ⟨.hbm, 42, rfl⟩
abbrev main_call0_cst_0 : Ref sig .tc := ⟨.hbm, 43, rfl⟩
abbrev main_call0_v4 : Ref sig .tc := ⟨.hbm, 44, rfl⟩
abbrev main_call0_v5 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩

abbrev nD : Nat := 1
abbrev τ : Topo := Topo.v7x

variable {F : FTy → Type} [FloatOps F]
-- ==== Inproj.lean ====
abbrev S16384x1024 : Shape := ⟨2, ![16384, 1024]⟩
abbrev S2x1x1024 : Shape := ⟨3, ![2, 1, 1024]⟩
abbrev S1x1024 : Shape := ⟨2, ![1, 1024]⟩
abbrev S1024x10824 : Shape := ⟨2, ![1024, 10824]⟩
abbrev S1024x6144 : Shape := ⟨2, ![1024, 6144]⟩
abbrev S1024x3072 : Shape := ⟨2, ![1024, 3072]⟩
abbrev S1024x1536 : Shape := ⟨2, ![1024, 1536]⟩
abbrev S1024x72 : Shape := ⟨2, ![1024, 72]⟩
abbrev S_ : Shape := ⟨0, ![]⟩
abbrev S1024x56 : Shape := ⟨2, ![1024, 56]⟩
abbrev S1024x10880 : Shape := ⟨2, ![1024, 10880]⟩
abbrev S16384x10880 : Shape := ⟨2, ![16384, 10880]⟩
abbrev S1024x1024 : Shape := ⟨2, ![1024, 1024]⟩
abbrev S1x1x1024 : Shape := ⟨3, ![1, 1, 1024]⟩
abbrev S1024x2176 : Shape := ⟨2, ![1024, 2176]⟩
abbrev S1024 : Shape := ⟨1, ![1024]⟩
abbrev S1024x1 : Shape := ⟨2, ![1024, 1]⟩

abbrev nBuf : Space → Nat
  | .hbm => 14
  | .vmem => 12
  | .smem => 0
  | _ => 0

abbrev bufTy : (tb : Table) → Fin (tcTables nBuf tb) → BufTy
  | .hbm, ⟨0, _⟩ => ⟨S16384x1024, .f32⟩
  | .hbm, ⟨1, _⟩ => ⟨S2x1x1024, .f32⟩
  | .hbm, ⟨2, _⟩ => ⟨S2x1x1024, .f32⟩
  | .hbm, ⟨3, _⟩ => ⟨S1x1024, .f32⟩
  | .hbm, ⟨4, _⟩ => ⟨S1024x10824, .f32⟩
  | .hbm, ⟨5, _⟩ => ⟨S1024x6144, .f32⟩
  | .hbm, ⟨6, _⟩ => ⟨S1024x3072, .f32⟩
  | .hbm, ⟨7, _⟩ => ⟨S1024x1536, .f32⟩
  | .hbm, ⟨8, _⟩ => ⟨S1024x72, .f32⟩
  | .hbm, ⟨9, _⟩ => ⟨S_, .f32⟩
  | .hbm, ⟨10, _⟩ => ⟨S1024x56, .f32⟩
  | .hbm, ⟨11, _⟩ => ⟨S1024x10880, .f32⟩
  | .hbm, ⟨12, _⟩ => ⟨S1024x10880, .bf16⟩
  | .hbm, ⟨13, _⟩ => ⟨S16384x10880, .f32⟩
  | .local _ .vmem, ⟨0, _⟩ => ⟨S1024x1024, .f32⟩
  | .local _ .vmem, ⟨1, _⟩ => ⟨S1024x1024, .f32⟩
  | .local _ .vmem, ⟨2, _⟩ => ⟨S1x1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x1024, .f32⟩
  | .local _ .vmem, ⟨7, _⟩ => ⟨S1024x2176, .bf16⟩
  | .local _ .vmem, ⟨8, _⟩ => ⟨S1024x2176, .bf16⟩
  | .local _ .vmem, ⟨9, _⟩ => ⟨S1024x2176, .f32⟩
  | .local _ .vmem, ⟨10, _⟩ => ⟨S1024x2176, .f32⟩
  | .local _ .vmem, ⟨11, _⟩ => ⟨S1024x1024, .bf16⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![16, 5], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c1024_i32 : BitVec 32 := 1024#32
  let v0 : BitVec 32 := Scalar.muli arg0 c1024_i32
  let c8192_i32 : BitVec 32 := 8192#32
  let v1 : BitVec 32 := Scalar.divsi v0 c8192_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c8192_i32 c0_i32_1
  let v8 : BitVec 32 := Scalar.extui v7
  let c0_i32_2 : BitVec 32 := 0#32
  let v9 : BitVec 1 := Scalar.cmpi .slt c8192_i32 c0_i32_2
  let v10 : BitVec 32 := Scalar.extui v9
  let v11 : BitVec 32 := Scalar.subi v8 v10
  let v12 : BitVec 1 := Scalar.cmpi .ne v6 v11
  let v13 : BitVec 32 := Scalar.remsi v0 c8192_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c0_i32_4 : BitVec 32 := 0#32
  let c0_i32_5 : BitVec 32 := 0#32
  let c0_i32_6 : BitVec 32 := 0#32
  ![v17.toNat, c0_i32_4.toNat, c0_i32_5.toNat]

def cc0_transform_2 (i : grid0.Coords) : Fin 3 → Nat :=
  let arg0 : BitVec 32 := BitVec.ofNat 32 (i 0).val
  let arg1 : BitVec 32 := BitVec.ofNat 32 (i 1).val
  let c1024_i32 : BitVec 32 := 1024#32
  let v0 : BitVec 32 := Scalar.muli arg0 c1024_i32
  let c8192_i32 : BitVec 32 := 8192#32
  let v1 : BitVec 32 := Scalar.divsi v0 c8192_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c8192_i32 c0_i32_1
  let v8 : BitVec 32 := Scalar.extui v7
  let c0_i32_2 : BitVec 32 := 0#32
  let v9 : BitVec 1 := Scalar.cmpi .slt c8192_i32 c0_i32_2
  let v10 : BitVec 32 := Scalar.extui v9
  let v11 : BitVec 32 := Scalar.subi v8 v10
  let v12 : BitVec 1 := Scalar.cmpi .ne v6 v11
  let v13 : BitVec 32 := Scalar.remsi v0 c8192_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c0_i32_4 : BitVec 32 := 0#32
  let c0_i32_5 : BitVec 32 := 0#32
  let c0_i32_6 : BitVec 32 := 0#32
  ![v17.toNat, c0_i32_4.toNat, c0_i32_5.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x1x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1024x2176 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1024x2176 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== InprojRefIdeal.lean ====
abbrev S16384x1024 : Shape := ⟨2, ![16384, 1024]⟩
abbrev S2x1x1024 : Shape := ⟨3, ![2, 1, 1024]⟩
abbrev S1x1024 : Shape := ⟨2, ![1, 1024]⟩
abbrev S1024x10824 : Shape := ⟨2, ![1024, 10824]⟩
abbrev S2x8192x1024 : Shape := ⟨3, ![2, 8192, 1024]⟩
abbrev S1024 : Shape := ⟨1, ![1024]⟩
abbrev S_ : Shape := ⟨0, ![]⟩
abbrev S2x8192 : Shape := ⟨2, ![2, 8192]⟩
abbrev S2x8192x1 : Shape := ⟨3, ![2, 8192, 1]⟩
abbrev S1x1x1024 : Shape := ⟨3, ![1, 1, 1024]⟩
abbrev S2x8192x10824 : Shape := ⟨3, ![2, 8192, 10824]⟩
abbrev S2x8192x6144 : Shape := ⟨3, ![2, 8192, 6144]⟩
abbrev S2x8192x1536 : Shape := ⟨3, ![2, 8192, 1536]⟩
abbrev S2x8192x72 : Shape := ⟨3, ![2, 8192, 72]⟩
abbrev S2x8192x3072 : Shape := ⟨3, ![2, 8192, 3072]⟩
abbrev S2x8192x56 : Shape := ⟨3, ![2, 8192, 56]⟩
abbrev S2x8192x10880 : Shape := ⟨3, ![2, 8192, 10880]⟩
abbrev S16384x10880 : Shape := ⟨2, ![16384, 10880]⟩

abbrev nBuf : Space → Nat
  | .hbm => 39
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S2x1x1024, .f32⟩
  | .hbm, ⟨2, _⟩ => ⟨S2x1x1024, .f32⟩
  | .hbm, ⟨3, _⟩ => ⟨S1x1024, .f32⟩
  | .hbm, ⟨4, _⟩ => ⟨S1024x10824, .f32⟩
  | .hbm, ⟨5, _⟩ => ⟨S2x8192x1024, .f32⟩
  | .hbm, ⟨6, _⟩ => ⟨S1024, .f32⟩
  | .hbm, ⟨7, _⟩ => ⟨S2x8192x1024, .f32⟩
  | .hbm, ⟨8, _⟩ => ⟨S_, .f32⟩
  | .hbm, ⟨9, _⟩ => ⟨S2x8192, .f32⟩
  | .hbm, ⟨10, _⟩ => ⟨S2x8192x1, .f32⟩
  | .hbm, ⟨11, _⟩ => ⟨S_, .f32⟩
  | .hbm, ⟨12, _⟩ => ⟨S2x8192x1, .f32⟩
  | .hbm, ⟨13, _⟩ => ⟨S2x8192x1, .f32⟩
  | .hbm, ⟨14, _⟩ => ⟨S_, .f32⟩
  | .hbm, ⟨15, _⟩ => ⟨S2x8192x1, .f32⟩
  | .hbm, ⟨16, _⟩ => ⟨S2x8192x1, .f32⟩
  | .hbm, ⟨17, _⟩ => ⟨S2x8192x1, .f32⟩
  | .hbm, ⟨18, _⟩ => ⟨S2x8192x1024, .f32⟩
  | .hbm, ⟨19, _⟩ => ⟨S2x8192x1024, .f32⟩
  | .hbm, ⟨20, _⟩ => ⟨S1x1x1024, .f32⟩
  | .hbm, ⟨21, _⟩ => ⟨S2x8192x1024, .f32⟩
  | .hbm, ⟨22, _⟩ => ⟨S2x8192x1024, .f32⟩
  | .hbm, ⟨23, _⟩ => ⟨S_, .f32⟩
  | .hbm, ⟨24, _⟩ => ⟨S2x1x1024, .f32⟩
  | .hbm, ⟨25, _⟩ => ⟨S2x1x1024, .f32⟩
  | .hbm, ⟨26, _⟩ => ⟨S2x8192x1024, .f32⟩
  | .hbm, ⟨27, _⟩ => ⟨S2x8192x1024, .f32⟩
  | .hbm, ⟨28, _⟩ => ⟨S2x8192x1024, .f32⟩
  | .hbm, ⟨29, _⟩ => ⟨S2x8192x1024, .f32⟩
  | .hbm, ⟨30, _⟩ => ⟨S2x8192x10824, .f32⟩
  | .hbm, ⟨31, _⟩ => ⟨S2x8192x6144, .f32⟩
  | .hbm, ⟨32, _⟩ => ⟨S2x8192x1536, .f32⟩
  | .hbm, ⟨33, _⟩ => ⟨S2x8192x72, .f32⟩
  | .hbm, ⟨34, _⟩ => ⟨S2x8192x3072, .f32⟩
  | .hbm, ⟨35, _⟩ => ⟨S_, .f32⟩
  | .hbm, ⟨36, _⟩ => ⟨S2x8192x56, .f32⟩
  | .hbm, ⟨37, _⟩ => ⟨S2x8192x10880, .f32⟩
  | .hbm, ⟨38, _⟩ => ⟨S16384x10880, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst_2 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_cst_3 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩

abbrev nD : Nat := 1
abbrev τ : Topo := Topo.v7x

variable {F : FTy → Type} [FloatOps F]
-- ==== Mixout.lean ====
abbrev S16384x1024 : Shape := ⟨2, ![16384, 1024]⟩
abbrev S16384x10880 : Shape := ⟨2, ![16384, 10880]⟩
abbrev S2x1x1024 : Shape := ⟨3, ![2, 1, 1024]⟩
abbrev S1024x1024 : Shape := ⟨2, ![1024, 1024]⟩
abbrev S512x1024 : Shape := ⟨2, ![512, 1024]⟩
abbrev S1x1x1024 : Shape := ⟨3, ![1, 1, 1024]⟩
abbrev S1x1024 : Shape := ⟨2, ![1, 1024]⟩

abbrev nBuf : Space → Nat
  | .hbm => 15
  | .vmem => 22
  | .smem => 0
  | _ => 0

abbrev bufTy : (tb : Table) → Fin (tcTables nBuf tb) → BufTy
  | .hbm, ⟨0, _⟩ => ⟨S16384x1024, .f32⟩
  | .hbm, ⟨1, _⟩ => ⟨S16384x1024, .bf16⟩
  | .hbm, ⟨2, _⟩ => ⟨S16384x1024, .bf16⟩
  | .hbm, ⟨3, _⟩ => ⟨S16384x1024, .bf16⟩
  | .hbm, ⟨4, _⟩ => ⟨S16384x10880, .f32⟩
  | .hbm, ⟨5, _⟩ => ⟨S2x1x1024, .f32⟩
  | .hbm, ⟨6, _⟩ => ⟨S1024x1024, .f32⟩
  | .hbm, ⟨7, _⟩ => ⟨S1024x1024, .f32⟩
  | .hbm, ⟨8, _⟩ => ⟨S1024x1024, .f32⟩
  | .hbm, ⟨9, _⟩ => ⟨S1024x1024, .f32⟩
  | .hbm, ⟨10, _⟩ => ⟨S1024x1024, .bf16⟩
  | .hbm, ⟨11, _⟩ => ⟨S1024x1024, .bf16⟩
  | .hbm, ⟨12, _⟩ => ⟨S1024x1024, .bf16⟩
  | .hbm, ⟨13, _⟩ => ⟨S1024x1024, .bf16⟩
  | .hbm, ⟨14, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .bf16⟩
  | .local _ .vmem, ⟨3, _⟩ => ⟨S512x1024, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .bf16⟩
  | .local _ .vmem, ⟨7, _⟩ => ⟨S512x1024, .bf16⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .f32⟩
  | .local _ .vmem, ⟨12, _⟩ => ⟨S512x1024, .f32⟩
  | .local _ .vmem, ⟨13, _⟩ => ⟨S512x1024, .f32⟩
  | .local _ .vmem, ⟨14, _⟩ => ⟨S1x1x1024, .f32⟩
  | .local _ .vmem, ⟨15, _⟩ => ⟨S1x1x1024, .f32⟩
  | .local _ .vmem, ⟨16, _⟩ => ⟨S1024x1024, .bf16⟩
  | .local _ .vmem, ⟨17, _⟩ => ⟨S1024x1024, .bf16⟩
  | .local _ .vmem, ⟨18, _⟩ => ⟨S1024x1024, .bf16⟩
  | .local _ .vmem, ⟨19, _⟩ => ⟨S1024x1024, .bf16⟩
  | .local _ .vmem, ⟨20, _⟩ => ⟨S512x1024, .f32⟩
  | .local _ .vmem, ⟨21, _⟩ => ⟨S512x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg9_0 : Ref sig .tc := ⟨.vmem, 17, rfl⟩
abbrev cc0_stg10_0 : Ref sig .tc := ⟨.vmem, 18, rfl⟩
abbrev cc0_stg11_0 : Ref sig .tc := ⟨.vmem, 19, rfl⟩
abbrev cc0_stg12_0 : Ref sig .tc := ⟨.vmem, 20, rfl⟩
abbrev cc0_stg12_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem9_0 : DmaSem sig := 17
abbrev cc0_sem10_0 : DmaSem sig := 18
abbrev cc0_sem11_0 : DmaSem sig := 19
abbrev cc0_sem12_0 : DmaSem sig := 20
abbrev cc0_sem12_1 : DmaSem sig := 21

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c6_i32 : BitVec 32 := 6#32
  let c0_i32 : BitVec 32 := 0#32
  ![arg0.toNat, c6_i32.toNat]

def cc0_transform_5 (i : grid0.Coords) : Fin 2 → Nat :=
  let arg0 : BitVec 32 := BitVec.ofNat 32 (i 0).val
  let c7_i32 : BitVec 32 := 7#32
  let c0_i32 : BitVec 32 := 0#32
  ![arg0.toNat, c7_i32.toNat]

def cc0_transform_6 (i : grid0.Coords) : Fin 2 → Nat :=
  let arg0 : BitVec 32 := BitVec.ofNat 32 (i 0).val
  let c8_i32 : BitVec 32 := 8#32
  let c0_i32 : BitVec 32 := 0#32
  ![arg0.toNat, c8_i32.toNat]

def cc0_transform_7 (i : grid0.Coords) : Fin 3 → Nat :=
  let arg0 : BitVec 32 := BitVec.ofNat 32 (i 0).val
  let c512_i32 : BitVec 32 := 512#32
  let v0 : BitVec 32 := Scalar.muli arg0 c512_i32
  let c8192_i32 : BitVec 32 := 8192#32
  let v1 : BitVec 32 := Scalar.divsi v0 c8192_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c8192_i32 c0_i32_1
  let v8 : BitVec 32 := Scalar.extui v7
  let c0_i32_2 : BitVec 32 := 0#32
  let v9 : BitVec 1 := Scalar.cmpi .slt c8192_i32 c0_i32_2
  let v10 : BitVec 32 := Scalar.extui v9
  let v11 : BitVec 32 := Scalar.subi v8 v10
  let v12 : BitVec 1 := Scalar.cmpi .ne v6 v11
  let v13 : BitVec 32 := Scalar.remsi v0 c8192_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c0_i32_4 : BitVec 32 := 0#32
  let c0_i32_5 : BitVec 32 := 0#32
  let c0_i32_6 : BitVec 32 := 0#32
  ![v17.toNat, c0_i32_4.toNat, c0_i32_5.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x1x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1024x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1024x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1024x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1024x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S512x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]
-- ==== MixoutRefIdeal.lean ====
abbrev S16384x1024 : Shape := ⟨2, ![16384, 1024]⟩
abbrev S16384x10880 : Shape := ⟨2, ![16384, 10880]⟩
abbrev S2x1x1024 : Shape := ⟨3, ![2, 1, 1024]⟩
abbrev S1024x1024 : Shape := ⟨2, ![1024, 1024]⟩
abbrev S16384x3072 : Shape := ⟨2, ![16384, 3072]⟩
abbrev S_ : Shape := ⟨0, ![]⟩
abbrev S2x8192x3x1024 : Shape := ⟨4, ![2, 8192, 3, 1024]⟩
abbrev S2x8192x1024 : Shape := ⟨3, ![2, 8192, 1024]⟩
abbrev S2x8192x1x1024 : Shape := ⟨4, ![2, 8192, 1, 1024]⟩

abbrev nBuf : Space → Nat
  | .hbm => 46
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x1024, .bf16⟩
  | .hbm, ⟨2, _⟩ => ⟨S16384x1024, .bf16⟩
  | .hbm, ⟨3, _⟩ => ⟨S16384x1024, .bf16⟩
  | .hbm, ⟨4, _⟩ => ⟨S16384x10880, .f32⟩
  | .hbm, ⟨5, _⟩ => ⟨S2x1x1024, .f32⟩
  | .hbm, ⟨6, _⟩ => ⟨S1024x1024, .f32⟩
  | .hbm, ⟨7, _⟩ => ⟨S1024x1024, .f32⟩
  | .hbm, ⟨8, _⟩ => ⟨S1024x1024, .f32⟩
  | .hbm, ⟨9, _⟩ => ⟨S1024x1024, .f32⟩
  | .hbm, ⟨10, _⟩ => ⟨S16384x3072, .f32⟩
  | .hbm, ⟨11, _⟩ => ⟨S16384x3072, .f32⟩
  | .hbm, ⟨12, _⟩ => ⟨S16384x3072, .f32⟩
  | .hbm, ⟨13, _⟩ => ⟨S_, .f32⟩
  | .hbm, ⟨14, _⟩ => ⟨S16384x3072, .f32⟩
  | .hbm, ⟨15, _⟩ => ⟨S16384x3072, .f32⟩
  | .hbm, ⟨16, _⟩ => ⟨S_, .f32⟩
  | .hbm, ⟨17, _⟩ => ⟨S16384x3072, .f32⟩
  | .hbm, ⟨18, _⟩ => ⟨S16384x3072, .f32⟩
  | .hbm, ⟨19, _⟩ => ⟨S2x8192x3x1024, .f32⟩
  | .hbm, ⟨20, _⟩ => ⟨S16384x1024, .f32⟩
  | .hbm, ⟨21, _⟩ => ⟨S2x8192x1024, .f32⟩
  | .hbm, ⟨22, _⟩ => ⟨S2x8192x1024, .f32⟩
  | .hbm, ⟨23, _⟩ => ⟨S16384x1024, .f32⟩
  | .hbm, ⟨24, _⟩ => ⟨S2x8192x1024, .f32⟩
  | .hbm, ⟨25, _⟩ => ⟨S2x8192x1024, .f32⟩
  | .hbm, ⟨26, _⟩ => ⟨S16384x1024, .f32⟩
  | .hbm, ⟨27, _⟩ => ⟨S2x8192x1024, .f32⟩
  | .hbm, ⟨28, _⟩ => ⟨S2x8192x1024, .f32⟩
  | .hbm, ⟨29, _⟩ => ⟨S2x8192x1x1024, .f32⟩
  | .hbm, ⟨30, _⟩ => ⟨S2x8192x1024, .f32⟩
  | .hbm, ⟨31, _⟩ => ⟨S2x8192x1024, .f32⟩
  | .hbm, ⟨32, _⟩ => ⟨S2x8192x1x1024, .f32⟩
  | .hbm, ⟨33, _⟩ => ⟨S2x8192x1024, .f32⟩
  | .hbm, ⟨34, _⟩ => ⟨S2x8192x1024, .f32⟩
  | .hbm, ⟨35, _⟩ => ⟨S2x8192x1024, .f32⟩
  | .hbm, ⟨36, _⟩ => ⟨S2x8192x1x1024, .f32⟩
  | .hbm, ⟨37, _⟩ => ⟨S2x8192x1024, .f32⟩
  | .hbm, ⟨38, _⟩ => ⟨S2x8192x1024, .f32⟩
  | .hbm, ⟨39, _⟩ => ⟨S2x8192x1024, .f32⟩
  | .hbm, ⟨40, _⟩ => ⟨S2x8192x1024, .f32⟩
  | .hbm, ⟨41, _⟩ => ⟨S2x8192x1024, .f32⟩
  | .hbm, ⟨42, _⟩ => ⟨S2x8192x1024, .f32⟩
  | .hbm, ⟨43, _⟩ => ⟨S2x8192x1024, .f32⟩
  | .hbm, ⟨44, _⟩ => ⟨S2x8192x1024, .f32⟩
  | .hbm, ⟨45, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_cst : Ref sig .tc := ⟨.hbm, 13, rfl⟩
abbrev main_v3 : Ref sig .tc := ⟨.hbm, 14, rfl⟩
abbrev main_v4 : Ref sig .tc := ⟨.hbm, 15, rfl⟩
abbrev main_cst_0 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩

abbrev nD : Nat := 1
abbrev τ : Topo := Topo.v7x

variable {F : FTy → Type} [FloatOps F]
-- ==== FfnSample.lean ====
abbrev S32x1024 : Shape := ⟨2, ![32, 1024]⟩
abbrev S1x32x1024 : Shape := ⟨3, ![1, 32, 1024]⟩
abbrev S1x1024 : Shape := ⟨2, ![1, 1024]⟩
abbrev S1024x5632 : Shape := ⟨2, ![1024, 5632]⟩
abbrev S2816x1024 : Shape := ⟨2, ![2816, 1024]⟩
abbrev S32 : Shape := ⟨1, ![32]⟩
abbrev S32x1 : Shape := ⟨2, ![32, 1]⟩
abbrev S1024x256 : Shape := ⟨2, ![1024, 256]⟩
abbrev S32x256 : Shape := ⟨2, ![32, 256]⟩
abbrev S256x1024 : Shape := ⟨2, ![256, 1024]⟩

abbrev nBuf : Space → Nat
  | .hbm => 10
  | .vmem => 9
  | .smem => 0
  | _ => 0

abbrev bufTy : (tb : Table) → Fin (tcTables nBuf tb) → BufTy
  | .hbm, ⟨0, _⟩ => ⟨S32x1024, .f32⟩
  | .hbm, ⟨1, _⟩ => ⟨S1x32x1024, .f32⟩
  | .hbm, ⟨2, _⟩ => ⟨S1x32x1024, .f32⟩
  | .hbm, ⟨3, _⟩ => ⟨S1x32x1024, .f32⟩
  | .hbm, ⟨4, _⟩ => ⟨S1x1024, .f32⟩
  | .hbm, ⟨5, _⟩ => ⟨S1024x5632, .f32⟩
  | .hbm, ⟨6, _⟩ => ⟨S2816x1024, .f32⟩
  | .hbm, ⟨7, _⟩ => ⟨S1024x5632, .bf16⟩
  | .hbm, ⟨8, _⟩ => ⟨S2816x1024, .bf16⟩
  | .hbm, ⟨9, _⟩ => ⟨S32x1024, .f32⟩
  | .local _ .vmem, ⟨0, _⟩ => ⟨S32x1024, .f32⟩
  | .local _ .vmem, ⟨1, _⟩ => ⟨S1x32x1024, .f32⟩
  | .local _ .vmem, ⟨2, _⟩ => ⟨S1x32x1024, .f32⟩
  | .local _ .vmem, ⟨3, _⟩ => ⟨S1x32x1024, .f32⟩
  | .local _ .vmem, ⟨4, _⟩ => ⟨S1x1024, .f32⟩
  | .local _ .vmem, ⟨5, _⟩ => ⟨S1024x5632, .bf16⟩
  | .local _ .vmem, ⟨6, _⟩ => ⟨S2816x1024, .bf16⟩
  | .local _ .vmem, ⟨7, _⟩ => ⟨S32x1024, .f32⟩
  | .local _ .vmem, ⟨8, _⟩ => ⟨S32x1024, .f32⟩
  | _, _ => ⟨S32x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_scratch0 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c32_i32 : BitVec 32 := 32#32
  let v0 : BitVec 32 := Scalar.muli arg0 c32_i32
  let c32_i32_0 : BitVec 32 := 32#32
  let v1 : BitVec 32 := Scalar.divsi v0 c32_i32_0
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c0_i32_2 : BitVec 32 := 0#32
  let v7 : BitVec 1 := Scalar.cmpi .sgt c32_i32_0 c0_i32_2
  let v8 : BitVec 32 := Scalar.extui v7
  let c0_i32_3 : BitVec 32 := 0#32
  let v9 : BitVec 1 := Scalar.cmpi .slt c32_i32_0 c0_i32_3
  let v10 : BitVec 32 := Scalar.extui v9
  let v11 : BitVec 32 := Scalar.subi v8 v10
  let v12 : BitVec 1 := Scalar.cmpi .ne v6 v11
  let v13 : BitVec 32 := Scalar.remsi v0 c32_i32_0
  let c0_i32_4 : BitVec 32 := 0#32
  let v14 : BitVec 1 := Scalar.cmpi .ne v13 c0_i32_4
  let v15 : BitVec 1 := Scalar.andi v12 v14
  let c1_i32 : BitVec 32 := 1#32
  let v16 : BitVec 32 := Scalar.subi v1 c1_i32
  let v17 : BitVec 32 := Scalar.select v15 v16 v1
  let c0_i32_5 : BitVec 32 := 0#32
  let c0_i32_6 : BitVec 32 := 0#32
  let c0_i32_7 : BitVec 32 := 0#32
  ![v17.toNat, c0_i32_5.toNat, c0_i32_6.toNat]

def cc0_transform_2 (i : grid0.Coords) : Fin 3 → Nat :=
  let arg0 : BitVec 32 := BitVec.ofNat 32 (i 0).val
  let c32_i32 : BitVec 32 := 32#32
  let v0 : BitVec 32 := Scalar.muli arg0 c32_i32
  let c32_i32_0 : BitVec 32 := 32#32
  let v1 : BitVec 32 := Scalar.divsi v0 c32_i32_0
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c0_i32_2 : BitVec 32 := 0#32
  let v7 : BitVec 1 := Scalar.cmpi .sgt c32_i32_0 c0_i32_2
  let v8 : BitVec 32 := Scalar.extui v7
  let c0_i32_3 : BitVec 32 := 0#32
  let v9 : BitVec 1 := Scalar.cmpi .slt c32_i32_0 c0_i32_3
  let v10 : BitVec 32 := Scalar.extui v9
  let v11 : BitVec 32 := Scalar.subi v8 v10
  let v12 : BitVec 1 := Scalar.cmpi .ne v6 v11
  let v13 : BitVec 32 := Scalar.remsi v0 c32_i32_0
  let c0_i32_4 : BitVec 32 := 0#32
  let v14 : BitVec 1 := Scalar.cmpi .ne v13 c0_i32_4
  let v15 : BitVec 1 := Scalar.andi v12 v14
  let c1_i32 : BitVec 32 := 1#32
  let v16 : BitVec 32 := Scalar.subi v1 c1_i32
  let v17 : BitVec 32 := Scalar.select v15 v16 v1
  let c0_i32_5 : BitVec 32 := 0#32
  let c0_i32_6 : BitVec 32 := 0#32
  let c0_i32_7 : BitVec 32 := 0#32
  ![v17.toNat, c0_i32_5.toNat, c0_i32_6.toNat]

def cc0_transform_3 (i : grid0.Coords) : Fin 3 → Nat :=
  let arg0 : BitVec 32 := BitVec.ofNat 32 (i 0).val
  let c32_i32 : BitVec 32 := 32#32
  let v0 : BitVec 32 := Scalar.muli arg0 c32_i32
  let c32_i32_0 : BitVec 32 := 32#32
  let v1 : BitVec 32 := Scalar.divsi v0 c32_i32_0
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c0_i32_2 : BitVec 32 := 0#32
  let v7 : BitVec 1 := Scalar.cmpi .sgt c32_i32_0 c0_i32_2
  let v8 : BitVec 32 := Scalar.extui v7
  let c0_i32_3 : BitVec 32 := 0#32
  let v9 : BitVec 1 := Scalar.cmpi .slt c32_i32_0 c0_i32_3
  let v10 : BitVec 32 := Scalar.extui v9
  let v11 : BitVec 32 := Scalar.subi v8 v10
  let v12 : BitVec 1 := Scalar.cmpi .ne v6 v11
  let v13 : BitVec 32 := Scalar.remsi v0 c32_i32_0
  let c0_i32_4 : BitVec 32 := 0#32
  let v14 : BitVec 1 := Scalar.cmpi .ne v13 c0_i32_4
  let v15 : BitVec 1 := Scalar.andi v12 v14
  let c1_i32 : BitVec 32 := 1#32
  let v16 : BitVec 32 := Scalar.subi v1 c1_i32
  let v17 : BitVec 32 := Scalar.select v15 v16 v1
  let c0_i32_5 : BitVec 32 := 0#32
  let c0_i32_6 : BitVec 32 := 0#32
  let c0_i32_7 : BitVec 32 := 0#32
  ![v17.toNat, c0_i32_5.toNat, c0_i32_6.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S32x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x32x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x32x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x32x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x5632 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S2816x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S32x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== FfnSampleRefIdeal.lean ====
abbrev S32x1024 : Shape := ⟨2, ![32, 1024]⟩
abbrev S1x32x1024 : Shape := ⟨3, ![1, 32, 1024]⟩
abbrev S1x1024 : Shape := ⟨2, ![1, 1024]⟩
abbrev S1024x5632 : Shape := ⟨2, ![1024, 5632]⟩
abbrev S2816x1024 : Shape := ⟨2, ![2816, 1024]⟩
abbrev S32x1x1024 : Shape := ⟨3, ![32, 1, 1024]⟩
abbrev S_ : Shape := ⟨0, ![]⟩
abbrev S1024 : Shape := ⟨1, ![1024]⟩
abbrev S32x1 : Shape := ⟨2, ![32, 1]⟩
abbrev S32x1x1 : Shape := ⟨3, ![32, 1, 1]⟩
abbrev S1x1x1024 : Shape := ⟨3, ![1, 1, 1024]⟩
abbrev S32x1x5632 : Shape := ⟨3, ![32, 1, 5632]⟩
abbrev S32x1x2816 : Shape := ⟨3, ![32, 1, 2816]⟩

abbrev nBuf : Space → Nat
  | .hbm => 53
  | .vmem => 0
  | .smem => 0
  | _ => 0

abbrev bufTy : (tb : Table) → Fin (tcTables nBuf tb) → BufTy
  | .hbm, ⟨0, _⟩ => ⟨S32x1024, .f32⟩
  | .hbm, ⟨1, _⟩ => ⟨S1x32x1024, .f32⟩
  | .hbm, ⟨2, _⟩ => ⟨S1x32x1024, .f32⟩
  | .hbm, ⟨3, _⟩ => ⟨S1x32x1024, .f32⟩
  | .hbm, ⟨4, _⟩ => ⟨S1x1024, .f32⟩
  | .hbm, ⟨5, _⟩ => ⟨S1024x5632, .f32⟩
  | .hbm, ⟨6, _⟩ => ⟨S2816x1024, .f32⟩
  | .hbm, ⟨7, _⟩ => ⟨S32x1x1024, .f32⟩
  | .hbm, ⟨8, _⟩ => ⟨S32x1x1024, .f32⟩
  | .hbm, ⟨9, _⟩ => ⟨S32x1x1024, .f32⟩
  | .hbm, ⟨10, _⟩ => ⟨S32x1x1024, .f32⟩
  | .hbm, ⟨11, _⟩ => ⟨S_, .f32⟩
  | .hbm, ⟨12, _⟩ => ⟨S32x1x1024, .f32⟩
  | .hbm, ⟨13, _⟩ => ⟨S32x1x1024, .f32⟩
  | .hbm, ⟨14, _⟩ => ⟨S1024, .f32⟩
  | .hbm, ⟨15, _⟩ => ⟨S32x1x1024, .f32⟩
  | .hbm, ⟨16, _⟩ => ⟨S_, .f32⟩
  | .hbm, ⟨17, _⟩ => ⟨S32x1, .f32⟩
  | .hbm, ⟨18, _⟩ => ⟨S32x1x1, .f32⟩
  | .hbm, ⟨19, _⟩ => ⟨S_, .f32⟩
  | .hbm, ⟨20, _⟩ => ⟨S32x1x1, .f32⟩
  | .hbm, ⟨21, _⟩ => ⟨S32x1x1, .f32⟩
  | .hbm, ⟨22, _⟩ => ⟨S_, .f32⟩
  | .hbm, ⟨23, _⟩ => ⟨S32x1x1, .f32⟩
  | .hbm, ⟨24, _⟩ => ⟨S32x1x1, .f32⟩
  | .hbm, ⟨25, _⟩ => ⟨S32x1x1, .f32⟩
  | .hbm, ⟨26, _⟩ => ⟨S32x1x1024, .f32⟩
  | .hbm, ⟨27, _⟩ => ⟨S32x1x1024, .f32⟩
  | .hbm, ⟨28, _⟩ => ⟨S1x1x1024, .f32⟩
  | .hbm, ⟨29, _⟩ => ⟨S32x1x1024, .f32⟩
  | .hbm, ⟨30, _⟩ => ⟨S32x1x1024, .f32⟩
  | .hbm, ⟨31, _⟩ => ⟨S_, .f32⟩
  | .hbm, ⟨32, _⟩ => ⟨S32x1x1024, .f32⟩
  | .hbm, ⟨33, _⟩ => ⟨S32x1x1024, .f32⟩
  | .hbm, ⟨34, _⟩ => ⟨S32x1x1024, .f32⟩
  | .hbm, ⟨35, _⟩ => ⟨S32x1x1024, .f32⟩
  | .hbm, ⟨36, _⟩ => ⟨S32x1x5632, .f32⟩
  | .hbm, ⟨37, _⟩ => ⟨S32x1x2816, .f32⟩
  | .hbm, ⟨38, _⟩ => ⟨S32x1x2816, .f32⟩
  | .hbm, ⟨39, _⟩ => ⟨S32x1x2816, .f32⟩
  | .hbm, ⟨40, _⟩ => ⟨S32x1x2816, .f32⟩
  | .hbm, ⟨41, _⟩ => ⟨S_, .f32⟩
  | .hbm, ⟨42, _⟩ => ⟨S32x1x2816, .f32⟩
  | .hbm, ⟨43, _⟩ => ⟨S32x1x2816, .f32⟩
  | .hbm, ⟨44, _⟩ => ⟨S_, .f32⟩
  | .hbm, ⟨45, _⟩ => ⟨S32x1x2816, .f32⟩
  | .hbm, ⟨46, _⟩ => ⟨S32x1x2816, .f32⟩
  | .hbm, ⟨47, _⟩ => ⟨S32x1x2816, .f32⟩
  | .hbm, ⟨48, _⟩ => ⟨S32x1x2816, .f32⟩
  | .hbm, ⟨49, _⟩ => ⟨S32x1x1024, .f32⟩
  | .hbm, ⟨50, _⟩ => ⟨S32x1x1024, .f32⟩
  | .hbm, ⟨51, _⟩ => ⟨S32x1x1024, .f32⟩
  | .hbm, ⟨52, _⟩ => ⟨S32x1024, .f32⟩
  | _, _ => ⟨S32x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst_0 : Ref sig .tc := ⟨.hbm, 16, rfl⟩
abbrev main_v8 : Ref sig .tc := ⟨.hbm, 17, rfl⟩
abbrev main_v9 : Ref sig .tc := ⟨.hbm, 18, rfl⟩
abbrev main_cst_1 : Ref sig .tc := ⟨.hbm, 19, rfl⟩
abbrev main_v10 : Ref sig .tc := ⟨.hbm, 20, rfl⟩
abbrev main_v11 : Ref sig .tc := ⟨.hbm, 21, rfl⟩
abbrev main_cst_2 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst_3 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_call0_v0 : Ref sig .tc := ⟨.hbm, 39, rfl⟩
abbrev main_call0_v1 : Ref sig .tc := ⟨.hbm, 40, rfl⟩
abbrev main_call0_cst : Ref sig .tc := ⟨.hbm, 41, rfl⟩
abbrev main_call0_v2 : Ref sig .tc := ⟨.hbm, 42, rfl⟩
abbrev main_call0_v3 : Ref sig .tc := ⟨.hbm, 43, rfl⟩
abbrev main_call0_cst_0 : Ref sig .tc := ⟨.hbm, 44, rfl⟩
abbrev main_call0_v4 : Ref sig .tc := ⟨.hbm, 45, rfl⟩
abbrev main_call0_v5 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩

abbrev nD : Nat := 1
abbrev τ : Topo := Topo.v7x

variable {F : FTy → Type} [FloatOps F]
-- ==== RetSample.lean ====
abbrev S32x1x10880 : Shape := ⟨3, ![32, 1, 10880]⟩
abbrev S2x32x4x128x256 : Shape := ⟨5, ![2, 32, 4, 128, 256]⟩
abbrev S128 : Shape := ⟨1, ![128]⟩
abbrev S_ : Shape := ⟨0, ![]⟩
abbrev S32 : Shape := ⟨1, ![32]⟩
abbrev S64 : Shape := ⟨1, ![64]⟩
abbrev S32x1 : Shape := ⟨2, ![32, 1]⟩
abbrev S1x64 : Shape := ⟨2, ![1, 64]⟩
abbrev S32x64 : Shape := ⟨2, ![32, 64]⟩
abbrev S128x1 : Shape := ⟨2, ![128, 1]⟩
abbrev S32x128 : Shape := ⟨2, ![32, 128]⟩
abbrev S4 : Shape := ⟨1, ![4]⟩
abbrev S4x1 : Shape := ⟨2, ![4, 1]⟩
abbrev S4x128 : Shape := ⟨2, ![4, 128]⟩
abbrev S1x128 : Shape := ⟨2, ![1, 128]⟩
abbrev S32x1x1024 : Shape := ⟨3, ![32, 1, 1024]⟩
abbrev S32x4x128x256 : Shape := ⟨4, ![32, 4, 128, 256]⟩
abbrev S1x1x512 : Shape := ⟨3, ![1, 1, 512]⟩
abbrev S1x1x1024 : Shape := ⟨3, ![1, 1, 1024]⟩
abbrev S1x1x4x128x256 : Shape := ⟨5, ![1, 1, 4, 128, 256]⟩
abbrev S1x4x128x256 : Shape := ⟨4, ![1, 4, 128, 256]⟩
abbrev S128x128 : Shape := ⟨2, ![128, 128]⟩
abbrev S1x1x128 : Shape := ⟨3, ![1, 1, 128]⟩
abbrev S1x1x256 : Shape := ⟨3, ![1, 1, 256]⟩
abbrev S1x256 : Shape := ⟨2, ![1, 256]⟩
abbrev S1x1x1x128x256 : Shape := ⟨5, ![1, 1, 1, 128, 256]⟩
abbrev S128x256 : Shape := ⟨2, ![128, 256]⟩
abbrev S1 : Shape := ⟨1, ![1]⟩
abbrev S1x1 : Shape := ⟨2, ![1, 1]⟩
abbrev S256 : Shape := ⟨1, ![256]⟩
abbrev S1x1x128x256 : Shape := ⟨4, ![1, 1, 128, 256]⟩

abbrev nBuf : Space → Nat
  | .hbm => 74
  | .vmem => 17
  | .smem => 0
  | _ => 0

abbrev bufTy : (tb : Table) → Fin (tcTables nBuf tb) → BufTy
  | .hbm, ⟨0, _⟩ => ⟨S32x1x10880, .f32⟩
  | .hbm, ⟨1, _⟩ => ⟨S2x32x4x128x256, .f32⟩
  | .hbm, ⟨2, _⟩ => ⟨S128, .i32⟩
  | .hbm, ⟨3, _⟩ => ⟨S128, .i1⟩
  | .hbm, ⟨4, _⟩ => ⟨S128, .i1⟩
  | .hbm, ⟨5, _⟩ => ⟨S128, .i1⟩
  | .hbm, ⟨6, _⟩ => ⟨S128, .i1⟩
  | .hbm, ⟨7, _⟩ => ⟨S128, .i1⟩
  | .hbm, ⟨8, _⟩ => ⟨S_, .i32⟩
  | .hbm, ⟨9, _⟩ => ⟨S32, .i32⟩
  | .hbm, ⟨10, _⟩ => ⟨S64, .f32⟩
  | .hbm, ⟨11, _⟩ => ⟨S_, .f32⟩
  | .hbm, ⟨12, _⟩ => ⟨S64, .f32⟩
  | .hbm, ⟨13, _⟩ => ⟨S64, .f32⟩
  | .hbm, ⟨14, _⟩ => ⟨S_, .f32⟩
  | .hbm, ⟨15, _⟩ => ⟨S64, .f32⟩
  | .hbm, ⟨16, _⟩ => ⟨S64, .f32⟩
  | .hbm, ⟨17, _⟩ => ⟨S_, .f32⟩
  | .hbm, ⟨18, _⟩ => ⟨S64, .f32⟩
  | .hbm, ⟨19, _⟩ => ⟨S64, .f32⟩
  | .hbm, ⟨20, _⟩ => ⟨S32, .f32⟩
  | .hbm, ⟨21, _⟩ => ⟨S32x1, .f32⟩
  | .hbm, ⟨22, _⟩ => ⟨S1x64, .f32⟩
  | .hbm, ⟨23, _⟩ => ⟨S32x64, .f32⟩
  | .hbm, ⟨24, _⟩ => ⟨S32x64, .f32⟩
  | .hbm, ⟨25, _⟩ => ⟨S32x64, .f32⟩
  | .hbm, ⟨26, _⟩ => ⟨S32x64, .f32⟩
  | .hbm, ⟨27, _⟩ => ⟨S_, .i32⟩
  | .hbm, ⟨28, _⟩ => ⟨S128, .i32⟩
  | .hbm, ⟨29, _⟩ => ⟨S128, .i32⟩
  | .hbm, ⟨30, _⟩ => ⟨S128, .i32⟩
  | .hbm, ⟨31, _⟩ => ⟨S128x1, .i32⟩
  | .hbm, ⟨32, _⟩ => ⟨S32x128, .f32⟩
  | .hbm, ⟨33, _⟩ => ⟨S_, .f32⟩
  | .hbm, ⟨34, _⟩ => ⟨S_, .f32⟩
  | .hbm, ⟨35, _⟩ => ⟨S32x128, .i1⟩
  | .hbm, ⟨36, _⟩ => ⟨S32x128, .f32⟩
  | .hbm, ⟨37, _⟩ => ⟨S32x128, .f32⟩
  | .hbm, ⟨38, _⟩ => ⟨S32x64, .f32⟩
  | .hbm, ⟨39, _⟩ => ⟨S_, .i32⟩
  | .hbm, ⟨40, _⟩ => ⟨S128, .i32⟩
  | .hbm, ⟨41, _⟩ => ⟨S128, .i32⟩
  | .hbm, ⟨42, _⟩ => ⟨S128, .i32⟩
  | .hbm, ⟨43, _⟩ => ⟨S128x1, .i32⟩
  | .hbm, ⟨44, _⟩ => ⟨S32x128, .f32⟩
  | .hbm, ⟨45, _⟩ => ⟨S32x128, .f32⟩
  | .hbm, ⟨46, _⟩ => ⟨S_, .f32⟩
  | .hbm, ⟨47, _⟩ => ⟨S_, .f32⟩
  | .hbm, ⟨48, _⟩ => ⟨S32x128, .i1⟩
  | .hbm, ⟨49, _⟩ => ⟨S32x128, .f32⟩
  | .hbm, ⟨50, _⟩ => ⟨S32x128, .f32⟩
  | .hbm, ⟨51, _⟩ => ⟨S_, .f32⟩
  | .hbm, ⟨52, _⟩ => ⟨S_, .f32⟩
  | .hbm, ⟨53, _⟩ => ⟨S32x128, .i1⟩
  | .hbm, ⟨54, _⟩ => ⟨S32x128, .f32⟩
  | .hbm, ⟨55, _⟩ => ⟨S32x128, .f32⟩
  | .hbm, ⟨56, _⟩ => ⟨S4, .f32⟩
  | .hbm, ⟨57, _⟩ => ⟨S_, .f32⟩
  | .hbm, ⟨58, _⟩ => ⟨S4, .f32⟩
  | .hbm, ⟨59, _⟩ => ⟨S4, .f32⟩
  | .hbm, ⟨60, _⟩ => ⟨S_, .f32⟩
  | .hbm, ⟨61, _⟩ => ⟨S4, .f32⟩
  | .hbm, ⟨62, _⟩ => ⟨S4, .f32⟩
  | .hbm, ⟨63, _⟩ => ⟨S_, .f32⟩
  | .hbm, ⟨64, _⟩ => ⟨S4, .f32⟩
  | .hbm, ⟨65, _⟩ => ⟨S4, .f32⟩
  | .hbm, ⟨66, _⟩ => ⟨S4, .f32⟩
  | .hbm, ⟨67, _⟩ => ⟨S4x1, .f32⟩
  | .hbm, ⟨68, _⟩ => ⟨S4x128, .f32⟩
  | .hbm, ⟨69, _⟩ => ⟨S1x128, .f32⟩
  | .hbm, ⟨70, _⟩ => ⟨S32x128, .f32⟩
  | .hbm, ⟨71, _⟩ => ⟨S1x128, .f32⟩
  | .hbm, ⟨72, _⟩ => ⟨S32x1x1024, .bf16⟩
  | .hbm, ⟨73, _⟩ => ⟨S32x4x128x256, .f32⟩
  | .local _ .vmem, ⟨0, _⟩ => ⟨S1x1x512, .f32⟩
  | .local _ .vmem, ⟨1, _⟩ => ⟨S1x1x512, .f32⟩
  | .local _ .vmem, ⟨2, _⟩ => ⟨S1x1x512, .f32⟩
  | .local _ .vmem, ⟨3, _⟩ => ⟨S1x1x512, .f32⟩
  | .local _ .vmem, ⟨4, _⟩ => ⟨S1x1x1024, .f32⟩
  | .local _ .vmem, ⟨5, _⟩ => ⟨S1x1x1024, .f32⟩
  | .local _ .vmem, ⟨6, _⟩ => ⟨S1x1x1024, .f32⟩
  | .local _ .vmem, ⟨7, _⟩ => ⟨S1x1x1024, .f32⟩
  | .local _ .vmem, ⟨8, _⟩ => ⟨S1x1x4x128x256, .f32⟩
  | .local _ .vmem, ⟨9, _⟩ => ⟨S1x1x4x128x256, .f32⟩
  | .local _ .vmem, ⟨10, _⟩ => ⟨S1x128, .f32⟩
  | .local _ .vmem, ⟨11, _⟩ => ⟨S1x128, .f32⟩
  | .local _ .vmem, ⟨12, _⟩ => ⟨S4x128, .f32⟩
  | .local _ .vmem, ⟨13, _⟩ => ⟨S1x1x1024, .bf16⟩
  | .local _ .vmem, ⟨14, _⟩ => ⟨S1x1x1024, .bf16⟩
  | .local _ .vmem, ⟨15, _⟩ => ⟨S1x4x128x256, .f32⟩
  | .local _ .vmem, ⟨16, _⟩ => ⟨S1x4x128x256, .f32⟩
  | _, _ => ⟨S32x1x10880, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_c_0 : Ref sig .tc := ⟨.hbm, 3, rfl⟩
abbrev main_c_1 : Ref sig .tc := ⟨.hbm, 4, rfl⟩
abbrev main_c_2 : Ref sig .tc := ⟨.hbm, 5, rfl⟩
abbrev main_c_3 : Ref sig .tc := ⟨.hbm, 6, rfl⟩
abbrev main_c_4 : Ref sig .tc := ⟨.hbm, 7, rfl⟩
abbrev main_c_5 : Ref sig .tc := ⟨.hbm, 8, rfl⟩
abbrev main_v0 : Ref sig .tc := ⟨.hbm, 9, rfl⟩
abbrev main_v1 : Ref sig .tc := ⟨.hbm, 10, rfl⟩
abbrev main_cst : Ref sig .tc := ⟨.hbm, 11, rfl⟩
abbrev main_v2 : Ref sig .tc := ⟨.hbm, 12, rfl⟩
abbrev main_v3 : Ref sig .tc := ⟨.hbm, 13, rfl⟩
abbrev main_cst_6 : Ref sig .tc := ⟨.hbm, 14, rfl⟩
abbrev main_v4 : Ref sig .tc := ⟨.hbm, 15, rfl⟩
abbrev main_v5 : Ref sig .tc := ⟨.hbm, 16, rfl⟩
abbrev main_cst_7 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_c_8 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_cst_9 : Ref sig .tc := ⟨.hbm, 33, rfl⟩
abbrev main_call0_v0 : Ref sig .tc := ⟨.hbm, 34, rfl⟩
abbrev main_call0_v1 : Ref sig .tc := ⟨.hbm, 35, rfl⟩
abbrev main_call0_v2 : Ref sig .tc := ⟨.hbm, 36, rfl⟩
abbrev main_v20 : Ref sig .tc := ⟨.hbm, 37, rfl⟩
abbrev main_v21 : Ref sig .tc := ⟨.hbm, 38, rfl⟩
abbrev main_c_10 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_cst_11 : Ref sig .tc := ⟨.hbm, 46, rfl⟩
abbrev main_call1_v0 : Ref sig .tc := ⟨.hbm, 47, rfl⟩
abbrev main_call1_v1 : Ref sig .tc := ⟨.hbm, 48, rfl⟩
abbrev main_call1_v2 : Ref sig .tc := ⟨.hbm, 49, rfl⟩
abbrev main_v28 : Ref sig .tc := ⟨.hbm, 50, rfl⟩
abbrev main_cst_12 : Ref sig .tc := ⟨.hbm, 51, rfl⟩
abbrev main_call2_v0 : Ref sig .tc := ⟨.hbm, 52, rfl⟩
abbrev main_call2_v1 : Ref sig .tc := ⟨.hbm, 53, rfl⟩
abbrev main_call2_v2 : Ref sig .tc := ⟨.hbm, 54, rfl⟩
abbrev main_v29 : Ref sig .tc := ⟨.hbm, 55, rfl⟩
abbrev main_v30 : Ref sig .tc := ⟨.hbm, 56, rfl⟩
abbrev main_cst_13 : Ref sig .tc := ⟨.hbm, 57, rfl⟩
abbrev main_v31 : Ref sig .tc := ⟨.hbm, 58, rfl⟩
abbrev main_v32 : Ref sig .tc := ⟨.hbm, 59, rfl⟩
abbrev main_cst_14 : Ref sig .tc := ⟨.hbm, 60, rfl⟩
abbrev main_v33 : Ref sig .tc := ⟨.hbm, 61, rfl⟩
abbrev main_v34 : Ref sig .tc := ⟨.hbm, 62, rfl⟩
abbrev main_cst_15 : Ref sig .tc := ⟨.hbm, 63, rfl⟩
abbrev main_v35 : Ref sig .tc := ⟨.hbm, 64, rfl⟩
abbrev main_v36 : Ref sig .tc := ⟨.hbm, 65, rfl⟩
abbrev main_v37 : Ref sig .tc := ⟨.hbm, 66, rfl⟩
abbrev main_v38 : Ref sig .tc := ⟨.hbm, 67, rfl⟩
abbrev main_v39 : Ref sig .tc := ⟨.hbm, 68, rfl⟩
abbrev main_v40 : Ref sig .tc := ⟨.hbm, 69, rfl⟩
abbrev main_v41 : Ref sig .tc := ⟨.hbm, 70, rfl⟩
abbrev main_v42 : Ref sig .tc := ⟨.hbm, 71, rfl⟩
abbrev main_v43_0 : Ref sig .tc := ⟨.hbm, 72, rfl⟩
abbrev main_v43_1 : Ref sig .tc := ⟨.hbm, 73, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem8_1 : DmaSem sig := 14
abbrev cc0_sem9_0 : DmaSem sig := 15
abbrev cc0_sem9_1 : DmaSem sig := 16

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c1_i32 : BitVec 32 := 1#32
  let c0_i32_0 : BitVec 32 := 0#32
  ![arg0.toNat, c0_i32.toNat, c1_i32.toNat]

def cc0_transform_2 (i : grid0.Coords) : Fin 3 → Nat :=
  let arg0 : BitVec 32 := BitVec.ofNat 32 (i 0).val
  let c0_i32 : BitVec 32 := 0#32
  let c1_i32 : BitVec 32 := 1#32
  let c0_i32_0 : BitVec 32 := 0#32
  ![arg0.toNat, c0_i32.toNat, c1_i32.toNat]

def cc0_transform_3 (i : grid0.Coords) : Fin 3 → Nat :=
  let arg0 : BitVec 32 := BitVec.ofNat 32 (i 0).val
  let c0_i32 : BitVec 32 := 0#32
  let c2_i32 : BitVec 32 := 2#32
  let c0_i32_0 : BitVec 32 := 0#32
  ![arg0.toNat, c0_i32.toNat, c2_i32.toNat]

def cc0_transform_4 (i : grid0.Coords) : Fin 5 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, arg0.toNat, c0_i32_0.toNat, c0_i32_1.toNat, c0_i32_2.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_9 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S1x1x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x4x128x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S4x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S1x1x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x4x128x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== RetSampleRefIdeal.lean ====
abbrev S32x1x10880 : Shape := ⟨3, ![32, 1, 10880]⟩
abbrev S2x32x4x128x256 : Shape := ⟨5, ![2, 32, 4, 128, 256]⟩
abbrev S1 : Shape := ⟨1, ![1]⟩
abbrev S_ : Shape := ⟨0, ![]⟩
abbrev S32x1x512 : Shape := ⟨3, ![32, 1, 512]⟩
abbrev S32x1x1024 : Shape := ⟨3, ![32, 1, 1024]⟩
abbrev S32x1x4x128 : Shape := ⟨4, ![32, 1, 4, 128]⟩
abbrev S64 : Shape := ⟨1, ![64]⟩
abbrev S1x1 : Shape := ⟨2, ![1, 1]⟩
abbrev S1x64 : Shape := ⟨2, ![1, 64]⟩
abbrev S1x1x64 : Shape := ⟨3, ![1, 1, 64]⟩
abbrev S32x1x4x64 : Shape := ⟨4, ![32, 1, 4, 64]⟩
abbrev S1x1x1x64 : Shape := ⟨4, ![1, 1, 1, 64]⟩
abbrev S32x1x4x256 : Shape := ⟨4, ![32, 1, 4, 256]⟩
abbrev S1x32x4x128x256 : Shape := ⟨5, ![1, 32, 4, 128, 256]⟩
abbrev S32x4x128x256 : Shape := ⟨4, ![32, 4, 128, 256]⟩
abbrev S4 : Shape := ⟨1, ![4]⟩
abbrev S1x4x1x1 : Shape := ⟨4, ![1, 4, 1, 1]⟩
abbrev S32x4x1x128 : Shape := ⟨4, ![32, 4, 1, 128]⟩
abbrev S32x4x1x256 : Shape := ⟨4, ![32, 4, 1, 256]⟩
abbrev S32x4x1x1 : Shape := ⟨4, ![32, 4, 1, 1]⟩
abbrev S32x1x4 : Shape := ⟨3, ![32, 1, 4]⟩
abbrev S32x1x4x1 : Shape := ⟨4, ![32, 1, 4, 1]⟩

abbrev nBuf : Space → Nat
  | .hbm => 142
  | .vmem => 0
  | .smem => 0
  | _ => 0

abbrev hbmTy0_0 (i : Nat) : BufTy := match i % 128 with
  | 0 => ⟨S32x1x10880, .f32⟩
  | 1 => ⟨S2x32x4x128x256, .f32⟩
  | 2 => ⟨S1, .i32⟩
  | 3 => ⟨S_, .i32⟩
  | 4 => ⟨S1, .i32⟩
  | 5 => ⟨S1, .i32⟩
  | 6 => ⟨S32x1x512, .f32⟩
  | 7 => ⟨S32x1x512, .f32⟩
  | 8 => ⟨S32x1x1024, .f32⟩
  | 9 => ⟨S32x1x1024, .f32⟩
  | 10 => ⟨S32x1x4x128, .f32⟩
  | 11 => ⟨S64, .f32⟩
  | 12 => ⟨S_, .f32⟩
  | 13 => ⟨S64, .f32⟩
  | 14 => ⟨S64, .f32⟩
  | 15 => ⟨S_, .f32⟩
  | 16 => ⟨S64, .f32⟩
  | 17 => ⟨S64, .f32⟩
  | 18 => ⟨S_, .f32⟩
  | 19 => ⟨S64, .f32⟩
  | 20 => ⟨S64, .f32⟩
  | 21 => ⟨S1, .f32⟩
  | 22 => ⟨S1x1, .f32⟩
  | 23 => ⟨S1x64, .f32⟩
  | 24 => ⟨S1x64, .f32⟩
  | 25 => ⟨S1x64, .f32⟩
  | 26 => ⟨S1x64, .f32⟩
  | 27 => ⟨S1x1x64, .f32⟩
  | 28 => ⟨S1x64, .f32⟩
  | 29 => ⟨S1x1x64, .f32⟩
  | 30 => ⟨S32x1x4x64, .f32⟩
  | 31 => ⟨S32x1x4x64, .f32⟩
  | 32 => ⟨S1x1x1x64, .f32⟩
  | 33 => ⟨S32x1x4x64, .f32⟩
  | 34 => ⟨S32x1x4x64, .f32⟩
  | 35 => ⟨S1x1x1x64, .f32⟩
  | 36 => ⟨S32x1x4x64, .f32⟩
  | 37 => ⟨S32x1x4x64, .f32⟩
  | 38 => ⟨S32x1x4x64, .f32⟩
  | 39 => ⟨S1x1x1x64, .f32⟩
  | 40 => ⟨S32x1x4x64, .f32⟩
  | 41 => ⟨S32x1x4x64, .f32⟩
  | 42 => ⟨S1x1x1x64, .f32⟩
  | 43 => ⟨S32x1x4x64, .f32⟩
  | 44 => ⟨S32x1x4x64, .f32⟩
  | 45 => ⟨S32x1x4x64, .f32⟩
  | 46 => ⟨S32x1x4x128, .f32⟩
  | 47 => ⟨S32x1x4x128, .f32⟩
  | 48 => ⟨S64, .f32⟩
  | 49 => ⟨S_, .f32⟩
  | 50 => ⟨S64, .f32⟩
  | 51 => ⟨S64, .f32⟩
  | 52 => ⟨S_, .f32⟩
  | 53 => ⟨S64, .f32⟩
  | 54 => ⟨S64, .f32⟩
  | 55 => ⟨S_, .f32⟩
  | 56 => ⟨S64, .f32⟩
  | 57 => ⟨S64, .f32⟩
  | 58 => ⟨S1, .f32⟩
  | 59 => ⟨S1x1, .f32⟩
  | 60 => ⟨S1x64, .f32⟩
  | 61 => ⟨S1x64, .f32⟩
  | 62 => ⟨S1x64, .f32⟩
  | 63 => ⟨S1x64, .f32⟩
  | 64 => ⟨S1x1x64, .f32⟩
  | 65 => ⟨S1x64, .f32⟩
  | 66 => ⟨S1x1x64, .f32⟩
  | 67 => ⟨S32x1x4x64, .f32⟩
  | 68 => ⟨S32x1x4x64, .f32⟩
  | 69 => ⟨S1x1x1x64, .f32⟩
  | 70 => ⟨S32x1x4x64, .f32⟩
  | 71 => ⟨S32x1x4x64, .f32⟩
  | 72 => ⟨S1x1x1x64, .f32⟩
  | 73 => ⟨S32x1x4x64, .f32⟩
  | 74 => ⟨S32x1x4x64, .f32⟩
  | 75 => ⟨S32x1x4x64, .f32⟩
  | 76 => ⟨S1x1x1x64, .f32⟩
  | 77 => ⟨S32x1x4x64, .f32⟩
  | 78 => ⟨S32x1x4x64, .f32⟩
  | 79 => ⟨S1x1x1x64, .f32⟩
  | 80 => ⟨S32x1x4x64, .f32⟩
  | 81 => ⟨S32x1x4x64, .f32⟩
  | 82 => ⟨S32x1x4x64, .f32⟩
  | 83 => ⟨S32x1x4x128, .f32⟩
  | 84 => ⟨S_, .f32⟩
  | 85 => ⟨S32x1x4x128, .f32⟩
  | 86 => ⟨S32x1x4x128, .f32⟩
  | 87 => ⟨S32x1x4x256, .f32⟩
  | 88 => ⟨S1x32x4x128x256, .f32⟩
  | 89 => ⟨S32x4x128x256, .f32⟩
  | 90 => ⟨S4, .f32⟩
  | 91 => ⟨S_, .f32⟩
  | 92 => ⟨S4, .f32⟩
  | 93 => ⟨S4, .f32⟩
  | 94 => ⟨S_, .f32⟩
  | 95 => ⟨S4, .f32⟩
  | 96 => ⟨S4, .f32⟩
  | 97 => ⟨S_, .f32⟩
  | 98 => ⟨S4, .f32⟩
  | 99 => ⟨S4, .f32⟩
  | 100 => ⟨S4, .f32⟩
  | 101 => ⟨S4, .f32⟩
  | 102 => ⟨S1x4x1x1, .f32⟩
  | 103 => ⟨S32x4x1x128, .f32⟩
  | 104 => ⟨S32x4x1x128, .f32⟩
  | 105 => ⟨S32x4x1x256, .f32⟩
  | 106 => ⟨S32x4x1x1, .f32⟩
  | 107 => ⟨S32x4x1x256, .f32⟩
  | 108 => ⟨S32x4x1x256, .f32⟩
  | 109 => ⟨S32x4x1x256, .f32⟩
  | 110 => ⟨S32x4x1x256, .f32⟩
  | 111 => ⟨S32x4x128x256, .f32⟩
  | 112 => ⟨S32x4x128x256, .f32⟩
  | 113 => ⟨S32x4x128x256, .f32⟩
  | 114 => ⟨S32x4x128x256, .f32⟩
  | 115 => ⟨S32x4x1x256, .f32⟩
  | 116 => ⟨S32x1x4x256, .f32⟩
  | 117 => ⟨S32x1x4x256, .f32⟩
  | 118 => ⟨S_, .f32⟩
  | 119 => ⟨S32x1x4, .f32⟩
  | 120 => ⟨S32x1x4x1, .f32⟩
  | 121 => ⟨S_, .f32⟩
  | 122 => ⟨S32x1x4x1, .f32⟩
  | 123 => ⟨S32x1x4x1, .f32⟩
  | 124 => ⟨S_, .f32⟩
  | 125 => ⟨S32x1x4x1, .f32⟩
  | 126 => ⟨S32x1x4x1, .f32⟩
  | 127 => ⟨S32x1x4x1, .f32⟩
  | _ => ⟨S32x1x10880, .f32⟩

abbrev hbmTy0_1 (i : Nat) : BufTy := match i % 128 with
  | 0 => ⟨S32x1x4x256, .f32⟩
  | 1 => ⟨S32x1x4x256, .f32⟩
  | 2 => ⟨S32x1x1024, .f32⟩
  | 3 => ⟨S32x1x1024, .f32⟩
  | 4 => ⟨S32x1x1024, .f32⟩
  | 5 => ⟨S_, .f32⟩
  | 6 => ⟨S32x1x1024, .f32⟩
  | 7 => ⟨S32x1x1024, .f32⟩
  | 8 => ⟨S_, .f32⟩
  | 9 => ⟨S32x1x1024, .f32⟩
  | 10 => ⟨S32x1x1024, .f32⟩
  | 11 => ⟨S32x1x1024, .f32⟩
  | 12 => ⟨S32x1x1024, .f32⟩
  | 13 => ⟨S32x1x1024, .bf16⟩
  | _ => ⟨S32x1x10880, .f32⟩

abbrev hbmTy (i : Nat) : BufTy := match i / 128 with
  | 0 => hbmTy0_0 i
  | 1 => hbmTy0_1 i
  | _ => ⟨S32x1x10880, .f32⟩

abbrev bufTy : (tb : Table) → Fin (tcTables nBuf tb) → BufTy
  | .hbm, ⟨i, _⟩ => hbmTy i
  | _, _ => ⟨S32x1x10880, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_c : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_cst : Ref sig .tc := ⟨.hbm, 12, rfl⟩
abbrev main_v9 : Ref sig .tc := ⟨.hbm, 13, rfl⟩
abbrev main_v10 : Ref sig .tc := ⟨.hbm, 14, rfl⟩
abbrev main_cst_0 : Ref sig .tc := ⟨.hbm, 15, rfl⟩
abbrev main_v11 : Ref sig .tc := ⟨.hbm, 16, rfl⟩
abbrev main_v12 : Ref sig .tc := ⟨.hbm, 17, rfl⟩
abbrev main_cst_1 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_v36 : Ref sig .tc := ⟨.hbm, 42, rfl⟩
abbrev main_v37 : Ref sig .tc := ⟨.hbm, 43, rfl⟩
abbrev main_v38 : Ref sig .tc := ⟨.hbm, 44, rfl⟩
abbrev main_v39 : Ref sig .tc := ⟨.hbm, 45, rfl⟩
abbrev main_v40 : Ref sig .tc := ⟨.hbm, 46, rfl⟩
abbrev main_v41 : Ref sig .tc := ⟨.hbm, 47, rfl⟩
abbrev main_v42 : Ref sig .tc := ⟨.hbm, 48, rfl⟩
abbrev main_cst_2 : Ref sig .tc := ⟨.hbm, 49, rfl⟩
abbrev main_v43 : Ref sig .tc := ⟨.hbm, 50, rfl⟩
abbrev main_v44 : Ref sig .tc := ⟨.hbm, 51, rfl⟩
abbrev main_cst_3 : Ref sig .tc := ⟨.hbm, 52, rfl⟩
abbrev main_v45 : Ref sig .tc := ⟨.hbm, 53, rfl⟩
abbrev main_v46 : Ref sig .tc := ⟨.hbm, 54, rfl⟩
abbrev main_cst_4 : Ref sig .tc := ⟨.hbm, 55, rfl⟩
abbrev main_v47 : Ref sig .tc := ⟨.hbm, 56, rfl⟩
abbrev main_v48 : Ref sig .tc := ⟨.hbm, 57, rfl⟩
abbrev main_v49 : Ref sig .tc := ⟨.hbm, 58, rfl⟩
abbrev main_v50 : Ref sig .tc := ⟨.hbm, 59, rfl⟩
abbrev main_v51 : Ref sig .tc := ⟨.hbm, 60, rfl⟩
abbrev main_v52 : Ref sig .tc := ⟨.hbm, 61, rfl⟩
abbrev main_v53 : Ref sig .tc := ⟨.hbm, 62, rfl⟩
abbrev main_v54 : Ref sig .tc := ⟨.hbm, 63, rfl⟩
abbrev main_v55 : Ref sig .tc := ⟨.hbm, 64, rfl⟩
abbrev main_v56 : Ref sig .tc := ⟨.hbm, 65, rfl⟩
abbrev main_v57 : Ref sig .tc := ⟨.hbm, 66, rfl⟩
abbrev main_v58 : Ref sig .tc := ⟨.hbm, 67, rfl⟩
abbrev main_v59 : Ref sig .tc := ⟨.hbm, 68, rfl⟩
abbrev main_v60 : Ref sig .tc := ⟨.hbm, 69, rfl⟩
abbrev main_v61 : Ref sig .tc := ⟨.hbm, 70, rfl⟩
abbrev main_v62 : Ref sig .tc := ⟨.hbm, 71, rfl⟩
abbrev main_v63 : Ref sig .tc := ⟨.hbm, 72, rfl⟩
abbrev main_v64 : Ref sig .tc := ⟨.hbm, 73, rfl⟩
abbrev main_v65 : Ref sig .tc := ⟨.hbm, 74, rfl⟩
abbrev main_v66 : Ref sig .tc := ⟨.hbm, 75, rfl⟩
abbrev main_v67 : Ref sig .tc := ⟨.hbm, 76, rfl⟩
abbrev main_v68 : Ref sig .tc := ⟨.hbm, 77, rfl⟩
abbrev main_v69 : Ref sig .tc := ⟨.hbm, 78, rfl⟩
abbrev main_v70 : Ref sig .tc := ⟨.hbm, 79, rfl⟩
abbrev main_v71 : Ref sig .tc := ⟨.hbm, 80, rfl⟩
abbrev main_v72 : Ref sig .tc := ⟨.hbm, 81, rfl⟩
abbrev main_v73 : Ref sig .tc := ⟨.hbm, 82, rfl⟩
abbrev main_v74 : Ref sig .tc := ⟨.hbm, 83, rfl⟩
abbrev main_cst_5 : Ref sig .tc := ⟨.hbm, 84, rfl⟩
abbrev main_v75 : Ref sig .tc := ⟨.hbm, 85, rfl⟩
abbrev main_v76 : Ref sig .tc := ⟨.hbm, 86, rfl⟩
abbrev main_v77 : Ref sig .tc := ⟨.hbm, 87, rfl⟩
abbrev main_v78 : Ref sig .tc := ⟨.hbm, 88, rfl⟩
abbrev main_v79 : Ref sig .tc := ⟨.hbm, 89, rfl⟩
abbrev main_v80 : Ref sig .tc := ⟨.hbm, 90, rfl⟩
abbrev main_cst_6 : Ref sig .tc := ⟨.hbm, 91, rfl⟩
abbrev main_v81 : Ref sig .tc := ⟨.hbm, 92, rfl⟩
abbrev main_v82 : Ref sig .tc := ⟨.hbm, 93, rfl⟩
abbrev main_cst_7 : Ref sig .tc := ⟨.hbm, 94, rfl⟩
abbrev main_v83 : Ref sig .tc := ⟨.hbm, 95, rfl⟩
abbrev main_v84 : Ref sig .tc := ⟨.hbm, 96, rfl⟩
abbrev main_cst_8 : Ref sig .tc := ⟨.hbm, 97, rfl⟩
abbrev main_v85 : Ref sig .tc := ⟨.hbm, 98, rfl⟩
abbrev main_v86 : Ref sig .tc := ⟨.hbm, 99, rfl⟩
abbrev main_v87 : Ref sig .tc := ⟨.hbm, 100, rfl⟩
abbrev main_v88 : Ref sig .tc := ⟨.hbm, 101, rfl⟩
abbrev main_v89 : Ref sig .tc := ⟨.hbm, 102, rfl⟩
abbrev main_v90 : Ref sig .tc := ⟨.hbm, 103, rfl⟩
abbrev main_v91 : Ref sig .tc := ⟨.hbm, 104, rfl⟩
abbrev main_v92 : Ref sig .tc := ⟨.hbm, 105, rfl⟩
abbrev main_v93 : Ref sig .tc := ⟨.hbm, 106, rfl⟩
abbrev main_v94 : Ref sig .tc := ⟨.hbm, 107, rfl⟩
abbrev main_v95 : Ref sig .tc := ⟨.hbm, 108, rfl⟩
abbrev main_v96 : Ref sig .tc := ⟨.hbm, 109, rfl⟩
abbrev main_v97 : Ref sig .tc := ⟨.hbm, 110, rfl⟩
abbrev main_v98 : Ref sig .tc := ⟨.hbm, 111, rfl⟩
abbrev main_v99 : Ref sig .tc := ⟨.hbm, 112, rfl⟩
abbrev main_v100 : Ref sig .tc := ⟨.hbm, 113, rfl⟩
abbrev main_v101 : Ref sig .tc := ⟨.hbm, 114, rfl⟩
abbrev main_v102 : Ref sig .tc := ⟨.hbm, 115, rfl⟩
abbrev main_v103 : Ref sig .tc := ⟨.hbm, 116, rfl⟩
abbrev main_v104 : Ref sig .tc := ⟨.hbm, 117, rfl⟩
abbrev main_cst_9 : Ref sig .tc := ⟨.hbm, 118, rfl⟩
abbrev main_v105 : Ref sig .tc := ⟨.hbm, 119, rfl⟩
abbrev main_v106 : Ref sig .tc := ⟨.hbm, 120, rfl⟩
abbrev main_cst_10 : Ref sig .tc := ⟨.hbm, 121, rfl⟩
abbrev main_v107 : Ref sig .tc := ⟨.hbm, 122, rfl⟩
abbrev main_v108 : Ref sig .tc := ⟨.hbm, 123, rfl⟩
abbrev main_cst_11 : Ref sig .tc := ⟨.hbm, 124, rfl⟩
abbrev main_v109 : Ref sig .tc := ⟨.hbm, 125, rfl⟩
abbrev main_v110 : Ref sig .tc := ⟨.hbm, 126, rfl⟩
abbrev main_v111 : Ref sig .tc := ⟨.hbm, 127, rfl⟩
abbrev main_v112 : Ref sig .tc := ⟨.hbm, 128, rfl⟩
abbrev main_v113 : Ref sig .tc := ⟨.hbm, 129, rfl⟩
abbrev main_v114 : Ref sig .tc := ⟨.hbm, 130, rfl⟩
abbrev main_call0_v0 : Ref sig .tc := ⟨.hbm, 131, rfl⟩
abbrev main_call0_v1 : Ref sig .tc := ⟨.hbm, 132, rfl⟩
abbrev main_call0_cst : Ref sig .tc := ⟨.hbm, 133, rfl⟩
abbrev main_call0_v2 : Ref sig .tc := ⟨.hbm, 134, rfl⟩
abbrev main_call0_v3 : Ref sig .tc := ⟨.hbm, 135, rfl⟩
abbrev main_call0_cst_0 : Ref sig .tc := ⟨.hbm, 136, rfl⟩
abbrev main_call0_v4 : Ref sig .tc := ⟨.hbm, 137, rfl⟩
abbrev main_call0_v5 : Ref sig .tc := ⟨.hbm, 138, rfl⟩
abbrev main_v115 : Ref sig .tc := ⟨.hbm, 139, rfl⟩
abbrev main_v116 : Ref sig .tc := ⟨.hbm, 140, rfl⟩
abbrev main_v117 : Ref sig .tc := ⟨.hbm, 141, rfl⟩

abbrev nD : Nat := 1
abbrev τ : Topo := Topo.v7x

variable {F : FTy → Type} [FloatOps F]
-- ==== PrepSample.lean ====
abbrev S32x10880 : Shape := ⟨2, ![32, 10880]⟩
abbrev S128 : Shape := ⟨1, ![128]⟩
abbrev S64 : Shape := ⟨1, ![64]⟩
abbrev S_ : Shape := ⟨0, ![]⟩
abbrev S32 : Shape := ⟨1, ![32]⟩
abbrev S16 : Shape := ⟨1, ![16]⟩
abbrev S32x1 : Shape := ⟨2, ![32, 1]⟩
abbrev S1x16 : Shape := ⟨2, ![1, 16]⟩
abbrev S32x16 : Shape := ⟨2, ![32, 16]⟩
abbrev S128x1 : Shape := ⟨2, ![128, 1]⟩
abbrev S32x128 : Shape := ⟨2, ![32, 128]⟩
abbrev S8 : Shape := ⟨1, ![8]⟩
abbrev S1x8 : Shape := ⟨2, ![1, 8]⟩
abbrev S32x8 : Shape := ⟨2, ![32, 8]⟩
abbrev S1x128 : Shape := ⟨2, ![1, 128]⟩
abbrev S32x1024 : Shape := ⟨2, ![32, 1024]⟩
abbrev S32x512 : Shape := ⟨2, ![32, 512]⟩
abbrev S32x64 : Shape := ⟨2, ![32, 64]⟩

abbrev nBuf : Space → Nat
  | .hbm => 123
  | .vmem => 21
  | .smem => 0
  | _ => 0

abbrev bufTy : (tb : Table) → Fin (tcTables nBuf tb) → BufTy
  | .hbm, ⟨0, _⟩ => ⟨S32x10880, .f32⟩
  | .hbm, ⟨1, _⟩ => ⟨S128, .f32⟩
  | .hbm, ⟨2, _⟩ => ⟨S128, .f32⟩
  | .hbm, ⟨3, _⟩ => ⟨S64, .f32⟩
  | .hbm, ⟨4, _⟩ => ⟨S128, .i32⟩
  | .hbm, ⟨5, _⟩ => ⟨S128, .i1⟩
  | .hbm, ⟨6, _⟩ => ⟨S128, .i1⟩
  | .hbm, ⟨7, _⟩ => ⟨S128, .i1⟩
  | .hbm, ⟨8, _⟩ => ⟨S128, .i1⟩
  | .hbm, ⟨9, _⟩ => ⟨S128, .i1⟩
  | .hbm, ⟨10, _⟩ => ⟨S128, .i32⟩
  | .hbm, ⟨11, _⟩ => ⟨S128, .i1⟩
  | .hbm, ⟨12, _⟩ => ⟨S128, .i1⟩
  | .hbm, ⟨13, _⟩ => ⟨S128, .i1⟩
  | .hbm, ⟨14, _⟩ => ⟨S128, .i1⟩
  | .hbm, ⟨15, _⟩ => ⟨S128, .i1⟩
  | .hbm, ⟨16, _⟩ => ⟨S_, .i32⟩
  | .hbm, ⟨17, _⟩ => ⟨S32, .i32⟩
  | .hbm, ⟨18, _⟩ => ⟨S16, .f32⟩
  | .hbm, ⟨19, _⟩ => ⟨S_, .f32⟩
  | .hbm, ⟨20, _⟩ => ⟨S16, .f32⟩
  | .hbm, ⟨21, _⟩ => ⟨S16, .f32⟩
  | .hbm, ⟨22, _⟩ => ⟨S_, .f32⟩
  | .hbm, ⟨23, _⟩ => ⟨S16, .f32⟩
  | .hbm, ⟨24, _⟩ => ⟨S16, .f32⟩
  | .hbm, ⟨25, _⟩ => ⟨S_, .f32⟩
  | .hbm, ⟨26, _⟩ => ⟨S16, .f32⟩
  | .hbm, ⟨27, _⟩ => ⟨S16, .f32⟩
  | .hbm, ⟨28, _⟩ => ⟨S32, .f32⟩
  | .hbm, ⟨29, _⟩ => ⟨S32x1, .f32⟩
  | .hbm, ⟨30, _⟩ => ⟨S1x16, .f32⟩
  | .hbm, ⟨31, _⟩ => ⟨S32x16, .f32⟩
  | .hbm, ⟨32, _⟩ => ⟨S32x16, .f32⟩
  | .hbm, ⟨33, _⟩ => ⟨S32x16, .f32⟩
  | .hbm, ⟨34, _⟩ => ⟨S32x16, .f32⟩
  | .hbm, ⟨35, _⟩ => ⟨S_, .i32⟩
  | .hbm, ⟨36, _⟩ => ⟨S128, .i32⟩
  | .hbm, ⟨37, _⟩ => ⟨S128, .i32⟩
  | .hbm, ⟨38, _⟩ => ⟨S128, .i32⟩
  | .hbm, ⟨39, _⟩ => ⟨S128x1, .i32⟩
  | .hbm, ⟨40, _⟩ => ⟨S32x128, .f32⟩
  | .hbm, ⟨41, _⟩ => ⟨S_, .f32⟩
  | .hbm, ⟨42, _⟩ => ⟨S_, .f32⟩
  | .hbm, ⟨43, _⟩ => ⟨S32x128, .i1⟩
  | .hbm, ⟨44, _⟩ => ⟨S32x128, .f32⟩
  | .hbm, ⟨45, _⟩ => ⟨S32x128, .f32⟩
  | .hbm, ⟨46, _⟩ => ⟨S32x16, .f32⟩
  | .hbm, ⟨47, _⟩ => ⟨S_, .i32⟩
  | .hbm, ⟨48, _⟩ => ⟨S128, .i32⟩
  | .hbm, ⟨49, _⟩ => ⟨S128, .i32⟩
  | .hbm, ⟨50, _⟩ => ⟨S128, .i32⟩
  | .hbm, ⟨51, _⟩ => ⟨S128x1, .i32⟩
  | .hbm, ⟨52, _⟩ => ⟨S32x128, .f32⟩
  | .hbm, ⟨53, _⟩ => ⟨S32x128, .f32⟩
  | .hbm, ⟨54, _⟩ => ⟨S_, .f32⟩
  | .hbm, ⟨55, _⟩ => ⟨S_, .f32⟩
  | .hbm, ⟨56, _⟩ => ⟨S32x128, .i1⟩
  | .hbm, ⟨57, _⟩ => ⟨S32x128, .f32⟩
  | .hbm, ⟨58, _⟩ => ⟨S32x128, .f32⟩
  | .hbm, ⟨59, _⟩ => ⟨S_, .f32⟩
  | .hbm, ⟨60, _⟩ => ⟨S_, .f32⟩
  | .hbm, ⟨61, _⟩ => ⟨S32x128, .i1⟩
  | .hbm, ⟨62, _⟩ => ⟨S32x128, .f32⟩
  | .hbm, ⟨63, _⟩ => ⟨S32x128, .f32⟩
  | .hbm, ⟨64, _⟩ => ⟨S8, .f32⟩
  | .hbm, ⟨65, _⟩ => ⟨S_, .f32⟩
  | .hbm, ⟨66, _⟩ => ⟨S8, .f32⟩
  | .hbm, ⟨67, _⟩ => ⟨S8, .f32⟩
  | .hbm, ⟨68, _⟩ => ⟨S_, .f32⟩
  | .hbm, ⟨69, _⟩ => ⟨S8, .f32⟩
  | .hbm, ⟨70, _⟩ => ⟨S8, .f32⟩
  | .hbm, ⟨71, _⟩ => ⟨S_, .f32⟩
  | .hbm, ⟨72, _⟩ => ⟨S8, .f32⟩
  | .hbm, ⟨73, _⟩ => ⟨S8, .f32⟩
  | .hbm, ⟨74, _⟩ => ⟨S32, .f32⟩
  | .hbm, ⟨75, _⟩ => ⟨S32x1, .f32⟩
  | .hbm, ⟨76, _⟩ => ⟨S1x8, .f32⟩
  | .hbm, ⟨77, _⟩ => ⟨S32x8, .f32⟩
  | .hbm, ⟨78, _⟩ => ⟨S32x8, .f32⟩
  | .hbm, ⟨79, _⟩ => ⟨S32x8, .f32⟩
  | .hbm, ⟨80, _⟩ => ⟨S32x8, .f32⟩
  | .hbm, ⟨81, _⟩ => ⟨S_, .i32⟩
  | .hbm, ⟨82, _⟩ => ⟨S128, .i32⟩
  | .hbm, ⟨83, _⟩ => ⟨S128, .i32⟩
  | .hbm, ⟨84, _⟩ => ⟨S128, .i32⟩
  | .hbm, ⟨85, _⟩ => ⟨S128x1, .i32⟩
  | .hbm, ⟨86, _⟩ => ⟨S32x128, .f32⟩
  | .hbm, ⟨87, _⟩ => ⟨S_, .f32⟩
  | .hbm, ⟨88, _⟩ => ⟨S_, .f32⟩
  | .hbm, ⟨89, _⟩ => ⟨S32x128, .i1⟩
  | .hbm, ⟨90, _⟩ => ⟨S32x128, .f32⟩
  | .hbm, ⟨91, _⟩ => ⟨S32x128, .f32⟩
  | .hbm, ⟨92, _⟩ => ⟨S32x8, .f32⟩
  | .hbm, ⟨93, _⟩ => ⟨S_, .i32⟩
  | .hbm, ⟨94, _⟩ => ⟨S128, .i32⟩
  | .hbm, ⟨95, _⟩ => ⟨S128, .i32⟩
  | .hbm, ⟨96, _⟩ => ⟨S128, .i32⟩
  | .hbm, ⟨97, _⟩ => ⟨S128x1, .i32⟩
  | .hbm, ⟨98, _⟩ => ⟨S32x128, .f32⟩
  | .hbm, ⟨99, _⟩ => ⟨S32x128, .f32⟩
  | .hbm, ⟨100, _⟩ => ⟨S_, .f32⟩
  | .hbm, ⟨101, _⟩ => ⟨S_, .f32⟩
  | .hbm, ⟨102, _⟩ => ⟨S32x128, .i1⟩
  | .hbm, ⟨103, _⟩ => ⟨S32x128, .f32⟩
  | .hbm, ⟨104, _⟩ => ⟨S32x128, .f32⟩
  | .hbm, ⟨105, _⟩ => ⟨S_, .f32⟩
  | .hbm, ⟨106, _⟩ => ⟨S_, .f32⟩
  | .hbm, ⟨107, _⟩ => ⟨S32x128, .i1⟩
  | .hbm, ⟨108, _⟩ => ⟨S32x128, .f32⟩
  | .hbm, ⟨109, _⟩ => ⟨S32x128, .f32⟩
  | .hbm, ⟨110, _⟩ => ⟨S1x128, .f32⟩
  | .hbm, ⟨111, _⟩ => ⟨S1x128, .f32⟩
  | .hbm, ⟨112, _⟩ => ⟨S_, .f32⟩
  | .hbm, ⟨113, _⟩ => ⟨S64, .f32⟩
  | .hbm, ⟨114, _⟩ => ⟨S128, .f32⟩
  | .hbm, ⟨115, _⟩ => ⟨S1x128, .f32⟩
  | .hbm, ⟨116, _⟩ => ⟨S32x1024, .bf16⟩
  | .hbm, ⟨117, _⟩ => ⟨S32x512, .f32⟩
  | .hbm, ⟨118, _⟩ => ⟨S32x512, .bf16⟩
  | .hbm, ⟨119, _⟩ => ⟨S32x512, .f32⟩
  | .hbm, ⟨120, _⟩ => ⟨S32x512, .f32⟩
  | .hbm, ⟨121, _⟩ => ⟨S32x128, .f32⟩
  | .hbm, ⟨122, _⟩ => ⟨S32x64, .f32⟩
  | .local _ .vmem, ⟨0, _⟩ => ⟨S32x1024, .f32⟩
  | .local _ .vmem, ⟨1, _⟩ => ⟨S32x512, .f32⟩
  | .local _ .vmem, ⟨2, _⟩ => ⟨S32x512, .f32⟩
  | .local _ .vmem, ⟨3, _⟩ => ⟨S32x512, .f32⟩
  | .local _ .vmem, ⟨4, _⟩ => ⟨S32x128, .f32⟩
  | .local _ .vmem, ⟨5, _⟩ => ⟨S32x128, .f32⟩
  | .local _ .vmem, ⟨6, _⟩ => ⟨S32x128, .f32⟩
  | .local _ .vmem, ⟨7, _⟩ => ⟨S32x128, .f32⟩
  | .local _ .vmem, ⟨8, _⟩ => ⟨S32x128, .f32⟩
  | .local _ .vmem, ⟨9, _⟩ => ⟨S32x128, .f32⟩
  | .local _ .vmem, ⟨10, _⟩ => ⟨S32x128, .f32⟩
  | .local _ .vmem, ⟨11, _⟩ => ⟨S1x128, .f32⟩
  | .local _ .vmem, ⟨12, _⟩ => ⟨S1x128, .f32⟩
  | .local _ .vmem, ⟨13, _⟩ => ⟨S1x128, .f32⟩
  | .local _ .vmem, ⟨14, _⟩ => ⟨S32x1024, .bf16⟩
  | .local _ .vmem, ⟨15, _⟩ => ⟨S32x512, .f32⟩
  | .local _ .vmem, ⟨16, _⟩ => ⟨S32x512, .bf16⟩
  | .local _ .vmem, ⟨17, _⟩ => ⟨S32x512, .f32⟩
  | .local _ .vmem, ⟨18, _⟩ => ⟨S32x512, .f32⟩
  | .local _ .vmem, ⟨19, _⟩ => ⟨S32x128, .f32⟩
  | .local _ .vmem, ⟨20, _⟩ => ⟨S32x64, .f32⟩
  | _, _ => ⟨S32x10880, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_c_0 : Ref sig .tc := ⟨.hbm, 5, rfl⟩
abbrev main_c_1 : Ref sig .tc := ⟨.hbm, 6, rfl⟩
abbrev main_c_2 : Ref sig .tc := ⟨.hbm, 7, rfl⟩
abbrev main_c_3 : Ref sig .tc := ⟨.hbm, 8, rfl⟩
abbrev main_c_4 : Ref sig .tc := ⟨.hbm, 9, rfl⟩
abbrev main_c_5 : Ref sig .tc := ⟨.hbm, 10, rfl⟩
abbrev main_c_6 : Ref sig .tc := ⟨.hbm, 11, rfl⟩
abbrev main_c_7 : Ref sig .tc := ⟨.hbm, 12, rfl⟩
abbrev main_c_8 : Ref sig .tc := ⟨.hbm, 13, rfl⟩
abbrev main_c_9 : Ref sig .tc := ⟨.hbm, 14, rfl⟩
abbrev main_c_10 : Ref sig .tc := ⟨.hbm, 15, rfl⟩
abbrev main_c_11 : Ref sig .tc := ⟨.hbm, 16, rfl⟩
abbrev main_v0 : Ref sig .tc := ⟨.hbm, 17, rfl⟩
abbrev main_v1 : Ref sig .tc := ⟨.hbm, 18, rfl⟩
abbrev main_cst : Ref sig .tc := ⟨.hbm, 19, rfl⟩
abbrev main_v2 : Ref sig .tc := ⟨.hbm, 20, rfl⟩
abbrev main_v3 : Ref sig .tc := ⟨.hbm, 21, rfl⟩
abbrev main_cst_12 : Ref sig .tc := ⟨.hbm, 22, rfl⟩
abbrev main_v4 : Ref sig .tc := ⟨.hbm, 23, rfl⟩
abbrev main_v5 : Ref sig .tc := ⟨.hbm, 24, rfl⟩
abbrev main_cst_13 : Ref sig .tc := ⟨.hbm, 25, rfl⟩
abbrev main_v6 : Ref sig .tc := ⟨.hbm, 26, rfl⟩
abbrev main_v7 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_c_14 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_cst_15 : Ref sig .tc := ⟨.hbm, 41, rfl⟩
abbrev main_call0_v0 : Ref sig .tc := ⟨.hbm, 42, rfl⟩
abbrev main_call0_v1 : Ref sig .tc := ⟨.hbm, 43, rfl⟩
abbrev main_call0_v2 : Ref sig .tc := ⟨.hbm, 44, rfl⟩
abbrev main_v20 : Ref sig .tc := ⟨.hbm, 45, rfl⟩
abbrev main_v21 : Ref sig .tc := ⟨.hbm, 46, rfl⟩
abbrev main_c_16 : Ref sig .tc := ⟨.hbm, 47, rfl⟩
abbrev main_v22 : Ref sig .tc := ⟨.hbm, 48, rfl⟩
abbrev main_v23 : Ref sig .tc := ⟨.hbm, 49, rfl⟩
abbrev main_v24 : Ref sig .tc := ⟨.hbm, 50, rfl⟩
abbrev main_v25 : Ref sig .tc := ⟨.hbm, 51, rfl⟩
abbrev main_v26 : Ref sig .tc := ⟨.hbm, 52, rfl⟩
abbrev main_v27 : Ref sig .tc := ⟨.hbm, 53, rfl⟩
abbrev main_cst_17 : Ref sig .tc := ⟨.hbm, 54, rfl⟩
abbrev main_call1_v0 : Ref sig .tc := ⟨.hbm, 55, rfl⟩
abbrev main_call1_v1 : Ref sig .tc := ⟨.hbm, 56, rfl⟩
abbrev main_call1_v2 : Ref sig .tc := ⟨.hbm, 57, rfl⟩
abbrev main_v28 : Ref sig .tc := ⟨.hbm, 58, rfl⟩
abbrev main_cst_18 : Ref sig .tc := ⟨.hbm, 59, rfl⟩
abbrev main_call2_v0 : Ref sig .tc := ⟨.hbm, 60, rfl⟩
abbrev main_call2_v1 : Ref sig .tc := ⟨.hbm, 61, rfl⟩
abbrev main_call2_v2 : Ref sig .tc := ⟨.hbm, 62, rfl⟩
abbrev main_v29 : Ref sig .tc := ⟨.hbm, 63, rfl⟩
abbrev main_v30 : Ref sig .tc := ⟨.hbm, 64, rfl⟩
abbrev main_cst_19 : Ref sig .tc := ⟨.hbm, 65, rfl⟩
abbrev main_v31 : Ref sig .tc := ⟨.hbm, 66, rfl⟩
abbrev main_v32 : Ref sig .tc := ⟨.hbm, 67, rfl⟩
abbrev main_cst_20 : Ref sig .tc := ⟨.hbm, 68, rfl⟩
abbrev main_v33 : Ref sig .tc := ⟨.hbm, 69, rfl⟩
abbrev main_v34 : Ref sig .tc := ⟨.hbm, 70, rfl⟩
abbrev main_cst_21 : Ref sig .tc := ⟨.hbm, 71, rfl⟩
abbrev main_v35 : Ref sig .tc := ⟨.hbm, 72, rfl⟩
abbrev main_v36 : Ref sig .tc := ⟨.hbm, 73, rfl⟩
abbrev main_v37 : Ref sig .tc := ⟨.hbm, 74, rfl⟩
abbrev main_v38 : Ref sig .tc := ⟨.hbm, 75, rfl⟩
abbrev main_v39 : Ref sig .tc := ⟨.hbm, 76, rfl⟩
abbrev main_v40 : Ref sig .tc := ⟨.hbm, 77, rfl⟩
abbrev main_v41 : Ref sig .tc := ⟨.hbm, 78, rfl⟩
abbrev main_v42 : Ref sig .tc := ⟨.hbm, 79, rfl⟩
abbrev main_v43 : Ref sig .tc := ⟨.hbm, 80, rfl⟩
abbrev main_c_22 : Ref sig .tc := ⟨.hbm, 81, rfl⟩
abbrev main_v44 : Ref sig .tc := ⟨.hbm, 82, rfl⟩
abbrev main_v45 : Ref sig .tc := ⟨.hbm, 83, rfl⟩
abbrev main_v46 : Ref sig .tc := ⟨.hbm, 84, rfl⟩
abbrev main_v47 : Ref sig .tc := ⟨.hbm, 85, rfl⟩
abbrev main_v48 : Ref sig .tc := ⟨.hbm, 86, rfl⟩
abbrev main_cst_23 : Ref sig .tc := ⟨.hbm, 87, rfl⟩
abbrev main_call3_v0 : Ref sig .tc := ⟨.hbm, 88, rfl⟩
abbrev main_call3_v1 : Ref sig .tc := ⟨.hbm, 89, rfl⟩
abbrev main_call3_v2 : Ref sig .tc := ⟨.hbm, 90, rfl⟩
abbrev main_v49 : Ref sig .tc := ⟨.hbm, 91, rfl⟩
abbrev main_v50 : Ref sig .tc := ⟨.hbm, 92, rfl⟩
abbrev main_c_24 : Ref sig .tc := ⟨.hbm, 93, rfl⟩
abbrev main_v51 : Ref sig .tc := ⟨.hbm, 94, rfl⟩
abbrev main_v52 : Ref sig .tc := ⟨.hbm, 95, rfl⟩
abbrev main_v53 : Ref sig .tc := ⟨.hbm, 96, rfl⟩
abbrev main_v54 : Ref sig .tc := ⟨.hbm, 97, rfl⟩
abbrev main_v55 : Ref sig .tc := ⟨.hbm, 98, rfl⟩
abbrev main_v56 : Ref sig .tc := ⟨.hbm, 99, rfl⟩
abbrev main_cst_25 : Ref sig .tc := ⟨.hbm, 100, rfl⟩
abbrev main_call4_v0 : Ref sig .tc := ⟨.hbm, 101, rfl⟩
abbrev main_call4_v1 : Ref sig .tc := ⟨.hbm, 102, rfl⟩
abbrev main_call4_v2 : Ref sig .tc := ⟨.hbm, 103, rfl⟩
abbrev main_v57 : Ref sig .tc := ⟨.hbm, 104, rfl⟩
abbrev main_cst_26 : Ref sig .tc := ⟨.hbm, 105, rfl⟩
abbrev main_call5_v0 : Ref sig .tc := ⟨.hbm, 106, rfl⟩
abbrev main_call5_v1 : Ref sig .tc := ⟨.hbm, 107, rfl⟩
abbrev main_call5_v2 : Ref sig .tc := ⟨.hbm, 108, rfl⟩
abbrev main_v58 : Ref sig .tc := ⟨.hbm, 109, rfl⟩
abbrev main_v59 : Ref sig .tc := ⟨.hbm, 110, rfl⟩
abbrev main_v60 : Ref sig .tc := ⟨.hbm, 111, rfl⟩
abbrev main_cst_27 : Ref sig .tc := ⟨.hbm, 112, rfl⟩
abbrev main_v61 : Ref sig .tc := ⟨.hbm, 113, rfl⟩
abbrev main_v62 : Ref sig .tc := ⟨.hbm, 114, rfl⟩
abbrev main_v63 : Ref sig .tc := ⟨.hbm, 115, rfl⟩
abbrev main_v64_0 : Ref sig .tc := ⟨.hbm, 116, rfl⟩
abbrev main_v64_1 : Ref sig .tc := ⟨.hbm, 117, rfl⟩
abbrev main_v64_2 : Ref sig .tc := ⟨.hbm, 118, rfl⟩
abbrev main_v64_3 : Ref sig .tc := ⟨.hbm, 119, rfl⟩
abbrev main_v64_4 : Ref sig .tc := ⟨.hbm, 120, rfl⟩
abbrev main_v64_5 : Ref sig .tc := ⟨.hbm, 121, rfl⟩
abbrev main_v64_6 : Ref sig .tc := ⟨.hbm, 122, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc0_stg16_0 : Ref sig .tc := ⟨.vmem, 16, rfl⟩
abbrev cc0_stg17_0 : Ref sig .tc := ⟨.vmem, 17, rfl⟩
abbrev cc0_stg18_0 : Ref sig .tc := ⟨.vmem, 18, rfl⟩
abbrev cc0_stg19_0 : Ref sig .tc := ⟨.vmem, 19, rfl⟩
abbrev cc0_stg20_0 : Ref sig .tc := ⟨.vmem, 20, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15
abbrev cc0_sem16_0 : DmaSem sig := 16
abbrev cc0_sem17_0 : DmaSem sig := 17
abbrev cc0_sem18_0 : DmaSem sig := 18
abbrev cc0_sem19_0 : DmaSem sig := 19
abbrev cc0_sem20_0 : DmaSem sig := 20

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c5_i32 : BitVec 32 := 5#32
  let c0_i32 : BitVec 32 := 0#32
  ![arg0.toNat, c5_i32.toNat]

def cc0_transform_1 (i : grid0.Coords) : Fin 2 → Nat :=
  let arg0 : BitVec 32 := BitVec.ofNat 32 (i 0).val
  let c18_i32 : BitVec 32 := 18#32
  let c0_i32 : BitVec 32 := 0#32
  ![arg0.toNat, c18_i32.toNat]

def cc0_transform_2 (i : grid0.Coords) : Fin 2 → Nat :=
  let arg0 : BitVec 32 := BitVec.ofNat 32 (i 0).val
  let c19_i32 : BitVec 32 := 19#32
  let c0_i32 : BitVec 32 := 0#32
  ![arg0.toNat, c19_i32.toNat]

def cc0_transform_3 (i : grid0.Coords) : Fin 2 → Nat :=
  let arg0 : BitVec 32 := BitVec.ofNat 32 (i 0).val
  let c20_i32 : BitVec 32 := 20#32
  let c0_i32 : BitVec 32 := 0#32
  ![arg0.toNat, c20_i32.toNat]

def cc0_transform_4 (i : grid0.Coords) : Fin 2 → Nat :=
  let arg0 : BitVec 32 := BitVec.ofNat 32 (i 0).val
  let c84_i32 : BitVec 32 := 84#32
  let c0_i32 : BitVec 32 := 0#32
  ![arg0.toNat, c84_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_19 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_20 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S32x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S32x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S32x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S32x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S32x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S32x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S32x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S32x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S32x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S32x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S32x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x128 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S32x1024 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![true]

abbrev stage0_15 : Fin 1 → Memref sig .tc .vmem S32x512 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![true]

abbrev stage0_16 : Fin 1 → Memref sig .tc .vmem S32x512 .bf16 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![true]

abbrev stage0_17 : Fin 1 → Memref sig .tc .vmem S32x512 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![true]

abbrev stage0_18 : Fin 1 → Memref sig .tc .vmem S32x512 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![true]

abbrev stage0_19 : Fin 1 → Memref sig .tc .vmem S32x128 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![true]

abbrev stage0_20 : Fin 1 → Memref sig .tc .vmem S32x64 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
abbrev reads0_20 : Fin grid0.rank → Bool := ![true]
-- ==== PrepSampleRefIdeal.lean ====
abbrev S32x10880 : Shape := ⟨2, ![32, 10880]⟩
abbrev S128 : Shape := ⟨1, ![128]⟩
abbrev S64 : Shape := ⟨1, ![64]⟩
abbrev S32x1x10880 : Shape := ⟨3, ![32, 1, 10880]⟩
abbrev S1 : Shape := ⟨1, ![1]⟩
abbrev S_ : Shape := ⟨0, ![]⟩
abbrev S32x1x512 : Shape := ⟨3, ![32, 1, 512]⟩
abbrev S32x1x4x128 : Shape := ⟨4, ![32, 1, 4, 128]⟩
abbrev S32x1x4 : Shape := ⟨3, ![32, 1, 4]⟩
abbrev S32x1x4x1 : Shape := ⟨4, ![32, 1, 4, 1]⟩
abbrev S1x1x1x128 : Shape := ⟨4, ![1, 1, 1, 128]⟩
abbrev S16 : Shape := ⟨1, ![16]⟩
abbrev S1x1 : Shape := ⟨2, ![1, 1]⟩
abbrev S1x16 : Shape := ⟨2, ![1, 16]⟩
abbrev S1x1x16 : Shape := ⟨3, ![1, 1, 16]⟩
abbrev S32x1x4x16 : Shape := ⟨4, ![32, 1, 4, 16]⟩
abbrev S1x1x1x16 : Shape := ⟨4, ![1, 1, 1, 16]⟩
abbrev S32x1x4x96 : Shape := ⟨4, ![32, 1, 4, 96]⟩
abbrev S32x1x64 : Shape := ⟨3, ![32, 1, 64]⟩
abbrev S32x1 : Shape := ⟨2, ![32, 1]⟩
abbrev S32x1x1 : Shape := ⟨3, ![32, 1, 1]⟩
abbrev S1x1x64 : Shape := ⟨3, ![1, 1, 64]⟩
abbrev S32x1x1x64 : Shape := ⟨4, ![32, 1, 1, 64]⟩
abbrev S8 : Shape := ⟨1, ![8]⟩
abbrev S1x8 : Shape := ⟨2, ![1, 8]⟩
abbrev S1x1x8 : Shape := ⟨3, ![1, 1, 8]⟩
abbrev S32x1x1x8 : Shape := ⟨4, ![32, 1, 1, 8]⟩
abbrev S1x1x1x8 : Shape := ⟨4, ![1, 1, 1, 8]⟩
abbrev S32x1x1x48 : Shape := ⟨4, ![32, 1, 1, 48]⟩
abbrev S32x512 : Shape := ⟨2, ![32, 512]⟩
abbrev S32x64 : Shape := ⟨2, ![32, 64]⟩

abbrev nBuf : Space → Nat
  | .hbm => 124
  | .vmem => 0
  | .smem => 0
  | _ => 0

abbrev bufTy : (tb : Table) → Fin (tcTables nBuf tb) → BufTy
  | .hbm, ⟨0, _⟩ => ⟨S32x10880, .f32⟩
  | .hbm, ⟨1, _⟩ => ⟨S128, .f32⟩
  | .hbm, ⟨2, _⟩ => ⟨S128, .f32⟩
  | .hbm, ⟨3, _⟩ => ⟨S64, .f32⟩
  | .hbm, ⟨4, _⟩ => ⟨S32x1x10880, .f32⟩
  | .hbm, ⟨5, _⟩ => ⟨S1, .i32⟩
  | .hbm, ⟨6, _⟩ => ⟨S_, .i32⟩
  | .hbm, ⟨7, _⟩ => ⟨S1, .i32⟩
  | .hbm, ⟨8, _⟩ => ⟨S1, .i32⟩
  | .hbm, ⟨9, _⟩ => ⟨S32x1x512, .f32⟩
  | .hbm, ⟨10, _⟩ => ⟨S32x1x4x128, .f32⟩
  | .hbm, ⟨11, _⟩ => ⟨S32x1x4x128, .f32⟩
  | .hbm, ⟨12, _⟩ => ⟨S_, .f32⟩
  | .hbm, ⟨13, _⟩ => ⟨S32x1x4, .f32⟩
  | .hbm, ⟨14, _⟩ => ⟨S32x1x4x1, .f32⟩
  | .hbm, ⟨15, _⟩ => ⟨S_, .f32⟩
  | .hbm, ⟨16, _⟩ => ⟨S32x1x4x1, .f32⟩
  | .hbm, ⟨17, _⟩ => ⟨S32x1x4x1, .f32⟩
  | .hbm, ⟨18, _⟩ => ⟨S_, .f32⟩
  | .hbm, ⟨19, _⟩ => ⟨S32x1x4x1, .f32⟩
  | .hbm, ⟨20, _⟩ => ⟨S32x1x4x1, .f32⟩
  | .hbm, ⟨21, _⟩ => ⟨S32x1x4x1, .f32⟩
  | .hbm, ⟨22, _⟩ => ⟨S32x1x4x128, .f32⟩
  | .hbm, ⟨23, _⟩ => ⟨S32x1x4x128, .f32⟩
  | .hbm, ⟨24, _⟩ => ⟨S1x1x1x128, .f32⟩
  | .hbm, ⟨25, _⟩ => ⟨S32x1x4x128, .f32⟩
  | .hbm, ⟨26, _⟩ => ⟨S32x1x4x128, .f32⟩
  | .hbm, ⟨27, _⟩ => ⟨S16, .f32⟩
  | .hbm, ⟨28, _⟩ => ⟨S_, .f32⟩
  | .hbm, ⟨29, _⟩ => ⟨S16, .f32⟩
  | .hbm, ⟨30, _⟩ => ⟨S16, .f32⟩
  | .hbm, ⟨31, _⟩ => ⟨S_, .f32⟩
  | .hbm, ⟨32, _⟩ => ⟨S16, .f32⟩
  | .hbm, ⟨33, _⟩ => ⟨S16, .f32⟩
  | .hbm, ⟨34, _⟩ => ⟨S_, .f32⟩
  | .hbm, ⟨35, _⟩ => ⟨S16, .f32⟩
  | .hbm, ⟨36, _⟩ => ⟨S16, .f32⟩
  | .hbm, ⟨37, _⟩ => ⟨S1, .f32⟩
  | .hbm, ⟨38, _⟩ => ⟨S1x1, .f32⟩
  | .hbm, ⟨39, _⟩ => ⟨S1x16, .f32⟩
  | .hbm, ⟨40, _⟩ => ⟨S1x16, .f32⟩
  | .hbm, ⟨41, _⟩ => ⟨S1x16, .f32⟩
  | .hbm, ⟨42, _⟩ => ⟨S1x16, .f32⟩
  | .hbm, ⟨43, _⟩ => ⟨S1x1x16, .f32⟩
  | .hbm, ⟨44, _⟩ => ⟨S1x16, .f32⟩
  | .hbm, ⟨45, _⟩ => ⟨S1x1x16, .f32⟩
  | .hbm, ⟨46, _⟩ => ⟨S32x1x4x16, .f32⟩
  | .hbm, ⟨47, _⟩ => ⟨S32x1x4x16, .f32⟩
  | .hbm, ⟨48, _⟩ => ⟨S1x1x1x16, .f32⟩
  | .hbm, ⟨49, _⟩ => ⟨S32x1x4x16, .f32⟩
  | .hbm, ⟨50, _⟩ => ⟨S32x1x4x16, .f32⟩
  | .hbm, ⟨51, _⟩ => ⟨S1x1x1x16, .f32⟩
  | .hbm, ⟨52, _⟩ => ⟨S32x1x4x16, .f32⟩
  | .hbm, ⟨53, _⟩ => ⟨S32x1x4x16, .f32⟩
  | .hbm, ⟨54, _⟩ => ⟨S32x1x4x16, .f32⟩
  | .hbm, ⟨55, _⟩ => ⟨S1x1x1x16, .f32⟩
  | .hbm, ⟨56, _⟩ => ⟨S32x1x4x16, .f32⟩
  | .hbm, ⟨57, _⟩ => ⟨S32x1x4x16, .f32⟩
  | .hbm, ⟨58, _⟩ => ⟨S1x1x1x16, .f32⟩
  | .hbm, ⟨59, _⟩ => ⟨S32x1x4x16, .f32⟩
  | .hbm, ⟨60, _⟩ => ⟨S32x1x4x16, .f32⟩
  | .hbm, ⟨61, _⟩ => ⟨S32x1x4x16, .f32⟩
  | .hbm, ⟨62, _⟩ => ⟨S32x1x4x96, .f32⟩
  | .hbm, ⟨63, _⟩ => ⟨S32x1x4x128, .f32⟩
  | .hbm, ⟨64, _⟩ => ⟨S32x1x512, .f32⟩
  | .hbm, ⟨65, _⟩ => ⟨S32x1x64, .f32⟩
  | .hbm, ⟨66, _⟩ => ⟨S32x1x64, .f32⟩
  | .hbm, ⟨67, _⟩ => ⟨S_, .f32⟩
  | .hbm, ⟨68, _⟩ => ⟨S32x1, .f32⟩
  | .hbm, ⟨69, _⟩ => ⟨S32x1x1, .f32⟩
  | .hbm, ⟨70, _⟩ => ⟨S_, .f32⟩
  | .hbm, ⟨71, _⟩ => ⟨S32x1x1, .f32⟩
  | .hbm, ⟨72, _⟩ => ⟨S32x1x1, .f32⟩
  | .hbm, ⟨73, _⟩ => ⟨S_, .f32⟩
  | .hbm, ⟨74, _⟩ => ⟨S32x1x1, .f32⟩
  | .hbm, ⟨75, _⟩ => ⟨S32x1x1, .f32⟩
  | .hbm, ⟨76, _⟩ => ⟨S32x1x1, .f32⟩
  | .hbm, ⟨77, _⟩ => ⟨S32x1x64, .f32⟩
  | .hbm, ⟨78, _⟩ => ⟨S32x1x64, .f32⟩
  | .hbm, ⟨79, _⟩ => ⟨S1x1x64, .f32⟩
  | .hbm, ⟨80, _⟩ => ⟨S32x1x64, .f32⟩
  | .hbm, ⟨81, _⟩ => ⟨S32x1x64, .f32⟩
  | .hbm, ⟨82, _⟩ => ⟨S32x1x1x64, .f32⟩
  | .hbm, ⟨83, _⟩ => ⟨S8, .f32⟩
  | .hbm, ⟨84, _⟩ => ⟨S_, .f32⟩
  | .hbm, ⟨85, _⟩ => ⟨S8, .f32⟩
  | .hbm, ⟨86, _⟩ => ⟨S8, .f32⟩
  | .hbm, ⟨87, _⟩ => ⟨S_, .f32⟩
  | .hbm, ⟨88, _⟩ => ⟨S8, .f32⟩
  | .hbm, ⟨89, _⟩ => ⟨S8, .f32⟩
  | .hbm, ⟨90, _⟩ => ⟨S_, .f32⟩
  | .hbm, ⟨91, _⟩ => ⟨S8, .f32⟩
  | .hbm, ⟨92, _⟩ => ⟨S8, .f32⟩
  | .hbm, ⟨93, _⟩ => ⟨S1, .f32⟩
  | .hbm, ⟨94, _⟩ => ⟨S1x1, .f32⟩
  | .hbm, ⟨95, _⟩ => ⟨S1x8, .f32⟩
  | .hbm, ⟨96, _⟩ => ⟨S1x8, .f32⟩
  | .hbm, ⟨97, _⟩ => ⟨S1x8, .f32⟩
  | .hbm, ⟨98, _⟩ => ⟨S1x8, .f32⟩
  | .hbm, ⟨99, _⟩ => ⟨S1x1x8, .f32⟩
  | .hbm, ⟨100, _⟩ => ⟨S1x8, .f32⟩
  | .hbm, ⟨101, _⟩ => ⟨S1x1x8, .f32⟩
  | .hbm, ⟨102, _⟩ => ⟨S32x1x1x8, .f32⟩
  | .hbm, ⟨103, _⟩ => ⟨S32x1x1x8, .f32⟩
  | .hbm, ⟨104, _⟩ => ⟨S1x1x1x8, .f32⟩
  | .hbm, ⟨105, _⟩ => ⟨S32x1x1x8, .f32⟩
  | .hbm, ⟨106, _⟩ => ⟨S32x1x1x8, .f32⟩
  | .hbm, ⟨107, _⟩ => ⟨S1x1x1x8, .f32⟩
  | .hbm, ⟨108, _⟩ => ⟨S32x1x1x8, .f32⟩
  | .hbm, ⟨109, _⟩ => ⟨S32x1x1x8, .f32⟩
  | .hbm, ⟨110, _⟩ => ⟨S32x1x1x8, .f32⟩
  | .hbm, ⟨111, _⟩ => ⟨S1x1x1x8, .f32⟩
  | .hbm, ⟨112, _⟩ => ⟨S32x1x1x8, .f32⟩
  | .hbm, ⟨113, _⟩ => ⟨S32x1x1x8, .f32⟩
  | .hbm, ⟨114, _⟩ => ⟨S1x1x1x8, .f32⟩
  | .hbm, ⟨115, _⟩ => ⟨S32x1x1x8, .f32⟩
  | .hbm, ⟨116, _⟩ => ⟨S32x1x1x8, .f32⟩
  | .hbm, ⟨117, _⟩ => ⟨S32x1x1x8, .f32⟩
  | .hbm, ⟨118, _⟩ => ⟨S32x1x1x48, .f32⟩
  | .hbm, ⟨119, _⟩ => ⟨S32x1x1x64, .f32⟩
  | .hbm, ⟨120, _⟩ => ⟨S32x1x64, .f32⟩
  | .hbm, ⟨121, _⟩ => ⟨S32x512, .f32⟩
  | .hbm, ⟨122, _⟩ => ⟨S32x512, .f32⟩
  | .hbm, ⟨123, _⟩ => ⟨S32x64, .f32⟩
  | _, _ => ⟨S32x10880, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_c : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst : Ref sig .tc := ⟨.hbm, 12, rfl⟩
abbrev main_v7 : Ref sig .tc := ⟨.hbm, 13, rfl⟩
abbrev main_v8 : Ref sig .tc := ⟨.hbm, 14, rfl⟩
abbrev main_cst_0 : Ref sig .tc := ⟨.hbm, 15, rfl⟩
abbrev main_v9 : Ref sig .tc := ⟨.hbm, 16, rfl⟩
abbrev main_v10 : Ref sig .tc := ⟨.hbm, 17, rfl⟩
abbrev main_cst_1 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_cst_2 : Ref sig .tc := ⟨.hbm, 28, rfl⟩
abbrev main_v20 : Ref sig .tc := ⟨.hbm, 29, rfl⟩
abbrev main_v21 : Ref sig .tc := ⟨.hbm, 30, rfl⟩
abbrev main_cst_3 : Ref sig .tc := ⟨.hbm, 31, rfl⟩
abbrev main_v22 : Ref sig .tc := ⟨.hbm, 32, rfl⟩
abbrev main_v23 : Ref sig .tc := ⟨.hbm, 33, rfl⟩
abbrev main_cst_4 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_v51 : Ref sig .tc := ⟨.hbm, 62, rfl⟩
abbrev main_v52 : Ref sig .tc := ⟨.hbm, 63, rfl⟩
abbrev main_v53 : Ref sig .tc := ⟨.hbm, 64, rfl⟩
abbrev main_v54 : Ref sig .tc := ⟨.hbm, 65, rfl⟩
abbrev main_v55 : Ref sig .tc := ⟨.hbm, 66, rfl⟩
abbrev main_cst_5 : Ref sig .tc := ⟨.hbm, 67, rfl⟩
abbrev main_v56 : Ref sig .tc := ⟨.hbm, 68, rfl⟩
abbrev main_v57 : Ref sig .tc := ⟨.hbm, 69, rfl⟩
abbrev main_cst_6 : Ref sig .tc := ⟨.hbm, 70, rfl⟩
abbrev main_v58 : Ref sig .tc := ⟨.hbm, 71, rfl⟩
abbrev main_v59 : Ref sig .tc := ⟨.hbm, 72, rfl⟩
abbrev main_cst_7 : Ref sig .tc := ⟨.hbm, 73, rfl⟩
abbrev main_v60 : Ref sig .tc := ⟨.hbm, 74, rfl⟩
abbrev main_v61 : Ref sig .tc := ⟨.hbm, 75, rfl⟩
abbrev main_v62 : Ref sig .tc := ⟨.hbm, 76, rfl⟩
abbrev main_v63 : Ref sig .tc := ⟨.hbm, 77, rfl⟩
abbrev main_v64 : Ref sig .tc := ⟨.hbm, 78, rfl⟩
abbrev main_v65 : Ref sig .tc := ⟨.hbm, 79, rfl⟩
abbrev main_v66 : Ref sig .tc := ⟨.hbm, 80, rfl⟩
abbrev main_v67 : Ref sig .tc := ⟨.hbm, 81, rfl⟩
abbrev main_v68 : Ref sig .tc := ⟨.hbm, 82, rfl⟩
abbrev main_v69 : Ref sig .tc := ⟨.hbm, 83, rfl⟩
abbrev main_cst_8 : Ref sig .tc := ⟨.hbm, 84, rfl⟩
abbrev main_v70 : Ref sig .tc := ⟨.hbm, 85, rfl⟩
abbrev main_v71 : Ref sig .tc := ⟨.hbm, 86, rfl⟩
abbrev main_cst_9 : Ref sig .tc := ⟨.hbm, 87, rfl⟩
abbrev main_v72 : Ref sig .tc := ⟨.hbm, 88, rfl⟩
abbrev main_v73 : Ref sig .tc := ⟨.hbm, 89, rfl⟩
abbrev main_cst_10 : Ref sig .tc := ⟨.hbm, 90, rfl⟩
abbrev main_v74 : Ref sig .tc := ⟨.hbm, 91, rfl⟩
abbrev main_v75 : Ref sig .tc := ⟨.hbm, 92, rfl⟩
abbrev main_v76 : Ref sig .tc := ⟨.hbm, 93, rfl⟩
abbrev main_v77 : Ref sig .tc := ⟨.hbm, 94, rfl⟩
abbrev main_v78 : Ref sig .tc := ⟨.hbm, 95, rfl⟩
abbrev main_v79 : Ref sig .tc := ⟨.hbm, 96, rfl⟩
abbrev main_v80 : Ref sig .tc := ⟨.hbm, 97, rfl⟩
abbrev main_v81 : Ref sig .tc := ⟨.hbm, 98, rfl⟩
abbrev main_v82 : Ref sig .tc := ⟨.hbm, 99, rfl⟩
abbrev main_v83 : Ref sig .tc := ⟨.hbm, 100, rfl⟩
abbrev main_v84 : Ref sig .tc := ⟨.hbm, 101, rfl⟩
abbrev main_v85 : Ref sig .tc := ⟨.hbm, 102, rfl⟩
abbrev main_v86 : Ref sig .tc := ⟨.hbm, 103, rfl⟩
abbrev main_v87 : Ref sig .tc := ⟨.hbm, 104, rfl⟩
abbrev main_v88 : Ref sig .tc := ⟨.hbm, 105, rfl⟩
abbrev main_v89 : Ref sig .tc := ⟨.hbm, 106, rfl⟩
abbrev main_v90 : Ref sig .tc := ⟨.hbm, 107, rfl⟩
abbrev main_v91 : Ref sig .tc := ⟨.hbm, 108, rfl⟩
abbrev main_v92 : Ref sig .tc := ⟨.hbm, 109, rfl⟩
abbrev main_v93 : Ref sig .tc := ⟨.hbm, 110, rfl⟩
abbrev main_v94 : Ref sig .tc := ⟨.hbm, 111, rfl⟩
abbrev main_v95 : Ref sig .tc := ⟨.hbm, 112, rfl⟩
abbrev main_v96 : Ref sig .tc := ⟨.hbm, 113, rfl⟩
abbrev main_v97 : Ref sig .tc := ⟨.hbm, 114, rfl⟩
abbrev main_v98 : Ref sig .tc := ⟨.hbm, 115, rfl⟩
abbrev main_v99 : Ref sig .tc := ⟨.hbm, 116, rfl⟩
abbrev main_v100 : Ref sig .tc := ⟨.hbm, 117, rfl⟩
abbrev main_v101 : Ref sig .tc := ⟨.hbm, 118, rfl⟩
abbrev main_v102 : Ref sig .tc := ⟨.hbm, 119, rfl⟩
abbrev main_v103 : Ref sig .tc := ⟨.hbm, 120, rfl⟩
abbrev main_v104 : Ref sig .tc := ⟨.hbm, 121, rfl⟩
abbrev main_v105 : Ref sig .tc := ⟨.hbm, 122, rfl⟩
abbrev main_v106 : Ref sig .tc := ⟨.hbm, 123, rfl⟩

abbrev nD : Nat := 1
abbrev τ : Topo := Topo.v7x

variable {F : FTy → Type} [FloatOps F]
-- ==== ConvSample.lean ====
abbrev S32x1x10880 : Shape := ⟨3, ![32, 1, 10880]⟩
abbrev S2x32x30x1024 : Shape := ⟨4, ![2, 32, 30, 1024]⟩
abbrev S2x31x1024 : Shape := ⟨3, ![2, 31, 1024]⟩
abbrev S2x1024 : Shape := ⟨2, ![2, 1024]⟩
abbrev S2x1x1024 : Shape := ⟨3, ![2, 1, 1024]⟩
abbrev S32x1x1024 : Shape := ⟨3, ![32, 1, 1024]⟩
abbrev S32x30x1024 : Shape := ⟨3, ![32, 30, 1024]⟩
abbrev S1x1x1024 : Shape := ⟨3, ![1, 1, 1024]⟩
abbrev S1x1x30x1024 : Shape := ⟨4, ![1, 1, 30, 1024]⟩
abbrev S1x31x1024 : Shape := ⟨3, ![1, 31, 1024]⟩
abbrev S1x30x1024 : Shape := ⟨3, ![1, 30, 1024]⟩
abbrev S1x1024 : Shape := ⟨2, ![1, 1024]⟩
abbrev S30x1024 : Shape := ⟨2, ![30, 1024]⟩
abbrev S1024 : Shape := ⟨1, ![1024]⟩
abbrev S1 : Shape := ⟨1, ![1]⟩
abbrev S1x1 : Shape := ⟨2, ![1, 1]⟩
abbrev S29x1024 : Shape := ⟨2, ![29, 1024]⟩
abbrev S1x29x1024 : Shape := ⟨3, ![1, 29, 1024]⟩

abbrev nBuf : Space → Nat
  | .hbm => 9
  | .vmem => 13
  | .smem => 0
  | _ => 0

abbrev bufTy : (tb : Table) → Fin (tcTables nBuf tb) → BufTy
  | .hbm, ⟨0, _⟩ => ⟨S32x1x10880, .f32⟩
  | .hbm, ⟨1, _⟩ => ⟨S2x32x30x1024, .f32⟩
  | .hbm, ⟨2, _⟩ => ⟨S2x31x1024, .f32⟩
  | .hbm, ⟨3, _⟩ => ⟨S2x1024, .f32⟩
  | .hbm, ⟨4, _⟩ => ⟨S2x1024, .f32⟩
  | .hbm, ⟨5, _⟩ => ⟨S2x1x1024, .f32⟩
  | .hbm, ⟨6, _⟩ => ⟨S2x1x1024, .f32⟩
  | .hbm, ⟨7, _⟩ => ⟨S32x1x1024, .bf16⟩
  | .hbm, ⟨8, _⟩ => ⟨S32x30x1024, .f32⟩
  | .local _ .vmem, ⟨0, _⟩ => ⟨S1x1x1024, .f32⟩
  | .local _ .vmem, ⟨1, _⟩ => ⟨S1x1x1024, .f32⟩
  | .local _ .vmem, ⟨2, _⟩ => ⟨S1x1x1024, .f32⟩
  | .local _ .vmem, ⟨3, _⟩ => ⟨S1x1x1024, .f32⟩
  | .local _ .vmem, ⟨4, _⟩ => ⟨S1x1x30x1024, .f32⟩
  | .local _ .vmem, ⟨5, _⟩ => ⟨S1x1x30x1024, .f32⟩
  | .local _ .vmem, ⟨6, _⟩ => ⟨S1x31x1024, .f32⟩
  | .local _ .vmem, ⟨7, _⟩ => ⟨S1x1x1024, .f32⟩
  | .local _ .vmem, ⟨8, _⟩ => ⟨S1x1x1024, .f32⟩
  | .local _ .vmem, ⟨9, _⟩ => ⟨S1x1x1024, .bf16⟩
  | .local _ .vmem, ⟨10, _⟩ => ⟨S1x1x1024, .bf16⟩
  | .local _ .vmem, ⟨11, _⟩ => ⟨S1x30x1024, .f32⟩
  | .local _ .vmem, ⟨12, _⟩ => ⟨S1x30x1024, .f32⟩
  | _, _ => ⟨S32x1x10880, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2_0 : Ref sig .tc := ⟨.hbm, 7, rfl⟩
abbrev main_v2_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c3_i32 : BitVec 32 := 3#32
  let c0_i32_0 : BitVec 32 := 0#32
  ![arg0.toNat, c0_i32.toNat, c3_i32.toNat]

def cc0_transform_1 (i : grid0.Coords) : Fin 3 → Nat :=
  let arg0 : BitVec 32 := BitVec.ofNat 32 (i 0).val
  let c0_i32 : BitVec 32 := 0#32
  let c4_i32 : BitVec 32 := 4#32
  let c0_i32_0 : BitVec 32 := 0#32
  ![arg0.toNat, c0_i32.toNat, c4_i32.toNat]

def cc0_transform_2 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x30x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x31x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1x1x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x30x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== ConvSampleRefIdeal.lean ====
abbrev S32x1x10880 : Shape := ⟨3, ![32, 1, 10880]⟩
abbrev S2x32x30x1024 : Shape := ⟨4, ![2, 32, 30, 1024]⟩
abbrev S2x31x1024 : Shape := ⟨3, ![2, 31, 1024]⟩
abbrev S2x1024 : Shape := ⟨2, ![2, 1024]⟩
abbrev S32x1x1024 : Shape := ⟨3, ![32, 1, 1024]⟩
abbrev S_ : Shape := ⟨0, ![]⟩
abbrev S1x32x30x1024 : Shape := ⟨4, ![1, 32, 30, 1024]⟩
abbrev S32x30x1024 : Shape := ⟨3, ![32, 30, 1024]⟩
abbrev S32x31x1024 : Shape := ⟨3, ![32, 31, 1024]⟩
abbrev S1x31x1024 : Shape := ⟨3, ![1, 31, 1024]⟩
abbrev S31x1024 : Shape := ⟨2, ![31, 1024]⟩
abbrev S32x1024 : Shape := ⟨2, ![32, 1024]⟩
abbrev S1x1024 : Shape := ⟨2, ![1, 1024]⟩
abbrev S1024 : Shape := ⟨1, ![1024]⟩
abbrev S1x1x1024 : Shape := ⟨3, ![1, 1, 1024]⟩
abbrev S32x1 : Shape := ⟨2, ![32, 1]⟩
abbrev S32x1x1 : Shape := ⟨3, ![32, 1, 1]⟩

abbrev nBuf : Space → Nat
  | .hbm => 61
  | .vmem => 0
  | .smem => 0
  | _ => 0

abbrev bufTy : (tb : Table) → Fin (tcTables nBuf tb) → BufTy
  | .hbm, ⟨0, _⟩ => ⟨S32x1x10880, .f32⟩
  | .hbm, ⟨1, _⟩ => ⟨S2x32x30x1024, .f32⟩
  | .hbm, ⟨2, _⟩ => ⟨S2x31x1024, .f32⟩
  | .hbm, ⟨3, _⟩ => ⟨S2x1024, .f32⟩
  | .hbm, ⟨4, _⟩ => ⟨S2x1024, .f32⟩
  | .hbm, ⟨5, _⟩ => ⟨S32x1x1024, .f32⟩
  | .hbm, ⟨6, _⟩ => ⟨S32x1x1024, .f32⟩
  | .hbm, ⟨7, _⟩ => ⟨S32x1x1024, .f32⟩
  | .hbm, ⟨8, _⟩ => ⟨S32x1x1024, .f32⟩
  | .hbm, ⟨9, _⟩ => ⟨S_, .f32⟩
  | .hbm, ⟨10, _⟩ => ⟨S32x1x1024, .f32⟩
  | .hbm, ⟨11, _⟩ => ⟨S32x1x1024, .f32⟩
  | .hbm, ⟨12, _⟩ => ⟨S_, .f32⟩
  | .hbm, ⟨13, _⟩ => ⟨S32x1x1024, .f32⟩
  | .hbm, ⟨14, _⟩ => ⟨S32x1x1024, .f32⟩
  | .hbm, ⟨15, _⟩ => ⟨S32x1x1024, .f32⟩
  | .hbm, ⟨16, _⟩ => ⟨S1x32x30x1024, .f32⟩
  | .hbm, ⟨17, _⟩ => ⟨S32x30x1024, .f32⟩
  | .hbm, ⟨18, _⟩ => ⟨S32x31x1024, .f32⟩
  | .hbm, ⟨19, _⟩ => ⟨S1x31x1024, .f32⟩
  | .hbm, ⟨20, _⟩ => ⟨S31x1024, .f32⟩
  | .hbm, ⟨21, _⟩ => ⟨S1x31x1024, .f32⟩
  | .hbm, ⟨22, _⟩ => ⟨S32x31x1024, .f32⟩
  | .hbm, ⟨23, _⟩ => ⟨S32x31x1024, .f32⟩
  | .hbm, ⟨24, _⟩ => ⟨S_, .f32⟩
  | .hbm, ⟨25, _⟩ => ⟨S32x1024, .f32⟩
  | .hbm, ⟨26, _⟩ => ⟨S32x1x1024, .f32⟩
  | .hbm, ⟨27, _⟩ => ⟨S1x1024, .f32⟩
  | .hbm, ⟨28, _⟩ => ⟨S1024, .f32⟩
  | .hbm, ⟨29, _⟩ => ⟨S1x1x1024, .f32⟩
  | .hbm, ⟨30, _⟩ => ⟨S32x1x1024, .f32⟩
  | .hbm, ⟨31, _⟩ => ⟨S32x1x1024, .f32⟩
  | .hbm, ⟨32, _⟩ => ⟨S1x1024, .f32⟩
  | .hbm, ⟨33, _⟩ => ⟨S1024, .f32⟩
  | .hbm, ⟨34, _⟩ => ⟨S32x1x1024, .f32⟩
  | .hbm, ⟨35, _⟩ => ⟨S_, .f32⟩
  | .hbm, ⟨36, _⟩ => ⟨S32x1, .f32⟩
  | .hbm, ⟨37, _⟩ => ⟨S32x1x1, .f32⟩
  | .hbm, ⟨38, _⟩ => ⟨S_, .f32⟩
  | .hbm, ⟨39, _⟩ => ⟨S32x1x1, .f32⟩
  | .hbm, ⟨40, _⟩ => ⟨S32x1x1, .f32⟩
  | .hbm, ⟨41, _⟩ => ⟨S_, .f32⟩
  | .hbm, ⟨42, _⟩ => ⟨S32x1x1, .f32⟩
  | .hbm, ⟨43, _⟩ => ⟨S32x1x1, .f32⟩
  | .hbm, ⟨44, _⟩ => ⟨S32x1x1, .f32⟩
  | .hbm, ⟨45, _⟩ => ⟨S32x1x1024, .f32⟩
  | .hbm, ⟨46, _⟩ => ⟨S32x1x1024, .f32⟩
  | .hbm, ⟨47, _⟩ => ⟨S1x1x1024, .f32⟩
  | .hbm, ⟨48, _⟩ => ⟨S32x1x1024, .f32⟩
  | .hbm, ⟨49, _⟩ => ⟨S32x1x1024, .f32⟩
  | .hbm, ⟨50, _⟩ => ⟨S32x1x1024, .f32⟩
  | .hbm, ⟨51, _⟩ => ⟨S32x1x1024, .f32⟩
  | .hbm, ⟨52, _⟩ => ⟨S_, .f32⟩
  | .hbm, ⟨53, _⟩ => ⟨S32x1x1024, .f32⟩
  | .hbm, ⟨54, _⟩ => ⟨S32x1x1024, .f32⟩
  | .hbm, ⟨55, _⟩ => ⟨S_, .f32⟩
  | .hbm, ⟨56, _⟩ => ⟨S32x1x1024, .f32⟩
  | .hbm, ⟨57, _⟩ => ⟨S32x1x1024, .f32⟩
  | .hbm, ⟨58, _⟩ => ⟨S32x1x1024, .f32⟩
  | .hbm, ⟨59, _⟩ => ⟨S32x1x1024, .bf16⟩
  | .hbm, ⟨60, _⟩ => ⟨S32x30x1024, .f32⟩
  | _, _ => ⟨S32x1x10880, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_1 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_cst_2 : Ref sig .tc := ⟨.hbm, 35, rfl⟩
abbrev main_v27 : Ref sig .tc := ⟨.hbm, 36, rfl⟩
abbrev main_v28 : Ref sig .tc := ⟨.hbm, 37, rfl⟩
abbrev main_cst_3 : Ref sig .tc := ⟨.hbm, 38, rfl⟩
abbrev main_v29 : Ref sig .tc := ⟨.hbm, 39, rfl⟩
abbrev main_v30 : Ref sig .tc := ⟨.hbm, 40, rfl⟩
abbrev main_cst_4 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_call0_v0 : Ref sig .tc := ⟨.hbm, 50, rfl⟩
abbrev main_call0_v1 : Ref sig .tc := ⟨.hbm, 51, rfl⟩
abbrev main_call0_cst : Ref sig .tc := ⟨.hbm, 52, rfl⟩
abbrev main_call0_v2 : Ref sig .tc := ⟨.hbm, 53, rfl⟩
abbrev main_call0_v3 : Ref sig .tc := ⟨.hbm, 54, rfl⟩
abbrev main_call0_cst_0 : Ref sig .tc := ⟨.hbm, 55, rfl⟩
abbrev main_call0_v4 : Ref sig .tc := ⟨.hbm, 56, rfl⟩
abbrev main_call0_v5 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩

abbrev nD : Nat := 1
abbrev τ : Topo := Topo.v7x

variable {F : FTy → Type} [FloatOps F]
-- ==== Proof.Finite.lean ====
/-
  Which of the extended reals in these programs are real numbers, and the one identity that needs it.  The kernel multiplies
  two f32 matrices as three products of bf16 halves: high by high, high by low, low by high.  On the extended reals the low
  half of a real number is `a - a = 0`, so the three products add up to the plain one (`split_dot`); the low half of an
  infinity is not zero, which is why finiteness is carried along.
-/
module

public import Idealize.ShloMosaic.Lib.Pointwise
public import Idealize.ShloMosaic.Lib.IdealHost
public import Idealize.ShloMosaic.PureOps.Ideal.Laws

@[expose] public section

noncomputable section

namespace Cert.Retention

open Idealize.ShloMosaic
open scoped BigOperators

/-- The extended real is a real number. -/
def IsReal (x : EReal) : Prop := ∃ r : ℝ, x = (r : EReal)

namespace IsReal

theorem coe (r : ℝ) : IsReal (r : EReal) := ⟨r, rfl⟩

theorem zero : IsReal 0 := ⟨0, rfl⟩

theorem one : IsReal 1 := ⟨1, rfl⟩

theorem add {x y : EReal} (hx : IsReal x) (hy : IsReal y) : IsReal (x + y) := by
  obtain ⟨a, rfl⟩ := hx; obtain ⟨b, rfl⟩ := hy
  exact ⟨a + b, (EReal.coe_add a b).symm⟩

theorem mul {x y : EReal} (hx : IsReal x) (hy : IsReal y) : IsReal (x * y) := by
  obtain ⟨a, rfl⟩ := hx; obtain ⟨b, rfl⟩ := hy
  exact ⟨a * b, (EReal.coe_mul a b).symm⟩

theorem sub {x y : EReal} (hx : IsReal x) (hy : IsReal y) : IsReal (x - y) := by
  obtain ⟨a, rfl⟩ := hx; obtain ⟨b, rfl⟩ := hy
  exact ⟨a - b, (EReal.coe_sub a b).symm⟩

theorem neg {x : EReal} (hx : IsReal x) : IsReal (-x) := by
  obtain ⟨a, rfl⟩ := hx
  exact ⟨-a, (EReal.coe_neg a).symm⟩

theorem max {x y : EReal} (hx : IsReal x) (hy : IsReal y) : IsReal (Max.max x y) := by
  rcases max_choice x y with h | h <;> rw [h] <;> assumption

theorem exp {x : EReal} (hx : IsReal x) : IsReal (Ideal.exp x) := by
  obtain ⟨a, rfl⟩ := hx
  exact ⟨Real.exp a, rfl⟩

theorem sum {ι : Type*} (s : Finset ι) {f : ι → EReal} (h : ∀ i, IsReal (f i)) : IsReal (∑ i ∈ s, f i) := by
  classical
  induction s using Finset.induction_on with
  | empty => exact ⟨0, by simp⟩
  | insert a s ha ih => rw [Finset.sum_insert ha]; exact (h a).add ih

/-- A real number minus itself is zero. -/
theorem sub_self {x : EReal} (hx : IsReal x) : x - x = 0 := by
  obtain ⟨a, rfl⟩ := hx
  rw [← EReal.coe_sub, _root_.sub_self, EReal.coe_zero]

/-- A magnitude below infinity is that of a real number. -/
theorem of_abs_lt_top {x : EReal} (h : Max.max x (-x) < ⊤) : IsReal x := by
  induction x with
  | bot => simp at h
  | top => simp at h
  | coe r => exact ⟨r, rfl⟩

end IsReal

/-- The three products of halves are the plain product, where both factors are real. -/
theorem split_dot {n : ℕ} {a b : Fin n → EReal} (ha : ∀ i, IsReal (a i)) (hb : ∀ i, IsReal (b i)) :
    ∑ i, a i * b i + ∑ i, a i * (b i - b i) + ∑ i, (a i - a i) * b i = ∑ i, a i * b i := by
  simp only [fun i => (ha i).sub_self, fun i => (hb i).sub_self, mul_zero, zero_mul, Finset.sum_const_zero, add_zero]

/-- A natural number below `2 ^ 31`, read as a signed word, as an extended real. -/
def num (n : ℕ) : EReal := FloatOps.sitofp (F := Ideal) .f32 (BitVec.ofNat 32 n)

theorem isReal_num (n : ℕ) : IsReal (num n) := ⟨_, rfl⟩

/-- The constant `127.0`. -/
def c127 : EReal := Ideal.ofBits .f32 0x42FE0000#32

/-- The constant `128.0`. -/
def c128 : EReal := Ideal.ofBits .f32 0x43000000#32

/-- The scale of k, the rounded `1 / √128`. -/
def cScale : EReal := Ideal.ofBits .f32 0x3DB504F3#32

theorem isReal_c127 : IsReal c127 :=
  ⟨127, by unfold c127; simp [Ideal.ofBits, Ideal.ieee, -EReal.coe_mul]; norm_num⟩

theorem isReal_c128 : IsReal c128 :=
  ⟨128, by unfold c128; simp [Ideal.ofBits, Ideal.ieee, -EReal.coe_mul]; norm_num⟩

theorem isReal_cScale : IsReal cScale := by
  unfold cScale
  simp only [Ideal.ofBits, Ideal.ieee]
  rw [if_neg (by decide), if_neg (by decide)]
  exact ⟨_, rfl⟩

end Cert.Retention

end
-- ==== Proof.Model.lean ====
/-
  The retention on one chunk of 128 rows, over the extended reals: what the head with log decay `L` computes from the
  rotated and scaled q and k (`Q`, `K`), from v (`V`) and from the state `S` before the chunk.
-/
module

public import proofs.«01_k».proof.Proof.Finite

@[expose] public section

noncomputable section

namespace Cert.Retention

open Idealize.ShloMosaic
open scoped BigOperators

/-- How much of row `j` is left at row `i` of the same chunk; nothing of a later row. -/
def decayMask (L : EReal) (i j : Fin 128) : EReal :=
  if 0 ≤ num i - num j then Ideal.exp (max (num i - num j) 0 * L) else 0

/-- How much of the state before the chunk is left at row `i`. -/
def fromState (L : EReal) (i : Fin 128) : EReal := Ideal.exp ((num i + 1) * L)

/-- How much of row `j` is left after the chunk. -/
def toState (L : EReal) (j : Fin 128) : EReal := Ideal.exp ((c127 - num j) * L)

/-- How much of the state before the chunk is left after it. -/
def throughChunk (L : EReal) : EReal := Ideal.exp (c128 * L)

/-- A row of the chunk's output, before it is normalised and gated. -/
def chunkOut (L : EReal) (Q K : Fin 128 → Fin 128 → EReal) (V S : Fin 128 → Fin 256 → EReal) (i : Fin 128) (e : Fin 256) : EReal :=
  ∑ j, (∑ d, Q i d * K j d) * decayMask L i j * V j e + (∑ d, Q i d * S d e) * fromState L i

/-- The state after the chunk. -/
def chunkState (L : EReal) (K : Fin 128 → Fin 128 → EReal) (V S : Fin 128 → Fin 256 → EReal) (d : Fin 128) (e : Fin 256) : EReal :=
  throughChunk L * S d e + ∑ j, K j d * toState L j * V j e

/-- The gated and normalised row: `silu g * o / rms o`. -/
def gated (g : EReal) (o : Fin 256 → EReal) (e : Fin 256) : EReal :=
  g * Ideal.logistic g * (o e * Ideal.rsqrt (Ideal.div (∑ x, o x * o x) (Ideal.ofBits .f32 0x43800000#32) + Ideal.ofBits .f32 0x358637BD#32))

section real

variable {L : EReal} (hL : IsReal L)
include hL

theorem isReal_decayMask (i j : Fin 128) : IsReal (decayMask L i j) := by
  unfold decayMask
  split
  · exact ((((isReal_num _).sub (isReal_num _)).max .zero).mul hL).exp
  · exact .zero

theorem isReal_toState (j : Fin 128) : IsReal (toState L j) := ((isReal_c127.sub (isReal_num _)).mul hL).exp

theorem isReal_throughChunk : IsReal (throughChunk L) := (isReal_c128.mul hL).exp

theorem isReal_chunkState {K : Fin 128 → Fin 128 → EReal} {V S : Fin 128 → Fin 256 → EReal} (hK : ∀ j d, IsReal (K j d))
    (hV : ∀ j e, IsReal (V j e)) (hS : ∀ d e, IsReal (S d e)) (d : Fin 128) (e : Fin 256) : IsReal (chunkState L K V S d e) :=
  ((isReal_throughChunk hL).mul (hS d e)).add (.sum _ fun j => ((hK j d).mul (isReal_toState hL j)).mul (hV j e))

end real

end Cert.Retention

end
-- ==== Proof.Tables.lean ====
/-
  The tables the kernel's host operations make before the call: the cosines, the signed sines and the log decays, entry by
  entry.
-/
module

public import proofs.«01_k».proof.Proof.Model
public import proofs.«01_k».proof.Proof.Gen.KernelIdeal.Frame
public import Idealize.ShloMosaic.Lib.Pointwise

@[expose] public section

noncomputable section

namespace Cert.Retention

open Idealize.ShloMosaic Idealize.ShloMosaic.TcCoe
open Cert.KernelIdeal Cert.KernelIdeal.Gen

/-- The angle of position `t` and frequency `d`. -/
def angle (t d : ℕ) : EReal :=
  num t * Ideal.div (Ideal.ofBits .f32 0x3F800000#32)
    (Ideal.pow (Ideal.ofBits .f32 0x461C4000#32) (Ideal.div (num d) (Ideal.ofBits .f32 0x42800000#32)))

/-- The log decay of head `h`. -/
def logDecay (h : ℕ) : EReal :=
  Ideal.log (Ideal.ofBits .f32 0x3F800000#32 - Ideal.pow (Ideal.ofBits .f32 0x40000000#32) (Ideal.ofBits .f32 0xC0A00000#32 - num h))

/-- The angles as the host operations compute them. -/
def angles : Vec Ideal S8192x64 .f32 :=
  mulf (broadcastInDim S8192x64 ![0, 1] bcast_S8192x1_S8192x64_0_1
      (broadcastInDim S8192x1 ![0] bcast_S8192_S8192x1_0 (sitofp (F := Ideal) .f32 (iotaInDim S8192 32 0))))
    (broadcastInDim S8192x64 ![0, 1] bcast_S1x64_S8192x64_0_1
      (broadcastInDim S1x64 ![1] bcast_S64_S1x64_1
        (Host.divf (F := Ideal) (broadcastInDim S64 ![] bcast_S_S64 (constant (F := Ideal) S_ .f32 1065353216#32))
          (Host.powf (F := Ideal) (broadcastInDim S64 ![] bcast_S_S64 (constant (F := Ideal) S_ .f32 1176256512#32))
            (Host.divf (F := Ideal) (sitofp (F := Ideal) .f32 (iotaInDim S64 32 0))
              (broadcastInDim S64 ![] bcast_S_S64 (constant (F := Ideal) S_ .f32 1115684864#32)))))))

theorem angles_apply (t : Fin 8192) (d : Fin 64) : angles (ix2 t d) = angle t d := by
  unfold angle num
  pointwise [angles]

/-- The lanes' frequencies. -/
def lanes : IVec S128x1 32 :=
  broadcastInDim S128x1 ![0] bcast_S128_S128x1_0
    (select (constantI S128 1 0#1)
      (addi (fun i => lit0 (S128.rowMajor i)) (broadcastInDim S128 ![] bcast_S_S128 (constantI S_ 32 64#32)))
      fun i => lit0 (S128.rowMajor i))

/-- Lane `d` of the doubled table has frequency `d mod 64`. -/
def freq (d : Fin 128) : Fin 64 := ⟨d.val % 64, by omega⟩

theorem rowMajor_ix1 (d : Fin 128) : S128.rowMajor (ix1 d) = d := Fin.ext (Shape.rowMajor_val_one _)

theorem lit0_eq : ∀ d : Fin 128, (lit0 d).toInt.toNat = d.val % 64 := by decide +kernel

theorem lit1_eq : ∀ d : Fin 128, lit1 d = if d.val < 64 then 1#1 else 0#1 := by decide +kernel

theorem lit2_eq : ∀ d : Fin 128, lit2 d = if d.val < 64 then 0#1 else 1#1 := by decide +kernel

theorem lanes_apply (d : Fin 128) : (lanes (ix2 d 0)).toInt.toNat = d.val % 64 := by
  rw [← lit0_eq d]
  have h : lanes (ix2 d 0) = lit0 (S128.rowMajor (ix1 d)) := by
    unfold lanes
    generalize hf : (fun i => lit0 (S128.rowMajor i)) = f
    have h : f (ix1 d) = lit0 (S128.rowMajor (ix1 d)) := by rw [← hf]
    rw [← h]
    pointwise []
  rw [h, rowMajor_ix1]

/-- The gathered table at lane `d` is the table at the lane's frequency. -/
theorem gather_apply (x : Vec Ideal S8192x64 .f32) (t : Fin 8192) (d : Fin 128) :
    Host.gather gather_S8192x64_S128x1_S8192x128_0_1_n_n_1_1_81921 x lanes (ix2 t d) = x (ix2 t (freq d)) := by
  unfold Host.gather
  refine congrArg x (funext fun a => Fin.ext ?_)
  set D := gather_S8192x64_S128x1_S8192x128_0_1_n_n_1_1_81921 with hD
  show D.start (ix2 t d) lanes a + D.batchCoord (ix2 t d) a + D.offCoord (ix2 t d) a = _
  rw [GatherDims.batchCoord_eq_zero _ _ _ List.not_mem_nil]
  match a with
  | ⟨0, _⟩ =>
    unfold GatherDims.start
    rw [dif_neg (show ((⟨0, by decide⟩ : Fin S8192x64.rank)) ∉ D.startIndexMap from by decide)]
    rw [Nat.zero_add]
    rfl
  | ⟨1, _⟩ =>
    rw [GatherDims.offCoord_eq_zero _ _ _ (fun h => ((GatherDims.mem_sKept _ _).mp h).1 (List.mem_singleton.mpr rfl))]
    unfold GatherDims.start
    rw [dif_pos (show ((⟨1, by decide⟩ : Fin S8192x64.rank)) ∈ D.startIndexMap from List.mem_singleton.mpr rfl)]
    have hsi : D.siIdx (ix2 t d) ⟨List.idxOf (⟨1, by decide⟩ : Fin S8192x64.rank) D.startIndexMap,
        List.idxOf_lt_length_iff.2 (List.mem_singleton.mpr rfl)⟩ = ix2 d 0 := by
      funext b; refine Fin.ext ?_
      match b with
      | ⟨0, _⟩ => rfl
      | ⟨1, _⟩ => rfl
    erw [hsi]
    rw [lanes_apply]
    show min (d.val % 64) 63 + 0 + 0 = d.val % 64
    omega

variable (m : (ℓ : Loc nD τ sig) → Buf (Elt Ideal) ℓ)

/-- The table of cosines. -/
theorem V_cos (c : Dev nD) (t : Fin 8192) (d : Fin 128) :
    (V m c main_v20 : Vec Ideal S8192x128 .f32) (ix2 t d) = Ideal.cos (angle t (d.val % 64)) := by
  have h : (V m c main_v20 : Vec Ideal S8192x128 .f32)
      = select (broadcastInDim S8192x128 ![1] bcast_S128_S8192x128_1 (constantI S128 1 1#1))
          (Host.gather gather_S8192x64_S128x1_S8192x128_0_1_n_n_1_1_81921 (Host.cos (F := Ideal) angles) lanes)
          (broadcastInDim S8192x128 ![] bcast_S_S8192x128 (constant (F := Ideal) S_ .f32 2143289344#32)) := by
    dsimp only [V, List.flatten_cons, List.flatten_nil, List.cons_append, List.nil_append, List.append_nil]
    after_results
    rfl
  rw [h]
  show Scalar.select 1#1 _ _ = _
  rw [ValueIdx.select_one, gather_apply]
  show Ideal.cos (angles (ix2 t (freq d))) = _
  rw [angles_apply]
  rfl

/-- The table of log decays. -/
theorem V_lg (c : Dev nD) (h : Fin 4) (l : Fin 128) :
    (V m c main_v39 : Vec Ideal S4x128 .f32) (ix2 h l) = logDecay h := by
  have e : (V m c main_v39 : Vec Ideal S4x128 .f32)
      = broadcastInDim S4x128 ![0, 1] bcast_S4x1_S4x128_0_1 (broadcastInDim S4x1 ![0] bcast_S4_S4x1_0
          (Host.log (F := Ideal) (subf (broadcastInDim S4 ![] bcast_S_S4 (constant (F := Ideal) S_ .f32 0x3F800000#32))
            (Host.powf (F := Ideal) (broadcastInDim S4 ![] bcast_S_S4 (constant (F := Ideal) S_ .f32 0x40000000#32))
              (subf (broadcastInDim S4 ![] bcast_S_S4 (constant (F := Ideal) S_ .f32 0xC0A00000#32))
                (sitofp (F := Ideal) .f32 (iotaInDim S4 32 0))))))) := by
    dsimp only [V, List.flatten_cons, List.flatten_nil, List.cons_append, List.nil_append, List.append_nil]
    after_results
    try rfl
  rw [e]
  unfold logDecay num
  pointwise []

/-- A select between two values along the lanes, by a mask. -/
theorem select_lane (w : Fin 128 → BitVec 1) (a b : Vec Ideal S8192x128 .f32) (t : Fin 8192) (d : Fin 128) :
    select (broadcastInDim S8192x128 ![1] bcast_S128_S8192x128_1 (fun i => w (S128.rowMajor i))) a b (ix2 t d)
      = Scalar.select (w d) (a (ix2 t d)) (b (ix2 t d)) := by
  show Scalar.select (w (S128.rowMajor _)) _ _ = _
  refine congrArg (fun k => Scalar.select (w k) (a (ix2 t d)) (b (ix2 t d))) (Fin.ext ?_)
  exact Shape.rowMajor_val_one _

/-- The gathered sines. -/
def sines : Vec Ideal S8192x128 .f32 :=
  Host.gather gather_S8192x64_S128x1_S8192x128_0_1_n_n_1_1_81921 (Host.sin (F := Ideal) (φ := .f32) angles) lanes

/-- An array of zeros. -/
def zeros : Vec Ideal S8192x128 .f32 :=
  broadcastInDim S8192x128 ![] bcast_S_S8192x128 (constant (F := Ideal) S_ .f32 0#32)

/-- The table of signed sines. -/
theorem V_sin (c : Dev nD) (t : Fin 8192) (d : Fin 128) :
    (V m c main_v40 : Vec Ideal S8192x128 .f32) (ix2 t d)
      = if d.val < 64 then -Ideal.sin (angle t (d.val % 64)) else Ideal.sin (angle t (d.val % 64)) := by
  have h : (V m c main_v40 : Vec Ideal S8192x128 .f32)
      = addf (F := Ideal) (φ := .f32) (select (broadcastInDim S8192x128 ![1] bcast_S128_S8192x128_1 (fun i => lit1 (S128.rowMajor i)))
            (Host.negf (F := Ideal) (φ := .f32) sines) zeros)
          (select (broadcastInDim S8192x128 ![1] bcast_S128_S8192x128_1 (fun i => lit2 (S128.rowMajor i))) sines zeros) := by
    dsimp only [V, List.flatten_cons, List.flatten_nil, List.cons_append, List.nil_append, List.append_nil]
    after_results
    rfl
  have hz : zeros (ix2 t d) = 0 := by
    unfold zeros
    pointwise []
  have hs : sines (ix2 t d) = Ideal.sin (angle t (d.val % 64)) := by
    unfold sines
    rw [gather_apply]
    show Ideal.sin (angles (ix2 t (freq d))) = _
    rw [angles_apply]
    rfl
  rw [h]
  show (select _ _ _ (ix2 t d) : EReal) + select _ _ _ (ix2 t d) = _
  rw [select_lane, select_lane, lit1_eq, lit2_eq, hz, hs]
  have hn : (Host.negf (F := Ideal) (φ := .f32) sines) (ix2 t d) = -Ideal.sin (angle t (d.val % 64)) := by
    rw [← hs]; rfl
  rw [hn]
  by_cases hd : d.val < 64
  · simp only [if_pos hd, ValueIdx.select_one, ValueIdx.select_zero, add_zero]
  · simp only [if_neg hd, ValueIdx.select_one, ValueIdx.select_zero, zero_add]

/-! ### The tables are real numbers -/

theorem one_f32 : Ideal.ofBits .f32 0x3F800000#32 = ((1 : ℝ) : EReal) := by
  simp [Ideal.ofBits, Ideal.ieee, -EReal.coe_mul]
  norm_num

theorem two_f32 : Ideal.ofBits .f32 0x40000000#32 = ((2 : ℝ) : EReal) := by
  simp [Ideal.ofBits, Ideal.ieee, -EReal.coe_mul]
  norm_num

theorem base_f32 : Ideal.ofBits .f32 0x461C4000#32 = ((10000 : ℝ) : EReal) := by
  simp [Ideal.ofBits, Ideal.ieee, -EReal.coe_mul]
  norm_num

theorem half_f32 : Ideal.ofBits .f32 0x42800000#32 = ((64 : ℝ) : EReal) := by
  simp [Ideal.ofBits, Ideal.ieee, -EReal.coe_mul]
  norm_num

theorem negFive_f32 : Ideal.ofBits .f32 0xC0A00000#32 = ((-5 : ℝ) : EReal) := by
  simp [Ideal.ofBits, Ideal.ieee, -EReal.coe_mul]
  norm_num

theorem isReal_div {x : EReal} (hx : IsReal x) {r : ℝ} (hr : r ≠ 0) : IsReal (Ideal.div x (r : EReal)) := by
  rw [Ideal.div_coe hr]
  exact hx.mul (IsReal.coe _)

theorem isReal_angle (t d : ℕ) : IsReal (angle t d) := by
  unfold angle
  rw [base_f32, half_f32]
  obtain ⟨y, hy⟩ := isReal_div (isReal_num d) (show (64 : ℝ) ≠ 0 by norm_num)
  rw [hy]
  refine (isReal_num t).mul ?_
  show IsReal (Ideal.div _ ((Real.rpow 10000 y : ℝ) : EReal))
  refine isReal_div ?_ (Real.rpow_pos_of_pos (by norm_num) y).ne'
  rw [one_f32]
  exact IsReal.coe _

theorem isReal_cos {x : EReal} (hx : IsReal x) : IsReal (Ideal.cos x) := by
  obtain ⟨r, rfl⟩ := hx
  exact ⟨Real.cos r, rfl⟩

theorem isReal_sin {x : EReal} (hx : IsReal x) : IsReal (Ideal.sin x) := by
  obtain ⟨r, rfl⟩ := hx
  exact ⟨Real.sin r, rfl⟩

theorem isReal_logDecay (h : Fin 4) : IsReal (logDecay h) := by
  have hh : ∃ r : ℝ, 0 ≤ r ∧ num h = (r : EReal) := by
    refine ⟨((BitVec.ofNat 32 h.val).toInt : ℝ), ?_, rfl⟩
    have : 0 ≤ (BitVec.ofNat 32 h.val).toInt := by revert h; decide
    exact_mod_cast this
  obtain ⟨r, hr, hn⟩ := hh
  unfold logDecay
  rw [hn, one_f32, two_f32, negFive_f32, ← EReal.coe_sub]
  show IsReal (Ideal.log (((1 : ℝ) : EReal) - ((Real.rpow 2 (-5 - r) : ℝ) : EReal)))
  rw [← EReal.coe_sub]
  have hlt : Real.rpow 2 (-5 - r) < 1 := Real.rpow_lt_one_of_one_lt_of_neg (by norm_num) (by linarith)
  refine ⟨Real.log (1 - Real.rpow 2 (-5 - r)), ?_⟩
  show (if 1 - Real.rpow 2 (-5 - r) ≤ 0 then (⊥ : EReal) else _) = _
  rw [if_neg (by linarith)]

end Cert.Retention

end
-- ==== Proof.Vocab.lean ====
/-
  The vocabulary of one grid point of the kernel.  For every head and every batch entry the body does the same work on
  other blocks; it is written out eight times.  `newState` is the state one copy stores and `outBlock` the block of the
  result it stores, as functions of the blocks the copy loads: the two rotation tables `cb`, `sb`, the head's row of log
  decays `lg`, the blocks `q`, `k`, `v`, `g` of the projection and the state `s`.  The other copies store the same functions
  of their own blocks (`state_‹b›‹h›`, `out_‹b›‹h›`).
-/
module

public import proofs.«01_k».proof.Proof.Gen.KernelIdeal.Skeleton

@[expose] public section

noncomputable section

namespace Cert.Retention

open Idealize.ShloMosaic Idealize.ShloMosaic.TcCoe
open Cert.KernelIdeal Cert.KernelIdeal.Gen

variable {F : FTy → Type} [FloatOps F]

/-- The state a copy stores. -/
def newState (cb sb : Vec F S128x128 .f32) (lg : Vec F S1x128 .f32) (k : Vec F S1x128x128 .f32) (v s : Vec F S1x128x256 .f32) :
    FVec F S1x128x256 .f32 :=
  k0_pay34 (k0_pay21 lg) (k0_pay22 lg) (k0_pay24 v) (k0_pay26 (k0_pay12 cb) (k0_pay13 sb) k) (k0_pay27 s)

/-- The block of the result a copy stores. -/
def outBlock (cb sb : Vec F S128x128 .f32) (lg : Vec F S1x128 .f32) (q k : Vec F S1x128x128 .f32) (v g s : Vec F S1x128x256 .f32) :
    FVec F S1x128x256 .bf16 :=
  k0_pay38 (k0_pay33 (k0_pay20 lg) (k0_pay25 (k0_pay12 cb) (k0_pay13 sb) (k0_pay23 q)) (k0_pay27 s) (k0_pay31 (k0_pay12 cb) (k0_pay13 sb) (k0_pay19 lg) (k0_pay23 q) k v) (k0_pay32 (k0_pay12 cb) (k0_pay13 sb) (k0_pay19 lg) (k0_pay23 q) k v)) (k0_pay35 g) (k0_pay36 (k0_pay20 lg) (k0_pay25 (k0_pay12 cb) (k0_pay13 sb) (k0_pay23 q)) (k0_pay27 s) (k0_pay31 (k0_pay12 cb) (k0_pay13 sb) (k0_pay19 lg) (k0_pay23 q) k v) (k0_pay32 (k0_pay12 cb) (k0_pay13 sb) (k0_pay19 lg) (k0_pay23 q) k v)) k0_pay37

variable (cb sb : Vec F S128x128 .f32) (lg : Vec F S1x128 .f32) (q k : Vec F S1x128x128 .f32) (v g s : Vec F S1x128x256 .f32)

theorem state_13 : k0_pay142 (k0_pay118 (k0_pay14 (F := F)) lg) (k0_pay119 lg) (k0_pay132 v) (k0_pay134 (k0_pay12 cb) (k0_pay13 sb) k) (k0_pay135 s)
    = newState cb sb lg k v s := rfl

theorem state_03 : k0_pay130 (k0_pay118 (k0_pay14 (F := F)) lg) (k0_pay119 lg) (k0_pay121 v) (k0_pay123 (k0_pay12 cb) (k0_pay13 sb) (k0_pay120 k)) (k0_pay124 s)
    = newState cb sb lg k v s := rfl

theorem state_12 : k0_pay111 (k0_pay83 (k0_pay14 (F := F)) (k0_pay78 lg)) (k0_pay84 (k0_pay79 lg)) (k0_pay102 v) (k0_pay104 (k0_pay12 cb) (k0_pay13 sb) (k0_pay101 k)) (k0_pay105 s)
    = newState cb sb lg k v s := rfl

theorem state_02 : k0_pay98 (k0_pay92 (k0_pay84 (k0_pay79 lg)) (k0_pay88 s)) (k0_pay94 (k0_pay83 (k0_pay14 (F := F)) (k0_pay78 lg)) (k0_pay87 (k0_pay12 cb) (k0_pay13 sb) k)) (k0_pay95 (k0_pay83 (k0_pay14 (F := F)) (k0_pay78 lg)) (k0_pay87 (k0_pay12 cb) (k0_pay13 sb) k)) (k0_pay96 (k0_pay85 v)) (k0_pay97 (k0_pay85 v))
    = newState cb sb lg k v s := rfl

theorem state_11 : k0_pay76 (k0_pay68 v) (k0_pay73 (k0_pay58 (k0_pay54 lg)) s) (k0_pay74 (k0_pay57 (k0_pay14 (F := F)) (k0_pay53 lg)) (k0_pay70 (k0_pay12 cb) (k0_pay13 sb) k)) (k0_pay75 (k0_pay57 (k0_pay14 (F := F)) (k0_pay53 lg)) (k0_pay70 (k0_pay12 cb) (k0_pay13 sb) k))
    = newState cb sb lg k v s := rfl

theorem state_01 : k0_pay66 (k0_pay65 (k0_pay57 (k0_pay14 (F := F)) (k0_pay53 lg)) (k0_pay58 (k0_pay54 lg)) (k0_pay59 v) (k0_pay61 (k0_pay12 cb) (k0_pay13 sb) k) (k0_pay62 s))
    = newState cb sb lg k v s := rfl

theorem state_10 : k0_pay51 (k0_pay49 (k0_pay22 lg) (k0_pay42 s)) (k0_pay50 (k0_pay21 lg) (k0_pay39 v) (k0_pay41 (k0_pay12 cb) (k0_pay13 sb) k))
    = newState cb sb lg k v s := rfl

theorem out_13 : k0_pay1 (k0_pay141 (k0_pay117 (k0_pay16 (F := F)) lg) (k0_pay133 (k0_pay12 cb) (k0_pay13 sb) q) (k0_pay135 s) (k0_pay137 (k0_pay12 cb) (k0_pay13 sb) (k0_pay116 (k0_pay15 (F := F)) lg) q k) (k0_pay138 (k0_pay12 cb) (k0_pay13 sb) (k0_pay116 (k0_pay15 (F := F)) lg) q k) (k0_pay139 v) (k0_pay140 v) (constant (F := F) S128x256 .f32 0#32)) (k0_pay143 g)
    = outBlock cb sb lg q k v g s := rfl

theorem out_03 : k0_pay131 (k0_pay117 (k0_pay16 (F := F)) lg) (k0_pay125 (k0_pay12 cb) (k0_pay13 sb) (k0_pay116 (k0_pay15 (F := F)) lg) (k0_pay120 k) (k0_pay121 v) (k0_pay122 (k0_pay12 cb) (k0_pay13 sb) q)) (k0_pay127 (k0_pay122 (k0_pay12 cb) (k0_pay13 sb) q)) (k0_pay128 s) (k0_pay129 (k0_pay122 (k0_pay12 cb) (k0_pay13 sb) q) s) (constant (F := F) S128x256 .f32 0#32) g
    = outBlock cb sb lg q k v g s := rfl

theorem out_12 : k0_pay113 (k0_pay112 (k0_pay82 (k0_pay16 (F := F)) (k0_pay79 lg)) (k0_pay106 (k0_pay12 cb) (k0_pay13 sb) (k0_pay81 (k0_pay15 (F := F)) (k0_pay78 lg) (k0_pay80 (k0_pay15 (F := F)))) (k0_pay100 q) (k0_pay101 k) v) (k0_pay107 (k0_pay12 cb) (k0_pay13 sb) (k0_pay100 q)) (k0_pay108 (k0_pay12 cb) (k0_pay13 sb) (k0_pay100 q)) (k0_pay109 s) (k0_pay110 s) g)
    = outBlock cb sb lg q k v g s := rfl

theorem out_02 : k0_pay99 (k0_pay91 (k0_pay81 (k0_pay15 (F := F)) (k0_pay78 lg) (k0_pay80 (k0_pay15 (F := F)))) (k0_pay82 (k0_pay16 (F := F)) (k0_pay79 lg)) (k0_pay85 v) (k0_pay86 (k0_pay12 cb) (k0_pay13 sb) q) (k0_pay87 (k0_pay12 cb) (k0_pay13 sb) k) (k0_pay88 s) (k0_pay89 (k0_pay12 cb) (k0_pay13 sb) q) (k0_pay90 (k0_pay12 cb) (k0_pay13 sb) q)) g
    = outBlock cb sb lg q k v g s := rfl

theorem out_11 : k0_pay77 (k0_pay72 (k0_pay55 (k0_pay15 (F := F)) lg) (k0_pay56 (k0_pay16 (F := F)) lg) (k0_pay68 v) (k0_pay69 (k0_pay12 cb) (k0_pay13 sb) q) (k0_pay70 (k0_pay12 cb) (k0_pay13 sb) k) s) g
    = outBlock cb sb lg q k v g s := rfl

theorem out_01 : k0_pay67 (k0_pay64 (k0_pay56 (k0_pay16 (F := F)) lg) (k0_pay59 v) (k0_pay60 (k0_pay12 cb) (k0_pay13 sb) q) (k0_pay62 s) (k0_pay63 (k0_pay12 cb) (k0_pay13 sb) (k0_pay55 (k0_pay15 (F := F)) lg) q k)) g
    = outBlock cb sb lg q k v g s := rfl

theorem out_10 : k0_pay52 (k0_pay48 (k0_pay19 lg) (k0_pay20 lg) (k0_pay39 v) (k0_pay40 (k0_pay12 cb) (k0_pay13 sb) q) (k0_pay42 s) (k0_pay43 (k0_pay12 cb) (k0_pay13 sb) q) (k0_pay44 (k0_pay12 cb) (k0_pay13 sb) q) (k0_pay45 (k0_pay12 cb) (k0_pay13 sb) k) (k0_pay46 (k0_pay12 cb) (k0_pay13 sb) k) (k0_pay47 (k0_pay12 cb) (k0_pay13 sb) q k) (constant (F := F) S128x128 .f32 0#32)) g
    = outBlock cb sb lg q k v g s := rfl

end Cert.Retention

end
-- ==== Proof.Tile.lean ====
/-
  One copy of the kernel's work, entry by entry: the state it stores is `chunkState` and the block it stores is `gated` of
  `chunkOut`, where the values it multiplies are real.
-/
module

public import proofs.«01_k».proof.Proof.Vocab
public import proofs.«01_k».proof.Proof.Model

@[expose] public section

noncomputable section

namespace Cert.Retention

open Idealize.ShloMosaic Idealize.ShloMosaic.TcCoe
open Cert.KernelIdeal Cert.KernelIdeal.Gen
open scoped BigOperators

/-- The lane 64 places to the left, around the end: the partner of lane `d` in the rotation. -/
def partner (d : Fin 128) : Fin 128 := ⟨(d.val + 128 - 64) % 128, Nat.mod_lt _ (by decide)⟩

/-- The rotation of a row `x` by the tables `c` and `s`. -/
def rotate (c s x : Fin 128 → EReal) (d : Fin 128) : EReal := x d * c d + x (partner d) * s d

variable (cb sb : Vec Ideal S128x128 .f32) (lg : Vec Ideal S1x128 .f32) (q k : Vec Ideal S1x128x128 .f32) (v g s : Vec Ideal S1x128x256 .f32)

/-- The rotated q of the block. -/
def blockQ (i d : Fin 128) : EReal := rotate (fun d => cb (ix2 i d)) (fun d => sb (ix2 i d)) (fun d => q (ix3 0 i d)) d

/-- The rotated and scaled k of the block. -/
def blockK (i d : Fin 128) : EReal := rotate (fun d => cb (ix2 i d)) (fun d => sb (ix2 i d)) (fun d => k (ix3 0 i d)) d * cScale

theorem rotQ_apply (i d : Fin 128) : k0_pay25 (k0_pay12 cb) (k0_pay13 sb) (k0_pay23 q) (ix2 i d) = blockQ cb sb q i d := by
  unfold blockQ rotate partner
  pointwise [k0_pay25, k0_pay12, k0_pay13, k0_pay23]

theorem rotK_apply (i d : Fin 128) : k0_pay26 (k0_pay12 cb) (k0_pay13 sb) k (ix2 i d) = blockK cb sb k i d := by
  unfold blockK rotate partner cScale
  pointwise [k0_pay26, k0_pay12, k0_pay13]

variable {cb sb lg q k v g s} {L : EReal} (hL : IsReal L) (hlg : ∀ l, lg (ix2 0 l) = L)
  (hQ : ∀ i d, IsReal (blockQ cb sb q i d)) (hK : ∀ i d, IsReal (blockK cb sb k i d)) (hV : ∀ i e, IsReal (v (ix3 0 i e)))
  (hS : ∀ d e, IsReal (s (ix3 0 d e)))

include hL hlg hK hV in
/-- The state a copy stores. -/
theorem newState_apply (d : Fin 128) (e : Fin 256) : newState cb sb lg k v s (ix3 0 d e)
    = chunkState L (blockK cb sb k) (fun j e => v (ix3 0 j e)) (fun d e => s (ix3 0 d e)) d e := by
  unfold newState
  have hk := rotK_apply cb sb k
  generalize k0_pay26 (k0_pay12 cb) (k0_pay13 sb) k = kr at hk ⊢
  pointwise [k0_pay34, k0_pay21, k0_pay22, k0_pay24, k0_pay27, k0_pay14, k0_pay18, k0_pay17]
  simp only [hlg, hk, dite_eq_ite, ite_self]
  exact congrArg (throughChunk L * s (ix3 0 d e) + ·) (split_dot (fun i => (hK i d).mul (isReal_toState hL i)) (fun i => hV i e))

include hL hlg hQ hK in
theorem scores_apply (i j : Fin 128) :
    k0_pay28 (k0_pay12 cb) (k0_pay13 sb) (k0_pay19 lg) (k0_pay23 q) k (ix2 i j)
      = (∑ d, blockQ cb sb q i d * blockK cb sb k j d) * decayMask L i j := by
  have hk := rotK_apply cb sb k
  have hq := rotQ_apply cb sb q
  unfold k0_pay28
  generalize k0_pay26 (k0_pay12 cb) (k0_pay13 sb) k = kr at hk ⊢
  generalize k0_pay25 (k0_pay12 cb) (k0_pay13 sb) (k0_pay23 q) = qr at hq ⊢
  pointwise [k0_pay19, k0_pay15, k0_pay14, k0_pay17]
  simp only [hlg, hk, hq]
  rw [split_dot (fun d => hQ i d) (fun d => hK j d)]
  rfl

include hL hlg hQ hK hV hS in
/-- A copy's output before it is normalised and gated. -/
theorem rowOut_apply (i : Fin 128) (e : Fin 256) :
    k0_pay33 (k0_pay20 lg) (k0_pay25 (k0_pay12 cb) (k0_pay13 sb) (k0_pay23 q)) (k0_pay27 s)
        (k0_pay31 (k0_pay12 cb) (k0_pay13 sb) (k0_pay19 lg) (k0_pay23 q) k v)
        (k0_pay32 (k0_pay12 cb) (k0_pay13 sb) (k0_pay19 lg) (k0_pay23 q) k v) (ix2 i e)
      = chunkOut L (blockQ cb sb q) (blockK cb sb k) (fun j e => v (ix3 0 j e)) (fun d e => s (ix3 0 d e)) i e := by
  have hq := rotQ_apply cb sb q
  have hsc := scores_apply hL hlg hQ hK
  unfold k0_pay31 k0_pay32 k0_pay29
  generalize k0_pay28 (k0_pay12 cb) (k0_pay13 sb) (k0_pay19 lg) (k0_pay23 q) k = sc at hsc ⊢
  generalize k0_pay25 (k0_pay12 cb) (k0_pay13 sb) (k0_pay23 q) = qr at hq ⊢
  pointwise [k0_pay33, k0_pay20, k0_pay27, k0_pay16, k0_pay18, k0_pay17, k0_pay30, k0_pay24]
  simp only [hlg, hq, hsc, dite_eq_ite, ite_self]
  exact congrArg₂ (fun a b => a + b * fromState L i)
    (split_dot (fun j => IsReal.mul (.sum _ fun d => (hQ i d).mul (hK j d)) (isReal_decayMask hL i j)) (fun j => hV j e))
    (split_dot (fun d => hQ i d) (fun d => hS d e))

include hL hlg hQ hK hV hS in
/-- The block a copy stores. -/
theorem outBlock_apply (i : Fin 128) (e : Fin 256) : outBlock cb sb lg q k v g s (ix3 0 i e)
    = gated (g (ix3 0 i e))
        (chunkOut L (blockQ cb sb q) (blockK cb sb k) (fun j e => v (ix3 0 j e)) (fun d e => s (ix3 0 d e)) i) e := by
  have ho := rowOut_apply hL hlg hQ hK hV hS
  unfold outBlock k0_pay36
  generalize k0_pay33 (k0_pay20 lg) (k0_pay25 (k0_pay12 cb) (k0_pay13 sb) (k0_pay23 q)) (k0_pay27 s)
        (k0_pay31 (k0_pay12 cb) (k0_pay13 sb) (k0_pay19 lg) (k0_pay23 q) k v)
        (k0_pay32 (k0_pay12 cb) (k0_pay13 sb) (k0_pay19 lg) (k0_pay23 q) k v) = o at ho ⊢
  pointwise [k0_pay38, k0_pay35, k0_pay37]
  simp only [ho]
  rfl

end Cert.Retention

end
-- ==== Proof.Blocks.lean ====
/-
  One grid point over the blocks its windows hold: `x0` and `x1` the q and the k columns of the point's 128 rows, `x2` the
  v columns, `x3` the gate's, `x4` and `x5` the rotation tables' rows, `x6` the table of log decays, `xs` the states of the
  eight (batch entry, head) pairs.  Every copy of the body loads the part of them its batch entry and its head have;
  `ptState` and `ptOut` are what it stores, read off the blocks.
-/
module

public import proofs.«01_k».proof.Proof.Tile

@[expose] public section

noncomputable section

namespace Cert.Retention

open Idealize.ShloMosaic Idealize.ShloMosaic.TcCoe
open Cert.KernelIdeal Cert.KernelIdeal.Gen
open scoped BigOperators

/-- Column `d` of head `h` among the q (or k) columns. -/
def laneQ (h : Fin 4) (d : Fin 128) : Fin 512 := ⟨128 * h.val + d.val, by omega⟩

/-- Column `e` of head `h` among the v (or gate) columns. -/
def laneV (h : Fin 4) (e : Fin 256) : Fin 1024 := ⟨256 * h.val + e.val, by omega⟩

/-- The state's row of batch entry `b` and head `h`. -/
def row (b : Fin 2) (h : Fin 4) : Fin 8 := ⟨4 * b.val + h.val, by omega⟩

variable (x0 x1 : Vec Ideal S2x128x512 .f32) (x2 x3 : Vec Ideal S2x128x1024 .f32) (x4 x5 : Vec Ideal S128x128 .f32)
  (x6 : Vec Ideal S4x128 .f32) (xs : Vec Ideal S8x128x256 .f32)

/-- The rotated rows of q (or k). -/
def ptRot (b : Fin 2) (h : Fin 4) (i d : Fin 128) : EReal :=
  rotate (fun d => x4 (ix2 i d)) (fun d => x5 (ix2 i d)) (fun d => x0 (ix3 b i (laneQ h d))) d

/-- The state of batch entry `b` and head `h` after the point. -/
def ptState (b : Fin 2) (h : Fin 4) (d : Fin 128) (e : Fin 256) : EReal :=
  chunkState (x6 (ix2 h 0)) (fun j d => ptRot x1 x4 x5 b h j d * cScale) (fun j e => x2 (ix3 b j (laneV h e)))
    (fun d e => xs (ix3 (row b h) d e)) d e

/-- The result of batch entry `b` and head `h` at the point. -/
def ptOut (b : Fin 2) (h : Fin 4) (i : Fin 128) (e : Fin 256) : EReal :=
  gated (x3 (ix3 b i (laneV h e)))
    (chunkOut (x6 (ix2 h 0)) (ptRot x0 x4 x5 b h) (fun j d => ptRot x1 x4 x5 b h j d * cScale) (fun j e => x2 (ix3 b j (laneV h e)))
      (fun d e => xs (ix3 (row b h) d e)) i) e

/-- The states after the point, as the array the scratch holds. -/
def stateArr : Vec Ideal S8x128x256 .f32 := fun y =>
  ptState x1 x2 x4 x5 x6 xs ⟨(y 0).val / 4, by have : (y 0).val < 8 := (y 0).isLt; omega⟩ ⟨(y 0).val % 4, by omega⟩ (y 1) (y 2)

/-- The states after the point, as the array of the last point's second output. -/
def finalArr : Vec Ideal S2x4x128x256 .f32 := fun y => ptState x1 x2 x4 x5 x6 xs (y 0) (y 1) (y 2) (y 3)

/-- The point's block of the result. -/
def outArr : Vec Ideal S2x128x1024 .bf16 := fun y =>
  ptOut x0 x1 x2 x3 x4 x5 x6 xs (y 0) ⟨(y 2).val / 256, by have : (y 2).val < 1024 := (y 2).isLt; omega⟩ (y 1)
    ⟨(y 2).val % 256, by omega⟩

/-- Everything the blocks hold is a real number, and a head's log decay is the same in every lane. -/
structure Good : Prop where
  h0 : ∀ y, IsReal (x0 y)
  h1 : ∀ y, IsReal (x1 y)
  h2 : ∀ y, IsReal (x2 y)
  h4 : ∀ y, IsReal (x4 y)
  h5 : ∀ y, IsReal (x5 y)
  h6 : ∀ y, IsReal (x6 y)
  hs : ∀ y, IsReal (xs y)
  lane : ∀ h l, x6 (ix2 h l) = x6 (ix2 h 0)

variable {x0 x1 x2 x3 x4 x5 x6 xs}

theorem isReal_rotate {c s x : Fin 128 → EReal} (hc : ∀ d, IsReal (c d)) (hs : ∀ d, IsReal (s d)) (hx : ∀ d, IsReal (x d)) (d : Fin 128) :
    IsReal (rotate c s x d) := ((hx d).mul (hc d)).add ((hx _).mul (hs d))

/-! What a copy loads. -/

variable {b : Fin 2} {h : Fin 4} {bn hn n oq ov : ℕ}

theorem ld_q (x : Vec Ideal S2x128x512 .f32) (e1 : bn = b.val) (e4 : oq = 128 * h.val) {inb} (i d : Fin 128) :
    (View.ld x (Rect.unit ![bn, 0, oq] ![1, 128, 128] inb) : Vec Ideal S1x128x128 .f32) (ix3 0 i d) = x (ix3 b i (laneQ h d)) := by
  subst e1 e4
  refine congrArg x (funext fun a => Fin.ext ?_)
  match a with
  | ⟨0, _⟩ => exact Nat.add_zero _
  | ⟨1, _⟩ => show 0 + 1 * i.val = i.val; omega
  | ⟨2, _⟩ => show 128 * h.val + 1 * d.val = 128 * h.val + d.val; omega

theorem ld_v (x : Vec Ideal S2x128x1024 .f32) (e1 : bn = b.val) (e5 : ov = 256 * h.val) {inb} (i : Fin 128) (e : Fin 256) :
    (View.ld x (Rect.unit ![bn, 0, ov] ![1, 128, 256] inb) : Vec Ideal S1x128x256 .f32) (ix3 0 i e) = x (ix3 b i (laneV h e)) := by
  subst e1 e5
  refine congrArg x (funext fun a => Fin.ext ?_)
  match a with
  | ⟨0, _⟩ => exact Nat.add_zero _
  | ⟨1, _⟩ => show 0 + 1 * i.val = i.val; omega
  | ⟨2, _⟩ => show 256 * h.val + 1 * e.val = 256 * h.val + e.val; omega

theorem ld_s (x : Vec Ideal S8x128x256 .f32) (e3 : n = 4 * b.val + h.val) {inb} (i : Fin 128) (e : Fin 256) :
    (View.ld x (Rect.unit ![n, 0, 0] ![1, 128, 256] inb) : Vec Ideal S1x128x256 .f32) (ix3 0 i e) = x (ix3 (row b h) i e) := by
  subst e3
  refine congrArg x (funext fun a => Fin.ext ?_)
  match a with
  | ⟨0, _⟩ => exact Nat.add_zero _
  | ⟨1, _⟩ => show 0 + 1 * i.val = i.val; omega
  | ⟨2, _⟩ => show 0 + 1 * e.val = e.val; omega

theorem ld_l (x : Vec Ideal S4x128 .f32) (e2 : hn = h.val) {inb} (l : Fin 128) :
    (View.ld x (Rect.unit ![hn, 0] ![1, 128] inb) : Vec Ideal S1x128 .f32) (ix2 0 l) = x (ix2 h l) := by
  subst e2
  refine congrArg x (funext fun a => Fin.ext ?_)
  match a with
  | ⟨0, _⟩ => exact Nat.add_zero _
  | ⟨1, _⟩ => show 0 + 1 * l.val = l.val; omega

theorem ld_t (x : Vec Ideal S128x128 .f32) {inb} : View.ld x (Rect.unit ![0, 0] ![128, 128] inb) = x :=
  View.ld_unit_zero (S := S128x128) (by funext a; match a with | ⟨0, _⟩ => rfl | ⟨1, _⟩ => rfl) inb x

/-! What a copy stores. -/

variable (G : Good x0 x1 x2 x4 x5 x6 xs)
include G

theorem isReal_ptRot {x : Vec Ideal S2x128x512 .f32} (hx : ∀ y, IsReal (x y)) (b : Fin 2) (h : Fin 4) (i d : Fin 128) :
    IsReal (ptRot x x4 x5 b h i d) := isReal_rotate (fun _ => G.h4 _) (fun _ => G.h5 _) (fun _ => hx _) d

theorem isReal_ptState (b : Fin 2) (h : Fin 4) (d : Fin 128) (e : Fin 256) : IsReal (ptState x1 x2 x4 x5 x6 xs b h d e) :=
  isReal_chunkState (G.h6 _) (fun _ _ => (isReal_ptRot G G.h1 _ _ _ _).mul isReal_cScale) (fun _ _ => G.h2 _) (fun _ _ => G.hs _) d e

theorem newState_ld (e1 : bn = b.val) (e2 : hn = h.val) (e3 : n = 4 * b.val + h.val) (e4 : oq = 128 * h.val)
    (e5 : ov = 256 * h.val) {i4 i5 i6 i1 i2 is} (d : Fin 128) (e : Fin 256) :
    newState (F := Ideal) (View.ld x4 (Rect.unit ![0, 0] ![128, 128] i4)) (View.ld x5 (Rect.unit ![0, 0] ![128, 128] i5))
      (View.ld x6 (Rect.unit ![hn, 0] ![1, 128] i6)) (View.ld x1 (Rect.unit ![bn, 0, oq] ![1, 128, 128] i1))
      (View.ld x2 (Rect.unit ![bn, 0, ov] ![1, 128, 256] i2)) (View.ld xs (Rect.unit ![n, 0, 0] ![1, 128, 256] is)) (ix3 0 d e)
      = ptState x1 x2 x4 x5 x6 xs b h d e := by
  have hk : blockK (View.ld x4 (Rect.unit ![0, 0] ![128, 128] i4)) (View.ld x5 (Rect.unit ![0, 0] ![128, 128] i5))
      (View.ld x1 (Rect.unit ![bn, 0, oq] ![1, 128, 128] i1)) = fun j d => ptRot x1 x4 x5 b h j d * cScale := by
    funext j d
    unfold blockK ptRot
    rw [ld_t, ld_t, funext (fun d => ld_q x1 e1 e4 (inb := i1) j d)]
  rw [newState_apply (L := x6 (ix2 h 0)) (G.h6 _) (fun l => (ld_l x6 e2 l).trans (G.lane h l))
    (fun j d => by rw [hk]; exact (isReal_ptRot G G.h1 _ _ _ _).mul isReal_cScale) (fun j e => G.h2 _), hk,
    funext fun j => funext fun e => ld_v x2 e1 e5 (inb := i2) j e, funext fun j => funext fun e => ld_s xs e3 (inb := is) j e]
  rfl

theorem outBlock_ld (e1 : bn = b.val) (e2 : hn = h.val) (e3 : n = 4 * b.val + h.val) (e4 : oq = 128 * h.val)
    (e5 : ov = 256 * h.val) {i4 i5 i6 i0 i1 i2 i3 is} (i : Fin 128) (e : Fin 256) :
    outBlock (F := Ideal) (View.ld x4 (Rect.unit ![0, 0] ![128, 128] i4)) (View.ld x5 (Rect.unit ![0, 0] ![128, 128] i5))
      (View.ld x6 (Rect.unit ![hn, 0] ![1, 128] i6)) (View.ld x0 (Rect.unit ![bn, 0, oq] ![1, 128, 128] i0))
      (View.ld x1 (Rect.unit ![bn, 0, oq] ![1, 128, 128] i1))
      (View.ld x2 (Rect.unit ![bn, 0, ov] ![1, 128, 256] i2)) (View.ld x3 (Rect.unit ![bn, 0, ov] ![1, 128, 256] i3))
      (View.ld xs (Rect.unit ![n, 0, 0] ![1, 128, 256] is)) (ix3 0 i e)
      = ptOut x0 x1 x2 x3 x4 x5 x6 xs b h i e := by
  have hk : blockK (View.ld x4 (Rect.unit ![0, 0] ![128, 128] i4)) (View.ld x5 (Rect.unit ![0, 0] ![128, 128] i5))
      (View.ld x1 (Rect.unit ![bn, 0, oq] ![1, 128, 128] i1)) = fun j d => ptRot x1 x4 x5 b h j d * cScale := by
    funext j d
    unfold blockK ptRot
    rw [ld_t, ld_t, funext (fun d => ld_q x1 e1 e4 (inb := i1) j d)]
  have hq : blockQ (View.ld x4 (Rect.unit ![0, 0] ![128, 128] i4)) (View.ld x5 (Rect.unit ![0, 0] ![128, 128] i5))
      (View.ld x0 (Rect.unit ![bn, 0, oq] ![1, 128, 128] i0)) = ptRot x0 x4 x5 b h := by
    funext j d
    unfold blockQ ptRot
    rw [ld_t, ld_t, funext (fun d => ld_q x0 e1 e4 (inb := i0) j d)]
  rw [outBlock_apply (L := x6 (ix2 h 0)) (G.h6 _) (fun l => (ld_l x6 e2 l).trans (G.lane h l))
    (fun j d => by rw [hq]; exact isReal_ptRot G G.h0 _ _ _ _)
    (fun j d => by rw [hk]; exact (isReal_ptRot G G.h1 _ _ _ _).mul isReal_cScale) (fun j e => G.h2 _) (fun d e => G.hs _), hk, hq,
    funext fun j => funext fun e => ld_v x2 e1 e5 (inb := i2) j e, funext fun j => funext fun e => ld_s xs e3 (inb := is) j e,
    ld_v x3 e1 e5]
  rfl

omit G in
theorem idx_eq (z : S1x128x256.Idx) : ∃ (d : Fin 128) (e : Fin 256), z = ix3 0 d e := by
  refine ⟨z 1, z 2, ?_⟩
  funext a
  match a with
  | ⟨0, _⟩ => exact Fin.ext (by have : (z 0).val < 1 := (z 0).isLt; show (z 0).val = 0; omega)
  | ⟨1, _⟩ => rfl
  | ⟨2, _⟩ => rfl

/-- A state stored is the states' array read under the store. -/
theorem state_piece (e1 : bn = b.val) (e2 : hn = h.val) (e3 : n = 4 * b.val + h.val) (e4 : oq = 128 * h.val)
    (e5 : ov = 256 * h.val) {i4 i5 i6 i1 i2 is io} (z : S1x128x256.Idx) :
    newState (F := Ideal) (View.ld x4 (Rect.unit ![0, 0] ![128, 128] i4)) (View.ld x5 (Rect.unit ![0, 0] ![128, 128] i5))
      (View.ld x6 (Rect.unit ![hn, 0] ![1, 128] i6)) (View.ld x1 (Rect.unit ![bn, 0, oq] ![1, 128, 128] i1))
      (View.ld x2 (Rect.unit ![bn, 0, ov] ![1, 128, 256] i2)) (View.ld xs (Rect.unit ![n, 0, 0] ![1, 128, 256] is)) z
      = stateArr x1 x2 x4 x5 x6 xs ((Rect.unit (s := S8x128x256) ![n, 0, 0] ![1, 128, 256] io).emb z) := by
  obtain ⟨d, e, rfl⟩ := idx_eq z
  refine (newState_ld G e1 e2 e3 e4 e5 d e).trans ?_
  have hb := b.isLt
  have hh := h.isLt
  subst e3
  unfold stateArr
  congr 1
  · exact Fin.ext (by show b.val = (4 * b.val + h.val + 1 * 0) / 4; omega)
  · exact Fin.ext (by show h.val = (4 * b.val + h.val + 1 * 0) % 4; omega)
  · exact Fin.ext (by show d.val = 0 + 1 * d.val; omega)
  · exact Fin.ext (by show e.val = 0 + 1 * e.val; omega)

/-- A block stored is the result's block read under the store. -/
theorem out_piece (e1 : bn = b.val) (e2 : hn = h.val) (e3 : n = 4 * b.val + h.val) (e4 : oq = 128 * h.val)
    (e5 : ov = 256 * h.val) {i4 i5 i6 i0 i1 i2 i3 is io} (z : S1x128x256.Idx) :
    outBlock (F := Ideal) (View.ld x4 (Rect.unit ![0, 0] ![128, 128] i4)) (View.ld x5 (Rect.unit ![0, 0] ![128, 128] i5))
      (View.ld x6 (Rect.unit ![hn, 0] ![1, 128] i6)) (View.ld x0 (Rect.unit ![bn, 0, oq] ![1, 128, 128] i0))
      (View.ld x1 (Rect.unit ![bn, 0, oq] ![1, 128, 128] i1))
      (View.ld x2 (Rect.unit ![bn, 0, ov] ![1, 128, 256] i2)) (View.ld x3 (Rect.unit ![bn, 0, ov] ![1, 128, 256] i3))
      (View.ld xs (Rect.unit ![n, 0, 0] ![1, 128, 256] is)) z
      = outArr x0 x1 x2 x3 x4 x5 x6 xs ((Rect.unit (s := S2x128x1024) ![bn, 0, ov] ![1, 128, 256] io).emb z) := by
  obtain ⟨d, e, rfl⟩ := idx_eq z
  refine (outBlock_ld G e1 e2 e3 e4 e5 d e).trans ?_
  have hb := b.isLt
  have hh := h.isLt
  subst e5 e1
  unfold outArr
  congr 1
  · exact Fin.ext (by show h.val = (256 * h.val + 1 * e.val) / 256; omega)
  · exact Fin.ext (by show d.val = 0 + 1 * d.val; omega)
  · exact Fin.ext (by show e.val = (256 * h.val + 1 * e.val) % 256; omega)

omit G in
theorem idx4_eq (z : S1x1x128x256.Idx) : ∃ (d : Fin 128) (e : Fin 256), z = ix4 0 0 d e := by
  refine ⟨z 2, z 3, ?_⟩
  funext a
  match a with
  | ⟨0, _⟩ => exact Fin.ext (by have : (z 0).val < 1 := (z 0).isLt; show (z 0).val = 0; omega)
  | ⟨1, _⟩ => exact Fin.ext (by have : (z 1).val < 1 := (z 1).isLt; show (z 1).val = 0; omega)
  | ⟨2, _⟩ => rfl
  | ⟨3, _⟩ => rfl

omit G in
theorem stack_apply (w : Vec Ideal S1x128x256 .f32) (d : Fin 128) (e : Fin 256) : k0_pay6 w (ix4 0 0 d e) = w (ix3 0 d e) := by
  pointwise [k0_pay6]

/-- A state stored into the second output is that output's array read under the store. -/
theorem final_piece (e1 : bn = b.val) (e2 : hn = h.val) (e3 : n = 4 * b.val + h.val) (e4 : oq = 128 * h.val)
    (e5 : ov = 256 * h.val) {i4 i5 i6 i1 i2 is io} (z : S1x1x128x256.Idx) :
    k0_pay6 (F := Ideal) (newState (F := Ideal) (View.ld x4 (Rect.unit ![0, 0] ![128, 128] i4)) (View.ld x5 (Rect.unit ![0, 0] ![128, 128] i5))
      (View.ld x6 (Rect.unit ![hn, 0] ![1, 128] i6)) (View.ld x1 (Rect.unit ![bn, 0, oq] ![1, 128, 128] i1))
      (View.ld x2 (Rect.unit ![bn, 0, ov] ![1, 128, 256] i2)) (View.ld xs (Rect.unit ![n, 0, 0] ![1, 128, 256] is))) z
      = finalArr x1 x2 x4 x5 x6 xs ((Rect.unit (s := S2x4x128x256) ![bn, hn, 0, 0] ![1, 1, 128, 256] io).emb z) := by
  obtain ⟨d, e, rfl⟩ := idx4_eq z
  refine ((stack_apply _ d e).trans (newState_ld G e1 e2 e3 e4 e5 d e)).trans ?_
  subst e1 e2
  unfold finalArr
  congr 1
  · exact Fin.ext (by show d.val = 0 + 1 * d.val; omega)
  · exact Fin.ext (by show e.val = 0 + 1 * e.val; omega)

end Cert.Retention

end
-- ==== Proof.Reads.lean ====
/-
  What each window holds at grid point `t`: the rows `128 t + i` of the columns it takes of the layer's projection, and the
  same rows of the rotation tables.
-/
module

public import proofs.«01_k».proof.Proof.Tables
public import proofs.«01_k».proof.Proof.Blocks
public import proofs.«01_k».proof.Proof.Gen.KernelIdeal.Value

@[expose] public section

noncomputable section

namespace Cert.Retention

open Idealize.ShloMosaic Idealize.ShloMosaic.TcCoe
open Cert.KernelIdeal Cert.KernelIdeal.Gen

variable (m : (ℓ : Loc nD τ sig) → Buf (Elt Ideal) ℓ) (c : Dev nD)

/-- The position of row `i` of chunk `t`. -/
def pos (t : Fin 64) (i : Fin 128) : Fin 8192 := ⟨128 * t.val + i.val, by omega⟩

/-- The point's number. -/
def num64 (t : Fin cfg0.N) : Fin 64 := ⟨t.val, lt_of_lt_of_eq t.isLt N_0⟩

/-- The projection. -/
def projOf : Vec Ideal S2x8192x10880 .f32 := m ((c : Thread nD τ).loc main_arg0)

theorem V_arg0 : (V m c main_arg0 : Vec Ideal S2x8192x10880 .f32) = projOf m c := by
  dsimp only [V, List.flatten_cons, List.flatten_nil, List.cons_append, List.nil_append, List.append_nil]
  after_results
  rfl

theorem index0 : ∀ t : Fin cfg0.N, win0_0.index t (0 : Fin 3) = 0 ∧ win0_0.index t (1 : Fin 3) = t.val ∧ win0_0.index t (2 : Fin 3) = 0 :=
  (by decide +kernel : ∀ t : Fin grid0.N, _)
theorem index1 : ∀ t : Fin cfg0.N, win0_1.index t (0 : Fin 3) = 0 ∧ win0_1.index t (1 : Fin 3) = t.val ∧ win0_1.index t (2 : Fin 3) = 1 :=
  (by decide +kernel : ∀ t : Fin grid0.N, _)
theorem index2 : ∀ t : Fin cfg0.N, win0_2.index t (0 : Fin 3) = 0 ∧ win0_2.index t (1 : Fin 3) = t.val ∧ win0_2.index t (2 : Fin 3) = 1 :=
  (by decide +kernel : ∀ t : Fin grid0.N, _)
theorem index3 : ∀ t : Fin cfg0.N, win0_3.index t (0 : Fin 3) = 0 ∧ win0_3.index t (1 : Fin 3) = t.val ∧ win0_3.index t (2 : Fin 3) = 2 :=
  (by decide +kernel : ∀ t : Fin grid0.N, _)
theorem index4 : ∀ t : Fin cfg0.N, win0_4.index t (0 : Fin 2) = t.val ∧ win0_4.index t (1 : Fin 2) = 0 :=
  (by decide +kernel : ∀ t : Fin grid0.N, _)
theorem index5 : ∀ t : Fin cfg0.N, win0_5.index t (0 : Fin 2) = t.val ∧ win0_5.index t (1 : Fin 2) = 0 :=
  (by decide +kernel : ∀ t : Fin grid0.N, _)
theorem index6 : ∀ t : Fin cfg0.N, win0_6.index t (0 : Fin 2) = 0 ∧ win0_6.index t (1 : Fin 2) = 0 :=
  (by decide +kernel : ∀ t : Fin grid0.N, _)

theorem X0_apply (t : Fin cfg0.N) (b : Fin 2) (i : Fin 128) (l : Fin 512) :
    X0_0 m c t (ix3 b i l) = projOf m c (ix3 b (pos (num64 t) i) ⟨l.val, by omega⟩) := by
  rw [← V_arg0]
  unfold X0_0 Pipeline.Window.fill
  rw [dif_pos (moved0_0 t _)]
  obtain ⟨e0, e1, e2⟩ := index0 t
  refine congrArg (V m c main_arg0 : Vec Ideal S2x8192x10880 .f32) (funext fun a => Fin.ext ?_)
  match a with
  | ⟨0, _⟩ => show win0_0.index t (0 : Fin 3) * 2 + 1 * b.val = b.val; omega
  | ⟨1, _⟩ => show win0_0.index t (1 : Fin 3) * 128 + 1 * i.val = 128 * t.val + i.val; omega
  | ⟨2, _⟩ => show win0_0.index t (2 : Fin 3) * 512 + 1 * l.val = l.val; omega

theorem X1_apply (t : Fin cfg0.N) (b : Fin 2) (i : Fin 128) (l : Fin 512) :
    X0_1 m c t (ix3 b i l) = projOf m c (ix3 b (pos (num64 t) i) ⟨512 + l.val, by omega⟩) := by
  rw [← V_arg0]
  unfold X0_1 Pipeline.Window.fill
  rw [dif_pos (moved0_1 t _)]
  obtain ⟨e0, e1, e2⟩ := index1 t
  refine congrArg (V m c main_arg0 : Vec Ideal S2x8192x10880 .f32) (funext fun a => Fin.ext ?_)
  match a with
  | ⟨0, _⟩ => show win0_1.index t (0 : Fin 3) * 2 + 1 * b.val = b.val; omega
  | ⟨1, _⟩ => show win0_1.index t (1 : Fin 3) * 128 + 1 * i.val = 128 * t.val + i.val; omega
  | ⟨2, _⟩ => show win0_1.index t (2 : Fin 3) * 512 + 1 * l.val = 512 + l.val; omega

theorem X2_apply (t : Fin cfg0.N) (b : Fin 2) (i : Fin 128) (l : Fin 1024) :
    X0_2 m c t (ix3 b i l) = projOf m c (ix3 b (pos (num64 t) i) ⟨1024 + l.val, by omega⟩) := by
  rw [← V_arg0]
  unfold X0_2 Pipeline.Window.fill
  rw [dif_pos (moved0_2 t _)]
  obtain ⟨e0, e1, e2⟩ := index2 t
  refine congrArg (V m c main_arg0 : Vec Ideal S2x8192x10880 .f32) (funext fun a => Fin.ext ?_)
  match a with
  | ⟨0, _⟩ => show win0_2.index t (0 : Fin 3) * 2 + 1 * b.val = b.val; omega
  | ⟨1, _⟩ => show win0_2.index t (1 : Fin 3) * 128 + 1 * i.val = 128 * t.val + i.val; omega
  | ⟨2, _⟩ => show win0_2.index t (2 : Fin 3) * 1024 + 1 * l.val = 1024 + l.val; omega

theorem X3_apply (t : Fin cfg0.N) (b : Fin 2) (i : Fin 128) (l : Fin 1024) :
    X0_3 m c t (ix3 b i l) = projOf m c (ix3 b (pos (num64 t) i) ⟨2048 + l.val, by omega⟩) := by
  rw [← V_arg0]
  unfold X0_3 Pipeline.Window.fill
  rw [dif_pos (moved0_3 t _)]
  obtain ⟨e0, e1, e2⟩ := index3 t
  refine congrArg (V m c main_arg0 : Vec Ideal S2x8192x10880 .f32) (funext fun a => Fin.ext ?_)
  match a with
  | ⟨0, _⟩ => show win0_3.index t (0 : Fin 3) * 2 + 1 * b.val = b.val; omega
  | ⟨1, _⟩ => show win0_3.index t (1 : Fin 3) * 128 + 1 * i.val = 128 * t.val + i.val; omega
  | ⟨2, _⟩ => show win0_3.index t (2 : Fin 3) * 1024 + 1 * l.val = 2048 + l.val; omega

theorem X4_apply (t : Fin cfg0.N) (i d : Fin 128) :
    (iblk m c 4 t : Vec Ideal S128x128 .f32) (ix2 i d) = Ideal.cos (angle (pos (num64 t) i) (d.val % 64)) := by
  rw [← V_cos m c]
  obtain ⟨e0, e1⟩ := index4 t
  refine congrArg (V m c main_v20 : Vec Ideal S8192x128 .f32) (funext fun a => Fin.ext ?_)
  match a with
  | ⟨0, _⟩ => show win0_4.index t (0 : Fin 2) * 128 + 1 * i.val = 128 * t.val + i.val; omega
  | ⟨1, _⟩ => show win0_4.index t (1 : Fin 2) * 128 + 1 * d.val = d.val; omega

theorem X5_apply (t : Fin cfg0.N) (i d : Fin 128) :
    (iblk m c 5 t : Vec Ideal S128x128 .f32) (ix2 i d)
      = if d.val < 64 then -Ideal.sin (angle (pos (num64 t) i) (d.val % 64)) else Ideal.sin (angle (pos (num64 t) i) (d.val % 64)) := by
  rw [← V_sin m c]
  obtain ⟨e0, e1⟩ := index5 t
  refine congrArg (V m c main_v40 : Vec Ideal S8192x128 .f32) (funext fun a => Fin.ext ?_)
  match a with
  | ⟨0, _⟩ => show win0_5.index t (0 : Fin 2) * 128 + 1 * i.val = 128 * t.val + i.val; omega
  | ⟨1, _⟩ => show win0_5.index t (1 : Fin 2) * 128 + 1 * d.val = d.val; omega

theorem X6_apply (t : Fin cfg0.N) (h : Fin 4) (l : Fin 128) :
    (iblk m c 6 t : Vec Ideal S4x128 .f32) (ix2 h l) = logDecay h := by
  rw [← V_lg m c h l]
  obtain ⟨e0, e1⟩ := index6 t
  refine congrArg (V m c main_v39 : Vec Ideal S4x128 .f32) (funext fun a => Fin.ext ?_)
  match a with
  | ⟨0, _⟩ => show win0_6.index t (0 : Fin 2) * 4 + 1 * h.val = h.val; omega
  | ⟨1, _⟩ => show win0_6.index t (1 : Fin 2) * 128 + 1 * l.val = l.val; omega

/-- The projection's first 2048 columns are real numbers. -/
def Fine (z : Vec Ideal S2x8192x10880 .f32) : Prop := ∀ b s l, l.val < 2048 → IsReal (z (ix3 b s l))

theorem ix3_eq {A B C : ℕ} (y : (⟨3, ![A, B, C]⟩ : Shape).Idx) :
    ∃ (a : Fin A) (b : Fin B) (d : Fin C), y = ix3 a b d := ⟨y 0, y 1, y 2, by funext k; match k with | ⟨0, _⟩ => rfl | ⟨1, _⟩ => rfl | ⟨2, _⟩ => rfl⟩

theorem ix2_eq {A B : ℕ} (y : (⟨2, ![A, B]⟩ : Shape).Idx) :
    ∃ (a : Fin A) (b : Fin B), y = ix2 a b := ⟨y 0, y 1, by funext k; match k with | ⟨0, _⟩ => rfl | ⟨1, _⟩ => rfl⟩

/-- Every point's blocks are good, whatever real states it finds. -/
theorem good (hz : Fine (projOf m c)) (t : Fin cfg0.N) {xs : Vec Ideal S8x128x256 .f32} (hs : ∀ y, IsReal (xs y)) :
    Good (X0_0 m c t) (X0_1 m c t) (X0_2 m c t) (iblk m c 4 t) (iblk m c 5 t) (iblk m c 6 t) xs where
  h0 := fun y => by
    obtain ⟨b, i, l, rfl⟩ := ix3_eq y
    rw [X0_apply]
    exact hz _ _ _ (show l.val < 2048 by omega)
  h1 := fun y => by
    obtain ⟨b, i, l, rfl⟩ := ix3_eq y
    rw [X1_apply]
    exact hz _ _ _ (show 512 + l.val < 2048 by omega)
  h2 := fun y => by
    obtain ⟨b, i, l, rfl⟩ := ix3_eq y
    rw [X2_apply]
    exact hz _ _ _ (show 1024 + l.val < 2048 by omega)
  h4 := fun y => by
    obtain ⟨i, d, rfl⟩ := ix2_eq y
    rw [X4_apply]
    exact isReal_cos (isReal_angle _ _)
  h5 := fun y => by
    obtain ⟨i, d, rfl⟩ := ix2_eq y
    rw [X5_apply]
    split
    · exact (isReal_sin (isReal_angle _ _)).neg
    · exact isReal_sin (isReal_angle _ _)
  h6 := fun y => by
    obtain ⟨h, l, rfl⟩ := ix2_eq y
    rw [X6_apply]
    exact isReal_logDecay h
  hs := hs
  lane := fun h l => by rw [X6_apply, X6_apply]

end Cert.Retention

end
-- ==== Proof.Spec.lean ====
/-
  The retention of the whole sequence, chunk after chunk, as a function of the projection `z`: both programs are shown to
  compute it.
-/
module

public import proofs.«01_k».proof.Proof.Reads

@[expose] public section

noncomputable section

namespace Cert.Retention

open Idealize.ShloMosaic Idealize.ShloMosaic.TcCoe
open Cert.KernelIdeal Cert.KernelIdeal.Gen

variable (z : Vec Ideal S2x8192x10880 .f32)

/-- The position of row `i` of chunk `n`. -/
def posN (n : ℕ) (i : Fin 128) : Fin 8192 := ⟨(128 * n + i.val) % 8192, Nat.mod_lt _ (by decide)⟩

theorem pos_num64 (t : Fin cfg0.N) (i : Fin 128) : pos (num64 t) i = posN t.val i := by
  have ht : t.val < 64 := lt_of_lt_of_eq t.isLt N_0
  exact Fin.ext (show 128 * t.val + i.val = (128 * t.val + i.val) % 8192 by omega)

/-- The cosines of a position's lanes. -/
def cosRow (p : ℕ) (d : Fin 128) : EReal := Ideal.cos (angle p (d.val % 64))

/-- The sines of a position's lanes, negated in the first half. -/
def sinRow (p : ℕ) (d : Fin 128) : EReal := if d.val < 64 then -Ideal.sin (angle p (d.val % 64)) else Ideal.sin (angle p (d.val % 64))

/-- The rotated q of chunk `n`. -/
def qOf (n : ℕ) (b : Fin 2) (h : Fin 4) (i d : Fin 128) : EReal :=
  rotate (cosRow (posN n i)) (sinRow (posN n i)) (fun d => z (ix3 b (posN n i) ⟨128 * h.val + d.val, by omega⟩)) d

/-- The rotated and scaled k of chunk `n`. -/
def kOf (n : ℕ) (b : Fin 2) (h : Fin 4) (i d : Fin 128) : EReal :=
  rotate (cosRow (posN n i)) (sinRow (posN n i)) (fun d => z (ix3 b (posN n i) ⟨512 + 128 * h.val + d.val, by omega⟩)) d * cScale

/-- The v of chunk `n`. -/
def vOf (n : ℕ) (b : Fin 2) (h : Fin 4) (i : Fin 128) (e : Fin 256) : EReal :=
  z (ix3 b (posN n i) ⟨1024 + 256 * h.val + e.val, by omega⟩)

/-- The gate of chunk `n`. -/
def gOf (n : ℕ) (b : Fin 2) (h : Fin 4) (i : Fin 128) (e : Fin 256) : EReal :=
  z (ix3 b (posN n i) ⟨2048 + 256 * h.val + e.val, by omega⟩)

/-- The state before chunk `n`. -/
def stateOf (b : Fin 2) (h : Fin 4) : ℕ → Fin 128 → Fin 256 → EReal
  | 0 => fun _ _ => 0
  | n + 1 => chunkState (logDecay h) (kOf z n b h) (vOf z n b h) (stateOf b h n)

/-- The result's row `i` of chunk `n`. -/
def rowOf (n : ℕ) (b : Fin 2) (h : Fin 4) (i : Fin 128) (e : Fin 256) : EReal :=
  gated (gOf z n b h i e) (chunkOut (logDecay h) (qOf z n b h) (kOf z n b h) (vOf z n b h) (stateOf z b h n) i) e

/-- The first result. -/
def result : Vec Ideal S2x8192x1024 .bf16 := fun y =>
  rowOf z ((y 1).val / 128) (y 0) ⟨(y 2).val / 256, by have : (y 2).val < 1024 := (y 2).isLt; omega⟩
    ⟨(y 1).val % 128, by omega⟩ ⟨(y 2).val % 256, by omega⟩

/-- The second result. -/
def final : Vec Ideal S2x4x128x256 .f32 := fun y => stateOf z (y 0) (y 1) 64 (y 2) (y 3)

/-- The states before chunk `n`, as the scratch holds them. -/
def scratchOf (n : ℕ) : Vec Ideal S8x128x256 .f32 := fun y =>
  stateOf z ⟨(y 0).val / 4, by have : (y 0).val < 8 := (y 0).isLt; omega⟩ ⟨(y 0).val % 4, by omega⟩ n (y 1) (y 2)

variable {z} (hz : Fine z)
include hz

theorem isReal_sinRow (p : ℕ) (d : Fin 128) : IsReal (sinRow p d) := by
  unfold sinRow
  split
  · exact (isReal_sin (isReal_angle _ _)).neg
  · exact isReal_sin (isReal_angle _ _)

theorem isReal_kOf (n : ℕ) (b : Fin 2) (h : Fin 4) (i d : Fin 128) : IsReal (kOf z n b h i d) :=
  (isReal_rotate (fun _ => isReal_cos (isReal_angle _ _)) (isReal_sinRow hz _)
    (fun _ => hz _ _ _ (by show 512 + 128 * h.val + _ < 2048; omega)) d).mul isReal_cScale

theorem isReal_stateOf (b : Fin 2) (h : Fin 4) : ∀ n d e, IsReal (stateOf z b h n d e)
  | 0, _, _ => .zero
  | n + 1, d, e => isReal_chunkState (isReal_logDecay h) (isReal_kOf hz n b h)
      (fun j e => hz _ _ _ (by show 1024 + 256 * h.val + e.val < 2048; omega)) (isReal_stateOf b h n) d e

end Cert.Retention

end
-- ==== Proof.PointA.lean ====
/-
  The first grid point: it clears the states first, and so goes on from the zero state.
-/
module

public import proofs.«01_k».proof.Proof.Blocks
public import proofs.«01_k».proof.Proof.Gen.KernelIdeal.Frame
public import Idealize.ShloMosaic.Lib.Pipeline.ReadBack

@[expose] public section

noncomputable section

namespace Cert.Retention

open Idealize.ShloMosaic Idealize.ShloMosaic.TcCoe
open Cert.KernelIdeal Cert.KernelIdeal.Gen

/-- A load after the fill of the whole scratch reads the fill. -/
theorem readCov_fill0 (v : View sig .tc .vmem S8x128x256 .f32) (Z : Vec Ideal S8x128x256 .f32)
    (inb : ∀ a, (![0, 0, 0] : Fin 3 → ℕ) a + (![8, 128, 256] : Fin 3 → ℕ) a ≤ S8x128x256.size a) (L : List (View.Piece (Elt Ideal) S8x128x256 .f32)) (r : Rect S8x128x256) :
    v.readCov (Val := Elt Ideal) (⟨Rect.unit ![0, 0, 0] ![8, 128, 256] inb, Z⟩ :: L) r.toLoadRect = View.ld Z r :=
  View.readCov_fill v inb Z L r (fun a => match a with | ⟨0, _⟩ => rfl | ⟨1, _⟩ => rfl | ⟨2, _⟩ => rfl)

set_option maxHeartbeats 4000000 in
/-- The states after a point of this case. -/
theorem sout0_A_0_eq (c : Dev nD) (i : grid0.Coords) (arg1 : Memref sig .tc .vmem S2x128x512 .f32) (harg1 : arg1.IsWhole) (arg2 : Memref sig .tc .vmem S2x128x512 .f32) (harg2 : arg2.IsWhole) (arg3 : Memref sig .tc .vmem S2x128x1024 .f32) (harg3 : arg3.IsWhole) (arg4 : Memref sig .tc .vmem S2x128x1024 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S4x128 .f32) (harg7 : arg7.IsWhole) (arg8 : Memref sig .tc .vmem S2x128x1024 .bf16) (harg8 : arg8.IsWhole) (arg9 : Memref sig .tc .vmem S2x4x128x256 .f32) (harg9 : arg9.IsWhole) (arg10 : Memref sig .tc .vmem S8x128x256 .f32) (harg10 : arg10.IsWhole) (hc0 : cond0_0 i) (hc1 : ¬cond0_1 i)
    (x0 : Vec Ideal S2x128x512 .f32) (x1 : Vec Ideal S2x128x512 .f32) (x2 : Vec Ideal S2x128x1024 .f32) (x3 : Vec Ideal S2x128x1024 .f32) (x4 : Vec Ideal S128x128 .f32) (x5 : Vec Ideal S128x128 .f32) (x6 : Vec Ideal S4x128 .f32) (G : Good x0 x1 x2 x4 x5 x6 (k0_pay11 (F := Ideal))) :
    sout0_A_0 c i arg1 harg1 arg2 harg2 arg3 harg3 arg4 harg4 arg5 harg5 arg6 harg6 arg7 harg7 arg8 harg8 arg9 harg9 arg10 harg10 hc0 hc1 x0 x1 x2 x3 x4 x5 x6 = stateArr x1 x2 x4 x5 x6 (k0_pay11 (F := Ideal)) := by
  unfold sout0_A_0
  rw [View.read_writes_eq_canon _ _ _ (scover0_A_0 c i arg1 harg1 arg2 harg2 arg3 harg3 arg4 harg4 arg5 harg5 arg6 harg6 arg7 harg7 arg8 harg8 arg9 harg9 arg10 harg10 hc0 hc1 x0 x1 x2 x3 x4 x5 x6)]
  funext y
  have hc : ∃ p ∈ List.take 8 (kernelRun0_A c i arg1 harg1 arg2 harg2 arg3 harg3 arg4 harg4 arg5 harg5 arg6 harg6 arg7 harg7 arg8 harg8 arg9 harg9 arg10 harg10 hc0 hc1 x0 x1 x2 x3 x4 x5 x6).2.2.1, y ∈ p.1.set :=
    View.cover_of_tiledL (s := S8x128x256) (List.take 8 (kernelRun0_A c i arg1 harg1 arg2 harg2 arg3 harg3 arg4 harg4 arg5 harg5 arg6 harg6 arg7 harg7 arg8 harg8 arg9 harg9 arg10 harg10 hc0 hc1 x0 x1 x2 x3 x4 x5 x6).2.2.1) S1x128x256.size (by sl_kernel_rfl) y
  have e := View.canon_append_of_piecesOf (stateArr x1 x2 x4 x5 x6 (k0_pay11 (F := Ideal))) (List.drop 8 (kernelRun0_A c i arg1 harg1 arg2 harg2 arg3 harg3 arg4 harg4 arg5 harg5 arg6 harg6 arg7 harg7 arg8 harg8 arg9 harg9 arg10 harg10 hc0 hc1 x0 x1 x2 x3 x4 x5 x6).2.2.1) (List.take 8 (kernelRun0_A c i arg1 harg1 arg2 harg2 arg3 harg3 arg4 harg4 arg5 harg5 arg6 harg6 arg7 harg7 arg8 harg8 arg9 harg9 arg10 harg10 hc0 hc1 x0 x1 x2 x3 x4 x5 x6).2.2.1) ?_ y hc
  · rwa [List.take_append_drop] at e
  unfold kernelRun0_A
  dsimp only
  simp only [List.take_succ_cons, List.take_zero]
  sl_unfold_words
  simp (disch := decide) only [View.readAt_eq_ld, harg1.read_unread, harg2.read_unread, harg3.read_unread, harg4.read_unread, harg5.read_unread, harg6.read_unread, harg7.read_unread, harg10.read_unread,
    ↓View.readCov_skip, ↓readCov_fill0]
  exact ⟨fun z => (congrFun (state_13 _ _ _ _ _ _) z).trans (state_piece (b := 1) (h := 3) (bn := 1) (hn := 3) (n := 7) (oq := 384) (ov := 768) G rfl rfl rfl rfl rfl (io := inb_S8x128x256_S1x128x256_7_0_0) z),
    fun z => (congrFun (state_03 _ _ _ _ _ _) z).trans (state_piece (b := 0) (h := 3) (bn := 0) (hn := 3) (n := 3) (oq := 384) (ov := 768) G rfl rfl rfl rfl rfl (io := inb_S8x128x256_S1x128x256_3_0_0) z),
    fun z => (congrFun (state_12 _ _ _ _ _ _) z).trans (state_piece (b := 1) (h := 2) (bn := 1) (hn := 2) (n := 6) (oq := 256) (ov := 512) G rfl rfl rfl rfl rfl (io := inb_S8x128x256_S1x128x256_6_0_0) z),
    fun z => (congrFun (state_02 _ _ _ _ _ _) z).trans (state_piece (b := 0) (h := 2) (bn := 0) (hn := 2) (n := 2) (oq := 256) (ov := 512) G rfl rfl rfl rfl rfl (io := inb_S8x128x256_S1x128x256_2_0_0) z),
    fun z => (congrFun (state_11 _ _ _ _ _ _) z).trans (state_piece (b := 1) (h := 1) (bn := 1) (hn := 1) (n := 5) (oq := 128) (ov := 256) G rfl rfl rfl rfl rfl (io := inb_S8x128x256_S1x128x256_5_0_0) z),
    fun z => (congrFun (state_01 _ _ _ _ _ _) z).trans (state_piece (b := 0) (h := 1) (bn := 0) (hn := 1) (n := 1) (oq := 128) (ov := 256) G rfl rfl rfl rfl rfl (io := inb_S8x128x256_S1x128x256_1_0_0) z),
    fun z => (congrFun (state_10 _ _ _ _ _ _) z).trans (state_piece (b := 1) (h := 0) (bn := 1) (hn := 0) (n := 4) (oq := 0) (ov := 0) G rfl rfl rfl rfl rfl (io := inb_S8x128x256_S1x128x256_4_0_0) z),
    fun z => state_piece (b := 0) (h := 0) (bn := 0) (hn := 0) (n := 0) (oq := 0) (ov := 0) G rfl rfl rfl rfl rfl (io := inb_S8x128x256_S1x128x256_0_0_0) z, trivial⟩

set_option maxHeartbeats 4000000 in
/-- The block of the result a point of this case stores. -/
theorem out0_A_7_eq (c : Dev nD) (i : grid0.Coords) (arg1 : Memref sig .tc .vmem S2x128x512 .f32) (harg1 : arg1.IsWhole) (arg2 : Memref sig .tc .vmem S2x128x512 .f32) (harg2 : arg2.IsWhole) (arg3 : Memref sig .tc .vmem S2x128x1024 .f32) (harg3 : arg3.IsWhole) (arg4 : Memref sig .tc .vmem S2x128x1024 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S4x128 .f32) (harg7 : arg7.IsWhole) (arg8 : Memref sig .tc .vmem S2x128x1024 .bf16) (harg8 : arg8.IsWhole) (arg9 : Memref sig .tc .vmem S2x4x128x256 .f32) (harg9 : arg9.IsWhole) (arg10 : Memref sig .tc .vmem S8x128x256 .f32) (harg10 : arg10.IsWhole) (hc0 : cond0_0 i) (hc1 : ¬cond0_1 i)
    (x0 : Vec Ideal S2x128x512 .f32) (x1 : Vec Ideal S2x128x512 .f32) (x2 : Vec Ideal S2x128x1024 .f32) (x3 : Vec Ideal S2x128x1024 .f32) (x4 : Vec Ideal S128x128 .f32) (x5 : Vec Ideal S128x128 .f32) (x6 : Vec Ideal S4x128 .f32) (G : Good x0 x1 x2 x4 x5 x6 (k0_pay11 (F := Ideal))) :
    out0_A_7 c i arg1 harg1 arg2 harg2 arg3 harg3 arg4 harg4 arg5 harg5 arg6 harg6 arg7 harg7 arg8 harg8 arg9 harg9 arg10 harg10 hc0 hc1 x0 x1 x2 x3 x4 x5 x6 = outArr x0 x1 x2 x3 x4 x5 x6 (k0_pay11 (F := Ideal)) := by
  unfold out0_A_7
  rw [View.read_writes_eq_canon _ _ _ (cover0_A_7 c i arg1 harg1 arg2 harg2 arg3 harg3 arg4 harg4 arg5 harg5 arg6 harg6 arg7 harg7 arg8 harg8 arg9 harg9 arg10 harg10 hc0 hc1 x0 x1 x2 x3 x4 x5 x6)]
  funext y
  refine View.canon_apply_of_pieces _ _ (View.PiecesOf.mem ?_) y (cover0_A_7 c i arg1 harg1 arg2 harg2 arg3 harg3 arg4 harg4 arg5 harg5 arg6 harg6 arg7 harg7 arg8 harg8 arg9 harg9 arg10 harg10 hc0 hc1 x0 x1 x2 x3 x4 x5 x6 y)
  unfold kernelRun0_A
  dsimp only
  sl_unfold_words
  simp (disch := decide) only [View.readAt_eq_ld, harg1.read_unread, harg2.read_unread, harg3.read_unread, harg4.read_unread, harg5.read_unread, harg6.read_unread, harg7.read_unread, harg10.read_unread,
    ↓View.readCov_skip, ↓readCov_fill0]
  exact ⟨fun z => (congrFun (out_13 _ _ _ _ _ _ _ _) z).trans (out_piece (b := 1) (h := 3) (bn := 1) (hn := 3) (n := 7) (oq := 384) (ov := 768) G rfl rfl rfl rfl rfl (io := inb_S2x128x1024_S1x128x256_1_0_768) z),
    fun z => (congrFun (out_03 _ _ _ _ _ _ _ _) z).trans (out_piece (b := 0) (h := 3) (bn := 0) (hn := 3) (n := 3) (oq := 384) (ov := 768) G rfl rfl rfl rfl rfl (io := inb_S2x128x1024_S1x128x256_0_0_768) z),
    fun z => (congrFun (out_12 _ _ _ _ _ _ _ _) z).trans (out_piece (b := 1) (h := 2) (bn := 1) (hn := 2) (n := 6) (oq := 256) (ov := 512) G rfl rfl rfl rfl rfl (io := inb_S2x128x1024_S1x128x256_1_0_512) z),
    fun z => (congrFun (out_02 _ _ _ _ _ _ _ _) z).trans (out_piece (b := 0) (h := 2) (bn := 0) (hn := 2) (n := 2) (oq := 256) (ov := 512) G rfl rfl rfl rfl rfl (io := inb_S2x128x1024_S1x128x256_0_0_512) z),
    fun z => (congrFun (out_11 _ _ _ _ _ _ _ _) z).trans (out_piece (b := 1) (h := 1) (bn := 1) (hn := 1) (n := 5) (oq := 128) (ov := 256) G rfl rfl rfl rfl rfl (io := inb_S2x128x1024_S1x128x256_1_0_256) z),
    fun z => (congrFun (out_01 _ _ _ _ _ _ _ _) z).trans (out_piece (b := 0) (h := 1) (bn := 0) (hn := 1) (n := 1) (oq := 128) (ov := 256) G rfl rfl rfl rfl rfl (io := inb_S2x128x1024_S1x128x256_0_0_256) z),
    fun z => (congrFun (out_10 _ _ _ _ _ _ _ _) z).trans (out_piece (b := 1) (h := 0) (bn := 1) (hn := 0) (n := 4) (oq := 0) (ov := 0) G rfl rfl rfl rfl rfl (io := inb_S2x128x1024_S1x128x256_1_0_0) z),
    fun z => out_piece (b := 0) (h := 0) (bn := 0) (hn := 0) (n := 0) (oq := 0) (ov := 0) G rfl rfl rfl rfl rfl (io := inb_S2x128x1024_S1x128x256_0_0_0) z, trivial⟩

end Cert.Retention

end
-- ==== Proof.PointB.lean ====
/-
  A grid point between the first and the last: the state it leaves and the block of the result it stores.
-/
module

public import proofs.«01_k».proof.Proof.Blocks
public import proofs.«01_k».proof.Proof.Gen.KernelIdeal.Frame
public import Idealize.ShloMosaic.Lib.Pipeline.ReadBack

@[expose] public section

noncomputable section

namespace Cert.Retention

open Idealize.ShloMosaic Idealize.ShloMosaic.TcCoe
open Cert.KernelIdeal Cert.KernelIdeal.Gen

set_option maxHeartbeats 4000000 in
/-- The states after a point of this case. -/
theorem sout0_B_0_eq (c : Dev nD) (i : grid0.Coords) (arg1 : Memref sig .tc .vmem S2x128x512 .f32) (harg1 : arg1.IsWhole) (arg2 : Memref sig .tc .vmem S2x128x512 .f32) (harg2 : arg2.IsWhole) (arg3 : Memref sig .tc .vmem S2x128x1024 .f32) (harg3 : arg3.IsWhole) (arg4 : Memref sig .tc .vmem S2x128x1024 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S4x128 .f32) (harg7 : arg7.IsWhole) (arg8 : Memref sig .tc .vmem S2x128x1024 .bf16) (harg8 : arg8.IsWhole) (arg9 : Memref sig .tc .vmem S2x4x128x256 .f32) (harg9 : arg9.IsWhole) (arg10 : Memref sig .tc .vmem S8x128x256 .f32) (harg10 : arg10.IsWhole) (hc0 : ¬cond0_0 i) (hc1 : ¬cond0_1 i)
    (x0 : Vec Ideal S2x128x512 .f32) (x1 : Vec Ideal S2x128x512 .f32) (x2 : Vec Ideal S2x128x1024 .f32) (x3 : Vec Ideal S2x128x1024 .f32) (x4 : Vec Ideal S128x128 .f32) (x5 : Vec Ideal S128x128 .f32) (x6 : Vec Ideal S4x128 .f32) (xs0 : Vec Ideal S8x128x256 .f32) (G : Good x0 x1 x2 x4 x5 x6 xs0) :
    sout0_B_0 c i arg1 harg1 arg2 harg2 arg3 harg3 arg4 harg4 arg5 harg5 arg6 harg6 arg7 harg7 arg8 harg8 arg9 harg9 arg10 harg10 hc0 hc1 x0 x1 x2 x3 x4 x5 x6 xs0 = stateArr x1 x2 x4 x5 x6 xs0 := by
  unfold sout0_B_0
  rw [View.read_writes_eq_canon _ _ _ (scover0_B_0 c i arg1 harg1 arg2 harg2 arg3 harg3 arg4 harg4 arg5 harg5 arg6 harg6 arg7 harg7 arg8 harg8 arg9 harg9 arg10 harg10 hc0 hc1 x0 x1 x2 x3 x4 x5 x6 xs0)]
  funext y
  refine View.canon_apply_of_pieces _ _ (View.PiecesOf.mem ?_) y (scover0_B_0 c i arg1 harg1 arg2 harg2 arg3 harg3 arg4 harg4 arg5 harg5 arg6 harg6 arg7 harg7 arg8 harg8 arg9 harg9 arg10 harg10 hc0 hc1 x0 x1 x2 x3 x4 x5 x6 xs0 y)
  unfold kernelRun0_B
  dsimp only
  sl_unfold_words
  simp only [View.readAt_eq_ld, harg1.read_unread, harg2.read_unread, harg3.read_unread, harg4.read_unread, harg5.read_unread, harg6.read_unread, harg7.read_unread, harg10.read_unread]
  exact ⟨fun z => (congrFun (state_13 _ _ _ _ _ _) z).trans (state_piece (b := 1) (h := 3) (bn := 1) (hn := 3) (n := 7) (oq := 384) (ov := 768) G rfl rfl rfl rfl rfl (io := inb_S8x128x256_S1x128x256_7_0_0) z),
    fun z => (congrFun (state_03 _ _ _ _ _ _) z).trans (state_piece (b := 0) (h := 3) (bn := 0) (hn := 3) (n := 3) (oq := 384) (ov := 768) G rfl rfl rfl rfl rfl (io := inb_S8x128x256_S1x128x256_3_0_0) z),
    fun z => (congrFun (state_12 _ _ _ _ _ _) z).trans (state_piece (b := 1) (h := 2) (bn := 1) (hn := 2) (n := 6) (oq := 256) (ov := 512) G rfl rfl rfl rfl rfl (io := inb_S8x128x256_S1x128x256_6_0_0) z),
    fun z => (congrFun (state_02 _ _ _ _ _ _) z).trans (state_piece (b := 0) (h := 2) (bn := 0) (hn := 2) (n := 2) (oq := 256) (ov := 512) G rfl rfl rfl rfl rfl (io := inb_S8x128x256_S1x128x256_2_0_0) z),
    fun z => (congrFun (state_11 _ _ _ _ _ _) z).trans (state_piece (b := 1) (h := 1) (bn := 1) (hn := 1) (n := 5) (oq := 128) (ov := 256) G rfl rfl rfl rfl rfl (io := inb_S8x128x256_S1x128x256_5_0_0) z),
    fun z => (congrFun (state_01 _ _ _ _ _ _) z).trans (state_piece (b := 0) (h := 1) (bn := 0) (hn := 1) (n := 1) (oq := 128) (ov := 256) G rfl rfl rfl rfl rfl (io := inb_S8x128x256_S1x128x256_1_0_0) z),
    fun z => (congrFun (state_10 _ _ _ _ _ _) z).trans (state_piece (b := 1) (h := 0) (bn := 1) (hn := 0) (n := 4) (oq := 0) (ov := 0) G rfl rfl rfl rfl rfl (io := inb_S8x128x256_S1x128x256_4_0_0) z),
    fun z => state_piece (b := 0) (h := 0) (bn := 0) (hn := 0) (n := 0) (oq := 0) (ov := 0) G rfl rfl rfl rfl rfl (io := inb_S8x128x256_S1x128x256_0_0_0) z, trivial⟩

set_option maxHeartbeats 4000000 in
/-- The block of the result a point of this case stores. -/
theorem out0_B_7_eq (c : Dev nD) (i : grid0.Coords) (arg1 : Memref sig .tc .vmem S2x128x512 .f32) (harg1 : arg1.IsWhole) (arg2 : Memref sig .tc .vmem S2x128x512 .f32) (harg2 : arg2.IsWhole) (arg3 : Memref sig .tc .vmem S2x128x1024 .f32) (harg3 : arg3.IsWhole) (arg4 : Memref sig .tc .vmem S2x128x1024 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S4x128 .f32) (harg7 : arg7.IsWhole) (arg8 : Memref sig .tc .vmem S2x128x1024 .bf16) (harg8 : arg8.IsWhole) (arg9 : Memref sig .tc .vmem S2x4x128x256 .f32) (harg9 : arg9.IsWhole) (arg10 : Memref sig .tc .vmem S8x128x256 .f32) (harg10 : arg10.IsWhole) (hc0 : ¬cond0_0 i) (hc1 : ¬cond0_1 i)
    (x0 : Vec Ideal S2x128x512 .f32) (x1 : Vec Ideal S2x128x512 .f32) (x2 : Vec Ideal S2x128x1024 .f32) (x3 : Vec Ideal S2x128x1024 .f32) (x4 : Vec Ideal S128x128 .f32) (x5 : Vec Ideal S128x128 .f32) (x6 : Vec Ideal S4x128 .f32) (xs0 : Vec Ideal S8x128x256 .f32) (G : Good x0 x1 x2 x4 x5 x6 xs0) :
    out0_B_7 c i arg1 harg1 arg2 harg2 arg3 harg3 arg4 harg4 arg5 harg5 arg6 harg6 arg7 harg7 arg8 harg8 arg9 harg9 arg10 harg10 hc0 hc1 x0 x1 x2 x3 x4 x5 x6 xs0 = outArr x0 x1 x2 x3 x4 x5 x6 xs0 := by
  unfold out0_B_7
  rw [View.read_writes_eq_canon _ _ _ (cover0_B_7 c i arg1 harg1 arg2 harg2 arg3 harg3 arg4 harg4 arg5 harg5 arg6 harg6 arg7 harg7 arg8 harg8 arg9 harg9 arg10 harg10 hc0 hc1 x0 x1 x2 x3 x4 x5 x6 xs0)]
  funext y
  refine View.canon_apply_of_pieces _ _ (View.PiecesOf.mem ?_) y (cover0_B_7 c i arg1 harg1 arg2 harg2 arg3 harg3 arg4 harg4 arg5 harg5 arg6 harg6 arg7 harg7 arg8 harg8 arg9 harg9 arg10 harg10 hc0 hc1 x0 x1 x2 x3 x4 x5 x6 xs0 y)
  unfold kernelRun0_B
  dsimp only
  sl_unfold_words
  simp only [View.readAt_eq_ld, harg1.read_unread, harg2.read_unread, harg3.read_unread, harg4.read_unread, harg5.read_unread, harg6.read_unread, harg7.read_unread, harg10.read_unread]
  exact ⟨fun z => (congrFun (out_13 _ _ _ _ _ _ _ _) z).trans (out_piece (b := 1) (h := 3) (bn := 1) (hn := 3) (n := 7) (oq := 384) (ov := 768) G rfl rfl rfl rfl rfl (io := inb_S2x128x1024_S1x128x256_1_0_768) z),
    fun z => (congrFun (out_03 _ _ _ _ _ _ _ _) z).trans (out_piece (b := 0) (h := 3) (bn := 0) (hn := 3) (n := 3) (oq := 384) (ov := 768) G rfl rfl rfl rfl rfl (io := inb_S2x128x1024_S1x128x256_0_0_768) z),
    fun z => (congrFun (out_12 _ _ _ _ _ _ _ _) z).trans (out_piece (b := 1) (h := 2) (bn := 1) (hn := 2) (n := 6) (oq := 256) (ov := 512) G rfl rfl rfl rfl rfl (io := inb_S2x128x1024_S1x128x256_1_0_512) z),
    fun z => (congrFun (out_02 _ _ _ _ _ _ _ _) z).trans (out_piece (b := 0) (h := 2) (bn := 0) (hn := 2) (n := 2) (oq := 256) (ov := 512) G rfl rfl rfl rfl rfl (io := inb_S2x128x1024_S1x128x256_0_0_512) z),
    fun z => (congrFun (out_11 _ _ _ _ _ _ _ _) z).trans (out_piece (b := 1) (h := 1) (bn := 1) (hn := 1) (n := 5) (oq := 128) (ov := 256) G rfl rfl rfl rfl rfl (io := inb_S2x128x1024_S1x128x256_1_0_256) z),
    fun z => (congrFun (out_01 _ _ _ _ _ _ _ _) z).trans (out_piece (b := 0) (h := 1) (bn := 0) (hn := 1) (n := 1) (oq := 128) (ov := 256) G rfl rfl rfl rfl rfl (io := inb_S2x128x1024_S1x128x256_0_0_256) z),
    fun z => (congrFun (out_10 _ _ _ _ _ _ _ _) z).trans (out_piece (b := 1) (h := 0) (bn := 1) (hn := 0) (n := 4) (oq := 0) (ov := 0) G rfl rfl rfl rfl rfl (io := inb_S2x128x1024_S1x128x256_1_0_0) z),
    fun z => out_piece (b := 0) (h := 0) (bn := 0) (hn := 0) (n := 0) (oq := 0) (ov := 0) G rfl rfl rfl rfl rfl (io := inb_S2x128x1024_S1x128x256_0_0_0) z, trivial⟩

end Cert.Retention

end
-- ==== Proof.PointC.lean ====
/-
  The last grid point: the state it leaves, the block of the result it stores and the second output.
-/
module

public import proofs.«01_k».proof.Proof.Blocks
public import proofs.«01_k».proof.Proof.Gen.KernelIdeal.Frame
public import Idealize.ShloMosaic.Lib.Pipeline.ReadBack

@[expose] public section

noncomputable section

namespace Cert.Retention

open Idealize.ShloMosaic Idealize.ShloMosaic.TcCoe
open Cert.KernelIdeal Cert.KernelIdeal.Gen

set_option maxHeartbeats 4000000 in
/-- The states after a point of this case. -/
theorem sout0_C_0_eq (c : Dev nD) (i : grid0.Coords) (arg1 : Memref sig .tc .vmem S2x128x512 .f32) (harg1 : arg1.IsWhole) (arg2 : Memref sig .tc .vmem S2x128x512 .f32) (harg2 : arg2.IsWhole) (arg3 : Memref sig .tc .vmem S2x128x1024 .f32) (harg3 : arg3.IsWhole) (arg4 : Memref sig .tc .vmem S2x128x1024 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S4x128 .f32) (harg7 : arg7.IsWhole) (arg8 : Memref sig .tc .vmem S2x128x1024 .bf16) (harg8 : arg8.IsWhole) (arg9 : Memref sig .tc .vmem S2x4x128x256 .f32) (harg9 : arg9.IsWhole) (arg10 : Memref sig .tc .vmem S8x128x256 .f32) (harg10 : arg10.IsWhole) (hc0 : ¬cond0_0 i) (hc1 : cond0_1 i)
    (x0 : Vec Ideal S2x128x512 .f32) (x1 : Vec Ideal S2x128x512 .f32) (x2 : Vec Ideal S2x128x1024 .f32) (x3 : Vec Ideal S2x128x1024 .f32) (x4 : Vec Ideal S128x128 .f32) (x5 : Vec Ideal S128x128 .f32) (x6 : Vec Ideal S4x128 .f32) (xs0 : Vec Ideal S8x128x256 .f32) (G : Good x0 x1 x2 x4 x5 x6 xs0) :
    sout0_C_0 c i arg1 harg1 arg2 harg2 arg3 harg3 arg4 harg4 arg5 harg5 arg6 harg6 arg7 harg7 arg8 harg8 arg9 harg9 arg10 harg10 hc0 hc1 x0 x1 x2 x3 x4 x5 x6 xs0 = stateArr x1 x2 x4 x5 x6 xs0 := by
  unfold sout0_C_0
  rw [View.read_writes_eq_canon _ _ _ (scover0_C_0 c i arg1 harg1 arg2 harg2 arg3 harg3 arg4 harg4 arg5 harg5 arg6 harg6 arg7 harg7 arg8 harg8 arg9 harg9 arg10 harg10 hc0 hc1 x0 x1 x2 x3 x4 x5 x6 xs0)]
  funext y
  refine View.canon_apply_of_pieces _ _ (View.PiecesOf.mem ?_) y (scover0_C_0 c i arg1 harg1 arg2 harg2 arg3 harg3 arg4 harg4 arg5 harg5 arg6 harg6 arg7 harg7 arg8 harg8 arg9 harg9 arg10 harg10 hc0 hc1 x0 x1 x2 x3 x4 x5 x6 xs0 y)
  unfold kernelRun0_C
  dsimp only
  sl_unfold_words
  simp only [View.readAt_eq_ld, harg1.read_unread, harg2.read_unread, harg3.read_unread, harg4.read_unread, harg5.read_unread, harg6.read_unread, harg7.read_unread, harg10.read_unread]
  exact ⟨fun z => (congrFun (state_13 _ _ _ _ _ _) z).trans (state_piece (b := 1) (h := 3) (bn := 1) (hn := 3) (n := 7) (oq := 384) (ov := 768) G rfl rfl rfl rfl rfl (io := inb_S8x128x256_S1x128x256_7_0_0) z),
    fun z => (congrFun (state_03 _ _ _ _ _ _) z).trans (state_piece (b := 0) (h := 3) (bn := 0) (hn := 3) (n := 3) (oq := 384) (ov := 768) G rfl rfl rfl rfl rfl (io := inb_S8x128x256_S1x128x256_3_0_0) z),
    fun z => (congrFun (state_12 _ _ _ _ _ _) z).trans (state_piece (b := 1) (h := 2) (bn := 1) (hn := 2) (n := 6) (oq := 256) (ov := 512) G rfl rfl rfl rfl rfl (io := inb_S8x128x256_S1x128x256_6_0_0) z),
    fun z => (congrFun (state_02 _ _ _ _ _ _) z).trans (state_piece (b := 0) (h := 2) (bn := 0) (hn := 2) (n := 2) (oq := 256) (ov := 512) G rfl rfl rfl rfl rfl (io := inb_S8x128x256_S1x128x256_2_0_0) z),
    fun z => (congrFun (state_11 _ _ _ _ _ _) z).trans (state_piece (b := 1) (h := 1) (bn := 1) (hn := 1) (n := 5) (oq := 128) (ov := 256) G rfl rfl rfl rfl rfl (io := inb_S8x128x256_S1x128x256_5_0_0) z),
    fun z => (congrFun (state_01 _ _ _ _ _ _) z).trans (state_piece (b := 0) (h := 1) (bn := 0) (hn := 1) (n := 1) (oq := 128) (ov := 256) G rfl rfl rfl rfl rfl (io := inb_S8x128x256_S1x128x256_1_0_0) z),
    fun z => (congrFun (state_10 _ _ _ _ _ _) z).trans (state_piece (b := 1) (h := 0) (bn := 1) (hn := 0) (n := 4) (oq := 0) (ov := 0) G rfl rfl rfl rfl rfl (io := inb_S8x128x256_S1x128x256_4_0_0) z),
    fun z => state_piece (b := 0) (h := 0) (bn := 0) (hn := 0) (n := 0) (oq := 0) (ov := 0) G rfl rfl rfl rfl rfl (io := inb_S8x128x256_S1x128x256_0_0_0) z, trivial⟩

set_option maxHeartbeats 4000000 in
/-- The block of the result a point of this case stores. -/
theorem out0_C_7_eq (c : Dev nD) (i : grid0.Coords) (arg1 : Memref sig .tc .vmem S2x128x512 .f32) (harg1 : arg1.IsWhole) (arg2 : Memref sig .tc .vmem S2x128x512 .f32) (harg2 : arg2.IsWhole) (arg3 : Memref sig .tc .vmem S2x128x1024 .f32) (harg3 : arg3.IsWhole) (arg4 : Memref sig .tc .vmem S2x128x1024 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S4x128 .f32) (harg7 : arg7.IsWhole) (arg8 : Memref sig .tc .vmem S2x128x1024 .bf16) (harg8 : arg8.IsWhole) (arg9 : Memref sig .tc .vmem S2x4x128x256 .f32) (harg9 : arg9.IsWhole) (arg10 : Memref sig .tc .vmem S8x128x256 .f32) (harg10 : arg10.IsWhole) (hc0 : ¬cond0_0 i) (hc1 : cond0_1 i)
    (x0 : Vec Ideal S2x128x512 .f32) (x1 : Vec Ideal S2x128x512 .f32) (x2 : Vec Ideal S2x128x1024 .f32) (x3 : Vec Ideal S2x128x1024 .f32) (x4 : Vec Ideal S128x128 .f32) (x5 : Vec Ideal S128x128 .f32) (x6 : Vec Ideal S4x128 .f32) (xs0 : Vec Ideal S8x128x256 .f32) (G : Good x0 x1 x2 x4 x5 x6 xs0) :
    out0_C_7 c i arg1 harg1 arg2 harg2 arg3 harg3 arg4 harg4 arg5 harg5 arg6 harg6 arg7 harg7 arg8 harg8 arg9 harg9 arg10 harg10 hc0 hc1 x0 x1 x2 x3 x4 x5 x6 xs0 = outArr x0 x1 x2 x3 x4 x5 x6 xs0 := by
  unfold out0_C_7
  rw [View.read_writes_eq_canon _ _ _ (cover0_C_7 c i arg1 harg1 arg2 harg2 arg3 harg3 arg4 harg4 arg5 harg5 arg6 harg6 arg7 harg7 arg8 harg8 arg9 harg9 arg10 harg10 hc0 hc1 x0 x1 x2 x3 x4 x5 x6 xs0)]
  funext y
  refine View.canon_apply_of_pieces _ _ (View.PiecesOf.mem ?_) y (cover0_C_7 c i arg1 harg1 arg2 harg2 arg3 harg3 arg4 harg4 arg5 harg5 arg6 harg6 arg7 harg7 arg8 harg8 arg9 harg9 arg10 harg10 hc0 hc1 x0 x1 x2 x3 x4 x5 x6 xs0 y)
  unfold kernelRun0_C
  dsimp only
  sl_unfold_words
  simp only [View.readAt_eq_ld, harg1.read_unread, harg2.read_unread, harg3.read_unread, harg4.read_unread, harg5.read_unread, harg6.read_unread, harg7.read_unread, harg10.read_unread]
  exact ⟨fun z => (congrFun (out_13 _ _ _ _ _ _ _ _) z).trans (out_piece (b := 1) (h := 3) (bn := 1) (hn := 3) (n := 7) (oq := 384) (ov := 768) G rfl rfl rfl rfl rfl (io := inb_S2x128x1024_S1x128x256_1_0_768) z),
    fun z => (congrFun (out_03 _ _ _ _ _ _ _ _) z).trans (out_piece (b := 0) (h := 3) (bn := 0) (hn := 3) (n := 3) (oq := 384) (ov := 768) G rfl rfl rfl rfl rfl (io := inb_S2x128x1024_S1x128x256_0_0_768) z),
    fun z => (congrFun (out_12 _ _ _ _ _ _ _ _) z).trans (out_piece (b := 1) (h := 2) (bn := 1) (hn := 2) (n := 6) (oq := 256) (ov := 512) G rfl rfl rfl rfl rfl (io := inb_S2x128x1024_S1x128x256_1_0_512) z),
    fun z => (congrFun (out_02 _ _ _ _ _ _ _ _) z).trans (out_piece (b := 0) (h := 2) (bn := 0) (hn := 2) (n := 2) (oq := 256) (ov := 512) G rfl rfl rfl rfl rfl (io := inb_S2x128x1024_S1x128x256_0_0_512) z),
    fun z => (congrFun (out_11 _ _ _ _ _ _ _ _) z).trans (out_piece (b := 1) (h := 1) (bn := 1) (hn := 1) (n := 5) (oq := 128) (ov := 256) G rfl rfl rfl rfl rfl (io := inb_S2x128x1024_S1x128x256_1_0_256) z),
    fun z => (congrFun (out_01 _ _ _ _ _ _ _ _) z).trans (out_piece (b := 0) (h := 1) (bn := 0) (hn := 1) (n := 1) (oq := 128) (ov := 256) G rfl rfl rfl rfl rfl (io := inb_S2x128x1024_S1x128x256_0_0_256) z),
    fun z => (congrFun (out_10 _ _ _ _ _ _ _ _) z).trans (out_piece (b := 1) (h := 0) (bn := 1) (hn := 0) (n := 4) (oq := 0) (ov := 0) G rfl rfl rfl rfl rfl (io := inb_S2x128x1024_S1x128x256_1_0_0) z),
    fun z => out_piece (b := 0) (h := 0) (bn := 0) (hn := 0) (n := 0) (oq := 0) (ov := 0) G rfl rfl rfl rfl rfl (io := inb_S2x128x1024_S1x128x256_0_0_0) z, trivial⟩

set_option maxHeartbeats 4000000 in
/-- The second output, stored at the last point. -/
theorem out0_C_8_eq (c : Dev nD) (i : grid0.Coords) (arg1 : Memref sig .tc .vmem S2x128x512 .f32) (harg1 : arg1.IsWhole) (arg2 : Memref sig .tc .vmem S2x128x512 .f32) (harg2 : arg2.IsWhole) (arg3 : Memref sig .tc .vmem S2x128x1024 .f32) (harg3 : arg3.IsWhole) (arg4 : Memref sig .tc .vmem S2x128x1024 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S4x128 .f32) (harg7 : arg7.IsWhole) (arg8 : Memref sig .tc .vmem S2x128x1024 .bf16) (harg8 : arg8.IsWhole) (arg9 : Memref sig .tc .vmem S2x4x128x256 .f32) (harg9 : arg9.IsWhole) (arg10 : Memref sig .tc .vmem S8x128x256 .f32) (harg10 : arg10.IsWhole) (hc0 : ¬cond0_0 i) (hc1 : cond0_1 i)
    (x0 : Vec Ideal S2x128x512 .f32) (x1 : Vec Ideal S2x128x512 .f32) (x2 : Vec Ideal S2x128x1024 .f32) (x3 : Vec Ideal S2x128x1024 .f32) (x4 : Vec Ideal S128x128 .f32) (x5 : Vec Ideal S128x128 .f32) (x6 : Vec Ideal S4x128 .f32) (xs0 : Vec Ideal S8x128x256 .f32) (G : Good x0 x1 x2 x4 x5 x6 xs0) :
    out0_C_8 c i arg1 harg1 arg2 harg2 arg3 harg3 arg4 harg4 arg5 harg5 arg6 harg6 arg7 harg7 arg8 harg8 arg9 harg9 arg10 harg10 hc0 hc1 x0 x1 x2 x3 x4 x5 x6 xs0 = finalArr x1 x2 x4 x5 x6 xs0 := by
  unfold out0_C_8
  rw [View.read_writes_eq_canon _ _ _ (cover0_C_8 c i arg1 harg1 arg2 harg2 arg3 harg3 arg4 harg4 arg5 harg5 arg6 harg6 arg7 harg7 arg8 harg8 arg9 harg9 arg10 harg10 hc0 hc1 x0 x1 x2 x3 x4 x5 x6 xs0)]
  funext y
  refine View.canon_apply_of_pieces _ _ (View.PiecesOf.mem ?_) y (cover0_C_8 c i arg1 harg1 arg2 harg2 arg3 harg3 arg4 harg4 arg5 harg5 arg6 harg6 arg7 harg7 arg8 harg8 arg9 harg9 arg10 harg10 hc0 hc1 x0 x1 x2 x3 x4 x5 x6 xs0 y)
  unfold kernelRun0_C
  dsimp only
  sl_unfold_words
  simp (disch := decide) only [View.readAt_eq_ld, harg1.read_unread, harg2.read_unread, harg3.read_unread, harg4.read_unread, harg5.read_unread, harg6.read_unread, harg7.read_unread, harg10.read_unread,
    ↓View.readCov_skip, View.readCov_cons_toLoadRect]
  exact ⟨fun z => (congrArg (fun w => k0_pay5 (F := Ideal) w z) (state_13 (F := Ideal) _ _ _ _ _ _)).trans (final_piece (b := 1) (h := 3) (bn := 1) (hn := 3) (n := 7) (oq := 384) (ov := 768) G rfl rfl rfl rfl rfl (io := inb_S2x4x128x256_S1x1x128x256_1_3_0_0) z),
    fun z => (congrArg (fun w => k0_pay4 (F := Ideal) w z) (state_12 (F := Ideal) _ _ _ _ _ _)).trans (final_piece (b := 1) (h := 2) (bn := 1) (hn := 2) (n := 6) (oq := 256) (ov := 512) G rfl rfl rfl rfl rfl (io := inb_S2x4x128x256_S1x1x128x256_1_2_0_0) z),
    fun z => (congrArg (fun w => k0_pay3 (F := Ideal) w z) (state_11 (F := Ideal) _ _ _ _ _ _)).trans (final_piece (b := 1) (h := 1) (bn := 1) (hn := 1) (n := 5) (oq := 128) (ov := 256) G rfl rfl rfl rfl rfl (io := inb_S2x4x128x256_S1x1x128x256_1_1_0_0) z),
    fun z => (congrArg (fun w => k0_pay2 (F := Ideal) (k0_pay10 w) z) (state_10 (F := Ideal) _ _ _ _ _ _)).trans (final_piece (b := 1) (h := 0) (bn := 1) (hn := 0) (n := 4) (oq := 0) (ov := 0) G rfl rfl rfl rfl rfl (io := inb_S2x4x128x256_S1x1x128x256_1_0_0_0) z),
    fun z => (congrArg (fun w => k0_pay9 (F := Ideal) w z) (state_03 (F := Ideal) _ _ _ _ _ _)).trans (final_piece (b := 0) (h := 3) (bn := 0) (hn := 3) (n := 3) (oq := 384) (ov := 768) G rfl rfl rfl rfl rfl (io := inb_S2x4x128x256_S1x1x128x256_0_3_0_0) z),
    fun z => (congrArg (fun w => k0_pay8 (F := Ideal) w z) (state_02 (F := Ideal) _ _ _ _ _ _)).trans (final_piece (b := 0) (h := 2) (bn := 0) (hn := 2) (n := 2) (oq := 256) (ov := 512) G rfl rfl rfl rfl rfl (io := inb_S2x4x128x256_S1x1x128x256_0_2_0_0) z),
    fun z => (congrArg (fun w => k0_pay7 (F := Ideal) w z) (state_01 (F := Ideal) _ _ _ _ _ _)).trans (final_piece (b := 0) (h := 1) (bn := 0) (hn := 1) (n := 1) (oq := 128) (ov := 256) G rfl rfl rfl rfl rfl (io := inb_S2x4x128x256_S1x1x128x256_0_1_0_0) z),
    fun z => final_piece (b := 0) (h := 0) (bn := 0) (hn := 0) (n := 0) (oq := 0) (ov := 0) G rfl rfl rfl rfl rfl (io := inb_S2x4x128x256_S1x1x128x256_0_0_0_0) z, trivial⟩

end Cert.Retention

end
-- ==== Proof.KernelFold.lean ====
/-
  The kernel's sweep over the chunks: after point `n` the scratch holds the states before chunk `n + 1`, and the point has
  written the rows of chunk `n`.
-/
module

public import proofs.«01_k».proof.Proof.Spec
public import proofs.«01_k».proof.Proof.PointA
public import proofs.«01_k».proof.Proof.PointB
public import proofs.«01_k».proof.Proof.PointC

@[expose] public section

noncomputable section

namespace Cert.Retention

open Idealize.ShloMosaic Idealize.ShloMosaic.TcCoe
open Cert.KernelIdeal Cert.KernelIdeal.Gen Cert.KernelIdeal.Value

variable (m : (ℓ : Loc nD τ sig) → Buf (Elt Ideal) ℓ) (c : Dev nD)

theorem ptRot_q (t : Fin cfg0.N) (b : Fin 2) (h : Fin 4) (i d : Fin 128) :
    ptRot (X0_0 m c t) (iblk m c 4 t) (iblk m c 5 t) b h i d = qOf (projOf m c) t.val b h i d := by
  unfold ptRot qOf rotate cosRow sinRow laneQ
  beta_reduce
  rw [X4_apply, X5_apply, X0_apply, X0_apply, pos_num64]

theorem ptRot_k (t : Fin cfg0.N) (b : Fin 2) (h : Fin 4) (i d : Fin 128) :
    ptRot (X0_1 m c t) (iblk m c 4 t) (iblk m c 5 t) b h i d * cScale = kOf (projOf m c) t.val b h i d := by
  unfold ptRot kOf rotate cosRow sinRow laneQ
  beta_reduce
  rw [X4_apply, X5_apply, X1_apply, X1_apply, pos_num64]
  simp only [Nat.add_assoc]

theorem v_eq (t : Fin cfg0.N) (b : Fin 2) (h : Fin 4) (i : Fin 128) (e : Fin 256) :
    X0_2 m c t (ix3 b i (laneV h e)) = vOf (projOf m c) t.val b h i e := by
  unfold vOf laneV
  rw [X2_apply, pos_num64]
  simp only [Nat.add_assoc]

theorem g_eq (t : Fin cfg0.N) (b : Fin 2) (h : Fin 4) (i : Fin 128) (e : Fin 256) :
    X0_3 m c t (ix3 b i (laneV h e)) = gOf (projOf m c) t.val b h i e := by
  unfold gOf laneV
  rw [X3_apply, pos_num64]
  simp only [Nat.add_assoc]

theorem scratch_row (z : Vec Ideal S2x8192x10880 .f32) (n : ℕ) (b : Fin 2) (h : Fin 4) (d : Fin 128) (e : Fin 256) :
    scratchOf z n (ix3 (row b h) d e) = stateOf z b h n d e := by
  have hb : (⟨(4 * b.val + h.val) / 4, by omega⟩ : Fin 2) = b := Fin.ext (by show (4 * b.val + h.val) / 4 = b.val; omega)
  have hh : (⟨(4 * b.val + h.val) % 4, by omega⟩ : Fin 4) = h := Fin.ext (by show (4 * b.val + h.val) % 4 = h.val; omega)
  show stateOf z ⟨(4 * b.val + h.val) / 4, _⟩ ⟨(4 * b.val + h.val) % 4, _⟩ n d e = _
  rw [hb, hh]

theorem ptState_eq (t : Fin cfg0.N) (b : Fin 2) (h : Fin 4) (d : Fin 128) (e : Fin 256) :
    ptState (X0_1 m c t) (X0_2 m c t) (iblk m c 4 t) (iblk m c 5 t) (iblk m c 6 t) (scratchOf (projOf m c) t.val) b h d e
      = stateOf (projOf m c) b h (t.val + 1) d e := by
  unfold ptState
  rw [X6_apply, funext fun j => funext fun d => ptRot_k m c t b h j d, funext fun j => funext fun e => v_eq m c t b h j e,
    funext fun d => funext fun e => scratch_row (projOf m c) t.val b h d e]
  rfl

theorem ptOut_eq (t : Fin cfg0.N) (b : Fin 2) (h : Fin 4) (i : Fin 128) (e : Fin 256) :
    ptOut (X0_0 m c t) (X0_1 m c t) (X0_2 m c t) (X0_3 m c t) (iblk m c 4 t) (iblk m c 5 t) (iblk m c 6 t)
      (scratchOf (projOf m c) t.val) b h i e = rowOf (projOf m c) t.val b h i e := by
  unfold ptOut
  rw [X6_apply, g_eq, funext fun j => funext fun d => ptRot_q m c t b h j d,
    funext fun j => funext fun d => ptRot_k m c t b h j d, funext fun j => funext fun e => v_eq m c t b h j e,
    funext fun d => funext fun e => scratch_row (projOf m c) t.val b h d e]
  rfl

theorem stateArr_eq (t : Fin cfg0.N) :
    stateArr (X0_1 m c t) (X0_2 m c t) (iblk m c 4 t) (iblk m c 5 t) (iblk m c 6 t) (scratchOf (projOf m c) t.val)
      = scratchOf (projOf m c) (t.val + 1) := funext fun _ => ptState_eq m c t _ _ _ _

/-- The rows of chunk `n`, as a point writes them. -/
def blockOf (z : Vec Ideal S2x8192x10880 .f32) (n : ℕ) : Vec Ideal S2x128x1024 .bf16 := fun y =>
  rowOf z n (y 0) ⟨(y 2).val / 256, by have : (y 2).val < 1024 := (y 2).isLt; omega⟩ (y 1) ⟨(y 2).val % 256, by omega⟩

theorem outArr_eq (t : Fin cfg0.N) :
    outArr (X0_0 m c t) (X0_1 m c t) (X0_2 m c t) (X0_3 m c t) (iblk m c 4 t) (iblk m c 5 t) (iblk m c 6 t)
      (scratchOf (projOf m c) t.val) = blockOf (projOf m c) t.val := funext fun _ => ptOut_eq m c t _ _ _ _

theorem finalArr_eq (t : Fin cfg0.N) (ht : t.val = 63) :
    finalArr (X0_1 m c t) (X0_2 m c t) (iblk m c 4 t) (iblk m c 5 t) (iblk m c 6 t) (scratchOf (projOf m c) t.val)
      = final (projOf m c) := funext fun y => (ptState_eq m c t _ _ _ _).trans (by rw [ht]; rfl)

theorem fill_eq (z : Vec Ideal S2x8192x10880 .f32) : (k0_pay11 (F := Ideal)) = scratchOf z 0 := by
  funext y
  obtain ⟨a, b, d, rfl⟩ := ix3_eq y
  show _ = (0 : EReal)
  pointwise [k0_pay11]

theorem isReal_scratch {z : Vec Ideal S2x8192x10880 .f32} (hz : Fine z) (n : ℕ) (y : S8x128x256.Idx) : IsReal (scratchOf z n y) :=
  isReal_stateOf hz _ _ _ _ _

variable (hz : Fine (projOf m c))
include hz

set_option maxHeartbeats 2000000 in
/-- One point of the sweep. -/
theorem step (t : Fin cfg0.N) (acc : Vec Ideal S2x128x1024 .bf16 × Vec Ideal S2x4x128x256 .f32 × Vec Ideal S8x128x256 .f32)
    (hacc : t.val ≠ 0 → acc.2.2 = scratchOf (projOf m c) t.val) :
    (stAt0 m c t.val t.isLt acc).1 = blockOf (projOf m c) t.val
      ∧ (stAt0 m c t.val t.isLt acc).2.2 = scratchOf (projOf m c) (t.val + 1)
      ∧ (t.val = 63 → (stAt0 m c t.val t.isLt acc).2.1 = final (projOf m c)) := by
  have ht : t.val < 64 := lt_of_lt_of_eq t.isLt N_0
  have G : Good (X0_0 m c t) (X0_1 m c t) (X0_2 m c t) (iblk m c 4 t) (iblk m c 5 t) (iblk m c 6 t) (scratchOf (projOf m c) t.val) :=
    good m c hz t (isReal_scratch hz t.val)
  by_cases h0 : t.val % 64 = 0
  · have h1 : ¬t.val % 64 = 63 := by omega
    have e0 : t.val = 0 := by omega
    have hf : (k0_pay11 (F := Ideal)) = scratchOf (projOf m c) t.val := by rw [e0]; exact fill_eq _
    rw [← hf] at G
    have e1 := out0_A_7_eq c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) ((hcond0_0 t).mpr h0) (fun h => h1 ((hcond0_1 t).mp h)) (X0_0 m c t) (X0_1 m c t) (X0_2 m c t) (X0_3 m c t) (iblk m c 4 t) (iblk m c 5 t) (iblk m c 6 t) G
    have e2 := sout0_A_0_eq c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) ((hcond0_0 t).mpr h0) (fun h => h1 ((hcond0_1 t).mp h)) (X0_0 m c t) (X0_1 m c t) (X0_2 m c t) (X0_3 m c t) (iblk m c 4 t) (iblk m c 5 t) (iblk m c 6 t) G
    rw [hf, outArr_eq] at e1
    rw [hf, stateArr_eq] at e2
    rw [stAt0_A m c t acc h0 h1, e1, e2]
    exact ⟨rfl, rfl, fun h => by omega⟩
  · have hs := hacc (by omega)
    rw [← hs] at G
    by_cases h1 : t.val % 64 = 63
    · have e1 := out0_C_7_eq c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) (fun h => h0 ((hcond0_0 t).mp h)) ((hcond0_1 t).mpr h1) (X0_0 m c t) (X0_1 m c t) (X0_2 m c t) (X0_3 m c t) (iblk m c 4 t) (iblk m c 5 t) (iblk m c 6 t) acc.2.2 G
      have e2 := sout0_C_0_eq c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) (fun h => h0 ((hcond0_0 t).mp h)) ((hcond0_1 t).mpr h1) (X0_0 m c t) (X0_1 m c t) (X0_2 m c t) (X0_3 m c t) (iblk m c 4 t) (iblk m c 5 t) (iblk m c 6 t) acc.2.2 G
      have e3 := out0_C_8_eq c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) (fun h => h0 ((hcond0_0 t).mp h)) ((hcond0_1 t).mpr h1) (X0_0 m c t) (X0_1 m c t) (X0_2 m c t) (X0_3 m c t) (iblk m c 4 t) (iblk m c 5 t) (iblk m c 6 t) acc.2.2 G
      rw [hs, outArr_eq] at e1
      rw [hs, stateArr_eq] at e2
      rw [hs, finalArr_eq m c t (by omega)] at e3
      rw [stAt0_C m c t acc h0 h1, hs, e1, e2, e3]
      exact ⟨rfl, rfl, fun _ => rfl⟩
    · have e1 := out0_B_7_eq c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) (fun h => h0 ((hcond0_0 t).mp h)) (fun h => h1 ((hcond0_1 t).mp h)) (X0_0 m c t) (X0_1 m c t) (X0_2 m c t) (X0_3 m c t) (iblk m c 4 t) (iblk m c 5 t) (iblk m c 6 t) acc.2.2 G
      have e2 := sout0_B_0_eq c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) (fun h => h0 ((hcond0_0 t).mp h)) (fun h => h1 ((hcond0_1 t).mp h)) (X0_0 m c t) (X0_1 m c t) (X0_2 m c t) (X0_3 m c t) (iblk m c 4 t) (iblk m c 5 t) (iblk m c 6 t) acc.2.2 G
      rw [hs, outArr_eq] at e1
      rw [hs, stateArr_eq] at e2
      rw [stAt0_B m c t acc h0 h1, hs, e1, e2]
      exact ⟨rfl, rfl, fun h => by omega⟩

/-- The sweep. -/
theorem sweep : ∀ (n : ℕ) (hn : n < cfg0.N), (outsAt0 m c n hn).1 = blockOf (projOf m c) n
      ∧ (outsAt0 m c n hn).2.2 = scratchOf (projOf m c) (n + 1) ∧ (n = 63 → (outsAt0 m c n hn).2.1 = final (projOf m c))
  | 0, hn => by
    rw [outsAt0_zero]
    exact step m c hz ⟨0, hn⟩ _ (fun h => absurd rfl h)
  | n + 1, hn => by
    rw [outsAt0_succ]
    exact step m c hz ⟨n + 1, hn⟩ _ (fun _ => (sweep n _).2.1)

/-- The kernel's first result. -/
theorem G7_eq : G7 m c = result (projOf m c) := by
  funext i
  have h0 : (i 0).val < 2 := (i 0).isLt
  have h1 : (i 1).val < 8192 := (i 1).isLt
  have h2 : (i 2).val < 1024 := (i 2).isLt
  have hp : pt7Of i = (i 1).val / 128 := by
    show 64 * ((i 0).val / 2 - 0) + 1 * ((i 1).val / 128 - 0) + 1 * ((i 2).val / 1024 - 0) = _
    omega
  have hlt : pt7Of i < cfg0.N := by rw [hp]; exact lt_of_lt_of_eq (by omega) N_0.symm
  unfold G7
  rw [dif_pos hlt, ← outsAt0_sweep m c _ hlt, (sweep m c hz _ hlt).1, hp]
  show rowOf _ _ ⟨(i 0).val % 2, _⟩ ⟨((i 2).val % 1024) / 256, _⟩ ⟨(i 1).val % 128, _⟩ ⟨((i 2).val % 1024) % 256, _⟩ = rowOf _ _ _ _ _ _
  congr 1
  · exact Fin.ext (Nat.mod_eq_of_lt h0)
  · exact Fin.ext (by show (i 2).val % 1024 / 256 = (i 2).val / 256; rw [Nat.mod_eq_of_lt h2])
  · exact Fin.ext (by show (i 2).val % 1024 % 256 = (i 2).val % 256; rw [Nat.mod_eq_of_lt h2])

/-- The kernel's second result. -/
theorem G8_eq : G8 m c = final (projOf m c) := by
  rw [G8_last m c]
  have h63 : 63 < cfg0.N := lt_of_lt_of_eq (by decide) N_0.symm
  rw [← outsAt0_sweep m c 63 h63]
  exact (sweep m c hz 63 h63).2.2 rfl

end Cert.Retention

end
-- ==== Proof.RefTables.lean ====
/-
  What the reference computes before its loop: the decays of a chunk, and q, k and v cut into chunks.
-/
module

public import proofs.«01_k».proof.Proof.Spec
public import proofs.«01_k».proof.Proof.Gen.ReferenceIdeal.Step
public import Idealize.ShloMosaic.Lib.Pointwise

@[expose] public section

noncomputable section

namespace Cert.Retention.Ref

open Idealize.ShloMosaic Idealize.ShloMosaic.TcCoe
open Cert.ReferenceIdeal Cert.ReferenceIdeal.Gen Cert.ReferenceIdeal.Step

theorem lg_apply (h : Fin 4) : K_main_v85 (F := Ideal) (ix1 h) = logDecay h := by
  unfold logDecay num
  pointwise [K_main_v85, K_main_v84, K_main_v83, K_main_cst_9, K_main_v82, K_main_v81, K_main_cst_8, K_main_v80, K_main_v79, K_main_cst_7, K_main_v78]

theorem angle_apply (p : Fin 8192) (f : Fin 64) : K_main_v17 (F := Ideal) (ix2 p f) = angle p f := by
  unfold angle num
  pointwise [K_main_v17, K_main_v16, K_main_v15, K_main_v14, K_main_v13, K_main_v12, K_main_v11, K_main_v10, K_main_cst_1, K_main_v9,
    K_main_v8, K_main_cst_0, K_main_v7, K_main_v6, K_main_cst, K_main_v5, K_main_v0]

theorem mask_apply (h : Fin 4) (i j : Fin 128) : K_main_v102 (F := Ideal) (ix3 h i j) = decayMask (logDecay h) i j := by
  have e := lg_apply h
  unfold K_main_v102 K_main_v101 K_main_v100 K_main_v99 K_main_v97
  generalize K_main_v85 (F := Ideal) = L at e ⊢
  unfold decayMask num
  pointwise [K_main_call0_v1, K_main_call0_v2, K_main_call0_v0, K_main_cst_12, K_main_v93, K_main_v92, K_main_cst_10, K_main_v98, K_main_v96, K_main_v95, K_main_v94,
    K_main_cst_11, K_main_v91, K_main_v90, K_main_v89, K_main_v88, K_main_v87, K_main_v86]
  rw [e]
  have hz : (id (constant (F := Ideal) S_ .f32 0#32) ix0 : EReal) = 0 := by
    show constant (F := Ideal) S_ .f32 0#32 ix0 = 0
    pointwise []
  rw [hz]

theorem cross_apply (h : Fin 4) (i : Fin 128) : K_main_v110 (F := Ideal) (ix2 h i) = fromState (logDecay h) i := by
  have e := lg_apply h
  unfold K_main_v110 K_main_v109 K_main_v108 K_main_v106
  generalize K_main_v85 (F := Ideal) = L at e ⊢
  unfold fromState num
  pointwise [K_main_v107, K_main_v105, K_main_v104, K_main_v103, K_main_cst_13, K_main_v86]
  rw [e]

theorem kdec_apply (h : Fin 4) (j : Fin 128) : K_main_v118 (F := Ideal) (ix2 h j) = toState (logDecay h) j := by
  have e := lg_apply h
  unfold K_main_v118 K_main_v117 K_main_v116 K_main_v114
  generalize K_main_v85 (F := Ideal) = L at e ⊢
  unfold toState num c127
  pointwise [K_main_v115, K_main_v113, K_main_v112, K_main_v111, K_main_cst_14, K_main_v86]
  rw [e]

theorem through_apply (h : Fin 4) : K_main_v121 (F := Ideal) (ix1 h) = throughChunk (logDecay h) := by
  have e := lg_apply h
  unfold K_main_v121 K_main_v120
  generalize K_main_v85 (F := Ideal) = L at e ⊢
  unfold throughChunk c128
  pointwise [K_main_v119, K_main_cst_15]
  rw [e]

variable (z : Vec Ideal S2x8192x10880 .f32)

theorem qRaw (b : Fin 2) (p : Fin 8192) (h : Fin 4) (d : Fin 128) :
    A_main_v4 z (ix4 b p h d) = z (ix3 b p ⟨128 * h.val + d.val, by omega⟩) := by
  pointwise [A_main_v4, A_main_v1]
  exact congrArg (fun l => z (ix3 b p l)) (Fin.ext (by dsimp only; omega))

theorem kRaw (b : Fin 2) (p : Fin 8192) (h : Fin 4) (d : Fin 128) :
    A_main_v39 z (ix4 b p h d) = z (ix3 b p ⟨512 + 128 * h.val + d.val, by omega⟩) := by
  pointwise [A_main_v39, A_main_v2]
  exact congrArg (fun l => z (ix3 b p l)) (Fin.ext (by dsimp only; omega))

theorem vRaw (b : Fin 2) (p : Fin 8192) (h : Fin 4) (d : Fin 256) :
    A_main_v77 z (ix4 b p h d) = z (ix3 b p ⟨1024 + 256 * h.val + d.val, by omega⟩) := by
  pointwise [A_main_v77, A_main_v3]
  exact congrArg (fun l => z (ix3 b p l)) (Fin.ext (by dsimp only; omega))

/-- The rotation in halves is the rotation by lanes. -/
theorem rot_eq (x r : Fin 128 → EReal) (e : ∀ d, x d = r d) (y : Fin 64 → EReal) (p : ℕ) (a : ∀ f : Fin 64, y f = angle p f) (d : Fin 128) :
    (if h : d.val < 64 then
        x d * Ideal.cos (y ⟨d.val, h⟩) - x ⟨64 + d.val, by omega⟩ * Ideal.sin (y ⟨d.val, h⟩)
      else
        x ⟨64 + (d.val - 64), by omega⟩ * Ideal.cos (y ⟨d.val - 64, by omega⟩)
          + x ⟨d.val - 64, by omega⟩ * Ideal.sin (y ⟨d.val - 64, by omega⟩))
      = rotate (cosRow p) (sinRow p) r d := by
  obtain rfl : x = r := funext e
  unfold rotate cosRow sinRow
  by_cases hd : d.val < 64
  · have hp : partner d = ⟨64 + d.val, by omega⟩ := Fin.ext (by show (d.val + 128 - 64) % 128 = 64 + d.val; omega)
    have hm : d.val % 64 = d.val := Nat.mod_eq_of_lt hd
    rw [dif_pos hd, if_pos hd, a, hp, hm, sub_eq_add_neg, mul_neg]
  · have hp : partner d = ⟨d.val - 64, by omega⟩ := Fin.ext (by show (d.val + 128 - 64) % 128 = d.val - 64; omega)
    have hm : d.val % 64 = d.val - 64 := by omega
    have hd' : (⟨64 + (d.val - 64), by omega⟩ : Fin 128) = d := Fin.ext (by show 64 + (d.val - 64) = d.val; omega)
    rw [dif_neg hd, if_neg hd, a, hp, hm, hd']

theorem qRot (b : Fin 2) (p : Fin 8192) (h : Fin 4) (d : Fin 128) :
    A_main_v38 z (ix4 b p h d) = rotate (cosRow p) (sinRow p) (fun d => z (ix3 b p ⟨128 * h.val + d.val, by omega⟩)) d := by
  have e := qRaw z b p h
  have a := angle_apply p
  unfold A_main_v38 A_main_v37 A_main_v36 A_main_v33 A_main_v30 A_main_v29 A_main_v26 A_main_v23 A_main_v22
  generalize A_main_v4 z = x at e ⊢
  unfold K_main_v35 K_main_v34 K_main_v32 K_main_v31 K_main_v28 K_main_v27 K_main_v25 K_main_v24 K_main_v21 K_main_v20 K_main_v19 K_main_v18
  generalize K_main_v17 (F := Ideal) = y at a ⊢
  pointwise []
  exact rot_eq (fun d => x (ix4 b p h d)) _ e (fun f => y (ix2 p f)) p a d

end Cert.Retention.Ref

end
-- ==== Proof.RefChunks.lean ====
/-
  The reference's chunks of q, k and v.
-/
module

public import proofs.«01_k».proof.Proof.RefTables
public import Idealize.ShloMosaic.Lib.Pipeline.Value

@[expose] public section

noncomputable section

namespace Cert.Retention.Ref

open Idealize.ShloMosaic Idealize.ShloMosaic.TcCoe
open Cert.ReferenceIdeal Cert.ReferenceIdeal.Gen Cert.ReferenceIdeal.Step

/-- The sequence axis cut into 64 chunks of 128 rows. -/
theorem cut_apply {D : ℕ} (x : (⟨4, ![2, 8192, 4, D]⟩ : Shape).Idx → EReal)
    (hc : (⟨4, ![2, 8192, 4, D]⟩ : Shape).ShapeCasts ⟨5, ![2, 64, 128, 4, D]⟩) (n : Fin 64) (b : Fin 2) (h : Fin 4) (i : Fin 128) (d : Fin D) :
    shapeCast ⟨5, ![2, 64, 128, 4, D]⟩ x hc (ix5 b n i h d) = x (ix4 b (posN n i) h d) := by
  refine shapeCast_apply x hc _ _ ?_
  rw [Shape.rowMajor_val_four, Shape.rowMajor_val_five]
  have hp : (posN n i).val = 128 * n.val + i.val := by show (128 * n.val + i.val) % 8192 = _; omega
  show ((b.val * 8192 + (posN n i).val) * 4 + h.val) * D + d.val = (((b.val * 64 + n.val) * 128 + i.val) * 4 + h.val) * D + d.val
  rw [hp]
  congr 3
  omega

variable (z : Vec Ideal S2x8192x10880 .f32)

theorem kRot (b : Fin 2) (p : Fin 8192) (h : Fin 4) (d : Fin 128) :
    A_main_v73 z (ix4 b p h d) = rotate (cosRow p) (sinRow p) (fun d => z (ix3 b p ⟨512 + 128 * h.val + d.val, by omega⟩)) d := by
  have e := kRaw z b p h
  have a : ∀ f : Fin 64, K_main_v52 (F := Ideal) (ix2 p f) = angle p f := angle_apply p
  unfold A_main_v73 A_main_v72 A_main_v71 A_main_v68 A_main_v65 A_main_v64 A_main_v61 A_main_v58 A_main_v57
  generalize A_main_v39 z = x at e ⊢
  unfold K_main_v70 K_main_v69 K_main_v67 K_main_v66 K_main_v63 K_main_v62 K_main_v60 K_main_v59 K_main_v56 K_main_v55 K_main_v54 K_main_v53
  generalize K_main_v52 (F := Ideal) = y at a ⊢
  pointwise []
  exact rot_eq (fun d => x (ix4 b p h d)) _ e (fun f => y (ix2 p f)) p a d

theorem kScaled (b : Fin 2) (p : Fin 8192) (h : Fin 4) (d : Fin 128) :
    A_main_v75 z (ix4 b p h d)
      = rotate (cosRow p) (sinRow p) (fun d => z (ix3 b p ⟨512 + 128 * h.val + d.val, by omega⟩)) d * cScale := by
  refine Eq.trans ?_ (congrArg (· * cScale) (kRot z b p h d))
  unfold A_main_v75 cScale
  generalize A_main_v73 z = x
  beta_reduce
  pointwise [K_main_v74, K_main_cst_5]

theorem swapK (y : Vec Ideal S2x64x128x4x128 .f32) (n : Fin 64) (b : Fin 2) (h : Fin 4) (i d : Fin 128) :
    transpose S64x2x4x128x128 [1, 0, 3, 2, 4] y transposes_S2x64x128x4x128_S64x2x4x128x128_1_0_3_2_4 (ix5 n b h i d) = y (ix5 b n i h d) := by
  pointwise []

theorem swapV (y : Vec Ideal S2x64x128x4x256 .f32) (n : Fin 64) (b : Fin 2) (h : Fin 4) (i : Fin 128) (e : Fin 256) :
    transpose S64x2x4x128x256 [1, 0, 3, 2, 4] y transposes_S2x64x128x4x256_S64x2x4x128x256_1_0_3_2_4 (ix5 n b h i e) = y (ix5 b n i h e) := by
  pointwise []

theorem cutQ (n : Fin 64) (b : Fin 2) (h : Fin 4) (i d : Fin 128) : A_main_v122 z (ix5 b n i h d) = A_main_v38 z (ix4 b (posN n i) h d) :=
  cut_apply (A_main_v38 z) shapeCasts_S2x8192x4x128_S2x64x128x4x128 n b h i d

theorem cutK (n : Fin 64) (b : Fin 2) (h : Fin 4) (i d : Fin 128) : A_main_v124 z (ix5 b n i h d) = A_main_v75 z (ix4 b (posN n i) h d) :=
  cut_apply (A_main_v75 z) shapeCasts_S2x8192x4x128_S2x64x128x4x128 n b h i d

theorem cutV (n : Fin 64) (b : Fin 2) (h : Fin 4) (i : Fin 128) (e : Fin 256) :
    A_main_v126 z (ix5 b n i h e) = A_main_v77 z (ix4 b (posN n i) h e) :=
  cut_apply (A_main_v77 z) shapeCasts_S2x8192x4x256_S2x64x128x4x256 n b h i e

theorem chunk_q (n : Fin 64) (b : Fin 2) (h : Fin 4) (i d : Fin 128) : A_main_v123 z (ix5 n b h i d) = qOf z n b h i d := by
  unfold A_main_v123
  exact (swapK _ n b h i d).trans ((cutQ z n b h i d).trans (qRot z b (posN n i) h d))

theorem chunk_k (n : Fin 64) (b : Fin 2) (h : Fin 4) (i d : Fin 128) : A_main_v125 z (ix5 n b h i d) = kOf z n b h i d := by
  unfold A_main_v125
  exact (swapK _ n b h i d).trans ((cutK z n b h i d).trans (kScaled z b (posN n i) h d))

theorem chunk_v (n : Fin 64) (b : Fin 2) (h : Fin 4) (i : Fin 128) (e : Fin 256) : A_main_v127 z (ix5 n b h i e) = vOf z n b h i e := by
  unfold A_main_v127
  exact (swapV _ n b h i e).trans ((cutV z n b h i e).trans (vRaw z b (posN n i) h e))

end Cert.Retention.Ref

end
-- ==== Proof.RefTrip.lean ====
/-
  One trip of the reference's loop, entry by entry.
-/
module

public import proofs.«01_k».proof.Proof.RefChunks

@[expose] public section

noncomputable section

namespace Cert.Retention.Ref

open Idealize.ShloMosaic Idealize.ShloMosaic.TcCoe
open Cert.ReferenceIdeal Cert.ReferenceIdeal.Gen Cert.ReferenceIdeal.Step
open scoped BigOperators

theorem word (n : Fin 64) : (BitVec.ofNat 32 n.val).toInt = n.val := by
  revert n; decide

/-- The slice of chunk `n` of a stack of 64. -/
theorem slice_apply {A B C D : ℕ} (x : (⟨5, ![64, A, B, C, D]⟩ : Shape).Idx → EReal) (start : Fin 5 → ℤ) (n : Fin 64)
    (h0 : start 0 = n.val) (h1 : start 1 = (0 : ℕ)) (h2 : start 2 = (0 : ℕ)) (h3 : start 3 = (0 : ℕ)) (h4 : start 4 = (0 : ℕ))
    (hf : (⟨5, ![64, A, B, C, D]⟩ : Shape).Slices (fun _ => 0) ⟨5, ![1, A, B, C, D]⟩) (a : Fin A) (b : Fin B) (c : Fin C) (d : Fin D) :
    Host.dynamicSlice ⟨5, ![1, A, B, C, D]⟩ x start hf (ix5 0 a b c d) = x (ix5 n a b c d) := by
  rw [Host.dynamicSlice_apply]
  refine congrArg x (funext fun k => Fin.ext ?_)
  match k with
  | ⟨0, _⟩ => exact (congrArg (· + 0) (Host.clampedStart_of_le hf.1 start 0 n.val h0 (by show n.val + 1 ≤ 64; omega))).trans (Nat.add_zero _)
  | ⟨1, _⟩ => exact (congrArg (· + a.val) (Host.clampedStart_of_le hf.1 start 1 0 h1 (Nat.zero_add _).le)).trans (Nat.zero_add _)
  | ⟨2, _⟩ => exact (congrArg (· + b.val) (Host.clampedStart_of_le hf.1 start 2 0 h2 (Nat.zero_add _).le)).trans (Nat.zero_add _)
  | ⟨3, _⟩ => exact (congrArg (· + c.val) (Host.clampedStart_of_le hf.1 start 3 0 h3 (Nat.zero_add _).le)).trans (Nat.zero_add _)
  | ⟨4, _⟩ => exact (congrArg (· + d.val) (Host.clampedStart_of_le hf.1 start 4 0 h4 (Nat.zero_add _).le)).trans (Nat.zero_add _)

/-- Entry `n` of a stack of 64 written over. -/
theorem update_apply {A B C D : ℕ} (x : (⟨5, ![64, A, B, C, D]⟩ : Shape).Idx → EReal) (u : (⟨5, ![1, A, B, C, D]⟩ : Shape).Idx → EReal)
    (start : Fin 5 → ℤ) (n : Fin 64)
    (h0 : start 0 = n.val) (h1 : start 1 = (0 : ℕ)) (h2 : start 2 = (0 : ℕ)) (h3 : start 3 = (0 : ℕ)) (h4 : start 4 = (0 : ℕ))
    (hf : (⟨5, ![64, A, B, C, D]⟩ : Shape).Slices (fun _ => 0) ⟨5, ![1, A, B, C, D]⟩) (k : Fin 64) (a : Fin A) (b : Fin B) (c : Fin C) (d : Fin D) :
    Host.dynamicUpdateSlice x u start hf (ix5 k a b c d) = if k = n then u (ix5 0 a b c d) else x (ix5 k a b c d) := by
  have e0 := Host.clampedStart_of_le hf.1 start 0 n.val h0 (by show n.val + 1 ≤ 64; omega)
  have e1 := Host.clampedStart_of_le hf.1 start 1 0 h1 (Nat.zero_add _).le
  have e2 := Host.clampedStart_of_le hf.1 start 2 0 h2 (Nat.zero_add _).le
  have e3 := Host.clampedStart_of_le hf.1 start 3 0 h3 (Nat.zero_add _).le
  have e4 := Host.clampedStart_of_le hf.1 start 4 0 h4 (Nat.zero_add _).le
  rw [Host.dynamicUpdateSlice_apply]
  by_cases hk : k = n
  · subst hk
    have hin : ∀ z : Fin 5, Host.clampedStart ⟨5, ![64, A, B, C, D]⟩ ⟨5, ![1, A, B, C, D]⟩ hf.1 start z ≤ ((ix5 k a b c d : (⟨5, ![64, A, B, C, D]⟩ : Shape).Idx) z).val
        ∧ ((ix5 k a b c d : (⟨5, ![64, A, B, C, D]⟩ : Shape).Idx) z).val < Host.clampedStart ⟨5, ![64, A, B, C, D]⟩ ⟨5, ![1, A, B, C, D]⟩ hf.1 start z + (⟨5, ![1, A, B, C, D]⟩ : Shape).size (z.cast hf.1.symm) := by
      intro z
      match z with
      | ⟨0, _⟩ => erw [e0]; exact ⟨le_rfl, Nat.lt_succ_self _⟩
      | ⟨1, _⟩ => erw [e1]; exact ⟨Nat.zero_le _, (Nat.zero_add A).symm ▸ a.isLt⟩
      | ⟨2, _⟩ => erw [e2]; exact ⟨Nat.zero_le _, (Nat.zero_add B).symm ▸ b.isLt⟩
      | ⟨3, _⟩ => erw [e3]; exact ⟨Nat.zero_le _, (Nat.zero_add C).symm ▸ c.isLt⟩
      | ⟨4, _⟩ => erw [e4]; exact ⟨Nat.zero_le _, (Nat.zero_add D).symm ▸ d.isLt⟩
    rw [dif_pos hin, if_pos rfl]
    refine congrArg u (funext fun z => Fin.ext ?_)
    match z with
    | ⟨0, _⟩ => exact (congrArg (k.val - ·) e0).trans (Nat.sub_self _)
    | ⟨1, _⟩ => exact (congrArg (a.val - ·) e1).trans (Nat.sub_zero _)
    | ⟨2, _⟩ => exact (congrArg (b.val - ·) e2).trans (Nat.sub_zero _)
    | ⟨3, _⟩ => exact (congrArg (c.val - ·) e3).trans (Nat.sub_zero _)
    | ⟨4, _⟩ => exact (congrArg (d.val - ·) e4).trans (Nat.sub_zero _)
  · rw [if_neg hk, dif_neg]
    intro hin
    have h := hin 0
    rw [e0] at h
    exact hk (Fin.ext (Nat.le_antisymm (Nat.lt_succ_iff.mp h.2) h.1))

variable (s : State Ideal) (n : Fin 64)

theorem trip_q (b : Fin 2) (h : Fin 4) (i d : Fin 128) : b5 n s (ix4 b h i d) = s.main_v129_0 (ix5 n b h i d) := by
  have e := slice_apply s.main_v129_0 (fun k => (((![(constantI S_ 32 (BitVec.ofNat 32 n) : (⟨S_, .i32⟩ : BufTy).Contents (Elt Ideal)), (b0 n s), (b1 n s), (b2 n s), (b3 n s)] : Fin 5 → (⟨S_, .i32⟩ : BufTy).Contents (Elt Ideal))) k (Shape.Idx.first h_S_)).toInt) n
    (word n) rfl rfl rfl rfl sliceFits_S64x2x4x128x128_S1x2x4x128x128 b h i d
  refine Eq.trans ?_ e
  unfold b5 b4
  generalize Host.dynamicSlice _ _ _ _ = y
  pointwise []

theorem trip_k (b : Fin 2) (h : Fin 4) (i d : Fin 128) : b11 n s (ix4 b h i d) = s.main_v129_1 (ix5 n b h i d) := by
  have e := slice_apply s.main_v129_1 (fun k => (((![(constantI S_ 32 (BitVec.ofNat 32 n) : (⟨S_, .i32⟩ : BufTy).Contents (Elt Ideal)), (b6 n s), (b7 n s), (b8 n s), (b9 n s)] : Fin 5 → (⟨S_, .i32⟩ : BufTy).Contents (Elt Ideal))) k (Shape.Idx.first h_S_)).toInt) n
    (word n) rfl rfl rfl rfl sliceFits_S64x2x4x128x128_S1x2x4x128x128 b h i d
  refine Eq.trans ?_ e
  unfold b11 b10
  generalize Host.dynamicSlice _ _ _ _ = y
  pointwise []

theorem trip_v (b : Fin 2) (h : Fin 4) (i : Fin 128) (d : Fin 256) : b17 n s (ix4 b h i d) = s.main_v129_2 (ix5 n b h i d) := by
  have e := slice_apply s.main_v129_2 (fun k => (((![(constantI S_ 32 (BitVec.ofNat 32 n) : (⟨S_, .i32⟩ : BufTy).Contents (Elt Ideal)), (b12 n s), (b13 n s), (b14 n s), (b15 n s)] : Fin 5 → (⟨S_, .i32⟩ : BufTy).Contents (Elt Ideal))) k (Shape.Idx.first h_S_)).toInt) n
    (word n) rfl rfl rfl rfl sliceFits_S64x2x4x128x256_S1x2x4x128x256 b h i d
  refine Eq.trans ?_ e
  unfold b17 b16
  generalize Host.dynamicSlice _ _ _ _ = y
  pointwise []

/-- The state after the trip. -/
theorem trip_state (b : Fin 2) (h : Fin 4) (d : Fin 128) (e : Fin 256) :
    b34 n s (ix4 b h d e) = chunkState (logDecay h) (fun j d => s.main_v129_1 (ix5 n b h j d)) (fun j e => s.main_v129_2 (ix5 n b h j e))
      (fun d e => s.main_v129_8 (ix4 b h d e)) d e := by
  have hk := trip_k s n b h
  have hv := trip_v s n b h
  have ht := through_apply h
  have hd := kdec_apply h
  unfold b34 b33 b32 b31 b30 b29 b28 b27
  generalize b11 n s = k at hk ⊢
  generalize b17 n s = v at hv ⊢
  generalize K_main_v121 (F := Ideal) = t at ht ⊢
  generalize K_main_v118 (F := Ideal) = w at hd ⊢
  unfold chunkState
  pointwise []
  simp only [hk, hv, ht, hd]

/-- The trip's rows, before they are normalised. -/
theorem trip_out (b : Fin 2) (h : Fin 4) (i : Fin 128) (e : Fin 256) :
    b35 n s (ix4 b h i e) = chunkOut (logDecay h) (fun j d => s.main_v129_0 (ix5 n b h j d)) (fun j d => s.main_v129_1 (ix5 n b h j d))
      (fun j e => s.main_v129_2 (ix5 n b h j e)) (fun d e => s.main_v129_8 (ix4 b h d e)) i e := by
  have hq := trip_q s n b h
  have hk := trip_k s n b h
  have hv := trip_v s n b h
  have hm := mask_apply h
  have hc := cross_apply h
  unfold b35 b26 b25 b24 b23 b22 b21 b20 b19 b18
  generalize b5 n s = q at hq ⊢
  generalize b11 n s = k at hk ⊢
  generalize b17 n s = v at hv ⊢
  generalize K_main_v102 (F := Ideal) = t at hm ⊢
  generalize K_main_v110 (F := Ideal) = w at hc ⊢
  unfold chunkOut
  pointwise []
  simp only [hq, hk, hv, hm, hc]

/-- The stack of results after the trip. -/
theorem trip_outs (k : Fin 64) (b : Fin 2) (h : Fin 4) (i : Fin 128) (e : Fin 256) :
    b41 n s (ix5 k b h i e) = if k = n then b35 n s (ix4 b h i e) else s.main_v129_9 (ix5 k b h i e) := by
  have hu : b36 n s (ix5 0 b h i e) = b35 n s (ix4 b h i e) := by
    unfold b36
    generalize b35 n s = o
    pointwise []
  rw [← hu]
  exact update_apply s.main_v129_9 (b36 n s) (fun k => (((![(constantI S_ 32 (BitVec.ofNat 32 n) : (⟨S_, .i32⟩ : BufTy).Contents (Elt Ideal)), (b37 n s), (b38 n s), (b39 n s), (b40 n s)] : Fin 5 → (⟨S_, .i32⟩ : BufTy).Contents (Elt Ideal))) k (Shape.Idx.first h_S_)).toInt) n
    (word n) rfl rfl rfl rfl updateFits_S64x2x4x128x256_S1x2x4x128x256 k b h i e

end Cert.Retention.Ref

end
-- ==== Proof.RefFold.lean ====
/-
  The reference's loop over the chunks, and its result.
-/
module

public import proofs.«01_k».proof.Proof.RefTrip

@[expose] public section

noncomputable section

namespace Cert.Retention.Ref

open Idealize.ShloMosaic Idealize.ShloMosaic.TcCoe
open Cert.ReferenceIdeal Cert.ReferenceIdeal.Gen Cert.ReferenceIdeal.Step
open scoped BigOperators

variable (z : Vec Ideal S2x8192x10880 .f32)

/-- The state before trip `n`. -/
def iter : ℕ → State Ideal
  | 0 => init z
  | n + 1 => Step.step n (iter n)

/-- A row of chunk `k` before it is normalised. -/
def raw (k : ℕ) (b : Fin 2) (h : Fin 4) (i : Fin 128) (e : Fin 256) : EReal :=
  chunkOut (logDecay h) (qOf z k b h) (kOf z k b h) (vOf z k b h) (stateOf z b h k) i e

/-- What the buffers hold before trip `n`. -/
structure Inv (n : ℕ) (s : State Ideal) : Prop where
  q : s.main_v129_0 = A_main_v123 z
  k : s.main_v129_1 = A_main_v125 z
  v : s.main_v129_2 = A_main_v127 z
  carry : ∀ b h d e, s.main_v129_8 (ix4 b h d e) = stateOf z b h n d e
  outs : ∀ (k : Fin 64), k.val < n → ∀ b h i e, s.main_v129_9 (ix5 k b h i e) = raw z k b h i e

theorem inv_zero : Inv z 0 (init z) where
  q := rfl
  k := rfl
  v := rfl
  carry := fun b h d e => by
    show K_main_v76 (F := Ideal) (ix4 b h d e) = (0 : EReal)
    pointwise [K_main_v76, K_main_cst_6]
  outs := fun k hk => absurd hk (Nat.not_lt_zero _)

theorem inv_succ (n : Fin 64) {s : State Ideal} (I : Inv z n.val s) : Inv z (n.val + 1) (Step.step n.val s) := by
  have hk : ∀ b h, (fun j d => s.main_v129_1 (ix5 n b h j d)) = kOf z n.val b h := by
    intro b h; rw [I.k]; funext j d; exact chunk_k z n b h j d
  have hv : ∀ b h, (fun j d => s.main_v129_2 (ix5 n b h j d)) = vOf z n.val b h := by
    intro b h; rw [I.v]; funext j d; exact chunk_v z n b h j d
  have hc : ∀ b h, (fun d e => s.main_v129_8 (ix4 b h d e)) = stateOf z b h n.val := by
    intro b h; funext d e; exact I.carry b h d e
  have hq : ∀ b h, (fun j d => s.main_v129_0 (ix5 n b h j d)) = qOf z n.val b h := by
    intro b h; rw [I.q]; funext j d; exact chunk_q z n b h j d
  exact
    { q := I.q
      k := I.k
      v := I.v
      carry := fun b h d e => by
        rw [step_main_v129_8, trip_state s n b h d e, hk, hv, hc]
        rfl
      outs := fun k hlt b h i e => by
        rw [step_main_v129_9, trip_outs s n k b h i e]
        by_cases hkn : k = n
        · rw [if_pos hkn, trip_out s n b h i e, hq, hk, hv, hc, hkn]
          rfl
        · rw [if_neg hkn]
          exact I.outs k (by have : k.val ≠ n.val := fun h => hkn (Fin.ext h); omega) b h i e }

theorem inv : ∀ n, n ≤ 64 → Inv z n (iter z n)
  | 0, _ => inv_zero z
  | n + 1, h => inv_succ z ⟨n, h⟩ (inv n (by omega))

/-- The chunks laid end to end. -/
theorem join_apply (x : Vec Ideal S2x64x128x4x256 .f32) (b : Fin 2) (p : Fin 8192) (h : Fin 4) (e : Fin 256) :
    shapeCast S2x8192x4x256 x shapeCasts_S2x64x128x4x256_S2x8192x4x256 (ix4 b p h e)
      = x (ix5 b ⟨p.val / 128, by omega⟩ ⟨p.val % 128, by omega⟩ h e) := by
  refine shapeCast_apply x _ _ _ ?_
  rw [Shape.rowMajor_val_four, Shape.rowMajor_val_five]
  show (((b.val * 64 + p.val / 128) * 128 + p.val % 128) * 4 + h.val) * 256 + e.val = ((b.val * 8192 + p.val) * 4 + h.val) * 256 + e.val
  congr 3
  omega

theorem unswap (y : Vec Ideal S64x2x4x128x256 .f32) (n : Fin 64) (b : Fin 2) (h : Fin 4) (i : Fin 128) (e : Fin 256) :
    transpose S2x64x128x4x256 [1, 0, 3, 2, 4] y transposes_S64x2x4x128x256_S2x64x128x4x256_1_0_3_2_4 (ix5 b n i h e) = y (ix5 n b h i e) := by
  pointwise []

/-- The rows of the loop's results in the sequence's order. -/
def joined (s : State Ideal) : Vec Ideal S2x8192x4x256 .f32 :=
  shapeCast S2x8192x4x256 (transpose S2x64x128x4x256 [1, 0, 3, 2, 4] s.main_v129_9 transposes_S64x2x4x128x256_S2x64x128x4x256_1_0_3_2_4)
    shapeCasts_S2x64x128x4x256_S2x8192x4x256

theorem joined_apply {s : State Ideal} (I : Inv z 64 s) (b : Fin 2) (p : Fin 8192) (h : Fin 4) (e : Fin 256) :
    joined s (ix4 b p h e) = raw z (p.val / 128) b h ⟨p.val % 128, by omega⟩ e :=
  (join_apply _ b p h e).trans ((unswap _ _ b h _ e).trans (I.outs ⟨p.val / 128, by omega⟩ (by show p.val / 128 < 64; omega) b h _ e))

/-- The rows normalised and gated. -/
theorem gated_apply {s : State Ideal} (o : Fin 256 → EReal) (b : Fin 2) (p : Fin 8192) (h : Fin 4) (ho : ∀ e, joined s (ix4 b p h e) = o e) (e : Fin 256) :
    R_main_v146 s z (ix3 b p (laneV h e)) = gated (z (ix3 b p ⟨2048 + 256 * h.val + e.val, by omega⟩)) o e := by
  have e0 : R_main_v146 s z = truncf .bf16 (mulf (F := Ideal) (φ := .f32) (mulf (F := Ideal) (φ := .f32) (extractStridedSlice S2x8192x1024 ![0, 0, 2048] z slices_S2x8192x10880_S2x8192x1024_0_0_2048) (Host.divf (F := Ideal) (φ := .f32) (broadcastInDim S2x8192x1024 ![] bcast_S_S2x8192x1024 (constant (F := Ideal) S_ .f32 0x3F800000#32)) (addf (F := Ideal) (φ := .f32) (broadcastInDim S2x8192x1024 ![] bcast_S_S2x8192x1024 (constant (F := Ideal) S_ .f32 0x3F800000#32)) (Host.exp (F := Ideal) (φ := .f32) (Host.negf (F := Ideal) (φ := .f32) (extractStridedSlice S2x8192x1024 ![0, 0, 2048] z slices_S2x8192x10880_S2x8192x1024_0_0_2048))))))
      (shapeCast _ (mulf (F := Ideal) (φ := .f32) (joined s) (broadcastInDim S2x8192x4x256 ![0, 1, 2, 3] bcast_S2x8192x4x1_S2x8192x4x256_0_1_2_3 (Host.rsqrt (F := Ideal) (φ := .f32) (addf (F := Ideal) (φ := .f32) (Host.divf (F := Ideal) (φ := .f32) (broadcastInDim S2x8192x4x1 ![0, 1, 2] bcast_S2x8192x4_S2x8192x4x1_0_1_2 (Host.reduceAdd (F := Ideal) (mulf (F := Ideal) (φ := .f32) (joined s) (joined s)) (constant (F := Ideal) S_ .f32 0x00000000#32) reducesTo_S2x8192x4x256_S2x8192x4_d3 h_S_)) (broadcastInDim S2x8192x4x1 ![] bcast_S_S2x8192x4x1 (constant (F := Ideal) S_ .f32 0x43800000#32))) (broadcastInDim S2x8192x4x1 ![] bcast_S_S2x8192x4x1 (constant (F := Ideal) S_ .f32 0x358637BD#32)))))) shapeCasts_S2x8192x4x256_S2x8192x1024)) bitsLt_bf16_f32 := rfl
  rw [e0]
  generalize joined s = y at ho ⊢
  obtain ⟨l, hl⟩ : ∃ l : Fin 1024, l = laneV h e := ⟨_, rfl⟩
  have hw : l.val = 256 * h.val + e.val := congrArg Fin.val hl
  rw [← hl]
  clear hl
  pointwise []
  have e1 : (⟨l.val / 256, by omega⟩ : Fin 4) = h := Fin.ext (by show l.val / 256 = h.val; omega)
  have e2 : (⟨l.val % 256, by omega⟩ : Fin 256) = e := Fin.ext (by show l.val % 256 = e.val; omega)
  have e3 : (⟨2048 + l.val, by omega⟩ : Fin 10880) = ⟨2048 + 256 * h.val + e.val, by omega⟩ :=
    Fin.ext (by show 2048 + l.val = 2048 + 256 * h.val + e.val; omega)
  rw [e1, e2, e3]
  simp only [ho]
  rfl

/-- The reference's first result. -/
theorem result_eq {s : State Ideal} (I : Inv z 64 s) : R_main_v146 s z = result z := by
  funext y
  obtain ⟨b, p, l, rfl⟩ : ∃ (b : Fin 2) (p : Fin 8192) (l : Fin 1024), y = ix3 b p l := ix3_eq y
  obtain ⟨h, e, rfl⟩ : ∃ h e, l = laneV h e :=
    ⟨⟨l.val / 256, by omega⟩, ⟨l.val % 256, by omega⟩, Fin.ext (by show l.val = 256 * (l.val / 256) + l.val % 256; omega)⟩
  have e1 : (⟨(laneV h e).val / 256, by omega⟩ : Fin 4) = h := Fin.ext (by show (256 * h.val + e.val) / 256 = h.val; omega)
  have e2 : (⟨(laneV h e).val % 256, by omega⟩ : Fin 256) = e := Fin.ext (by show (256 * h.val + e.val) % 256 = e.val; omega)
  have e3 : posN (p.val / 128) ⟨p.val % 128, by omega⟩ = p := Fin.ext (by show (128 * (p.val / 128) + p.val % 128) % 8192 = p.val; omega)
  refine (gated_apply z (raw z (p.val / 128) b h ⟨p.val % 128, by omega⟩) b p h (fun e => joined_apply z I b p h e) e).trans ?_
  show _ = rowOf z (p.val / 128) b ⟨(laneV h e).val / 256, _⟩ ⟨p.val % 128, _⟩ ⟨(laneV h e).val % 256, _⟩
  rw [e1, e2]
  show _ = gated (gOf z (p.val / 128) b h ⟨p.val % 128, _⟩ e) _ e
  unfold gOf
  rw [e3]
  rfl

/-- The reference's second result. -/
theorem final_eq {s : State Ideal} (I : Inv z 64 s) : s.main_v129_8 = final z := by
  funext y
  obtain ⟨b, h, d, e, rfl⟩ : ∃ (b : Fin 2) (h : Fin 4) (d : Fin 128) (e : Fin 256), y = ix4 b h d e :=
    ⟨y 0, y 1, y 2, y 3, funext fun a => match a with | ⟨0, _⟩ => rfl | ⟨1, _⟩ => rfl | ⟨2, _⟩ => rfl | ⟨3, _⟩ => rfl⟩
  exact I.carry b h d e

end Cert.Retention.Ref

end
-- ==== Proof.RefRun.lean ====
/-
  The run of the reference, said trip by trip.  `At V s j` says what the loop's buffers hold before trip `j`: the state
  `s` (the retention state, the outputs written so far, the chunked q, k and v), the four decay tables and the trip's
  number.  One trip keeps it, the operations before the loop establish it, so the results after 64 trips are those of any
  sequence of states that starts at `init` and goes on by `step` (`run_of_states`).
-/
module

public import proofs.«01_k».proof.Proof.Gen.ReferenceIdeal.Run
public import proofs.«01_k».proof.Proof.Gen.ReferenceIdeal.Step

@[expose] public section

noncomputable section

namespace Cert.Retention.RefRun

open Idealize.ShloMosaic Idealize.ShloMosaic.TcCoe Idealize.SL.Sem Idealize.ShloMosaic.StableHlo
open Cert.ReferenceIdeal Cert.ReferenceIdeal.Gen Cert.ReferenceIdeal.Value
open Cert.ReferenceIdeal.Step

variable {F : FTy → Type} [FloatOps F]

/-- Before trip `j` the loop's buffers hold the state `s`, the decay tables and the number `j`. -/
structure At (V : Valuation τ sig (Elt F)) (s : State F) (j : ℕ) : Prop where
  carry : V (Proc.devRef .tc main_v129_8) = s.main_v129_8
  outs : V (Proc.devRef .tc main_v129_9) = s.main_v129_9
  q : V (Proc.devRef .tc main_v129_0) = s.main_v129_0
  k : V (Proc.devRef .tc main_v129_1) = s.main_v129_1
  v : V (Proc.devRef .tc main_v129_2) = s.main_v129_2
  num : V (Proc.devRef .tc main_v129_7) = constantI S_ 32 (BitVec.ofNat 32 j)
  mask : V (Proc.devRef .tc main_v129_3) = K_main_v102 (F := F)
  cross : V (Proc.devRef .tc main_v129_4) = K_main_v110 (F := F)
  decay : V (Proc.devRef .tc main_v129_5) = K_main_v121 (F := F)
  kdec : V (Proc.devRef .tc main_v129_6) = K_main_v118 (F := F)

section trip

variable {V : Valuation τ sig (Elt F)} {s : State F} {j : ℕ}

set_option maxRecDepth 8192

/-- The chunk of q that the trip reads. -/
theorem q_chunk (h : At V s j) : res_main_while0b_v147 V = b5 j s := by
  unfold res_main_while0b_v147
  rw [h.q, h.num]
  rfl

/-- The chunk of k that the trip reads. -/
theorem k_chunk (h : At V s j) : res_main_while0b_v148 V = b11 j s := by
  unfold res_main_while0b_v148
  rw [h.k, h.num]
  rfl

/-- The chunk of v that the trip reads. -/
theorem v_chunk (h : At V s j) : res_main_while0b_v149 V = b17 j s := by
  unfold res_main_while0b_v149
  rw [h.v, h.num]
  rfl

/-- The trip leaves the new retention state. -/
theorem carry_step (h : At V s j) : step_main_v129_8 V = b34 j s := by
  unfold Value.step_main_v129_8
  rw [h.decay, h.carry, h.kdec, k_chunk h, v_chunk h]
  rfl

/-- The trip writes its chunk into the outputs. -/
theorem outs_step (h : At V s j) : step_main_v129_9 V = b41 j s := by
  unfold Value.step_main_v129_9
  rw [h.outs, h.num, h.mask, h.carry, h.cross, k_chunk h, v_chunk h, q_chunk h]
  rfl

/-- The trip's number goes up by one. -/
theorem num_step (h : At V s j) : step_main_v129_7 V = constantI S_ 32 (BitVec.ofNat 32 (j + 1)) := by
  unfold Value.step_main_v129_7
  rw [h.num]
  funext i
  exact (BitVec.ofNat_add j 1).symm

/-- One trip keeps `At`, with the next state and the next number. -/
theorem At.next (h : At V s j) : At (STEP V) (step j s) (j + 1) where
  carry := (STEP_main_v129_8 V).trans (carry_step h)
  outs := (STEP_main_v129_9 V).trans (outs_step h)
  num := (STEP_main_v129_7 V).trans (num_step h)
  q := (STEP_main_v129_0 V).trans h.q
  k := (STEP_main_v129_1 V).trans h.k
  v := (STEP_main_v129_2 V).trans h.v
  mask := (STEP_main_v129_3 V).trans h.mask
  cross := (STEP_main_v129_4 V).trans h.cross
  decay := (STEP_main_v129_5 V).trans h.decay
  kdec := (STEP_main_v129_6 V).trans h.kdec

/-- What follows the loop computes the first result from the state it leaves. -/
theorem result_at (h : At V s j) {x : (⟨S2x8192x10880, .f32⟩ : BufTy).Contents (Elt F)}
    (hx : V (Proc.devRef .tc main_arg0) = x) : out_main_v146 V = R_main_v146 s x := by
  unfold out_main_v146
  rw [h.outs, hx]
  rfl

end trip

variable (m : (ℓ : Loc nD τ sig) → Buf (Elt F) ℓ) (c : Dev nD)

set_option maxRecDepth 65536 in
set_option maxHeartbeats 1000000 in
/-- The operations before the loop establish `At` for the initial state. -/
theorem at_entry : At (entryContents preI m c) (init (m ((c.tc : Thread nD τ).loc main_arg0))) 0 := by
  constructor <;> (simp only [entryContents, afterL_cons, afterL_nil]; after_reads_simp) <;> rfl

/-- Before trip `n` the buffers hold the `n`-th state of any sequence that starts at `init` and goes on by `step`. -/
theorem at_iter (it : ℕ → State F) (h0 : it 0 = init (m ((c.tc : Thread nD τ).loc main_arg0)))
    (hs : ∀ n, it (n + 1) = step n (it n)) (n : ℕ) : At (STEP^[n] (entryContents preI m c)) (it n) n := by
  induction n with
  | zero => rw [h0]; exact at_entry m c
  | succ n ih => rw [Function.iterate_succ_apply', hs n]; exact ih.next

/-- The reference ends with its results at the 64th state of such a sequence, the argument unchanged. -/
theorem run_of_states (ρ : Dev nD → PrngReg) (it : Dev nD → ℕ → State F)
    (h0 : ∀ c, it c 0 = init (m ((c.tc : Thread nD τ).loc main_arg0))) (hs : ∀ c n, it c (n + 1) = step n (it c n)) :
    θ_run (defs (F := F)) (onTc (τ := τ) (main (F := F))) ⟨m, fun _ => 0, ρ⟩ fun r => ∀ c : Dev nD,
      r.2.mem ((c.tc : Thread nD τ).loc main_v146) = R_main_v146 (it c 64) (m ((c.tc : Thread nD τ).loc main_arg0))
      ∧ r.2.mem ((c.tc : Thread nD τ).loc main_v129_8) = (it c 64).main_v129_8
      ∧ r.2.mem ((c.tc : Thread nD τ).loc main_arg0) = m ((c.tc : Thread nD τ).loc main_arg0) :=
  (θ_run defs _ _).mono (fun _ h c =>
    have hk := at_iter m c (it c) (h0 c) (hs c) 64
    ⟨(h c).1.trans (result_at hk (iter_main_arg0 m c 64)), (h c).2.1.trans hk.carry, (h c).2.2⟩) (Value.run m ρ)

end Cert.Retention.RefRun

end
-- ==== Proof.Algebraic.lean ====
/-
  The claims about the retention's three programs.
-/
module

public import proofs.«01_k».proof.Defs
public import proofs.«01_k».proof.Proof.KernelFold
public import proofs.«01_k».proof.Proof.RefFold
public import proofs.«01_k».proof.Proof.RefRun
public import proofs.«01_k».proof.Proof.Gen.ReferenceIdeal.Run
public import proofs.«01_k».proof.Proof.Gen.Kernel
public import proofs.«01_k».proof.Proof.Gen.Kernel.Frame
public import proofs.«01_k».proof.Proof.Gen.KernelIdeal.Frame
public import Idealize.ShloMosaic.Lib.Quiescent

@[expose] public section

noncomputable section

namespace Cert.Retention.Final

open Idealize.ShloMosaic Idealize.SL.Sem Idealize.ShloMosaic.TcCoe

/-- What the precondition states of its operations. -/
theorem preFacts : Cert.Pre_finite.Facts where
  slices_S2x8192x10880_S2x8192x2048_0_0_0 := by decide
  bcast_S_S2x8192x2048 := by decide

/-- Where the precondition holds, the entries it reads are real numbers. -/
theorem fine_of_pre (z : Vec Ideal Cert.Pre_finite.S2x8192x10880 .f32)
    (h : @Cert.Pre_finite.fn preFacts Ideal _ z = fun _ => 1#1) : Fine z := by
  intro b s l hl
  have h1 := congrFun h (ix3 b s (⟨l.val, hl⟩ : Fin 2048))
  unfold Cert.Pre_finite.fn at h1
  dsimp only at h1
  pointwise [] at h1
  have h2 : FloatOps.absf (F := Ideal) (φ := .f32) (z (ix3 b s l)) < Ideal.ofBits .f32 0x7F800000#32 := by
    by_contra hn
    rw [decide_eq_false hn] at h1
    exact absurd h1 (by decide)
  have h3 : Ideal.ofBits .f32 0x7F800000#32 = (⊤ : EReal) := by
    simp [Ideal.ofBits, Ideal.ieee]
  rw [h3] at h2
  exact IsReal.of_abs_lt_top h2

theorem frame_kernel : Cert.quiescent_Kernel := fun m ρ _ => Cert.Kernel.Gen.frame m ρ

theorem frame_ideal : Cert.quiescent_KernelIdeal := fun m ρ _ => Cert.KernelIdeal.Gen.frame m ρ

theorem frame_ideal_pre : Cert.quiescent_KernelIdeal_pre_finite (hPre_finite := preFacts) :=
  fun m ρ _ => Cert.KernelIdeal.Gen.frame m ρ

theorem frame_reference : Cert.quiescent_ReferenceIdeal := fun m ρ _ =>
  (θ_run Cert.ReferenceIdeal.defs _ _).mono (fun r h => ⟨fun c => (h c).2.2,
      Idealize.ShloMosaic.sem_eq_zero_of_no_sems (by decide) r.2⟩)
    (Cert.ReferenceIdeal.Value.run (F := Ideal) m ρ)

theorem frame_reference_pre : Cert.quiescent_ReferenceIdeal_pre_finite (hPre_finite := preFacts) :=
  fun m ρ _ => frame_reference m ρ trivial

/-- The kernel's results and the reference's are the same functions of the same projection. -/
theorem algebraic : Cert.algebraic_KernelIdeal_ReferenceIdeal_pre_finite (hPre_finite := preFacts) := by
  intro m ρ m' ρ' hpre hagree
  refine ⟨fun c => Cert.KernelIdeal.Value.G7 m c, fun c => Cert.KernelIdeal.Value.G8 m c,
    Cert.KernelIdeal.Value.run (F := Ideal) m ρ, ?_⟩
  have hrun := Cert.Retention.RefRun.run_of_states (F := Ideal) m' ρ'
    (fun c => Ref.iter (m' ((c.tc : Thread Cert.ReferenceIdeal.nD Cert.ReferenceIdeal.τ).loc Cert.ReferenceIdeal.main_arg0)))
    (fun c => rfl) (fun c n => rfl)
  have hz : ∀ c, Fine (projOf m c) := fun c => fine_of_pre _ (hpre c)
  refine (θ_run _ _ _).mono (fun _ h c => ⟨(h c).1.trans ?_, (h c).2.1.trans ?_, (h c).2.2⟩) hrun
  · rw [hagree c]
    exact (Ref.result_eq _ (Ref.inv _ 64 (le_refl _))).trans (G7_eq m c (hz c)).symm
  · rw [hagree c]
    exact (Ref.final_eq _ (Ref.inv _ 64 (le_refl _))).trans (G8_eq m c (hz c)).symm

end Cert.Retention.Final

end
-- ==== Proof.Layer.lean ====
/-
  The layer's formulas, row by row: the modulated norm and the feed-forward part.
-/
module

public import Idealize.ShloMosaic.PureOps.Ideal
public import Idealize.ShloMosaic.Lib.Pointwise
public import Mathlib.Algebra.BigOperators.Fin

@[expose] public section

noncomputable section

namespace Cert.Layer

open Idealize.ShloMosaic
open scoped BigOperators

/-- One entry of a row: normalised by the row's root mean square, scaled by `g`, modulated. -/
def normed (x g sh sc : Fin 1024 → EReal) (k : Fin 1024) : EReal :=
  x k * Ideal.rsqrt (Ideal.div (∑ j, x j * x j) (Ideal.ofBits .f32 0x44800000#32) + Ideal.ofBits .f32 0x358637BD#32) * g k * (1 + sc k) + sh k

/-- One hidden unit: the silu of one product times another. -/
def hidden (h wa wb : Fin 1024 → EReal) : EReal :=
  (∑ k, h k * wa k) * Ideal.logistic (∑ k, h k * wa k) * ∑ k, h k * wb k

/-- What hidden unit `f` adds to column `n`. -/
def ffTerm (h : Fin 1024 → EReal) (wu : Fin 1024 → Fin 5632 → EReal) (wd : Fin 2816 → Fin 1024 → EReal) (n : Fin 1024) (f : Fin 2816) : EReal :=
  hidden h (fun k => wu k ⟨f.val, by omega⟩) (fun k => wu k ⟨2816 + f.val, by omega⟩) * wd f n

/-- One entry of the feed-forward part's result. -/
def ffn (x sh sc gate g : Fin 1024 → EReal) (wu : Fin 1024 → Fin 5632 → EReal) (wd : Fin 2816 → Fin 1024 → EReal) (n : Fin 1024) : EReal :=
  x n + Ideal.ofBits .f32 0x3F000000#32 * gate n * ∑ f, ffTerm (normed x g sh sc) wu wd n f

/-- A sum over 2816 hidden units, chunk by chunk. -/
theorem sum_chunks (G : Fin 2816 → EReal) :
    ∑ f, G f = ∑ j : Fin 11, ∑ i : Fin 256, G ⟨256 * j.val + i.val, by omega⟩ := by
  rw [← (finProdFinEquiv (m := 11) (n := 256)).sum_comp G, Fintype.sum_prod_type]
  refine Finset.sum_congr rfl fun j _ => Finset.sum_congr rfl fun i _ => congrArg G (Fin.ext ?_)
  show i.val + 256 * j.val = 256 * j.val + i.val
  omega

theorem sum_eleven (G : Fin 11 → EReal) :
    ∑ j, G j = G 0 + G 1 + G 2 + G 3 + G 4 + G 5 + G 6 + G 7 + G 8 + G 9 + G 10 := by
  simp only [Fin.sum_univ_castSucc, Fin.sum_univ_zero, zero_add]
  rfl

/-- The batch a row of all the prompt's rows is of. -/
def batch (p : Fin 16384) : Fin 2 := ⟨p.val / 8192, by omega⟩

/-- The feed-forward part's result, from its arguments. -/
def ffnAll (x : Vec Ideal ⟨2, ![16384, 1024]⟩ .f32) (sh sc gate : Vec Ideal ⟨3, ![2, 1, 1024]⟩ .f32) (g : Vec Ideal ⟨2, ![1, 1024]⟩ .f32)
    (wu : Vec Ideal ⟨2, ![1024, 5632]⟩ .f32) (wd : Vec Ideal ⟨2, ![2816, 1024]⟩ .f32) (p : Fin 16384) (n : Fin 1024) : EReal :=
  ffn (fun j => x (ix2 p j)) (fun j => sh (ix3 (batch p) 0 j)) (fun j => sc (ix3 (batch p) 0 j)) (fun j => gate (ix3 (batch p) 0 j))
    (fun j => g (ix2 0 j)) (fun k f => wu (ix2 k f)) (fun f n => wd (ix2 f n)) n

/-- The mixers' outputs, projected, gated and added up. -/
def merged (ro ca ao g0 g1 g2 : Fin 1024 → EReal) (wr wc wa : Fin 1024 → Fin 1024 → EReal) (k : Fin 1024) : EReal :=
  Ideal.logistic (g0 k) * ∑ j, ro j * wr j k + Ideal.logistic (g1 k) * ∑ j, ca j * wc j k + Ideal.logistic (g2 k) * ∑ j, ao j * wa j k

/-- One entry of the mixers' part's result. -/
def mixed (x gate h : Fin 1024 → EReal) (wo : Fin 1024 → Fin 1024 → EReal) (n : Fin 1024) : EReal :=
  x n + gate n * ∑ k, h k * wo k n

/-- The mixers' part's result, from its arguments. -/
def mixAll (x : Vec Ideal ⟨2, ![16384, 1024]⟩ .f32) (ro ca ao : Vec Ideal ⟨2, ![16384, 1024]⟩ .bf16) (z : Vec Ideal ⟨2, ![16384, 10880]⟩ .f32)
    (gate : Vec Ideal ⟨3, ![2, 1, 1024]⟩ .f32) (wr wc wa wo : Vec Ideal ⟨2, ![1024, 1024]⟩ .f32) (p : Fin 16384) (n : Fin 1024) : EReal :=
  mixed (fun j => x (ix2 p j)) (fun j => gate (ix3 (batch p) 0 j))
    (merged (fun j => ro (ix2 p j)) (fun j => ca (ix2 p j)) (fun j => ao (ix2 p j))
      (fun j => z (ix2 p ⟨6144 + j.val, by omega⟩)) (fun j => z (ix2 p ⟨7168 + j.val, by omega⟩)) (fun j => z (ix2 p ⟨8192 + j.val, by omega⟩))
      (fun j k => wr (ix2 j k)) (fun j k => wc (ix2 j k)) (fun j k => wa (ix2 j k)))
    (fun k n => wo (ix2 k n)) n

/-- The projection's 10824 columns in the order its 10880 are kept in: the third and the fourth group after the gates, 56 columns of
    zeros at the end. -/
def reorder (f : Fin 10824 → EReal) (l : Fin 10880) : EReal :=
  if h : l.val < 6144 then f ⟨l.val, by omega⟩
  else if h' : l.val < 9216 then f ⟨l.val + 1608, by omega⟩
  else if h'' : l.val < 10824 then f ⟨l.val - 3072, by omega⟩
  else 0

/-- Columns read group by group are in the new order. -/
theorem reorder_of (F : Fin 10880 → EReal) (f : Fin 10824 → EReal)
    (h0 : ∀ l : Fin 6144, F ⟨0 + l.val, by omega⟩ = f ⟨0 + l.val, by omega⟩)
    (h1 : ∀ l : Fin 3072, F ⟨6144 + l.val, by omega⟩ = f ⟨7752 + l.val, by omega⟩)
    (h2 : ∀ l : Fin 1536, F ⟨9216 + l.val, by omega⟩ = f ⟨6144 + l.val, by omega⟩)
    (h3 : ∀ l : Fin 72, F ⟨10752 + l.val, by omega⟩ = f ⟨7680 + l.val, by omega⟩)
    (h4 : ∀ l : Fin 56, F ⟨10824 + l.val, by omega⟩ = 0) (l : Fin 10880) : F l = reorder f l := by
  unfold reorder
  have hl := l.isLt
  split_ifs with h h' h''
  · exact (congrArg F (Fin.ext (by show l.val = 0 + (l.val - 0); omega))).trans ((h0 ⟨l.val - 0, by omega⟩).trans (congrArg f (Fin.ext (by show 0 + (l.val - 0) = l.val; omega))))
  · exact (congrArg F (Fin.ext (by show l.val = 6144 + (l.val - 6144); omega))).trans ((h1 ⟨l.val - 6144, by omega⟩).trans (congrArg f (Fin.ext (by show 7752 + (l.val - 6144) = l.val + 1608; omega))))
  · by_cases hk : l.val < 10752
    · exact (congrArg F (Fin.ext (by show l.val = 9216 + (l.val - 9216); omega))).trans ((h2 ⟨l.val - 9216, by omega⟩).trans (congrArg f (Fin.ext (by show 6144 + (l.val - 9216) = l.val - 3072; omega))))
    · exact (congrArg F (Fin.ext (by show l.val = 10752 + (l.val - 10752); omega))).trans ((h3 ⟨l.val - 10752, by omega⟩).trans (congrArg f (Fin.ext (by show 7680 + (l.val - 10752) = l.val - 3072; omega))))
  · exact (congrArg F (Fin.ext (by show l.val = 10824 + (l.val - 10824); omega))).trans (h4 ⟨l.val - 10824, by omega⟩)

/-- A product's columns are in the order its weights' columns are in. -/
theorem reorder_sum (h : Fin 1024 → EReal) (w : Fin 1024 → Fin 10824 → EReal) (l : Fin 10880) :
    ∑ k, h k * reorder (w k) l = reorder (fun n => ∑ k, h k * w k n) l := by
  unfold reorder
  split_ifs
  · rfl
  · rfl
  · rfl
  · simp only [mul_zero, Finset.sum_const_zero]

/-- The projection, from its arguments. -/
def projAll (x : Vec Ideal ⟨2, ![16384, 1024]⟩ .f32) (sh sc : Vec Ideal ⟨3, ![2, 1, 1024]⟩ .f32) (g : Vec Ideal ⟨2, ![1, 1024]⟩ .f32)
    (w : Vec Ideal ⟨2, ![1024, 10824]⟩ .f32) (p : Fin 16384) (l : Fin 10880) : EReal :=
  reorder (fun n => ∑ k, normed (fun j => x (ix2 p j)) (fun j => g (ix2 0 j)) (fun j => sh (ix3 (batch p) 0 j)) (fun j => sc (ix3 (batch p) 0 j)) k * w (ix2 k n)) l

end Cert.Layer

end
-- ==== Proof.Ffn.Tile.lean ====
/-
  One grid point of the feed-forward part: what each step of its body computes of a row.
-/
module

public import proofs.«01_k».proof.Proof.Layer
public import proofs.«01_k».proof.Proof.Gen.FfnIdeal.Skeleton
public import proofs.«01_k».proof.Proof.Gen.FfnIdeal
public import Idealize.ShloMosaic.Lib.Pointwise

@[expose] public section

noncomputable section

namespace Cert.Layer.Ffn

open Idealize.ShloMosaic
open Cert.FfnIdeal Cert.FfnIdeal.Gen
open scoped BigOperators

/-- The modulated norm of the point's rows. -/
theorem norm_apply (x : Vec Ideal S512x1024 .f32) (g : Vec Ideal S1x1024 .f32) (sh sc : Vec Ideal S1x1x1024 .f32) (p : Fin 512) (k : Fin 1024) :
    k0_pay3 (F := Ideal) x g sh sc (ix2 p k)
      = normed (fun j => x (ix2 p j)) (fun j => g (ix2 0 j)) (fun j => sh (ix3 0 0 j)) (fun j => sc (ix3 0 0 j)) k := by
  pointwise [k0_pay3]
  rfl

/-- A chunk of hidden units added to what the chunks before left. -/
def chunk (h : FVec Ideal S512x1024 .bf16) (wa wb : Vec Ideal S1024x256 .bf16) (wd : Vec Ideal S256x1024 .bf16) (acc : Vec Ideal S512x1024 .f32) : FVec Ideal S512x1024 .f32 :=
  k0_pay7 (F := Ideal) h wa wb wd acc

theorem chunk_apply (h : FVec Ideal S512x1024 .bf16) (wa wb : Vec Ideal S1024x256 .bf16) (wd : Vec Ideal S256x1024 .bf16) (acc : Vec Ideal S512x1024 .f32)
    (p : Fin 512) (n : Fin 1024) :
    chunk h wa wb wd acc (ix2 p n)
      = acc (ix2 p n) + ∑ f : Fin 256, hidden (fun k => h (ix2 p k)) (fun k => wa (ix2 k f)) (fun k => wb (ix2 k f)) * wd (ix2 f n) := by
  unfold chunk
  pointwise [k0_pay7]
  rfl

/-- The first chunk of hidden units. -/
def first (h : FVec Ideal S512x1024 .bf16) (wa wb : Vec Ideal S1024x256 .bf16) (wd : Vec Ideal S256x1024 .bf16) : FVec Ideal S512x1024 .f32 :=
  k0_pay6 (F := Ideal) (k0_pay8 (F := Ideal) h wa wb) (k0_pay9 (F := Ideal) wd)

theorem first_apply (h : FVec Ideal S512x1024 .bf16) (wa wb : Vec Ideal S1024x256 .bf16) (wd : Vec Ideal S256x1024 .bf16) (p : Fin 512) (n : Fin 1024) :
    first h wa wb wd (ix2 p n)
      = ∑ f : Fin 256, hidden (fun k => h (ix2 p k)) (fun k => wa (ix2 k f)) (fun k => wb (ix2 k f)) * wd (ix2 f n) := by
  unfold first
  pointwise [k0_pay6, k0_pay8, k0_pay9]
  rfl

theorem last_apply (x : Vec Ideal S512x1024 .f32) (gate : Vec Ideal S1x1x1024 .f32) (acc : Vec Ideal S512x1024 .f32) (p : Fin 512) (n : Fin 1024) :
    k0_pay2 (F := Ideal) x gate acc (ix2 p n) = x (ix2 p n) + Ideal.ofBits .f32 0x3F000000#32 * gate (ix3 0 0 n) * acc (ix2 p n) := by
  pointwise [k0_pay2]

end Cert.Layer.Ffn

end
-- ==== Proof.Ffn.Point.lean ====
/-
  What a grid point of the feed-forward part leaves in its block of the result.
-/
module

public import proofs.«01_k».proof.Proof.Ffn.Tile
public import proofs.«01_k».proof.Proof.Gen.FfnIdeal.Frame
public import Idealize.ShloMosaic.Lib.Pipeline.ReadBack

@[expose] public section

noncomputable section

namespace Cert.Layer.Ffn

open Idealize.ShloMosaic Idealize.ShloMosaic.TcCoe
open Cert.FfnIdeal Cert.FfnIdeal.Gen
open scoped BigOperators

/-- A load after the fill of the whole accumulator reads the fill. -/
theorem readCov_acc (v : View sig .tc .vmem S512x1024 .f32) (Z : Vec Ideal S512x1024 .f32)
    (inb : ∀ a, (![0, 0] : Fin 2 → ℕ) a + (![512, 1024] : Fin 2 → ℕ) a ≤ S512x1024.size a) (L : List (View.Piece (Elt Ideal) S512x1024 .f32)) (r : Rect S512x1024) :
    v.readCov (Val := Elt Ideal) (⟨Rect.unit ![0, 0] ![512, 1024] inb, Z⟩ :: L) r.toLoadRect = View.ld Z r :=
  View.readCov_fill v inb Z L r (fun a => match a with | ⟨0, _⟩ => rfl | ⟨1, _⟩ => rfl)

theorem ld_x (x : Vec Ideal S512x1024 .f32) {inb} : View.ld x (Rect.unit ![0, 0] ![512, 1024] inb) = x :=
  View.ld_unit_zero (S := S512x1024) (by funext a; match a with | ⟨0, _⟩ => rfl | ⟨1, _⟩ => rfl) inb x

theorem ld_g (x : Vec Ideal S1x1024 .f32) {inb} : View.ld x (Rect.unit ![0, 0] ![1, 1024] inb) = x :=
  View.ld_unit_zero (S := S1x1024) (by funext a; match a with | ⟨0, _⟩ => rfl | ⟨1, _⟩ => rfl) inb x

theorem ld_m (x : Vec Ideal S1x1x1024 .f32) {inb} : View.ld x (Rect.unit ![0, 0, 0] ![1, 1, 1024] inb) = x :=
  View.ld_unit_zero (S := S1x1x1024) (by funext a; match a with | ⟨0, _⟩ => rfl | ⟨1, _⟩ => rfl | ⟨2, _⟩ => rfl) inb x

/-- The block of the result, from the point's blocks. -/
def outArr (x0 : Vec Ideal S512x1024 .f32) (x1 : Vec Ideal S1x1x1024 .f32) (x2 : Vec Ideal S1x1x1024 .f32) (x3 : Vec Ideal S1x1x1024 .f32) (x4 : Vec Ideal S1x1024 .f32) (x5 : Vec Ideal S1024x5632 .bf16) (x6 : Vec Ideal S2816x1024 .bf16) :
    Vec Ideal S512x1024 .f32 := fun y =>
  ffn (fun j => x0 (ix2 (y 0) j)) (fun j => x1 (ix3 0 0 j)) (fun j => x2 (ix3 0 0 j)) (fun j => x3 (ix3 0 0 j)) (fun j => x4 (ix2 0 j))
    (fun k f => x5 (ix2 k f)) (fun f n => x6 (ix2 f n)) (y 1)

theorem ld_up (x : Vec Ideal S1024x5632 .bf16) {o : ℕ} (ho : o + 256 ≤ 5632) {inb} (k : Fin 1024) (f : Fin 256) :
    (View.ld x (Rect.unit ![0, o] ![1024, 256] inb) : Vec Ideal S1024x256 .bf16) (ix2 k f) = x (ix2 k ⟨o + f.val, by omega⟩) := by
  refine congrArg x (funext fun a => Fin.ext ?_)
  match a with
  | ⟨0, _⟩ => show 0 + 1 * k.val = k.val; omega
  | ⟨1, _⟩ => show o + 1 * f.val = o + f.val; omega

theorem ld_down (x : Vec Ideal S2816x1024 .bf16) {o : ℕ} (ho : o + 256 ≤ 2816) {inb} (f : Fin 256) (n : Fin 1024) :
    (View.ld x (Rect.unit ![o, 0] ![256, 1024] inb) : Vec Ideal S256x1024 .bf16) (ix2 f n) = x (ix2 ⟨o + f.val, by omega⟩ n) := by
  refine congrArg x (funext fun a => Fin.ext ?_)
  match a with
  | ⟨0, _⟩ => show o + 1 * f.val = o + f.val; omega
  | ⟨1, _⟩ => show 0 + 1 * n.val = n.val; omega

/-- What chunk `j` of the hidden units adds to an entry. -/
def part (h : FVec Ideal S512x1024 .bf16) (x5 : Vec Ideal S1024x5632 .bf16) (x6 : Vec Ideal S2816x1024 .bf16) (p : Fin 512) (n : Fin 1024) (j : Fin 11) : EReal :=
  ∑ i : Fin 256, ffTerm (fun k => h (ix2 p k)) (fun k f => x5 (ix2 k f)) (fun f n => x6 (ix2 f n)) n ⟨256 * j.val + i.val, by omega⟩

theorem part_eq (h : FVec Ideal S512x1024 .bf16) (x5 : Vec Ideal S1024x5632 .bf16) (x6 : Vec Ideal S2816x1024 .bf16) (p : Fin 512) (n : Fin 1024) (j : Fin 11)
    {oa ob od : ℕ} (ea : oa = 256 * j.val) (eb : ob = 2816 + 256 * j.val) (ed : od = 256 * j.val) {inba inbb inbd} :
    (∑ f : Fin 256, hidden (fun k => h (ix2 p k)) (fun k => (View.ld x5 (Rect.unit ![0, oa] ![1024, 256] inba) : Vec Ideal S1024x256 .bf16) (ix2 k f))
        (fun k => (View.ld x5 (Rect.unit ![0, ob] ![1024, 256] inbb) : Vec Ideal S1024x256 .bf16) (ix2 k f))
        * (View.ld x6 (Rect.unit ![od, 0] ![256, 1024] inbd) : Vec Ideal S256x1024 .bf16) (ix2 f n)) = part h x5 x6 p n j := by
  subst ea eb ed
  refine Finset.sum_congr rfl fun f _ => ?_
  have hj := j.isLt
  simp only [ld_up x5 (show 256 * j.val + 256 ≤ 5632 by omega), ld_up x5 (show 2816 + 256 * j.val + 256 ≤ 5632 by omega), ld_down x6 (show 256 * j.val + 256 ≤ 2816 by omega)]
  unfold ffTerm
  simp only [Nat.add_assoc]

theorem chunk_ld (h : FVec Ideal S512x1024 .bf16) (x5 : Vec Ideal S1024x5632 .bf16) (x6 : Vec Ideal S2816x1024 .bf16) (acc : Vec Ideal S512x1024 .f32) (p : Fin 512) (n : Fin 1024) (j : Fin 11)
    {oa ob od : ℕ} (ea : oa = 256 * j.val) (eb : ob = 2816 + 256 * j.val) (ed : od = 256 * j.val) {inba inbb inbd} :
    chunk h (View.ld x5 (Rect.unit ![0, oa] ![1024, 256] inba)) (View.ld x5 (Rect.unit ![0, ob] ![1024, 256] inbb)) (View.ld x6 (Rect.unit ![od, 0] ![256, 1024] inbd)) acc (ix2 p n)
      = acc (ix2 p n) + part h x5 x6 p n j :=
  (chunk_apply h _ _ _ acc p n).trans (congrArg _ (part_eq h x5 x6 p n j ea eb ed))

theorem first_ld (h : FVec Ideal S512x1024 .bf16) (x5 : Vec Ideal S1024x5632 .bf16) (x6 : Vec Ideal S2816x1024 .bf16) (p : Fin 512) (n : Fin 1024) {inba inbb inbd} :
    first h (View.ld x5 (Rect.unit ![0, 0] ![1024, 256] inba)) (View.ld x5 (Rect.unit ![0, 2816] ![1024, 256] inbb)) (View.ld x6 (Rect.unit ![0, 0] ![256, 1024] inbd)) (ix2 p n)
      = part h x5 x6 p n 0 :=
  (first_apply h _ _ _ p n).trans (part_eq h x5 x6 p n 0 rfl rfl rfl)

/-- The hidden units' total, chunk by chunk. -/
theorem parts (h : FVec Ideal S512x1024 .bf16) (x5 : Vec Ideal S1024x5632 .bf16) (x6 : Vec Ideal S2816x1024 .bf16) (p : Fin 512) (n : Fin 1024) :
    part h x5 x6 p n 0 + part h x5 x6 p n 1 + part h x5 x6 p n 2 + part h x5 x6 p n 3 + part h x5 x6 p n 4 + part h x5 x6 p n 5 + part h x5 x6 p n 6
        + part h x5 x6 p n 7 + part h x5 x6 p n 8 + part h x5 x6 p n 9 + part h x5 x6 p n 10
      = ∑ f, ffTerm (fun k => h (ix2 p k)) (fun k f => x5 (ix2 k f)) (fun f n => x6 (ix2 f n)) n f := by
  rw [sum_chunks, sum_eleven]
  rfl

/-- The accumulator when the last chunk is in. -/
def total (h : FVec Ideal S512x1024 .bf16) (x5 : Vec Ideal S1024x5632 .bf16) (x6 : Vec Ideal S2816x1024 .bf16) : FVec Ideal S512x1024 .f32 :=
    chunk h (View.ld x5 (Rect.unit ![0, 2560] ![1024, 256] inb_S1024x5632_S1024x256_0_2560)) (View.ld x5 (Rect.unit ![0, 5376] ![1024, 256] inb_S1024x5632_S1024x256_0_5376)) (View.ld x6 (Rect.unit ![2560, 0] ![256, 1024] inb_S2816x1024_S256x1024_2560_0))
      (chunk h (View.ld x5 (Rect.unit ![0, 2304] ![1024, 256] inb_S1024x5632_S1024x256_0_2304)) (View.ld x5 (Rect.unit ![0, 5120] ![1024, 256] inb_S1024x5632_S1024x256_0_5120)) (View.ld x6 (Rect.unit ![2304, 0] ![256, 1024] inb_S2816x1024_S256x1024_2304_0))
      (chunk h (View.ld x5 (Rect.unit ![0, 2048] ![1024, 256] inb_S1024x5632_S1024x256_0_2048)) (View.ld x5 (Rect.unit ![0, 4864] ![1024, 256] inb_S1024x5632_S1024x256_0_4864)) (View.ld x6 (Rect.unit ![2048, 0] ![256, 1024] inb_S2816x1024_S256x1024_2048_0))
      (chunk h (View.ld x5 (Rect.unit ![0, 1792] ![1024, 256] inb_S1024x5632_S1024x256_0_1792)) (View.ld x5 (Rect.unit ![0, 4608] ![1024, 256] inb_S1024x5632_S1024x256_0_4608)) (View.ld x6 (Rect.unit ![1792, 0] ![256, 1024] inb_S2816x1024_S256x1024_1792_0))
      (chunk h (View.ld x5 (Rect.unit ![0, 1536] ![1024, 256] inb_S1024x5632_S1024x256_0_1536)) (View.ld x5 (Rect.unit ![0, 4352] ![1024, 256] inb_S1024x5632_S1024x256_0_4352)) (View.ld x6 (Rect.unit ![1536, 0] ![256, 1024] inb_S2816x1024_S256x1024_1536_0))
      (chunk h (View.ld x5 (Rect.unit ![0, 1280] ![1024, 256] inb_S1024x5632_S1024x256_0_1280)) (View.ld x5 (Rect.unit ![0, 4096] ![1024, 256] inb_S1024x5632_S1024x256_0_4096)) (View.ld x6 (Rect.unit ![1280, 0] ![256, 1024] inb_S2816x1024_S256x1024_1280_0))
      (chunk h (View.ld x5 (Rect.unit ![0, 1024] ![1024, 256] inb_S1024x5632_S1024x256_0_1024)) (View.ld x5 (Rect.unit ![0, 3840] ![1024, 256] inb_S1024x5632_S1024x256_0_3840)) (View.ld x6 (Rect.unit ![1024, 0] ![256, 1024] inb_S2816x1024_S256x1024_1024_0))
      (chunk h (View.ld x5 (Rect.unit ![0, 768] ![1024, 256] inb_S1024x5632_S1024x256_0_768)) (View.ld x5 (Rect.unit ![0, 3584] ![1024, 256] inb_S1024x5632_S1024x256_0_3584)) (View.ld x6 (Rect.unit ![768, 0] ![256, 1024] inb_S2816x1024_S256x1024_768_0))
      (chunk h (View.ld x5 (Rect.unit ![0, 512] ![1024, 256] inb_S1024x5632_S1024x256_0_512)) (View.ld x5 (Rect.unit ![0, 3328] ![1024, 256] inb_S1024x5632_S1024x256_0_3328)) (View.ld x6 (Rect.unit ![512, 0] ![256, 1024] inb_S2816x1024_S256x1024_512_0))
      (chunk h (View.ld x5 (Rect.unit ![0, 256] ![1024, 256] inb_S1024x5632_S1024x256_0_256)) (View.ld x5 (Rect.unit ![0, 3072] ![1024, 256] inb_S1024x5632_S1024x256_0_3072)) (View.ld x6 (Rect.unit ![256, 0] ![256, 1024] inb_S2816x1024_S256x1024_256_0))
      (first h (View.ld x5 (Rect.unit ![0, 0] ![1024, 256] inb_S1024x5632_S1024x256_0_0)) (View.ld x5 (Rect.unit ![0, 2816] ![1024, 256] inb_S1024x5632_S1024x256_0_2816)) (View.ld x6 (Rect.unit ![0, 0] ![256, 1024] inb_S2816x1024_S256x1024_0_0))))))))))))

theorem total_apply (h : FVec Ideal S512x1024 .bf16) (x5 : Vec Ideal S1024x5632 .bf16) (x6 : Vec Ideal S2816x1024 .bf16) (p : Fin 512) (n : Fin 1024) :
    total h x5 x6 (ix2 p n) = ∑ f, ffTerm (fun k => h (ix2 p k)) (fun k f => x5 (ix2 k f)) (fun f n => x6 (ix2 f n)) n f := by
  unfold total
  rw [chunk_ld (j := 10) (oa := 2560) (ob := 5376) (od := 2560) _ _ _ _ _ _ rfl rfl rfl, chunk_ld (j := 9) (oa := 2304) (ob := 5120) (od := 2304) _ _ _ _ _ _ rfl rfl rfl, chunk_ld (j := 8) (oa := 2048) (ob := 4864) (od := 2048) _ _ _ _ _ _ rfl rfl rfl, chunk_ld (j := 7) (oa := 1792) (ob := 4608) (od := 1792) _ _ _ _ _ _ rfl rfl rfl, chunk_ld (j := 6) (oa := 1536) (ob := 4352) (od := 1536) _ _ _ _ _ _ rfl rfl rfl, chunk_ld (j := 5) (oa := 1280) (ob := 4096) (od := 1280) _ _ _ _ _ _ rfl rfl rfl, chunk_ld (j := 4) (oa := 1024) (ob := 3840) (od := 1024) _ _ _ _ _ _ rfl rfl rfl, chunk_ld (j := 3) (oa := 768) (ob := 3584) (od := 768) _ _ _ _ _ _ rfl rfl rfl, chunk_ld (j := 2) (oa := 512) (ob := 3328) (od := 512) _ _ _ _ _ _ rfl rfl rfl, chunk_ld (j := 1) (oa := 256) (ob := 3072) (od := 256) _ _ _ _ _ _ rfl rfl rfl, first_ld, parts]

theorem stored_eq (x0 : Vec Ideal S512x1024 .f32) (x1 x2 x3 : Vec Ideal S1x1x1024 .f32) (x4 : Vec Ideal S1x1024 .f32) (x5 : Vec Ideal S1024x5632 .bf16) (x6 : Vec Ideal S2816x1024 .bf16) :
    k0_pay2 (F := Ideal) x0 x3 (total (k0_pay3 (F := Ideal) x0 x4 x1 x2) x5 x6) = outArr x0 x1 x2 x3 x4 x5 x6 := by
  funext y
  obtain ⟨p, n, rfl⟩ : ∃ (p : Fin 512) (n : Fin 1024), y = ix2 p n := ⟨y 0, y 1, eq_ix2 y⟩
  rw [last_apply, total_apply, funext fun k => norm_apply x0 x4 x1 x2 p k]
  rfl

set_option maxHeartbeats 4000000 in
/-- The block of the result a point stores. -/
theorem out_eq (c : Dev nD) (i : grid0.Coords) (arg1 : Memref sig .tc .vmem S512x1024 .f32) (harg1 : arg1.IsWhole) (arg2 : Memref sig .tc .vmem S1x1x1024 .f32) (harg2 : arg2.IsWhole) (arg3 : Memref sig .tc .vmem S1x1x1024 .f32) (harg3 : arg3.IsWhole) (arg4 : Memref sig .tc .vmem S1x1x1024 .f32) (harg4 : arg4.IsWhole) (arg5 : Memref sig .tc .vmem S1x1024 .f32) (harg5 : arg5.IsWhole) (arg6 : Memref sig .tc .vmem S1024x5632 .bf16) (harg6 : arg6.IsWhole) (arg7 : Memref sig .tc .vmem S2816x1024 .bf16) (harg7 : arg7.IsWhole) (arg8 : Memref sig .tc .vmem S512x1024 .f32) (harg8 : arg8.IsWhole) (arg9 : Memref sig .tc .vmem S512x1024 .f32) (harg9 : arg9.IsWhole) (x0 : Vec Ideal S512x1024 .f32) (x1 : Vec Ideal S1x1x1024 .f32) (x2 : Vec Ideal S1x1x1024 .f32) (x3 : Vec Ideal S1x1x1024 .f32) (x4 : Vec Ideal S1x1024 .f32) (x5 : Vec Ideal S1024x5632 .bf16) (x6 : Vec Ideal S2816x1024 .bf16):
    out0_A_7 c i arg1 harg1 arg2 harg2 arg3 harg3 arg4 harg4 arg5 harg5 arg6 harg6 arg7 harg7 arg8 harg8 arg9 harg9 x0 x1 x2 x3 x4 x5 x6 = outArr x0 x1 x2 x3 x4 x5 x6 := by
  unfold out0_A_7
  rw [View.read_writes_eq_canon _ _ _ (cover0_A_7 c i arg1 harg1 arg2 harg2 arg3 harg3 arg4 harg4 arg5 harg5 arg6 harg6 arg7 harg7 arg8 harg8 arg9 harg9 x0 x1 x2 x3 x4 x5 x6)]
  funext y
  refine View.canon_apply_of_pieces _ _ (View.PiecesOf.mem ?_) y (cover0_A_7 c i arg1 harg1 arg2 harg2 arg3 harg3 arg4 harg4 arg5 harg5 arg6 harg6 arg7 harg7 arg8 harg8 arg9 harg9 x0 x1 x2 x3 x4 x5 x6 y)
  unfold kernelRun0_A
  dsimp only
  sl_unfold_words
  simp (disch := decide) only [View.readAt_eq_ld, harg1.read_unread, harg2.read_unread, harg3.read_unread, harg4.read_unread, harg5.read_unread, harg6.read_unread, harg7.read_unread, harg9.read_unread,
    ↓View.readCov_skip, ↓readCov_acc, ld_x, ld_g, ld_m]
  refine ⟨fun z => ?_, trivial⟩
  have e := congrFun (stored_eq x0 x1 x2 x3 x4 x5 x6) z
  have ez : (Rect.unit ![0, 0] ![512, 1024] inb_S512x1024_S512x1024_0_0 : Rect S512x1024).emb z = z := by
    refine funext fun a => Fin.ext ?_
    match a with
    | ⟨0, _⟩ => show 0 + 1 * (z 0).val = (z 0).val; omega
    | ⟨1, _⟩ => show 0 + 1 * (z 1).val = (z 1).val; omega
  exact e.trans (congrArg (outArr x0 x1 x2 x3 x4 x5 x6) ez.symm)

end Cert.Layer.Ffn

end
-- ==== Proof.Ffn.Fold.lean ====
/-
  The feed-forward kernel's result: grid point `t` makes rows `512 t + p` of it, from the same rows of the input and the
  modulation vectors of the batch those rows are of.
-/
module

public import proofs.«01_k».proof.Proof.Ffn.Point
public import proofs.«01_k».proof.Proof.Gen.FfnIdeal.Value

@[expose] public section

noncomputable section

namespace Cert.Layer.Ffn

open Idealize.ShloMosaic Idealize.ShloMosaic.TcCoe
open Cert.FfnIdeal Cert.FfnIdeal.Gen

variable (m : (ℓ : Loc nD τ sig) → Buf (Elt Ideal) ℓ) (c : Dev nD)

def xArg : Vec Ideal S16384x1024 .f32 := m ((c : Thread nD τ).loc main_arg0)
def shArg : Vec Ideal S2x1x1024 .f32 := m ((c : Thread nD τ).loc main_arg1)
def scArg : Vec Ideal S2x1x1024 .f32 := m ((c : Thread nD τ).loc main_arg2)
def gateArg : Vec Ideal S2x1x1024 .f32 := m ((c : Thread nD τ).loc main_arg3)
def gArg : Vec Ideal S1x1024 .f32 := m ((c : Thread nD τ).loc main_arg4)
def upArg : Vec Ideal S1024x5632 .f32 := m ((c : Thread nD τ).loc main_arg5)
def downArg : Vec Ideal S2816x1024 .f32 := m ((c : Thread nD τ).loc main_arg6)

/-- The kernel's result, as a function of its arguments. -/
def kernelOut : Vec Ideal S16384x1024 .f32 := fun i =>
  ffnAll (xArg m c) (shArg m c) (scArg m c) (gateArg m c) (gArg m c) (upArg m c) (downArg m c) (i 0) (i 1)

theorem V_up : (V m c main_v0 : Vec Ideal S1024x5632 .bf16) = upArg m c := by
  dsimp only [V, List.flatten_cons, List.flatten_nil, List.cons_append, List.nil_append, List.append_nil]
  after_results
  rfl

theorem V_down : (V m c main_v1 : Vec Ideal S2816x1024 .bf16) = downArg m c := by
  dsimp only [V, List.flatten_cons, List.flatten_nil, List.cons_append, List.nil_append, List.append_nil]
  after_results
  rfl

/-- Row `p` of block `t`. -/
def row (t : Fin cfg0.N) (p : Fin 512) : Fin 16384 :=
  ⟨512 * t.val + p.val, by have : t.val < 32 := lt_of_lt_of_eq t.isLt N_0; omega⟩

theorem batch_row (t : Fin cfg0.N) (p : Fin 512) : (batch (row t p)).val = t.val / 16 := by
  show (512 * t.val + p.val) / 8192 = t.val / 16
  omega

theorem index0 : ∀ t : Fin cfg0.N, win0_0.index t (0 : Fin 2) = t.val ∧ win0_0.index t (1 : Fin 2) = 0 :=
  (by decide +kernel : ∀ t : Fin grid0.N, _)
theorem index1 : ∀ t : Fin cfg0.N, win0_1.index t (0 : Fin 3) = t.val / 16 ∧ win0_1.index t (1 : Fin 3) = 0 ∧ win0_1.index t (2 : Fin 3) = 0 :=
  (by decide +kernel : ∀ t : Fin grid0.N, _)
theorem index2 : ∀ t : Fin cfg0.N, win0_2.index t (0 : Fin 3) = t.val / 16 ∧ win0_2.index t (1 : Fin 3) = 0 ∧ win0_2.index t (2 : Fin 3) = 0 :=
  (by decide +kernel : ∀ t : Fin grid0.N, _)
theorem index3 : ∀ t : Fin cfg0.N, win0_3.index t (0 : Fin 3) = t.val / 16 ∧ win0_3.index t (1 : Fin 3) = 0 ∧ win0_3.index t (2 : Fin 3) = 0 :=
  (by decide +kernel : ∀ t : Fin grid0.N, _)
theorem index4 : ∀ t : Fin cfg0.N, win0_4.index t (0 : Fin 2) = 0 ∧ win0_4.index t (1 : Fin 2) = 0 :=
  (by decide +kernel : ∀ t : Fin grid0.N, _)
theorem index5 : ∀ t : Fin cfg0.N, win0_5.index t (0 : Fin 2) = 0 ∧ win0_5.index t (1 : Fin 2) = 0 :=
  (by decide +kernel : ∀ t : Fin grid0.N, _)
theorem index6 : ∀ t : Fin cfg0.N, win0_6.index t (0 : Fin 2) = 0 ∧ win0_6.index t (1 : Fin 2) = 0 :=
  (by decide +kernel : ∀ t : Fin grid0.N, _)
theorem index7 : ∀ t : Fin cfg0.N, win0_7.index t (0 : Fin 2) = t.val ∧ win0_7.index t (1 : Fin 2) = 0 :=
  (by decide +kernel : ∀ t : Fin grid0.N, _)

theorem x_apply (t : Fin cfg0.N) (p : Fin 512) (j : Fin 1024) : (iblk m c 0 t : Vec Ideal S512x1024 .f32) (ix2 p j) = xArg m c (ix2 (row t p) j) := by
  obtain ⟨e0, e1⟩ := index0 t
  refine (congrArg (V m c main_arg0 : Vec Ideal S16384x1024 .f32) (funext fun a => Fin.ext ?_)).trans (congrFun (V_main_arg0 m c) _)
  match a with
  | ⟨0, _⟩ => show win0_0.index t (0 : Fin 2) * 512 + 1 * p.val = 512 * t.val + p.val; omega
  | ⟨1, _⟩ => show win0_0.index t (1 : Fin 2) * 1024 + 1 * j.val = j.val; omega

theorem sh_apply (t : Fin cfg0.N) (p : Fin 512) (j : Fin 1024) :
    (iblk m c 1 t : Vec Ideal S1x1x1024 .f32) (ix3 0 0 j) = shArg m c (ix3 (batch (row t p)) 0 j) := by
  obtain ⟨e0, e1, e2⟩ := index1 t
  have eb := batch_row t p
  refine (congrArg (V m c main_arg1 : Vec Ideal S2x1x1024 .f32) (funext fun a => Fin.ext ?_)).trans (congrFun (V_main_arg1 m c) _)
  match a with
  | ⟨0, _⟩ => show win0_1.index t (0 : Fin 3) * 1 + 1 * 0 = (batch (row t p)).val; omega
  | ⟨1, _⟩ => show win0_1.index t (1 : Fin 3) * 1 + 1 * 0 = 0; omega
  | ⟨2, _⟩ => show win0_1.index t (2 : Fin 3) * 1024 + 1 * j.val = j.val; omega

theorem sc_apply (t : Fin cfg0.N) (p : Fin 512) (j : Fin 1024) :
    (iblk m c 2 t : Vec Ideal S1x1x1024 .f32) (ix3 0 0 j) = scArg m c (ix3 (batch (row t p)) 0 j) := by
  obtain ⟨e0, e1, e2⟩ := index2 t
  have eb := batch_row t p
  refine (congrArg (V m c main_arg2 : Vec Ideal S2x1x1024 .f32) (funext fun a => Fin.ext ?_)).trans (congrFun (V_main_arg2 m c) _)
  match a with
  | ⟨0, _⟩ => show win0_2.index t (0 : Fin 3) * 1 + 1 * 0 = (batch (row t p)).val; omega
  | ⟨1, _⟩ => show win0_2.index t (1 : Fin 3) * 1 + 1 * 0 = 0; omega
  | ⟨2, _⟩ => show win0_2.index t (2 : Fin 3) * 1024 + 1 * j.val = j.val; omega

theorem gate_apply (t : Fin cfg0.N) (p : Fin 512) (j : Fin 1024) :
    (iblk m c 3 t : Vec Ideal S1x1x1024 .f32) (ix3 0 0 j) = gateArg m c (ix3 (batch (row t p)) 0 j) := by
  obtain ⟨e0, e1, e2⟩ := index3 t
  have eb := batch_row t p
  refine (congrArg (V m c main_arg3 : Vec Ideal S2x1x1024 .f32) (funext fun a => Fin.ext ?_)).trans (congrFun (V_main_arg3 m c) _)
  match a with
  | ⟨0, _⟩ => show win0_3.index t (0 : Fin 3) * 1 + 1 * 0 = (batch (row t p)).val; omega
  | ⟨1, _⟩ => show win0_3.index t (1 : Fin 3) * 1 + 1 * 0 = 0; omega
  | ⟨2, _⟩ => show win0_3.index t (2 : Fin 3) * 1024 + 1 * j.val = j.val; omega

theorem g_apply (t : Fin cfg0.N) (j : Fin 1024) : (iblk m c 4 t : Vec Ideal S1x1024 .f32) (ix2 0 j) = gArg m c (ix2 0 j) := by
  obtain ⟨e0, e1⟩ := index4 t
  refine (congrArg (V m c main_arg4 : Vec Ideal S1x1024 .f32) (funext fun a => Fin.ext ?_)).trans (congrFun (V_main_arg4 m c) _)
  match a with
  | ⟨0, _⟩ => show win0_4.index t (0 : Fin 2) * 1 + 1 * 0 = 0; omega
  | ⟨1, _⟩ => show win0_4.index t (1 : Fin 2) * 1024 + 1 * j.val = j.val; omega

theorem up_apply (t : Fin cfg0.N) (k : Fin 1024) (f : Fin 5632) : (iblk m c 5 t : Vec Ideal S1024x5632 .bf16) (ix2 k f) = upArg m c (ix2 k f) := by
  obtain ⟨e0, e1⟩ := index5 t
  refine (congrArg (V m c main_v0 : Vec Ideal S1024x5632 .bf16) (funext fun a => Fin.ext ?_)).trans (congrFun (V_up m c) _)
  match a with
  | ⟨0, _⟩ => show win0_5.index t (0 : Fin 2) * 1024 + 1 * k.val = k.val; omega
  | ⟨1, _⟩ => show win0_5.index t (1 : Fin 2) * 5632 + 1 * f.val = f.val; omega

theorem down_apply (t : Fin cfg0.N) (f : Fin 2816) (n : Fin 1024) : (iblk m c 6 t : Vec Ideal S2816x1024 .bf16) (ix2 f n) = downArg m c (ix2 f n) := by
  obtain ⟨e0, e1⟩ := index6 t
  refine (congrArg (V m c main_v1 : Vec Ideal S2816x1024 .bf16) (funext fun a => Fin.ext ?_)).trans (congrFun (V_down m c) _)
  match a with
  | ⟨0, _⟩ => show win0_6.index t (0 : Fin 2) * 2816 + 1 * f.val = f.val; omega
  | ⟨1, _⟩ => show win0_6.index t (1 : Fin 2) * 1024 + 1 * n.val = n.val; omega

/-- What a point stores is its rows of the result. -/
theorem outArr_apply (t : Fin cfg0.N) (p : Fin 512) (n : Fin 1024) :
    outArr (iblk m c 0 t) (iblk m c 1 t) (iblk m c 2 t) (iblk m c 3 t) (iblk m c 4 t) (iblk m c 5 t) (iblk m c 6 t) (ix2 p n)
      = kernelOut m c (ix2 (row t p) n) := by
  show ffn (fun j => (iblk m c 0 t : Vec Ideal S512x1024 .f32) (ix2 p j)) (fun j => (iblk m c 1 t : Vec Ideal S1x1x1024 .f32) (ix3 0 0 j))
      (fun j => (iblk m c 2 t : Vec Ideal S1x1x1024 .f32) (ix3 0 0 j)) (fun j => (iblk m c 3 t : Vec Ideal S1x1x1024 .f32) (ix3 0 0 j))
      (fun j => (iblk m c 4 t : Vec Ideal S1x1024 .f32) (ix2 0 j)) (fun k f => (iblk m c 5 t : Vec Ideal S1024x5632 .bf16) (ix2 k f))
      (fun f n => (iblk m c 6 t : Vec Ideal S2816x1024 .bf16) (ix2 f n)) n
    = ffnAll (xArg m c) (shArg m c) (scArg m c) (gateArg m c) (gArg m c) (upArg m c) (downArg m c) (row t p) n
  simp only [x_apply m c t p, sh_apply m c t p, sc_apply m c t p, gate_apply m c t p, g_apply m c t, up_apply m c t, down_apply m c t]
  rfl

theorem flushed_eq (t : Fin cfg0.N) :
    (dats m 0 c).flushed 7 t = ((cfg0.win 7).blk t).view.read (Elt Ideal) (kernelOut m c) := by
  rw [Value.flushed7_A, out_eq]
  funext y
  obtain ⟨p, n, hy⟩ : ∃ (p : Fin 512) (n : Fin 1024), (cfg0.win 7).xinj (grid0.coords t) y = ix2 p n :=
    ⟨_, _, eq_ix2 (n0 := 512) (n1 := 1024) _⟩
  show outArr _ _ _ _ _ _ _ ((cfg0.win 7).xinj (grid0.coords t) y) = kernelOut m c (((cfg0.win 7).blk t).view.emb y)
  rw [hy, outArr_apply]
  obtain ⟨e0, e1⟩ := index7 t
  have h0 : (y 0).val = p.val := congrArg Fin.val (congrFun hy 0)
  have h1 : (y 1).val = n.val := congrArg Fin.val (congrFun hy 1)
  refine congrArg (kernelOut m c) (funext fun a => Fin.ext ?_)
  match a with
  | ⟨0, _⟩ => show 512 * t.val + p.val = win0_7.index t (0 : Fin 2) * 512 + 1 * (y 0).val; omega
  | ⟨1, _⟩ => show n.val = win0_7.index t (1 : Fin 2) * 1024 + 1 * (y 1).val; omega

theorem cover (i : S16384x1024.Idx) : ∃ t : Fin cfg0.N, (cfg0.win 7).flush t = true ∧ i ∈ ((cfg0.win 7).blk t).view.set := by
  have h0 : (i 0).val < 16384 := (i 0).isLt
  have h1 : (i 1).val < 1024 := (i 1).isLt
  obtain ⟨t, et⟩ : ∃ t : Fin cfg0.N, t.val = (i 0).val / 512 := ⟨⟨_, lt_of_lt_of_eq (show (i 0).val / 512 < 32 by omega) N_0.symm⟩, rfl⟩
  refine ⟨t, flush0_7 t, ?_⟩
  obtain ⟨e0, e1⟩ := index7 t
  show i ∈ ((View.whole main_v2).slice (win0_7.rect t)).set
  rw [View.set_slice_whole, Rect.mem_set_unit]
  intro a
  match a with
  | ⟨0, _⟩ =>
    show win0_7.index t (0 : Fin 2) * 512 ≤ (i 0).val ∧ (i 0).val < win0_7.index t (0 : Fin 2) * 512 + 512
    rw [e0]; omega
  | ⟨1, _⟩ =>
    show win0_7.index t (1 : Fin 2) * 1024 ≤ (i 1).val ∧ (i 1).val < win0_7.index t (1 : Fin 2) * 1024 + 1024
    rw [e1]; omega

/-- The kernel's result. -/
theorem arr_eq : (dats m 0 c).arrAt 7 cfg0.N = kernelOut m c :=
  (dats m 0 c).arrAt_eq_of_cover 7 _ (fun t _ => flushed_eq m c t) cover

end Cert.Layer.Ffn

end
-- ==== Proof.Ffn.Ref.lean ====
/-
  The feed-forward reference's result, read at an index.
-/
module

public import proofs.«01_k».proof.Proof.Layer
public import proofs.«01_k».proof.Proof.Gen.FfnRefIdeal.Read
public import Idealize.ShloMosaic.Lib.Pointwise

@[expose] public section

noncomputable section

namespace Cert.Layer.FfnRef

open Idealize.ShloMosaic Idealize.ShloMosaic.TcCoe
open Cert.FfnRefIdeal Cert.FfnRefIdeal.Gen Cert.FfnRefIdeal.Read
open scoped BigOperators

variable (x : Vec Ideal S16384x1024 .f32) (sh sc gate : Vec Ideal S2x1x1024 .f32) (g : Vec Ideal S1x1024 .f32)
  (wu : Vec Ideal S1024x5632 .f32) (wd : Vec Ideal S2816x1024 .f32)

/-- The row of position `t` of batch `b`. -/
def rowOf (b : Fin 2) (t : Fin 8192) : Fin 16384 := ⟨8192 * b.val + t.val, by omega⟩

theorem x_apply (b : Fin 2) (t : Fin 8192) (k : Fin 1024) : val_main_v0 (F := Ideal) x (ix3 b t k) = x (ix2 (rowOf b t) k) := by
  rw [val_main_v0_apply]
  refine congrArg x (funext fun a => Fin.ext ?_)
  match a with
  | ⟨0, _⟩ => show ((b.val * 8192 + t.val) * 1024 + k.val) / 1024 = 8192 * b.val + t.val; omega
  | ⟨1, _⟩ => show ((b.val * 8192 + t.val) * 1024 + k.val) % 1024 = k.val; omega

theorem g_apply (k : Fin 1024) : val_main_v3 (F := Ideal) g (ix1 k) = g (ix2 0 k) := by
  rw [val_main_v3_apply]
  refine congrArg g (funext fun a => Fin.ext ?_)
  match a with
  | ⟨0, _⟩ => rfl
  | ⟨1, _⟩ => show k.val % 1024 = k.val; omega

theorem norm_apply (b : Fin 2) (t : Fin 8192) (k : Fin 1024) :
    val_main_v22 (F := Ideal) x sh sc g (ix3 b t k)
      = normed (fun j => x (ix2 (rowOf b t) j)) (fun j => g (ix2 0 j)) (fun j => sh (ix3 b 0 j)) (fun j => sc (ix3 b 0 j)) k := by
  have hx := x_apply x b t
  have hg := g_apply g
  unfold val_main_v22 val_main_v20 val_main_v16 val_main_v15 val_main_v14 val_main_v13 val_main_v12 val_main_v11 val_main_v10 val_main_v8 val_main_v6 val_main_v5 val_main_v4
  generalize val_main_v0 (F := Ideal) x = X at hx ⊢
  generalize val_main_v3 (F := Ideal) g = G at hg ⊢
  pointwise [val_main_v21, val_main_v19, val_main_v18, val_main_v17, val_main_cst_3, val_main_v9, val_main_cst_2, val_main_v7, val_main_cst_1, val_main_cst_0]
  simp only [hx, hg]
  rfl

theorem hidden_apply (b : Fin 2) (t : Fin 8192) (f : Fin 2816) :
    val_main_v27 (F := Ideal) x sh sc g wu (ix3 b t f)
      = hidden (normed (fun j => x (ix2 (rowOf b t) j)) (fun j => g (ix2 0 j)) (fun j => sh (ix3 b 0 j)) (fun j => sc (ix3 b 0 j)))
        (fun k => wu (ix2 k ⟨f.val, by omega⟩)) (fun k => wu (ix2 k ⟨2816 + f.val, by omega⟩)) := by
  have hn := norm_apply x sh sc g b t
  unfold val_main_v27 val_main_v26 val_main_call0_v5 val_main_call0_v3 val_main_call0_v1 val_main_call0_v0 val_main_v25 val_main_v24 val_main_v23
  generalize val_main_v22 (F := Ideal) x sh sc g = N at hn ⊢
  pointwise [val_main_call0_v4, val_main_call0_v2, val_main_call0_cst, val_main_call0_cst_0]
  simp only [hn]
  rfl

theorem result_apply (b : Fin 2) (t : Fin 8192) (n : Fin 1024) :
    val_main_v31 (F := Ideal) x sh sc gate g wu wd (ix3 b t n)
      = ffn (fun j => x (ix2 (rowOf b t) j)) (fun j => sh (ix3 b 0 j)) (fun j => sc (ix3 b 0 j)) (fun j => gate (ix3 b 0 j)) (fun j => g (ix2 0 j))
        (fun k f => wu (ix2 k f)) (fun f n => wd (ix2 f n)) n := by
  have hx := x_apply x b t
  have hh := hidden_apply x sh sc g wu b t
  unfold val_main_v31 val_main_v30 val_main_v28
  generalize val_main_v0 (F := Ideal) x = X at hx ⊢
  generalize val_main_v27 (F := Ideal) x sh sc g wu = H at hh ⊢
  pointwise [val_main_v29, val_main_v2, val_main_v1, val_main_cst]
  simp only [hx, hh]
  rfl

/-- The reference's result. -/
theorem ref_eq : val_main_v32 (F := Ideal) x sh sc gate g wu wd = fun i => ffnAll x sh sc gate g wu wd (i 0) (i 1) := by
  funext i
  obtain ⟨p, n, rfl⟩ : ∃ (p : Fin 16384) (n : Fin 1024), i = ix2 p n := ⟨i 0, i 1, eq_ix2 i⟩
  rw [val_main_v32_apply]
  have e : idx_main_v32 (ix2 p n) = ix3 (batch p) (⟨p.val % 8192, by omega⟩ : Fin 8192) n := by
    funext a
    refine Fin.ext ?_
    match a with
    | ⟨0, _⟩ => show (p.val * 1024 + n.val) / 8388608 = p.val / 8192; omega
    | ⟨1, _⟩ => show (p.val * 1024 + n.val) / 1024 % 8192 = p.val % 8192; omega
    | ⟨2, _⟩ => show (p.val * 1024 + n.val) % 1024 = n.val; omega
  rw [e, result_apply]
  have er : rowOf (batch p) ⟨p.val % 8192, by omega⟩ = p := Fin.ext (by show 8192 * (p.val / 8192) + p.val % 8192 = p.val; omega)
  rw [er]
  rfl

end Cert.Layer.FfnRef

end
-- ==== Proof.Ffn.Claims.lean ====
/-
  The feed-forward part's claims.
-/
module

public import proofs.«01_k».proof.Defs
public import proofs.«01_k».proof.Proof.Ffn.Fold
public import proofs.«01_k».proof.Proof.Ffn.Ref
public import proofs.«01_k».proof.Proof.Gen.Ffn
public import proofs.«01_k».proof.Proof.Gen.Ffn.Frame
public import proofs.«01_k».proof.Proof.Gen.FfnIdeal
public import proofs.«01_k».proof.Proof.Gen.FfnRefIdeal

@[expose] public section

noncomputable section

namespace Cert.Layer.Ffn

open Idealize.ShloMosaic Idealize.ShloMosaic.TcCoe
open Idealize.SL.Sem

theorem frame_kernel : Cert.quiescent_Ffn := fun m ρ _ => Cert.Ffn.Gen.frame m ρ

theorem frame_ideal : Cert.quiescent_FfnIdeal := fun m ρ _ => Cert.FfnIdeal.Gen.frame m ρ

theorem frame_reference : Cert.quiescent_FfnRefIdeal := fun m ρ _ =>
  (θ_run Cert.FfnRefIdeal.defs _ _).mono (fun r h => ⟨fun c => (h c).2,
      Idealize.ShloMosaic.sem_eq_zero_of_no_sems (by decide) r.2⟩)
    (Cert.FfnRefIdeal.Value.run (F := Ideal) m ρ)

/-- The kernel's result and the reference's are the same function of the same arguments. -/
theorem algebraic : Cert.algebraic_FfnIdeal_FfnRefIdeal := by
  intro m ρ m' ρ' _ hagree
  refine ⟨fun c => kernelOut m c, (θ_run _ _ _).mono (fun _ h c => ⟨(h c).1.trans (arr_eq m c), (h c).2⟩) (Cert.FfnIdeal.Value.run_blocks (F := Ideal) m ρ), ?_⟩
  refine (θ_run _ _ _).mono (fun _ h c => ⟨(h c).1.trans ?_, (h c).2⟩) (Cert.FfnRefIdeal.Value.run (F := Ideal) m' ρ')
  obtain ⟨h0, h1, h2, h3, h4, h5, h6⟩ := hagree c
  rw [Cert.FfnRefIdeal.Read.val_main_v32_eq, h0, h1, h2, h3, h4, h5, h6]
  exact FfnRef.ref_eq _ _ _ _ _ _ _

end Cert.Layer.Ffn

end
-- ==== Proof.Inproj.Point.lean ====
/-
  What a grid point of the projection leaves in its block of the result and in the scratch.
-/
module

public import proofs.«01_k».proof.Proof.Layer
public import proofs.«01_k».proof.Proof.Gen.InprojIdeal.Frame
public import Idealize.ShloMosaic.Lib.Pipeline.ReadBack
public import Idealize.ShloMosaic.Lib.Pointwise

@[expose] public section

noncomputable section

namespace Cert.Layer.Inproj

open Idealize.ShloMosaic Idealize.ShloMosaic.TcCoe
open Cert.InprojIdeal Cert.InprojIdeal.Gen
open scoped BigOperators

/-- A load after the fill of the whole scratch reads the fill. -/
theorem readCov_h (v : View sig .tc .vmem S1024x1024 .bf16) (Z : Vec Ideal S1024x1024 .bf16)
    (inb : ∀ a, (![0, 0] : Fin 2 → ℕ) a + (![1024, 1024] : Fin 2 → ℕ) a ≤ S1024x1024.size a) (L : List (View.Piece (Elt Ideal) S1024x1024 .bf16)) (r : Rect S1024x1024) :
    v.readCov (Val := Elt Ideal) (⟨Rect.unit ![0, 0] ![1024, 1024] inb, Z⟩ :: L) r.toLoadRect = View.ld Z r :=
  View.readCov_fill v inb Z L r (fun a => match a with | ⟨0, _⟩ => rfl | ⟨1, _⟩ => rfl)

theorem ld_x {e : EltTy} (x : Vec Ideal S1024x1024 e) {inb} : View.ld x (Rect.unit ![0, 0] ![1024, 1024] inb) = x :=
  View.ld_unit_zero (S := S1024x1024) (by funext a; match a with | ⟨0, _⟩ => rfl | ⟨1, _⟩ => rfl) inb x

theorem ld_w (x : Vec Ideal S1024x2176 .bf16) {inb} : View.ld x (Rect.unit ![0, 0] ![1024, 2176] inb) = x :=
  View.ld_unit_zero (S := S1024x2176) (by funext a; match a with | ⟨0, _⟩ => rfl | ⟨1, _⟩ => rfl) inb x

theorem ld_g (x : Vec Ideal S1x1024 .f32) {inb} : View.ld x (Rect.unit ![0, 0] ![1, 1024] inb) = x :=
  View.ld_unit_zero (S := S1x1024) (by funext a; match a with | ⟨0, _⟩ => rfl | ⟨1, _⟩ => rfl) inb x

theorem ld_m (x : Vec Ideal S1x1x1024 .f32) {inb} : View.ld x (Rect.unit ![0, 0, 0] ![1, 1, 1024] inb) = x :=
  View.ld_unit_zero (S := S1x1x1024) (by funext a; match a with | ⟨0, _⟩ => rfl | ⟨1, _⟩ => rfl | ⟨2, _⟩ => rfl) inb x

/-- The modulated norm of the point's rows. -/
def normBlock (x0 : Vec Ideal S1024x1024 .f32) (x1 x2 : Vec Ideal S1x1x1024 .f32) (x3 : Vec Ideal S1x1024 .f32) : Vec Ideal S1024x1024 .bf16 := fun y =>
  normed (fun j => x0 (ix2 (y 0) j)) (fun j => x3 (ix2 0 j)) (fun j => x1 (ix3 0 0 j)) (fun j => x2 (ix3 0 0 j)) (y 1)

/-- Its product with a block of the weights. -/
def prodBlock (h : Vec Ideal S1024x1024 .bf16) (x4 : Vec Ideal S1024x2176 .bf16) : Vec Ideal S1024x2176 .f32 := fun y =>
  ∑ k : Fin 1024, h (ix2 (y 0) k) * x4 (ix2 k (y 1))

theorem norm_eq (x0 : Vec Ideal S1024x1024 .f32) (x1 x2 : Vec Ideal S1x1x1024 .f32) (x3 : Vec Ideal S1x1024 .f32) :
    k0_pay1 (F := Ideal) x0 x3 x1 x2 = normBlock x0 x1 x2 x3 := by
  funext y
  obtain ⟨p, n, rfl⟩ : ∃ (p : Fin 1024) (n : Fin 1024), y = ix2 p n := ⟨y 0, y 1, eq_ix2 y⟩
  pointwise [k0_pay1]
  rfl

theorem prod_eq (h : Vec Ideal S1024x1024 .bf16) (x4 : Vec Ideal S1024x2176 .bf16) : k0_pay2 (F := Ideal) h x4 = prodBlock h x4 := by
  funext y
  obtain ⟨p, n, rfl⟩ : ∃ (p : Fin 1024) (n : Fin 2176), y = ix2 p n := ⟨y 0, y 1, eq_ix2 y⟩
  pointwise [k0_pay2]
  rfl

set_option maxHeartbeats 4000000 in
/-- The block of the result a point stores where a block of rows begins. -/
theorem out_A (c : Dev nD) (i : grid0.Coords) (arg2 : Memref sig .tc .vmem S1024x1024 .f32) (harg2 : arg2.IsWhole) (arg3 : Memref sig .tc .vmem S1x1x1024 .f32) (harg3 : arg3.IsWhole) (arg4 : Memref sig .tc .vmem S1x1x1024 .f32) (harg4 : arg4.IsWhole) (arg5 : Memref sig .tc .vmem S1x1024 .f32) (harg5 : arg5.IsWhole) (arg6 : Memref sig .tc .vmem S1024x2176 .bf16) (harg6 : arg6.IsWhole) (arg7 : Memref sig .tc .vmem S1024x2176 .f32) (harg7 : arg7.IsWhole) (arg8 : Memref sig .tc .vmem S1024x1024 .bf16) (harg8 : arg8.IsWhole) (hc0 : cond0_0 i) (x0 : Vec Ideal S1024x1024 .f32) (x1 : Vec Ideal S1x1x1024 .f32) (x2 : Vec Ideal S1x1x1024 .f32) (x3 : Vec Ideal S1x1024 .f32) (x4 : Vec Ideal S1024x2176 .bf16) :
    out0_A_5 c i arg2 harg2 arg3 harg3 arg4 harg4 arg5 harg5 arg6 harg6 arg7 harg7 arg8 harg8 hc0 x0 x1 x2 x3 x4 = prodBlock (normBlock x0 x1 x2 x3) x4 := by
  unfold out0_A_5
  rw [View.read_writes_eq_canon _ _ _ (cover0_A_5 c i arg2 harg2 arg3 harg3 arg4 harg4 arg5 harg5 arg6 harg6 arg7 harg7 arg8 harg8 hc0 x0 x1 x2 x3 x4)]
  funext y
  refine View.canon_apply_of_pieces _ _ (View.PiecesOf.mem ?_) y (cover0_A_5 c i arg2 harg2 arg3 harg3 arg4 harg4 arg5 harg5 arg6 harg6 arg7 harg7 arg8 harg8 hc0 x0 x1 x2 x3 x4 y)
  unfold kernelRun0_A
  dsimp only
  sl_unfold_words
  simp (disch := decide) only [View.readAt_eq_ld, harg2.read_unread, harg3.read_unread, harg4.read_unread, harg5.read_unread, harg6.read_unread, harg8.read_unread,
    ↓readCov_h, ld_x, ld_w, ld_g, ld_m]
  refine ⟨fun z => ?_, trivial⟩
  have ez : (Rect.unit ![0, 0] ![1024, 2176] inb_S1024x2176_S1024x2176_0_0 : Rect S1024x2176).emb z = z := by
    refine funext fun a => Fin.ext ?_
    match a with
    | ⟨0, _⟩ => show 0 + 1 * (z 0).val = (z 0).val; omega
    | ⟨1, _⟩ => show 0 + 1 * (z 1).val = (z 1).val; omega
  have e := congrFun ((congrArg (fun h => k0_pay2 (F := Ideal) h x4) (norm_eq x0 x1 x2 x3)).trans (prod_eq (normBlock x0 x1 x2 x3) x4)) z
  exact e.trans (congrArg (prodBlock (normBlock x0 x1 x2 x3) x4) ez.symm)

set_option maxHeartbeats 4000000 in
/-- What that point leaves in the scratch. -/
theorem scratch_A (c : Dev nD) (i : grid0.Coords) (arg2 : Memref sig .tc .vmem S1024x1024 .f32) (harg2 : arg2.IsWhole) (arg3 : Memref sig .tc .vmem S1x1x1024 .f32) (harg3 : arg3.IsWhole) (arg4 : Memref sig .tc .vmem S1x1x1024 .f32) (harg4 : arg4.IsWhole) (arg5 : Memref sig .tc .vmem S1x1024 .f32) (harg5 : arg5.IsWhole) (arg6 : Memref sig .tc .vmem S1024x2176 .bf16) (harg6 : arg6.IsWhole) (arg7 : Memref sig .tc .vmem S1024x2176 .f32) (harg7 : arg7.IsWhole) (arg8 : Memref sig .tc .vmem S1024x1024 .bf16) (harg8 : arg8.IsWhole) (hc0 : cond0_0 i) (x0 : Vec Ideal S1024x1024 .f32) (x1 : Vec Ideal S1x1x1024 .f32) (x2 : Vec Ideal S1x1x1024 .f32) (x3 : Vec Ideal S1x1024 .f32) (x4 : Vec Ideal S1024x2176 .bf16) :
    sout0_A_0 c i arg2 harg2 arg3 harg3 arg4 harg4 arg5 harg5 arg6 harg6 arg7 harg7 arg8 harg8 hc0 x0 x1 x2 x3 x4 = normBlock x0 x1 x2 x3 := by
  unfold sout0_A_0
  rw [View.read_writes_eq_canon _ _ _ (scover0_A_0 c i arg2 harg2 arg3 harg3 arg4 harg4 arg5 harg5 arg6 harg6 arg7 harg7 arg8 harg8 hc0 x0 x1 x2 x3 x4)]
  funext y
  refine View.canon_apply_of_pieces _ _ (View.PiecesOf.mem ?_) y (scover0_A_0 c i arg2 harg2 arg3 harg3 arg4 harg4 arg5 harg5 arg6 harg6 arg7 harg7 arg8 harg8 hc0 x0 x1 x2 x3 x4 y)
  unfold kernelRun0_A
  dsimp only
  sl_unfold_words
  simp (disch := decide) only [View.readAt_eq_ld, harg2.read_unread, harg3.read_unread, harg4.read_unread, harg5.read_unread, harg6.read_unread, harg8.read_unread,
    ↓readCov_h, ld_x, ld_w, ld_g, ld_m]
  refine ⟨fun z => ?_, trivial⟩
  have ez : (Rect.unit ![0, 0] ![1024, 1024] inb_S1024x1024_S1024x1024_0_0 : Rect S1024x1024).emb z = z := by
    refine funext fun a => Fin.ext ?_
    match a with
    | ⟨0, _⟩ => show 0 + 1 * (z 0).val = (z 0).val; omega
    | ⟨1, _⟩ => show 0 + 1 * (z 1).val = (z 1).val; omega
  have e := congrFun (norm_eq x0 x1 x2 x3) z
  exact e.trans (congrArg (normBlock x0 x1 x2 x3) ez.symm)

set_option maxHeartbeats 4000000 in
/-- The block of the result any other point stores, from what the scratch holds. -/
theorem out_B (c : Dev nD) (i : grid0.Coords) (arg2 : Memref sig .tc .vmem S1024x1024 .f32) (harg2 : arg2.IsWhole) (arg3 : Memref sig .tc .vmem S1x1x1024 .f32) (harg3 : arg3.IsWhole) (arg4 : Memref sig .tc .vmem S1x1x1024 .f32) (harg4 : arg4.IsWhole) (arg5 : Memref sig .tc .vmem S1x1024 .f32) (harg5 : arg5.IsWhole) (arg6 : Memref sig .tc .vmem S1024x2176 .bf16) (harg6 : arg6.IsWhole) (arg7 : Memref sig .tc .vmem S1024x2176 .f32) (harg7 : arg7.IsWhole) (arg8 : Memref sig .tc .vmem S1024x1024 .bf16) (harg8 : arg8.IsWhole) (hc0 : ¬cond0_0 i) (x0 : Vec Ideal S1024x1024 .f32) (x1 : Vec Ideal S1x1x1024 .f32) (x2 : Vec Ideal S1x1x1024 .f32) (x3 : Vec Ideal S1x1024 .f32) (x4 : Vec Ideal S1024x2176 .bf16) (s : Vec Ideal S1024x1024 .bf16) :
    out0_B_5 c i arg2 harg2 arg3 harg3 arg4 harg4 arg5 harg5 arg6 harg6 arg7 harg7 arg8 harg8 hc0 x0 x1 x2 x3 x4 s = prodBlock s x4 := by
  unfold out0_B_5
  rw [View.read_writes_eq_canon _ _ _ (cover0_B_5 c i arg2 harg2 arg3 harg3 arg4 harg4 arg5 harg5 arg6 harg6 arg7 harg7 arg8 harg8 hc0 x0 x1 x2 x3 x4 s)]
  funext y
  refine View.canon_apply_of_pieces _ _ (View.PiecesOf.mem ?_) y (cover0_B_5 c i arg2 harg2 arg3 harg3 arg4 harg4 arg5 harg5 arg6 harg6 arg7 harg7 arg8 harg8 hc0 x0 x1 x2 x3 x4 s y)
  unfold kernelRun0_B
  dsimp only
  sl_unfold_words
  simp (disch := decide) only [View.readAt_eq_ld, harg2.read_unread, harg3.read_unread, harg4.read_unread, harg5.read_unread, harg6.read_unread, harg8.read_unread,
    ↓readCov_h, ld_x, ld_w, ld_g, ld_m]
  refine ⟨fun z => ?_, trivial⟩
  have ez : (Rect.unit ![0, 0] ![1024, 2176] inb_S1024x2176_S1024x2176_0_0 : Rect S1024x2176).emb z = z := by
    refine funext fun a => Fin.ext ?_
    match a with
    | ⟨0, _⟩ => show 0 + 1 * (z 0).val = (z 0).val; omega
    | ⟨1, _⟩ => show 0 + 1 * (z 1).val = (z 1).val; omega
  have e := congrFun (prod_eq s x4) z
  exact e.trans (congrArg (prodBlock s x4) ez.symm)

end Cert.Layer.Inproj

end
-- ==== Proof.Inproj.Weights.lean ====
/-
  The projection's weights as the kernel is given them: their groups of columns joined in another order, zeros at the end.
-/
module

public import proofs.«01_k».proof.Proof.Layer
public import proofs.«01_k».proof.Proof.Gen.InprojIdeal
public import Idealize.ShloMosaic.Lib.Pipeline.Value
public import Idealize.ShloMosaic.Lib.Pointwise

@[expose] public section

noncomputable section

namespace Cert.Layer.Inproj

open Idealize.ShloMosaic Idealize.ShloMosaic.TcCoe
open Cert.InprojIdeal Cert.InprojIdeal.Gen

variable (w : Vec Ideal S1024x10824 .f32)

/-- The groups of columns, joined. -/
def joined : FVec Ideal S1024x10880 .f32 :=
  concatenate S1024x10880 1 [⟨S1024x6144, (extractStridedSlice S1024x6144 ![0, 0] w slices_S1024x10824_S1024x6144_0_0 : (⟨S1024x6144, .f32⟩ : BufTy).Contents (Elt Ideal))⟩, ⟨S1024x3072, (extractStridedSlice S1024x3072 ![0, 7752] w slices_S1024x10824_S1024x3072_0_7752 : (⟨S1024x3072, .f32⟩ : BufTy).Contents (Elt Ideal))⟩, ⟨S1024x1536, (extractStridedSlice S1024x1536 ![0, 6144] w slices_S1024x10824_S1024x1536_0_6144 : (⟨S1024x1536, .f32⟩ : BufTy).Contents (Elt Ideal))⟩, ⟨S1024x72, (extractStridedSlice S1024x72 ![0, 7680] w slices_S1024x10824_S1024x72_0_7680 : (⟨S1024x72, .f32⟩ : BufTy).Contents (Elt Ideal))⟩, ⟨S1024x56, (broadcastInDim S1024x56 ![] bcast_S_S1024x56 (constant (F := Ideal) S_ .f32 0x00000000#32) : (⟨S1024x56, .f32⟩ : BufTy).Contents (Elt Ideal))⟩] concatenates_S1024x6144_S1024x3072_S1024x1536_S1024x72_S1024x56_S1024x10880_d1

/-- The weights as the kernel is given them. -/
def weights : Vec Ideal S1024x10880 .bf16 :=
  (truncf .bf16 (joined w) bitsLt_bf16_f32 : FVec Ideal S1024x10880 .bf16)

theorem joined_0 (a : Fin 1024) (l : Fin 6144) : joined w (ix2 a ⟨0 + l.val, by omega⟩) = w (ix2 a ⟨0 + l.val, by omega⟩) := by
  unfold joined
  refine (concatenate_apply_piece (t := S1024x10880) 1 _ _ (ix2 a ⟨0 + l.val, by omega⟩) 0 (by show 0 < 5; decide) S1024x6144 _ rfl rfl 0 rfl (ix2 a l) (fun b hb => ?_) rfl).trans ?_
  · match b with
    | ⟨0, _⟩ => rfl
    | ⟨1, _⟩ => exact absurd rfl hb
  exact extractStridedSlice_apply ![0, 0] w slices_S1024x10824_S1024x6144_0_0 (ix2 a l) (ix2 a ⟨0 + l.val, by omega⟩) (fun b => match b with
    | ⟨0, _⟩ => by show a.val = 0 + a.val; omega
    | ⟨1, _⟩ => rfl)

theorem joined_1 (a : Fin 1024) (l : Fin 3072) : joined w (ix2 a ⟨6144 + l.val, by omega⟩) = w (ix2 a ⟨7752 + l.val, by omega⟩) := by
  unfold joined
  refine (concatenate_apply_piece (t := S1024x10880) 1 _ _ (ix2 a ⟨6144 + l.val, by omega⟩) 1 (by show 1 < 5; decide) S1024x3072 _ rfl rfl 6144 rfl (ix2 a l) (fun b hb => ?_) rfl).trans ?_
  · match b with
    | ⟨0, _⟩ => rfl
    | ⟨1, _⟩ => exact absurd rfl hb
  exact extractStridedSlice_apply ![0, 7752] w slices_S1024x10824_S1024x3072_0_7752 (ix2 a l) (ix2 a ⟨7752 + l.val, by omega⟩) (fun b => match b with
    | ⟨0, _⟩ => by show a.val = 0 + a.val; omega
    | ⟨1, _⟩ => rfl)

theorem joined_2 (a : Fin 1024) (l : Fin 1536) : joined w (ix2 a ⟨9216 + l.val, by omega⟩) = w (ix2 a ⟨6144 + l.val, by omega⟩) := by
  unfold joined
  refine (concatenate_apply_piece (t := S1024x10880) 1 _ _ (ix2 a ⟨9216 + l.val, by omega⟩) 2 (by show 2 < 5; decide) S1024x1536 _ rfl rfl 9216 rfl (ix2 a l) (fun b hb => ?_) rfl).trans ?_
  · match b with
    | ⟨0, _⟩ => rfl
    | ⟨1, _⟩ => exact absurd rfl hb
  exact extractStridedSlice_apply ![0, 6144] w slices_S1024x10824_S1024x1536_0_6144 (ix2 a l) (ix2 a ⟨6144 + l.val, by omega⟩) (fun b => match b with
    | ⟨0, _⟩ => by show a.val = 0 + a.val; omega
    | ⟨1, _⟩ => rfl)

theorem joined_3 (a : Fin 1024) (l : Fin 72) : joined w (ix2 a ⟨10752 + l.val, by omega⟩) = w (ix2 a ⟨7680 + l.val, by omega⟩) := by
  unfold joined
  refine (concatenate_apply_piece (t := S1024x10880) 1 _ _ (ix2 a ⟨10752 + l.val, by omega⟩) 3 (by show 3 < 5; decide) S1024x72 _ rfl rfl 10752 rfl (ix2 a l) (fun b hb => ?_) rfl).trans ?_
  · match b with
    | ⟨0, _⟩ => rfl
    | ⟨1, _⟩ => exact absurd rfl hb
  exact extractStridedSlice_apply ![0, 7680] w slices_S1024x10824_S1024x72_0_7680 (ix2 a l) (ix2 a ⟨7680 + l.val, by omega⟩) (fun b => match b with
    | ⟨0, _⟩ => by show a.val = 0 + a.val; omega
    | ⟨1, _⟩ => rfl)

theorem joined_4 (a : Fin 1024) (l : Fin 56) : joined w (ix2 a ⟨10824 + l.val, by omega⟩) = 0 := by
  unfold joined
  refine (concatenate_apply_piece (t := S1024x10880) 1 _ _ (ix2 a ⟨10824 + l.val, by omega⟩) 4 (by show 4 < 5; decide) S1024x56 _ rfl rfl 10824 rfl (ix2 a l) (fun b hb => ?_) rfl).trans ?_
  · match b with
    | ⟨0, _⟩ => rfl
    | ⟨1, _⟩ => exact absurd rfl hb
  pointwise []

/-- Column `l` of the weights as the kernel is given them. -/
theorem weights_apply (a : Fin 1024) (l : Fin 10880) : weights w (ix2 a l) = reorder (fun n => w (ix2 a n)) l :=
  reorder_of (fun l => joined w (ix2 a l)) _ (joined_0 w a) (joined_1 w a) (joined_2 w a) (joined_3 w a) (joined_4 w a) l

end Cert.Layer.Inproj

end
-- ==== Proof.Inproj.Fold.lean ====
/-
  The result of the projection's kernel.  Grid points come in groups of five, one group to 1024 rows: a group's first point leaves the
  rows' modulated norm in the scratch, and each of the five multiplies it by its block of the weights' columns.
-/
module

public import proofs.«01_k».proof.Proof.Inproj.Point
public import proofs.«01_k».proof.Proof.Inproj.Weights
public import proofs.«01_k».proof.Proof.Gen.InprojIdeal.Value

@[expose] public section

noncomputable section

namespace Cert.Layer.Inproj

open Idealize.ShloMosaic Idealize.ShloMosaic.TcCoe
open Cert.InprojIdeal Cert.InprojIdeal.Gen
open scoped BigOperators

variable (m : (ℓ : Loc nD τ sig) → Buf (Elt Ideal) ℓ) (c : Dev nD)

def xArg : Vec Ideal S16384x1024 .f32 := m ((c : Thread nD τ).loc main_arg0)
def shArg : Vec Ideal S2x1x1024 .f32 := m ((c : Thread nD τ).loc main_arg1)
def scArg : Vec Ideal S2x1x1024 .f32 := m ((c : Thread nD τ).loc main_arg2)
def gArg : Vec Ideal S1x1024 .f32 := m ((c : Thread nD τ).loc main_arg3)
def wArg : Vec Ideal S1024x10824 .f32 := m ((c : Thread nD τ).loc main_arg4)

/-- The kernel's result, as a function of its arguments. -/
def kernelOut : Vec Ideal S16384x10880 .f32 := fun i => projAll (xArg m c) (shArg m c) (scArg m c) (gArg m c) (wArg m c) (i 0) (i 1)

theorem V_w : (V m c main_v6 : Vec Ideal S1024x10880 .bf16) = weights (wArg m c) := by
  dsimp only [V, List.flatten_cons, List.flatten_nil, List.cons_append, List.nil_append, List.append_nil]
  after_results
  rfl

/-- The group of rows of grid point `t`. -/
def group (t : Fin cfg0.N) : Fin 16 := ⟨t.val / 5, by have : t.val < 80 := lt_of_lt_of_eq t.isLt N_0; omega⟩

/-- Row `p` of group `u`. -/
def row (u : Fin 16) (p : Fin 1024) : Fin 16384 := ⟨1024 * u.val + p.val, by omega⟩

/-- Column `l` of point `t`. -/
def col (t : Fin cfg0.N) (l : Fin 2176) : Fin 10880 := ⟨2176 * (t.val % 5) + l.val, by omega⟩

theorem batch_row (t : Fin cfg0.N) (p : Fin 1024) : (batch (row (group t) p)).val = t.val / 5 / 8 := by
  show (1024 * (t.val / 5) + p.val) / 8192 = t.val / 5 / 8
  omega

theorem index0 : ∀ t : Fin cfg0.N, win0_0.index t (0 : Fin 2) = t.val / 5 ∧ win0_0.index t (1 : Fin 2) = 0 :=
  (by decide +kernel : ∀ t : Fin grid0.N, _)
theorem index1 : ∀ t : Fin cfg0.N, win0_1.index t (0 : Fin 3) = t.val / 5 / 8 ∧ win0_1.index t (1 : Fin 3) = 0 ∧ win0_1.index t (2 : Fin 3) = 0 :=
  (by decide +kernel : ∀ t : Fin grid0.N, _)
theorem index2 : ∀ t : Fin cfg0.N, win0_2.index t (0 : Fin 3) = t.val / 5 / 8 ∧ win0_2.index t (1 : Fin 3) = 0 ∧ win0_2.index t (2 : Fin 3) = 0 :=
  (by decide +kernel : ∀ t : Fin grid0.N, _)
theorem index3 : ∀ t : Fin cfg0.N, win0_3.index t (0 : Fin 2) = 0 ∧ win0_3.index t (1 : Fin 2) = 0 :=
  (by decide +kernel : ∀ t : Fin grid0.N, _)
theorem index4 : ∀ t : Fin cfg0.N, win0_4.index t (0 : Fin 2) = 0 ∧ win0_4.index t (1 : Fin 2) = t.val % 5 :=
  (by decide +kernel : ∀ t : Fin grid0.N, _)
theorem index5 : ∀ t : Fin cfg0.N, win0_5.index t (0 : Fin 2) = t.val / 5 ∧ win0_5.index t (1 : Fin 2) = t.val % 5 :=
  (by decide +kernel : ∀ t : Fin grid0.N, _)

theorem x_apply (t : Fin cfg0.N) (p : Fin 1024) (j : Fin 1024) : (iblk m c 0 t : Vec Ideal S1024x1024 .f32) (ix2 p j) = xArg m c (ix2 (row (group t) p) j) := by
  obtain ⟨e0, e1⟩ := index0 t
  refine (congrArg (V m c main_arg0 : Vec Ideal S16384x1024 .f32) (funext fun a => Fin.ext ?_)).trans (congrFun (V_main_arg0 m c) _)
  match a with
  | ⟨0, _⟩ => show win0_0.index t (0 : Fin 2) * 1024 + 1 * p.val = 1024 * (t.val / 5) + p.val; omega
  | ⟨1, _⟩ => show win0_0.index t (1 : Fin 2) * 1024 + 1 * j.val = j.val; omega

theorem sh_apply (t : Fin cfg0.N) (p : Fin 1024) (j : Fin 1024) :
    (iblk m c 1 t : Vec Ideal S1x1x1024 .f32) (ix3 0 0 j) = shArg m c (ix3 (batch (row (group t) p)) 0 j) := by
  obtain ⟨e0, e1, e2⟩ := index1 t
  have eb := batch_row t p
  refine (congrArg (V m c main_arg1 : Vec Ideal S2x1x1024 .f32) (funext fun a => Fin.ext ?_)).trans (congrFun (V_main_arg1 m c) _)
  match a with
  | ⟨0, _⟩ => show win0_1.index t (0 : Fin 3) * 1 + 1 * 0 = (batch (row (group t) p)).val; omega
  | ⟨1, _⟩ => show win0_1.index t (1 : Fin 3) * 1 + 1 * 0 = 0; omega
  | ⟨2, _⟩ => show win0_1.index t (2 : Fin 3) * 1024 + 1 * j.val = j.val; omega

theorem sc_apply (t : Fin cfg0.N) (p : Fin 1024) (j : Fin 1024) :
    (iblk m c 2 t : Vec Ideal S1x1x1024 .f32) (ix3 0 0 j) = scArg m c (ix3 (batch (row (group t) p)) 0 j) := by
  obtain ⟨e0, e1, e2⟩ := index2 t
  have eb := batch_row t p
  refine (congrArg (V m c main_arg2 : Vec Ideal S2x1x1024 .f32) (funext fun a => Fin.ext ?_)).trans (congrFun (V_main_arg2 m c) _)
  match a with
  | ⟨0, _⟩ => show win0_2.index t (0 : Fin 3) * 1 + 1 * 0 = (batch (row (group t) p)).val; omega
  | ⟨1, _⟩ => show win0_2.index t (1 : Fin 3) * 1 + 1 * 0 = 0; omega
  | ⟨2, _⟩ => show win0_2.index t (2 : Fin 3) * 1024 + 1 * j.val = j.val; omega

theorem g_apply (t : Fin cfg0.N) (j : Fin 1024) : (iblk m c 3 t : Vec Ideal S1x1024 .f32) (ix2 0 j) = gArg m c (ix2 0 j) := by
  obtain ⟨e0, e1⟩ := index3 t
  refine (congrArg (V m c main_arg3 : Vec Ideal S1x1024 .f32) (funext fun a => Fin.ext ?_)).trans (congrFun (V_main_arg3 m c) _)
  match a with
  | ⟨0, _⟩ => show win0_3.index t (0 : Fin 2) * 1 + 1 * 0 = 0; omega
  | ⟨1, _⟩ => show win0_3.index t (1 : Fin 2) * 1024 + 1 * j.val = j.val; omega

theorem w_apply (t : Fin cfg0.N) (k : Fin 1024) (l : Fin 2176) :
    (iblk m c 4 t : Vec Ideal S1024x2176 .bf16) (ix2 k l) = reorder (fun n => wArg m c (ix2 k n)) (col t l) := by
  obtain ⟨e0, e1⟩ := index4 t
  refine (congrArg (V m c main_v6 : Vec Ideal S1024x10880 .bf16) (?_ : _ = ix2 k (col t l))).trans ((congrFun (V_w m c) _).trans (weights_apply (wArg m c) k (col t l)))
  refine funext fun a => Fin.ext ?_
  match a with
  | ⟨0, _⟩ => show win0_4.index t (0 : Fin 2) * 1024 + 1 * k.val = k.val; omega
  | ⟨1, _⟩ => show win0_4.index t (1 : Fin 2) * 2176 + 1 * l.val = 2176 * (t.val % 5) + l.val; omega

/-- The modulated norm of group `u`'s rows. -/
def groupNorm (u : Fin 16) : Vec Ideal S1024x1024 .bf16 := fun y =>
  normed (fun j => xArg m c (ix2 (row u (y 0)) j)) (fun j => gArg m c (ix2 0 j)) (fun j => shArg m c (ix3 (batch (row u (y 0))) 0 j))
    (fun j => scArg m c (ix3 (batch (row u (y 0))) 0 j)) (y 1)

theorem normBlock_eq (t : Fin cfg0.N) : normBlock (iblk m c 0 t) (iblk m c 1 t) (iblk m c 2 t) (iblk m c 3 t) = groupNorm m c (group t) := by
  funext y
  obtain ⟨p, n, rfl⟩ : ∃ (p : Fin 1024) (n : Fin 1024), y = ix2 p n := ⟨y 0, y 1, eq_ix2 y⟩
  show normed (fun j => (iblk m c 0 t : Vec Ideal S1024x1024 .f32) (ix2 p j)) (fun j => (iblk m c 3 t : Vec Ideal S1x1024 .f32) (ix2 0 j))
      (fun j => (iblk m c 1 t : Vec Ideal S1x1x1024 .f32) (ix3 0 0 j)) (fun j => (iblk m c 2 t : Vec Ideal S1x1x1024 .f32) (ix3 0 0 j)) n
    = normed (fun j => xArg m c (ix2 (row (group t) p) j)) (fun j => gArg m c (ix2 0 j)) (fun j => shArg m c (ix3 (batch (row (group t) p)) 0 j))
      (fun j => scArg m c (ix3 (batch (row (group t) p)) 0 j)) n
  simp only [x_apply m c t p, sh_apply m c t p, sc_apply m c t p, g_apply m c t]

/-- One grid point: its block of the result, and the scratch after it. -/
theorem step (t : Fin cfg0.N) (acc : Vec Ideal S1024x2176 .f32 × Vec Ideal S1024x1024 .bf16) (hacc : t.val % 5 ≠ 0 → acc.2 = groupNorm m c (group t)) :
    (Value.stAt0 m c t.val t.isLt acc).1 = prodBlock (groupNorm m c (group t)) (iblk m c 4 t)
      ∧ (Value.stAt0 m c t.val t.isLt acc).2 = groupNorm m c (group t) := by
  by_cases h0 : t.val % 5 = 0
  · have e1 := out_A c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) ((hcond0_0 t).mpr h0) (iblk m c 0 t) (iblk m c 1 t) (iblk m c 2 t) (iblk m c 3 t) (iblk m c 4 t)
    have e2 := scratch_A c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) ((hcond0_0 t).mpr h0) (iblk m c 0 t) (iblk m c 1 t) (iblk m c 2 t) (iblk m c 3 t) (iblk m c 4 t)
    rw [normBlock_eq] at e1 e2
    rw [Value.stAt0_A m c t acc h0, e1, e2]
    exact ⟨rfl, rfl⟩
  · have hs := hacc h0
    have e1 := out_B c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => h0 ((hcond0_0 t).mp h)) (iblk m c 0 t) (iblk m c 1 t) (iblk m c 2 t) (iblk m c 3 t) (iblk m c 4 t) acc.2
    rw [Value.stAt0_B m c t acc h0, e1, hs]
    exact ⟨rfl, rfl⟩

/-- The sweep over the grid. -/
theorem sweep : ∀ (n : ℕ) (hn : n < cfg0.N), (outsAt0 m c n hn).1 = prodBlock (groupNorm m c (group ⟨n, hn⟩)) (iblk m c 4 ⟨n, hn⟩)
      ∧ (outsAt0 m c n hn).2 = groupNorm m c (group ⟨n, hn⟩)
  | 0, hn => by
    rw [Value.outsAt0_zero]
    exact step m c ⟨0, hn⟩ _ (fun h => absurd rfl h)
  | n + 1, hn => by
    rw [Value.outsAt0_succ]
    refine step m c ⟨n + 1, hn⟩ _ (fun h => (sweep n (Nat.lt_of_succ_lt hn)).2.trans (congrArg (groupNorm m c) (Fin.ext ?_)))
    have h' : (n + 1) % 5 ≠ 0 := h
    show n / 5 = (n + 1) / 5
    omega

/-- What a point stores is its block of the result. -/
theorem prodBlock_apply (t : Fin cfg0.N) (p : Fin 1024) (l : Fin 2176) :
    prodBlock (groupNorm m c (group t)) (iblk m c 4 t) (ix2 p l) = kernelOut m c (ix2 (row (group t) p) (col t l)) := by
  show ∑ k : Fin 1024, groupNorm m c (group t) (ix2 p k) * (iblk m c 4 t : Vec Ideal S1024x2176 .bf16) (ix2 k l)
    = projAll (xArg m c) (shArg m c) (scArg m c) (gArg m c) (wArg m c) (row (group t) p) (col t l)
  simp only [w_apply m c t]
  exact reorder_sum (fun k => groupNorm m c (group t) (ix2 p k)) (fun k n => wArg m c (ix2 k n)) (col t l)

theorem flushed_eq (t : Fin cfg0.N) :
    (dats m 0 c).flushed 5 t = ((cfg0.win 5).blk t).view.read (Elt Ideal) (kernelOut m c) := by
  rw [Value.flushed5, (sweep m c t.val t.isLt).1]
  funext y
  obtain ⟨p, n, hy⟩ : ∃ (p : Fin 1024) (n : Fin 2176), (cfg0.win 5).xinj (grid0.coords t) y = ix2 p n :=
    ⟨_, _, eq_ix2 (n0 := 1024) (n1 := 2176) _⟩
  show prodBlock (groupNorm m c (group t)) (iblk m c 4 t) ((cfg0.win 5).xinj (grid0.coords t) y) = kernelOut m c (((cfg0.win 5).blk t).view.emb y)
  rw [hy, prodBlock_apply]
  obtain ⟨e0, e1⟩ := index5 t
  have h0 : (y 0).val = p.val := congrArg Fin.val (congrFun hy 0)
  have h1 : (y 1).val = n.val := congrArg Fin.val (congrFun hy 1)
  refine congrArg (kernelOut m c) (funext fun a => Fin.ext ?_)
  match a with
  | ⟨0, _⟩ => show 1024 * (t.val / 5) + p.val = win0_5.index t (0 : Fin 2) * 1024 + 1 * (y 0).val; omega
  | ⟨1, _⟩ => show 2176 * (t.val % 5) + n.val = win0_5.index t (1 : Fin 2) * 2176 + 1 * (y 1).val; omega

theorem cover (i : S16384x10880.Idx) : ∃ t : Fin cfg0.N, (cfg0.win 5).flush t = true ∧ i ∈ ((cfg0.win 5).blk t).view.set := by
  have h0 : (i 0).val < 16384 := (i 0).isLt
  have h1 : (i 1).val < 10880 := (i 1).isLt
  obtain ⟨t, et⟩ : ∃ t : Fin cfg0.N, t.val = 5 * ((i 0).val / 1024) + (i 1).val / 2176 :=
    ⟨⟨_, lt_of_lt_of_eq (show 5 * ((i 0).val / 1024) + (i 1).val / 2176 < 80 by omega) N_0.symm⟩, rfl⟩
  refine ⟨t, flush0_5 t, ?_⟩
  obtain ⟨e0, e1⟩ := index5 t
  show i ∈ ((View.whole main_v7).slice (win0_5.rect t)).set
  rw [View.set_slice_whole, Rect.mem_set_unit]
  intro a
  match a with
  | ⟨0, _⟩ =>
    show win0_5.index t (0 : Fin 2) * 1024 ≤ (i 0).val ∧ (i 0).val < win0_5.index t (0 : Fin 2) * 1024 + 1024
    rw [e0]; omega
  | ⟨1, _⟩ =>
    show win0_5.index t (1 : Fin 2) * 2176 ≤ (i 1).val ∧ (i 1).val < win0_5.index t (1 : Fin 2) * 2176 + 2176
    rw [e1]; omega

/-- The kernel's result. -/
theorem arr_eq : (dats m 0 c).arrAt 5 cfg0.N = kernelOut m c :=
  (dats m 0 c).arrAt_eq_of_cover 5 _ (fun t _ => flushed_eq m c t) cover

end Cert.Layer.Inproj

end
-- ==== Proof.Inproj.Ref.lean ====
/-
  The projection's reference, read at an index.
-/
module

public import proofs.«01_k».proof.Proof.Layer
public import proofs.«01_k».proof.Proof.Gen.InprojRefIdeal.Read
public import Idealize.ShloMosaic.Lib.Pointwise

@[expose] public section

noncomputable section

namespace Cert.Layer.InprojRef

open Idealize.ShloMosaic Idealize.ShloMosaic.TcCoe
open Cert.InprojRefIdeal Cert.InprojRefIdeal.Gen Cert.InprojRefIdeal.Read
open scoped BigOperators

variable (x : Vec Ideal S16384x1024 .f32) (sh sc : Vec Ideal S2x1x1024 .f32) (g : Vec Ideal S1x1024 .f32) (w : Vec Ideal S1024x10824 .f32)

/-- The row of position `t` of batch `b`. -/
def rowOf (b : Fin 2) (t : Fin 8192) : Fin 16384 := ⟨8192 * b.val + t.val, by omega⟩

theorem x_apply (b : Fin 2) (t : Fin 8192) (k : Fin 1024) : val_main_v0 (F := Ideal) x (ix3 b t k) = x (ix2 (rowOf b t) k) := by
  rw [val_main_v0_apply]
  refine congrArg x (funext fun a => Fin.ext ?_)
  match a with
  | ⟨0, _⟩ => show ((b.val * 8192 + t.val) * 1024 + k.val) / 1024 = 8192 * b.val + t.val; omega
  | ⟨1, _⟩ => show ((b.val * 8192 + t.val) * 1024 + k.val) % 1024 = k.val; omega

theorem g_apply (k : Fin 1024) : val_main_v1 (F := Ideal) g (ix1 k) = g (ix2 0 k) := by
  rw [val_main_v1_apply]
  refine congrArg g (funext fun a => Fin.ext ?_)
  match a with
  | ⟨0, _⟩ => rfl
  | ⟨1, _⟩ => show k.val % 1024 = k.val; omega

theorem norm_apply (b : Fin 2) (t : Fin 8192) (k : Fin 1024) :
    val_main_v20 (F := Ideal) x sh sc g (ix3 b t k)
      = normed (fun j => x (ix2 (rowOf b t) j)) (fun j => g (ix2 0 j)) (fun j => sh (ix3 b 0 j)) (fun j => sc (ix3 b 0 j)) k := by
  have hx := x_apply x b t
  have hg := g_apply g
  unfold val_main_v20 val_main_v18 val_main_v14 val_main_v13 val_main_v12 val_main_v11 val_main_v10 val_main_v9 val_main_v8 val_main_v6 val_main_v4 val_main_v3 val_main_v2
  generalize val_main_v0 (F := Ideal) x = X at hx ⊢
  generalize val_main_v1 (F := Ideal) g = G at hg ⊢
  pointwise [val_main_v19, val_main_v17, val_main_v16, val_main_v15, val_main_cst_2, val_main_v7, val_main_cst_1, val_main_v5, val_main_cst_0, val_main_cst]
  simp only [hx, hg]
  rfl

/-- One entry of the product, its columns in the weights' order. -/
theorem product_apply (b : Fin 2) (t : Fin 8192) (n : Fin 10824) :
    val_main_v21 (F := Ideal) x sh sc g w (ix3 b t n)
      = ∑ k, normed (fun j => x (ix2 (rowOf b t) j)) (fun j => g (ix2 0 j)) (fun j => sh (ix3 b 0 j)) (fun j => sc (ix3 b 0 j)) k * w (ix2 k n) := by
  have hn := norm_apply x sh sc g b t
  unfold val_main_v21
  generalize val_main_v20 (F := Ideal) x sh sc g = N at hn ⊢
  pointwise []
  simp only [hn]

theorem joined_0 (b : Fin 2) (t : Fin 8192) (l : Fin 6144) : val_main_v27 (F := Ideal) x sh sc g w (ix3 b t ⟨0 + l.val, by omega⟩) = val_main_v21 (F := Ideal) x sh sc g w (ix3 b t ⟨0 + l.val, by omega⟩) := by
  unfold val_main_v27
  refine (concatenate_apply_piece (t := S2x8192x10880) 2 _ _ (ix3 b t ⟨0 + l.val, by omega⟩) 0 (by show 0 < 5; decide) S2x8192x6144 _ rfl rfl 0 rfl (ix3 b t l) (fun q hq => ?_) rfl).trans ?_
  · match q with
    | ⟨0, _⟩ => rfl
    | ⟨1, _⟩ => rfl
    | ⟨2, _⟩ => exact absurd rfl hq
  rw [val_main_v22_apply]
  refine congrArg (val_main_v21 (F := Ideal) x sh sc g w) (funext fun q => Fin.ext ?_)
  match q with
  | ⟨0, _⟩ => rfl
  | ⟨1, _⟩ => rfl
  | ⟨2, _⟩ => show l.val = 0 + l.val; omega

theorem joined_1 (b : Fin 2) (t : Fin 8192) (l : Fin 3072) : val_main_v27 (F := Ideal) x sh sc g w (ix3 b t ⟨6144 + l.val, by omega⟩) = val_main_v21 (F := Ideal) x sh sc g w (ix3 b t ⟨7752 + l.val, by omega⟩) := by
  unfold val_main_v27
  refine (concatenate_apply_piece (t := S2x8192x10880) 2 _ _ (ix3 b t ⟨6144 + l.val, by omega⟩) 1 (by show 1 < 5; decide) S2x8192x3072 _ rfl rfl 6144 rfl (ix3 b t l) (fun q hq => ?_) rfl).trans ?_
  · match q with
    | ⟨0, _⟩ => rfl
    | ⟨1, _⟩ => rfl
    | ⟨2, _⟩ => exact absurd rfl hq
  rw [val_main_v25_apply]
  refine congrArg (val_main_v21 (F := Ideal) x sh sc g w) (funext fun q => Fin.ext ?_)
  match q with
  | ⟨0, _⟩ => rfl
  | ⟨1, _⟩ => rfl
  | ⟨2, _⟩ => rfl

theorem joined_2 (b : Fin 2) (t : Fin 8192) (l : Fin 1536) : val_main_v27 (F := Ideal) x sh sc g w (ix3 b t ⟨9216 + l.val, by omega⟩) = val_main_v21 (F := Ideal) x sh sc g w (ix3 b t ⟨6144 + l.val, by omega⟩) := by
  unfold val_main_v27
  refine (concatenate_apply_piece (t := S2x8192x10880) 2 _ _ (ix3 b t ⟨9216 + l.val, by omega⟩) 2 (by show 2 < 5; decide) S2x8192x1536 _ rfl rfl 9216 rfl (ix3 b t l) (fun q hq => ?_) rfl).trans ?_
  · match q with
    | ⟨0, _⟩ => rfl
    | ⟨1, _⟩ => rfl
    | ⟨2, _⟩ => exact absurd rfl hq
  rw [val_main_v23_apply]
  refine congrArg (val_main_v21 (F := Ideal) x sh sc g w) (funext fun q => Fin.ext ?_)
  match q with
  | ⟨0, _⟩ => rfl
  | ⟨1, _⟩ => rfl
  | ⟨2, _⟩ => rfl

theorem joined_3 (b : Fin 2) (t : Fin 8192) (l : Fin 72) : val_main_v27 (F := Ideal) x sh sc g w (ix3 b t ⟨10752 + l.val, by omega⟩) = val_main_v21 (F := Ideal) x sh sc g w (ix3 b t ⟨7680 + l.val, by omega⟩) := by
  unfold val_main_v27
  refine (concatenate_apply_piece (t := S2x8192x10880) 2 _ _ (ix3 b t ⟨10752 + l.val, by omega⟩) 3 (by show 3 < 5; decide) S2x8192x72 _ rfl rfl 10752 rfl (ix3 b t l) (fun q hq => ?_) rfl).trans ?_
  · match q with
    | ⟨0, _⟩ => rfl
    | ⟨1, _⟩ => rfl
    | ⟨2, _⟩ => exact absurd rfl hq
  rw [val_main_v24_apply]
  refine congrArg (val_main_v21 (F := Ideal) x sh sc g w) (funext fun q => Fin.ext ?_)
  match q with
  | ⟨0, _⟩ => rfl
  | ⟨1, _⟩ => rfl
  | ⟨2, _⟩ => rfl

theorem joined_4 (b : Fin 2) (t : Fin 8192) (l : Fin 56) : val_main_v27 (F := Ideal) x sh sc g w (ix3 b t ⟨10824 + l.val, by omega⟩) = 0 := by
  unfold val_main_v27
  refine (concatenate_apply_piece (t := S2x8192x10880) 2 _ _ (ix3 b t ⟨10824 + l.val, by omega⟩) 4 (by show 4 < 5; decide) S2x8192x56 _ rfl rfl 10824 rfl (ix3 b t l) (fun q hq => ?_) rfl).trans ?_
  · match q with
    | ⟨0, _⟩ => rfl
    | ⟨1, _⟩ => rfl
    | ⟨2, _⟩ => exact absurd rfl hq
  pointwise [val_main_v26, val_main_cst_3]

/-- The columns joined in their new order. -/
theorem joined_apply (b : Fin 2) (t : Fin 8192) (l : Fin 10880) :
    val_main_v27 (F := Ideal) x sh sc g w (ix3 b t l) = reorder (fun n => val_main_v21 (F := Ideal) x sh sc g w (ix3 b t n)) l :=
  reorder_of (fun l => val_main_v27 (F := Ideal) x sh sc g w (ix3 b t l)) (fun n => val_main_v21 (F := Ideal) x sh sc g w (ix3 b t n)) (joined_0 x sh sc g w b t) (joined_1 x sh sc g w b t)
    (joined_2 x sh sc g w b t) (joined_3 x sh sc g w b t) (joined_4 x sh sc g w b t) l

/-- The reference's result. -/
theorem ref_eq : val_main_v28 (F := Ideal) x sh sc g w = fun i => projAll x sh sc g w (i 0) (i 1) := by
  funext i
  obtain ⟨p, n, rfl⟩ : ∃ (p : Fin 16384) (n : Fin 10880), i = ix2 p n := ⟨i 0, i 1, eq_ix2 i⟩
  rw [val_main_v28_apply]
  have e : idx_main_v28 (ix2 p n) = ix3 (batch p) (⟨p.val % 8192, by omega⟩ : Fin 8192) n := by
    funext a
    refine Fin.ext ?_
    match a with
    | ⟨0, _⟩ => show (p.val * 10880 + n.val) / 89128960 = p.val / 8192; omega
    | ⟨1, _⟩ => show (p.val * 10880 + n.val) / 10880 % 8192 = p.val % 8192; omega
    | ⟨2, _⟩ => show (p.val * 10880 + n.val) % 10880 = n.val; omega
  have er : rowOf (batch p) ⟨p.val % 8192, by omega⟩ = p := Fin.ext (by show 8192 * (p.val / 8192) + p.val % 8192 = p.val; omega)
  rw [e, joined_apply, funext fun n => product_apply x sh sc g w (batch p) ⟨p.val % 8192, by omega⟩ n, er]
  rfl

end Cert.Layer.InprojRef

end
-- ==== Proof.Inproj.Claims.lean ====
/-
  The projection's claims.
-/
module

public import proofs.«01_k».proof.Defs
public import proofs.«01_k».proof.Proof.Inproj.Fold
public import proofs.«01_k».proof.Proof.Inproj.Ref
public import proofs.«01_k».proof.Proof.Gen.Inproj
public import proofs.«01_k».proof.Proof.Gen.Inproj.Frame
public import proofs.«01_k».proof.Proof.Gen.InprojIdeal
public import proofs.«01_k».proof.Proof.Gen.InprojRefIdeal

@[expose] public section

noncomputable section

namespace Cert.Layer.Inproj

open Idealize.ShloMosaic Idealize.ShloMosaic.TcCoe
open Idealize.SL.Sem

theorem frame_kernel : Cert.quiescent_Inproj := fun m ρ _ => Cert.Inproj.Gen.frame m ρ

theorem frame_ideal : Cert.quiescent_InprojIdeal := fun m ρ _ => Cert.InprojIdeal.Gen.frame m ρ

theorem frame_reference : Cert.quiescent_InprojRefIdeal := fun m ρ _ =>
  (θ_run Cert.InprojRefIdeal.defs _ _).mono (fun r h => ⟨fun c => (h c).2,
      Idealize.ShloMosaic.sem_eq_zero_of_no_sems (by decide) r.2⟩)
    (Cert.InprojRefIdeal.Value.run (F := Ideal) m ρ)

/-- The kernel's result and the reference's are the same function of the same arguments. -/
theorem algebraic : Cert.algebraic_InprojIdeal_InprojRefIdeal := by
  intro m ρ m' ρ' _ hagree
  refine ⟨fun c => kernelOut m c, (θ_run _ _ _).mono (fun _ h c => ⟨(h c).1.trans (arr_eq m c), (h c).2⟩) (Cert.InprojIdeal.Value.run_blocks (F := Ideal) m ρ), ?_⟩
  refine (θ_run _ _ _).mono (fun _ h c => ⟨(h c).1.trans ?_, (h c).2⟩) (Cert.InprojRefIdeal.Value.run (F := Ideal) m' ρ')
  obtain ⟨h0, h1, h2, h3, h4⟩ := hagree c
  rw [Cert.InprojRefIdeal.Read.val_main_v28_eq, h0, h1, h2, h3, h4]
  exact InprojRef.ref_eq _ _ _ _ _

end Cert.Layer.Inproj

end
-- ==== Proof.Mixout.Point.lean ====
/-
  What a grid point of the mixers' part leaves in its block of the result.
-/
module

public import proofs.«01_k».proof.Proof.Layer
public import proofs.«01_k».proof.Proof.Gen.MixoutIdeal.Frame
public import Idealize.ShloMosaic.Lib.Pipeline.ReadBack
public import Idealize.ShloMosaic.Lib.Pointwise

@[expose] public section

noncomputable section

namespace Cert.Layer.Mixout

open Idealize.ShloMosaic Idealize.ShloMosaic.TcCoe
open Cert.MixoutIdeal Cert.MixoutIdeal.Gen
open scoped BigOperators

theorem ld_x {e : EltTy} (x : Vec Ideal S512x1024 e) {inb} : View.ld x (Rect.unit ![0, 0] ![512, 1024] inb) = x :=
  View.ld_unit_zero (S := S512x1024) (by funext a; match a with | ⟨0, _⟩ => rfl | ⟨1, _⟩ => rfl) inb x

theorem ld_w {e : EltTy} (x : Vec Ideal S1024x1024 e) {inb} : View.ld x (Rect.unit ![0, 0] ![1024, 1024] inb) = x :=
  View.ld_unit_zero (S := S1024x1024) (by funext a; match a with | ⟨0, _⟩ => rfl | ⟨1, _⟩ => rfl) inb x

theorem ld_m (x : Vec Ideal S1x1x1024 .f32) {inb} : View.ld x (Rect.unit ![0, 0, 0] ![1, 1, 1024] inb) = x :=
  View.ld_unit_zero (S := S1x1x1024) (by funext a; match a with | ⟨0, _⟩ => rfl | ⟨1, _⟩ => rfl | ⟨2, _⟩ => rfl) inb x

/-- The block of the result, from the point's blocks. -/
def outArr (x0 : Vec Ideal S512x1024 .f32) (x1 : Vec Ideal S512x1024 .bf16) (x2 : Vec Ideal S512x1024 .bf16) (x3 : Vec Ideal S512x1024 .bf16) (x4 : Vec Ideal S512x1024 .f32) (x5 : Vec Ideal S512x1024 .f32) (x6 : Vec Ideal S512x1024 .f32) (x7 : Vec Ideal S1x1x1024 .f32) (x8 : Vec Ideal S1024x1024 .bf16) (x9 : Vec Ideal S1024x1024 .bf16) (x10 : Vec Ideal S1024x1024 .bf16) (x11 : Vec Ideal S1024x1024 .bf16) : Vec Ideal S512x1024 .f32 := fun y =>
  mixed (fun j => x0 (ix2 (y 0) j)) (fun j => x7 (ix3 0 0 j))
    (merged (fun j => x1 (ix2 (y 0) j)) (fun j => x2 (ix2 (y 0) j)) (fun j => x3 (ix2 (y 0) j))
      (fun j => x4 (ix2 (y 0) j)) (fun j => x5 (ix2 (y 0) j)) (fun j => x6 (ix2 (y 0) j))
      (fun j k => x8 (ix2 j k)) (fun j k => x9 (ix2 j k)) (fun j k => x10 (ix2 j k)))
    (fun k n => x11 (ix2 k n)) (y 1)

theorem stored_eq (x0 : Vec Ideal S512x1024 .f32) (x1 : Vec Ideal S512x1024 .bf16) (x2 : Vec Ideal S512x1024 .bf16) (x3 : Vec Ideal S512x1024 .bf16) (x4 : Vec Ideal S512x1024 .f32) (x5 : Vec Ideal S512x1024 .f32) (x6 : Vec Ideal S512x1024 .f32) (x7 : Vec Ideal S1x1x1024 .f32) (x8 : Vec Ideal S1024x1024 .bf16) (x9 : Vec Ideal S1024x1024 .bf16) (x10 : Vec Ideal S1024x1024 .bf16) (x11 : Vec Ideal S1024x1024 .bf16) :
    k0_pay1 (F := Ideal) x0 (k0_pay2 (F := Ideal) x7) (k0_pay3 (F := Ideal) x4 x1 x8 x5 x2 x9 x6 x3 x10 x11) = outArr x0 x1 x2 x3 x4 x5 x6 x7 x8 x9 x10 x11 := by
  funext y
  obtain ⟨p, n, rfl⟩ : ∃ (p : Fin 512) (n : Fin 1024), y = ix2 p n := ⟨y 0, y 1, eq_ix2 y⟩
  pointwise [k0_pay1, k0_pay2, k0_pay3]
  rfl

set_option maxHeartbeats 4000000 in
/-- The block of the result a point stores. -/
theorem out_eq (c : Dev nD) (i : grid0.Coords) (arg1 : Memref sig .tc .vmem S512x1024 .f32) (harg1 : arg1.IsWhole) (arg2 : Memref sig .tc .vmem S512x1024 .bf16) (harg2 : arg2.IsWhole) (arg3 : Memref sig .tc .vmem S512x1024 .bf16) (harg3 : arg3.IsWhole) (arg4 : Memref sig .tc .vmem S512x1024 .bf16) (harg4 : arg4.IsWhole) (arg5 : Memref sig .tc .vmem S512x1024 .f32) (harg5 : arg5.IsWhole) (arg6 : Memref sig .tc .vmem S512x1024 .f32) (harg6 : arg6.IsWhole) (arg7 : Memref sig .tc .vmem S512x1024 .f32) (harg7 : arg7.IsWhole) (arg8 : Memref sig .tc .vmem S1x1x1024 .f32) (harg8 : arg8.IsWhole) (arg9 : Memref sig .tc .vmem S1024x1024 .bf16) (harg9 : arg9.IsWhole) (arg10 : Memref sig .tc .vmem S1024x1024 .bf16) (harg10 : arg10.IsWhole) (arg11 : Memref sig .tc .vmem S1024x1024 .bf16) (harg11 : arg11.IsWhole) (arg12 : Memref sig .tc .vmem S1024x1024 .bf16) (harg12 : arg12.IsWhole) (arg13 : Memref sig .tc .vmem S512x1024 .f32) (harg13 : arg13.IsWhole) (x0 : Vec Ideal S512x1024 .f32) (x1 : Vec Ideal S512x1024 .bf16) (x2 : Vec Ideal S512x1024 .bf16) (x3 : Vec Ideal S512x1024 .bf16) (x4 : Vec Ideal S512x1024 .f32) (x5 : Vec Ideal S512x1024 .f32) (x6 : Vec Ideal S512x1024 .f32) (x7 : Vec Ideal S1x1x1024 .f32) (x8 : Vec Ideal S1024x1024 .bf16) (x9 : Vec Ideal S1024x1024 .bf16) (x10 : Vec Ideal S1024x1024 .bf16) (x11 : Vec Ideal S1024x1024 .bf16) :
    out0_A_12 c i arg1 harg1 arg2 harg2 arg3 harg3 arg4 harg4 arg5 harg5 arg6 harg6 arg7 harg7 arg8 harg8 arg9 harg9 arg10 harg10 arg11 harg11 arg12 harg12 arg13 harg13 x0 x1 x2 x3 x4 x5 x6 x7 x8 x9 x10 x11 = outArr x0 x1 x2 x3 x4 x5 x6 x7 x8 x9 x10 x11 := by
  unfold out0_A_12
  rw [View.read_writes_eq_canon _ _ _ (cover0_A_12 c i arg1 harg1 arg2 harg2 arg3 harg3 arg4 harg4 arg5 harg5 arg6 harg6 arg7 harg7 arg8 harg8 arg9 harg9 arg10 harg10 arg11 harg11 arg12 harg12 arg13 harg13 x0 x1 x2 x3 x4 x5 x6 x7 x8 x9 x10 x11)]
  funext y
  refine View.canon_apply_of_pieces _ _ (View.PiecesOf.mem ?_) y (cover0_A_12 c i arg1 harg1 arg2 harg2 arg3 harg3 arg4 harg4 arg5 harg5 arg6 harg6 arg7 harg7 arg8 harg8 arg9 harg9 arg10 harg10 arg11 harg11 arg12 harg12 arg13 harg13 x0 x1 x2 x3 x4 x5 x6 x7 x8 x9 x10 x11 y)
  unfold kernelRun0_A
  dsimp only
  sl_unfold_words
  simp (disch := decide) only [View.readAt_eq_ld, harg1.read_unread, harg2.read_unread, harg3.read_unread, harg4.read_unread, harg5.read_unread, harg6.read_unread, harg7.read_unread, harg8.read_unread, harg9.read_unread, harg10.read_unread, harg11.read_unread, harg12.read_unread, ld_x, ld_w, ld_m]
  refine ⟨fun z => ?_, trivial⟩
  have e := congrFun (stored_eq x0 x1 x2 x3 x4 x5 x6 x7 x8 x9 x10 x11) z
  have ez : (Rect.unit ![0, 0] ![512, 1024] inb_S512x1024_S512x1024_0_0 : Rect S512x1024).emb z = z := by
    refine funext fun a => Fin.ext ?_
    match a with
    | ⟨0, _⟩ => show 0 + 1 * (z 0).val = (z 0).val; omega
    | ⟨1, _⟩ => show 0 + 1 * (z 1).val = (z 1).val; omega
  exact e.trans (congrArg (outArr x0 x1 x2 x3 x4 x5 x6 x7 x8 x9 x10 x11) ez.symm)

end Cert.Layer.Mixout

end
-- ==== Proof.Mixout.Fold.lean ====
/-
  The result of the kernel of the mixers' part: grid point `t` makes rows `512 t + p` of it, from the same rows of the inputs
  and the gate of the batch those rows are of.
-/
module

public import proofs.«01_k».proof.Proof.Mixout.Point
public import proofs.«01_k».proof.Proof.Gen.MixoutIdeal.Value

@[expose] public section

noncomputable section

namespace Cert.Layer.Mixout

open Idealize.ShloMosaic Idealize.ShloMosaic.TcCoe
open Cert.MixoutIdeal Cert.MixoutIdeal.Gen

variable (m : (ℓ : Loc nD τ sig) → Buf (Elt Ideal) ℓ) (c : Dev nD)

def xArg : Vec Ideal S16384x1024 .f32 := m ((c : Thread nD τ).loc main_arg0)
def roArg : Vec Ideal S16384x1024 .bf16 := m ((c : Thread nD τ).loc main_arg1)
def caArg : Vec Ideal S16384x1024 .bf16 := m ((c : Thread nD τ).loc main_arg2)
def aoArg : Vec Ideal S16384x1024 .bf16 := m ((c : Thread nD τ).loc main_arg3)
def zArg : Vec Ideal S16384x10880 .f32 := m ((c : Thread nD τ).loc main_arg4)
def gateArg : Vec Ideal S2x1x1024 .f32 := m ((c : Thread nD τ).loc main_arg5)
def wrArg : Vec Ideal S1024x1024 .f32 := m ((c : Thread nD τ).loc main_arg6)
def wcArg : Vec Ideal S1024x1024 .f32 := m ((c : Thread nD τ).loc main_arg7)
def waArg : Vec Ideal S1024x1024 .f32 := m ((c : Thread nD τ).loc main_arg8)
def woArg : Vec Ideal S1024x1024 .f32 := m ((c : Thread nD τ).loc main_arg9)

/-- The kernel's result, as a function of its arguments. -/
def kernelOut : Vec Ideal S16384x1024 .f32 := fun i =>
  mixAll (xArg m c) (roArg m c) (caArg m c) (aoArg m c) (zArg m c) (gateArg m c) (wrArg m c) (wcArg m c) (waArg m c) (woArg m c) (i 0) (i 1)

theorem V_wr : (V m c main_v0 : Vec Ideal S1024x1024 .bf16) = wrArg m c := by
  dsimp only [V, List.flatten_cons, List.flatten_nil, List.cons_append, List.nil_append, List.append_nil]
  after_results
  rfl

theorem V_wc : (V m c main_v1 : Vec Ideal S1024x1024 .bf16) = wcArg m c := by
  dsimp only [V, List.flatten_cons, List.flatten_nil, List.cons_append, List.nil_append, List.append_nil]
  after_results
  rfl

theorem V_wa : (V m c main_v2 : Vec Ideal S1024x1024 .bf16) = waArg m c := by
  dsimp only [V, List.flatten_cons, List.flatten_nil, List.cons_append, List.nil_append, List.append_nil]
  after_results
  rfl

theorem V_wo : (V m c main_v3 : Vec Ideal S1024x1024 .bf16) = woArg m c := by
  dsimp only [V, List.flatten_cons, List.flatten_nil, List.cons_append, List.nil_append, List.append_nil]
  after_results
  rfl

/-- Row `p` of block `t`. -/
def row (t : Fin cfg0.N) (p : Fin 512) : Fin 16384 :=
  ⟨512 * t.val + p.val, by have : t.val < 32 := lt_of_lt_of_eq t.isLt N_0; omega⟩

theorem batch_row (t : Fin cfg0.N) (p : Fin 512) : (batch (row t p)).val = t.val / 16 := by
  show (512 * t.val + p.val) / 8192 = t.val / 16
  omega

theorem index0 : ∀ t : Fin cfg0.N, win0_0.index t (0 : Fin 2) = t.val ∧ win0_0.index t (1 : Fin 2) = 0 :=
  (by decide +kernel : ∀ t : Fin grid0.N, _)
theorem index1 : ∀ t : Fin cfg0.N, win0_1.index t (0 : Fin 2) = t.val ∧ win0_1.index t (1 : Fin 2) = 0 :=
  (by decide +kernel : ∀ t : Fin grid0.N, _)
theorem index2 : ∀ t : Fin cfg0.N, win0_2.index t (0 : Fin 2) = t.val ∧ win0_2.index t (1 : Fin 2) = 0 :=
  (by decide +kernel : ∀ t : Fin grid0.N, _)
theorem index3 : ∀ t : Fin cfg0.N, win0_3.index t (0 : Fin 2) = t.val ∧ win0_3.index t (1 : Fin 2) = 0 :=
  (by decide +kernel : ∀ t : Fin grid0.N, _)
theorem index4 : ∀ t : Fin cfg0.N, win0_4.index t (0 : Fin 2) = t.val ∧ win0_4.index t (1 : Fin 2) = 6 :=
  (by decide +kernel : ∀ t : Fin grid0.N, _)
theorem index5 : ∀ t : Fin cfg0.N, win0_5.index t (0 : Fin 2) = t.val ∧ win0_5.index t (1 : Fin 2) = 7 :=
  (by decide +kernel : ∀ t : Fin grid0.N, _)
theorem index6 : ∀ t : Fin cfg0.N, win0_6.index t (0 : Fin 2) = t.val ∧ win0_6.index t (1 : Fin 2) = 8 :=
  (by decide +kernel : ∀ t : Fin grid0.N, _)
theorem index12 : ∀ t : Fin cfg0.N, win0_12.index t (0 : Fin 2) = t.val ∧ win0_12.index t (1 : Fin 2) = 0 :=
  (by decide +kernel : ∀ t : Fin grid0.N, _)
theorem index7 : ∀ t : Fin cfg0.N, win0_7.index t (0 : Fin 3) = t.val / 16 ∧ win0_7.index t (1 : Fin 3) = 0 ∧ win0_7.index t (2 : Fin 3) = 0 :=
  (by decide +kernel : ∀ t : Fin grid0.N, _)
theorem index8 : ∀ t : Fin cfg0.N, win0_8.index t (0 : Fin 2) = 0 ∧ win0_8.index t (1 : Fin 2) = 0 :=
  (by decide +kernel : ∀ t : Fin grid0.N, _)
theorem index9 : ∀ t : Fin cfg0.N, win0_9.index t (0 : Fin 2) = 0 ∧ win0_9.index t (1 : Fin 2) = 0 :=
  (by decide +kernel : ∀ t : Fin grid0.N, _)
theorem index10 : ∀ t : Fin cfg0.N, win0_10.index t (0 : Fin 2) = 0 ∧ win0_10.index t (1 : Fin 2) = 0 :=
  (by decide +kernel : ∀ t : Fin grid0.N, _)
theorem index11 : ∀ t : Fin cfg0.N, win0_11.index t (0 : Fin 2) = 0 ∧ win0_11.index t (1 : Fin 2) = 0 :=
  (by decide +kernel : ∀ t : Fin grid0.N, _)

theorem x_apply (t : Fin cfg0.N) (p : Fin 512) (j : Fin 1024) : (iblk m c 0 t : Vec Ideal S512x1024 .f32) (ix2 p j) = xArg m c (ix2 (row t p) j) := by
  obtain ⟨e0, e1⟩ := index0 t
  refine (congrArg (V m c main_arg0 : Vec Ideal S16384x1024 .f32) (funext fun a => Fin.ext ?_)).trans (congrFun (V_main_arg0 m c) _)
  match a with
  | ⟨0, _⟩ => show win0_0.index t (0 : Fin 2) * 512 + 1 * p.val = 512 * t.val + p.val; omega
  | ⟨1, _⟩ => show win0_0.index t (1 : Fin 2) * 1024 + 1 * j.val = j.val; omega

theorem ro_apply (t : Fin cfg0.N) (p : Fin 512) (j : Fin 1024) : (iblk m c 1 t : Vec Ideal S512x1024 .bf16) (ix2 p j) = roArg m c (ix2 (row t p) j) := by
  obtain ⟨e0, e1⟩ := index1 t
  refine (congrArg (V m c main_arg1 : Vec Ideal S16384x1024 .bf16) (funext fun a => Fin.ext ?_)).trans (congrFun (V_main_arg1 m c) _)
  match a with
  | ⟨0, _⟩ => show win0_1.index t (0 : Fin 2) * 512 + 1 * p.val = 512 * t.val + p.val; omega
  | ⟨1, _⟩ => show win0_1.index t (1 : Fin 2) * 1024 + 1 * j.val = j.val; omega

theorem ca_apply (t : Fin cfg0.N) (p : Fin 512) (j : Fin 1024) : (iblk m c 2 t : Vec Ideal S512x1024 .bf16) (ix2 p j) = caArg m c (ix2 (row t p) j) := by
  obtain ⟨e0, e1⟩ := index2 t
  refine (congrArg (V m c main_arg2 : Vec Ideal S16384x1024 .bf16) (funext fun a => Fin.ext ?_)).trans (congrFun (V_main_arg2 m c) _)
  match a with
  | ⟨0, _⟩ => show win0_2.index t (0 : Fin 2) * 512 + 1 * p.val = 512 * t.val + p.val; omega
  | ⟨1, _⟩ => show win0_2.index t (1 : Fin 2) * 1024 + 1 * j.val = j.val; omega

theorem ao_apply (t : Fin cfg0.N) (p : Fin 512) (j : Fin 1024) : (iblk m c 3 t : Vec Ideal S512x1024 .bf16) (ix2 p j) = aoArg m c (ix2 (row t p) j) := by
  obtain ⟨e0, e1⟩ := index3 t
  refine (congrArg (V m c main_arg3 : Vec Ideal S16384x1024 .bf16) (funext fun a => Fin.ext ?_)).trans (congrFun (V_main_arg3 m c) _)
  match a with
  | ⟨0, _⟩ => show win0_3.index t (0 : Fin 2) * 512 + 1 * p.val = 512 * t.val + p.val; omega
  | ⟨1, _⟩ => show win0_3.index t (1 : Fin 2) * 1024 + 1 * j.val = j.val; omega

theorem g0_apply (t : Fin cfg0.N) (p : Fin 512) (j : Fin 1024) :
    (X0_4 m c t : Vec Ideal S512x1024 .f32) (ix2 p j) = zArg m c (ix2 (row t p) ⟨6144 + j.val, by omega⟩) := by
  obtain ⟨e0, e1⟩ := index4 t
  have ef : (X0_4 m c t : Vec Ideal S512x1024 .f32) (ix2 p j) = _ := dif_pos (moved0_4 t (ix2 p j))
  rw [ef]
  refine (congrArg (V m c main_arg4 : Vec Ideal S16384x10880 .f32) (funext fun a => Fin.ext ?_)).trans (congrFun (V_main_arg4 m c) _)
  match a with
  | ⟨0, _⟩ => show win0_4.index t (0 : Fin 2) * 512 + 1 * p.val = 512 * t.val + p.val; omega
  | ⟨1, _⟩ => show win0_4.index t (1 : Fin 2) * 1024 + 1 * j.val = 6144 + j.val; omega

theorem g1_apply (t : Fin cfg0.N) (p : Fin 512) (j : Fin 1024) :
    (X0_5 m c t : Vec Ideal S512x1024 .f32) (ix2 p j) = zArg m c (ix2 (row t p) ⟨7168 + j.val, by omega⟩) := by
  obtain ⟨e0, e1⟩ := index5 t
  have ef : (X0_5 m c t : Vec Ideal S512x1024 .f32) (ix2 p j) = _ := dif_pos (moved0_5 t (ix2 p j))
  rw [ef]
  refine (congrArg (V m c main_arg4 : Vec Ideal S16384x10880 .f32) (funext fun a => Fin.ext ?_)).trans (congrFun (V_main_arg4 m c) _)
  match a with
  | ⟨0, _⟩ => show win0_5.index t (0 : Fin 2) * 512 + 1 * p.val = 512 * t.val + p.val; omega
  | ⟨1, _⟩ => show win0_5.index t (1 : Fin 2) * 1024 + 1 * j.val = 7168 + j.val; omega

theorem g2_apply (t : Fin cfg0.N) (p : Fin 512) (j : Fin 1024) :
    (X0_6 m c t : Vec Ideal S512x1024 .f32) (ix2 p j) = zArg m c (ix2 (row t p) ⟨8192 + j.val, by omega⟩) := by
  obtain ⟨e0, e1⟩ := index6 t
  have ef : (X0_6 m c t : Vec Ideal S512x1024 .f32) (ix2 p j) = _ := dif_pos (moved0_6 t (ix2 p j))
  rw [ef]
  refine (congrArg (V m c main_arg4 : Vec Ideal S16384x10880 .f32) (funext fun a => Fin.ext ?_)).trans (congrFun (V_main_arg4 m c) _)
  match a with
  | ⟨0, _⟩ => show win0_6.index t (0 : Fin 2) * 512 + 1 * p.val = 512 * t.val + p.val; omega
  | ⟨1, _⟩ => show win0_6.index t (1 : Fin 2) * 1024 + 1 * j.val = 8192 + j.val; omega

theorem gate_apply (t : Fin cfg0.N) (p : Fin 512) (j : Fin 1024) :
    (iblk m c 7 t : Vec Ideal S1x1x1024 .f32) (ix3 0 0 j) = gateArg m c (ix3 (batch (row t p)) 0 j) := by
  obtain ⟨e0, e1, e2⟩ := index7 t
  have eb := batch_row t p
  refine (congrArg (V m c main_arg5 : Vec Ideal S2x1x1024 .f32) (funext fun a => Fin.ext ?_)).trans (congrFun (V_main_arg5 m c) _)
  match a with
  | ⟨0, _⟩ => show win0_7.index t (0 : Fin 3) * 1 + 1 * 0 = (batch (row t p)).val; omega
  | ⟨1, _⟩ => show win0_7.index t (1 : Fin 3) * 1 + 1 * 0 = 0; omega
  | ⟨2, _⟩ => show win0_7.index t (2 : Fin 3) * 1024 + 1 * j.val = j.val; omega

theorem wr_apply (t : Fin cfg0.N) (j k : Fin 1024) : (iblk m c 8 t : Vec Ideal S1024x1024 .bf16) (ix2 j k) = wrArg m c (ix2 j k) := by
  obtain ⟨e0, e1⟩ := index8 t
  refine (congrArg (V m c main_v0 : Vec Ideal S1024x1024 .bf16) (funext fun a => Fin.ext ?_)).trans (congrFun (V_wr m c) _)
  match a with
  | ⟨0, _⟩ => show win0_8.index t (0 : Fin 2) * 1024 + 1 * j.val = j.val; omega
  | ⟨1, _⟩ => show win0_8.index t (1 : Fin 2) * 1024 + 1 * k.val = k.val; omega

theorem wc_apply (t : Fin cfg0.N) (j k : Fin 1024) : (iblk m c 9 t : Vec Ideal S1024x1024 .bf16) (ix2 j k) = wcArg m c (ix2 j k) := by
  obtain ⟨e0, e1⟩ := index9 t
  refine (congrArg (V m c main_v1 : Vec Ideal S1024x1024 .bf16) (funext fun a => Fin.ext ?_)).trans (congrFun (V_wc m c) _)
  match a with
  | ⟨0, _⟩ => show win0_9.index t (0 : Fin 2) * 1024 + 1 * j.val = j.val; omega
  | ⟨1, _⟩ => show win0_9.index t (1 : Fin 2) * 1024 + 1 * k.val = k.val; omega

theorem wa_apply (t : Fin cfg0.N) (j k : Fin 1024) : (iblk m c 10 t : Vec Ideal S1024x1024 .bf16) (ix2 j k) = waArg m c (ix2 j k) := by
  obtain ⟨e0, e1⟩ := index10 t
  refine (congrArg (V m c main_v2 : Vec Ideal S1024x1024 .bf16) (funext fun a => Fin.ext ?_)).trans (congrFun (V_wa m c) _)
  match a with
  | ⟨0, _⟩ => show win0_10.index t (0 : Fin 2) * 1024 + 1 * j.val = j.val; omega
  | ⟨1, _⟩ => show win0_10.index t (1 : Fin 2) * 1024 + 1 * k.val = k.val; omega

theorem wo_apply (t : Fin cfg0.N) (j k : Fin 1024) : (iblk m c 11 t : Vec Ideal S1024x1024 .bf16) (ix2 j k) = woArg m c (ix2 j k) := by
  obtain ⟨e0, e1⟩ := index11 t
  refine (congrArg (V m c main_v3 : Vec Ideal S1024x1024 .bf16) (funext fun a => Fin.ext ?_)).trans (congrFun (V_wo m c) _)
  match a with
  | ⟨0, _⟩ => show win0_11.index t (0 : Fin 2) * 1024 + 1 * j.val = j.val; omega
  | ⟨1, _⟩ => show win0_11.index t (1 : Fin 2) * 1024 + 1 * k.val = k.val; omega

/-- What a point stores is its rows of the result. -/
theorem outArr_apply (t : Fin cfg0.N) (p : Fin 512) (n : Fin 1024) :
    outArr (iblk m c 0 t) (iblk m c 1 t) (iblk m c 2 t) (iblk m c 3 t) (X0_4 m c t) (X0_5 m c t) (X0_6 m c t) (iblk m c 7 t) (iblk m c 8 t) (iblk m c 9 t) (iblk m c 10 t) (iblk m c 11 t) (ix2 p n)
      = kernelOut m c (ix2 (row t p) n) := by
  show mixed (fun j => (iblk m c 0 t : Vec Ideal S512x1024 .f32) (ix2 p j)) (fun j => (iblk m c 7 t : Vec Ideal S1x1x1024 .f32) (ix3 0 0 j))
      (merged (fun j => (iblk m c 1 t : Vec Ideal S512x1024 .bf16) (ix2 p j)) (fun j => (iblk m c 2 t : Vec Ideal S512x1024 .bf16) (ix2 p j)) (fun j => (iblk m c 3 t : Vec Ideal S512x1024 .bf16) (ix2 p j))
        (fun j => (X0_4 m c t : Vec Ideal S512x1024 .f32) (ix2 p j)) (fun j => (X0_5 m c t : Vec Ideal S512x1024 .f32) (ix2 p j)) (fun j => (X0_6 m c t : Vec Ideal S512x1024 .f32) (ix2 p j))
        (fun j k => (iblk m c 8 t : Vec Ideal S1024x1024 .bf16) (ix2 j k)) (fun j k => (iblk m c 9 t : Vec Ideal S1024x1024 .bf16) (ix2 j k)) (fun j k => (iblk m c 10 t : Vec Ideal S1024x1024 .bf16) (ix2 j k)))
      (fun j k => (iblk m c 11 t : Vec Ideal S1024x1024 .bf16) (ix2 j k)) n
    = mixAll (xArg m c) (roArg m c) (caArg m c) (aoArg m c) (zArg m c) (gateArg m c) (wrArg m c) (wcArg m c) (waArg m c) (woArg m c) (row t p) n
  simp only [x_apply m c t p, ro_apply m c t p, ca_apply m c t p, ao_apply m c t p, g0_apply m c t p, g1_apply m c t p, g2_apply m c t p,
    gate_apply m c t p, wr_apply m c t, wc_apply m c t, wa_apply m c t, wo_apply m c t]
  rfl

theorem flushed_eq (t : Fin cfg0.N) :
    (dats m 0 c).flushed 12 t = ((cfg0.win 12).blk t).view.read (Elt Ideal) (kernelOut m c) := by
  rw [Value.flushed12_A, out_eq]
  funext y
  obtain ⟨p, n, hy⟩ : ∃ (p : Fin 512) (n : Fin 1024), (cfg0.win 12).xinj (grid0.coords t) y = ix2 p n :=
    ⟨_, _, eq_ix2 (n0 := 512) (n1 := 1024) _⟩
  show outArr _ _ _ _ _ _ _ _ _ _ _ _ ((cfg0.win 12).xinj (grid0.coords t) y) = kernelOut m c (((cfg0.win 12).blk t).view.emb y)
  rw [hy, outArr_apply]
  obtain ⟨e0, e1⟩ := index12 t
  have h0 : (y 0).val = p.val := congrArg Fin.val (congrFun hy 0)
  have h1 : (y 1).val = n.val := congrArg Fin.val (congrFun hy 1)
  refine congrArg (kernelOut m c) (funext fun a => Fin.ext ?_)
  match a with
  | ⟨0, _⟩ => show 512 * t.val + p.val = win0_12.index t (0 : Fin 2) * 512 + 1 * (y 0).val; omega
  | ⟨1, _⟩ => show n.val = win0_12.index t (1 : Fin 2) * 1024 + 1 * (y 1).val; omega

theorem cover (i : S16384x1024.Idx) : ∃ t : Fin cfg0.N, (cfg0.win 12).flush t = true ∧ i ∈ ((cfg0.win 12).blk t).view.set := by
  have h0 : (i 0).val < 16384 := (i 0).isLt
  have h1 : (i 1).val < 1024 := (i 1).isLt
  obtain ⟨t, et⟩ : ∃ t : Fin cfg0.N, t.val = (i 0).val / 512 := ⟨⟨_, lt_of_lt_of_eq (show (i 0).val / 512 < 32 by omega) N_0.symm⟩, rfl⟩
  refine ⟨t, flush0_12 t, ?_⟩
  obtain ⟨e0, e1⟩ := index12 t
  show i ∈ ((View.whole main_v4).slice (win0_12.rect t)).set
  rw [View.set_slice_whole, Rect.mem_set_unit]
  intro a
  match a with
  | ⟨0, _⟩ =>
    show win0_12.index t (0 : Fin 2) * 512 ≤ (i 0).val ∧ (i 0).val < win0_12.index t (0 : Fin 2) * 512 + 512
    rw [e0]; omega
  | ⟨1, _⟩ =>
    show win0_12.index t (1 : Fin 2) * 1024 ≤ (i 1).val ∧ (i 1).val < win0_12.index t (1 : Fin 2) * 1024 + 1024
    rw [e1]; omega

/-- The kernel's result. -/
theorem arr_eq : (dats m 0 c).arrAt 12 cfg0.N = kernelOut m c :=
  (dats m 0 c).arrAt_eq_of_cover 12 _ (fun t _ => flushed_eq m c t) cover

end Cert.Layer.Mixout

end
-- ==== Proof.Mixout.Ref.lean ====
/-
  The result of the reference of the mixers' part, read at an index.
-/
module

public import proofs.«01_k».proof.Proof.Layer
public import proofs.«01_k».proof.Proof.Gen.MixoutRefIdeal.Read
public import Idealize.ShloMosaic.Lib.Pointwise

@[expose] public section

noncomputable section

namespace Cert.Layer.MixoutRef

open Idealize.ShloMosaic Idealize.ShloMosaic.TcCoe
open Cert.MixoutRefIdeal Cert.MixoutRefIdeal.Gen Cert.MixoutRefIdeal.Read
open scoped BigOperators

variable (x : Vec Ideal S16384x1024 .f32) (ro ca ao : Vec Ideal S16384x1024 .bf16) (z : Vec Ideal S16384x10880 .f32) (gate : Vec Ideal S2x1x1024 .f32)
  (wr wc wa wo : Vec Ideal S1024x1024 .f32)

/-- The row of position `t` of batch `b`. -/
def rowOf (b : Fin 2) (t : Fin 8192) : Fin 16384 := ⟨8192 * b.val + t.val, by omega⟩

theorem x_apply (b : Fin 2) (t : Fin 8192) (k : Fin 1024) : val_main_v28 (F := Ideal) x (ix3 b t k) = x (ix2 (rowOf b t) k) := by
  rw [val_main_v28_apply]
  refine congrArg x (funext fun a => Fin.ext ?_)
  match a with
  | ⟨0, _⟩ => show ((b.val * 8192 + t.val) * 1024 + k.val) / 1024 = 8192 * b.val + t.val; omega
  | ⟨1, _⟩ => show ((b.val * 8192 + t.val) * 1024 + k.val) % 1024 = k.val; omega

theorem ro_apply (b : Fin 2) (t : Fin 8192) (k : Fin 1024) : val_main_v9 (F := Ideal) ro (ix3 b t k) = ro (ix2 (rowOf b t) k) := by
  rw [val_main_v9_apply, val_main_v8_apply]
  refine congrArg ro (funext fun a => Fin.ext ?_)
  match a with
  | ⟨0, _⟩ => show ((b.val * 8192 + t.val) * 1024 + k.val) / 1024 = 8192 * b.val + t.val; omega
  | ⟨1, _⟩ => show ((b.val * 8192 + t.val) * 1024 + k.val) % 1024 = k.val; omega

theorem ca_apply (b : Fin 2) (t : Fin 8192) (k : Fin 1024) : val_main_v12 (F := Ideal) ca (ix3 b t k) = ca (ix2 (rowOf b t) k) := by
  rw [val_main_v12_apply, val_main_v11_apply]
  refine congrArg ca (funext fun a => Fin.ext ?_)
  match a with
  | ⟨0, _⟩ => show ((b.val * 8192 + t.val) * 1024 + k.val) / 1024 = 8192 * b.val + t.val; omega
  | ⟨1, _⟩ => show ((b.val * 8192 + t.val) * 1024 + k.val) % 1024 = k.val; omega

theorem ao_apply (b : Fin 2) (t : Fin 8192) (k : Fin 1024) : val_main_v15 (F := Ideal) ao (ix3 b t k) = ao (ix2 (rowOf b t) k) := by
  rw [val_main_v15_apply, val_main_v14_apply]
  refine congrArg ao (funext fun a => Fin.ext ?_)
  match a with
  | ⟨0, _⟩ => show ((b.val * 8192 + t.val) * 1024 + k.val) / 1024 = 8192 * b.val + t.val; omega
  | ⟨1, _⟩ => show ((b.val * 8192 + t.val) * 1024 + k.val) % 1024 = k.val; omega

/-- Gate `e` of the three. -/
theorem sigmoid_apply (p : Fin 16384) (l : Fin 3072) :
    val_main_v6 (F := Ideal) z (ix2 p l) = Ideal.logistic (z (ix2 p ⟨6144 + l.val, by omega⟩)) := by
  pointwise [val_main_v6, val_main_v5, val_main_cst_0, val_main_v4, val_main_v3, val_main_cst, val_main_v2, val_main_v1, val_main_v0]
  rfl

theorem gates_apply (b : Fin 2) (t : Fin 8192) (e : Fin 3) (k : Fin 1024) :
    val_main_v7 (F := Ideal) z (ix4 b t e k) = Ideal.logistic (z (ix2 (rowOf b t) ⟨6144 + (1024 * e.val + k.val), by omega⟩)) := by
  rw [val_main_v7_apply, ← sigmoid_apply z (rowOf b t) ⟨1024 * e.val + k.val, by omega⟩]
  refine congrArg (val_main_v6 (F := Ideal) z) (funext fun a => Fin.ext ?_)
  match a with
  | ⟨0, _⟩ => show (((b.val * 8192 + t.val) * 3 + e.val) * 1024 + k.val) / 3072 = 8192 * b.val + t.val; omega
  | ⟨1, _⟩ => show (((b.val * 8192 + t.val) * 3 + e.val) * 1024 + k.val) % 3072 = 1024 * e.val + k.val; omega

theorem g0_apply (b : Fin 2) (t : Fin 8192) (k : Fin 1024) :
    val_main_v18 (F := Ideal) z (ix3 b t k) = Ideal.logistic (z (ix2 (rowOf b t) ⟨6144 + k.val, by omega⟩)) := by
  rw [val_main_v18_apply, val_main_v17_apply]
  refine (congrArg (val_main_v7 (F := Ideal) z) (funext fun a => Fin.ext ?_)).trans ((gates_apply z b t 0 k).trans
    (congrArg (fun l => Ideal.logistic (z (ix2 (rowOf b t) l))) (Fin.ext (show 6144 + (1024 * 0 + k.val) = 6144 + k.val by omega))))
  match a with
  | ⟨0, _⟩ => show ((b.val * 8192 + t.val) * 1024 + k.val) / 8388608 = b.val; omega
  | ⟨1, _⟩ => show ((b.val * 8192 + t.val) * 1024 + k.val) / 1024 % 8192 = t.val; omega
  | ⟨2, _⟩ => rfl
  | ⟨3, _⟩ => show ((b.val * 8192 + t.val) * 1024 + k.val) % 1024 = k.val; omega

theorem g1_apply (b : Fin 2) (t : Fin 8192) (k : Fin 1024) :
    val_main_v21 (F := Ideal) z (ix3 b t k) = Ideal.logistic (z (ix2 (rowOf b t) ⟨7168 + k.val, by omega⟩)) := by
  rw [val_main_v21_apply, val_main_v20_apply]
  refine (congrArg (val_main_v7 (F := Ideal) z) (funext fun a => Fin.ext ?_)).trans ((gates_apply z b t 1 k).trans
    (congrArg (fun l => Ideal.logistic (z (ix2 (rowOf b t) l))) (Fin.ext (show 6144 + (1024 * 1 + k.val) = 7168 + k.val by omega))))
  match a with
  | ⟨0, _⟩ => show ((b.val * 8192 + t.val) * 1024 + k.val) / 8388608 = b.val; omega
  | ⟨1, _⟩ => show ((b.val * 8192 + t.val) * 1024 + k.val) / 1024 % 8192 = t.val; omega
  | ⟨2, _⟩ => rfl
  | ⟨3, _⟩ => show ((b.val * 8192 + t.val) * 1024 + k.val) % 1024 = k.val; omega

theorem g2_apply (b : Fin 2) (t : Fin 8192) (k : Fin 1024) :
    val_main_v25 (F := Ideal) z (ix3 b t k) = Ideal.logistic (z (ix2 (rowOf b t) ⟨8192 + k.val, by omega⟩)) := by
  rw [val_main_v25_apply, val_main_v24_apply]
  refine (congrArg (val_main_v7 (F := Ideal) z) (funext fun a => Fin.ext ?_)).trans ((gates_apply z b t 2 k).trans
    (congrArg (fun l => Ideal.logistic (z (ix2 (rowOf b t) l))) (Fin.ext (show 6144 + (1024 * 2 + k.val) = 8192 + k.val by omega))))
  match a with
  | ⟨0, _⟩ => show ((b.val * 8192 + t.val) * 1024 + k.val) / 8388608 = b.val; omega
  | ⟨1, _⟩ => show ((b.val * 8192 + t.val) * 1024 + k.val) / 1024 % 8192 = t.val; omega
  | ⟨2, _⟩ => rfl
  | ⟨3, _⟩ => show ((b.val * 8192 + t.val) * 1024 + k.val) % 1024 = k.val; omega

theorem merged_apply (b : Fin 2) (t : Fin 8192) (k : Fin 1024) :
    val_main_v27 (F := Ideal) ro ca ao z wr wc wa (ix3 b t k)
      = merged (fun j => ro (ix2 (rowOf b t) j)) (fun j => ca (ix2 (rowOf b t) j)) (fun j => ao (ix2 (rowOf b t) j))
        (fun j => z (ix2 (rowOf b t) ⟨6144 + j.val, by omega⟩)) (fun j => z (ix2 (rowOf b t) ⟨7168 + j.val, by omega⟩))
        (fun j => z (ix2 (rowOf b t) ⟨8192 + j.val, by omega⟩))
        (fun j k => wr (ix2 j k)) (fun j k => wc (ix2 j k)) (fun j k => wa (ix2 j k)) k := by
  have h1 := ro_apply ro b t
  have h2 := ca_apply ca b t
  have h3 := ao_apply ao b t
  have e0 := g0_apply z b t
  have e1 := g1_apply z b t
  have e2 := g2_apply z b t
  unfold val_main_v27 val_main_v26 val_main_v23 val_main_v22 val_main_v19 val_main_v16 val_main_v13 val_main_v10
  generalize val_main_v9 (F := Ideal) ro = A at h1 ⊢
  generalize val_main_v12 (F := Ideal) ca = B at h2 ⊢
  generalize val_main_v15 (F := Ideal) ao = C at h3 ⊢
  generalize val_main_v18 (F := Ideal) z = G0 at e0 ⊢
  generalize val_main_v21 (F := Ideal) z = G1 at e1 ⊢
  generalize val_main_v25 (F := Ideal) z = G2 at e2 ⊢
  pointwise []
  simp only [h1, h2, h3, e0, e1, e2]
  rfl

theorem result_apply (b : Fin 2) (t : Fin 8192) (n : Fin 1024) :
    val_main_v32 (F := Ideal) x ro ca ao z gate wr wc wa wo (ix3 b t n)
      = mixed (fun j => x (ix2 (rowOf b t) j)) (fun j => gate (ix3 b 0 j))
        (merged (fun j => ro (ix2 (rowOf b t) j)) (fun j => ca (ix2 (rowOf b t) j)) (fun j => ao (ix2 (rowOf b t) j))
          (fun j => z (ix2 (rowOf b t) ⟨6144 + j.val, by omega⟩)) (fun j => z (ix2 (rowOf b t) ⟨7168 + j.val, by omega⟩))
          (fun j => z (ix2 (rowOf b t) ⟨8192 + j.val, by omega⟩))
          (fun j k => wr (ix2 j k)) (fun j k => wc (ix2 j k)) (fun j k => wa (ix2 j k)))
        (fun k n => wo (ix2 k n)) n := by
  have hx := x_apply x b t
  have hm := merged_apply ro ca ao z wr wc wa b t
  unfold val_main_v32 val_main_v31 val_main_v29
  generalize val_main_v28 (F := Ideal) x = X at hx ⊢
  generalize val_main_v27 (F := Ideal) ro ca ao z wr wc wa = M at hm ⊢
  pointwise [val_main_v30]
  simp only [hx, hm]
  rfl

/-- The reference's result. -/
theorem ref_eq : val_main_v33 (F := Ideal) x ro ca ao z gate wr wc wa wo = fun i => mixAll x ro ca ao z gate wr wc wa wo (i 0) (i 1) := by
  funext i
  obtain ⟨p, n, rfl⟩ : ∃ (p : Fin 16384) (n : Fin 1024), i = ix2 p n := ⟨i 0, i 1, eq_ix2 i⟩
  rw [val_main_v33_apply]
  have e : idx_main_v33 (ix2 p n) = ix3 (batch p) (⟨p.val % 8192, by omega⟩ : Fin 8192) n := by
    funext a
    refine Fin.ext ?_
    match a with
    | ⟨0, _⟩ => show (p.val * 1024 + n.val) / 8388608 = p.val / 8192; omega
    | ⟨1, _⟩ => show (p.val * 1024 + n.val) / 1024 % 8192 = p.val % 8192; omega
    | ⟨2, _⟩ => show (p.val * 1024 + n.val) % 1024 = n.val; omega
  rw [e, result_apply]
  have er : rowOf (batch p) ⟨p.val % 8192, by omega⟩ = p := Fin.ext (by show 8192 * (p.val / 8192) + p.val % 8192 = p.val; omega)
  rw [er]
  rfl

end Cert.Layer.MixoutRef

end
-- ==== Proof.Mixout.Claims.lean ====
/-
  The claims about the mixers' part.
-/
module

public import proofs.«01_k».proof.Defs
public import proofs.«01_k».proof.Proof.Mixout.Fold
public import proofs.«01_k».proof.Proof.Mixout.Ref
public import proofs.«01_k».proof.Proof.Gen.Mixout
public import proofs.«01_k».proof.Proof.Gen.Mixout.Frame
public import proofs.«01_k».proof.Proof.Gen.MixoutIdeal
public import proofs.«01_k».proof.Proof.Gen.MixoutRefIdeal

@[expose] public section

noncomputable section

namespace Cert.Layer.Mixout

open Idealize.ShloMosaic Idealize.ShloMosaic.TcCoe
open Idealize.SL.Sem

theorem frame_kernel : Cert.quiescent_Mixout := fun m ρ _ => Cert.Mixout.Gen.frame m ρ

theorem frame_ideal : Cert.quiescent_MixoutIdeal := fun m ρ _ => Cert.MixoutIdeal.Gen.frame m ρ

theorem frame_reference : Cert.quiescent_MixoutRefIdeal := fun m ρ _ =>
  (θ_run Cert.MixoutRefIdeal.defs _ _).mono (fun r h => ⟨fun c => (h c).2,
      Idealize.ShloMosaic.sem_eq_zero_of_no_sems (by decide) r.2⟩)
    (Cert.MixoutRefIdeal.Value.run (F := Ideal) m ρ)

/-- The kernel's result and the reference's are the same function of the same arguments. -/
theorem algebraic : Cert.algebraic_MixoutIdeal_MixoutRefIdeal := by
  intro m ρ m' ρ' _ hagree
  refine ⟨fun c => kernelOut m c, (θ_run _ _ _).mono (fun _ h c => ⟨(h c).1.trans (arr_eq m c), (h c).2⟩) (Cert.MixoutIdeal.Value.run_blocks (F := Ideal) m ρ), ?_⟩
  refine (θ_run _ _ _).mono (fun _ h c => ⟨(h c).1.trans ?_, (h c).2⟩) (Cert.MixoutRefIdeal.Value.run (F := Ideal) m' ρ')
  obtain ⟨h0, h1, h2, h3, h4, h5, h6, h7, h8, h9⟩ := hagree c
  rw [Cert.MixoutRefIdeal.Read.val_main_v33_eq, h0, h1, h2, h3, h4, h5, h6, h7, h8, h9]
  exact MixoutRef.ref_eq _ _ _ _ _ _ _ _ _ _

end Cert.Layer.Mixout

end
-- ==== Proof.FfnSample.Tile.lean ====
/-
  One grid point of the feed-forward part on the sample: what each step of its body computes of a row.
-/
module

public import proofs.«01_k».proof.Proof.Layer
public import proofs.«01_k».proof.Proof.Gen.FfnSampleIdeal.Skeleton
public import proofs.«01_k».proof.Proof.Gen.FfnSampleIdeal
public import Idealize.ShloMosaic.Lib.Pointwise

@[expose] public section

noncomputable section

namespace Cert.Layer.FfnSample

open Idealize.ShloMosaic
open Cert.FfnSampleIdeal Cert.FfnSampleIdeal.Gen
open scoped BigOperators

/-- The sample's result, from its arguments: every row has modulation vectors of its own. -/
def ffnAllSample (x : Vec Ideal ⟨2, ![32, 1024]⟩ .f32) (sh sc gate : Vec Ideal ⟨3, ![1, 32, 1024]⟩ .f32) (g : Vec Ideal ⟨2, ![1, 1024]⟩ .f32)
    (wu : Vec Ideal ⟨2, ![1024, 5632]⟩ .f32) (wd : Vec Ideal ⟨2, ![2816, 1024]⟩ .f32) (p : Fin 32) (n : Fin 1024) : EReal :=
  ffn (fun j => x (ix2 p j)) (fun j => sh (ix3 0 p j)) (fun j => sc (ix3 0 p j)) (fun j => gate (ix3 0 p j))
    (fun j => g (ix2 0 j)) (fun k f => wu (ix2 k f)) (fun f n => wd (ix2 f n)) n

/-- The modulated norm of the point's rows. -/
theorem norm_apply (x : Vec Ideal S32x1024 .f32) (g : Vec Ideal S1x1024 .f32) (sh sc : Vec Ideal S1x32x1024 .f32) (p : Fin 32) (k : Fin 1024) :
    k0_pay3 (F := Ideal) x g sh sc (ix2 p k)
      = normed (fun j => x (ix2 p j)) (fun j => g (ix2 0 j)) (fun j => sh (ix3 0 p j)) (fun j => sc (ix3 0 p j)) k := by
  pointwise [k0_pay3]
  rfl

/-- A chunk of hidden units added to what the chunks before left. -/
def chunk (h : FVec Ideal S32x1024 .bf16) (wa wb : Vec Ideal S1024x256 .bf16) (wd : Vec Ideal S256x1024 .bf16) (acc : Vec Ideal S32x1024 .f32) : FVec Ideal S32x1024 .f32 :=
  k0_pay6 (F := Ideal) h wa wb wd acc

theorem chunk_apply (h : FVec Ideal S32x1024 .bf16) (wa wb : Vec Ideal S1024x256 .bf16) (wd : Vec Ideal S256x1024 .bf16) (acc : Vec Ideal S32x1024 .f32)
    (p : Fin 32) (n : Fin 1024) :
    chunk h wa wb wd acc (ix2 p n)
      = acc (ix2 p n) + ∑ f : Fin 256, hidden (fun k => h (ix2 p k)) (fun k => wa (ix2 k f)) (fun k => wb (ix2 k f)) * wd (ix2 f n) := by
  unfold chunk
  pointwise [k0_pay6]
  rfl

/-- The first chunk of hidden units. -/
def first (h : FVec Ideal S32x1024 .bf16) (wa wb : Vec Ideal S1024x256 .bf16) (wd : Vec Ideal S256x1024 .bf16) : FVec Ideal S32x1024 .f32 :=
  k0_pay5 (F := Ideal) (k0_pay7 (F := Ideal) h wa wb wd)

theorem first_apply (h : FVec Ideal S32x1024 .bf16) (wa wb : Vec Ideal S1024x256 .bf16) (wd : Vec Ideal S256x1024 .bf16) (p : Fin 32) (n : Fin 1024) :
    first h wa wb wd (ix2 p n)
      = ∑ f : Fin 256, hidden (fun k => h (ix2 p k)) (fun k => wa (ix2 k f)) (fun k => wb (ix2 k f)) * wd (ix2 f n) := by
  unfold first
  pointwise [k0_pay5, k0_pay7]
  rfl

theorem last_apply (x : Vec Ideal S32x1024 .f32) (gate : Vec Ideal S1x32x1024 .f32) (acc : Vec Ideal S32x1024 .f32) (p : Fin 32) (n : Fin 1024) :
    k0_pay2 (F := Ideal) x gate acc (ix2 p n) = x (ix2 p n) + Ideal.ofBits .f32 0x3F000000#32 * gate (ix3 0 p n) * acc (ix2 p n) := by
  pointwise [k0_pay2]

end Cert.Layer.FfnSample

end
-- ==== Proof.FfnSample.Point.lean ====
/-
  What a grid point of the feed-forward part on the sample leaves in its block of the result.
-/
module

public import proofs.«01_k».proof.Proof.FfnSample.Tile
public import proofs.«01_k».proof.Proof.Gen.FfnSampleIdeal.Frame
public import Idealize.ShloMosaic.Lib.Pipeline.ReadBack

@[expose] public section

noncomputable section

namespace Cert.Layer.FfnSample

open Idealize.ShloMosaic Idealize.ShloMosaic.TcCoe
open Cert.FfnSampleIdeal Cert.FfnSampleIdeal.Gen
open scoped BigOperators

/-- A load after the fill of the whole accumulator reads the fill. -/
theorem readCov_acc (v : View sig .tc .vmem S32x1024 .f32) (Z : Vec Ideal S32x1024 .f32)
    (inb : ∀ a, (![0, 0] : Fin 2 → ℕ) a + (![32, 1024] : Fin 2 → ℕ) a ≤ S32x1024.size a) (L : List (View.Piece (Elt Ideal) S32x1024 .f32)) (r : Rect S32x1024) :
    v.readCov (Val := Elt Ideal) (⟨Rect.unit ![0, 0] ![32, 1024] inb, Z⟩ :: L) r.toLoadRect = View.ld Z r :=
  View.readCov_fill v inb Z L r (fun a => match a with | ⟨0, _⟩ => rfl | ⟨1, _⟩ => rfl)

theorem ld_x (x : Vec Ideal S32x1024 .f32) {inb} : View.ld x (Rect.unit ![0, 0] ![32, 1024] inb) = x :=
  View.ld_unit_zero (S := S32x1024) (by funext a; match a with | ⟨0, _⟩ => rfl | ⟨1, _⟩ => rfl) inb x

theorem ld_g (x : Vec Ideal S1x1024 .f32) {inb} : View.ld x (Rect.unit ![0, 0] ![1, 1024] inb) = x :=
  View.ld_unit_zero (S := S1x1024) (by funext a; match a with | ⟨0, _⟩ => rfl | ⟨1, _⟩ => rfl) inb x

theorem ld_m (x : Vec Ideal S1x32x1024 .f32) {inb} : View.ld x (Rect.unit ![0, 0, 0] ![1, 32, 1024] inb) = x :=
  View.ld_unit_zero (S := S1x32x1024) (by funext a; match a with | ⟨0, _⟩ => rfl | ⟨1, _⟩ => rfl | ⟨2, _⟩ => rfl) inb x

/-- The block of the result, from the point's blocks. -/
def outArr (x0 : Vec Ideal S32x1024 .f32) (x1 : Vec Ideal S1x32x1024 .f32) (x2 : Vec Ideal S1x32x1024 .f32) (x3 : Vec Ideal S1x32x1024 .f32) (x4 : Vec Ideal S1x1024 .f32) (x5 : Vec Ideal S1024x5632 .bf16) (x6 : Vec Ideal S2816x1024 .bf16) :
    Vec Ideal S32x1024 .f32 := fun y =>
  ffn (fun j => x0 (ix2 (y 0) j)) (fun j => x1 (ix3 0 (y 0) j)) (fun j => x2 (ix3 0 (y 0) j)) (fun j => x3 (ix3 0 (y 0) j)) (fun j => x4 (ix2 0 j))
    (fun k f => x5 (ix2 k f)) (fun f n => x6 (ix2 f n)) (y 1)

theorem ld_up (x : Vec Ideal S1024x5632 .bf16) {o : ℕ} (ho : o + 256 ≤ 5632) {inb} (k : Fin 1024) (f : Fin 256) :
    (View.ld x (Rect.unit ![0, o] ![1024, 256] inb) : Vec Ideal S1024x256 .bf16) (ix2 k f) = x (ix2 k ⟨o + f.val, by omega⟩) := by
  refine congrArg x (funext fun a => Fin.ext ?_)
  match a with
  | ⟨0, _⟩ => show 0 + 1 * k.val = k.val; omega
  | ⟨1, _⟩ => show o + 1 * f.val = o + f.val; omega

theorem ld_down (x : Vec Ideal S2816x1024 .bf16) {o : ℕ} (ho : o + 256 ≤ 2816) {inb} (f : Fin 256) (n : Fin 1024) :
    (View.ld x (Rect.unit ![o, 0] ![256, 1024] inb) : Vec Ideal S256x1024 .bf16) (ix2 f n) = x (ix2 ⟨o + f.val, by omega⟩ n) := by
  refine congrArg x (funext fun a => Fin.ext ?_)
  match a with
  | ⟨0, _⟩ => show o + 1 * f.val = o + f.val; omega
  | ⟨1, _⟩ => show 0 + 1 * n.val = n.val; omega

/-- What chunk `j` of the hidden units adds to an entry. -/
def part (h : FVec Ideal S32x1024 .bf16) (x5 : Vec Ideal S1024x5632 .bf16) (x6 : Vec Ideal S2816x1024 .bf16) (p : Fin 32) (n : Fin 1024) (j : Fin 11) : EReal :=
  ∑ i : Fin 256, ffTerm (fun k => h (ix2 p k)) (fun k f => x5 (ix2 k f)) (fun f n => x6 (ix2 f n)) n ⟨256 * j.val + i.val, by omega⟩

theorem part_eq (h : FVec Ideal S32x1024 .bf16) (x5 : Vec Ideal S1024x5632 .bf16) (x6 : Vec Ideal S2816x1024 .bf16) (p : Fin 32) (n : Fin 1024) (j : Fin 11)
    {oa ob od : ℕ} (ea : oa = 256 * j.val) (eb : ob = 2816 + 256 * j.val) (ed : od = 256 * j.val) {inba inbb inbd} :
    (∑ f : Fin 256, hidden (fun k => h (ix2 p k)) (fun k => (View.ld x5 (Rect.unit ![0, oa] ![1024, 256] inba) : Vec Ideal S1024x256 .bf16) (ix2 k f))
        (fun k => (View.ld x5 (Rect.unit ![0, ob] ![1024, 256] inbb) : Vec Ideal S1024x256 .bf16) (ix2 k f))
        * (View.ld x6 (Rect.unit ![od, 0] ![256, 1024] inbd) : Vec Ideal S256x1024 .bf16) (ix2 f n)) = part h x5 x6 p n j := by
  subst ea eb ed
  refine Finset.sum_congr rfl fun f _ => ?_
  have hj := j.isLt
  simp only [ld_up x5 (show 256 * j.val + 256 ≤ 5632 by omega), ld_up x5 (show 2816 + 256 * j.val + 256 ≤ 5632 by omega), ld_down x6 (show 256 * j.val + 256 ≤ 2816 by omega)]
  unfold ffTerm
  simp only [Nat.add_assoc]

theorem chunk_ld (h : FVec Ideal S32x1024 .bf16) (x5 : Vec Ideal S1024x5632 .bf16) (x6 : Vec Ideal S2816x1024 .bf16) (acc : Vec Ideal S32x1024 .f32) (p : Fin 32) (n : Fin 1024) (j : Fin 11)
    {oa ob od : ℕ} (ea : oa = 256 * j.val) (eb : ob = 2816 + 256 * j.val) (ed : od = 256 * j.val) {inba inbb inbd} :
    chunk h (View.ld x5 (Rect.unit ![0, oa] ![1024, 256] inba)) (View.ld x5 (Rect.unit ![0, ob] ![1024, 256] inbb)) (View.ld x6 (Rect.unit ![od, 0] ![256, 1024] inbd)) acc (ix2 p n)
      = acc (ix2 p n) + part h x5 x6 p n j :=
  (chunk_apply h _ _ _ acc p n).trans (congrArg _ (part_eq h x5 x6 p n j ea eb ed))

theorem first_ld (h : FVec Ideal S32x1024 .bf16) (x5 : Vec Ideal S1024x5632 .bf16) (x6 : Vec Ideal S2816x1024 .bf16) (p : Fin 32) (n : Fin 1024) {inba inbb inbd} :
    first h (View.ld x5 (Rect.unit ![0, 0] ![1024, 256] inba)) (View.ld x5 (Rect.unit ![0, 2816] ![1024, 256] inbb)) (View.ld x6 (Rect.unit ![0, 0] ![256, 1024] inbd)) (ix2 p n)
      = part h x5 x6 p n 0 :=
  (first_apply h _ _ _ p n).trans (part_eq h x5 x6 p n 0 rfl rfl rfl)

/-- The hidden units' total, chunk by chunk. -/
theorem parts (h : FVec Ideal S32x1024 .bf16) (x5 : Vec Ideal S1024x5632 .bf16) (x6 : Vec Ideal S2816x1024 .bf16) (p : Fin 32) (n : Fin 1024) :
    part h x5 x6 p n 0 + part h x5 x6 p n 1 + part h x5 x6 p n 2 + part h x5 x6 p n 3 + part h x5 x6 p n 4 + part h x5 x6 p n 5 + part h x5 x6 p n 6
        + part h x5 x6 p n 7 + part h x5 x6 p n 8 + part h x5 x6 p n 9 + part h x5 x6 p n 10
      = ∑ f, ffTerm (fun k => h (ix2 p k)) (fun k f => x5 (ix2 k f)) (fun f n => x6 (ix2 f n)) n f := by
  rw [sum_chunks, sum_eleven]
  rfl

/-- The accumulator when the last chunk is in. -/
def total (h : FVec Ideal S32x1024 .bf16) (x5 : Vec Ideal S1024x5632 .bf16) (x6 : Vec Ideal S2816x1024 .bf16) : FVec Ideal S32x1024 .f32 :=
    chunk h (View.ld x5 (Rect.unit ![0, 2560] ![1024, 256] inb_S1024x5632_S1024x256_0_2560)) (View.ld x5 (Rect.unit ![0, 5376] ![1024, 256] inb_S1024x5632_S1024x256_0_5376)) (View.ld x6 (Rect.unit ![2560, 0] ![256, 1024] inb_S2816x1024_S256x1024_2560_0))
      (chunk h (View.ld x5 (Rect.unit ![0, 2304] ![1024, 256] inb_S1024x5632_S1024x256_0_2304)) (View.ld x5 (Rect.unit ![0, 5120] ![1024, 256] inb_S1024x5632_S1024x256_0_5120)) (View.ld x6 (Rect.unit ![2304, 0] ![256, 1024] inb_S2816x1024_S256x1024_2304_0))
      (chunk h (View.ld x5 (Rect.unit ![0, 2048] ![1024, 256] inb_S1024x5632_S1024x256_0_2048)) (View.ld x5 (Rect.unit ![0, 4864] ![1024, 256] inb_S1024x5632_S1024x256_0_4864)) (View.ld x6 (Rect.unit ![2048, 0] ![256, 1024] inb_S2816x1024_S256x1024_2048_0))
      (chunk h (View.ld x5 (Rect.unit ![0, 1792] ![1024, 256] inb_S1024x5632_S1024x256_0_1792)) (View.ld x5 (Rect.unit ![0, 4608] ![1024, 256] inb_S1024x5632_S1024x256_0_4608)) (View.ld x6 (Rect.unit ![1792, 0] ![256, 1024] inb_S2816x1024_S256x1024_1792_0))
      (chunk h (View.ld x5 (Rect.unit ![0, 1536] ![1024, 256] inb_S1024x5632_S1024x256_0_1536)) (View.ld x5 (Rect.unit ![0, 4352] ![1024, 256] inb_S1024x5632_S1024x256_0_4352)) (View.ld x6 (Rect.unit ![1536, 0] ![256, 1024] inb_S2816x1024_S256x1024_1536_0))
      (chunk h (View.ld x5 (Rect.unit ![0, 1280] ![1024, 256] inb_S1024x5632_S1024x256_0_1280)) (View.ld x5 (Rect.unit ![0, 4096] ![1024, 256] inb_S1024x5632_S1024x256_0_4096)) (View.ld x6 (Rect.unit ![1280, 0] ![256, 1024] inb_S2816x1024_S256x1024_1280_0))
      (chunk h (View.ld x5 (Rect.unit ![0, 1024] ![1024, 256] inb_S1024x5632_S1024x256_0_1024)) (View.ld x5 (Rect.unit ![0, 3840] ![1024, 256] inb_S1024x5632_S1024x256_0_3840)) (View.ld x6 (Rect.unit ![1024, 0] ![256, 1024] inb_S2816x1024_S256x1024_1024_0))
      (chunk h (View.ld x5 (Rect.unit ![0, 768] ![1024, 256] inb_S1024x5632_S1024x256_0_768)) (View.ld x5 (Rect.unit ![0, 3584] ![1024, 256] inb_S1024x5632_S1024x256_0_3584)) (View.ld x6 (Rect.unit ![768, 0] ![256, 1024] inb_S2816x1024_S256x1024_768_0))
      (chunk h (View.ld x5 (Rect.unit ![0, 512] ![1024, 256] inb_S1024x5632_S1024x256_0_512)) (View.ld x5 (Rect.unit ![0, 3328] ![1024, 256] inb_S1024x5632_S1024x256_0_3328)) (View.ld x6 (Rect.unit ![512, 0] ![256, 1024] inb_S2816x1024_S256x1024_512_0))
      (chunk h (View.ld x5 (Rect.unit ![0, 256] ![1024, 256] inb_S1024x5632_S1024x256_0_256)) (View.ld x5 (Rect.unit ![0, 3072] ![1024, 256] inb_S1024x5632_S1024x256_0_3072)) (View.ld x6 (Rect.unit ![256, 0] ![256, 1024] inb_S2816x1024_S256x1024_256_0))
      (first h (View.ld x5 (Rect.unit ![0, 0] ![1024, 256] inb_S1024x5632_S1024x256_0_0)) (View.ld x5 (Rect.unit ![0, 2816] ![1024, 256] inb_S1024x5632_S1024x256_0_2816)) (View.ld x6 (Rect.unit ![0, 0] ![256, 1024] inb_S2816x1024_S256x1024_0_0))))))))))))

theorem total_apply (h : FVec Ideal S32x1024 .bf16) (x5 : Vec Ideal S1024x5632 .bf16) (x6 : Vec Ideal S2816x1024 .bf16) (p : Fin 32) (n : Fin 1024) :
    total h x5 x6 (ix2 p n) = ∑ f, ffTerm (fun k => h (ix2 p k)) (fun k f => x5 (ix2 k f)) (fun f n => x6 (ix2 f n)) n f := by
  unfold total
  rw [chunk_ld (j := 10) (oa := 2560) (ob := 5376) (od := 2560) _ _ _ _ _ _ rfl rfl rfl, chunk_ld (j := 9) (oa := 2304) (ob := 5120) (od := 2304) _ _ _ _ _ _ rfl rfl rfl, chunk_ld (j := 8) (oa := 2048) (ob := 4864) (od := 2048) _ _ _ _ _ _ rfl rfl rfl, chunk_ld (j := 7) (oa := 1792) (ob := 4608) (od := 1792) _ _ _ _ _ _ rfl rfl rfl, chunk_ld (j := 6) (oa := 1536) (ob := 4352) (od := 1536) _ _ _ _ _ _ rfl rfl rfl, chunk_ld (j := 5) (oa := 1280) (ob := 4096) (od := 1280) _ _ _ _ _ _ rfl rfl rfl, chunk_ld (j := 4) (oa := 1024) (ob := 3840) (od := 1024) _ _ _ _ _ _ rfl rfl rfl, chunk_ld (j := 3) (oa := 768) (ob := 3584) (od := 768) _ _ _ _ _ _ rfl rfl rfl, chunk_ld (j := 2) (oa := 512) (ob := 3328) (od := 512) _ _ _ _ _ _ rfl rfl rfl, chunk_ld (j := 1) (oa := 256) (ob := 3072) (od := 256) _ _ _ _ _ _ rfl rfl rfl, first_ld, parts]

theorem stored_eq (x0 : Vec Ideal S32x1024 .f32) (x1 x2 x3 : Vec Ideal S1x32x1024 .f32) (x4 : Vec Ideal S1x1024 .f32) (x5 : Vec Ideal S1024x5632 .bf16) (x6 : Vec Ideal S2816x1024 .bf16) :
    k0_pay2 (F := Ideal) x0 x3 (total (k0_pay3 (F := Ideal) x0 x4 x1 x2) x5 x6) = outArr x0 x1 x2 x3 x4 x5 x6 := by
  funext y
  obtain ⟨p, n, rfl⟩ : ∃ (p : Fin 32) (n : Fin 1024), y = ix2 p n := ⟨y 0, y 1, eq_ix2 y⟩
  rw [last_apply, total_apply, funext fun k => norm_apply x0 x4 x1 x2 p k]
  rfl

set_option maxHeartbeats 4000000 in
/-- The block of the result a point stores. -/
theorem out_eq (c : Dev nD) (i : grid0.Coords) (arg1 : Memref sig .tc .vmem S32x1024 .f32) (harg1 : arg1.IsWhole) (arg2 : Memref sig .tc .vmem S1x32x1024 .f32) (harg2 : arg2.IsWhole) (arg3 : Memref sig .tc .vmem S1x32x1024 .f32) (harg3 : arg3.IsWhole) (arg4 : Memref sig .tc .vmem S1x32x1024 .f32) (harg4 : arg4.IsWhole) (arg5 : Memref sig .tc .vmem S1x1024 .f32) (harg5 : arg5.IsWhole) (arg6 : Memref sig .tc .vmem S1024x5632 .bf16) (harg6 : arg6.IsWhole) (arg7 : Memref sig .tc .vmem S2816x1024 .bf16) (harg7 : arg7.IsWhole) (arg8 : Memref sig .tc .vmem S32x1024 .f32) (harg8 : arg8.IsWhole) (arg9 : Memref sig .tc .vmem S32x1024 .f32) (harg9 : arg9.IsWhole) (x0 : Vec Ideal S32x1024 .f32) (x1 : Vec Ideal S1x32x1024 .f32) (x2 : Vec Ideal S1x32x1024 .f32) (x3 : Vec Ideal S1x32x1024 .f32) (x4 : Vec Ideal S1x1024 .f32) (x5 : Vec Ideal S1024x5632 .bf16) (x6 : Vec Ideal S2816x1024 .bf16):
    out0_A_7 c i arg1 harg1 arg2 harg2 arg3 harg3 arg4 harg4 arg5 harg5 arg6 harg6 arg7 harg7 arg8 harg8 arg9 harg9 x0 x1 x2 x3 x4 x5 x6 = outArr x0 x1 x2 x3 x4 x5 x6 := by
  unfold out0_A_7
  rw [View.read_writes_eq_canon _ _ _ (cover0_A_7 c i arg1 harg1 arg2 harg2 arg3 harg3 arg4 harg4 arg5 harg5 arg6 harg6 arg7 harg7 arg8 harg8 arg9 harg9 x0 x1 x2 x3 x4 x5 x6)]
  funext y
  refine View.canon_apply_of_pieces _ _ (View.PiecesOf.mem ?_) y (cover0_A_7 c i arg1 harg1 arg2 harg2 arg3 harg3 arg4 harg4 arg5 harg5 arg6 harg6 arg7 harg7 arg8 harg8 arg9 harg9 x0 x1 x2 x3 x4 x5 x6 y)
  unfold kernelRun0_A
  dsimp only
  sl_unfold_words
  simp (disch := decide) only [View.readAt_eq_ld, harg1.read_unread, harg2.read_unread, harg3.read_unread, harg4.read_unread, harg5.read_unread, harg6.read_unread, harg7.read_unread, harg9.read_unread,
    ↓View.readCov_skip, ↓readCov_acc, ld_x, ld_g, ld_m]
  refine ⟨fun z => ?_, trivial⟩
  have e := congrFun (stored_eq x0 x1 x2 x3 x4 x5 x6) z
  have ez : (Rect.unit ![0, 0] ![32, 1024] inb_S32x1024_S32x1024_0_0 : Rect S32x1024).emb z = z := by
    refine funext fun a => Fin.ext ?_
    match a with
    | ⟨0, _⟩ => show 0 + 1 * (z 0).val = (z 0).val; omega
    | ⟨1, _⟩ => show 0 + 1 * (z 1).val = (z 1).val; omega
  exact e.trans (congrArg (outArr x0 x1 x2 x3 x4 x5 x6) ez.symm)

end Cert.Layer.FfnSample

end
-- ==== Proof.FfnSample.Fold.lean ====
/-
  The sample's feed-forward result: the one grid point makes all 32 rows of it, each from the same row of the input and its own
  modulation vectors.
-/
module

public import proofs.«01_k».proof.Proof.FfnSample.Point
public import proofs.«01_k».proof.Proof.Gen.FfnSampleIdeal.Value

@[expose] public section

noncomputable section

namespace Cert.Layer.FfnSample

open Idealize.ShloMosaic Idealize.ShloMosaic.TcCoe
open Cert.FfnSampleIdeal Cert.FfnSampleIdeal.Gen

variable (m : (ℓ : Loc nD τ sig) → Buf (Elt Ideal) ℓ) (c : Dev nD)

def xArg : Vec Ideal S32x1024 .f32 := m ((c : Thread nD τ).loc main_arg0)
def shArg : Vec Ideal S1x32x1024 .f32 := m ((c : Thread nD τ).loc main_arg1)
def scArg : Vec Ideal S1x32x1024 .f32 := m ((c : Thread nD τ).loc main_arg2)
def gateArg : Vec Ideal S1x32x1024 .f32 := m ((c : Thread nD τ).loc main_arg3)
def gArg : Vec Ideal S1x1024 .f32 := m ((c : Thread nD τ).loc main_arg4)
def upArg : Vec Ideal S1024x5632 .f32 := m ((c : Thread nD τ).loc main_arg5)
def downArg : Vec Ideal S2816x1024 .f32 := m ((c : Thread nD τ).loc main_arg6)

/-- The kernel's result, as a function of its arguments. -/
def kernelOut : Vec Ideal S32x1024 .f32 := fun i =>
  ffnAllSample (xArg m c) (shArg m c) (scArg m c) (gateArg m c) (gArg m c) (upArg m c) (downArg m c) (i 0) (i 1)

theorem V_up : (V m c main_v0 : Vec Ideal S1024x5632 .bf16) = upArg m c := by
  dsimp only [V, List.flatten_cons, List.flatten_nil, List.cons_append, List.nil_append, List.append_nil]
  after_results
  rfl

theorem V_down : (V m c main_v1 : Vec Ideal S2816x1024 .bf16) = downArg m c := by
  dsimp only [V, List.flatten_cons, List.flatten_nil, List.cons_append, List.nil_append, List.append_nil]
  after_results
  rfl

theorem point_zero (t : Fin cfg0.N) : t.val = 0 := by
  have : t.val < 1 := lt_of_lt_of_eq t.isLt N_0
  omega

theorem index0 : ∀ t : Fin cfg0.N, win0_0.index t (0 : Fin 2) = t.val ∧ win0_0.index t (1 : Fin 2) = 0 :=
  (by decide +kernel : ∀ t : Fin grid0.N, _)
theorem index1 : ∀ t : Fin cfg0.N, win0_1.index t (0 : Fin 3) = 0 ∧ win0_1.index t (1 : Fin 3) = 0 ∧ win0_1.index t (2 : Fin 3) = 0 :=
  (by decide +kernel : ∀ t : Fin grid0.N, _)
theorem index2 : ∀ t : Fin cfg0.N, win0_2.index t (0 : Fin 3) = 0 ∧ win0_2.index t (1 : Fin 3) = 0 ∧ win0_2.index t (2 : Fin 3) = 0 :=
  (by decide +kernel : ∀ t : Fin grid0.N, _)
theorem index3 : ∀ t : Fin cfg0.N, win0_3.index t (0 : Fin 3) = 0 ∧ win0_3.index t (1 : Fin 3) = 0 ∧ win0_3.index t (2 : Fin 3) = 0 :=
  (by decide +kernel : ∀ t : Fin grid0.N, _)
theorem index4 : ∀ t : Fin cfg0.N, win0_4.index t (0 : Fin 2) = 0 ∧ win0_4.index t (1 : Fin 2) = 0 :=
  (by decide +kernel : ∀ t : Fin grid0.N, _)
theorem index5 : ∀ t : Fin cfg0.N, win0_5.index t (0 : Fin 2) = 0 ∧ win0_5.index t (1 : Fin 2) = 0 :=
  (by decide +kernel : ∀ t : Fin grid0.N, _)
theorem index6 : ∀ t : Fin cfg0.N, win0_6.index t (0 : Fin 2) = 0 ∧ win0_6.index t (1 : Fin 2) = 0 :=
  (by decide +kernel : ∀ t : Fin grid0.N, _)
theorem index7 : ∀ t : Fin cfg0.N, win0_7.index t (0 : Fin 2) = t.val ∧ win0_7.index t (1 : Fin 2) = 0 :=
  (by decide +kernel : ∀ t : Fin grid0.N, _)

theorem x_apply (t : Fin cfg0.N) (p : Fin 32) (j : Fin 1024) : (iblk m c 0 t : Vec Ideal S32x1024 .f32) (ix2 p j) = xArg m c (ix2 p j) := by
  obtain ⟨e0, e1⟩ := index0 t
  refine (congrArg (V m c main_arg0 : Vec Ideal S32x1024 .f32) (funext fun a => Fin.ext ?_)).trans (congrFun (V_main_arg0 m c) _)
  match a with
  | ⟨0, _⟩ => show win0_0.index t (0 : Fin 2) * 32 + 1 * p.val = p.val; have := point_zero t; omega
  | ⟨1, _⟩ => show win0_0.index t (1 : Fin 2) * 1024 + 1 * j.val = j.val; omega

theorem sh_apply (t : Fin cfg0.N) (p : Fin 32) (j : Fin 1024) :
    (iblk m c 1 t : Vec Ideal S1x32x1024 .f32) (ix3 0 p j) = shArg m c (ix3 0 p j) := by
  obtain ⟨e0, e1, e2⟩ := index1 t
  refine (congrArg (V m c main_arg1 : Vec Ideal S1x32x1024 .f32) (funext fun a => Fin.ext ?_)).trans (congrFun (V_main_arg1 m c) _)
  match a with
  | ⟨0, _⟩ => show win0_1.index t (0 : Fin 3) * 1 + 1 * 0 = 0; omega
  | ⟨1, _⟩ => show win0_1.index t (1 : Fin 3) * 32 + 1 * p.val = p.val; omega
  | ⟨2, _⟩ => show win0_1.index t (2 : Fin 3) * 1024 + 1 * j.val = j.val; omega

theorem sc_apply (t : Fin cfg0.N) (p : Fin 32) (j : Fin 1024) :
    (iblk m c 2 t : Vec Ideal S1x32x1024 .f32) (ix3 0 p j) = scArg m c (ix3 0 p j) := by
  obtain ⟨e0, e1, e2⟩ := index2 t
  refine (congrArg (V m c main_arg2 : Vec Ideal S1x32x1024 .f32) (funext fun a => Fin.ext ?_)).trans (congrFun (V_main_arg2 m c) _)
  match a with
  | ⟨0, _⟩ => show win0_2.index t (0 : Fin 3) * 1 + 1 * 0 = 0; omega
  | ⟨1, _⟩ => show win0_2.index t (1 : Fin 3) * 32 + 1 * p.val = p.val; omega
  | ⟨2, _⟩ => show win0_2.index t (2 : Fin 3) * 1024 + 1 * j.val = j.val; omega

theorem gate_apply (t : Fin cfg0.N) (p : Fin 32) (j : Fin 1024) :
    (iblk m c 3 t : Vec Ideal S1x32x1024 .f32) (ix3 0 p j) = gateArg m c (ix3 0 p j) := by
  obtain ⟨e0, e1, e2⟩ := index3 t
  refine (congrArg (V m c main_arg3 : Vec Ideal S1x32x1024 .f32) (funext fun a => Fin.ext ?_)).trans (congrFun (V_main_arg3 m c) _)
  match a with
  | ⟨0, _⟩ => show win0_3.index t (0 : Fin 3) * 1 + 1 * 0 = 0; omega
  | ⟨1, _⟩ => show win0_3.index t (1 : Fin 3) * 32 + 1 * p.val = p.val; omega
  | ⟨2, _⟩ => show win0_3.index t (2 : Fin 3) * 1024 + 1 * j.val = j.val; omega

theorem g_apply (t : Fin cfg0.N) (j : Fin 1024) : (iblk m c 4 t : Vec Ideal S1x1024 .f32) (ix2 0 j) = gArg m c (ix2 0 j) := by
  obtain ⟨e0, e1⟩ := index4 t
  refine (congrArg (V m c main_arg4 : Vec Ideal S1x1024 .f32) (funext fun a => Fin.ext ?_)).trans (congrFun (V_main_arg4 m c) _)
  match a with
  | ⟨0, _⟩ => show win0_4.index t (0 : Fin 2) * 1 + 1 * 0 = 0; omega
  | ⟨1, _⟩ => show win0_4.index t (1 : Fin 2) * 1024 + 1 * j.val = j.val; omega

theorem up_apply (t : Fin cfg0.N) (k : Fin 1024) (f : Fin 5632) : (iblk m c 5 t : Vec Ideal S1024x5632 .bf16) (ix2 k f) = upArg m c (ix2 k f) := by
  obtain ⟨e0, e1⟩ := index5 t
  refine (congrArg (V m c main_v0 : Vec Ideal S1024x5632 .bf16) (funext fun a => Fin.ext ?_)).trans (congrFun (V_up m c) _)
  match a with
  | ⟨0, _⟩ => show win0_5.index t (0 : Fin 2) * 1024 + 1 * k.val = k.val; omega
  | ⟨1, _⟩ => show win0_5.index t (1 : Fin 2) * 5632 + 1 * f.val = f.val; omega

theorem down_apply (t : Fin cfg0.N) (f : Fin 2816) (n : Fin 1024) : (iblk m c 6 t : Vec Ideal S2816x1024 .bf16) (ix2 f n) = downArg m c (ix2 f n) := by
  obtain ⟨e0, e1⟩ := index6 t
  refine (congrArg (V m c main_v1 : Vec Ideal S2816x1024 .bf16) (funext fun a => Fin.ext ?_)).trans (congrFun (V_down m c) _)
  match a with
  | ⟨0, _⟩ => show win0_6.index t (0 : Fin 2) * 2816 + 1 * f.val = f.val; omega
  | ⟨1, _⟩ => show win0_6.index t (1 : Fin 2) * 1024 + 1 * n.val = n.val; omega

/-- What a point stores is its rows of the result. -/
theorem outArr_apply (t : Fin cfg0.N) (p : Fin 32) (n : Fin 1024) :
    outArr (iblk m c 0 t) (iblk m c 1 t) (iblk m c 2 t) (iblk m c 3 t) (iblk m c 4 t) (iblk m c 5 t) (iblk m c 6 t) (ix2 p n)
      = kernelOut m c (ix2 p n) := by
  show ffn (fun j => (iblk m c 0 t : Vec Ideal S32x1024 .f32) (ix2 p j)) (fun j => (iblk m c 1 t : Vec Ideal S1x32x1024 .f32) (ix3 0 p j))
      (fun j => (iblk m c 2 t : Vec Ideal S1x32x1024 .f32) (ix3 0 p j)) (fun j => (iblk m c 3 t : Vec Ideal S1x32x1024 .f32) (ix3 0 p j))
      (fun j => (iblk m c 4 t : Vec Ideal S1x1024 .f32) (ix2 0 j)) (fun k f => (iblk m c 5 t : Vec Ideal S1024x5632 .bf16) (ix2 k f))
      (fun f n => (iblk m c 6 t : Vec Ideal S2816x1024 .bf16) (ix2 f n)) n
    = ffnAllSample (xArg m c) (shArg m c) (scArg m c) (gateArg m c) (gArg m c) (upArg m c) (downArg m c) p n
  simp only [x_apply m c t p, sh_apply m c t p, sc_apply m c t p, gate_apply m c t p, g_apply m c t, up_apply m c t, down_apply m c t]
  rfl

theorem flushed_eq (t : Fin cfg0.N) :
    (dats m 0 c).flushed 7 t = ((cfg0.win 7).blk t).view.read (Elt Ideal) (kernelOut m c) := by
  rw [Value.flushed7_A, out_eq]
  funext y
  obtain ⟨p, n, hy⟩ : ∃ (p : Fin 32) (n : Fin 1024), (cfg0.win 7).xinj (grid0.coords t) y = ix2 p n :=
    ⟨_, _, eq_ix2 (n0 := 32) (n1 := 1024) _⟩
  show outArr _ _ _ _ _ _ _ ((cfg0.win 7).xinj (grid0.coords t) y) = kernelOut m c (((cfg0.win 7).blk t).view.emb y)
  rw [hy, outArr_apply]
  obtain ⟨e0, e1⟩ := index7 t
  have h0 : (y 0).val = p.val := congrArg Fin.val (congrFun hy 0)
  have h1 : (y 1).val = n.val := congrArg Fin.val (congrFun hy 1)
  refine congrArg (kernelOut m c) (funext fun a => Fin.ext ?_)
  match a with
  | ⟨0, _⟩ => have := point_zero t; show p.val = win0_7.index t (0 : Fin 2) * 32 + 1 * (y 0).val; omega
  | ⟨1, _⟩ => show n.val = win0_7.index t (1 : Fin 2) * 1024 + 1 * (y 1).val; omega

theorem cover (i : S32x1024.Idx) : ∃ t : Fin cfg0.N, (cfg0.win 7).flush t = true ∧ i ∈ ((cfg0.win 7).blk t).view.set := by
  have h0 : (i 0).val < 32 := (i 0).isLt
  have h1 : (i 1).val < 1024 := (i 1).isLt
  obtain ⟨t, et⟩ : ∃ t : Fin cfg0.N, t.val = (i 0).val / 32 := ⟨⟨_, lt_of_lt_of_eq (show (i 0).val / 32 < 1 by omega) N_0.symm⟩, rfl⟩
  refine ⟨t, flush0_7 t, ?_⟩
  obtain ⟨e0, e1⟩ := index7 t
  show i ∈ ((View.whole main_v2).slice (win0_7.rect t)).set
  rw [View.set_slice_whole, Rect.mem_set_unit]
  intro a
  match a with
  | ⟨0, _⟩ =>
    show win0_7.index t (0 : Fin 2) * 32 ≤ (i 0).val ∧ (i 0).val < win0_7.index t (0 : Fin 2) * 32 + 32
    rw [e0]; omega
  | ⟨1, _⟩ =>
    show win0_7.index t (1 : Fin 2) * 1024 ≤ (i 1).val ∧ (i 1).val < win0_7.index t (1 : Fin 2) * 1024 + 1024
    rw [e1]; omega

/-- The kernel's result. -/
theorem arr_eq : (dats m 0 c).arrAt 7 cfg0.N = kernelOut m c :=
  (dats m 0 c).arrAt_eq_of_cover 7 _ (fun t _ => flushed_eq m c t) cover

end Cert.Layer.FfnSample

end
-- ==== Proof.FfnSample.Ref.lean ====
/-
  The sample's feed-forward reference's result, read at an index.
-/
module

public import proofs.«01_k».proof.Proof.FfnSample.Tile
public import proofs.«01_k».proof.Proof.Gen.FfnSampleRefIdeal.Read
public import Idealize.ShloMosaic.Lib.Pointwise

@[expose] public section

noncomputable section

namespace Cert.Layer.FfnSampleRef

open Idealize.ShloMosaic Idealize.ShloMosaic.TcCoe
open Cert.FfnSampleRefIdeal Cert.FfnSampleRefIdeal.Gen Cert.FfnSampleRefIdeal.Read
open Cert.Layer.FfnSample
open scoped BigOperators

variable (x : Vec Ideal S32x1024 .f32) (sh sc gate : Vec Ideal S1x32x1024 .f32) (g : Vec Ideal S1x1024 .f32)
  (wu : Vec Ideal S1024x5632 .f32) (wd : Vec Ideal S2816x1024 .f32)

theorem x_apply (b : Fin 32) (k : Fin 1024) : val_main_v0 (F := Ideal) x (ix3 b 0 k) = x (ix2 b k) := by
  rw [val_main_v0_apply]
  refine congrArg x (funext fun a => Fin.ext ?_)
  match a with
  | ⟨0, _⟩ => show ((b.val * 1 + 0) * 1024 + k.val) / 1024 = b.val; omega
  | ⟨1, _⟩ => show ((b.val * 1 + 0) * 1024 + k.val) % 1024 = k.val; omega

theorem sh_apply (b : Fin 32) (k : Fin 1024) : val_main_v1 (F := Ideal) sh (ix3 b 0 k) = sh (ix3 0 b k) := by
  pointwise [val_main_v1]

theorem sc_apply (b : Fin 32) (k : Fin 1024) : val_main_v2 (F := Ideal) sc (ix3 b 0 k) = sc (ix3 0 b k) := by
  pointwise [val_main_v2]

theorem gate_apply (b : Fin 32) (k : Fin 1024) : val_main_v3 (F := Ideal) gate (ix3 b 0 k) = gate (ix3 0 b k) := by
  pointwise [val_main_v3]

theorem g_apply (k : Fin 1024) : val_main_v6 (F := Ideal) g (ix1 k) = g (ix2 0 k) := by
  rw [val_main_v6_apply]
  refine congrArg g (funext fun a => Fin.ext ?_)
  match a with
  | ⟨0, _⟩ => rfl
  | ⟨1, _⟩ => show k.val % 1024 = k.val; omega

theorem norm_apply (b : Fin 32) (k : Fin 1024) :
    val_main_v23 (F := Ideal) x sh sc g (ix3 b 0 k)
      = normed (fun j => x (ix2 b j)) (fun j => g (ix2 0 j)) (fun j => sh (ix3 0 b j)) (fun j => sc (ix3 0 b j)) k := by
  have hx := x_apply x b
  have hg := g_apply g
  have hsh := sh_apply sh b
  have hsc := sc_apply sc b
  unfold val_main_v23 val_main_v22 val_main_v21 val_main_v19 val_main_v18 val_main_v17 val_main_v16 val_main_v15 val_main_v14 val_main_v13 val_main_v11 val_main_v9 val_main_v8 val_main_v7
  generalize val_main_v0 (F := Ideal) x = X at hx ⊢
  generalize val_main_v1 (F := Ideal) sh = SH at hsh ⊢
  generalize val_main_v2 (F := Ideal) sc = SC at hsc ⊢
  generalize val_main_v6 (F := Ideal) g = G at hg ⊢
  pointwise [val_main_v20, val_main_cst_3, val_main_v12, val_main_cst_2, val_main_v10, val_main_cst_1, val_main_cst_0]
  simp only [hx, hg, hsh, hsc]
  rfl

theorem hidden_apply (b : Fin 32) (f : Fin 2816) :
    val_main_v28 (F := Ideal) x sh sc g wu (ix3 b 0 f)
      = hidden (normed (fun j => x (ix2 b j)) (fun j => g (ix2 0 j)) (fun j => sh (ix3 0 b j)) (fun j => sc (ix3 0 b j)))
        (fun k => wu (ix2 k ⟨f.val, by omega⟩)) (fun k => wu (ix2 k ⟨2816 + f.val, by omega⟩)) := by
  have hn := norm_apply x sh sc g b
  unfold val_main_v28 val_main_v27 val_main_call0_v5 val_main_call0_v3 val_main_call0_v1 val_main_call0_v0 val_main_v26 val_main_v25 val_main_v24
  generalize val_main_v23 (F := Ideal) x sh sc g = N at hn ⊢
  pointwise [val_main_call0_v4, val_main_call0_v2, val_main_call0_cst, val_main_call0_cst_0]
  simp only [hn]
  rfl

theorem result_apply (b : Fin 32) (n : Fin 1024) :
    val_main_v31 (F := Ideal) x sh sc gate g wu wd (ix3 b 0 n) = ffnAllSample x sh sc gate g wu wd b n := by
  have hx := x_apply x b
  have hg := gate_apply gate b
  have hh := hidden_apply x sh sc g wu b
  unfold val_main_v31 val_main_v30 val_main_v29 val_main_v5
  generalize val_main_v0 (F := Ideal) x = X at hx ⊢
  generalize val_main_v3 (F := Ideal) gate = GT at hg ⊢
  generalize val_main_v28 (F := Ideal) x sh sc g wu = H at hh ⊢
  pointwise [val_main_v4, val_main_cst]
  simp only [hx, hh, hg]
  rfl

/-- The reference's result. -/
theorem ref_eq : val_main_v32 (F := Ideal) x sh sc gate g wu wd = fun i => ffnAllSample x sh sc gate g wu wd (i 0) (i 1) := by
  funext i
  obtain ⟨p, n, rfl⟩ : ∃ (p : Fin 32) (n : Fin 1024), i = ix2 p n := ⟨i 0, i 1, eq_ix2 i⟩
  rw [val_main_v32_apply]
  have e : idx_main_v32 (ix2 p n) = ix3 p (0 : Fin 1) n := by
    funext a
    refine Fin.ext ?_
    match a with
    | ⟨0, _⟩ => show (p.val * 1024 + n.val) / 1024 = p.val; omega
    | ⟨1, _⟩ => rfl
    | ⟨2, _⟩ => show (p.val * 1024 + n.val) % 1024 = n.val; omega
  rw [e, result_apply]
  rfl

end Cert.Layer.FfnSampleRef

end
-- ==== Proof.FfnSample.Claims.lean ====
/-
  The feed-forward part on the sample's claims.
-/
module

public import proofs.«01_k».proof.Defs
public import proofs.«01_k».proof.Proof.FfnSample.Fold
public import proofs.«01_k».proof.Proof.FfnSample.Ref
public import proofs.«01_k».proof.Proof.Gen.FfnSample
public import proofs.«01_k».proof.Proof.Gen.FfnSample.Frame
public import proofs.«01_k».proof.Proof.Gen.FfnSampleIdeal
public import proofs.«01_k».proof.Proof.Gen.FfnSampleRefIdeal

@[expose] public section

noncomputable section

namespace Cert.Layer.FfnSample

open Idealize.ShloMosaic Idealize.ShloMosaic.TcCoe
open Idealize.SL.Sem

theorem frame_kernel : Cert.quiescent_FfnSample := fun m ρ _ => Cert.FfnSample.Gen.frame m ρ

theorem frame_ideal : Cert.quiescent_FfnSampleIdeal := fun m ρ _ => Cert.FfnSampleIdeal.Gen.frame m ρ

theorem frame_reference : Cert.quiescent_FfnSampleRefIdeal := fun m ρ _ =>
  (θ_run Cert.FfnSampleRefIdeal.defs _ _).mono (fun r h => ⟨fun c => (h c).2,
      Idealize.ShloMosaic.sem_eq_zero_of_no_sems (by decide) r.2⟩)
    (Cert.FfnSampleRefIdeal.Value.run (F := Ideal) m ρ)

/-- The kernel's result and the reference's are the same function of the same arguments. -/
theorem algebraic : Cert.algebraic_FfnSampleIdeal_FfnSampleRefIdeal := by
  intro m ρ m' ρ' _ hagree
  refine ⟨fun c => kernelOut m c, (θ_run _ _ _).mono (fun _ h c => ⟨(h c).1.trans (arr_eq m c), (h c).2⟩) (Cert.FfnSampleIdeal.Value.run_blocks (F := Ideal) m ρ), ?_⟩
  refine (θ_run _ _ _).mono (fun _ h c => ⟨(h c).1.trans ?_, (h c).2⟩) (Cert.FfnSampleRefIdeal.Value.run (F := Ideal) m' ρ')
  obtain ⟨h0, h1, h2, h3, h4, h5, h6⟩ := hagree c
  rw [Cert.FfnSampleRefIdeal.Read.val_main_v32_eq, h0, h1, h2, h3, h4, h5, h6]
  exact FfnSampleRef.ref_eq _ _ _ _ _ _ _

end Cert.Layer.FfnSample

end
-- ==== Proof.RetSample.Tile.lean ====
/-
  The retention on the sample: what one head's copy of the kernel's work stores, entry by entry.  The body does the same
  work for each of four heads; `newState` is the state a copy stores and `outBlock` the block of the result, as functions of
  what the copy loads: the rotation tables `cb`, `sb`, the head's row of log decays `lg`, the blocks `q`, `k`, `v`, `g` of
  the projection and the state `s`.
-/
module

public import proofs.«01_k».proof.Proof.Spec
public import proofs.«01_k».proof.Proof.Gen.RetSampleIdeal.Skeleton
public import Idealize.ShloMosaic.Lib.Pointwise

@[expose] public section

noncomputable section

namespace Cert.Layer.RetSample

open Idealize.ShloMosaic Idealize.ShloMosaic.TcCoe
open Cert.RetSampleIdeal Cert.RetSampleIdeal.Gen
open Cert.Retention (rotate partner cScale gated)
open scoped BigOperators

/-- The retention's output at one position, before it is normalised and gated: what the position itself gives, and what the
    state before it gives. -/
def stepOut (L : EReal) (Q K : Fin 128 → EReal) (V : Fin 256 → EReal) (S : Fin 128 → Fin 256 → EReal) (e : Fin 256) : EReal :=
  (∑ d, Q d * K d) * V e + (∑ d, Q d * S d e) * Ideal.exp L

/-- The state after one position. -/
def stepState (L : EReal) (K : Fin 128 → EReal) (V : Fin 256 → EReal) (S : Fin 128 → Fin 256 → EReal) (d : Fin 128) (e : Fin 256) : EReal :=
  Ideal.exp L * S d e + K d * V e

section vocabulary

variable {F : FTy → Type} [FloatOps F]

/-- The state a copy stores. -/
def newState (cb sb lg : Vec F S1x128 .f32) (k : Vec F S1x1x128 .f32) (v : Vec F S1x1x256 .f32) (s : Vec F S1x1x1x128x256 .f32) :
    FVec F S1x1x128x256 .f32 :=
  k0_pay13 (k0_pay6 v) (k0_pay9 lg) (k0_pay11 cb sb k) s

/-- The block of the result a copy stores. -/
def outBlock (cb sb lg : Vec F S1x128 .f32) (q k : Vec F S1x1x128 .f32) (v g : Vec F S1x1x256 .f32) (s : Vec F S1x1x1x128x256 .f32) :
    FVec F S1x1x256 .bf16 :=
  k0_pay15 (k0_pay14 (k0_pay6 v) (k0_pay7 cb sb q) (k0_pay8 cb sb k) (k0_pay9 lg) (k0_pay10 cb sb q) s g)

variable (cb sb lg : Vec F S1x128 .f32) (q k : Vec F S1x1x128 .f32) (v g : Vec F S1x1x256 .f32) (s : Vec F S1x1x1x128x256 .f32)

theorem state_1 : k0_pay23 (k0_pay16 v) (k0_pay19 lg) (k0_pay21 (k0_pay3 cb) (k0_pay4 sb) k0_pay5 k) s = newState cb sb lg k v s := rfl

theorem state_2 : k0_pay33 (k0_pay25 v) (k0_pay28 lg) (k0_pay30 (k0_pay3 cb) (k0_pay4 sb) k0_pay5 k) (k0_pay31 s) = newState cb sb lg k v s := rfl

theorem state_3 : k0_pay1 (k0_pay36 v) (k0_pay39 lg) (k0_pay40 (k0_pay3 cb) (k0_pay4 sb) k0_pay5 k) (k0_pay41 s) = newState cb sb lg k v s := rfl

theorem out_1 : k0_pay24 (k0_pay16 v) (k0_pay17 (k0_pay3 cb) (k0_pay4 sb) q) (k0_pay18 (k0_pay3 cb) (k0_pay4 sb) k) (k0_pay19 lg)
    (k0_pay20 (k0_pay3 cb) (k0_pay4 sb) k0_pay5 q) s g = outBlock cb sb lg q k v g s := rfl

theorem out_2 : k0_pay34 (k0_pay25 v) (k0_pay28 lg) (k0_pay29 (k0_pay3 cb) (k0_pay4 sb) k0_pay5 q) (k0_pay31 s)
    (k0_pay32 (k0_pay3 cb) (k0_pay4 sb) q k) g = outBlock cb sb lg q k v g s := rfl

theorem out_3 : k0_pay2 (k0_pay42 (k0_pay3 cb) (k0_pay4 sb) (k0_pay35 q) k v) (k0_pay43 (k0_pay3 cb) (k0_pay4 sb) k0_pay5 (k0_pay35 q) lg s) g
    = outBlock cb sb lg q k v g s := rfl

end vocabulary

variable (cb sb lg : Vec Ideal S1x128 .f32) (q k : Vec Ideal S1x1x128 .f32) (v g : Vec Ideal S1x1x256 .f32) (s : Vec Ideal S1x1x1x128x256 .f32)

/-- The rotated q of the block. -/
def blockQ (d : Fin 128) : EReal := rotate (fun d => cb (ix2 0 d)) (fun d => sb (ix2 0 d)) (fun d => q (ix3 0 0 d)) d

/-- The rotated and scaled k of the block. -/
def blockK (d : Fin 128) : EReal := rotate (fun d => cb (ix2 0 d)) (fun d => sb (ix2 0 d)) (fun d => k (ix3 0 0 d)) d * cScale

theorem rotQ_apply (d : Fin 128) : k0_pay7 cb sb q (ix2 0 d) = blockQ cb sb q d := by
  unfold blockQ rotate partner
  pointwise [k0_pay7, k0_pay3, k0_pay4]

theorem rotK_apply (d : Fin 128) : k0_pay8 cb sb k (ix2 0 d) = blockK cb sb k d := by
  unfold blockK rotate partner cScale
  pointwise [k0_pay8, k0_pay3, k0_pay4]

/-- A word is another's where the numbers are. -/
theorem select_diag : ∀ i j : Fin 128, IntOp.cmpi .eq (BitVec.ofNat 32 i.val) (BitVec.ofNat 32 j.val) = if i = j then 1#1 else 0#1 := by
  decide +kernel

/-- What is selected on the diagonal. -/
theorem diag (i j : Fin 128) (x : EReal) :
    Scalar.select (IntOp.cmpi .eq (BitVec.ofNat 32 i.val) (BitVec.ofNat 32 j.val)) x 0 = if i = j then x else 0 := by
  rw [select_diag]
  by_cases h : i = j
  · rw [if_pos h, if_pos h, ValueIdx.select_one]
  · rw [if_neg h, if_neg h, ValueIdx.select_zero]

theorem colQ_apply (d : Fin 128) : k0_pay10 cb sb q (ix2 d 0) = blockQ cb sb q d := by
  have h := rotQ_apply cb sb q
  unfold k0_pay10
  generalize k0_pay7 cb sb q = Q at h ⊢
  pointwise [k0_pay5]
  simp only [h, diag, Finset.sum_ite_eq, Finset.mem_univ, if_true]

theorem diagK_apply (i j : Fin 128) : k0_pay11 cb sb k (ix2 i j) = if i = j then blockK cb sb k j else 0 := by
  have h := rotK_apply cb sb k
  unfold k0_pay11
  generalize k0_pay8 cb sb k = K at h ⊢
  pointwise [k0_pay5]
  simp only [h, diag]

variable {cb sb lg q k v g s} {L : EReal} (hlg : ∀ l, lg (ix2 0 l) = L)

include hlg in
theorem gamma_apply (e : Fin 256) : k0_pay9 lg (ix2 0 e) = Ideal.exp L := by
  pointwise [k0_pay9]
  simp only [hlg, dite_eq_ite, ite_self]

include hlg in
/-- The state a copy stores. -/
theorem newState_apply (d : Fin 128) (e : Fin 256) : newState cb sb lg k v s (ix4 0 0 d e)
    = stepState L (blockK cb sb k) (fun e => v (ix3 0 0 e)) (fun d e => s (ix5 0 0 0 d e)) d e := by
  have hk := diagK_apply cb sb k
  have hg := gamma_apply hlg
  unfold newState
  generalize k0_pay11 cb sb k = K at hk ⊢
  generalize k0_pay9 lg = G at hg ⊢
  pointwise [k0_pay13, k0_pay12, k0_pay6]
  simp only [hk, hg, Finset.sum_ite_eq, Finset.mem_univ, if_true]
  rfl

include hlg in
/-- The block a copy stores. -/
theorem outBlock_apply (e : Fin 256) : outBlock cb sb lg q k v g s (ix3 0 0 e)
    = gated (g (ix3 0 0 e)) (stepOut L (blockQ cb sb q) (blockK cb sb k) (fun e => v (ix3 0 0 e)) (fun d e => s (ix5 0 0 0 d e))) e := by
  have hq := rotQ_apply cb sb q
  have hk := rotK_apply cb sb k
  have hc := colQ_apply cb sb q
  have hg := gamma_apply hlg
  unfold outBlock
  generalize k0_pay7 cb sb q = Q at hq ⊢
  generalize k0_pay8 cb sb k = K at hk ⊢
  generalize k0_pay10 cb sb q = C at hc ⊢
  generalize k0_pay9 lg = G at hg ⊢
  pointwise [k0_pay15, k0_pay14, k0_pay12, k0_pay6]
  simp only [hq, hk, hc, hg]
  rfl

end Cert.Layer.RetSample

end
-- ==== Proof.RetSample.Point.lean ====
/-
  The retention on the sample: what a grid point leaves in its blocks of the two results.
-/
module

public import proofs.«01_k».proof.Proof.RetSample.Tile
public import proofs.«01_k».proof.Proof.Blocks
public import proofs.«01_k».proof.Proof.Gen.RetSampleIdeal.Frame
public import Idealize.ShloMosaic.Lib.Pipeline.ReadBack

@[expose] public section

noncomputable section

namespace Cert.Layer.RetSample

open Idealize.ShloMosaic Idealize.ShloMosaic.TcCoe
open Cert.RetSampleIdeal Cert.RetSampleIdeal.Gen
open Cert.Retention (rotate cScale gated laneQ laneV)
open scoped BigOperators

variable (x0 x1 : Vec Ideal S1x1x512 .f32) (x2 x3 : Vec Ideal S1x1x1024 .f32) (x4 : Vec Ideal S1x1x4x128x256 .f32)
  (x5 x6 : Vec Ideal S1x128 .f32) (x7 : Vec Ideal S4x128 .f32)

/-- The rotated q (or k) of a head. -/
def ptRot (h : Fin 4) (d : Fin 128) : EReal :=
  rotate (fun d => x5 (ix2 0 d)) (fun d => x6 (ix2 0 d)) (fun d => x0 (ix3 0 0 (laneQ h d))) d

/-- A head's state after the point. -/
def ptState (h : Fin 4) (d : Fin 128) (e : Fin 256) : EReal :=
  stepState (x7 (ix2 h 0)) (fun d => ptRot x1 x5 x6 h d * cScale) (fun e => x2 (ix3 0 0 (laneV h e))) (fun d e => x4 (ix5 0 0 h d e)) d e

/-- A head's result at the point. -/
def ptOut (h : Fin 4) (e : Fin 256) : EReal :=
  gated (x3 (ix3 0 0 (laneV h e)))
    (stepOut (x7 (ix2 h 0)) (ptRot x0 x5 x6 h) (fun d => ptRot x1 x5 x6 h d * cScale) (fun e => x2 (ix3 0 0 (laneV h e))) (fun d e => x4 (ix5 0 0 h d e))) e

/-- The point's block of the second result. -/
def stateArr : Vec Ideal S1x4x128x256 .f32 := fun y => ptState x1 x2 x4 x5 x6 x7 (y 1) (y 2) (y 3)

/-- The point's block of the first result. -/
def outArr : Vec Ideal S1x1x1024 .bf16 := fun y =>
  ptOut x0 x1 x2 x3 x4 x5 x6 x7 ⟨(y 2).val / 256, by have : (y 2).val < 1024 := (y 2).isLt; omega⟩ ⟨(y 2).val % 256, by omega⟩

variable {x0 x1 x2 x3 x4 x5 x6 x7}

/-! What a copy loads. -/

variable {h : Fin 4} {hn oq ov : ℕ}

theorem ld_q (x : Vec Ideal S1x1x512 .f32) (e4 : oq = 128 * h.val) {inb} (d : Fin 128) :
    (View.ld x (Rect.unit ![0, 0, oq] ![1, 1, 128] inb) : Vec Ideal S1x1x128 .f32) (ix3 0 0 d) = x (ix3 0 0 (laneQ h d)) := by
  subst e4
  refine congrArg x (funext fun a => Fin.ext ?_)
  match a with
  | ⟨0, _⟩ => rfl
  | ⟨1, _⟩ => rfl
  | ⟨2, _⟩ => show 128 * h.val + 1 * d.val = 128 * h.val + d.val; omega

theorem ld_v (x : Vec Ideal S1x1x1024 .f32) (e5 : ov = 256 * h.val) {inb} (e : Fin 256) :
    (View.ld x (Rect.unit ![0, 0, ov] ![1, 1, 256] inb) : Vec Ideal S1x1x256 .f32) (ix3 0 0 e) = x (ix3 0 0 (laneV h e)) := by
  subst e5
  refine congrArg x (funext fun a => Fin.ext ?_)
  match a with
  | ⟨0, _⟩ => rfl
  | ⟨1, _⟩ => rfl
  | ⟨2, _⟩ => show 256 * h.val + 1 * e.val = 256 * h.val + e.val; omega

theorem ld_s (x : Vec Ideal S1x1x4x128x256 .f32) (e2 : hn = h.val) {inb} (d : Fin 128) (e : Fin 256) :
    (View.ld x (Rect.unit ![0, 0, hn, 0, 0] ![1, 1, 1, 128, 256] inb) : Vec Ideal S1x1x1x128x256 .f32) (ix5 0 0 0 d e) = x (ix5 0 0 h d e) := by
  subst e2
  refine congrArg x (funext fun a => Fin.ext ?_)
  match a with
  | ⟨0, _⟩ => rfl
  | ⟨1, _⟩ => rfl
  | ⟨2, _⟩ => exact Nat.add_zero _
  | ⟨3, _⟩ => show 0 + 1 * d.val = d.val; omega
  | ⟨4, _⟩ => show 0 + 1 * e.val = e.val; omega

theorem ld_l (x : Vec Ideal S4x128 .f32) (e2 : hn = h.val) {inb} (l : Fin 128) :
    (View.ld x (Rect.unit ![hn, 0] ![1, 128] inb) : Vec Ideal S1x128 .f32) (ix2 0 l) = x (ix2 h l) := by
  subst e2
  refine congrArg x (funext fun a => Fin.ext ?_)
  match a with
  | ⟨0, _⟩ => exact Nat.add_zero _
  | ⟨1, _⟩ => show 0 + 1 * l.val = l.val; omega

theorem ld_t (x : Vec Ideal S1x128 .f32) {inb} : View.ld x (Rect.unit ![0, 0] ![1, 128] inb) = x :=
  View.ld_unit_zero (S := S1x128) (by funext a; match a with | ⟨0, _⟩ => rfl | ⟨1, _⟩ => rfl) inb x

/-! What a copy stores. -/

variable (hl : ∀ h l, x7 (ix2 h l) = x7 (ix2 h 0))
include hl

/-- A state stored is the point's block of the second result under the store. -/
theorem state_piece (e2 : hn = h.val) (e4 : oq = 128 * h.val) (e5 : ov = 256 * h.val) {i5 i6 i7 i1 i2 i4 io} (z : S1x1x128x256.Idx) :
    newState (F := Ideal) (View.ld x5 (Rect.unit ![0, 0] ![1, 128] i5)) (View.ld x6 (Rect.unit ![0, 0] ![1, 128] i6))
      (View.ld x7 (Rect.unit ![hn, 0] ![1, 128] i7)) (View.ld x1 (Rect.unit ![0, 0, oq] ![1, 1, 128] i1))
      (View.ld x2 (Rect.unit ![0, 0, ov] ![1, 1, 256] i2)) (View.ld x4 (Rect.unit ![0, 0, hn, 0, 0] ![1, 1, 1, 128, 256] i4)) z
      = stateArr x1 x2 x4 x5 x6 x7 ((Rect.unit (s := S1x4x128x256) ![0, hn, 0, 0] ![1, 1, 128, 256] io).emb z) := by
  obtain ⟨d, e, rfl⟩ := Cert.Retention.idx4_eq z
  rw [newState_apply (L := x7 (ix2 h 0)) (fun l => (ld_l x7 e2 l).trans (hl h l)), ld_t, ld_t]
  unfold blockK
  simp only [ld_q x1 e4, ld_v x2 e5, ld_s x4 e2]
  subst e2
  unfold stateArr
  refine (congrArg₂ (ptState x1 x2 x4 x5 x6 x7 h) (Fin.ext ?_) (Fin.ext ?_)).trans (congrArg (fun k => ptState x1 x2 x4 x5 x6 x7 k _ _) (Fin.ext ?_))
  · show d.val = 0 + 1 * d.val; omega
  · show e.val = 0 + 1 * e.val; omega
  · show h.val = h.val + 1 * 0; omega

/-- A block stored is the point's block of the first result under the store. -/
theorem out_piece (e2 : hn = h.val) (e4 : oq = 128 * h.val) (e5 : ov = 256 * h.val) {i5 i6 i7 i0 i1 i2 i3 i4 io} (z : S1x1x256.Idx) :
    outBlock (F := Ideal) (View.ld x5 (Rect.unit ![0, 0] ![1, 128] i5)) (View.ld x6 (Rect.unit ![0, 0] ![1, 128] i6))
      (View.ld x7 (Rect.unit ![hn, 0] ![1, 128] i7)) (View.ld x0 (Rect.unit ![0, 0, oq] ![1, 1, 128] i0)) (View.ld x1 (Rect.unit ![0, 0, oq] ![1, 1, 128] i1))
      (View.ld x2 (Rect.unit ![0, 0, ov] ![1, 1, 256] i2)) (View.ld x3 (Rect.unit ![0, 0, ov] ![1, 1, 256] i3))
      (View.ld x4 (Rect.unit ![0, 0, hn, 0, 0] ![1, 1, 1, 128, 256] i4)) z
      = outArr x0 x1 x2 x3 x4 x5 x6 x7 ((Rect.unit (s := S1x1x1024) ![0, 0, ov] ![1, 1, 256] io).emb z) := by
  obtain ⟨e, rfl⟩ : ∃ e : Fin 256, z = ix3 (0 : Fin 1) (0 : Fin 1) e :=
    ⟨z 2, (eq_ix3 z).trans (congrArg₂ (fun a b => ix3 a b (z 2)) (Subsingleton.elim (α := Fin 1) (z 0) 0) (Subsingleton.elim (α := Fin 1) (z 1) 0))⟩
  rw [outBlock_apply (L := x7 (ix2 h 0)) (fun l => (ld_l x7 e2 l).trans (hl h l)), ld_t, ld_t]
  unfold blockK blockQ
  simp only [ld_q x0 e4, ld_q x1 e4, ld_v x2 e5, ld_v x3 e5, ld_s x4 e2]
  have hh := h.isLt
  subst e5
  unfold outArr
  refine (congrArg (ptOut x0 x1 x2 x3 x4 x5 x6 x7 h) (Fin.ext ?_)).trans (congrArg (fun k => ptOut x0 x1 x2 x3 x4 x5 x6 x7 k _) (Fin.ext ?_))
  · show e.val = (256 * h.val + 1 * e.val) % 256; omega
  · show h.val = (256 * h.val + 1 * e.val) / 256; omega

omit hl

set_option maxHeartbeats 4000000 in
/-- The point's block of the second result. -/
theorem state_eq (c : Dev nD) (i : grid0.Coords) (arg1 : Memref sig .tc .vmem S1x1x512 .f32) (harg1 : arg1.IsWhole) (arg2 : Memref sig .tc .vmem S1x1x512 .f32) (harg2 : arg2.IsWhole) (arg3 : Memref sig .tc .vmem S1x1x1024 .f32) (harg3 : arg3.IsWhole) (arg4 : Memref sig .tc .vmem S1x1x1024 .f32) (harg4 : arg4.IsWhole) (arg5 : Memref sig .tc .vmem S1x1x4x128x256 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S4x128 .f32) (harg8 : arg8.IsWhole) (arg9 : Memref sig .tc .vmem S1x1x1024 .bf16) (harg9 : arg9.IsWhole) (arg10 : Memref sig .tc .vmem S1x4x128x256 .f32) (harg10 : arg10.IsWhole)
    (x0 x1 : Vec Ideal S1x1x512 .f32) (x2 x3 : Vec Ideal S1x1x1024 .f32) (x4 : Vec Ideal S1x1x4x128x256 .f32) (x5 x6 : Vec Ideal S1x128 .f32) (x7 : Vec Ideal S4x128 .f32) (hl : ∀ h l, x7 (ix2 h l) = x7 (ix2 h 0)) :
    out0_A_9 c i arg1 harg1 arg2 harg2 arg3 harg3 arg4 harg4 arg5 harg5 arg6 harg6 arg7 harg7 arg8 harg8 arg9 harg9 arg10 harg10 x0 x1 x2 x3 x4 x5 x6 x7 = stateArr x1 x2 x4 x5 x6 x7 := by
  unfold out0_A_9
  rw [View.read_writes_eq_canon _ _ _ (cover0_A_9 c i arg1 harg1 arg2 harg2 arg3 harg3 arg4 harg4 arg5 harg5 arg6 harg6 arg7 harg7 arg8 harg8 arg9 harg9 arg10 harg10 x0 x1 x2 x3 x4 x5 x6 x7)]
  funext y
  refine View.canon_apply_of_pieces _ _ (View.PiecesOf.mem ?_) y (cover0_A_9 c i arg1 harg1 arg2 harg2 arg3 harg3 arg4 harg4 arg5 harg5 arg6 harg6 arg7 harg7 arg8 harg8 arg9 harg9 arg10 harg10 x0 x1 x2 x3 x4 x5 x6 x7 y)
  unfold kernelRun0_A
  dsimp only
  sl_unfold_words
  simp only [View.readAt_eq_ld, harg1.read_unread, harg2.read_unread, harg3.read_unread, harg4.read_unread, harg5.read_unread, harg6.read_unread, harg7.read_unread, harg8.read_unread]
  exact ⟨fun z => (congrFun (state_3 _ _ _ _ _ _) z).trans (state_piece (h := 3) (hn := 3) (oq := 384) (ov := 768) hl rfl rfl rfl (io := inb_S1x4x128x256_S1x1x128x256_0_3_0_0) z),
    fun z => (congrFun (state_2 _ _ _ _ _ _) z).trans (state_piece (h := 2) (hn := 2) (oq := 256) (ov := 512) hl rfl rfl rfl (io := inb_S1x4x128x256_S1x1x128x256_0_2_0_0) z),
    fun z => (congrFun (state_1 _ _ _ _ _ _) z).trans (state_piece (h := 1) (hn := 1) (oq := 128) (ov := 256) hl rfl rfl rfl (io := inb_S1x4x128x256_S1x1x128x256_0_1_0_0) z),
    fun z => (state_piece (h := 0) (hn := 0) (oq := 0) (ov := 0) hl rfl rfl rfl (io := inb_S1x4x128x256_S1x1x128x256_0_0_0_0) z), trivial⟩

set_option maxHeartbeats 4000000 in
/-- The point's block of the first result. -/
theorem out_eq (c : Dev nD) (i : grid0.Coords) (arg1 : Memref sig .tc .vmem S1x1x512 .f32) (harg1 : arg1.IsWhole) (arg2 : Memref sig .tc .vmem S1x1x512 .f32) (harg2 : arg2.IsWhole) (arg3 : Memref sig .tc .vmem S1x1x1024 .f32) (harg3 : arg3.IsWhole) (arg4 : Memref sig .tc .vmem S1x1x1024 .f32) (harg4 : arg4.IsWhole) (arg5 : Memref sig .tc .vmem S1x1x4x128x256 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S4x128 .f32) (harg8 : arg8.IsWhole) (arg9 : Memref sig .tc .vmem S1x1x1024 .bf16) (harg9 : arg9.IsWhole) (arg10 : Memref sig .tc .vmem S1x4x128x256 .f32) (harg10 : arg10.IsWhole)
    (x0 x1 : Vec Ideal S1x1x512 .f32) (x2 x3 : Vec Ideal S1x1x1024 .f32) (x4 : Vec Ideal S1x1x4x128x256 .f32) (x5 x6 : Vec Ideal S1x128 .f32) (x7 : Vec Ideal S4x128 .f32) (hl : ∀ h l, x7 (ix2 h l) = x7 (ix2 h 0)) :
    out0_A_8 c i arg1 harg1 arg2 harg2 arg3 harg3 arg4 harg4 arg5 harg5 arg6 harg6 arg7 harg7 arg8 harg8 arg9 harg9 arg10 harg10 x0 x1 x2 x3 x4 x5 x6 x7 = outArr x0 x1 x2 x3 x4 x5 x6 x7 := by
  unfold out0_A_8
  rw [View.read_writes_eq_canon _ _ _ (cover0_A_8 c i arg1 harg1 arg2 harg2 arg3 harg3 arg4 harg4 arg5 harg5 arg6 harg6 arg7 harg7 arg8 harg8 arg9 harg9 arg10 harg10 x0 x1 x2 x3 x4 x5 x6 x7)]
  funext y
  refine View.canon_apply_of_pieces _ _ (View.PiecesOf.mem ?_) y (cover0_A_8 c i arg1 harg1 arg2 harg2 arg3 harg3 arg4 harg4 arg5 harg5 arg6 harg6 arg7 harg7 arg8 harg8 arg9 harg9 arg10 harg10 x0 x1 x2 x3 x4 x5 x6 x7 y)
  unfold kernelRun0_A
  dsimp only
  sl_unfold_words
  simp only [View.readAt_eq_ld, harg1.read_unread, harg2.read_unread, harg3.read_unread, harg4.read_unread, harg5.read_unread, harg6.read_unread, harg7.read_unread, harg8.read_unread]
  exact ⟨fun z => (congrFun (out_3 _ _ _ _ _ _ _ _) z).trans (out_piece (h := 3) (hn := 3) (oq := 384) (ov := 768) hl rfl rfl rfl (io := inb_S1x1x1024_S1x1x256_0_0_768) z),
    fun z => (congrFun (out_2 _ _ _ _ _ _ _ _) z).trans (out_piece (h := 2) (hn := 2) (oq := 256) (ov := 512) hl rfl rfl rfl (io := inb_S1x1x1024_S1x1x256_0_0_512) z),
    fun z => (congrFun (out_1 _ _ _ _ _ _ _ _) z).trans (out_piece (h := 1) (hn := 1) (oq := 128) (ov := 256) hl rfl rfl rfl (io := inb_S1x1x1024_S1x1x256_0_0_256) z),
    fun z => (out_piece (h := 0) (hn := 0) (oq := 0) (ov := 0) hl rfl rfl rfl (io := inb_S1x1x1024_S1x1x256_0_0_0) z), trivial⟩

end Cert.Layer.RetSample

end
-- ==== Proof.RetSample.Tables.lean ====
/-
  The retention on the sample: the tables the kernel's host operations make before the call, entry by entry.  Every sequence
  is at position 16384, so that the rows of a table are the same row, and the call takes the first.
-/
module

public import proofs.«01_k».proof.Proof.Spec
public import proofs.«01_k».proof.Proof.Gen.RetSampleIdeal.Frame
public import Idealize.ShloMosaic.Lib.Pointwise

@[expose] public section

noncomputable section

namespace Cert.Layer.RetSample

open Idealize.ShloMosaic Idealize.ShloMosaic.TcCoe
open Cert.RetSampleIdeal Cert.RetSampleIdeal.Gen
open Cert.Retention (angle logDecay num freq cosRow sinRow)

theorem rowMajor_ix1 (d : Fin 128) : S128.rowMajor (ix1 d) = d := Fin.ext (Shape.rowMajor_val_one _)

/-- The angles as the host operations compute them. -/
def angles : Vec Ideal S32x64 .f32 :=
  mulf (broadcastInDim S32x64 ![0, 1] bcast_S32x1_S32x64_0_1
      (broadcastInDim S32x1 ![0] bcast_S32_S32x1_0 (sitofp (F := Ideal) .f32 (broadcastInDim S32 ![] bcast_S_S32 (constantI S_ 32 16384#32)))))
    (broadcastInDim S32x64 ![0, 1] bcast_S1x64_S32x64_0_1
      (broadcastInDim S1x64 ![1] bcast_S64_S1x64_1
        (Host.divf (F := Ideal) (broadcastInDim S64 ![] bcast_S_S64 (constant (F := Ideal) S_ .f32 1065353216#32))
          (Host.powf (F := Ideal) (broadcastInDim S64 ![] bcast_S_S64 (constant (F := Ideal) S_ .f32 1176256512#32))
            (Host.divf (F := Ideal) (sitofp (F := Ideal) .f32 (iotaInDim S64 32 0))
              (broadcastInDim S64 ![] bcast_S_S64 (constant (F := Ideal) S_ .f32 1115684864#32)))))))

theorem angles_apply (t : Fin 32) (d : Fin 64) : angles (ix2 t d) = angle 16384 d := by
  unfold angle num
  pointwise [angles]

/-- The lanes' frequencies. -/
def lanes : IVec S128x1 32 :=
  broadcastInDim S128x1 ![0] bcast_S128_S128x1_0
    (select (constantI S128 1 0#1)
      (addi (fun i => lit0 (S128.rowMajor i)) (broadcastInDim S128 ![] bcast_S_S128 (constantI S_ 32 64#32)))
      fun i => lit0 (S128.rowMajor i))

theorem lit0_eq : ∀ d : Fin 128, (lit0 d).toInt.toNat = d.val % 64 := by decide +kernel

theorem lit1_eq : ∀ d : Fin 128, lit1 d = if d.val < 64 then 1#1 else 0#1 := by decide +kernel

theorem lit2_eq : ∀ d : Fin 128, lit2 d = if d.val < 64 then 0#1 else 1#1 := by decide +kernel

theorem lanes_apply (d : Fin 128) : (lanes (ix2 d 0)).toInt.toNat = d.val % 64 := by
  rw [← lit0_eq d]
  have h : lanes (ix2 d 0) = lit0 (S128.rowMajor (ix1 d)) := by
    unfold lanes
    generalize hf : (fun i => lit0 (S128.rowMajor i)) = f
    have h : f (ix1 d) = lit0 (S128.rowMajor (ix1 d)) := by rw [← hf]
    rw [← h]
    pointwise []
  rw [h, rowMajor_ix1]

/-- The gathered table at lane `d` is the table at the lane's frequency. -/
theorem gather_apply (x : Vec Ideal S32x64 .f32) (t : Fin 32) (d : Fin 128) :
    Host.gather gather_S32x64_S128x1_S32x128_0_1_n_n_1_1_321 x lanes (ix2 t d) = x (ix2 t (freq d)) := by
  unfold Host.gather
  refine congrArg x (funext fun a => Fin.ext ?_)
  set D := gather_S32x64_S128x1_S32x128_0_1_n_n_1_1_321 with hD
  show D.start (ix2 t d) lanes a + D.batchCoord (ix2 t d) a + D.offCoord (ix2 t d) a = _
  rw [GatherDims.batchCoord_eq_zero _ _ _ List.not_mem_nil]
  match a with
  | ⟨0, _⟩ =>
    unfold GatherDims.start
    rw [dif_neg (show ((⟨0, by decide⟩ : Fin S32x64.rank)) ∉ D.startIndexMap from by decide)]
    rw [Nat.zero_add]
    rfl
  | ⟨1, _⟩ =>
    rw [GatherDims.offCoord_eq_zero _ _ _ (fun h => ((GatherDims.mem_sKept _ _).mp h).1 (List.mem_singleton.mpr rfl))]
    unfold GatherDims.start
    rw [dif_pos (show ((⟨1, by decide⟩ : Fin S32x64.rank)) ∈ D.startIndexMap from List.mem_singleton.mpr rfl)]
    have hsi : D.siIdx (ix2 t d) ⟨List.idxOf (⟨1, by decide⟩ : Fin S32x64.rank) D.startIndexMap,
        List.idxOf_lt_length_iff.2 (List.mem_singleton.mpr rfl)⟩ = ix2 d 0 := by
      funext b; refine Fin.ext ?_
      match b with
      | ⟨0, _⟩ => rfl
      | ⟨1, _⟩ => rfl
    erw [hsi]
    rw [lanes_apply]
    show min (d.val % 64) 63 + 0 + 0 = d.val % 64
    omega

/-- The first row of a table. -/
theorem first_row (x : Vec Ideal S32x128 .f32) (d : Fin 128) :
    extractStridedSlice S1x128 ![0, 0] x slices_S32x128_S1x128_0_0 (ix2 0 d) = x (ix2 0 d) := by
  pointwise []

variable (m : (ℓ : Loc nD τ sig) → Buf (Elt Ideal) ℓ)

/-- The cosines: the first row of the table. -/
theorem V_cos (c : Dev nD) (d : Fin 128) : (V m c main_v40 : Vec Ideal S1x128 .f32) (ix2 0 d) = cosRow 16384 d := by
  have h : (V m c main_v40 : Vec Ideal S1x128 .f32)
      = extractStridedSlice S1x128 ![0, 0] (select (broadcastInDim S32x128 ![1] bcast_S128_S32x128_1 (constantI S128 1 1#1))
          (Host.gather gather_S32x64_S128x1_S32x128_0_1_n_n_1_1_321 (Host.cos (F := Ideal) angles) lanes)
          (broadcastInDim S32x128 ![] bcast_S_S32x128 (constant (F := Ideal) S_ .f32 2143289344#32))) slices_S32x128_S1x128_0_0 := by
    dsimp only [V, List.flatten_cons, List.flatten_nil, List.cons_append, List.nil_append, List.append_nil]
    after_results
    rfl
  rw [h, first_row]
  show Scalar.select 1#1 _ _ = _
  rw [ValueIdx.select_one, gather_apply]
  show Ideal.cos (angles (ix2 0 (freq d))) = _
  rw [angles_apply]
  rfl

/-- The table of log decays. -/
theorem V_lg (c : Dev nD) (h : Fin 4) (l : Fin 128) :
    (V m c main_v39 : Vec Ideal S4x128 .f32) (ix2 h l) = logDecay h := by
  have e : (V m c main_v39 : Vec Ideal S4x128 .f32)
      = broadcastInDim S4x128 ![0, 1] bcast_S4x1_S4x128_0_1 (broadcastInDim S4x1 ![0] bcast_S4_S4x1_0
          (Host.log (F := Ideal) (subf (broadcastInDim S4 ![] bcast_S_S4 (constant (F := Ideal) S_ .f32 0x3F800000#32))
            (Host.powf (F := Ideal) (broadcastInDim S4 ![] bcast_S_S4 (constant (F := Ideal) S_ .f32 0x40000000#32))
              (subf (broadcastInDim S4 ![] bcast_S_S4 (constant (F := Ideal) S_ .f32 0xC0A00000#32))
                (sitofp (F := Ideal) .f32 (iotaInDim S4 32 0))))))) := by
    dsimp only [V, List.flatten_cons, List.flatten_nil, List.cons_append, List.nil_append, List.append_nil]
    after_results
    try rfl
  rw [e]
  unfold logDecay num
  pointwise []

/-- A select between two values along the lanes, by a mask. -/
theorem select_lane (w : Fin 128 → BitVec 1) (a b : Vec Ideal S32x128 .f32) (t : Fin 32) (d : Fin 128) :
    select (broadcastInDim S32x128 ![1] bcast_S128_S32x128_1 (fun i => w (S128.rowMajor i))) a b (ix2 t d)
      = Scalar.select (w d) (a (ix2 t d)) (b (ix2 t d)) := by
  show Scalar.select (w (S128.rowMajor _)) _ _ = _
  refine congrArg (fun k => Scalar.select (w k) (a (ix2 t d)) (b (ix2 t d))) (Fin.ext ?_)
  exact Shape.rowMajor_val_one _

/-- The gathered sines. -/
def sines : Vec Ideal S32x128 .f32 :=
  Host.gather gather_S32x64_S128x1_S32x128_0_1_n_n_1_1_321 (Host.sin (F := Ideal) (φ := .f32) angles) lanes

/-- An array of zeros. -/
def zeros : Vec Ideal S32x128 .f32 :=
  broadcastInDim S32x128 ![] bcast_S_S32x128 (constant (F := Ideal) S_ .f32 0#32)

/-- The table of signed sines. -/
theorem V_sin (c : Dev nD) (d : Fin 128) : (V m c main_v42 : Vec Ideal S1x128 .f32) (ix2 0 d) = sinRow 16384 d := by
  have h : (V m c main_v42 : Vec Ideal S1x128 .f32)
      = extractStridedSlice S1x128 ![0, 0] (addf (F := Ideal) (φ := .f32) (select (broadcastInDim S32x128 ![1] bcast_S128_S32x128_1 (fun i => lit1 (S128.rowMajor i)))
            (Host.negf (F := Ideal) (φ := .f32) sines) zeros)
          (select (broadcastInDim S32x128 ![1] bcast_S128_S32x128_1 (fun i => lit2 (S128.rowMajor i))) sines zeros)) slices_S32x128_S1x128_0_0 := by
    dsimp only [V, List.flatten_cons, List.flatten_nil, List.cons_append, List.nil_append, List.append_nil]
    after_results
    rfl
  have hz : zeros (ix2 0 d) = 0 := by
    unfold zeros
    pointwise []
  have hs : sines (ix2 0 d) = Ideal.sin (angle 16384 (d.val % 64)) := by
    unfold sines
    rw [gather_apply]
    show Ideal.sin (angles (ix2 0 (freq d))) = _
    rw [angles_apply]
    rfl
  rw [h, first_row]
  unfold sinRow
  show (select _ _ _ (ix2 0 d) : EReal) + select _ _ _ (ix2 0 d) = _
  rw [select_lane, select_lane, lit1_eq, lit2_eq, hz, hs]
  have hn : (Host.negf (F := Ideal) (φ := .f32) sines) (ix2 0 d) = -Ideal.sin (angle 16384 (d.val % 64)) := by
    rw [← hs]; rfl
  rw [hn]
  by_cases hd : d.val < 64
  · simp only [if_pos hd, ValueIdx.select_one, ValueIdx.select_zero, add_zero]
  · simp only [if_neg hd, ValueIdx.select_one, ValueIdx.select_zero, zero_add]

end Cert.Layer.RetSample

end
-- ==== Proof.RetSample.Fold.lean ====
/-
  The results of the kernel of the sample's retention: grid point `t` makes sequence `t`'s.
-/
module

public import proofs.«01_k».proof.Proof.RetSample.Point
public import proofs.«01_k».proof.Proof.RetSample.Tables
public import proofs.«01_k».proof.Proof.Gen.RetSampleIdeal.Value

@[expose] public section

noncomputable section

namespace Cert.Layer.RetSample

open Idealize.ShloMosaic Idealize.ShloMosaic.TcCoe
open Cert.RetSampleIdeal Cert.RetSampleIdeal.Gen
open Cert.Retention (rotate cScale gated cosRow sinRow logDecay laneQ laneV)

section mathematics

variable (z : Vec Ideal ⟨3, ![32, 1, 10880]⟩ .f32) (st : Vec Ideal ⟨5, ![2, 32, 4, 128, 256]⟩ .f32) (b : Fin 32) (h : Fin 4)

/-- The rotated q of a sequence's head. -/
def seqQ (d : Fin 128) : EReal :=
  rotate (cosRow 16384) (sinRow 16384) (fun d => z (ix3 b 0 ⟨128 * h.val + d.val, by omega⟩)) d

/-- The rotated and scaled k of a sequence's head. -/
def seqK (d : Fin 128) : EReal :=
  rotate (cosRow 16384) (sinRow 16384) (fun d => z (ix3 b 0 ⟨512 + 128 * h.val + d.val, by omega⟩)) d * cScale

/-- The v of a sequence's head. -/
def seqV (e : Fin 256) : EReal := z (ix3 b 0 ⟨1024 + 256 * h.val + e.val, by omega⟩)

/-- The gate of a sequence's head. -/
def seqG (e : Fin 256) : EReal := z (ix3 b 0 ⟨2048 + 256 * h.val + e.val, by omega⟩)

/-- A sequence's result. -/
def seqOut (e : Fin 256) : EReal :=
  gated (seqG z b h e) (stepOut (logDecay h) (seqQ z b h) (seqK z b h) (seqV z b h) (fun d e => st (ix5 0 b h d e))) e

/-- A sequence's state after the position. -/
def seqState (d : Fin 128) (e : Fin 256) : EReal :=
  stepState (logDecay h) (seqK z b h) (seqV z b h) (fun d e => st (ix5 0 b h d e)) d e

end mathematics

variable (m : (ℓ : Loc nD τ sig) → Buf (Elt Ideal) ℓ) (c : Dev nD)

def zArg : Vec Ideal S32x1x10880 .f32 := m ((c : Thread nD τ).loc main_arg0)
def stArg : Vec Ideal S2x32x4x128x256 .f32 := m ((c : Thread nD τ).loc main_arg1)

/-- The kernel's first result, as a function of its arguments. -/
def kernelOut : Vec Ideal S32x1x1024 .bf16 := fun i =>
  seqOut (zArg m c) (stArg m c) (i 0) ⟨(i 2).val / 256, by have : (i 2).val < 1024 := (i 2).isLt; omega⟩ ⟨(i 2).val % 256, by omega⟩

/-- The kernel's second result, as a function of its arguments. -/
def kernelState : Vec Ideal S32x4x128x256 .f32 := fun i => seqState (zArg m c) (stArg m c) (i 0) (i 1) (i 2) (i 3)

/-- The sequence of point `t`. -/
def seq (t : Fin cfg0.N) : Fin 32 := ⟨t.val, lt_of_lt_of_eq t.isLt N_0⟩

theorem index0 : ∀ t : Fin cfg0.N, win0_0.index t (0 : Fin 3) = t.val ∧ win0_0.index t (1 : Fin 3) = 0 ∧ win0_0.index t (2 : Fin 3) = 0 :=
  (by decide +kernel : ∀ t : Fin grid0.N, _)
theorem index1 : ∀ t : Fin cfg0.N, win0_1.index t (0 : Fin 3) = t.val ∧ win0_1.index t (1 : Fin 3) = 0 ∧ win0_1.index t (2 : Fin 3) = 1 :=
  (by decide +kernel : ∀ t : Fin grid0.N, _)
theorem index2 : ∀ t : Fin cfg0.N, win0_2.index t (0 : Fin 3) = t.val ∧ win0_2.index t (1 : Fin 3) = 0 ∧ win0_2.index t (2 : Fin 3) = 1 :=
  (by decide +kernel : ∀ t : Fin grid0.N, _)
theorem index3 : ∀ t : Fin cfg0.N, win0_3.index t (0 : Fin 3) = t.val ∧ win0_3.index t (1 : Fin 3) = 0 ∧ win0_3.index t (2 : Fin 3) = 2 :=
  (by decide +kernel : ∀ t : Fin grid0.N, _)
theorem index4 : ∀ t : Fin cfg0.N, win0_4.index t (0 : Fin 5) = 0 ∧ win0_4.index t (1 : Fin 5) = t.val ∧ win0_4.index t (2 : Fin 5) = 0 ∧ win0_4.index t (3 : Fin 5) = 0 ∧ win0_4.index t (4 : Fin 5) = 0 :=
  (by decide +kernel : ∀ t : Fin grid0.N, _)
theorem index5 : ∀ t : Fin cfg0.N, win0_5.index t (0 : Fin 2) = 0 ∧ win0_5.index t (1 : Fin 2) = 0 :=
  (by decide +kernel : ∀ t : Fin grid0.N, _)
theorem index6 : ∀ t : Fin cfg0.N, win0_6.index t (0 : Fin 2) = 0 ∧ win0_6.index t (1 : Fin 2) = 0 :=
  (by decide +kernel : ∀ t : Fin grid0.N, _)
theorem index7 : ∀ t : Fin cfg0.N, win0_7.index t (0 : Fin 2) = 0 ∧ win0_7.index t (1 : Fin 2) = 0 :=
  (by decide +kernel : ∀ t : Fin grid0.N, _)
theorem index8 : ∀ t : Fin cfg0.N, win0_8.index t (0 : Fin 3) = t.val ∧ win0_8.index t (1 : Fin 3) = 0 ∧ win0_8.index t (2 : Fin 3) = 0 :=
  (by decide +kernel : ∀ t : Fin grid0.N, _)
theorem index9 : ∀ t : Fin cfg0.N, win0_9.index t (0 : Fin 4) = t.val ∧ win0_9.index t (1 : Fin 4) = 0 ∧ win0_9.index t (2 : Fin 4) = 0 ∧ win0_9.index t (3 : Fin 4) = 0 :=
  (by decide +kernel : ∀ t : Fin grid0.N, _)

theorem q_apply (t : Fin cfg0.N) (l : Fin 512) : (X0_0 m c t : Vec Ideal S1x1x512 .f32) (ix3 0 0 l) = zArg m c (ix3 (seq t) 0 ⟨l.val, by omega⟩) := by
  obtain ⟨e0, e1, e2⟩ := index0 t
  have ef : (X0_0 m c t : Vec Ideal S1x1x512 .f32) (ix3 0 0 l) = _ := dif_pos (moved0_0 t (ix3 0 0 l))
  rw [ef]
  refine (congrArg (V m c main_arg0 : Vec Ideal S32x1x10880 .f32) (funext fun a => Fin.ext ?_)).trans (congrFun (V_main_arg0 m c) _)
  match a with
  | ⟨0, _⟩ => show win0_0.index t (0 : Fin 3) * 1 + 1 * 0 = t.val; omega
  | ⟨1, _⟩ => show win0_0.index t (1 : Fin 3) * 1 + 1 * 0 = 0; omega
  | ⟨2, _⟩ => show win0_0.index t (2 : Fin 3) * 512 + 1 * l.val = l.val; omega

theorem k_apply (t : Fin cfg0.N) (l : Fin 512) : (X0_1 m c t : Vec Ideal S1x1x512 .f32) (ix3 0 0 l) = zArg m c (ix3 (seq t) 0 ⟨512 + l.val, by omega⟩) := by
  obtain ⟨e0, e1, e2⟩ := index1 t
  have ef : (X0_1 m c t : Vec Ideal S1x1x512 .f32) (ix3 0 0 l) = _ := dif_pos (moved0_1 t (ix3 0 0 l))
  rw [ef]
  refine (congrArg (V m c main_arg0 : Vec Ideal S32x1x10880 .f32) (funext fun a => Fin.ext ?_)).trans (congrFun (V_main_arg0 m c) _)
  match a with
  | ⟨0, _⟩ => show win0_1.index t (0 : Fin 3) * 1 + 1 * 0 = t.val; omega
  | ⟨1, _⟩ => show win0_1.index t (1 : Fin 3) * 1 + 1 * 0 = 0; omega
  | ⟨2, _⟩ => show win0_1.index t (2 : Fin 3) * 512 + 1 * l.val = 512 + l.val; omega

theorem v_apply (t : Fin cfg0.N) (l : Fin 1024) : (X0_2 m c t : Vec Ideal S1x1x1024 .f32) (ix3 0 0 l) = zArg m c (ix3 (seq t) 0 ⟨1024 + l.val, by omega⟩) := by
  obtain ⟨e0, e1, e2⟩ := index2 t
  have ef : (X0_2 m c t : Vec Ideal S1x1x1024 .f32) (ix3 0 0 l) = _ := dif_pos (moved0_2 t (ix3 0 0 l))
  rw [ef]
  refine (congrArg (V m c main_arg0 : Vec Ideal S32x1x10880 .f32) (funext fun a => Fin.ext ?_)).trans (congrFun (V_main_arg0 m c) _)
  match a with
  | ⟨0, _⟩ => show win0_2.index t (0 : Fin 3) * 1 + 1 * 0 = t.val; omega
  | ⟨1, _⟩ => show win0_2.index t (1 : Fin 3) * 1 + 1 * 0 = 0; omega
  | ⟨2, _⟩ => show win0_2.index t (2 : Fin 3) * 1024 + 1 * l.val = 1024 + l.val; omega

theorem g_apply (t : Fin cfg0.N) (l : Fin 1024) : (X0_3 m c t : Vec Ideal S1x1x1024 .f32) (ix3 0 0 l) = zArg m c (ix3 (seq t) 0 ⟨2048 + l.val, by omega⟩) := by
  obtain ⟨e0, e1, e2⟩ := index3 t
  have ef : (X0_3 m c t : Vec Ideal S1x1x1024 .f32) (ix3 0 0 l) = _ := dif_pos (moved0_3 t (ix3 0 0 l))
  rw [ef]
  refine (congrArg (V m c main_arg0 : Vec Ideal S32x1x10880 .f32) (funext fun a => Fin.ext ?_)).trans (congrFun (V_main_arg0 m c) _)
  match a with
  | ⟨0, _⟩ => show win0_3.index t (0 : Fin 3) * 1 + 1 * 0 = t.val; omega
  | ⟨1, _⟩ => show win0_3.index t (1 : Fin 3) * 1 + 1 * 0 = 0; omega
  | ⟨2, _⟩ => show win0_3.index t (2 : Fin 3) * 1024 + 1 * l.val = 2048 + l.val; omega

theorem st_apply (t : Fin cfg0.N) (h : Fin 4) (d : Fin 128) (e : Fin 256) :
    (iblk m c 4 t : Vec Ideal S1x1x4x128x256 .f32) (ix5 0 0 h d e) = stArg m c (ix5 0 (seq t) h d e) := by
  obtain ⟨e0, e1, e2, e3, e4⟩ := index4 t
  refine (congrArg (V m c main_arg1 : Vec Ideal S2x32x4x128x256 .f32) (funext fun a => Fin.ext ?_)).trans (congrFun (V_main_arg1 m c) _)
  match a with
  | ⟨0, _⟩ => show win0_4.index t (0 : Fin 5) * 1 + 1 * 0 = 0; omega
  | ⟨1, _⟩ => show win0_4.index t (1 : Fin 5) * 1 + 1 * 0 = t.val; omega
  | ⟨2, _⟩ => show win0_4.index t (2 : Fin 5) * 4 + 1 * h.val = h.val; omega
  | ⟨3, _⟩ => show win0_4.index t (3 : Fin 5) * 128 + 1 * d.val = d.val; omega
  | ⟨4, _⟩ => show win0_4.index t (4 : Fin 5) * 256 + 1 * e.val = e.val; omega

theorem cos_apply (t : Fin cfg0.N) (d : Fin 128) : (iblk m c 5 t : Vec Ideal S1x128 .f32) (ix2 0 d) = cosRow 16384 d := by
  obtain ⟨e0, e1⟩ := index5 t
  refine (congrArg (V m c main_v40 : Vec Ideal S1x128 .f32) (funext fun a => Fin.ext ?_)).trans (V_cos m c d)
  match a with
  | ⟨0, _⟩ => show win0_5.index t (0 : Fin 2) * 1 + 1 * 0 = 0; omega
  | ⟨1, _⟩ => show win0_5.index t (1 : Fin 2) * 128 + 1 * d.val = d.val; omega

theorem sin_apply (t : Fin cfg0.N) (d : Fin 128) : (iblk m c 6 t : Vec Ideal S1x128 .f32) (ix2 0 d) = sinRow 16384 d := by
  obtain ⟨e0, e1⟩ := index6 t
  refine (congrArg (V m c main_v42 : Vec Ideal S1x128 .f32) (funext fun a => Fin.ext ?_)).trans (V_sin m c d)
  match a with
  | ⟨0, _⟩ => show win0_6.index t (0 : Fin 2) * 1 + 1 * 0 = 0; omega
  | ⟨1, _⟩ => show win0_6.index t (1 : Fin 2) * 128 + 1 * d.val = d.val; omega

theorem lg_apply (t : Fin cfg0.N) (h : Fin 4) (d : Fin 128) : (iblk m c 7 t : Vec Ideal S4x128 .f32) (ix2 h d) = logDecay h := by
  obtain ⟨e0, e1⟩ := index7 t
  refine (congrArg (V m c main_v39 : Vec Ideal S4x128 .f32) (funext fun a => Fin.ext ?_)).trans (V_lg m c h d)
  match a with
  | ⟨0, _⟩ => show win0_7.index t (0 : Fin 2) * 4 + 1 * h.val = h.val; omega
  | ⟨1, _⟩ => show win0_7.index t (1 : Fin 2) * 128 + 1 * d.val = d.val; omega

theorem log_lane (t : Fin cfg0.N) (h : Fin 4) (l : Fin 128) :
    (iblk m c 7 t : Vec Ideal S4x128 .f32) (ix2 h l) = (iblk m c 7 t : Vec Ideal S4x128 .f32) (ix2 h 0) :=
  (lg_apply m c t h l).trans (lg_apply m c t h 0).symm

theorem rotQ_seq (t : Fin cfg0.N) (h : Fin 4) : ptRot (X0_0 m c t) (iblk m c 5 t) (iblk m c 6 t) h = seqQ (zArg m c) (seq t) h := by
  funext d
  unfold ptRot seqQ laneQ
  simp only [q_apply m c t, cos_apply m c t, sin_apply m c t]

theorem rotK_seq (t : Fin cfg0.N) (h : Fin 4) : (fun d => ptRot (X0_1 m c t) (iblk m c 5 t) (iblk m c 6 t) h d * cScale) = seqK (zArg m c) (seq t) h := by
  funext d
  unfold ptRot seqK laneQ
  simp only [k_apply m c t, cos_apply m c t, sin_apply m c t, ← Nat.add_assoc]

theorem value_seq (t : Fin cfg0.N) (h : Fin 4) : (fun e => (X0_2 m c t : Vec Ideal S1x1x1024 .f32) (ix3 0 0 (laneV h e))) = seqV (zArg m c) (seq t) h := by
  funext e
  unfold seqV laneV
  simp only [v_apply m c t, ← Nat.add_assoc]

theorem gate_seq (t : Fin cfg0.N) (h : Fin 4) (e : Fin 256) : (X0_3 m c t : Vec Ideal S1x1x1024 .f32) (ix3 0 0 (laneV h e)) = seqG (zArg m c) (seq t) h e := by
  unfold seqG laneV
  simp only [g_apply m c t, ← Nat.add_assoc]

/-- What a point stores is its sequence's entries of the two results. -/
theorem outArr_apply (t : Fin cfg0.N) (y : S1x1x1024.Idx) :
    outArr (X0_0 m c t) (X0_1 m c t) (X0_2 m c t) (X0_3 m c t) (iblk m c 4 t) (iblk m c 5 t) (iblk m c 6 t) (iblk m c 7 t) y = kernelOut m c (ix3 (seq t) 0 (y 2)) := by
  unfold outArr ptOut
  rw [rotQ_seq, rotK_seq, value_seq, gate_seq, lg_apply]
  simp only [st_apply m c t]
  rfl

theorem stateArr_apply (t : Fin cfg0.N) (y : S1x4x128x256.Idx) :
    stateArr (X0_1 m c t) (X0_2 m c t) (iblk m c 4 t) (iblk m c 5 t) (iblk m c 6 t) (iblk m c 7 t) y = kernelState m c (ix4 (seq t) (y 1) (y 2) (y 3)) := by
  obtain ⟨h, d, e, rfl⟩ : ∃ (h : Fin 4) (d : Fin 128) (e : Fin 256), y = ix4 (0 : Fin 1) h d e :=
    ⟨y 1, y 2, y 3, (eq_ix4 y).trans (congrArg (fun a => ix4 a (y 1) (y 2) (y 3)) (Subsingleton.elim (α := Fin 1) (y 0) 0))⟩
  show ptState (X0_1 m c t) (X0_2 m c t) (iblk m c 4 t) (iblk m c 5 t) (iblk m c 6 t) (iblk m c 7 t) h d e = seqState (zArg m c) (stArg m c) (seq t) h d e
  unfold ptState
  rw [rotK_seq, value_seq, lg_apply]
  simp only [st_apply m c t]
  rfl

theorem flushed_eq (t : Fin cfg0.N) : (dats m 0 c).flushed 8 t = ((cfg0.win 8).blk t).view.read (Elt Ideal) (kernelOut m c) := by
  rw [Value.flushed8_A, out_eq (hl := log_lane m c t)]
  funext y
  show outArr _ _ _ _ _ _ _ _ ((cfg0.win 8).xinj (grid0.coords t) y) = kernelOut m c (((cfg0.win 8).blk t).view.emb y)
  rw [outArr_apply]
  obtain ⟨e0, e1, e2⟩ := index8 t
  have h0 : (y 0).val < 1 := (y 0).isLt
  have h1 : (y 1).val < 1 := (y 1).isLt
  refine congrArg (kernelOut m c) (funext fun a => Fin.ext ?_)
  match a with
  | ⟨0, _⟩ => show t.val = win0_8.index t (0 : Fin 3) * 1 + 1 * (y 0).val; omega
  | ⟨1, _⟩ => show 0 = win0_8.index t (1 : Fin 3) * 1 + 1 * (y 1).val; omega
  | ⟨2, _⟩ => show (y 2).val = win0_8.index t (2 : Fin 3) * 1024 + 1 * (y 2).val; omega

theorem flushed_state (t : Fin cfg0.N) : (dats m 0 c).flushed 9 t = ((cfg0.win 9).blk t).view.read (Elt Ideal) (kernelState m c) := by
  rw [Value.flushed9_A, state_eq (hl := log_lane m c t)]
  funext y
  show stateArr _ _ _ _ _ _ ((cfg0.win 9).xinj (grid0.coords t) y) = kernelState m c (((cfg0.win 9).blk t).view.emb y)
  rw [stateArr_apply]
  obtain ⟨e0, e1, e2, e3⟩ := index9 t
  have h0 : (y 0).val < 1 := (y 0).isLt
  refine congrArg (kernelState m c) (funext fun a => Fin.ext ?_)
  match a with
  | ⟨0, _⟩ => show t.val = win0_9.index t (0 : Fin 4) * 1 + 1 * (y 0).val; omega
  | ⟨1, _⟩ => show (y 1).val = win0_9.index t (1 : Fin 4) * 4 + 1 * (y 1).val; omega
  | ⟨2, _⟩ => show (y 2).val = win0_9.index t (2 : Fin 4) * 128 + 1 * (y 2).val; omega
  | ⟨3, _⟩ => show (y 3).val = win0_9.index t (3 : Fin 4) * 256 + 1 * (y 3).val; omega

theorem cover (i : S32x1x1024.Idx) : ∃ t : Fin cfg0.N, (cfg0.win 8).flush t = true ∧ i ∈ ((cfg0.win 8).blk t).view.set := by
  have h1 : (i 1).val < 1 := (i 1).isLt
  have h2 : (i 2).val < 1024 := (i 2).isLt
  obtain ⟨t, et⟩ : ∃ t : Fin cfg0.N, t.val = (i 0).val := ⟨⟨_, lt_of_lt_of_eq (show (i 0).val < 32 from (i 0).isLt) N_0.symm⟩, rfl⟩
  refine ⟨t, flush0_8 t, ?_⟩
  obtain ⟨e0, e1, e2⟩ := index8 t
  show i ∈ ((View.whole main_v43_0).slice (win0_8.rect t)).set
  rw [View.set_slice_whole, Rect.mem_set_unit]
  intro a
  match a with
  | ⟨0, _⟩ =>
    show win0_8.index t (0 : Fin 3) * 1 ≤ (i 0).val ∧ (i 0).val < win0_8.index t (0 : Fin 3) * 1 + 1
    omega
  | ⟨1, _⟩ =>
    show win0_8.index t (1 : Fin 3) * 1 ≤ (i 1).val ∧ (i 1).val < win0_8.index t (1 : Fin 3) * 1 + 1
    omega
  | ⟨2, _⟩ =>
    show win0_8.index t (2 : Fin 3) * 1024 ≤ (i 2).val ∧ (i 2).val < win0_8.index t (2 : Fin 3) * 1024 + 1024
    omega

theorem cover_state (i : S32x4x128x256.Idx) : ∃ t : Fin cfg0.N, (cfg0.win 9).flush t = true ∧ i ∈ ((cfg0.win 9).blk t).view.set := by
  have h1 : (i 1).val < 4 := (i 1).isLt
  have h2 : (i 2).val < 128 := (i 2).isLt
  have h3 : (i 3).val < 256 := (i 3).isLt
  obtain ⟨t, et⟩ : ∃ t : Fin cfg0.N, t.val = (i 0).val := ⟨⟨_, lt_of_lt_of_eq (show (i 0).val < 32 from (i 0).isLt) N_0.symm⟩, rfl⟩
  refine ⟨t, flush0_9 t, ?_⟩
  obtain ⟨e0, e1, e2, e3⟩ := index9 t
  show i ∈ ((View.whole main_v43_1).slice (win0_9.rect t)).set
  rw [View.set_slice_whole, Rect.mem_set_unit]
  intro a
  match a with
  | ⟨0, _⟩ =>
    show win0_9.index t (0 : Fin 4) * 1 ≤ (i 0).val ∧ (i 0).val < win0_9.index t (0 : Fin 4) * 1 + 1
    omega
  | ⟨1, _⟩ =>
    show win0_9.index t (1 : Fin 4) * 4 ≤ (i 1).val ∧ (i 1).val < win0_9.index t (1 : Fin 4) * 4 + 4
    omega
  | ⟨2, _⟩ =>
    show win0_9.index t (2 : Fin 4) * 128 ≤ (i 2).val ∧ (i 2).val < win0_9.index t (2 : Fin 4) * 128 + 128
    omega
  | ⟨3, _⟩ =>
    show win0_9.index t (3 : Fin 4) * 256 ≤ (i 3).val ∧ (i 3).val < win0_9.index t (3 : Fin 4) * 256 + 256
    omega

/-- The kernel's first result. -/
theorem arr_eq : (dats m 0 c).arrAt 8 cfg0.N = kernelOut m c :=
  (dats m 0 c).arrAt_eq_of_cover 8 _ (fun t _ => flushed_eq m c t) cover

/-- The kernel's second result. -/
theorem arr_state : (dats m 0 c).arrAt 9 cfg0.N = kernelState m c :=
  (dats m 0 c).arrAt_eq_of_cover 9 _ (fun t _ => flushed_state m c t) cover_state

end Cert.Layer.RetSample

end
-- ==== Proof.RetSample.Ref.lean ====
/-
  The results of the reference of the sample's retention, read at an index.
-/
module

public import proofs.«01_k».proof.Proof.RefTables
public import proofs.«01_k».proof.Proof.RetSample.Fold
public import proofs.«01_k».proof.Proof.Gen.RetSampleRefIdeal.Read
public import Idealize.ShloMosaic.Lib.Pointwise

@[expose] public section

noncomputable section

namespace Cert.Layer.RetSampleRef

open Idealize.ShloMosaic Idealize.ShloMosaic.TcCoe
open Cert.RetSampleRefIdeal Cert.RetSampleRefIdeal.Gen Cert.RetSampleRefIdeal.Read
open Cert.Retention (rotate cScale gated cosRow sinRow logDecay angle num laneV)
open Cert.Layer.RetSample
open scoped BigOperators

variable (z : Vec Ideal S32x1x10880 .f32) (st : Vec Ideal S2x32x4x128x256 .f32)

theorem lg_apply (h : Fin 4) : val_main_v87 (F := Ideal) (ix1 h) = logDecay h := by
  unfold logDecay num
  pointwise [val_main_v87, val_main_v86, val_main_v85, val_main_cst_8, val_main_v84, val_main_v83, val_main_cst_7, val_main_v82, val_main_v81, val_main_cst_6, val_main_v80]

/-- The position is 16384. -/
theorem position_apply : val_main_v2 (F := Ideal) (ix1 0) = BitVec.ofNat 32 16384 := rfl

theorem angleQ (f : Fin 64) : val_main_v19 (F := Ideal) (ix2 0 f) = angle 16384 f := by
  have e := position_apply
  unfold val_main_v19 val_main_v18 val_main_v16 val_main_v15
  generalize val_main_v2 (F := Ideal) = p at e ⊢
  unfold angle num
  pointwise [val_main_v17, val_main_v14, val_main_v13, val_main_cst_1, val_main_v12, val_main_v11, val_main_cst_0, val_main_v10, val_main_v9, val_main_cst, val_main_v8]
  rw [e]

theorem angleK (f : Fin 64) : val_main_v53 (F := Ideal) (ix2 0 f) = angle 16384 f := angleQ f

theorem qRaw (b : Fin 32) (h : Fin 4) (d : Fin 128) : val_main_v7 (F := Ideal) z (ix4 b 0 h d) = z (ix3 b 0 ⟨128 * h.val + d.val, by omega⟩) := by
  pointwise [val_main_v7, val_main_v3]
  exact congrArg (fun l => z (ix3 b 0 l)) (Fin.ext (by dsimp only; omega))

theorem kRaw (b : Fin 32) (h : Fin 4) (d : Fin 128) : val_main_v41 (F := Ideal) z (ix4 b 0 h d) = z (ix3 b 0 ⟨512 + 128 * h.val + d.val, by omega⟩) := by
  pointwise [val_main_v41, val_main_v4]
  exact congrArg (fun l => z (ix3 b 0 l)) (Fin.ext (by dsimp only; omega))

theorem vRaw (b : Fin 32) (h : Fin 4) (e : Fin 256) : val_main_v77 (F := Ideal) z (ix4 b 0 h e) = seqV z b h e := by
  unfold seqV
  pointwise [val_main_v77, val_main_v5]
  exact congrArg (fun l => z (ix3 b 0 l)) (Fin.ext (by dsimp only; omega))

theorem past_apply (b : Fin 32) (h : Fin 4) (d : Fin 128) (e : Fin 256) : val_main_v79 (F := Ideal) st (ix4 b h d e) = st (ix5 0 b h d e) := by
  pointwise [val_main_v79, val_main_v78]

theorem qRot (b : Fin 32) (h : Fin 4) (d : Fin 128) :
    val_main_v40 (F := Ideal) z (ix4 b 0 h d) = rotate (cosRow 16384) (sinRow 16384) (fun d => z (ix3 b 0 ⟨128 * h.val + d.val, by omega⟩)) d := by
  have e := qRaw z b h
  have a := angleQ
  unfold val_main_v40 val_main_v39 val_main_v38 val_main_v35 val_main_v32 val_main_v31 val_main_v28 val_main_v25 val_main_v24
  generalize val_main_v7 (F := Ideal) z = x at e ⊢
  unfold val_main_v37 val_main_v36 val_main_v34 val_main_v33 val_main_v30 val_main_v29 val_main_v27 val_main_v26 val_main_v23 val_main_v22 val_main_v21 val_main_v20
  generalize val_main_v19 (F := Ideal) = y at a ⊢
  pointwise []
  exact Cert.Retention.Ref.rot_eq (fun d => x (ix4 b 0 h d)) _ e (fun f => y (ix2 0 f)) 16384 a d

theorem kRot (b : Fin 32) (h : Fin 4) (d : Fin 128) :
    val_main_v74 (F := Ideal) z (ix4 b 0 h d) = rotate (cosRow 16384) (sinRow 16384) (fun d => z (ix3 b 0 ⟨512 + 128 * h.val + d.val, by omega⟩)) d := by
  have e := kRaw z b h
  have a := angleK
  unfold val_main_v74 val_main_v73 val_main_v72 val_main_v69 val_main_v66 val_main_v65 val_main_v62 val_main_v59 val_main_v58
  generalize val_main_v41 (F := Ideal) z = x at e ⊢
  unfold val_main_v71 val_main_v70 val_main_v68 val_main_v67 val_main_v64 val_main_v63 val_main_v61 val_main_v60 val_main_v57 val_main_v56 val_main_v55 val_main_v54
  generalize val_main_v53 (F := Ideal) = y at a ⊢
  pointwise []
  exact Cert.Retention.Ref.rot_eq (fun d => x (ix4 b 0 h d)) _ e (fun f => y (ix2 0 f)) 16384 a d

/-- The rotated q, with the heads before the position. -/
theorem query_apply (b : Fin 32) (h : Fin 4) (d : Fin 128) : val_main_v90 (F := Ideal) z (ix4 b h 0 d) = seqQ z b h d := by
  refine Eq.trans ?_ (qRot z b h d)
  unfold val_main_v90
  generalize val_main_v40 (F := Ideal) z = y
  pointwise []

/-- The rotated and scaled k, with the heads before the position. -/
theorem key_apply (b : Fin 32) (h : Fin 4) (d : Fin 128) : val_main_v91 (F := Ideal) z (ix4 b h 0 d) = seqK z b h d := by
  have e := kRot z b h d
  unfold seqK
  rw [← e]
  unfold val_main_v91 val_main_v76
  generalize val_main_v74 (F := Ideal) z = y
  pointwise [val_main_v75, val_main_cst_5]
  rfl

/-- The v, with the heads before the position. -/
theorem value_apply (b : Fin 32) (h : Fin 4) (e : Fin 256) : val_main_v92 (F := Ideal) z (ix4 b h 0 e) = seqV z b h e := by
  refine Eq.trans ?_ (vRaw z b h e)
  unfold val_main_v92
  generalize val_main_v77 (F := Ideal) z = y
  pointwise []

/-- The state after the position. -/
theorem state_apply (b : Fin 32) (h : Fin 4) (d : Fin 128) (e : Fin 256) : val_main_v101 (F := Ideal) z st (ix4 b h d e) = seqState z st b h d e := by
  have eL := lg_apply h
  have eS := past_apply st b h
  have eK := key_apply z b h
  have eV := value_apply z b h
  unfold seqState stepState
  unfold val_main_v101 val_main_v100 val_main_v99 val_main_v98 val_main_v89 val_main_v88
  generalize val_main_v87 (F := Ideal) = L at eL ⊢
  generalize val_main_v79 (F := Ideal) st = S at eS ⊢
  generalize val_main_v91 (F := Ideal) z = K at eK ⊢
  generalize val_main_v92 (F := Ideal) z = V at eV ⊢
  pointwise []
  simp only [Fin.sum_univ_one, eL, eS, eK, eV]

/-- The position's output before it is normalised and gated. -/
theorem raw_apply (b : Fin 32) (h : Fin 4) (e : Fin 256) :
    val_main_v103 (F := Ideal) z st (ix4 b 0 h e) = stepOut (logDecay h) (seqQ z b h) (seqK z b h) (seqV z b h) (fun d e => st (ix5 0 b h d e)) e := by
  have eL := lg_apply h
  have eS := past_apply st b h
  have eQ := query_apply z b h
  have eK := key_apply z b h
  have eV := value_apply z b h
  unfold stepOut
  unfold val_main_v103 val_main_v102 val_main_v97 val_main_v96 val_main_v95 val_main_v94 val_main_v93 val_main_v89 val_main_v88
  generalize val_main_v87 (F := Ideal) = L at eL ⊢
  generalize val_main_v79 (F := Ideal) st = S at eS ⊢
  generalize val_main_v90 (F := Ideal) z = Q at eQ ⊢
  generalize val_main_v91 (F := Ideal) z = K at eK ⊢
  generalize val_main_v92 (F := Ideal) z = V at eV ⊢
  pointwise []
  simp only [Fin.sum_univ_one, eL, eS, eQ, eK, eV]

/-- The output normalised and gated. -/
theorem gated_apply (b : Fin 32) (h : Fin 4) (e : Fin 256) : val_main_v117 (F := Ideal) z st (ix3 b 0 (laneV h e)) = seqOut z st b h e := by
  have ho := raw_apply z st b h
  unfold seqOut seqG
  unfold val_main_v117 val_main_v116 val_main_v114 val_main_v113 val_main_v112 val_main_v111 val_main_v110 val_main_v108 val_main_v106 val_main_v105 val_main_v104
  generalize val_main_v103 (F := Ideal) z st = y at ho ⊢
  obtain ⟨l, hl⟩ : ∃ l : Fin 1024, l = laneV h e := ⟨_, rfl⟩
  have hw : l.val = 256 * h.val + e.val := congrArg Fin.val hl
  rw [← hl]
  clear hl
  pointwise [val_main_v115, val_main_call0_v5, val_main_call0_v4, val_main_call0_cst_0, val_main_call0_v3, val_main_call0_v2, val_main_call0_cst, val_main_call0_v1, val_main_call0_v0,
    val_main_v6, val_main_v109, val_main_cst_11, val_main_v107, val_main_cst_10, val_main_cst_9]
  have e1 : (⟨l.val / 256, by omega⟩ : Fin 4) = h := Fin.ext (by show l.val / 256 = h.val; omega)
  have e2 : (⟨l.val % 256, by omega⟩ : Fin 256) = e := Fin.ext (by show l.val % 256 = e.val; omega)
  have e3 : (⟨2048 + l.val, by omega⟩ : Fin 10880) = ⟨2048 + 256 * h.val + e.val, by omega⟩ :=
    Fin.ext (by show 2048 + l.val = 2048 + 256 * h.val + e.val; omega)
  rw [e1, e2, e3]
  simp only [ho]
  rfl

/-- The reference's first result. -/
theorem ref_eq : val_main_v117 (F := Ideal) z st = fun i =>
    seqOut z st (i 0) ⟨(i 2).val / 256, by have : (i 2).val < 1024 := (i 2).isLt; omega⟩ ⟨(i 2).val % 256, by omega⟩ := by
  funext i
  obtain ⟨b, l, rfl⟩ : ∃ (b : Fin 32) (l : Fin 1024), i = ix3 b (0 : Fin 1) l :=
    ⟨i 0, i 2, (eq_ix3 i).trans (congrArg (fun a => ix3 (i 0) a (i 2)) (Subsingleton.elim (α := Fin 1) (i 1) 0))⟩
  obtain ⟨h, e, rfl⟩ : ∃ h e, l = laneV h e :=
    ⟨⟨l.val / 256, by omega⟩, ⟨l.val % 256, by omega⟩, Fin.ext (by show l.val = 256 * (l.val / 256) + l.val % 256; omega)⟩
  refine (gated_apply z st b h e).trans (Eq.trans (congrArg (seqOut z st b h) (Fin.ext ?_)) (congrArg (fun k => seqOut z st b k _) (Fin.ext ?_)))
  · show e.val = (256 * h.val + e.val) % 256; omega
  · show h.val = (256 * h.val + e.val) / 256; omega

/-- The reference's second result. -/
theorem ref_state : val_main_v101 (F := Ideal) z st = fun i => seqState z st (i 0) (i 1) (i 2) (i 3) := by
  funext i
  obtain ⟨b, h, d, e, rfl⟩ : ∃ (b : Fin 32) (h : Fin 4) (d : Fin 128) (e : Fin 256), i = ix4 b h d e := ⟨i 0, i 1, i 2, i 3, eq_ix4 i⟩
  exact state_apply z st b h d e

end Cert.Layer.RetSampleRef

end
-- ==== Proof.RetSample.Claims.lean ====
/-
  The claims of the retention on the sample.
-/
module

public import proofs.«01_k».proof.Defs
public import proofs.«01_k».proof.Proof.RetSample.Fold
public import proofs.«01_k».proof.Proof.RetSample.Ref
public import proofs.«01_k».proof.Proof.Gen.RetSample
public import proofs.«01_k».proof.Proof.Gen.RetSample.Frame
public import proofs.«01_k».proof.Proof.Gen.RetSampleIdeal
public import proofs.«01_k».proof.Proof.Gen.RetSampleRefIdeal

@[expose] public section

noncomputable section

namespace Cert.Layer.RetSample

open Idealize.ShloMosaic Idealize.ShloMosaic.TcCoe
open Idealize.SL.Sem

theorem frame_kernel : Cert.quiescent_RetSample := fun m ρ _ => Cert.RetSample.Gen.frame m ρ

theorem frame_ideal : Cert.quiescent_RetSampleIdeal := fun m ρ _ => Cert.RetSampleIdeal.Gen.frame m ρ

theorem frame_reference : Cert.quiescent_RetSampleRefIdeal := fun m ρ _ =>
  (θ_run Cert.RetSampleRefIdeal.defs _ _).mono (fun r h => ⟨fun c => (h c).2.2,
      Idealize.ShloMosaic.sem_eq_zero_of_no_sems (by decide) r.2⟩)
    (Cert.RetSampleRefIdeal.Value.run (F := Ideal) m ρ)

/-- The kernel's results and the reference's are the same functions of the same arguments. -/
theorem algebraic : Cert.algebraic_RetSampleIdeal_RetSampleRefIdeal := by
  intro m ρ m' ρ' _ hagree
  refine ⟨fun c => kernelOut m c, fun c => kernelState m c,
    (θ_run _ _ _).mono (fun _ h c => ⟨(h c).1.trans (arr_eq m c), (h c).2.1.trans (arr_state m c), (h c).2.2⟩) (Cert.RetSampleIdeal.Value.run_blocks (F := Ideal) m ρ), ?_⟩
  refine (θ_run _ _ _).mono (fun _ h c => ⟨(h c).1.trans ?_, (h c).2.1.trans ?_, (h c).2.2⟩) (Cert.RetSampleRefIdeal.Value.run (F := Ideal) m' ρ')
  all_goals obtain ⟨h0, h1⟩ := hagree c
  · rw [Cert.RetSampleRefIdeal.Read.val_main_v117_eq, h0, h1]
    exact RetSampleRef.ref_eq _ _
  · rw [Cert.RetSampleRefIdeal.Read.val_main_v101_eq, h0, h1]
    exact RetSampleRef.ref_state _ _

end Cert.Layer.RetSample

end
-- ==== Proof.Rotary.lean ====
/-
  The arrays the attention keeps: the formulas of the normalised and rotated keys, row by row, and the rotation that the
  kernel does on all 128 lanes with tables.
-/
module

public import Idealize.ShloMosaic.PureOps.Ideal
public import Idealize.ShloMosaic.Lib.Pointwise
public import Mathlib.Algebra.BigOperators.Fin
public import Mathlib.Tactic.NormNum

@[expose] public section

noncomputable section

namespace Cert.Layer

open Idealize.ShloMosaic
open scoped BigOperators

/-- A row as a function of the lane's number: nothing beyond the row's end. -/
def lanesOf {n : ℕ} (f : Fin n → EReal) (l : ℕ) : EReal := if h : l < n then f ⟨l, h⟩ else 0

theorem lanesOf_lt {n : ℕ} (f : Fin n → EReal) {l : ℕ} (h : l < n) : lanesOf f l = f ⟨l, h⟩ := dif_pos h

/-- The angle of position number `t` and frequency `f`, where `half` is the number of frequencies. -/
def ropeAngle (half : BitVec 32) (t : EReal) (f : ℕ) : EReal :=
  t * Ideal.div (Ideal.ofBits .f32 0x3F800000#32)
    (Ideal.pow (Ideal.ofBits .f32 0x48F42400#32) (Ideal.div (((BitVec.ofNat 32 f).toInt : ℝ) : EReal) (Ideal.ofBits .f32 half)))

/-- The number of the sample's position. -/
def lastPos : EReal := (((16384#32).toInt : ℝ) : EReal)

/-- The rotation of the first `2 h` lanes of a row by the angles `a`; the lanes after them stay. -/
def rotary (h : ℕ) (a y : ℕ → EReal) (d : ℕ) : EReal :=
  if d < h then y d * Ideal.cos (a d) - y (h + d) * Ideal.sin (a d)
  else if d < 2 * h then y d * Ideal.cos (a (d - h)) + y (d - h) * Ideal.sin (a (d - h))
  else y d

/-- A row of `n` lanes divided by its root mean square, times `g`. -/
def headNorm (n : ℕ) (den : EReal) (x g : ℕ → EReal) (l : ℕ) : EReal :=
  x l * Ideal.rsqrt (Ideal.div (∑ j : Fin n, x j.val * x j.val) den + Ideal.ofBits .f32 0x358637BD#32) * g l

/-- The lane that a rotation to the right by `s` lanes brings to lane `d`. -/
def laneAt (s : ℕ) (d : Fin 128) : Fin 128 := ⟨(d.val + 128 - s) % 128, Nat.mod_lt _ (by decide)⟩

/-- The rotation on all 128 lanes, with tables that are 1 and 0 on the lanes that stay. -/
def laneRot (h : ℕ) (c s₁ s₂ y : Fin 128 → EReal) (d : Fin 128) : EReal :=
  y d * c d + y (laneAt (128 - h) d) * s₁ d + y (laneAt h d) * s₂ d

theorem laneRot_eq (h : ℕ) (hh : 2 * h ≤ 128) (a y : ℕ → EReal) {c s₁ s₂ Y : Fin 128 → EReal} (hY : ∀ d, Y d = y d.val) (d : Fin 128)
    (hc : c d = if d.val < 2 * h then Ideal.cos (a (d.val % h)) else 1)
    (h₁ : s₁ d = if d.val < h then -Ideal.sin (a (d.val % h)) else 0)
    (h₂ : s₂ d = if h ≤ d.val ∧ d.val < 2 * h then Ideal.sin (a (d.val % h)) else 0) :
    laneRot h c s₁ s₂ Y d = rotary h a y d.val := by
  unfold laneRot rotary
  rw [hc, h₁, h₂, hY, hY, hY]
  by_cases e : d.val < h
  · have e₁ : (laneAt (128 - h) d).val = h + d.val := by show (d.val + 128 - (128 - h)) % 128 = h + d.val; omega
    rw [if_pos (by omega), if_pos e, if_neg (by omega), if_pos e, e₁, Nat.mod_eq_of_lt e, mul_zero, add_zero, mul_neg, sub_eq_add_neg]
  · by_cases e' : d.val < 2 * h
    · have e₂ : (laneAt h d).val = d.val - h := by show (d.val + 128 - h) % 128 = d.val - h; omega
      have em : d.val % h = d.val - h := by rw [Nat.mod_eq_sub_mod (by omega), Nat.mod_eq_of_lt (by omega)]
      rw [if_pos e', if_neg e, if_pos ⟨by omega, e'⟩, if_neg e, if_pos e', e₂, em, mul_zero, add_zero]
    · rw [if_neg e', if_neg e, if_neg (by omega), if_neg e, if_neg e', mul_one, mul_zero, mul_zero, add_zero, add_zero]

/-- The sum of the squares of 128 lanes of which the last 64 are cleared. -/
theorem sum_cleared (f : Fin 128 → EReal) :
    ∑ j : Fin 128, (if j.val < 64 then f j else 0) * (if j.val < 64 then f j else 0) = ∑ j : Fin 64, f ⟨j.val, by omega⟩ * f ⟨j.val, by omega⟩ := by
  rw [Fin.sum_univ_add (a := 64) (b := 64)]
  have hz : ∑ i : Fin 64, (if (Fin.natAdd 64 i : Fin 128).val < 64 then f (Fin.natAdd 64 i) else 0) * (if (Fin.natAdd 64 i : Fin 128).val < 64 then f (Fin.natAdd 64 i) else 0) = (0 : EReal) :=
    Finset.sum_eq_zero fun i _ => by
      rw [if_neg (show ¬ (Fin.natAdd 64 i : Fin 128).val < 64 from Nat.not_lt.mpr (Nat.le_add_right 64 i.val)), mul_zero]
  rw [hz, add_zero]
  refine Finset.sum_congr rfl fun i _ => ?_
  rw [if_pos (show (Fin.castAdd 64 i : Fin 128).val < 64 from i.isLt)]
  rfl

theorem sixtyFour_f32 : Ideal.ofBits .f32 0x42800000#32 = ((64 : ℝ) : EReal) := by
  simp [Ideal.ofBits, Ideal.ieee, -EReal.coe_mul]
  norm_num

theorem sixtyFourth_f32 : Ideal.ofBits .f32 0x3C800000#32 = ((64⁻¹ : ℝ) : EReal) := by
  simp [Ideal.ofBits, Ideal.ieee, -EReal.coe_mul]
  norm_num

/-- Division by 64 is multiplication with its inverse. -/
theorem mul_sixtyFourth (x : EReal) : x * Ideal.ofBits .f32 0x3C800000#32 = Ideal.div x (Ideal.ofBits .f32 0x42800000#32) := by
  rw [sixtyFourth_f32, sixtyFour_f32, Ideal.div_coe (by norm_num), one_div]

/-- An entry of the keys. `z` is the projections' row, `g` the norm's weights and `t` the position's number. -/
def keyRow (t : EReal) (z : Fin 10880 → EReal) (g : Fin 128 → EReal) (l : ℕ) : EReal :=
  rotary 16 (ropeAngle 0x41800000#32 t)
    (headNorm 128 (Ideal.ofBits .f32 0x43000000#32) (fun d => lanesOf z (9216 + 128 * (l / 128) + d)) (lanesOf g)) (l % 128)

/-- An entry of the values. -/
def valueRow (z : Fin 10880 → EReal) (l : ℕ) : EReal := lanesOf z (9728 + l)

/-- An entry of the indexer's keys. -/
def indexRow (t : EReal) (z : Fin 10880 → EReal) (g : Fin 64 → EReal) (l : ℕ) : EReal :=
  rotary 8 (ropeAngle 0x41000000#32 t)
    (headNorm 64 (Ideal.ofBits .f32 0x42800000#32) (fun d => lanesOf z (10752 + d)) (lanesOf g)) l

end Cert.Layer

end
-- ==== Proof.PrepSample.Tile.lean ====
/-
  The attention's arrays of the sample: what the steps of the kernel's body compute, entry by entry.
-/
module

public import proofs.«01_k».proof.Proof.Rotary
public import proofs.«01_k».proof.Proof.Gen.PrepSampleIdeal.Skeleton
public import proofs.«01_k».proof.Proof.Gen.PrepSampleIdeal
public import Idealize.ShloMosaic.Lib.Pointwise

@[expose] public section

noncomputable section

namespace Cert.Layer.PrepSample

open Idealize.ShloMosaic
open Cert.PrepSampleIdeal Cert.PrepSampleIdeal.Gen
open scoped BigOperators

/-- A row of a head's keys, normalised. -/
def unitRow (x : Vec Ideal S32x128 .f32) (g : Vec Ideal S1x128 .f32) (p : Fin 32) (l : Fin 128) : EReal :=
  x (ix2 p l) * Ideal.rsqrt (Ideal.div (∑ j : Fin 128, x (ix2 p j) * x (ix2 p j)) (Ideal.ofBits .f32 0x43000000#32) + Ideal.ofBits .f32 0x358637BD#32)
    * g (ix2 0 l)

/-- The keys of one head, from the tables, the norm's weights and the head's columns. -/
def head (c s₁ s₂ : Vec Ideal S32x128 .f32) (g : Vec Ideal S1x128 .f32) (x : Vec Ideal S32x128 .f32) : FVec Ideal S32x128 .f32 :=
  k0_pay27 (F := Ideal) (k0_pay4 c) (k0_pay5 s₁) (k0_pay6 s₂) (k0_pay11 g) x

theorem head_apply (c s₁ s₂ : Vec Ideal S32x128 .f32) (g : Vec Ideal S1x128 .f32) (x : Vec Ideal S32x128 .f32) (p : Fin 32) (d : Fin 128) :
    head c s₁ s₂ g x (ix2 p d)
      = laneRot 16 (fun d => c (ix2 p d)) (fun d => s₁ (ix2 p d)) (fun d => s₂ (ix2 p d)) (unitRow x g p) d := by
  unfold head laneRot laneAt unitRow
  pointwise [k0_pay27, k0_pay4, k0_pay5, k0_pay6, k0_pay11]

/-- A row divided by its root mean square over 64 lanes, times the weights. -/
def unitOf (y : Vec Ideal S32x128 .f32) (g : Vec Ideal S1x128 .f32) (p : Fin 32) (l : Fin 128) : EReal :=
  y (ix2 p l) * Ideal.rsqrt ((∑ j : Fin 128, y (ix2 p j) * y (ix2 p j)) * Ideal.ofBits .f32 0x3C800000#32 + Ideal.ofBits .f32 0x358637BD#32)
    * g (ix2 0 l)

/-- The indexer's keys. -/
def indexKeys (c s₁ s₂ : Vec Ideal S32x128 .f32) (g : Vec Ideal S1x128 .f32) (x : Vec Ideal S32x128 .f32) : FVec Ideal S32x64 .f32 :=
  k0_pay3 (F := Ideal) (k0_pay7 c) (k0_pay8 s₁) (k0_pay9 s₂) (k0_pay40 x) (k0_pay41 x) g

theorem below64 : ∀ l : Fin 128, IntOp.cmpi .slt (BitVec.ofNat 32 l.val) 64#32 = if l.val < 64 then 1#1 else 0#1 := by decide +kernel

/-- The lanes from 64 on are cleared. -/
theorem cleared_apply (x : Vec Ideal S32x128 .f32) (p : Fin 32) (l : Fin 128) :
    k0_pay40 (F := Ideal) x (ix2 p l) = if l.val < 64 then x (ix2 p l) else 0 := by
  have e : k0_pay40 (F := Ideal) x (ix2 p l) = Scalar.select (IntOp.cmpi .slt (BitVec.ofNat 32 l.val) 64#32) (x (ix2 p l)) 0 := by
    pointwise [k0_pay40]
  rw [e, below64]
  by_cases h : l.val < 64
  · rw [if_pos h, if_pos h, ValueIdx.select_one]
  · rw [if_neg h, if_neg h, ValueIdx.select_zero]

theorem indexKeys_apply (c s₁ s₂ : Vec Ideal S32x128 .f32) (g : Vec Ideal S1x128 .f32) (x : Vec Ideal S32x128 .f32) (p : Fin 32) (d : Fin 64) :
    indexKeys c s₁ s₂ g x (ix2 p d)
      = laneRot 8 (fun d => c (ix2 p d)) (fun d => s₁ (ix2 p d)) (fun d => s₂ (ix2 p d)) (unitOf (k0_pay40 (F := Ideal) x) g p) ⟨d.val, by omega⟩ := by
  unfold indexKeys k0_pay41
  generalize k0_pay40 (F := Ideal) x = y
  unfold laneRot laneAt unitOf
  pointwise [k0_pay3, k0_pay1, k0_pay7, k0_pay8, k0_pay9]

end Cert.Layer.PrepSample

end
-- ==== Proof.PrepSample.IdealRun.lean ====
/-
  The attention's arrays of the sample, kernel over the extended reals: what one call of its body does.
-/
module

public import proofs.«01_k».proof.Proof.Gen.PrepSampleIdeal.Frame.Runs
public import Idealize.ShloMosaic.Lib.Claim

@[expose] public section

set_option maxRecDepth 16384

noncomputable section

namespace Cert.Layer.PrepSample.Ideal

open Cert.PrepSampleIdeal Cert.PrepSampleIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 8000000 in
/-- The parts that the body writes of each output, last first, and the proof that the body, called with the inputs' blocks, ends
    with them written and the inputs as they were. -/
noncomputable def kernelRun0_A (c : Dev nD) (i : grid0.Coords) (arg1 : Memref sig .tc .vmem S32x1024 .f32) (harg1 : arg1.IsWhole) (arg2 : Memref sig .tc .vmem S32x512 .f32) (harg2 : arg2.IsWhole) (arg3 : Memref sig .tc .vmem S32x512 .f32) (harg3 : arg3.IsWhole) (arg4 : Memref sig .tc .vmem S32x512 .f32) (harg4 : arg4.IsWhole) (arg5 : Memref sig .tc .vmem S32x128 .f32) (harg5 : arg5.IsWhole) (arg6 : Memref sig .tc .vmem S32x128 .f32) (harg6 : arg6.IsWhole) (arg7 : Memref sig .tc .vmem S32x128 .f32) (harg7 : arg7.IsWhole) (arg8 : Memref sig .tc .vmem S32x128 .f32) (harg8 : arg8.IsWhole) (arg9 : Memref sig .tc .vmem S32x128 .f32) (harg9 : arg9.IsWhole) (arg10 : Memref sig .tc .vmem S32x128 .f32) (harg10 : arg10.IsWhole) (arg11 : Memref sig .tc .vmem S32x128 .f32) (harg11 : arg11.IsWhole) (arg12 : Memref sig .tc .vmem S1x128 .f32) (harg12 : arg12.IsWhole) (arg13 : Memref sig .tc .vmem S1x128 .f32) (harg13 : arg13.IsWhole) (arg14 : Memref sig .tc .vmem S1x128 .f32) (harg14 : arg14.IsWhole) (arg15 : Memref sig .tc .vmem S32x1024 .bf16) (harg15 : arg15.IsWhole) (arg16 : Memref sig .tc .vmem S32x512 .f32) (harg16 : arg16.IsWhole) (arg17 : Memref sig .tc .vmem S32x512 .bf16) (harg17 : arg17.IsWhole) (arg18 : Memref sig .tc .vmem S32x512 .f32) (harg18 : arg18.IsWhole) (arg19 : Memref sig .tc .vmem S32x512 .f32) (harg19 : arg19.IsWhole) (arg20 : Memref sig .tc .vmem S32x128 .f32) (harg20 : arg20.IsWhole) (arg21 : Memref sig .tc .vmem S32x64 .f32) (harg21 : arg21.IsWhole)
    (x0 : Vec F S32x1024 .f32) (x1 : Vec F S32x512 .f32) (x2 : Vec F S32x512 .f32) (x3 : Vec F S32x512 .f32) (x4 : Vec F S32x128 .f32) (x5 : Vec F S32x128 .f32) (x6 : Vec F S32x128 .f32) (x7 : Vec F S32x128 .f32) (x8 : Vec F S32x128 .f32) (x9 : Vec F S32x128 .f32) (x10 : Vec F S32x128 .f32) (x11 : Vec F S1x128 .f32) (x12 : Vec F S1x128 .f32) (x13 : Vec F S1x128 .f32) :
    Σ' (L14 : List (View.Piece (Elt F) S32x1024 .bf16)), Σ' (L15 : List (View.Piece (Elt F) S32x512 .f32)), Σ' (L16 : List (View.Piece (Elt F) S32x512 .bf16)), Σ' (L17 : List (View.Piece (Elt F) S32x512 .f32)), Σ' (L18 : List (View.Piece (Elt F) S32x512 .f32)), Σ' (L19 : List (View.Piece (Elt F) S32x128 .f32)), { L20 : List (View.Piece (Elt F) S32x64 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ (∃ f, arg15.view.loc (c : Thread nD τ) ↦[arg15.view.set]{fullShare} arg15.view.writes (Elt F) f L14) ∗ (∃ f, arg16.view.loc (c : Thread nD τ) ↦[arg16.view.set]{fullShare} arg16.view.writes (Elt F) f L15) ∗ (∃ f, arg17.view.loc (c : Thread nD τ) ↦[arg17.view.set]{fullShare} arg17.view.writes (Elt F) f L16) ∗ (∃ f, arg18.view.loc (c : Thread nD τ) ↦[arg18.view.set]{fullShare} arg18.view.writes (Elt F) f L17) ∗ (∃ f, arg19.view.loc (c : Thread nD τ) ↦[arg19.view.set]{fullShare} arg19.view.writes (Elt F) f L18) ∗ (∃ f, arg20.view.loc (c : Thread nD τ) ↦[arg20.view.set]{fullShare} arg20.view.writes (Elt F) f L19) ∗ (∃ f, arg21.view.loc (c : Thread nD τ) ↦[arg21.view.set]{fullShare} arg21.view.writes (Elt F) f L20)) -∗ K ⟨⟩))
          ⊢ wp frame (wpE (defs₀ (F := F)) Variants.none c none) E (cc0_dsa_prep i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21) K } := by
  refine ⟨?_, ?_, ?_, ?_, ?_, ?_, ?_, fun E K => ?run⟩
  case run =>
    simp only [cc0_dsa_prep_eq_skeleton]; unfold cc0_dsa_prep_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%d14, %f14, -, H14⟩, ⟨%d15, %f15, -, H15⟩, ⟨%d16, %f16, -, H16⟩, ⟨%d17, %f17, -, H17⟩, ⟨%d18, %f18, -, H18⟩, ⟨%d19, %f19, -, H19⟩, ⟨%d20, %f20, -, H20⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11; obtain rfl := harg13.eq_unread hf12; obtain rfl := harg14.eq_unread hf13
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [H11]
    · iexists _; isplitr; · ipureintro; exact harg12.read_unread _
      iexact H11
    isplitl [H12]
    · iexists _; isplitr; · ipureintro; exact harg13.read_unread _
      iexact H12
    isplitl [H13]
    · iexists _; isplitr; · ipureintro; exact harg14.read_unread _
      iexact H13
    isplitl [H14]; · iexists _; iexact H14
    isplitl [H15]; · iexists _; iexact H15
    isplitl [H16]; · iexists _; iexact H16
    isplitl [H17]; · iexists _; iexact H17
    isplitl [H18]; · iexists _; iexact H18
    isplitl [H19]; · iexists _; iexact H19
    iexists _; iexact H20

end Cert.Layer.PrepSample.Ideal

end
-- ==== Proof.PrepSample.IdealFrame.lean ====
/-
  The attention's arrays of the sample, kernel over the extended reals: it ends, and leaves its arguments as they were.
-/
module

public import proofs.«01_k».proof.Proof.PrepSample.IdealRun
public import Idealize.ShloMosaic.Lib.Claim

@[expose] public section

set_option maxRecDepth 16384

noncomputable section

namespace Cert.Layer.PrepSample.Ideal

open Cert.PrepSampleIdeal Cert.PrepSampleIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-- The parts that the body writes of output 14 cover its block. -/
theorem cover0_A_14 (c : Dev nD) (i : grid0.Coords) (arg1 : Memref sig .tc .vmem S32x1024 .f32) (harg1 : arg1.IsWhole) (arg2 : Memref sig .tc .vmem S32x512 .f32) (harg2 : arg2.IsWhole) (arg3 : Memref sig .tc .vmem S32x512 .f32) (harg3 : arg3.IsWhole) (arg4 : Memref sig .tc .vmem S32x512 .f32) (harg4 : arg4.IsWhole) (arg5 : Memref sig .tc .vmem S32x128 .f32) (harg5 : arg5.IsWhole) (arg6 : Memref sig .tc .vmem S32x128 .f32) (harg6 : arg6.IsWhole) (arg7 : Memref sig .tc .vmem S32x128 .f32) (harg7 : arg7.IsWhole) (arg8 : Memref sig .tc .vmem S32x128 .f32) (harg8 : arg8.IsWhole) (arg9 : Memref sig .tc .vmem S32x128 .f32) (harg9 : arg9.IsWhole) (arg10 : Memref sig .tc .vmem S32x128 .f32) (harg10 : arg10.IsWhole) (arg11 : Memref sig .tc .vmem S32x128 .f32) (harg11 : arg11.IsWhole) (arg12 : Memref sig .tc .vmem S1x128 .f32) (harg12 : arg12.IsWhole) (arg13 : Memref sig .tc .vmem S1x128 .f32) (harg13 : arg13.IsWhole) (arg14 : Memref sig .tc .vmem S1x128 .f32) (harg14 : arg14.IsWhole) (arg15 : Memref sig .tc .vmem S32x1024 .bf16) (harg15 : arg15.IsWhole) (arg16 : Memref sig .tc .vmem S32x512 .f32) (harg16 : arg16.IsWhole) (arg17 : Memref sig .tc .vmem S32x512 .bf16) (harg17 : arg17.IsWhole) (arg18 : Memref sig .tc .vmem S32x512 .f32) (harg18 : arg18.IsWhole) (arg19 : Memref sig .tc .vmem S32x512 .f32) (harg19 : arg19.IsWhole) (arg20 : Memref sig .tc .vmem S32x128 .f32) (harg20 : arg20.IsWhole) (arg21 : Memref sig .tc .vmem S32x64 .f32) (harg21 : arg21.IsWhole)
    (x0 : Vec F S32x1024 .f32) (x1 : Vec F S32x512 .f32) (x2 : Vec F S32x512 .f32) (x3 : Vec F S32x512 .f32) (x4 : Vec F S32x128 .f32) (x5 : Vec F S32x128 .f32) (x6 : Vec F S32x128 .f32) (x7 : Vec F S32x128 .f32) (x8 : Vec F S32x128 .f32) (x9 : Vec F S32x128 .f32) (x10 : Vec F S32x128 .f32) (x11 : Vec F S1x128 .f32) (x12 : Vec F S1x128 .f32) (x13 : Vec F S1x128 .f32) (y : S32x1024.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9 x10 x11 x12 x13).1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9 x10 x11 x12 x13).1 S32x128.size (by sl_kernel_rfl) y

/-- What the body leaves in output 14's block. -/
def out0_A_14 (c : Dev nD) (i : grid0.Coords) (arg1 : Memref sig .tc .vmem S32x1024 .f32) (harg1 : arg1.IsWhole) (arg2 : Memref sig .tc .vmem S32x512 .f32) (harg2 : arg2.IsWhole) (arg3 : Memref sig .tc .vmem S32x512 .f32) (harg3 : arg3.IsWhole) (arg4 : Memref sig .tc .vmem S32x512 .f32) (harg4 : arg4.IsWhole) (arg5 : Memref sig .tc .vmem S32x128 .f32) (harg5 : arg5.IsWhole) (arg6 : Memref sig .tc .vmem S32x128 .f32) (harg6 : arg6.IsWhole) (arg7 : Memref sig .tc .vmem S32x128 .f32) (harg7 : arg7.IsWhole) (arg8 : Memref sig .tc .vmem S32x128 .f32) (harg8 : arg8.IsWhole) (arg9 : Memref sig .tc .vmem S32x128 .f32) (harg9 : arg9.IsWhole) (arg10 : Memref sig .tc .vmem S32x128 .f32) (harg10 : arg10.IsWhole) (arg11 : Memref sig .tc .vmem S32x128 .f32) (harg11 : arg11.IsWhole) (arg12 : Memref sig .tc .vmem S1x128 .f32) (harg12 : arg12.IsWhole) (arg13 : Memref sig .tc .vmem S1x128 .f32) (harg13 : arg13.IsWhole) (arg14 : Memref sig .tc .vmem S1x128 .f32) (harg14 : arg14.IsWhole) (arg15 : Memref sig .tc .vmem S32x1024 .bf16) (harg15 : arg15.IsWhole) (arg16 : Memref sig .tc .vmem S32x512 .f32) (harg16 : arg16.IsWhole) (arg17 : Memref sig .tc .vmem S32x512 .bf16) (harg17 : arg17.IsWhole) (arg18 : Memref sig .tc .vmem S32x512 .f32) (harg18 : arg18.IsWhole) (arg19 : Memref sig .tc .vmem S32x512 .f32) (harg19 : arg19.IsWhole) (arg20 : Memref sig .tc .vmem S32x128 .f32) (harg20 : arg20.IsWhole) (arg21 : Memref sig .tc .vmem S32x64 .f32) (harg21 : arg21.IsWhole)
    (x0 : Vec F S32x1024 .f32) (x1 : Vec F S32x512 .f32) (x2 : Vec F S32x512 .f32) (x3 : Vec F S32x512 .f32) (x4 : Vec F S32x128 .f32) (x5 : Vec F S32x128 .f32) (x6 : Vec F S32x128 .f32) (x7 : Vec F S32x128 .f32) (x8 : Vec F S32x128 .f32) (x9 : Vec F S32x128 .f32) (x10 : Vec F S32x128 .f32) (x11 : Vec F S1x128 .f32) (x12 : Vec F S1x128 .f32) (x13 : Vec F S1x128 .f32) : Vec F S32x1024 .bf16 :=
  VO0_14.read (Elt F) (VO0_14.writes (Elt F) VO0_14.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9 x10 x11 x12 x13).1)

/-- The parts that the body writes of output 15 cover its block. -/
theorem cover0_A_15 (c : Dev nD) (i : grid0.Coords) (arg1 : Memref sig .tc .vmem S32x1024 .f32) (harg1 : arg1.IsWhole) (arg2 : Memref sig .tc .vmem S32x512 .f32) (harg2 : arg2.IsWhole) (arg3 : Memref sig .tc .vmem S32x512 .f32) (harg3 : arg3.IsWhole) (arg4 : Memref sig .tc .vmem S32x512 .f32) (harg4 : arg4.IsWhole) (arg5 : Memref sig .tc .vmem S32x128 .f32) (harg5 : arg5.IsWhole) (arg6 : Memref sig .tc .vmem S32x128 .f32) (harg6 : arg6.IsWhole) (arg7 : Memref sig .tc .vmem S32x128 .f32) (harg7 : arg7.IsWhole) (arg8 : Memref sig .tc .vmem S32x128 .f32) (harg8 : arg8.IsWhole) (arg9 : Memref sig .tc .vmem S32x128 .f32) (harg9 : arg9.IsWhole) (arg10 : Memref sig .tc .vmem S32x128 .f32) (harg10 : arg10.IsWhole) (arg11 : Memref sig .tc .vmem S32x128 .f32) (harg11 : arg11.IsWhole) (arg12 : Memref sig .tc .vmem S1x128 .f32) (harg12 : arg12.IsWhole) (arg13 : Memref sig .tc .vmem S1x128 .f32) (harg13 : arg13.IsWhole) (arg14 : Memref sig .tc .vmem S1x128 .f32) (harg14 : arg14.IsWhole) (arg15 : Memref sig .tc .vmem S32x1024 .bf16) (harg15 : arg15.IsWhole) (arg16 : Memref sig .tc .vmem S32x512 .f32) (harg16 : arg16.IsWhole) (arg17 : Memref sig .tc .vmem S32x512 .bf16) (harg17 : arg17.IsWhole) (arg18 : Memref sig .tc .vmem S32x512 .f32) (harg18 : arg18.IsWhole) (arg19 : Memref sig .tc .vmem S32x512 .f32) (harg19 : arg19.IsWhole) (arg20 : Memref sig .tc .vmem S32x128 .f32) (harg20 : arg20.IsWhole) (arg21 : Memref sig .tc .vmem S32x64 .f32) (harg21 : arg21.IsWhole)
    (x0 : Vec F S32x1024 .f32) (x1 : Vec F S32x512 .f32) (x2 : Vec F S32x512 .f32) (x3 : Vec F S32x512 .f32) (x4 : Vec F S32x128 .f32) (x5 : Vec F S32x128 .f32) (x6 : Vec F S32x128 .f32) (x7 : Vec F S32x128 .f32) (x8 : Vec F S32x128 .f32) (x9 : Vec F S32x128 .f32) (x10 : Vec F S32x128 .f32) (x11 : Vec F S1x128 .f32) (x12 : Vec F S1x128 .f32) (x13 : Vec F S1x128 .f32) (y : S32x512.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9 x10 x11 x12 x13).2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9 x10 x11 x12 x13).2.1 S32x128.size (by sl_kernel_rfl) y

/-- What the body leaves in output 15's block. -/
def out0_A_15 (c : Dev nD) (i : grid0.Coords) (arg1 : Memref sig .tc .vmem S32x1024 .f32) (harg1 : arg1.IsWhole) (arg2 : Memref sig .tc .vmem S32x512 .f32) (harg2 : arg2.IsWhole) (arg3 : Memref sig .tc .vmem S32x512 .f32) (harg3 : arg3.IsWhole) (arg4 : Memref sig .tc .vmem S32x512 .f32) (harg4 : arg4.IsWhole) (arg5 : Memref sig .tc .vmem S32x128 .f32) (harg5 : arg5.IsWhole) (arg6 : Memref sig .tc .vmem S32x128 .f32) (harg6 : arg6.IsWhole) (arg7 : Memref sig .tc .vmem S32x128 .f32) (harg7 : arg7.IsWhole) (arg8 : Memref sig .tc .vmem S32x128 .f32) (harg8 : arg8.IsWhole) (arg9 : Memref sig .tc .vmem S32x128 .f32) (harg9 : arg9.IsWhole) (arg10 : Memref sig .tc .vmem S32x128 .f32) (harg10 : arg10.IsWhole) (arg11 : Memref sig .tc .vmem S32x128 .f32) (harg11 : arg11.IsWhole) (arg12 : Memref sig .tc .vmem S1x128 .f32) (harg12 : arg12.IsWhole) (arg13 : Memref sig .tc .vmem S1x128 .f32) (harg13 : arg13.IsWhole) (arg14 : Memref sig .tc .vmem S1x128 .f32) (harg14 : arg14.IsWhole) (arg15 : Memref sig .tc .vmem S32x1024 .bf16) (harg15 : arg15.IsWhole) (arg16 : Memref sig .tc .vmem S32x512 .f32) (harg16 : arg16.IsWhole) (arg17 : Memref sig .tc .vmem S32x512 .bf16) (harg17 : arg17.IsWhole) (arg18 : Memref sig .tc .vmem S32x512 .f32) (harg18 : arg18.IsWhole) (arg19 : Memref sig .tc .vmem S32x512 .f32) (harg19 : arg19.IsWhole) (arg20 : Memref sig .tc .vmem S32x128 .f32) (harg20 : arg20.IsWhole) (arg21 : Memref sig .tc .vmem S32x64 .f32) (harg21 : arg21.IsWhole)
    (x0 : Vec F S32x1024 .f32) (x1 : Vec F S32x512 .f32) (x2 : Vec F S32x512 .f32) (x3 : Vec F S32x512 .f32) (x4 : Vec F S32x128 .f32) (x5 : Vec F S32x128 .f32) (x6 : Vec F S32x128 .f32) (x7 : Vec F S32x128 .f32) (x8 : Vec F S32x128 .f32) (x9 : Vec F S32x128 .f32) (x10 : Vec F S32x128 .f32) (x11 : Vec F S1x128 .f32) (x12 : Vec F S1x128 .f32) (x13 : Vec F S1x128 .f32) : Vec F S32x512 .f32 :=
  VO0_15.read (Elt F) (VO0_15.writes (Elt F) VO0_15.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9 x10 x11 x12 x13).2.1)

/-- The parts that the body writes of output 16 cover its block. -/
theorem cover0_A_16 (c : Dev nD) (i : grid0.Coords) (arg1 : Memref sig .tc .vmem S32x1024 .f32) (harg1 : arg1.IsWhole) (arg2 : Memref sig .tc .vmem S32x512 .f32) (harg2 : arg2.IsWhole) (arg3 : Memref sig .tc .vmem S32x512 .f32) (harg3 : arg3.IsWhole) (arg4 : Memref sig .tc .vmem S32x512 .f32) (harg4 : arg4.IsWhole) (arg5 : Memref sig .tc .vmem S32x128 .f32) (harg5 : arg5.IsWhole) (arg6 : Memref sig .tc .vmem S32x128 .f32) (harg6 : arg6.IsWhole) (arg7 : Memref sig .tc .vmem S32x128 .f32) (harg7 : arg7.IsWhole) (arg8 : Memref sig .tc .vmem S32x128 .f32) (harg8 : arg8.IsWhole) (arg9 : Memref sig .tc .vmem S32x128 .f32) (harg9 : arg9.IsWhole) (arg10 : Memref sig .tc .vmem S32x128 .f32) (harg10 : arg10.IsWhole) (arg11 : Memref sig .tc .vmem S32x128 .f32) (harg11 : arg11.IsWhole) (arg12 : Memref sig .tc .vmem S1x128 .f32) (harg12 : arg12.IsWhole) (arg13 : Memref sig .tc .vmem S1x128 .f32) (harg13 : arg13.IsWhole) (arg14 : Memref sig .tc .vmem S1x128 .f32) (harg14 : arg14.IsWhole) (arg15 : Memref sig .tc .vmem S32x1024 .bf16) (harg15 : arg15.IsWhole) (arg16 : Memref sig .tc .vmem S32x512 .f32) (harg16 : arg16.IsWhole) (arg17 : Memref sig .tc .vmem S32x512 .bf16) (harg17 : arg17.IsWhole) (arg18 : Memref sig .tc .vmem S32x512 .f32) (harg18 : arg18.IsWhole) (arg19 : Memref sig .tc .vmem S32x512 .f32) (harg19 : arg19.IsWhole) (arg20 : Memref sig .tc .vmem S32x128 .f32) (harg20 : arg20.IsWhole) (arg21 : Memref sig .tc .vmem S32x64 .f32) (harg21 : arg21.IsWhole)
    (x0 : Vec F S32x1024 .f32) (x1 : Vec F S32x512 .f32) (x2 : Vec F S32x512 .f32) (x3 : Vec F S32x512 .f32) (x4 : Vec F S32x128 .f32) (x5 : Vec F S32x128 .f32) (x6 : Vec F S32x128 .f32) (x7 : Vec F S32x128 .f32) (x8 : Vec F S32x128 .f32) (x9 : Vec F S32x128 .f32) (x10 : Vec F S32x128 .f32) (x11 : Vec F S1x128 .f32) (x12 : Vec F S1x128 .f32) (x13 : Vec F S1x128 .f32) (y : S32x512.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9 x10 x11 x12 x13).2.2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9 x10 x11 x12 x13).2.2.1 S32x128.size (by sl_kernel_rfl) y

/-- What the body leaves in output 16's block. -/
def out0_A_16 (c : Dev nD) (i : grid0.Coords) (arg1 : Memref sig .tc .vmem S32x1024 .f32) (harg1 : arg1.IsWhole) (arg2 : Memref sig .tc .vmem S32x512 .f32) (harg2 : arg2.IsWhole) (arg3 : Memref sig .tc .vmem S32x512 .f32) (harg3 : arg3.IsWhole) (arg4 : Memref sig .tc .vmem S32x512 .f32) (harg4 : arg4.IsWhole) (arg5 : Memref sig .tc .vmem S32x128 .f32) (harg5 : arg5.IsWhole) (arg6 : Memref sig .tc .vmem S32x128 .f32) (harg6 : arg6.IsWhole) (arg7 : Memref sig .tc .vmem S32x128 .f32) (harg7 : arg7.IsWhole) (arg8 : Memref sig .tc .vmem S32x128 .f32) (harg8 : arg8.IsWhole) (arg9 : Memref sig .tc .vmem S32x128 .f32) (harg9 : arg9.IsWhole) (arg10 : Memref sig .tc .vmem S32x128 .f32) (harg10 : arg10.IsWhole) (arg11 : Memref sig .tc .vmem S32x128 .f32) (harg11 : arg11.IsWhole) (arg12 : Memref sig .tc .vmem S1x128 .f32) (harg12 : arg12.IsWhole) (arg13 : Memref sig .tc .vmem S1x128 .f32) (harg13 : arg13.IsWhole) (arg14 : Memref sig .tc .vmem S1x128 .f32) (harg14 : arg14.IsWhole) (arg15 : Memref sig .tc .vmem S32x1024 .bf16) (harg15 : arg15.IsWhole) (arg16 : Memref sig .tc .vmem S32x512 .f32) (harg16 : arg16.IsWhole) (arg17 : Memref sig .tc .vmem S32x512 .bf16) (harg17 : arg17.IsWhole) (arg18 : Memref sig .tc .vmem S32x512 .f32) (harg18 : arg18.IsWhole) (arg19 : Memref sig .tc .vmem S32x512 .f32) (harg19 : arg19.IsWhole) (arg20 : Memref sig .tc .vmem S32x128 .f32) (harg20 : arg20.IsWhole) (arg21 : Memref sig .tc .vmem S32x64 .f32) (harg21 : arg21.IsWhole)
    (x0 : Vec F S32x1024 .f32) (x1 : Vec F S32x512 .f32) (x2 : Vec F S32x512 .f32) (x3 : Vec F S32x512 .f32) (x4 : Vec F S32x128 .f32) (x5 : Vec F S32x128 .f32) (x6 : Vec F S32x128 .f32) (x7 : Vec F S32x128 .f32) (x8 : Vec F S32x128 .f32) (x9 : Vec F S32x128 .f32) (x10 : Vec F S32x128 .f32) (x11 : Vec F S1x128 .f32) (x12 : Vec F S1x128 .f32) (x13 : Vec F S1x128 .f32) : Vec F S32x512 .bf16 :=
  VO0_16.read (Elt F) (VO0_16.writes (Elt F) VO0_16.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9 x10 x11 x12 x13).2.2.1)

/-- The parts that the body writes of output 17 cover its block. -/
theorem cover0_A_17 (c : Dev nD) (i : grid0.Coords) (arg1 : Memref sig .tc .vmem S32x1024 .f32) (harg1 : arg1.IsWhole) (arg2 : Memref sig .tc .vmem S32x512 .f32) (harg2 : arg2.IsWhole) (arg3 : Memref sig .tc .vmem S32x512 .f32) (harg3 : arg3.IsWhole) (arg4 : Memref sig .tc .vmem S32x512 .f32) (harg4 : arg4.IsWhole) (arg5 : Memref sig .tc .vmem S32x128 .f32) (harg5 : arg5.IsWhole) (arg6 : Memref sig .tc .vmem S32x128 .f32) (harg6 : arg6.IsWhole) (arg7 : Memref sig .tc .vmem S32x128 .f32) (harg7 : arg7.IsWhole) (arg8 : Memref sig .tc .vmem S32x128 .f32) (harg8 : arg8.IsWhole) (arg9 : Memref sig .tc .vmem S32x128 .f32) (harg9 : arg9.IsWhole) (arg10 : Memref sig .tc .vmem S32x128 .f32) (harg10 : arg10.IsWhole) (arg11 : Memref sig .tc .vmem S32x128 .f32) (harg11 : arg11.IsWhole) (arg12 : Memref sig .tc .vmem S1x128 .f32) (harg12 : arg12.IsWhole) (arg13 : Memref sig .tc .vmem S1x128 .f32) (harg13 : arg13.IsWhole) (arg14 : Memref sig .tc .vmem S1x128 .f32) (harg14 : arg14.IsWhole) (arg15 : Memref sig .tc .vmem S32x1024 .bf16) (harg15 : arg15.IsWhole) (arg16 : Memref sig .tc .vmem S32x512 .f32) (harg16 : arg16.IsWhole) (arg17 : Memref sig .tc .vmem S32x512 .bf16) (harg17 : arg17.IsWhole) (arg18 : Memref sig .tc .vmem S32x512 .f32) (harg18 : arg18.IsWhole) (arg19 : Memref sig .tc .vmem S32x512 .f32) (harg19 : arg19.IsWhole) (arg20 : Memref sig .tc .vmem S32x128 .f32) (harg20 : arg20.IsWhole) (arg21 : Memref sig .tc .vmem S32x64 .f32) (harg21 : arg21.IsWhole)
    (x0 : Vec F S32x1024 .f32) (x1 : Vec F S32x512 .f32) (x2 : Vec F S32x512 .f32) (x3 : Vec F S32x512 .f32) (x4 : Vec F S32x128 .f32) (x5 : Vec F S32x128 .f32) (x6 : Vec F S32x128 .f32) (x7 : Vec F S32x128 .f32) (x8 : Vec F S32x128 .f32) (x9 : Vec F S32x128 .f32) (x10 : Vec F S32x128 .f32) (x11 : Vec F S1x128 .f32) (x12 : Vec F S1x128 .f32) (x13 : Vec F S1x128 .f32) (y : S32x512.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9 x10 x11 x12 x13).2.2.2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9 x10 x11 x12 x13).2.2.2.1 S32x512.size (by sl_kernel_rfl) y

/-- What the body leaves in output 17's block. -/
def out0_A_17 (c : Dev nD) (i : grid0.Coords) (arg1 : Memref sig .tc .vmem S32x1024 .f32) (harg1 : arg1.IsWhole) (arg2 : Memref sig .tc .vmem S32x512 .f32) (harg2 : arg2.IsWhole) (arg3 : Memref sig .tc .vmem S32x512 .f32) (harg3 : arg3.IsWhole) (arg4 : Memref sig .tc .vmem S32x512 .f32) (harg4 : arg4.IsWhole) (arg5 : Memref sig .tc .vmem S32x128 .f32) (harg5 : arg5.IsWhole) (arg6 : Memref sig .tc .vmem S32x128 .f32) (harg6 : arg6.IsWhole) (arg7 : Memref sig .tc .vmem S32x128 .f32) (harg7 : arg7.IsWhole) (arg8 : Memref sig .tc .vmem S32x128 .f32) (harg8 : arg8.IsWhole) (arg9 : Memref sig .tc .vmem S32x128 .f32) (harg9 : arg9.IsWhole) (arg10 : Memref sig .tc .vmem S32x128 .f32) (harg10 : arg10.IsWhole) (arg11 : Memref sig .tc .vmem S32x128 .f32) (harg11 : arg11.IsWhole) (arg12 : Memref sig .tc .vmem S1x128 .f32) (harg12 : arg12.IsWhole) (arg13 : Memref sig .tc .vmem S1x128 .f32) (harg13 : arg13.IsWhole) (arg14 : Memref sig .tc .vmem S1x128 .f32) (harg14 : arg14.IsWhole) (arg15 : Memref sig .tc .vmem S32x1024 .bf16) (harg15 : arg15.IsWhole) (arg16 : Memref sig .tc .vmem S32x512 .f32) (harg16 : arg16.IsWhole) (arg17 : Memref sig .tc .vmem S32x512 .bf16) (harg17 : arg17.IsWhole) (arg18 : Memref sig .tc .vmem S32x512 .f32) (harg18 : arg18.IsWhole) (arg19 : Memref sig .tc .vmem S32x512 .f32) (harg19 : arg19.IsWhole) (arg20 : Memref sig .tc .vmem S32x128 .f32) (harg20 : arg20.IsWhole) (arg21 : Memref sig .tc .vmem S32x64 .f32) (harg21 : arg21.IsWhole)
    (x0 : Vec F S32x1024 .f32) (x1 : Vec F S32x512 .f32) (x2 : Vec F S32x512 .f32) (x3 : Vec F S32x512 .f32) (x4 : Vec F S32x128 .f32) (x5 : Vec F S32x128 .f32) (x6 : Vec F S32x128 .f32) (x7 : Vec F S32x128 .f32) (x8 : Vec F S32x128 .f32) (x9 : Vec F S32x128 .f32) (x10 : Vec F S32x128 .f32) (x11 : Vec F S1x128 .f32) (x12 : Vec F S1x128 .f32) (x13 : Vec F S1x128 .f32) : Vec F S32x512 .f32 :=
  VO0_17.read (Elt F) (VO0_17.writes (Elt F) VO0_17.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9 x10 x11 x12 x13).2.2.2.1)

/-- The parts that the body writes of output 18 cover its block. -/
theorem cover0_A_18 (c : Dev nD) (i : grid0.Coords) (arg1 : Memref sig .tc .vmem S32x1024 .f32) (harg1 : arg1.IsWhole) (arg2 : Memref sig .tc .vmem S32x512 .f32) (harg2 : arg2.IsWhole) (arg3 : Memref sig .tc .vmem S32x512 .f32) (harg3 : arg3.IsWhole) (arg4 : Memref sig .tc .vmem S32x512 .f32) (harg4 : arg4.IsWhole) (arg5 : Memref sig .tc .vmem S32x128 .f32) (harg5 : arg5.IsWhole) (arg6 : Memref sig .tc .vmem S32x128 .f32) (harg6 : arg6.IsWhole) (arg7 : Memref sig .tc .vmem S32x128 .f32) (harg7 : arg7.IsWhole) (arg8 : Memref sig .tc .vmem S32x128 .f32) (harg8 : arg8.IsWhole) (arg9 : Memref sig .tc .vmem S32x128 .f32) (harg9 : arg9.IsWhole) (arg10 : Memref sig .tc .vmem S32x128 .f32) (harg10 : arg10.IsWhole) (arg11 : Memref sig .tc .vmem S32x128 .f32) (harg11 : arg11.IsWhole) (arg12 : Memref sig .tc .vmem S1x128 .f32) (harg12 : arg12.IsWhole) (arg13 : Memref sig .tc .vmem S1x128 .f32) (harg13 : arg13.IsWhole) (arg14 : Memref sig .tc .vmem S1x128 .f32) (harg14 : arg14.IsWhole) (arg15 : Memref sig .tc .vmem S32x1024 .bf16) (harg15 : arg15.IsWhole) (arg16 : Memref sig .tc .vmem S32x512 .f32) (harg16 : arg16.IsWhole) (arg17 : Memref sig .tc .vmem S32x512 .bf16) (harg17 : arg17.IsWhole) (arg18 : Memref sig .tc .vmem S32x512 .f32) (harg18 : arg18.IsWhole) (arg19 : Memref sig .tc .vmem S32x512 .f32) (harg19 : arg19.IsWhole) (arg20 : Memref sig .tc .vmem S32x128 .f32) (harg20 : arg20.IsWhole) (arg21 : Memref sig .tc .vmem S32x64 .f32) (harg21 : arg21.IsWhole)
    (x0 : Vec F S32x1024 .f32) (x1 : Vec F S32x512 .f32) (x2 : Vec F S32x512 .f32) (x3 : Vec F S32x512 .f32) (x4 : Vec F S32x128 .f32) (x5 : Vec F S32x128 .f32) (x6 : Vec F S32x128 .f32) (x7 : Vec F S32x128 .f32) (x8 : Vec F S32x128 .f32) (x9 : Vec F S32x128 .f32) (x10 : Vec F S32x128 .f32) (x11 : Vec F S1x128 .f32) (x12 : Vec F S1x128 .f32) (x13 : Vec F S1x128 .f32) (y : S32x512.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9 x10 x11 x12 x13).2.2.2.2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9 x10 x11 x12 x13).2.2.2.2.1 S32x128.size (by sl_kernel_rfl) y

/-- What the body leaves in output 18's block. -/
def out0_A_18 (c : Dev nD) (i : grid0.Coords) (arg1 : Memref sig .tc .vmem S32x1024 .f32) (harg1 : arg1.IsWhole) (arg2 : Memref sig .tc .vmem S32x512 .f32) (harg2 : arg2.IsWhole) (arg3 : Memref sig .tc .vmem S32x512 .f32) (harg3 : arg3.IsWhole) (arg4 : Memref sig .tc .vmem S32x512 .f32) (harg4 : arg4.IsWhole) (arg5 : Memref sig .tc .vmem S32x128 .f32) (harg5 : arg5.IsWhole) (arg6 : Memref sig .tc .vmem S32x128 .f32) (harg6 : arg6.IsWhole) (arg7 : Memref sig .tc .vmem S32x128 .f32) (harg7 : arg7.IsWhole) (arg8 : Memref sig .tc .vmem S32x128 .f32) (harg8 : arg8.IsWhole) (arg9 : Memref sig .tc .vmem S32x128 .f32) (harg9 : arg9.IsWhole) (arg10 : Memref sig .tc .vmem S32x128 .f32) (harg10 : arg10.IsWhole) (arg11 : Memref sig .tc .vmem S32x128 .f32) (harg11 : arg11.IsWhole) (arg12 : Memref sig .tc .vmem S1x128 .f32) (harg12 : arg12.IsWhole) (arg13 : Memref sig .tc .vmem S1x128 .f32) (harg13 : arg13.IsWhole) (arg14 : Memref sig .tc .vmem S1x128 .f32) (harg14 : arg14.IsWhole) (arg15 : Memref sig .tc .vmem S32x1024 .bf16) (harg15 : arg15.IsWhole) (arg16 : Memref sig .tc .vmem S32x512 .f32) (harg16 : arg16.IsWhole) (arg17 : Memref sig .tc .vmem S32x512 .bf16) (harg17 : arg17.IsWhole) (arg18 : Memref sig .tc .vmem S32x512 .f32) (harg18 : arg18.IsWhole) (arg19 : Memref sig .tc .vmem S32x512 .f32) (harg19 : arg19.IsWhole) (arg20 : Memref sig .tc .vmem S32x128 .f32) (harg20 : arg20.IsWhole) (arg21 : Memref sig .tc .vmem S32x64 .f32) (harg21 : arg21.IsWhole)
    (x0 : Vec F S32x1024 .f32) (x1 : Vec F S32x512 .f32) (x2 : Vec F S32x512 .f32) (x3 : Vec F S32x512 .f32) (x4 : Vec F S32x128 .f32) (x5 : Vec F S32x128 .f32) (x6 : Vec F S32x128 .f32) (x7 : Vec F S32x128 .f32) (x8 : Vec F S32x128 .f32) (x9 : Vec F S32x128 .f32) (x10 : Vec F S32x128 .f32) (x11 : Vec F S1x128 .f32) (x12 : Vec F S1x128 .f32) (x13 : Vec F S1x128 .f32) : Vec F S32x512 .f32 :=
  VO0_18.read (Elt F) (VO0_18.writes (Elt F) VO0_18.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9 x10 x11 x12 x13).2.2.2.2.1)

/-- The parts that the body writes of output 19 cover its block. -/
theorem cover0_A_19 (c : Dev nD) (i : grid0.Coords) (arg1 : Memref sig .tc .vmem S32x1024 .f32) (harg1 : arg1.IsWhole) (arg2 : Memref sig .tc .vmem S32x512 .f32) (harg2 : arg2.IsWhole) (arg3 : Memref sig .tc .vmem S32x512 .f32) (harg3 : arg3.IsWhole) (arg4 : Memref sig .tc .vmem S32x512 .f32) (harg4 : arg4.IsWhole) (arg5 : Memref sig .tc .vmem S32x128 .f32) (harg5 : arg5.IsWhole) (arg6 : Memref sig .tc .vmem S32x128 .f32) (harg6 : arg6.IsWhole) (arg7 : Memref sig .tc .vmem S32x128 .f32) (harg7 : arg7.IsWhole) (arg8 : Memref sig .tc .vmem S32x128 .f32) (harg8 : arg8.IsWhole) (arg9 : Memref sig .tc .vmem S32x128 .f32) (harg9 : arg9.IsWhole) (arg10 : Memref sig .tc .vmem S32x128 .f32) (harg10 : arg10.IsWhole) (arg11 : Memref sig .tc .vmem S32x128 .f32) (harg11 : arg11.IsWhole) (arg12 : Memref sig .tc .vmem S1x128 .f32) (harg12 : arg12.IsWhole) (arg13 : Memref sig .tc .vmem S1x128 .f32) (harg13 : arg13.IsWhole) (arg14 : Memref sig .tc .vmem S1x128 .f32) (harg14 : arg14.IsWhole) (arg15 : Memref sig .tc .vmem S32x1024 .bf16) (harg15 : arg15.IsWhole) (arg16 : Memref sig .tc .vmem S32x512 .f32) (harg16 : arg16.IsWhole) (arg17 : Memref sig .tc .vmem S32x512 .bf16) (harg17 : arg17.IsWhole) (arg18 : Memref sig .tc .vmem S32x512 .f32) (harg18 : arg18.IsWhole) (arg19 : Memref sig .tc .vmem S32x512 .f32) (harg19 : arg19.IsWhole) (arg20 : Memref sig .tc .vmem S32x128 .f32) (harg20 : arg20.IsWhole) (arg21 : Memref sig .tc .vmem S32x64 .f32) (harg21 : arg21.IsWhole)
    (x0 : Vec F S32x1024 .f32) (x1 : Vec F S32x512 .f32) (x2 : Vec F S32x512 .f32) (x3 : Vec F S32x512 .f32) (x4 : Vec F S32x128 .f32) (x5 : Vec F S32x128 .f32) (x6 : Vec F S32x128 .f32) (x7 : Vec F S32x128 .f32) (x8 : Vec F S32x128 .f32) (x9 : Vec F S32x128 .f32) (x10 : Vec F S32x128 .f32) (x11 : Vec F S1x128 .f32) (x12 : Vec F S1x128 .f32) (x13 : Vec F S1x128 .f32) (y : S32x128.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9 x10 x11 x12 x13).2.2.2.2.2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9 x10 x11 x12 x13).2.2.2.2.2.1 S32x128.size (by sl_kernel_rfl) y

/-- What the body leaves in output 19's block. -/
def out0_A_19 (c : Dev nD) (i : grid0.Coords) (arg1 : Memref sig .tc .vmem S32x1024 .f32) (harg1 : arg1.IsWhole) (arg2 : Memref sig .tc .vmem S32x512 .f32) (harg2 : arg2.IsWhole) (arg3 : Memref sig .tc .vmem S32x512 .f32) (harg3 : arg3.IsWhole) (arg4 : Memref sig .tc .vmem S32x512 .f32) (harg4 : arg4.IsWhole) (arg5 : Memref sig .tc .vmem S32x128 .f32) (harg5 : arg5.IsWhole) (arg6 : Memref sig .tc .vmem S32x128 .f32) (harg6 : arg6.IsWhole) (arg7 : Memref sig .tc .vmem S32x128 .f32) (harg7 : arg7.IsWhole) (arg8 : Memref sig .tc .vmem S32x128 .f32) (harg8 : arg8.IsWhole) (arg9 : Memref sig .tc .vmem S32x128 .f32) (harg9 : arg9.IsWhole) (arg10 : Memref sig .tc .vmem S32x128 .f32) (harg10 : arg10.IsWhole) (arg11 : Memref sig .tc .vmem S32x128 .f32) (harg11 : arg11.IsWhole) (arg12 : Memref sig .tc .vmem S1x128 .f32) (harg12 : arg12.IsWhole) (arg13 : Memref sig .tc .vmem S1x128 .f32) (harg13 : arg13.IsWhole) (arg14 : Memref sig .tc .vmem S1x128 .f32) (harg14 : arg14.IsWhole) (arg15 : Memref sig .tc .vmem S32x1024 .bf16) (harg15 : arg15.IsWhole) (arg16 : Memref sig .tc .vmem S32x512 .f32) (harg16 : arg16.IsWhole) (arg17 : Memref sig .tc .vmem S32x512 .bf16) (harg17 : arg17.IsWhole) (arg18 : Memref sig .tc .vmem S32x512 .f32) (harg18 : arg18.IsWhole) (arg19 : Memref sig .tc .vmem S32x512 .f32) (harg19 : arg19.IsWhole) (arg20 : Memref sig .tc .vmem S32x128 .f32) (harg20 : arg20.IsWhole) (arg21 : Memref sig .tc .vmem S32x64 .f32) (harg21 : arg21.IsWhole)
    (x0 : Vec F S32x1024 .f32) (x1 : Vec F S32x512 .f32) (x2 : Vec F S32x512 .f32) (x3 : Vec F S32x512 .f32) (x4 : Vec F S32x128 .f32) (x5 : Vec F S32x128 .f32) (x6 : Vec F S32x128 .f32) (x7 : Vec F S32x128 .f32) (x8 : Vec F S32x128 .f32) (x9 : Vec F S32x128 .f32) (x10 : Vec F S32x128 .f32) (x11 : Vec F S1x128 .f32) (x12 : Vec F S1x128 .f32) (x13 : Vec F S1x128 .f32) : Vec F S32x128 .f32 :=
  VO0_19.read (Elt F) (VO0_19.writes (Elt F) VO0_19.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9 x10 x11 x12 x13).2.2.2.2.2.1)

/-- The parts that the body writes of output 20 cover its block. -/
theorem cover0_A_20 (c : Dev nD) (i : grid0.Coords) (arg1 : Memref sig .tc .vmem S32x1024 .f32) (harg1 : arg1.IsWhole) (arg2 : Memref sig .tc .vmem S32x512 .f32) (harg2 : arg2.IsWhole) (arg3 : Memref sig .tc .vmem S32x512 .f32) (harg3 : arg3.IsWhole) (arg4 : Memref sig .tc .vmem S32x512 .f32) (harg4 : arg4.IsWhole) (arg5 : Memref sig .tc .vmem S32x128 .f32) (harg5 : arg5.IsWhole) (arg6 : Memref sig .tc .vmem S32x128 .f32) (harg6 : arg6.IsWhole) (arg7 : Memref sig .tc .vmem S32x128 .f32) (harg7 : arg7.IsWhole) (arg8 : Memref sig .tc .vmem S32x128 .f32) (harg8 : arg8.IsWhole) (arg9 : Memref sig .tc .vmem S32x128 .f32) (harg9 : arg9.IsWhole) (arg10 : Memref sig .tc .vmem S32x128 .f32) (harg10 : arg10.IsWhole) (arg11 : Memref sig .tc .vmem S32x128 .f32) (harg11 : arg11.IsWhole) (arg12 : Memref sig .tc .vmem S1x128 .f32) (harg12 : arg12.IsWhole) (arg13 : Memref sig .tc .vmem S1x128 .f32) (harg13 : arg13.IsWhole) (arg14 : Memref sig .tc .vmem S1x128 .f32) (harg14 : arg14.IsWhole) (arg15 : Memref sig .tc .vmem S32x1024 .bf16) (harg15 : arg15.IsWhole) (arg16 : Memref sig .tc .vmem S32x512 .f32) (harg16 : arg16.IsWhole) (arg17 : Memref sig .tc .vmem S32x512 .bf16) (harg17 : arg17.IsWhole) (arg18 : Memref sig .tc .vmem S32x512 .f32) (harg18 : arg18.IsWhole) (arg19 : Memref sig .tc .vmem S32x512 .f32) (harg19 : arg19.IsWhole) (arg20 : Memref sig .tc .vmem S32x128 .f32) (harg20 : arg20.IsWhole) (arg21 : Memref sig .tc .vmem S32x64 .f32) (harg21 : arg21.IsWhole)
    (x0 : Vec F S32x1024 .f32) (x1 : Vec F S32x512 .f32) (x2 : Vec F S32x512 .f32) (x3 : Vec F S32x512 .f32) (x4 : Vec F S32x128 .f32) (x5 : Vec F S32x128 .f32) (x6 : Vec F S32x128 .f32) (x7 : Vec F S32x128 .f32) (x8 : Vec F S32x128 .f32) (x9 : Vec F S32x128 .f32) (x10 : Vec F S32x128 .f32) (x11 : Vec F S1x128 .f32) (x12 : Vec F S1x128 .f32) (x13 : Vec F S1x128 .f32) (y : S32x64.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9 x10 x11 x12 x13).2.2.2.2.2.2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9 x10 x11 x12 x13).2.2.2.2.2.2.1 S32x64.size (by sl_kernel_rfl) y

/-- What the body leaves in output 20's block. -/
def out0_A_20 (c : Dev nD) (i : grid0.Coords) (arg1 : Memref sig .tc .vmem S32x1024 .f32) (harg1 : arg1.IsWhole) (arg2 : Memref sig .tc .vmem S32x512 .f32) (harg2 : arg2.IsWhole) (arg3 : Memref sig .tc .vmem S32x512 .f32) (harg3 : arg3.IsWhole) (arg4 : Memref sig .tc .vmem S32x512 .f32) (harg4 : arg4.IsWhole) (arg5 : Memref sig .tc .vmem S32x128 .f32) (harg5 : arg5.IsWhole) (arg6 : Memref sig .tc .vmem S32x128 .f32) (harg6 : arg6.IsWhole) (arg7 : Memref sig .tc .vmem S32x128 .f32) (harg7 : arg7.IsWhole) (arg8 : Memref sig .tc .vmem S32x128 .f32) (harg8 : arg8.IsWhole) (arg9 : Memref sig .tc .vmem S32x128 .f32) (harg9 : arg9.IsWhole) (arg10 : Memref sig .tc .vmem S32x128 .f32) (harg10 : arg10.IsWhole) (arg11 : Memref sig .tc .vmem S32x128 .f32) (harg11 : arg11.IsWhole) (arg12 : Memref sig .tc .vmem S1x128 .f32) (harg12 : arg12.IsWhole) (arg13 : Memref sig .tc .vmem S1x128 .f32) (harg13 : arg13.IsWhole) (arg14 : Memref sig .tc .vmem S1x128 .f32) (harg14 : arg14.IsWhole) (arg15 : Memref sig .tc .vmem S32x1024 .bf16) (harg15 : arg15.IsWhole) (arg16 : Memref sig .tc .vmem S32x512 .f32) (harg16 : arg16.IsWhole) (arg17 : Memref sig .tc .vmem S32x512 .bf16) (harg17 : arg17.IsWhole) (arg18 : Memref sig .tc .vmem S32x512 .f32) (harg18 : arg18.IsWhole) (arg19 : Memref sig .tc .vmem S32x512 .f32) (harg19 : arg19.IsWhole) (arg20 : Memref sig .tc .vmem S32x128 .f32) (harg20 : arg20.IsWhole) (arg21 : Memref sig .tc .vmem S32x64 .f32) (harg21 : arg21.IsWhole)
    (x0 : Vec F S32x1024 .f32) (x1 : Vec F S32x512 .f32) (x2 : Vec F S32x512 .f32) (x3 : Vec F S32x512 .f32) (x4 : Vec F S32x128 .f32) (x5 : Vec F S32x128 .f32) (x6 : Vec F S32x128 .f32) (x7 : Vec F S32x128 .f32) (x8 : Vec F S32x128 .f32) (x9 : Vec F S32x128 .f32) (x10 : Vec F S32x128 .f32) (x11 : Vec F S1x128 .f32) (x12 : Vec F S1x128 .f32) (x13 : Vec F S1x128 .f32) : Vec F S32x64 .f32 :=
  VO0_20.read (Elt F) (VO0_20.writes (Elt F) VO0_20.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9 x10 x11 x12 x13).2.2.2.2.2.2.1)

/-- What the outputs' blocks hold after the body at point `t`, in the order of the outputs. -/
def outsAt0 (c : Dev nD) (t : Fin cfg0.N) : Vec F S32x1024 .bf16 × Vec F S32x512 .f32 × Vec F S32x512 .bf16 × Vec F S32x512 .f32 × Vec F S32x512 .f32 × Vec F S32x128 .f32 × Vec F S32x64 .f32 :=
  (out0_A_14 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (X0_0 m c t) (X0_1 m c t) (X0_2 m c t) (X0_3 m c t) (iblk m c 4 t) (iblk m c 5 t) (iblk m c 6 t) (iblk m c 7 t) (iblk m c 8 t) (iblk m c 9 t) (iblk m c 10 t) (iblk m c 11 t) (iblk m c 12 t) (iblk m c 13 t), out0_A_15 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (X0_0 m c t) (X0_1 m c t) (X0_2 m c t) (X0_3 m c t) (iblk m c 4 t) (iblk m c 5 t) (iblk m c 6 t) (iblk m c 7 t) (iblk m c 8 t) (iblk m c 9 t) (iblk m c 10 t) (iblk m c 11 t) (iblk m c 12 t) (iblk m c 13 t), out0_A_16 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (X0_0 m c t) (X0_1 m c t) (X0_2 m c t) (X0_3 m c t) (iblk m c 4 t) (iblk m c 5 t) (iblk m c 6 t) (iblk m c 7 t) (iblk m c 8 t) (iblk m c 9 t) (iblk m c 10 t) (iblk m c 11 t) (iblk m c 12 t) (iblk m c 13 t), out0_A_17 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (X0_0 m c t) (X0_1 m c t) (X0_2 m c t) (X0_3 m c t) (iblk m c 4 t) (iblk m c 5 t) (iblk m c 6 t) (iblk m c 7 t) (iblk m c 8 t) (iblk m c 9 t) (iblk m c 10 t) (iblk m c 11 t) (iblk m c 12 t) (iblk m c 13 t), out0_A_18 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (X0_0 m c t) (X0_1 m c t) (X0_2 m c t) (X0_3 m c t) (iblk m c 4 t) (iblk m c 5 t) (iblk m c 6 t) (iblk m c 7 t) (iblk m c 8 t) (iblk m c 9 t) (iblk m c 10 t) (iblk m c 11 t) (iblk m c 12 t) (iblk m c 13 t), out0_A_19 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (X0_0 m c t) (X0_1 m c t) (X0_2 m c t) (X0_3 m c t) (iblk m c 4 t) (iblk m c 5 t) (iblk m c 6 t) (iblk m c 7 t) (iblk m c 8 t) (iblk m c 9 t) (iblk m c 10 t) (iblk m c 11 t) (iblk m c 12 t) (iblk m c 13 t), out0_A_20 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (X0_0 m c t) (X0_1 m c t) (X0_2 m c t) (X0_3 m c t) (iblk m c 4 t) (iblk m c 5 t) (iblk m c 6 t) (iblk m c 7 t) (iblk m c 8 t) (iblk m c 9 t) (iblk m c 10 t) (iblk m c 11 t) (iblk m c 12 t) (iblk m c 13 t))

/-- What the run is proved with on core `c`: the arrays before the run, and after the body at point `t` each input's block as it
    was and each output's block at what the body leaves. -/
def dats (_ : Fin 1) (c : Dev nD) : Dat τ (Elt F) Unit ℕ (UR sig nD τ) ℕ cfg0 c where
  A w := V m c (Pipeline.arrRef spec0 w)
  after w t := match w with
    | ⟨0, _⟩ => X0_0 m c t
    | ⟨1, _⟩ => X0_1 m c t
    | ⟨2, _⟩ => X0_2 m c t
    | ⟨3, _⟩ => X0_3 m c t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => (outsAt0 m c t).1
    | ⟨15, _⟩ => (outsAt0 m c t).2.1
    | ⟨16, _⟩ => (outsAt0 m c t).2.2.1
    | ⟨17, _⟩ => (outsAt0 m c t).2.2.2.1
    | ⟨18, _⟩ => (outsAt0 m c t).2.2.2.2.1
    | ⟨19, _⟩ => (outsAt0 m c t).2.2.2.2.2.1
    | ⟨20, _⟩ => (outsAt0 m c t).2.2.2.2.2.2
    | ⟨_ + 21, h⟩ => absurd h (Nat.not_lt.2 (Nat.le_add_left _ _))
  Φ _ := Pipeline.ΦA spec0 c
  q w := Pipeline.shareOf spec0 w
  owed _ := 0

/-- The arrays before the run. -/
theorem A_eq (c : Dev nD) (w : Fin cfg0.W) : (dats m 0 c).A w = V m c (Pipeline.arrRef spec0 w) := by
  dsimp only [dats]

/-- What the body leaves, window by window. -/
theorem after0_0 (c : Dev nD) (t : Fin cfg0.N) : (dats m 0 c).after 0 t = X0_0 m c t := by dsimp only [dats]
theorem after0_1 (c : Dev nD) (t : Fin cfg0.N) : (dats m 0 c).after 1 t = X0_1 m c t := by dsimp only [dats]
theorem after0_2 (c : Dev nD) (t : Fin cfg0.N) : (dats m 0 c).after 2 t = X0_2 m c t := by dsimp only [dats]
theorem after0_3 (c : Dev nD) (t : Fin cfg0.N) : (dats m 0 c).after 3 t = X0_3 m c t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = iblk m c 12 t := by dsimp only [dats]
theorem after0_13 (c : Dev nD) (t : Fin cfg0.N) : (dats m 0 c).after 13 t = iblk m c 13 t := by dsimp only [dats]
theorem after0_14 (c : Dev nD) (t : Fin cfg0.N) : (dats m 0 c).after 14 t = (outsAt0 m c t).1 := by dsimp only [dats]
theorem after0_15 (c : Dev nD) (t : Fin cfg0.N) : (dats m 0 c).after 15 t = (outsAt0 m c t).2.1 := by dsimp only [dats]
theorem after0_16 (c : Dev nD) (t : Fin cfg0.N) : (dats m 0 c).after 16 t = (outsAt0 m c t).2.2.1 := by dsimp only [dats]
theorem after0_17 (c : Dev nD) (t : Fin cfg0.N) : (dats m 0 c).after 17 t = (outsAt0 m c t).2.2.2.1 := by dsimp only [dats]
theorem after0_18 (c : Dev nD) (t : Fin cfg0.N) : (dats m 0 c).after 18 t = (outsAt0 m c t).2.2.2.2.1 := by dsimp only [dats]
theorem after0_19 (c : Dev nD) (t : Fin cfg0.N) : (dats m 0 c).after 19 t = (outsAt0 m c t).2.2.2.2.2.1 := by dsimp only [dats]
theorem after0_20 (c : Dev nD) (t : Fin cfg0.N) : (dats m 0 c).after 20 t = (outsAt0 m c t).2.2.2.2.2.2 := by dsimp only [dats]

/-- Each input's buffer holds its block at every point. -/
theorem before0_0 (c : Dev nD) (t : Fin cfg0.N) (d) : (dats m 0 c).before 0 t d = X0_0 m c t :=
  before0_0_of m (dats m 0 c) (A_eq m c 0) (after0_0 m c) t d
theorem before0_1 (c : Dev nD) (t : Fin cfg0.N) (d) : (dats m 0 c).before 1 t d = X0_1 m c t :=
  before0_1_of m (dats m 0 c) (A_eq m c 1) (after0_1 m c) t d
theorem before0_2 (c : Dev nD) (t : Fin cfg0.N) (d) : (dats m 0 c).before 2 t d = X0_2 m c t :=
  before0_2_of m (dats m 0 c) (A_eq m c 2) (after0_2 m c) t d
theorem before0_3 (c : Dev nD) (t : Fin cfg0.N) (d) : (dats m 0 c).before 3 t d = X0_3 m c t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d
theorem before0_11 (c : Dev nD) (t : Fin cfg0.N) (d) : (dats m 0 c).before 11 t d = iblk m c 11 t :=
  before0_11_of m (dats m 0 c) (A_eq m c 11) (after0_11 m c) t d
theorem before0_12 (c : Dev nD) (t : Fin cfg0.N) (d) : (dats m 0 c).before 12 t d = iblk m c 12 t :=
  before0_12_of m (dats m 0 c) (A_eq m c 12) (after0_12 m c) t d
theorem before0_13 (c : Dev nD) (t : Fin cfg0.N) (d) : (dats m 0 c).before 13 t d = iblk m c 13 t :=
  before0_13_of m (dats m 0 c) (A_eq m c 13) (after0_13 m c) t d

/-- What the body is called with at point `t`. -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare ((dats m 0 c).before 13 t d))
    ∗ (∃ d, owns (c : Thread nD τ) (ms0_14 t) fullShare ((dats m 0 c).before 14 t d))
    ∗ (∃ d, owns (c : Thread nD τ) (ms0_15 t) fullShare ((dats m 0 c).before 15 t d))
    ∗ (∃ d, owns (c : Thread nD τ) (ms0_16 t) fullShare ((dats m 0 c).before 16 t d))
    ∗ (∃ d, owns (c : Thread nD τ) (ms0_17 t) fullShare ((dats m 0 c).before 17 t d))
    ∗ (∃ d, owns (c : Thread nD τ) (ms0_18 t) fullShare ((dats m 0 c).before 18 t d))
    ∗ (∃ d, owns (c : Thread nD τ) (ms0_19 t) fullShare ((dats m 0 c).before 19 t d))
    ∗ (∃ d, owns (c : Thread nD τ) (ms0_20 t) fullShare ((dats m 0 c).before 20 t d)))

/-- What the body returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ owns (c : Thread nD τ) (ms0_10 t) fullShare ((dats m 0 c).after 10 t)
    ∗ owns (c : Thread nD τ) (ms0_11 t) fullShare ((dats m 0 c).after 11 t)
    ∗ owns (c : Thread nD τ) (ms0_12 t) fullShare ((dats m 0 c).after 12 t)
    ∗ owns (c : Thread nD τ) (ms0_13 t) fullShare ((dats m 0 c).after 13 t)
    ∗ owns (c : Thread nD τ) (ms0_14 t) fullShare ((dats m 0 c).after 14 t)
    ∗ owns (c : Thread nD τ) (ms0_15 t) fullShare ((dats m 0 c).after 15 t)
    ∗ owns (c : Thread nD τ) (ms0_16 t) fullShare ((dats m 0 c).after 16 t)
    ∗ owns (c : Thread nD τ) (ms0_17 t) fullShare ((dats m 0 c).after 17 t)
    ∗ owns (c : Thread nD τ) (ms0_18 t) fullShare ((dats m 0 c).after 18 t)
    ∗ owns (c : Thread nD τ) (ms0_19 t) fullShare ((dats m 0 c).after 19 t)
    ∗ owns (c : Thread nD τ) (ms0_20 t) fullShare ((dats m 0 c).after 20 t))

set_option maxHeartbeats 2000000 in
/-- The body at any point: the inputs' buffers hold their blocks, so the body's run applies. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11, before0_12, before0_13]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10, after0_11, after0_12, after0_13, after0_14, after0_15, after0_16, after0_17, after0_18, after0_19, after0_20]
  unfold outsAt0
  unfold out0_A_14 out0_A_15 out0_A_16 out0_A_17 out0_A_18 out0_A_19 out0_A_20; (try dsimp only)
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩⟩
  iapply ((kernelRun0_A c (grid0.coords t) _ _ _ _ _ _ _ _ _ _ _ _ _ _ _ _ _ _ _ _ _ _ _ _ _ _ _ _ _ _ _ _ _ _ _ _ _ _ _ _ _ _ (X0_0 m c t) (X0_1 m c t) (X0_2 m c t) (X0_3 m c t) (iblk m c 4 t) (iblk m c 5 t) (iblk m c 6 t) (iblk m c 7 t) (iblk m c 8 t) (iblk m c 9 t) (iblk m c 10 t) (iblk m c 11 t) (iblk m c 12 t) (iblk m c 13 t)).2.2.2.2.2.2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexists _; iexact H14
  isplitl [H15]; · iexists _; iexact H15
  isplitl [H16]; · iexists _; iexact H16
  isplitl [H17]; · iexists _; iexact H17
  isplitl [H18]; · iexists _; iexact H18
  isplitl [H19]; · iexists _; iexact H19
  isplitl [H20]; · iexists _; iexact H20
  iintro ⟨H0, H1, H2, H3, H4, H5, H6, H7, H8, H9, H10, H11, H12, H13, ⟨%e14, H14⟩, ⟨%e15, H15⟩, ⟨%e16, H16⟩, ⟨%e17, H17⟩, ⟨%e18, H18⟩, ⟨%e19, H19⟩, ⟨%e20, H20⟩⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]
  · unfold owns; iexists _; isplitr
    swap; · iexact H14
    ipureintro; exact View.read_writes_of_cover _ _ _ _ _ (cover0_A_14 c _ _ _ _ _ _ _ _ _ _ _ _ _ _ _ _ _ _ _ _ _ _ _ _ _ _ _ _ _ _ _ _ _ _ _ _ _ _ _ _ _ _ _ _ _ _ _ _ _ _ _ _ _ _ _ _ _)
  isplitl [H15]
  · unfold owns; iexists _; isplitr
    swap; · iexact H15
    ipureintro; exact View.read_writes_of_cover _ _ _ _ _ (cover0_A_15 c _ _ _ _ _ _ _ _ _ _ _ _ _ _ _ _ _ _ _ _ _ _ _ _ _ _ _ _ _ _ _ _ _ _ _ _ _ _ _ _ _ _ _ _ _ _ _ _ _ _ _ _ _ _ _ _ _)
  isplitl [H16]
  · unfold owns; iexists _; isplitr
    swap; · iexact H16
    ipureintro; exact View.read_writes_of_cover _ _ _ _ _ (cover0_A_16 c _ _ _ _ _ _ _ _ _ _ _ _ _ _ _ _ _ _ _ _ _ _ _ _ _ _ _ _ _ _ _ _ _ _ _ _ _ _ _ _ _ _ _ _ _ _ _ _ _ _ _ _ _ _ _ _ _)
  isplitl [H17]
  · unfold owns; iexists _; isplitr
    swap; · iexact H17
    ipureintro; exact View.read_writes_of_cover _ _ _ _ _ (cover0_A_17 c _ _ _ _ _ _ _ _ _ _ _ _ _ _ _ _ _ _ _ _ _ _ _ _ _ _ _ _ _ _ _ _ _ _ _ _ _ _ _ _ _ _ _ _ _ _ _ _ _ _ _ _ _ _ _ _ _)
  isplitl [H18]
  · unfold owns; iexists _; isplitr
    swap; · iexact H18
    ipureintro; exact View.read_writes_of_cover _ _ _ _ _ (cover0_A_18 c _ _ _ _ _ _ _ _ _ _ _ _ _ _ _ _ _ _ _ _ _ _ _ _ _ _ _ _ _ _ _ _ _ _ _ _ _ _ _ _ _ _ _ _ _ _ _ _ _ _ _ _ _ _ _ _ _)
  isplitl [H19]
  · unfold owns; iexists _; isplitr
    swap; · iexact H19
    ipureintro; exact View.read_writes_of_cover _ _ _ _ _ (cover0_A_19 c _ _ _ _ _ _ _ _ _ _ _ _ _ _ _ _ _ _ _ _ _ _ _ _ _ _ _ _ _ _ _ _ _ _ _ _ _ _ _ _ _ _ _ _ _ _ _ _ _ _ _ _ _ _ _ _ _)
  unfold owns; iexists _; isplitr
  swap; · iexact H20
  ipureintro; exact View.read_writes_of_cover _ _ _ _ _ (cover0_A_20 c _ _ _ _ _ _ _ _ _ _ _ _ _ _ _ _ _ _ _ _ _ _ _ _ _ _ _ _ _ _ _ _ _ _ _ _ _ _ _ _ _ _ _ _ _ _ _ _ _ _ _ _ _ _ _ _ _)

/-- The body that point `t` calls. -/
theorem defs₀_row (t : Fin cfg0.N) :
    defs₀ (F := F) .tc cfg0.body (cfg0.bodyArgs t (cfg0.slots t)) = bodyAt0 t := by
  unfold defs₀; rw [Defs.onTc_tc]

set_option maxHeartbeats 4000000 in
/-- The body's claim at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

set_option backward.isDefEq.respectTransparency.types false in
/-- Every run ends with the arrays at what the points wrote, and with every semaphore at zero. -/
theorem run_main_quiescent : θ_run defs (onTc (τ := τ) (main (F := F))) (s₀ m ρ) (fun r => (Pipeline.FramePost cfgs (dats m) 0 (V m)) r ∧ r.2.sem = fun _ => 0) :=
  Pipeline.θ_run_frame_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hΦ := fun _ _ => rfl)

/-- Every run ends with the arrays at what the points wrote. -/
theorem run_main : θ_run defs (onTc (τ := τ) (main (F := F))) (s₀ m ρ) (Pipeline.FramePost cfgs (dats m) 0 (V m)) :=
  (θ_run defs _ _).mono (fun _ h => h.1) (run_main_quiescent m ρ)

/-- The arguments end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ (dats m) (A_eq m) (run_main m ρ)

/-- Every run ends without fault, the arguments unchanged and every semaphore at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (unchanged m ρ) ((θ_run defs _ _).mono (fun _ h => h.2) (run_main_quiescent m ρ))

end Cert.Layer.PrepSample.Ideal

end
-- ==== Proof.PrepSample.Point.lean ====
/-
  The attention's arrays of the sample: what the kernel's one grid point leaves in the blocks of the three results.
-/
module

public import proofs.«01_k».proof.Proof.PrepSample.Tile
public import proofs.«01_k».proof.Proof.PrepSample.IdealFrame
public import Idealize.ShloMosaic.Lib.Pipeline.ReadBack

@[expose] public section

noncomputable section

namespace Cert.Layer.PrepSample

open Idealize.ShloMosaic Idealize.ShloMosaic.TcCoe
open Cert.PrepSampleIdeal Cert.PrepSampleIdeal.Gen
open Cert.Layer.PrepSample.Ideal

/-- The columns of head `h`. -/
def headCols (x : Vec Ideal S32x512 .f32) (h : Fin 4) : Vec Ideal S32x128 .f32 :=
  fun i => x (ix2 (i 0) ⟨128 * h.val + (i 1).val, by have : (i 1).val < 128 := (i 1).isLt; omega⟩)

/-- The keys of the four heads, side by side. -/
def keyBlock (c s₁ s₂ : Vec Ideal S32x128 .f32) (g : Vec Ideal S1x128 .f32) (x : Vec Ideal S32x512 .f32) : Vec Ideal S32x512 .f32 := fun y =>
  head c s₁ s₂ g (headCols x ⟨(y 1).val / 128, by have : (y 1).val < 512 := (y 1).isLt; omega⟩) (ix2 (y 0) ⟨(y 1).val % 128, by omega⟩)

theorem zeros2 : (![0, 0] : Fin 2 → ℕ) = fun _ => 0 := by
  funext a; match a with | ⟨0, _⟩ => rfl | ⟨1, _⟩ => rfl

/-- The whole block has its own indices. -/
theorem unit_zero2 {a b : ℕ} (inb) (z : (Rect.unit (s := ⟨2, ![a, b]⟩) ![0, 0] ![a, b] inb).shape.Idx) : (Rect.unit (s := ⟨2, ![a, b]⟩) ![0, 0] ![a, b] inb).emb z = z := by
  funext k
  refine Fin.ext ?_
  match k with
  | ⟨0, _⟩ => show 0 + 1 * (z 0).val = (z 0).val; omega
  | ⟨1, _⟩ => show 0 + 1 * (z 1).val = (z 1).val; omega

/-- A head's keys stored are the block's under the store. -/
theorem head_piece {c s₁ s₂ : Vec Ideal S32x128 .f32} {g : Vec Ideal S1x128 .f32} {x : Vec Ideal S32x512 .f32} {h : Fin 4} {o : ℕ} (e : o = 128 * h.val)
    {i5 i6 i7 i12 i1 io} (z : S32x128.Idx) :
    head (View.ld c (Rect.unit ![0, 0] ![32, 128] i5)) (View.ld s₁ (Rect.unit ![0, 0] ![32, 128] i6)) (View.ld s₂ (Rect.unit ![0, 0] ![32, 128] i7))
      (View.ld g (Rect.unit ![0, 0] ![1, 128] i12)) (View.ld x (Rect.unit ![0, o] ![32, 128] i1)) z
      = keyBlock c s₁ s₂ g x ((Rect.unit (s := S32x512) ![0, o] ![32, 128] io).emb z) := by
  obtain ⟨p, d, rfl⟩ : ∃ (p : Fin 32) (d : Fin 128), z = ix2 p d := ⟨z 0, z 1, eq_ix2 z⟩
  rw [View.ld_unit_zero (S := S32x128) zeros2 i5 c, View.ld_unit_zero (S := S32x128) zeros2 i6 s₁, View.ld_unit_zero (S := S32x128) zeros2 i7 s₂,
    View.ld_unit_zero (S := S1x128) zeros2 i12 g]
  have hx : (View.ld x (Rect.unit ![0, o] ![32, 128] i1) : Vec Ideal S32x128 .f32) = headCols x h := by
    funext i
    refine congrArg x (funext fun a => Fin.ext ?_)
    match a with
    | ⟨0, _⟩ => show 0 + 1 * (i 0).val = (i 0).val; omega
    | ⟨1, _⟩ => show o + 1 * (i 1).val = 128 * h.val + (i 1).val; omega
  rw [hx]
  have hh := h.isLt
  subst e
  unfold keyBlock
  refine (congrArg (head c s₁ s₂ g (headCols x h)) (congrArg₂ ix2 (Fin.ext ?_) (Fin.ext ?_))).trans
    (congrArg (fun k => head c s₁ s₂ g (headCols x k) _) (Fin.ext ?_))
  · show p.val = 0 + 1 * p.val; omega
  · show d.val = (128 * h.val + 1 * d.val) % 128; omega
  · show h.val = (128 * h.val + 1 * d.val) / 128; omega

set_option maxHeartbeats 4000000 in
/-- The point's block of the keys. -/
theorem keys_eq (c : Dev nD) (i : grid0.Coords) (arg1 : Memref sig .tc .vmem S32x1024 .f32) (harg1 : arg1.IsWhole) (arg2 : Memref sig .tc .vmem S32x512 .f32) (harg2 : arg2.IsWhole) (arg3 : Memref sig .tc .vmem S32x512 .f32) (harg3 : arg3.IsWhole) (arg4 : Memref sig .tc .vmem S32x512 .f32) (harg4 : arg4.IsWhole) (arg5 : Memref sig .tc .vmem S32x128 .f32) (harg5 : arg5.IsWhole) (arg6 : Memref sig .tc .vmem S32x128 .f32) (harg6 : arg6.IsWhole) (arg7 : Memref sig .tc .vmem S32x128 .f32) (harg7 : arg7.IsWhole) (arg8 : Memref sig .tc .vmem S32x128 .f32) (harg8 : arg8.IsWhole) (arg9 : Memref sig .tc .vmem S32x128 .f32) (harg9 : arg9.IsWhole) (arg10 : Memref sig .tc .vmem S32x128 .f32) (harg10 : arg10.IsWhole) (arg11 : Memref sig .tc .vmem S32x128 .f32) (harg11 : arg11.IsWhole) (arg12 : Memref sig .tc .vmem S1x128 .f32) (harg12 : arg12.IsWhole) (arg13 : Memref sig .tc .vmem S1x128 .f32) (harg13 : arg13.IsWhole) (arg14 : Memref sig .tc .vmem S1x128 .f32) (harg14 : arg14.IsWhole) (arg15 : Memref sig .tc .vmem S32x1024 .bf16) (harg15 : arg15.IsWhole) (arg16 : Memref sig .tc .vmem S32x512 .f32) (harg16 : arg16.IsWhole) (arg17 : Memref sig .tc .vmem S32x512 .bf16) (harg17 : arg17.IsWhole) (arg18 : Memref sig .tc .vmem S32x512 .f32) (harg18 : arg18.IsWhole) (arg19 : Memref sig .tc .vmem S32x512 .f32) (harg19 : arg19.IsWhole) (arg20 : Memref sig .tc .vmem S32x128 .f32) (harg20 : arg20.IsWhole) (arg21 : Memref sig .tc .vmem S32x64 .f32) (harg21 : arg21.IsWhole)
    (x0 : Vec Ideal S32x1024 .f32) (x1 : Vec Ideal S32x512 .f32) (x2 : Vec Ideal S32x512 .f32) (x3 : Vec Ideal S32x512 .f32) (x4 : Vec Ideal S32x128 .f32) (x5 : Vec Ideal S32x128 .f32) (x6 : Vec Ideal S32x128 .f32) (x7 : Vec Ideal S32x128 .f32) (x8 : Vec Ideal S32x128 .f32) (x9 : Vec Ideal S32x128 .f32) (x10 : Vec Ideal S32x128 .f32) (x11 : Vec Ideal S1x128 .f32) (x12 : Vec Ideal S1x128 .f32) (x13 : Vec Ideal S1x128 .f32) :
    out0_A_15 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9 x10 x11 x12 x13 = keyBlock x5 x6 x7 x12 x1 := by
  unfold out0_A_15
  rw [View.read_writes_eq_canon _ _ _ (cover0_A_15 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9 x10 x11 x12 x13)]
  funext y
  refine View.canon_apply_of_pieces _ _ (View.PiecesOf.mem ?_) y (cover0_A_15 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9 x10 x11 x12 x13 y)
  unfold kernelRun0_A
  dsimp only
  sl_unfold_words
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread]
  exact ⟨fun z => head_piece (h := 3) (o := 384) rfl (io := inb_S32x512_S32x128_0_384) z,
    fun z => head_piece (h := 2) (o := 256) rfl (io := inb_S32x512_S32x128_0_256) z,
    fun z => head_piece (h := 1) (o := 128) rfl (io := inb_S32x512_S32x128_0_128) z,
    fun z => head_piece (h := 0) (o := 0) rfl (io := inb_S32x512_S32x128_0_0) z, trivial⟩

set_option maxHeartbeats 4000000 in
/-- The point's block of the values. -/
theorem values_eq (c : Dev nD) (i : grid0.Coords) (arg1 : Memref sig .tc .vmem S32x1024 .f32) (harg1 : arg1.IsWhole) (arg2 : Memref sig .tc .vmem S32x512 .f32) (harg2 : arg2.IsWhole) (arg3 : Memref sig .tc .vmem S32x512 .f32) (harg3 : arg3.IsWhole) (arg4 : Memref sig .tc .vmem S32x512 .f32) (harg4 : arg4.IsWhole) (arg5 : Memref sig .tc .vmem S32x128 .f32) (harg5 : arg5.IsWhole) (arg6 : Memref sig .tc .vmem S32x128 .f32) (harg6 : arg6.IsWhole) (arg7 : Memref sig .tc .vmem S32x128 .f32) (harg7 : arg7.IsWhole) (arg8 : Memref sig .tc .vmem S32x128 .f32) (harg8 : arg8.IsWhole) (arg9 : Memref sig .tc .vmem S32x128 .f32) (harg9 : arg9.IsWhole) (arg10 : Memref sig .tc .vmem S32x128 .f32) (harg10 : arg10.IsWhole) (arg11 : Memref sig .tc .vmem S32x128 .f32) (harg11 : arg11.IsWhole) (arg12 : Memref sig .tc .vmem S1x128 .f32) (harg12 : arg12.IsWhole) (arg13 : Memref sig .tc .vmem S1x128 .f32) (harg13 : arg13.IsWhole) (arg14 : Memref sig .tc .vmem S1x128 .f32) (harg14 : arg14.IsWhole) (arg15 : Memref sig .tc .vmem S32x1024 .bf16) (harg15 : arg15.IsWhole) (arg16 : Memref sig .tc .vmem S32x512 .f32) (harg16 : arg16.IsWhole) (arg17 : Memref sig .tc .vmem S32x512 .bf16) (harg17 : arg17.IsWhole) (arg18 : Memref sig .tc .vmem S32x512 .f32) (harg18 : arg18.IsWhole) (arg19 : Memref sig .tc .vmem S32x512 .f32) (harg19 : arg19.IsWhole) (arg20 : Memref sig .tc .vmem S32x128 .f32) (harg20 : arg20.IsWhole) (arg21 : Memref sig .tc .vmem S32x64 .f32) (harg21 : arg21.IsWhole)
    (x0 : Vec Ideal S32x1024 .f32) (x1 : Vec Ideal S32x512 .f32) (x2 : Vec Ideal S32x512 .f32) (x3 : Vec Ideal S32x512 .f32) (x4 : Vec Ideal S32x128 .f32) (x5 : Vec Ideal S32x128 .f32) (x6 : Vec Ideal S32x128 .f32) (x7 : Vec Ideal S32x128 .f32) (x8 : Vec Ideal S32x128 .f32) (x9 : Vec Ideal S32x128 .f32) (x10 : Vec Ideal S32x128 .f32) (x11 : Vec Ideal S1x128 .f32) (x12 : Vec Ideal S1x128 .f32) (x13 : Vec Ideal S1x128 .f32) :
    out0_A_17 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9 x10 x11 x12 x13 = x2 := by
  unfold out0_A_17
  rw [View.read_writes_eq_canon _ _ _ (cover0_A_17 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9 x10 x11 x12 x13)]
  funext y
  refine View.canon_apply_of_pieces _ _ (View.PiecesOf.mem ?_) y (cover0_A_17 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9 x10 x11 x12 x13 y)
  unfold kernelRun0_A
  dsimp only
  sl_unfold_words
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread]
  rw [View.ld_unit_zero (S := S32x512) zeros2 _ x2]
  exact ⟨fun z => congrArg x2 (unit_zero2 (a := 32) (b := 512) inb_S32x512_S32x512_0_0 z).symm, trivial⟩

set_option maxHeartbeats 4000000 in
/-- The point's block of the indexer's keys. -/
theorem index_eq (c : Dev nD) (i : grid0.Coords) (arg1 : Memref sig .tc .vmem S32x1024 .f32) (harg1 : arg1.IsWhole) (arg2 : Memref sig .tc .vmem S32x512 .f32) (harg2 : arg2.IsWhole) (arg3 : Memref sig .tc .vmem S32x512 .f32) (harg3 : arg3.IsWhole) (arg4 : Memref sig .tc .vmem S32x512 .f32) (harg4 : arg4.IsWhole) (arg5 : Memref sig .tc .vmem S32x128 .f32) (harg5 : arg5.IsWhole) (arg6 : Memref sig .tc .vmem S32x128 .f32) (harg6 : arg6.IsWhole) (arg7 : Memref sig .tc .vmem S32x128 .f32) (harg7 : arg7.IsWhole) (arg8 : Memref sig .tc .vmem S32x128 .f32) (harg8 : arg8.IsWhole) (arg9 : Memref sig .tc .vmem S32x128 .f32) (harg9 : arg9.IsWhole) (arg10 : Memref sig .tc .vmem S32x128 .f32) (harg10 : arg10.IsWhole) (arg11 : Memref sig .tc .vmem S32x128 .f32) (harg11 : arg11.IsWhole) (arg12 : Memref sig .tc .vmem S1x128 .f32) (harg12 : arg12.IsWhole) (arg13 : Memref sig .tc .vmem S1x128 .f32) (harg13 : arg13.IsWhole) (arg14 : Memref sig .tc .vmem S1x128 .f32) (harg14 : arg14.IsWhole) (arg15 : Memref sig .tc .vmem S32x1024 .bf16) (harg15 : arg15.IsWhole) (arg16 : Memref sig .tc .vmem S32x512 .f32) (harg16 : arg16.IsWhole) (arg17 : Memref sig .tc .vmem S32x512 .bf16) (harg17 : arg17.IsWhole) (arg18 : Memref sig .tc .vmem S32x512 .f32) (harg18 : arg18.IsWhole) (arg19 : Memref sig .tc .vmem S32x512 .f32) (harg19 : arg19.IsWhole) (arg20 : Memref sig .tc .vmem S32x128 .f32) (harg20 : arg20.IsWhole) (arg21 : Memref sig .tc .vmem S32x64 .f32) (harg21 : arg21.IsWhole)
    (x0 : Vec Ideal S32x1024 .f32) (x1 : Vec Ideal S32x512 .f32) (x2 : Vec Ideal S32x512 .f32) (x3 : Vec Ideal S32x512 .f32) (x4 : Vec Ideal S32x128 .f32) (x5 : Vec Ideal S32x128 .f32) (x6 : Vec Ideal S32x128 .f32) (x7 : Vec Ideal S32x128 .f32) (x8 : Vec Ideal S32x128 .f32) (x9 : Vec Ideal S32x128 .f32) (x10 : Vec Ideal S32x128 .f32) (x11 : Vec Ideal S1x128 .f32) (x12 : Vec Ideal S1x128 .f32) (x13 : Vec Ideal S1x128 .f32) :
    out0_A_20 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9 x10 x11 x12 x13 = indexKeys x8 x9 x10 x13 x4 := by
  unfold out0_A_20
  rw [View.read_writes_eq_canon _ _ _ (cover0_A_20 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9 x10 x11 x12 x13)]
  funext y
  refine View.canon_apply_of_pieces _ _ (View.PiecesOf.mem ?_) y (cover0_A_20 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9 x10 x11 x12 x13 y)
  unfold kernelRun0_A
  dsimp only
  sl_unfold_words
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread]
  rw [View.ld_unit_zero (S := S32x128) zeros2 _ x8, View.ld_unit_zero (S := S32x128) zeros2 _ x9, View.ld_unit_zero (S := S32x128) zeros2 _ x10,
    View.ld_unit_zero (S := S32x128) zeros2 _ x4, View.ld_unit_zero (S := S1x128) zeros2 _ x13]
  exact ⟨fun z => congrArg (indexKeys x8 x9 x10 x13 x4) (unit_zero2 (a := 32) (b := 64) inb_S32x64_S32x64_0_0 z).symm, trivial⟩

end Cert.Layer.PrepSample

end
-- ==== Proof.PrepSample.Tables.lean ====
/-
  The attention's arrays of the sample: the tables the kernel's host operations make before the call, entry by entry.  Every
  sequence is at position 16384.
-/
module

public import proofs.«01_k».proof.Proof.Rotary
public import proofs.«01_k».proof.Proof.Gen.PrepSampleIdeal.Frame.Runs
public import Idealize.ShloMosaic.Lib.Pointwise

@[expose] public section

noncomputable section

namespace Cert.Layer.PrepSample

open Idealize.ShloMosaic Idealize.ShloMosaic.TcCoe
open Cert.PrepSampleIdeal Cert.PrepSampleIdeal.Gen

theorem rowMajor_ix1 (d : Fin 128) : S128.rowMajor (ix1 d) = d := Fin.ext (Shape.rowMajor_val_one _)

/-- The keys' angles as the host operations compute them. -/
def keyAngles : Vec Ideal S32x16 .f32 :=
  mulf (broadcastInDim S32x16 ![0, 1] bcast_S32x1_S32x16_0_1
      (broadcastInDim S32x1 ![0] bcast_S32_S32x1_0 (sitofp (F := Ideal) .f32 (broadcastInDim S32 ![] bcast_S_S32 (constantI S_ 32 16384#32)))))
    (broadcastInDim S32x16 ![0, 1] bcast_S1x16_S32x16_0_1
      (broadcastInDim S1x16 ![1] bcast_S16_S1x16_1
        (Host.divf (F := Ideal) (broadcastInDim S16 ![] bcast_S_S16 (constant (F := Ideal) S_ .f32 0x3F800000#32))
          (Host.powf (F := Ideal) (broadcastInDim S16 ![] bcast_S_S16 (constant (F := Ideal) S_ .f32 0x48F42400#32))
            (Host.divf (F := Ideal) (sitofp (F := Ideal) .f32 (iotaInDim S16 32 0))
              (broadcastInDim S16 ![] bcast_S_S16 (constant (F := Ideal) S_ .f32 0x41800000#32)))))))

theorem keyAngles_apply (t : Fin 32) (d : Fin 16) : keyAngles (ix2 t d) = ropeAngle 0x41800000#32 lastPos d.val := by
  unfold ropeAngle lastPos
  pointwise [keyAngles]
  rfl

/-- The indexer's angles as the host operations compute them. -/
def indexAngles : Vec Ideal S32x8 .f32 :=
  mulf (broadcastInDim S32x8 ![0, 1] bcast_S32x1_S32x8_0_1
      (broadcastInDim S32x1 ![0] bcast_S32_S32x1_0 (sitofp (F := Ideal) .f32 (broadcastInDim S32 ![] bcast_S_S32 (constantI S_ 32 16384#32)))))
    (broadcastInDim S32x8 ![0, 1] bcast_S1x8_S32x8_0_1
      (broadcastInDim S1x8 ![1] bcast_S8_S1x8_1
        (Host.divf (F := Ideal) (broadcastInDim S8 ![] bcast_S_S8 (constant (F := Ideal) S_ .f32 0x3F800000#32))
          (Host.powf (F := Ideal) (broadcastInDim S8 ![] bcast_S_S8 (constant (F := Ideal) S_ .f32 0x48F42400#32))
            (Host.divf (F := Ideal) (sitofp (F := Ideal) .f32 (iotaInDim S8 32 0))
              (broadcastInDim S8 ![] bcast_S_S8 (constant (F := Ideal) S_ .f32 0x41000000#32)))))))

theorem indexAngles_apply (t : Fin 32) (d : Fin 8) : indexAngles (ix2 t d) = ropeAngle 0x41000000#32 lastPos d.val := by
  unfold ropeAngle lastPos
  pointwise [indexAngles]
  rfl

/-- The lanes' frequencies, from a list of them. -/
def lanes (lit : Fin 128 → BitVec 32) (n : BitVec 32) : IVec S128x1 32 :=
  broadcastInDim S128x1 ![0] bcast_S128_S128x1_0
    (select (constantI S128 1 0#1)
      (addi (fun i => lit (S128.rowMajor i)) (broadcastInDim S128 ![] bcast_S_S128 (constantI S_ 32 n)))
      fun i => lit (S128.rowMajor i))

theorem lanes_apply (lit : Fin 128 → BitVec 32) (n : BitVec 32) (d : Fin 128) : lanes lit n (ix2 d 0) = lit d := by
  have h : lanes lit n (ix2 d 0) = lit (S128.rowMajor (ix1 d)) := by
    unfold lanes
    generalize hf : (fun i => lit (S128.rowMajor i)) = f
    have h : f (ix1 d) = lit (S128.rowMajor (ix1 d)) := by rw [← hf]
    rw [← h]
    pointwise []
  rw [h, rowMajor_ix1]

/-! The lists of the lanes' frequencies and of the lanes that turn. -/

theorem lit0_eq : ∀ d : Fin 128, (lit0 d).toInt.toNat = d.val % 16 := by decide +kernel
theorem lit1_eq : ∀ d : Fin 128, lit1 d = if d.val < 32 then 1#1 else 0#1 := by decide +kernel
theorem lit2_eq : ∀ d : Fin 128, lit2 d = if d.val < 16 then 1#1 else 0#1 := by decide +kernel
theorem lit3_eq : ∀ d : Fin 128, lit3 d = if 16 ≤ d.val ∧ d.val < 32 then 1#1 else 0#1 := by decide +kernel
theorem lit4_eq : ∀ d : Fin 128, (lit4 d).toInt.toNat = d.val % 8 := by decide +kernel
theorem lit5_eq : ∀ d : Fin 128, lit5 d = if d.val % 64 < 16 then 1#1 else 0#1 := by decide +kernel
theorem lit6_eq : ∀ d : Fin 128, lit6 d = if d.val % 64 < 8 then 1#1 else 0#1 := by decide +kernel
theorem lit7_eq : ∀ d : Fin 128, lit7 d = if 8 ≤ d.val % 64 ∧ d.val % 64 < 16 then 1#1 else 0#1 := by decide +kernel

/-- The keys' gathered table at lane `d` is the table at the lane's frequency. -/
theorem gatherKey (x : Vec Ideal S32x16 .f32) (t : Fin 32) (d : Fin 128) :
    Host.gather gather_S32x16_S128x1_S32x128_0_1_n_n_1_1_321 x (lanes lit0 16#32) (ix2 t d) = x (ix2 t ⟨d.val % 16, Nat.mod_lt _ (by decide)⟩) := by
  unfold Host.gather
  refine congrArg x (funext fun a => Fin.ext ?_)
  set D := gather_S32x16_S128x1_S32x128_0_1_n_n_1_1_321 with hD
  show D.start (ix2 t d) (lanes lit0 16#32) a + D.batchCoord (ix2 t d) a + D.offCoord (ix2 t d) a = _
  rw [GatherDims.batchCoord_eq_zero _ _ _ List.not_mem_nil]
  match a with
  | ⟨0, _⟩ =>
    unfold GatherDims.start
    rw [dif_neg (show ((⟨0, by decide⟩ : Fin S32x16.rank)) ∉ D.startIndexMap from by decide)]
    rw [Nat.zero_add]
    rfl
  | ⟨1, _⟩ =>
    rw [GatherDims.offCoord_eq_zero _ _ _ (fun h => ((GatherDims.mem_sKept _ _).mp h).1 (List.mem_singleton.mpr rfl))]
    unfold GatherDims.start
    rw [dif_pos (show ((⟨1, by decide⟩ : Fin S32x16.rank)) ∈ D.startIndexMap from List.mem_singleton.mpr rfl)]
    have hsi : D.siIdx (ix2 t d) ⟨List.idxOf (⟨1, by decide⟩ : Fin S32x16.rank) D.startIndexMap,
        List.idxOf_lt_length_iff.2 (List.mem_singleton.mpr rfl)⟩ = ix2 d 0 := by
      funext b; refine Fin.ext ?_
      match b with
      | ⟨0, _⟩ => rfl
      | ⟨1, _⟩ => rfl
    erw [hsi]
    rw [lanes_apply, lit0_eq]
    show min (d.val % 16) 15 + 0 + 0 = d.val % 16
    omega

/-- The indexer's gathered table at lane `d` is the table at the lane's frequency. -/
theorem gatherIndex (x : Vec Ideal S32x8 .f32) (t : Fin 32) (d : Fin 128) :
    Host.gather gather_S32x8_S128x1_S32x128_0_1_n_n_1_1_321 x (lanes lit4 8#32) (ix2 t d) = x (ix2 t ⟨d.val % 8, Nat.mod_lt _ (by decide)⟩) := by
  unfold Host.gather
  refine congrArg x (funext fun a => Fin.ext ?_)
  set D := gather_S32x8_S128x1_S32x128_0_1_n_n_1_1_321 with hD
  show D.start (ix2 t d) (lanes lit4 8#32) a + D.batchCoord (ix2 t d) a + D.offCoord (ix2 t d) a = _
  rw [GatherDims.batchCoord_eq_zero _ _ _ List.not_mem_nil]
  match a with
  | ⟨0, _⟩ =>
    unfold GatherDims.start
    rw [dif_neg (show ((⟨0, by decide⟩ : Fin S32x8.rank)) ∉ D.startIndexMap from by decide)]
    rw [Nat.zero_add]
    rfl
  | ⟨1, _⟩ =>
    rw [GatherDims.offCoord_eq_zero _ _ _ (fun h => ((GatherDims.mem_sKept _ _).mp h).1 (List.mem_singleton.mpr rfl))]
    unfold GatherDims.start
    rw [dif_pos (show ((⟨1, by decide⟩ : Fin S32x8.rank)) ∈ D.startIndexMap from List.mem_singleton.mpr rfl)]
    have hsi : D.siIdx (ix2 t d) ⟨List.idxOf (⟨1, by decide⟩ : Fin S32x8.rank) D.startIndexMap,
        List.idxOf_lt_length_iff.2 (List.mem_singleton.mpr rfl)⟩ = ix2 d 0 := by
      funext b; refine Fin.ext ?_
      match b with
      | ⟨0, _⟩ => rfl
      | ⟨1, _⟩ => rfl
    erw [hsi]
    rw [lanes_apply, lit4_eq]
    show min (d.val % 8) 7 + 0 + 0 = d.val % 8
    omega

/-- A choice along the lanes between an array and a constant. -/
def pick (w : Fin 128 → BitVec 1) (a : Vec Ideal S32x128 .f32) (n : BitVec 32) : Vec Ideal S32x128 .f32 :=
  select (broadcastInDim S32x128 ![1] bcast_S128_S32x128_1 (fun i => w (S128.rowMajor i))) a
    (broadcastInDim S32x128 ![] bcast_S_S32x128 (constant (F := Ideal) S_ .f32 n))

theorem pick_apply (w : Fin 128 → BitVec 1) (a : Vec Ideal S32x128 .f32) (n : BitVec 32) (t : Fin 32) (d : Fin 128) :
    pick w a n (ix2 t d) = Scalar.select (w d) (a (ix2 t d)) (Ideal.ofBits .f32 n) := by
  show Scalar.select (w (S128.rowMajor _)) _ _ = _
  refine congrArg (fun k => Scalar.select (w k) (a (ix2 t d)) (Ideal.ofBits .f32 n)) (Fin.ext ?_)
  exact Shape.rowMajor_val_one _

theorem one_f32 : Ideal.ofBits .f32 0x3F800000#32 = 1 := by
  simp [Ideal.ofBits, Ideal.ieee, -EReal.coe_mul]
  norm_num

theorem zero_f32 : Ideal.ofBits .f32 0x00000000#32 = 0 := by
  simp [Ideal.ofBits, Ideal.ieee, -EReal.coe_mul]

variable (m : (ℓ : Loc nD τ sig) → Buf (Elt Ideal) ℓ) (c : Dev nD) (t : Fin 32) (d : Fin 128)

/-- The keys' cosines. -/
theorem V_keyCos : (V m c main_v20 : Vec Ideal S32x128 .f32) (ix2 t d) = if d.val < 2 * 16 then Ideal.cos (ropeAngle 0x41800000#32 lastPos (d.val % 16)) else 1 := by
  have h : (V m c main_v20 : Vec Ideal S32x128 .f32)
      = pick lit1 (Host.gather gather_S32x16_S128x1_S32x128_0_1_n_n_1_1_321 (Host.cos (F := Ideal) (φ := .f32) keyAngles) (lanes lit0 16#32)) 0x3F800000#32 := by
    dsimp only [V, List.flatten_cons, List.flatten_nil, List.cons_append, List.nil_append, List.append_nil]
    after_results
    rfl
  rw [h, pick_apply, gatherKey, lit1_eq, one_f32]
  by_cases e : d.val < 32
  · rw [if_pos e, if_pos e, ValueIdx.select_one]
    exact congrArg Ideal.cos (keyAngles_apply t _)
  · rw [if_neg e, if_neg e, ValueIdx.select_zero]

/-- The keys' sines, with the other sign, of the lanes that turn to the left. -/
theorem V_keyLo : (V m c main_v28 : Vec Ideal S32x128 .f32) (ix2 t d) = if d.val < 16 then -Ideal.sin (ropeAngle 0x41800000#32 lastPos (d.val % 16)) else 0 := by
  have h : (V m c main_v28 : Vec Ideal S32x128 .f32)
      = pick lit2 (Host.negf (F := Ideal) (φ := .f32) (Host.gather gather_S32x16_S128x1_S32x128_0_1_n_n_1_1_321 (Host.sin (F := Ideal) (φ := .f32) keyAngles) (lanes lit0 16#32))) 0x00000000#32 := by
    dsimp only [V, List.flatten_cons, List.flatten_nil, List.cons_append, List.nil_append, List.append_nil]
    after_results
    rfl
  rw [h, pick_apply, lit2_eq, zero_f32]
  by_cases e : d.val < 16
  · rw [if_pos e, if_pos e, ValueIdx.select_one]
    exact congrArg (fun u : EReal => -u) ((gatherKey _ t d).trans (congrArg Ideal.sin (keyAngles_apply t _)))
  · rw [if_neg e, if_neg e, ValueIdx.select_zero]

/-- The keys' sines of the lanes that turn to the right. -/
theorem V_keyHi : (V m c main_v29 : Vec Ideal S32x128 .f32) (ix2 t d) = if 16 ≤ d.val ∧ d.val < 2 * 16 then Ideal.sin (ropeAngle 0x41800000#32 lastPos (d.val % 16)) else 0 := by
  have h : (V m c main_v29 : Vec Ideal S32x128 .f32)
      = pick lit3 (Host.gather gather_S32x16_S128x1_S32x128_0_1_n_n_1_1_321 (Host.sin (F := Ideal) (φ := .f32) keyAngles) (lanes lit0 16#32)) 0x00000000#32 := by
    dsimp only [V, List.flatten_cons, List.flatten_nil, List.cons_append, List.nil_append, List.append_nil]
    after_results
    rfl
  rw [h, pick_apply, gatherKey, lit3_eq, zero_f32]
  by_cases e : 16 ≤ d.val ∧ d.val < 32
  · rw [if_pos e, if_pos e, ValueIdx.select_one]
    exact congrArg Ideal.sin (keyAngles_apply t _)
  · rw [if_neg e, if_neg e, ValueIdx.select_zero]

variable (hd : d.val < 64)
include hd

/-- The indexer's cosines. -/
theorem V_indexCos : (V m c main_v49 : Vec Ideal S32x128 .f32) (ix2 t d) = if d.val < 2 * 8 then Ideal.cos (ropeAngle 0x41000000#32 lastPos (d.val % 8)) else 1 := by
  have h : (V m c main_v49 : Vec Ideal S32x128 .f32)
      = pick lit5 (Host.gather gather_S32x8_S128x1_S32x128_0_1_n_n_1_1_321 (Host.cos (F := Ideal) (φ := .f32) indexAngles) (lanes lit4 8#32)) 0x3F800000#32 := by
    dsimp only [V, List.flatten_cons, List.flatten_nil, List.cons_append, List.nil_append, List.append_nil]
    after_results
    rfl
  rw [h, pick_apply, gatherIndex, lit5_eq, one_f32, Nat.mod_eq_of_lt hd]
  by_cases e : d.val < 16
  · rw [if_pos e, if_pos e, ValueIdx.select_one]
    exact congrArg Ideal.cos (indexAngles_apply t _)
  · rw [if_neg e, if_neg e, ValueIdx.select_zero]

/-- The indexer's sines, with the other sign, of the lanes that turn to the left. -/
theorem V_indexLo : (V m c main_v57 : Vec Ideal S32x128 .f32) (ix2 t d) = if d.val < 8 then -Ideal.sin (ropeAngle 0x41000000#32 lastPos (d.val % 8)) else 0 := by
  have h : (V m c main_v57 : Vec Ideal S32x128 .f32)
      = pick lit6 (Host.negf (F := Ideal) (φ := .f32) (Host.gather gather_S32x8_S128x1_S32x128_0_1_n_n_1_1_321 (Host.sin (F := Ideal) (φ := .f32) indexAngles) (lanes lit4 8#32))) 0x00000000#32 := by
    dsimp only [V, List.flatten_cons, List.flatten_nil, List.cons_append, List.nil_append, List.append_nil]
    after_results
    rfl
  rw [h, pick_apply, lit6_eq, zero_f32, Nat.mod_eq_of_lt hd]
  by_cases e : d.val < 8
  · rw [if_pos e, if_pos e, ValueIdx.select_one]
    exact congrArg (fun u : EReal => -u) ((gatherIndex _ t d).trans (congrArg Ideal.sin (indexAngles_apply t _)))
  · rw [if_neg e, if_neg e, ValueIdx.select_zero]

/-- The indexer's sines of the lanes that turn to the right. -/
theorem V_indexHi : (V m c main_v58 : Vec Ideal S32x128 .f32) (ix2 t d) = if 8 ≤ d.val ∧ d.val < 2 * 8 then Ideal.sin (ropeAngle 0x41000000#32 lastPos (d.val % 8)) else 0 := by
  have h : (V m c main_v58 : Vec Ideal S32x128 .f32)
      = pick lit7 (Host.gather gather_S32x8_S128x1_S32x128_0_1_n_n_1_1_321 (Host.sin (F := Ideal) (φ := .f32) indexAngles) (lanes lit4 8#32)) 0x00000000#32 := by
    dsimp only [V, List.flatten_cons, List.flatten_nil, List.cons_append, List.nil_append, List.append_nil]
    after_results
    rfl
  rw [h, pick_apply, gatherIndex, lit7_eq, zero_f32, Nat.mod_eq_of_lt hd]
  by_cases e : 8 ≤ d.val ∧ d.val < 16
  · rw [if_pos e, if_pos e, ValueIdx.select_one]
    exact congrArg Ideal.sin (indexAngles_apply t _)
  · rw [if_neg e, if_neg e, ValueIdx.select_zero]

omit hd

/-- The keys' weights. -/
theorem V_keyGain : (V m c main_v60 : Vec Ideal S1x128 .f32) (ix2 0 d) = (m ((c : Thread nD τ).loc main_arg2) : Vec Ideal S128 .f32) (ix1 d) := by
  have h : (V m c main_v60 : Vec Ideal S1x128 .f32)
      = broadcastInDim S1x128 ![1] bcast_S128_S1x128_1 (m ((c : Thread nD τ).loc main_arg2) : Vec Ideal S128 .f32) := by
    dsimp only [V, List.flatten_cons, List.flatten_nil, List.cons_append, List.nil_append, List.append_nil]
    after_results
  rw [h]
  generalize (m ((c : Thread nD τ).loc main_arg2) : Vec Ideal S128 .f32) = g
  pointwise []

/-- The indexer's weights. -/
theorem V_indexGain (f : Fin 64) : (V m c main_v63 : Vec Ideal S1x128 .f32) (ix2 0 ⟨f.val, f.isLt.trans (by decide)⟩) = (m ((c : Thread nD τ).loc main_arg3) : Vec Ideal S64 .f32) (ix1 f) := by
  have h : (V m c main_v63 : Vec Ideal S1x128 .f32)
      = broadcastInDim S1x128 ![1] bcast_S128_S1x128_1 (concatenate S128 0
          [⟨S64, (m ((c : Thread nD τ).loc main_arg3) : Vec Ideal S64 .f32)⟩, ⟨S64, broadcastInDim S64 ![] bcast_S_S64 (constant (F := Ideal) S_ .f32 0x00000000#32)⟩]
          concatenates_S64_S64_S128_d0) := by
    dsimp only [V, List.flatten_cons, List.flatten_nil, List.cons_append, List.nil_append, List.append_nil]
    after_results
  rw [h]
  generalize (m ((c : Thread nD τ).loc main_arg3) : Vec Ideal S64 .f32) = g
  pointwise []

end Cert.Layer.PrepSample

end
-- ==== Proof.PrepSample.Value.lean ====
/-
  The attention's arrays of the sample: what the run leaves in the three arrays the layer returns, block by block.
-/
module

public import proofs.«01_k».proof.Proof.PrepSample.IdealFrame
public import Idealize.ShloMosaic.Lib.Pipeline.Value
public import Idealize.ShloMosaic.PureOps.Ideal

@[expose] public section

set_option maxRecDepth 16384

noncomputable section

namespace Cert.Layer.PrepSample

open Idealize.ShloMosaic Idealize.ShloMosaic.TcCoe
open Cert.PrepSampleIdeal Cert.PrepSampleIdeal.Gen
open Cert.Layer.PrepSample.Ideal

variable (m : (ℓ : Loc nD τ sig) → Buf (Elt Ideal) ℓ) (c : Dev nD)

/-- The block of the keys that a point writes. -/
theorem flushed15 (t : Fin cfg0.N) :
    (dats m 0 c).flushed 15 t = (cfg0.win 15).cut (grid0.coords t) (out0_A_15 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (X0_0 m c t) (X0_1 m c t) (X0_2 m c t) (X0_3 m c t) (iblk m c 4 t) (iblk m c 5 t) (iblk m c 6 t) (iblk m c 7 t) (iblk m c 8 t) (iblk m c 9 t) (iblk m c 10 t) (iblk m c 11 t) (iblk m c 12 t) (iblk m c 13 t)) := by
  show (cfg0.win 15).cut (grid0.coords t) ((dats m 0 c).after 15 t) = _
  rw [after0_15]
  simp only [outsAt0]

/-- The block of the values that a point writes. -/
theorem flushed17 (t : Fin cfg0.N) :
    (dats m 0 c).flushed 17 t = (cfg0.win 17).cut (grid0.coords t) (out0_A_17 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (X0_0 m c t) (X0_1 m c t) (X0_2 m c t) (X0_3 m c t) (iblk m c 4 t) (iblk m c 5 t) (iblk m c 6 t) (iblk m c 7 t) (iblk m c 8 t) (iblk m c 9 t) (iblk m c 10 t) (iblk m c 11 t) (iblk m c 12 t) (iblk m c 13 t)) := by
  show (cfg0.win 17).cut (grid0.coords t) ((dats m 0 c).after 17 t) = _
  rw [after0_17]
  simp only [outsAt0]

/-- The block of the indexer's keys that a point writes. -/
theorem flushed20 (t : Fin cfg0.N) :
    (dats m 0 c).flushed 20 t = (cfg0.win 20).cut (grid0.coords t) (out0_A_20 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (X0_0 m c t) (X0_1 m c t) (X0_2 m c t) (X0_3 m c t) (iblk m c 4 t) (iblk m c 5 t) (iblk m c 6 t) (iblk m c 7 t) (iblk m c 8 t) (iblk m c 9 t) (iblk m c 10 t) (iblk m c 11 t) (iblk m c 12 t) (iblk m c 13 t)) := by
  show (cfg0.win 20).cut (grid0.coords t) ((dats m 0 c).after 20 t) = _
  rw [after0_20]
  simp only [outsAt0]

end Cert.Layer.PrepSample

end
-- ==== Proof.PrepSample.Fold.lean ====
/-
  The results of the kernel that makes the attention's arrays of the sample, as functions of its arguments.
-/
module

public import proofs.«01_k».proof.Proof.PrepSample.Point
public import proofs.«01_k».proof.Proof.PrepSample.Tables
public import proofs.«01_k».proof.Proof.PrepSample.Value

@[expose] public section

noncomputable section

namespace Cert.Layer.PrepSample

open Idealize.ShloMosaic Idealize.ShloMosaic.TcCoe
open Cert.PrepSampleIdeal Cert.PrepSampleIdeal.Gen
open Cert.Layer.PrepSample.Ideal
open scoped BigOperators

variable (m : (ℓ : Loc nD τ sig) → Buf (Elt Ideal) ℓ) (c : Dev nD)

def zArg : Vec Ideal S32x10880 .f32 := m ((c : Thread nD τ).loc main_arg0)
def kArg : Vec Ideal S128 .f32 := m ((c : Thread nD τ).loc main_arg2)
def iArg : Vec Ideal S64 .f32 := m ((c : Thread nD τ).loc main_arg3)

/-- The projections of a sequence. -/
def zRow (p : Fin 32) : Fin 10880 → EReal := fun n => zArg m c (ix2 p n)

/-- The kernel's keys, as a function of its arguments. -/
def kernelKeys : Vec Ideal S32x512 .f32 := fun i => keyRow lastPos (zRow m c (i 0)) (fun d => kArg m c (ix1 d)) (i 1).val

/-- The kernel's values, as a function of its arguments. -/
def kernelValues : Vec Ideal S32x512 .f32 := fun i => valueRow (zRow m c (i 0)) (i 1).val

/-- The kernel's indexer keys, as a function of its arguments. -/
def kernelIndex : Vec Ideal S32x64 .f32 := fun i => indexRow lastPos (zRow m c (i 0)) (fun d => iArg m c (ix1 d)) (i 1).val

/-! What the windows hold. -/

theorem index1 : ∀ t : Fin cfg0.N, win0_1.index t (0 : Fin 2) = 0 ∧ win0_1.index t (1 : Fin 2) = 18 := (by decide +kernel : ∀ t : Fin grid0.N, _)
theorem index2 : ∀ t : Fin cfg0.N, win0_2.index t (0 : Fin 2) = 0 ∧ win0_2.index t (1 : Fin 2) = 19 := (by decide +kernel : ∀ t : Fin grid0.N, _)
theorem index4 : ∀ t : Fin cfg0.N, win0_4.index t (0 : Fin 2) = 0 ∧ win0_4.index t (1 : Fin 2) = 84 := (by decide +kernel : ∀ t : Fin grid0.N, _)
theorem index5 : ∀ t : Fin cfg0.N, win0_5.index t (0 : Fin 2) = 0 ∧ win0_5.index t (1 : Fin 2) = 0 := (by decide +kernel : ∀ t : Fin grid0.N, _)
theorem index6 : ∀ t : Fin cfg0.N, win0_6.index t (0 : Fin 2) = 0 ∧ win0_6.index t (1 : Fin 2) = 0 := (by decide +kernel : ∀ t : Fin grid0.N, _)
theorem index7 : ∀ t : Fin cfg0.N, win0_7.index t (0 : Fin 2) = 0 ∧ win0_7.index t (1 : Fin 2) = 0 := (by decide +kernel : ∀ t : Fin grid0.N, _)
theorem index8 : ∀ t : Fin cfg0.N, win0_8.index t (0 : Fin 2) = 0 ∧ win0_8.index t (1 : Fin 2) = 0 := (by decide +kernel : ∀ t : Fin grid0.N, _)
theorem index9 : ∀ t : Fin cfg0.N, win0_9.index t (0 : Fin 2) = 0 ∧ win0_9.index t (1 : Fin 2) = 0 := (by decide +kernel : ∀ t : Fin grid0.N, _)
theorem index10 : ∀ t : Fin cfg0.N, win0_10.index t (0 : Fin 2) = 0 ∧ win0_10.index t (1 : Fin 2) = 0 := (by decide +kernel : ∀ t : Fin grid0.N, _)
theorem index12 : ∀ t : Fin cfg0.N, win0_12.index t (0 : Fin 2) = 0 ∧ win0_12.index t (1 : Fin 2) = 0 := (by decide +kernel : ∀ t : Fin grid0.N, _)
theorem index13 : ∀ t : Fin cfg0.N, win0_13.index t (0 : Fin 2) = 0 ∧ win0_13.index t (1 : Fin 2) = 0 := (by decide +kernel : ∀ t : Fin grid0.N, _)
theorem index15 : ∀ t : Fin cfg0.N, win0_15.index t (0 : Fin 2) = 0 ∧ win0_15.index t (1 : Fin 2) = 0 := (by decide +kernel : ∀ t : Fin grid0.N, _)
theorem index17 : ∀ t : Fin cfg0.N, win0_17.index t (0 : Fin 2) = 0 ∧ win0_17.index t (1 : Fin 2) = 0 := (by decide +kernel : ∀ t : Fin grid0.N, _)
theorem index20 : ∀ t : Fin cfg0.N, win0_20.index t (0 : Fin 2) = 0 ∧ win0_20.index t (1 : Fin 2) = 0 := (by decide +kernel : ∀ t : Fin grid0.N, _)

variable (t : Fin cfg0.N) (p : Fin 32)

theorem k_apply (l : Fin 512) : (X0_1 m c t : Vec Ideal S32x512 .f32) (ix2 p l) = zRow m c p ⟨9216 + l.val, by omega⟩ := by
  obtain ⟨e0, e1⟩ := index1 t
  have ef : (X0_1 m c t : Vec Ideal S32x512 .f32) (ix2 p l) = _ := dif_pos (moved0_1 t (ix2 p l))
  rw [ef]
  refine (congrArg (V m c main_arg0 : Vec Ideal S32x10880 .f32) (funext fun a => Fin.ext ?_)).trans (congrFun (V_main_arg0 m c) _)
  match a with
  | ⟨0, _⟩ => show win0_1.index t (0 : Fin 2) * 32 + 1 * p.val = p.val; omega
  | ⟨1, _⟩ => show win0_1.index t (1 : Fin 2) * 512 + 1 * l.val = 9216 + l.val; omega

theorem v_apply (l : Fin 512) : (X0_2 m c t : Vec Ideal S32x512 .f32) (ix2 p l) = zRow m c p ⟨9728 + l.val, by omega⟩ := by
  obtain ⟨e0, e1⟩ := index2 t
  have ef : (X0_2 m c t : Vec Ideal S32x512 .f32) (ix2 p l) = _ := dif_pos (moved0_2 t (ix2 p l))
  rw [ef]
  refine (congrArg (V m c main_arg0 : Vec Ideal S32x10880 .f32) (funext fun a => Fin.ext ?_)).trans (congrFun (V_main_arg0 m c) _)
  match a with
  | ⟨0, _⟩ => show win0_2.index t (0 : Fin 2) * 32 + 1 * p.val = p.val; omega
  | ⟨1, _⟩ => show win0_2.index t (1 : Fin 2) * 512 + 1 * l.val = 9728 + l.val; omega

theorem i_apply (l : Fin 128) : (iblk m c 4 t : Vec Ideal S32x128 .f32) (ix2 p l) = zRow m c p ⟨10752 + l.val, by omega⟩ := by
  obtain ⟨e0, e1⟩ := index4 t
  refine (congrArg (V m c main_arg0 : Vec Ideal S32x10880 .f32) (funext fun a => Fin.ext ?_)).trans (congrFun (V_main_arg0 m c) _)
  match a with
  | ⟨0, _⟩ => show win0_4.index t (0 : Fin 2) * 32 + 1 * p.val = p.val; omega
  | ⟨1, _⟩ => show win0_4.index t (1 : Fin 2) * 128 + 1 * l.val = 10752 + l.val; omega

variable (d : Fin 128)

set_option maxHeartbeats 2000000 in
theorem keyCos : (iblk m c 5 t : Vec Ideal S32x128 .f32) (ix2 p d) = if d.val < 2 * 16 then Ideal.cos (ropeAngle 0x41800000#32 lastPos (d.val % 16)) else 1 := by
  obtain ⟨e0, e1⟩ := index5 t
  refine (congrArg (V m c main_v20 : Vec Ideal S32x128 .f32) (funext fun a => Fin.ext ?_)).trans (V_keyCos m c p d)
  match a with
  | ⟨0, _⟩ => show win0_5.index t (0 : Fin 2) * 32 + 1 * p.val = p.val; omega
  | ⟨1, _⟩ => show win0_5.index t (1 : Fin 2) * 128 + 1 * d.val = d.val; omega

set_option maxHeartbeats 2000000 in
theorem keyLo : (iblk m c 6 t : Vec Ideal S32x128 .f32) (ix2 p d) = if d.val < 16 then -Ideal.sin (ropeAngle 0x41800000#32 lastPos (d.val % 16)) else 0 := by
  obtain ⟨e0, e1⟩ := index6 t
  refine (congrArg (V m c main_v28 : Vec Ideal S32x128 .f32) (funext fun a => Fin.ext ?_)).trans (V_keyLo m c p d)
  match a with
  | ⟨0, _⟩ => show win0_6.index t (0 : Fin 2) * 32 + 1 * p.val = p.val; omega
  | ⟨1, _⟩ => show win0_6.index t (1 : Fin 2) * 128 + 1 * d.val = d.val; omega

set_option maxHeartbeats 2000000 in
theorem keyHi : (iblk m c 7 t : Vec Ideal S32x128 .f32) (ix2 p d) = if 16 ≤ d.val ∧ d.val < 2 * 16 then Ideal.sin (ropeAngle 0x41800000#32 lastPos (d.val % 16)) else 0 := by
  obtain ⟨e0, e1⟩ := index7 t
  refine (congrArg (V m c main_v29 : Vec Ideal S32x128 .f32) (funext fun a => Fin.ext ?_)).trans (V_keyHi m c p d)
  match a with
  | ⟨0, _⟩ => show win0_7.index t (0 : Fin 2) * 32 + 1 * p.val = p.val; omega
  | ⟨1, _⟩ => show win0_7.index t (1 : Fin 2) * 128 + 1 * d.val = d.val; omega

set_option maxHeartbeats 2000000 in
theorem indexCos (hd : d.val < 64) : (iblk m c 8 t : Vec Ideal S32x128 .f32) (ix2 p d) = if d.val < 2 * 8 then Ideal.cos (ropeAngle 0x41000000#32 lastPos (d.val % 8)) else 1 := by
  obtain ⟨e0, e1⟩ := index8 t
  refine (congrArg (V m c main_v49 : Vec Ideal S32x128 .f32) (funext fun a => Fin.ext ?_)).trans (V_indexCos m c p d hd)
  match a with
  | ⟨0, _⟩ => show win0_8.index t (0 : Fin 2) * 32 + 1 * p.val = p.val; omega
  | ⟨1, _⟩ => show win0_8.index t (1 : Fin 2) * 128 + 1 * d.val = d.val; omega

set_option maxHeartbeats 2000000 in
theorem indexLo (hd : d.val < 64) : (iblk m c 9 t : Vec Ideal S32x128 .f32) (ix2 p d) = if d.val < 8 then -Ideal.sin (ropeAngle 0x41000000#32 lastPos (d.val % 8)) else 0 := by
  obtain ⟨e0, e1⟩ := index9 t
  refine (congrArg (V m c main_v57 : Vec Ideal S32x128 .f32) (funext fun a => Fin.ext ?_)).trans (V_indexLo m c p d hd)
  match a with
  | ⟨0, _⟩ => show win0_9.index t (0 : Fin 2) * 32 + 1 * p.val = p.val; omega
  | ⟨1, _⟩ => show win0_9.index t (1 : Fin 2) * 128 + 1 * d.val = d.val; omega

set_option maxHeartbeats 2000000 in
theorem indexHi (hd : d.val < 64) : (iblk m c 10 t : Vec Ideal S32x128 .f32) (ix2 p d) = if 8 ≤ d.val ∧ d.val < 2 * 8 then Ideal.sin (ropeAngle 0x41000000#32 lastPos (d.val % 8)) else 0 := by
  obtain ⟨e0, e1⟩ := index10 t
  refine (congrArg (V m c main_v58 : Vec Ideal S32x128 .f32) (funext fun a => Fin.ext ?_)).trans (V_indexHi m c p d hd)
  match a with
  | ⟨0, _⟩ => show win0_10.index t (0 : Fin 2) * 32 + 1 * p.val = p.val; omega
  | ⟨1, _⟩ => show win0_10.index t (1 : Fin 2) * 128 + 1 * d.val = d.val; omega

set_option maxHeartbeats 2000000 in
theorem keyGain : (iblk m c 12 t : Vec Ideal S1x128 .f32) (ix2 0 d) = kArg m c (ix1 d) := by
  obtain ⟨e0, e1⟩ := index12 t
  refine (congrArg (V m c main_v60 : Vec Ideal S1x128 .f32) (funext fun a => Fin.ext ?_)).trans (V_keyGain m c d)
  match a with
  | ⟨0, _⟩ => show win0_12.index t (0 : Fin 2) * 1 + 1 * 0 = 0; omega
  | ⟨1, _⟩ => show win0_12.index t (1 : Fin 2) * 128 + 1 * d.val = d.val; omega

set_option maxHeartbeats 2000000 in
theorem indexGain (f : Fin 64) : (iblk m c 13 t : Vec Ideal S1x128 .f32) (ix2 0 ⟨f.val, f.isLt.trans (by decide)⟩) = iArg m c (ix1 f) := by
  obtain ⟨e0, e1⟩ := index13 t
  refine (congrArg (V m c main_v63 : Vec Ideal S1x128 .f32) (funext fun a => Fin.ext ?_)).trans (V_indexGain m c f)
  match a with
  | ⟨0, _⟩ => show win0_13.index t (0 : Fin 2) * 1 + 1 * 0 = 0; omega
  | ⟨1, _⟩ => show win0_13.index t (1 : Fin 2) * 128 + 1 * f.val = f.val; omega

/-! What the point stores. -/

/-- A row of a head's keys, normalised. -/
theorem unitRow_apply (h : Fin 4) :
    unitRow (headCols (X0_1 m c t) h) (iblk m c 12 t) p d
      = headNorm 128 (Ideal.ofBits .f32 0x43000000#32) (fun d => lanesOf (zRow m c p) (9216 + 128 * h.val + d)) (lanesOf fun d => kArg m c (ix1 d)) d.val := by
  have hx : ∀ j : Fin 128, headCols (X0_1 m c t) h (ix2 p j) = lanesOf (zRow m c p) (9216 + 128 * h.val + j.val) := fun j => by
    rw [lanesOf_lt _ (show 9216 + 128 * h.val + j.val < 10880 by omega)]
    refine (k_apply m c t p ⟨128 * h.val + j.val, by omega⟩).trans (congrArg (zRow m c p) (Fin.ext ?_))
    show 9216 + (128 * h.val + j.val) = 9216 + 128 * h.val + j.val
    omega
  unfold unitRow headNorm
  rw [keyGain, lanesOf_lt _ d.isLt]
  simp only [hx]

/-- The point's block of the keys. -/
theorem keyBlock_apply (y : S32x512.Idx) :
    keyBlock (iblk m c 5 t) (iblk m c 6 t) (iblk m c 7 t) (iblk m c 12 t) (X0_1 m c t) y = kernelKeys m c y := by
  obtain ⟨p, l, rfl⟩ : ∃ (p : Fin 32) (l : Fin 512), y = ix2 p l := ⟨y 0, y 1, eq_ix2 y⟩
  show head _ _ _ _ (headCols (X0_1 m c t) ⟨l.val / 128, by omega⟩) (ix2 p ⟨l.val % 128, by omega⟩)
    = keyRow lastPos (zRow m c p) (fun d => kArg m c (ix1 d)) l.val
  rw [head_apply]
  exact laneRot_eq 16 (by decide) (ropeAngle 0x41800000#32 lastPos) _ (fun d => unitRow_apply m c t p d ⟨l.val / 128, by omega⟩) ⟨l.val % 128, by omega⟩
    (keyCos m c t p _) (keyLo m c t p _) (keyHi m c t p _)

/-- A row of the indexer's keys, normalised. -/
theorem unitOf_apply :
    unitOf (k0_pay40 (F := Ideal) (iblk m c 4 t)) (iblk m c 13 t) p d
      = headNorm 64 (Ideal.ofBits .f32 0x42800000#32) (fun d => lanesOf (zRow m c p) (10752 + d)) (lanesOf fun d => iArg m c (ix1 d)) d.val := by
  have hx : ∀ j : Fin 128, (iblk m c 4 t : Vec Ideal S32x128 .f32) (ix2 p j) = lanesOf (zRow m c p) (10752 + j.val) := fun j => by
    rw [lanesOf_lt _ (show 10752 + j.val < 10880 by omega)]
    exact i_apply m c t p j
  unfold unitOf headNorm
  simp only [cleared_apply]
  rw [sum_cleared, mul_sixtyFourth]
  simp only [hx]
  by_cases h : d.val < 64
  · rw [if_pos h, lanesOf_lt _ h]
    exact congrArg _ (indexGain m c t ⟨d.val, h⟩)
  · have hz : lanesOf (fun d : Fin 64 => iArg m c (ix1 d)) d.val = 0 := dif_neg h
    rw [if_neg h, hz, zero_mul, zero_mul, mul_zero]

/-- The point's block of the indexer's keys. -/
theorem indexKeys_row (y : S32x64.Idx) :
    indexKeys (iblk m c 8 t) (iblk m c 9 t) (iblk m c 10 t) (iblk m c 13 t) (iblk m c 4 t) y = kernelIndex m c y := by
  obtain ⟨p, l, rfl⟩ : ∃ (p : Fin 32) (l : Fin 64), y = ix2 p l := ⟨y 0, y 1, eq_ix2 y⟩
  rw [indexKeys_apply]
  exact laneRot_eq 8 (by decide) (ropeAngle 0x41000000#32 lastPos) _ (fun d => unitOf_apply m c t p d) ⟨l.val, by omega⟩
    (indexCos m c t p _ l.isLt) (indexLo m c t p _ l.isLt) (indexHi m c t p _ l.isLt)

/-- The point's block of the values. -/
theorem values_row (y : S32x512.Idx) : (X0_2 m c t : Vec Ideal S32x512 .f32) y = kernelValues m c y := by
  obtain ⟨p, l, rfl⟩ : ∃ (p : Fin 32) (l : Fin 512), y = ix2 p l := ⟨y 0, y 1, eq_ix2 y⟩
  exact (v_apply m c t p l).trans (lanesOf_lt (zRow m c p) (show 9728 + l.val < 10880 by omega)).symm

/-! The results. -/

theorem flushed_keys : (dats m 0 c).flushed 15 t = ((cfg0.win 15).blk t).view.read (Elt Ideal) (kernelKeys m c) := by
  rw [flushed15, keys_eq]
  funext y
  show keyBlock _ _ _ _ _ ((cfg0.win 15).xinj (grid0.coords t) y) = kernelKeys m c (((cfg0.win 15).blk t).view.emb y)
  rw [keyBlock_apply]
  obtain ⟨e0, e1⟩ := index15 t
  refine congrArg (kernelKeys m c) (funext fun a => Fin.ext ?_)
  match a with
  | ⟨0, _⟩ => show (y 0).val = win0_15.index t (0 : Fin 2) * 32 + 1 * (y 0).val; omega
  | ⟨1, _⟩ => show (y 1).val = win0_15.index t (1 : Fin 2) * 512 + 1 * (y 1).val; omega

theorem flushed_values : (dats m 0 c).flushed 17 t = ((cfg0.win 17).blk t).view.read (Elt Ideal) (kernelValues m c) := by
  rw [flushed17, values_eq]
  funext y
  show (X0_2 m c t : Vec Ideal S32x512 .f32) ((cfg0.win 17).xinj (grid0.coords t) y) = kernelValues m c (((cfg0.win 17).blk t).view.emb y)
  rw [values_row]
  obtain ⟨e0, e1⟩ := index17 t
  refine congrArg (kernelValues m c) (funext fun a => Fin.ext ?_)
  match a with
  | ⟨0, _⟩ => show (y 0).val = win0_17.index t (0 : Fin 2) * 32 + 1 * (y 0).val; omega
  | ⟨1, _⟩ => show (y 1).val = win0_17.index t (1 : Fin 2) * 512 + 1 * (y 1).val; omega

theorem flushed_index : (dats m 0 c).flushed 20 t = ((cfg0.win 20).blk t).view.read (Elt Ideal) (kernelIndex m c) := by
  rw [flushed20, index_eq]
  funext y
  show indexKeys _ _ _ _ _ ((cfg0.win 20).xinj (grid0.coords t) y) = kernelIndex m c (((cfg0.win 20).blk t).view.emb y)
  rw [indexKeys_row]
  obtain ⟨e0, e1⟩ := index20 t
  refine congrArg (kernelIndex m c) (funext fun a => Fin.ext ?_)
  match a with
  | ⟨0, _⟩ => show (y 0).val = win0_20.index t (0 : Fin 2) * 32 + 1 * (y 0).val; omega
  | ⟨1, _⟩ => show (y 1).val = win0_20.index t (1 : Fin 2) * 64 + 1 * (y 1).val; omega

/-- The grid's one point. -/
def point : Fin cfg0.N := ⟨0, lt_of_lt_of_eq Nat.one_pos N_0.symm⟩

theorem cover_keys (i : S32x512.Idx) : ∃ t : Fin cfg0.N, (cfg0.win 15).flush t = true ∧ i ∈ ((cfg0.win 15).blk t).view.set := by
  have h0 : (i 0).val < 32 := (i 0).isLt
  have h1 : (i 1).val < 512 := (i 1).isLt
  refine ⟨point, flush0_15 point, ?_⟩
  obtain ⟨e0, e1⟩ := index15 point
  show i ∈ ((View.whole main_v64_1).slice (win0_15.rect point)).set
  rw [View.set_slice_whole, Rect.mem_set_unit]
  intro a
  match a with
  | ⟨0, _⟩ => show win0_15.index point (0 : Fin 2) * 32 ≤ (i 0).val ∧ (i 0).val < win0_15.index point (0 : Fin 2) * 32 + 32; omega
  | ⟨1, _⟩ => show win0_15.index point (1 : Fin 2) * 512 ≤ (i 1).val ∧ (i 1).val < win0_15.index point (1 : Fin 2) * 512 + 512; omega

theorem cover_values (i : S32x512.Idx) : ∃ t : Fin cfg0.N, (cfg0.win 17).flush t = true ∧ i ∈ ((cfg0.win 17).blk t).view.set := by
  have h0 : (i 0).val < 32 := (i 0).isLt
  have h1 : (i 1).val < 512 := (i 1).isLt
  refine ⟨point, flush0_17 point, ?_⟩
  obtain ⟨e0, e1⟩ := index17 point
  show i ∈ ((View.whole main_v64_3).slice (win0_17.rect point)).set
  rw [View.set_slice_whole, Rect.mem_set_unit]
  intro a
  match a with
  | ⟨0, _⟩ => show win0_17.index point (0 : Fin 2) * 32 ≤ (i 0).val ∧ (i 0).val < win0_17.index point (0 : Fin 2) * 32 + 32; omega
  | ⟨1, _⟩ => show win0_17.index point (1 : Fin 2) * 512 ≤ (i 1).val ∧ (i 1).val < win0_17.index point (1 : Fin 2) * 512 + 512; omega

theorem cover_index (i : S32x64.Idx) : ∃ t : Fin cfg0.N, (cfg0.win 20).flush t = true ∧ i ∈ ((cfg0.win 20).blk t).view.set := by
  have h0 : (i 0).val < 32 := (i 0).isLt
  have h1 : (i 1).val < 64 := (i 1).isLt
  refine ⟨point, flush0_20 point, ?_⟩
  obtain ⟨e0, e1⟩ := index20 point
  show i ∈ ((View.whole main_v64_6).slice (win0_20.rect point)).set
  rw [View.set_slice_whole, Rect.mem_set_unit]
  intro a
  match a with
  | ⟨0, _⟩ => show win0_20.index point (0 : Fin 2) * 32 ≤ (i 0).val ∧ (i 0).val < win0_20.index point (0 : Fin 2) * 32 + 32; omega
  | ⟨1, _⟩ => show win0_20.index point (1 : Fin 2) * 64 ≤ (i 1).val ∧ (i 1).val < win0_20.index point (1 : Fin 2) * 64 + 64; omega

/-- The kernel's keys. -/
theorem arr_keys : (dats m 0 c).arrAt 15 cfg0.N = kernelKeys m c :=
  (dats m 0 c).arrAt_eq_of_cover 15 _ (fun t _ => flushed_keys m c t) cover_keys

/-- The kernel's values. -/
theorem arr_values : (dats m 0 c).arrAt 17 cfg0.N = kernelValues m c :=
  (dats m 0 c).arrAt_eq_of_cover 17 _ (fun t _ => flushed_values m c t) cover_values

/-- The kernel's indexer keys. -/
theorem arr_index : (dats m 0 c).arrAt 20 cfg0.N = kernelIndex m c :=
  (dats m 0 c).arrAt_eq_of_cover 20 _ (fun t _ => flushed_index m c t) cover_index

end Cert.Layer.PrepSample

end
-- ==== Proof.PrepSample.Ref.lean ====
/-
  The results of the reference of the attention's arrays of the sample, read at an index.
-/
module

public import proofs.«01_k».proof.Proof.Rotary
public import proofs.«01_k».proof.Proof.Gen.PrepSampleRefIdeal.Read
public import Idealize.ShloMosaic.Lib.Pointwise

@[expose] public section

noncomputable section

namespace Cert.Layer.PrepSampleRef

open Idealize.ShloMosaic Idealize.ShloMosaic.TcCoe
open Cert.PrepSampleRefIdeal Cert.PrepSampleRefIdeal.Gen Cert.PrepSampleRefIdeal.Read
open scoped BigOperators

variable (z : Vec Ideal S32x10880 .f32) (g : Vec Ideal S128 .f32) (w : Vec Ideal S64 .f32)

/-- The position is 16384. -/
theorem position_apply : val_main_v3 (F := Ideal) (ix1 0) = 16384#32 := rfl

theorem keyAngle (f : Fin 16) : val_main_v30 (F := Ideal) (ix2 0 f) = ropeAngle 0x41800000#32 lastPos f.val := by
  have e := position_apply
  unfold val_main_v30 val_main_v29 val_main_v27 val_main_v26
  generalize val_main_v3 (F := Ideal) = p at e ⊢
  unfold ropeAngle lastPos
  pointwise [val_main_v28, val_main_v25, val_main_v24, val_main_cst_4, val_main_v23, val_main_v22, val_main_cst_3, val_main_v21, val_main_v20, val_main_cst_2, val_main_v19]
  rw [e]
  rfl

theorem indexAngle (f : Fin 8) : val_main_v80 (F := Ideal) (ix2 0 f) = ropeAngle 0x41000000#32 lastPos f.val := by
  have e := position_apply
  unfold val_main_v80 val_main_v79 val_main_v77 val_main_v76
  generalize val_main_v3 (F := Ideal) = p at e ⊢
  unfold ropeAngle lastPos
  pointwise [val_main_v78, val_main_v75, val_main_v74, val_main_cst_10, val_main_v73, val_main_v72, val_main_cst_9, val_main_v71, val_main_v70, val_main_cst_8, val_main_v69]
  rw [e]
  rfl

theorem kRaw (b : Fin 32) (h : Fin 4) (d : Fin 128) :
    val_main_v5 (F := Ideal) z (ix4 b 0 h d) = lanesOf (fun n => z (ix2 b n)) (9216 + 128 * h.val + d.val) := by
  rw [lanesOf_lt _ (show 9216 + 128 * h.val + d.val < 10880 by omega)]
  pointwise [val_main_v5, val_main_v4, val_main_v0]
  refine congrArg z (congrArg₂ ix2 (Fin.ext ?_) (Fin.ext ?_)) <;> dsimp only <;> omega

theorem iRaw (b : Fin 32) (d : Fin 64) : val_main_v54 (F := Ideal) z (ix3 b 0 d) = lanesOf (fun n => z (ix2 b n)) (10752 + d.val) := by
  rw [lanesOf_lt _ (show 10752 + d.val < 10880 by omega)]
  pointwise [val_main_v54, val_main_v0]

/-- The keys, normalised. -/
theorem keyUnit (b : Fin 32) (h : Fin 4) (d : Fin 128) :
    val_main_v18 (F := Ideal) z g (ix4 b 0 h d)
      = headNorm 128 (Ideal.ofBits .f32 0x43000000#32) (fun d => lanesOf (fun n => z (ix2 b n)) (9216 + 128 * h.val + d)) (lanesOf fun d => g (ix1 d)) d.val := by
  have e := kRaw z b h
  unfold headNorm
  rw [lanesOf_lt (fun d => g (ix1 d)) d.isLt]
  unfold val_main_v18 val_main_v15 val_main_v14 val_main_v13 val_main_v12 val_main_v10 val_main_v8 val_main_v7 val_main_v6
  generalize val_main_v5 (F := Ideal) z = x at e ⊢
  pointwise [val_main_v17, val_main_v16, val_main_v11, val_main_cst_1, val_main_v9, val_main_cst_0, val_main_cst]
  simp only [e]

/-- The indexer's keys, normalised. -/
theorem indexUnit (b : Fin 32) (d : Fin 64) :
    val_main_v68 (F := Ideal) z w (ix4 b 0 0 d)
      = headNorm 64 (Ideal.ofBits .f32 0x42800000#32) (fun d => lanesOf (fun n => z (ix2 b n)) (10752 + d)) (lanesOf fun d => w (ix1 d)) d.val := by
  have e := iRaw z b
  unfold headNorm
  rw [lanesOf_lt (fun d => w (ix1 d)) d.isLt]
  unfold val_main_v68 val_main_v67 val_main_v64 val_main_v63 val_main_v62 val_main_v61 val_main_v59 val_main_v57 val_main_v56 val_main_v55
  generalize val_main_v54 (F := Ideal) z = x at e ⊢
  pointwise [val_main_v66, val_main_v65, val_main_v60, val_main_cst_7, val_main_v58, val_main_cst_6, val_main_cst_5]
  simp only [e]

/-- The keys, rotated. -/
theorem keyRot (b : Fin 32) (h : Fin 4) (d : Fin 128) :
    val_main_v52 (F := Ideal) z g (ix4 b 0 h d)
      = rotary 16 (ropeAngle 0x41800000#32 lastPos)
        (headNorm 128 (Ideal.ofBits .f32 0x43000000#32) (fun d => lanesOf (fun n => z (ix2 b n)) (9216 + 128 * h.val + d)) (lanesOf fun d => g (ix1 d))) d.val := by
  have e := keyUnit z g b h
  have a := keyAngle
  unfold rotary
  generalize headNorm 128 (Ideal.ofBits .f32 0x43000000#32) (fun d => lanesOf (fun n => z (ix2 b n)) (9216 + 128 * h.val + d)) (lanesOf fun d => g (ix1 d)) = Y at e ⊢
  generalize ropeAngle 0x41800000#32 lastPos = A at a ⊢
  unfold val_main_v52 val_main_v51 val_main_v50 val_main_v49 val_main_v46 val_main_v43 val_main_v42 val_main_v39 val_main_v36 val_main_v35
  generalize val_main_v18 (F := Ideal) z g = x at e ⊢
  unfold val_main_v48 val_main_v47 val_main_v45 val_main_v44 val_main_v41 val_main_v40 val_main_v38 val_main_v37 val_main_v34 val_main_v33 val_main_v32 val_main_v31
  generalize val_main_v30 (F := Ideal) = y at a ⊢
  pointwise []
  simp only [e, a]
  by_cases h₁ : d.val < 16
  · rw [dif_pos h₁, if_pos h₁]
  · rw [dif_neg h₁, if_neg h₁]
    by_cases h₂ : d.val < 32
    · rw [dif_pos (show d.val - 16 < 16 by omega), if_pos h₂, show 16 + (d.val - 16) = d.val by omega]
    · rw [dif_neg (show ¬ d.val - 16 < 16 by omega), if_neg h₂, show 32 + (d.val - 16 - 16) = d.val by omega]

/-- The indexer's keys, rotated. -/
theorem indexRot (b : Fin 32) (d : Fin 64) :
    val_main_v102 (F := Ideal) z w (ix4 b 0 0 d)
      = rotary 8 (ropeAngle 0x41000000#32 lastPos)
        (headNorm 64 (Ideal.ofBits .f32 0x42800000#32) (fun d => lanesOf (fun n => z (ix2 b n)) (10752 + d)) (lanesOf fun d => w (ix1 d))) d.val := by
  have e := indexUnit z w b
  have a := indexAngle
  unfold rotary
  generalize headNorm 64 (Ideal.ofBits .f32 0x42800000#32) (fun d => lanesOf (fun n => z (ix2 b n)) (10752 + d)) (lanesOf fun d => w (ix1 d)) = Y at e ⊢
  generalize ropeAngle 0x41000000#32 lastPos = A at a ⊢
  unfold val_main_v102 val_main_v101 val_main_v100 val_main_v99 val_main_v96 val_main_v93 val_main_v92 val_main_v89 val_main_v86 val_main_v85
  generalize val_main_v68 (F := Ideal) z w = x at e ⊢
  unfold val_main_v98 val_main_v97 val_main_v95 val_main_v94 val_main_v91 val_main_v90 val_main_v88 val_main_v87 val_main_v84 val_main_v83 val_main_v82 val_main_v81
  generalize val_main_v80 (F := Ideal) = y at a ⊢
  pointwise []
  simp only [e, a]
  by_cases h₁ : d.val < 8
  · rw [dif_pos h₁, if_pos h₁]
  · rw [dif_neg h₁, if_neg h₁]
    by_cases h₂ : d.val < 16
    · rw [dif_pos (show d.val - 8 < 8 by omega), if_pos h₂, show 8 + (d.val - 8) = d.val by omega]
    · rw [dif_neg (show ¬ d.val - 8 < 8 by omega), if_neg h₂, show 16 + (d.val - 8 - 8) = d.val by omega]

/-- The reference's keys. -/
theorem keys_eq : val_main_v104 (F := Ideal) z g = fun i => keyRow lastPos (fun n => z (ix2 (i 0) n)) (fun d => g (ix1 d)) (i 1).val := by
  funext i
  obtain ⟨b, l, rfl⟩ : ∃ (b : Fin 32) (l : Fin 512), i = ix2 b l := ⟨i 0, i 1, eq_ix2 i⟩
  refine Eq.trans ?_ (keyRot z g b ⟨l.val / 128, by omega⟩ ⟨l.val % 128, by omega⟩)
  unfold val_main_v104
  generalize val_main_v52 (F := Ideal) z g = y
  pointwise []

/-- The reference's values. -/
theorem values_eq : val_main_v105 (F := Ideal) z = fun i => valueRow (fun n => z (ix2 (i 0) n)) (i 1).val := by
  funext i
  obtain ⟨b, l, rfl⟩ : ∃ (b : Fin 32) (l : Fin 512), i = ix2 b l := ⟨i 0, i 1, eq_ix2 i⟩
  refine Eq.trans ?_ (lanesOf_lt (fun n => z (ix2 b n)) (show 9728 + l.val < 10880 by omega)).symm
  pointwise [val_main_v105, val_main_v53, val_main_v0]

/-- The reference's indexer keys. -/
theorem index_eq : val_main_v106 (F := Ideal) z w = fun i => indexRow lastPos (fun n => z (ix2 (i 0) n)) (fun d => w (ix1 d)) (i 1).val := by
  funext i
  obtain ⟨b, l, rfl⟩ : ∃ (b : Fin 32) (l : Fin 64), i = ix2 b l := ⟨i 0, i 1, eq_ix2 i⟩
  refine Eq.trans ?_ (indexRot z w b l)
  unfold val_main_v106 val_main_v103
  generalize val_main_v102 (F := Ideal) z w = y
  pointwise []

end Cert.Layer.PrepSampleRef

end
-- ==== Proof.PrepSample.Claims.lean ====
/-
  The claims of the attention's arrays of the sample.
-/
module

public import proofs.«01_k».proof.Defs
public import proofs.«01_k».proof.Proof.PrepSample.Fold
public import proofs.«01_k».proof.Proof.PrepSample.Ref
public import proofs.«01_k».proof.Proof.PrepSample.KernelFrame
public import proofs.«01_k».proof.Proof.Gen.PrepSample
public import proofs.«01_k».proof.Proof.Gen.PrepSampleIdeal
public import proofs.«01_k».proof.Proof.Gen.PrepSampleRefIdeal

@[expose] public section

noncomputable section

namespace Cert.Layer.PrepSample

open Idealize.ShloMosaic Idealize.ShloMosaic.TcCoe
open Idealize.SL.Sem

theorem frame_kernel : Cert.quiescent_PrepSample := fun m ρ _ => Cert.Layer.PrepSample.Kernel.frame m ρ

theorem frame_ideal : Cert.quiescent_PrepSampleIdeal := fun m ρ _ => Cert.Layer.PrepSample.Ideal.frame m ρ

theorem frame_reference : Cert.quiescent_PrepSampleRefIdeal := fun m ρ _ =>
  (θ_run Cert.PrepSampleRefIdeal.defs _ _).mono (fun r h => ⟨fun c => (h c).2.2.2,
      Idealize.ShloMosaic.sem_eq_zero_of_no_sems (by decide) r.2⟩)
    (Cert.PrepSampleRefIdeal.Value.run (F := Ideal) m ρ)

section
open Cert.PrepSampleIdeal Cert.PrepSampleIdeal.Gen Cert.Layer.PrepSample.Ideal

variable (m : (ℓ : Loc nD τ sig) → Buf (Elt Ideal) ℓ) (ρ : Dev nD → PrngReg)

/-- Every run of the kernel ends with the three results at the functions of the arguments, and with the arguments unchanged. -/
theorem run_kernel : θ_run defs (onTc (τ := τ) (main (F := Ideal))) ⟨m, fun _ => 0, ρ⟩ fun r => ∀ c : Dev nD,
      r.2.mem ((c : Thread nD τ).loc main_v64_1) = kernelKeys m c
      ∧ r.2.mem ((c : Thread nD τ).loc main_v64_3) = kernelValues m c
      ∧ r.2.mem ((c : Thread nD τ).loc main_v64_6) = kernelIndex m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨((h c).1 15).trans (arr_keys m c),
      ((h c).1 17).trans (arr_values m c),
      ((h c).1 20).trans (arr_index m c),
      ((h c).1 4).trans (((dats m 0 c).arrAt_in 4 rfl _).trans ((A_eq m c 4).trans (V_main_arg0 m c))),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c)⟩)
    (run_main m ρ)

end

/-- The kernel's results and the reference's are the same functions of the same arguments. -/
theorem algebraic : Cert.algebraic_PrepSampleIdeal_PrepSampleRefIdeal := by
  intro m ρ m' ρ' _ hagree
  refine ⟨fun c => kernelKeys m c, fun c => kernelValues m c, fun c => kernelIndex m c,
    (θ_run _ _ _).mono (fun _ h c => h c) (run_kernel m ρ), ?_⟩
  refine (θ_run _ _ _).mono (fun _ h c => ⟨(h c).1.trans ?_, (h c).2.1.trans ?_, (h c).2.2.1.trans ?_, (h c).2.2.2⟩) (Cert.PrepSampleRefIdeal.Value.run (F := Ideal) m' ρ')
  all_goals obtain ⟨h0, h1, h2, h3⟩ := hagree c
  · rw [Cert.PrepSampleRefIdeal.Read.val_main_v104_eq, h0, h2]
    exact PrepSampleRef.keys_eq _ _
  · rw [Cert.PrepSampleRefIdeal.Read.val_main_v105_eq, h0]
    exact PrepSampleRef.values_eq _
  · rw [Cert.PrepSampleRefIdeal.Read.val_main_v106_eq, h0, h3]
    exact PrepSampleRef.index_eq _ _

end Cert.Layer.PrepSample

end
-- ==== Proof.ConvSample.Point.lean ====
/-
  The convolution on the sample: what a grid point leaves in its blocks of the two results.
-/
module

public import proofs.«01_k».proof.Proof.Layer
public import proofs.«01_k».proof.Proof.Gen.ConvSampleIdeal.Frame
public import Idealize.ShloMosaic.Lib.Pipeline.ReadBack
public import Idealize.ShloMosaic.Lib.Pointwise

@[expose] public section

noncomputable section

namespace Cert.Layer.ConvSample

open Idealize.ShloMosaic Idealize.ShloMosaic.TcCoe
open Cert.ConvSampleIdeal Cert.ConvSampleIdeal.Gen
open scoped BigOperators

/-- The positions a sequence's convolution sees: the thirty the state keeps, then the new one. -/
def window (past : Fin 30 → Fin 1024 → EReal) (u : Fin 1024 → EReal) (t : Fin 31) (j : Fin 1024) : EReal :=
  if h : t.val < 30 then past ⟨t.val, h⟩ j else u j

/-- One channel of the convolution of a window. -/
def conv (win : Fin 31 → Fin 1024 → EReal) (w : Fin 31 → Fin 1024 → EReal) (b : Fin 1024 → EReal) (j : Fin 1024) : EReal :=
  (∑ t, win t j * w t j) + b j

/-- One channel normalised by the root mean square of all, scaled. -/
def scaled (y g : Fin 1024 → EReal) (j : Fin 1024) : EReal :=
  y j * Ideal.rsqrt (Ideal.div (∑ k, y k * y k) (Ideal.ofBits .f32 0x44800000#32) + Ideal.ofBits .f32 0x358637BD#32) * g j

/-- The silu of a channel. -/
def activated (y g : Fin 1024 → EReal) (j : Fin 1024) : EReal := scaled y g j * Ideal.logistic (scaled y g j)

/-- The gated input of a channel. -/
def gated (u v : Fin 1024 → EReal) (j : Fin 1024) : EReal := u j * Ideal.logistic (v j)

/-- A window's sum, the new position apart. -/
theorem conv_split (past : Fin 30 → Fin 1024 → EReal) (u : Fin 1024 → EReal) (w : Fin 31 → Fin 1024 → EReal) (b : Fin 1024 → EReal) (j : Fin 1024) :
    conv (window past u) w b j = (∑ t : Fin 30, w ⟨t.val, by omega⟩ j * past t j) + w 30 j * u j + b j := by
  unfold conv
  rw [Fin.sum_univ_castSucc]
  refine congrArg (· + b j) (congrArg₂ (· + ·) (Finset.sum_congr rfl fun t _ => ?_) ?_)
  · show window past u ⟨t.val, _⟩ j * w ⟨t.val, _⟩ j = _
    unfold window
    rw [dif_pos t.isLt, mul_comm]
  · show window past u ⟨30, _⟩ j * w ⟨30, _⟩ j = w 30 j * u j
    unfold window
    rw [dif_neg (show ¬ (30 < 30) from lt_irrefl 30), mul_comm]
    rfl

theorem ld_u (x : Vec Ideal S1x1x1024 .f32) {inb} : View.ld x (Rect.unit ![0, 0, 0] ![1, 1, 1024] inb) = x :=
  View.ld_unit_zero (S := S1x1x1024) (by funext a; match a with | ⟨0, _⟩ => rfl | ⟨1, _⟩ => rfl | ⟨2, _⟩ => rfl) inb x

theorem ld_past (x : Vec Ideal S1x1x30x1024 .f32) {inb} : View.ld x (Rect.unit ![0, 0, 0, 0] ![1, 1, 30, 1024] inb) = x :=
  View.ld_unit_zero (S := S1x1x30x1024) (by funext a; match a with | ⟨0, _⟩ => rfl | ⟨1, _⟩ => rfl | ⟨2, _⟩ => rfl | ⟨3, _⟩ => rfl) inb x

/-- The weights of the thirty kept positions. -/
def oldTaps (x : Vec Ideal S1x31x1024 .f32) : Vec Ideal S1x30x1024 .f32 := View.ld x (Rect.unit ![0, 0, 0] ![1, 30, 1024] inb_S1x31x1024_S1x30x1024_0_0_0)

/-- The weights of the new position. -/
def newTap (x : Vec Ideal S1x31x1024 .f32) : Vec Ideal S1x1x1024 .f32 := View.ld x (Rect.unit ![0, 30, 0] ![1, 1, 1024] inb_S1x31x1024_S1x1x1024_0_30_0)

theorem oldTaps_apply (x : Vec Ideal S1x31x1024 .f32) (t : Fin 30) (j : Fin 1024) : oldTaps x (ix3 0 t j) = x (ix3 0 ⟨t.val, by omega⟩ j) := by
  refine congrArg x (funext fun a => Fin.ext ?_)
  match a with
  | ⟨0, _⟩ => rfl
  | ⟨1, _⟩ => show 0 + 1 * t.val = t.val; omega
  | ⟨2, _⟩ => show 0 + 1 * j.val = j.val; omega

theorem newTap_apply (x : Vec Ideal S1x31x1024 .f32) (j : Fin 1024) : newTap x (ix3 0 0 j) = x (ix3 0 30 j) := by
  refine congrArg x (funext fun a => Fin.ext ?_)
  match a with
  | ⟨0, _⟩ => rfl
  | ⟨1, _⟩ => rfl
  | ⟨2, _⟩ => show 0 + 1 * j.val = j.val; omega

theorem gated_apply (x0 x1 : Vec Ideal S1x1x1024 .f32) (j : Fin 1024) :
    k0_pay4 (F := Ideal) x0 x1 (ix2 0 j) = gated (fun j => x0 (ix3 0 0 j)) (fun j => x1 (ix3 0 0 j)) j := by
  pointwise [k0_pay4]
  rfl

/-- The convolution, normalised and scaled. -/
theorem scaled_apply (x0 x1 : Vec Ideal S1x1x1024 .f32) (x2 : Vec Ideal S1x1x30x1024 .f32) (a : Vec Ideal S1x30x1024 .f32) (b x4 x5 : Vec Ideal S1x1x1024 .f32) (j : Fin 1024) :
    k0_pay6 (F := Ideal) x0 x1 x2 a b x4 x5 (ix2 0 j)
      = scaled (fun j => (∑ t : Fin 30, a (ix3 0 t j) * x2 (ix4 0 0 t j)) + b (ix3 0 0 j) * gated (fun j => x0 (ix3 0 0 j)) (fun j => x1 (ix3 0 0 j)) j + x4 (ix3 0 0 j))
        (fun j => x5 (ix3 0 0 j)) j := by
  have h := gated_apply x0 x1
  unfold k0_pay6
  generalize k0_pay4 (F := Ideal) x0 x1 = U at h ⊢
  pointwise [k0_pay5]
  simp only [h]
  rfl

/-- The block of the convolution's result, from the point's blocks. -/
def outArr (x0 x1 : Vec Ideal S1x1x1024 .f32) (x2 : Vec Ideal S1x1x30x1024 .f32) (x3 : Vec Ideal S1x31x1024 .f32) (x4 x5 : Vec Ideal S1x1x1024 .f32) : Vec Ideal S1x1x1024 .bf16 := fun y =>
  activated (conv (window (fun t j => x2 (ix4 0 0 t j)) (gated (fun j => x0 (ix3 0 0 j)) (fun j => x1 (ix3 0 0 j)))) (fun t j => x3 (ix3 0 t j)) (fun j => x4 (ix3 0 0 j)))
    (fun j => x5 (ix3 0 0 j)) (y 2)

/-- The block of the new state, from the point's blocks: the window without its first position. -/
def stateArr (x0 x1 : Vec Ideal S1x1x1024 .f32) (x2 : Vec Ideal S1x1x30x1024 .f32) : Vec Ideal S1x30x1024 .f32 := fun y =>
  window (fun t j => x2 (ix4 0 0 t j)) (gated (fun j => x0 (ix3 0 0 j)) (fun j => x1 (ix3 0 0 j))) ⟨(y 1).val + 1, Nat.succ_lt_succ (y 1).isLt⟩ (y 2)

theorem silu_apply (v : FVec Ideal S1x1024 .f32) (j : Fin 1024) :
    k0_pay1 (F := Ideal) v (ix3 0 0 j) = v (ix2 0 j) * Ideal.logistic (v (ix2 0 j)) := by
  pointwise [k0_pay1]

theorem stored_eq (x0 x1 : Vec Ideal S1x1x1024 .f32) (x2 : Vec Ideal S1x1x30x1024 .f32) (x3 : Vec Ideal S1x31x1024 .f32) (x4 x5 : Vec Ideal S1x1x1024 .f32) :
    k0_pay1 (F := Ideal) (k0_pay6 (F := Ideal) x0 x1 x2 (oldTaps x3) (newTap x3) x4 x5) = outArr x0 x1 x2 x3 x4 x5 := by
  funext y
  obtain ⟨j, rfl⟩ : ∃ j : Fin 1024, y = ix3 (0 : Fin 1) (0 : Fin 1) j :=
    ⟨y 2, (eq_ix3 y).trans (congrArg₂ (fun a b => ix3 a b (y 2)) (Subsingleton.elim (α := Fin 1) (y 0) 0) (Subsingleton.elim (α := Fin 1) (y 1) 0))⟩
  rw [silu_apply, scaled_apply]
  simp only [oldTaps_apply, newTap_apply]
  show _ = activated _ _ j
  unfold activated
  rw [funext (conv_split _ _ _ _)]

theorem kept_apply (x2 : Vec Ideal S1x1x30x1024 .f32) (t : Fin 29) (j : Fin 1024) :
    k0_pay2 (F := Ideal) (k0_pay5 (F := Ideal) x2) (ix3 0 t j) = x2 (ix4 0 0 ⟨1 + t.val, by omega⟩ j) := by
  pointwise [k0_pay2, k0_pay5]

theorem new_apply (v : FVec Ideal S1x1024 .f32) (j : Fin 1024) : k0_pay3 (F := Ideal) v (ix3 0 0 j) = v (ix2 0 j) := by
  pointwise [k0_pay3]

set_option maxHeartbeats 4000000 in
/-- The block of the convolution's result a point stores. -/
theorem out_eq (c : Dev nD) (i : grid0.Coords) (arg1 : Memref sig .tc .vmem S1x1x1024 .f32) (harg1 : arg1.IsWhole) (arg2 : Memref sig .tc .vmem S1x1x1024 .f32) (harg2 : arg2.IsWhole) (arg3 : Memref sig .tc .vmem S1x1x30x1024 .f32) (harg3 : arg3.IsWhole) (arg4 : Memref sig .tc .vmem S1x31x1024 .f32) (harg4 : arg4.IsWhole) (arg5 : Memref sig .tc .vmem S1x1x1024 .f32) (harg5 : arg5.IsWhole) (arg6 : Memref sig .tc .vmem S1x1x1024 .f32) (harg6 : arg6.IsWhole) (arg7 : Memref sig .tc .vmem S1x1x1024 .bf16) (harg7 : arg7.IsWhole) (arg8 : Memref sig .tc .vmem S1x30x1024 .f32) (harg8 : arg8.IsWhole)
    (x0 x1 : Vec Ideal S1x1x1024 .f32) (x2 : Vec Ideal S1x1x30x1024 .f32) (x3 : Vec Ideal S1x31x1024 .f32) (x4 x5 : Vec Ideal S1x1x1024 .f32) :
    out0_A_6 c i arg1 harg1 arg2 harg2 arg3 harg3 arg4 harg4 arg5 harg5 arg6 harg6 arg7 harg7 arg8 harg8 x0 x1 x2 x3 x4 x5 = outArr x0 x1 x2 x3 x4 x5 := by
  unfold out0_A_6
  rw [View.read_writes_eq_canon _ _ _ (cover0_A_6 c i arg1 harg1 arg2 harg2 arg3 harg3 arg4 harg4 arg5 harg5 arg6 harg6 arg7 harg7 arg8 harg8 x0 x1 x2 x3 x4 x5)]
  funext y
  refine View.canon_apply_of_pieces _ _ (View.PiecesOf.mem ?_) y (cover0_A_6 c i arg1 harg1 arg2 harg2 arg3 harg3 arg4 harg4 arg5 harg5 arg6 harg6 arg7 harg7 arg8 harg8 x0 x1 x2 x3 x4 x5 y)
  unfold kernelRun0_A
  dsimp only
  sl_unfold_words
  simp (disch := decide) only [View.readAt_eq_ld, harg1.read_unread, harg2.read_unread, harg3.read_unread, harg4.read_unread, harg5.read_unread, harg6.read_unread, ld_u, ld_past]
  refine ⟨fun z => ?_, trivial⟩
  have e := congrFun (stored_eq x0 x1 x2 x3 x4 x5) z
  have ez : (Rect.unit ![0, 0, 0] ![1, 1, 1024] inb_S1x1x1024_S1x1x1024_0_0_0 : Rect S1x1x1024).emb z = z := by
    refine funext fun a => Fin.ext ?_
    match a with
    | ⟨0, _⟩ => show 0 + 1 * (z 0).val = (z 0).val; omega
    | ⟨1, _⟩ => show 0 + 1 * (z 1).val = (z 1).val; omega
    | ⟨2, _⟩ => show 0 + 1 * (z 2).val = (z 2).val; omega
  exact e.trans (congrArg (outArr x0 x1 x2 x3 x4 x5) ez.symm)

/-- A position of the window without its first is a kept position but the last, which is the new one. -/
theorem state_kept (x0 x1 : Vec Ideal S1x1x1024 .f32) (x2 : Vec Ideal S1x1x30x1024 .f32) (z : S1x29x1024.Idx) (y : S1x30x1024.Idx)
    (h1 : (y 1).val = (z 1).val) (h2 : (y 2).val = (z 2).val) :
    k0_pay2 (F := Ideal) (k0_pay5 (F := Ideal) x2) z = stateArr x0 x1 x2 y := by
  obtain ⟨t, j, rfl⟩ : ∃ (t : Fin 29) (j : Fin 1024), z = ix3 (0 : Fin 1) t j :=
    ⟨z 1, z 2, (eq_ix3 z).trans (congrArg (fun a => ix3 a (z 1) (z 2)) (Subsingleton.elim (α := Fin 1) (z 0) 0))⟩
  rw [kept_apply]
  have ht : (y 1).val = t.val := h1
  have hj : (y 2).val = j.val := h2
  unfold stateArr window
  rw [dif_pos (show (y 1).val + 1 < 30 by omega)]
  exact congrArg₂ (fun a b => x2 (ix4 (0 : Fin 1) (0 : Fin 1) a b)) (Fin.ext (by show 1 + t.val = (y 1).val + 1; omega)) (Fin.ext hj.symm)

theorem state_new (x0 x1 : Vec Ideal S1x1x1024 .f32) (x2 : Vec Ideal S1x1x30x1024 .f32) (z : S1x1x1024.Idx) (y : S1x30x1024.Idx)
    (h1 : (y 1).val = 29) (h2 : (y 2).val = (z 2).val) :
    k0_pay3 (F := Ideal) (k0_pay4 (F := Ideal) x0 x1) z = stateArr x0 x1 x2 y := by
  obtain ⟨j, rfl⟩ : ∃ j : Fin 1024, z = ix3 (0 : Fin 1) (0 : Fin 1) j :=
    ⟨z 2, (eq_ix3 z).trans (congrArg₂ (fun a b => ix3 a b (z 2)) (Subsingleton.elim (α := Fin 1) (z 0) 0) (Subsingleton.elim (α := Fin 1) (z 1) 0))⟩
  rw [new_apply, gated_apply]
  unfold stateArr window
  rw [dif_neg (show ¬ ((y 1).val + 1 < 30) by omega)]
  exact congrArg _ (Fin.ext (show j.val = (y 2).val from h2.symm))

set_option maxHeartbeats 4000000 in
/-- The block of the new state a point stores. -/
theorem state_eq (c : Dev nD) (i : grid0.Coords) (arg1 : Memref sig .tc .vmem S1x1x1024 .f32) (harg1 : arg1.IsWhole) (arg2 : Memref sig .tc .vmem S1x1x1024 .f32) (harg2 : arg2.IsWhole) (arg3 : Memref sig .tc .vmem S1x1x30x1024 .f32) (harg3 : arg3.IsWhole) (arg4 : Memref sig .tc .vmem S1x31x1024 .f32) (harg4 : arg4.IsWhole) (arg5 : Memref sig .tc .vmem S1x1x1024 .f32) (harg5 : arg5.IsWhole) (arg6 : Memref sig .tc .vmem S1x1x1024 .f32) (harg6 : arg6.IsWhole) (arg7 : Memref sig .tc .vmem S1x1x1024 .bf16) (harg7 : arg7.IsWhole) (arg8 : Memref sig .tc .vmem S1x30x1024 .f32) (harg8 : arg8.IsWhole)
    (x0 x1 : Vec Ideal S1x1x1024 .f32) (x2 : Vec Ideal S1x1x30x1024 .f32) (x3 : Vec Ideal S1x31x1024 .f32) (x4 x5 : Vec Ideal S1x1x1024 .f32) :
    out0_A_7 c i arg1 harg1 arg2 harg2 arg3 harg3 arg4 harg4 arg5 harg5 arg6 harg6 arg7 harg7 arg8 harg8 x0 x1 x2 x3 x4 x5 = stateArr x0 x1 x2 := by
  unfold out0_A_7
  rw [View.read_writes_eq_canon _ _ _ (cover0_A_7 c i arg1 harg1 arg2 harg2 arg3 harg3 arg4 harg4 arg5 harg5 arg6 harg6 arg7 harg7 arg8 harg8 x0 x1 x2 x3 x4 x5)]
  funext y
  refine View.canon_apply_of_pieces _ _ (View.PiecesOf.mem ?_) y (cover0_A_7 c i arg1 harg1 arg2 harg2 arg3 harg3 arg4 harg4 arg5 harg5 arg6 harg6 arg7 harg7 arg8 harg8 x0 x1 x2 x3 x4 x5 y)
  unfold kernelRun0_A
  dsimp only
  sl_unfold_words
  simp (disch := decide) only [View.readAt_eq_ld, harg1.read_unread, harg2.read_unread, harg3.read_unread, harg4.read_unread, harg5.read_unread, harg6.read_unread, ld_u, ld_past]
  refine ⟨fun z => state_new x0 x1 x2 z _ ?_ ?_, fun z => state_kept x0 x1 x2 z _ ?_ ?_, trivial⟩
  · show 29 + 1 * (z 1).val = 29
    have : (z 1).val < 1 := (z 1).isLt
    omega
  · show 0 + 1 * (z 2).val = (z 2).val; omega
  · show 0 + 1 * (z 1).val = (z 1).val; omega
  · show 0 + 1 * (z 2).val = (z 2).val; omega

end Cert.Layer.ConvSample

end
-- ==== Proof.ConvSample.Fold.lean ====
/-
  The results of the kernel of the sample's convolution: grid point `t` makes sequence `t`'s.
-/
module

public import proofs.«01_k».proof.Proof.ConvSample.Point
public import proofs.«01_k».proof.Proof.Gen.ConvSampleIdeal.Value

@[expose] public section

noncomputable section

namespace Cert.Layer.ConvSample

open Idealize.ShloMosaic Idealize.ShloMosaic.TcCoe
open Cert.ConvSampleIdeal Cert.ConvSampleIdeal.Gen

/-- A sequence's window: the state's thirty positions and the gated new one. -/
def seqWindow (z : Vec Ideal ⟨3, ![32, 1, 10880]⟩ .f32) (st : Vec Ideal ⟨4, ![2, 32, 30, 1024]⟩ .f32) (b : Fin 32) : Fin 31 → Fin 1024 → EReal :=
  window (fun t j => st (ix4 0 b t j)) (gated (fun j => z (ix3 b 0 ⟨3072 + j.val, by omega⟩)) (fun j => z (ix3 b 0 ⟨4096 + j.val, by omega⟩)))

/-- The convolution's result, from the arguments. -/
def convAll (z : Vec Ideal ⟨3, ![32, 1, 10880]⟩ .f32) (st : Vec Ideal ⟨4, ![2, 32, 30, 1024]⟩ .f32) (w : Vec Ideal ⟨3, ![2, 31, 1024]⟩ .f32) (bias g : Vec Ideal ⟨2, ![2, 1024]⟩ .f32)
    (b : Fin 32) (j : Fin 1024) : EReal :=
  activated (conv (seqWindow z st b) (fun t j => w (ix3 0 t j)) (fun j => bias (ix2 0 j))) (fun j => g (ix2 0 j)) j

variable (m : (ℓ : Loc nD τ sig) → Buf (Elt Ideal) ℓ) (c : Dev nD)

def zArg : Vec Ideal S32x1x10880 .f32 := m ((c : Thread nD τ).loc main_arg0)
def stArg : Vec Ideal S2x32x30x1024 .f32 := m ((c : Thread nD τ).loc main_arg1)
def wArg : Vec Ideal S2x31x1024 .f32 := m ((c : Thread nD τ).loc main_arg2)
def bArg : Vec Ideal S2x1024 .f32 := m ((c : Thread nD τ).loc main_arg3)
def gArg : Vec Ideal S2x1024 .f32 := m ((c : Thread nD τ).loc main_arg4)

/-- The kernel's first result, as a function of its arguments. -/
def kernelOut : Vec Ideal S32x1x1024 .bf16 := fun i => convAll (zArg m c) (stArg m c) (wArg m c) (bArg m c) (gArg m c) (i 0) (i 2)

/-- The kernel's second result, as a function of its arguments: each window without its first position. -/
def kernelState : Vec Ideal S32x30x1024 .f32 := fun i => seqWindow (zArg m c) (stArg m c) (i 0) ⟨(i 1).val + 1, Nat.succ_lt_succ (i 1).isLt⟩ (i 2)

theorem V_bias : (V m c main_v0 : Vec Ideal S2x1x1024 .f32) = shapeCast S2x1x1024 (bArg m c) shapeCasts_S2x1024_S2x1x1024 := by
  dsimp only [V, List.flatten_cons, List.flatten_nil, List.cons_append, List.nil_append, List.append_nil]
  after_results
  rfl

theorem V_gain : (V m c main_v1 : Vec Ideal S2x1x1024 .f32) = shapeCast S2x1x1024 (gArg m c) shapeCasts_S2x1024_S2x1x1024 := by
  dsimp only [V, List.flatten_cons, List.flatten_nil, List.cons_append, List.nil_append, List.append_nil]
  after_results
  rfl

theorem cast_apply (x : Vec Ideal S2x1024 .f32) (j : Fin 1024) : shapeCast S2x1x1024 x shapeCasts_S2x1024_S2x1x1024 (ix3 0 0 j) = x (ix2 0 j) := by
  pointwise []

/-- The sequence of point `t`. -/
def seq (t : Fin cfg0.N) : Fin 32 := ⟨t.val, lt_of_lt_of_eq t.isLt N_0⟩

theorem index0 : ∀ t : Fin cfg0.N, win0_0.index t (0 : Fin 3) = t.val ∧ win0_0.index t (1 : Fin 3) = 0 ∧ win0_0.index t (2 : Fin 3) = 3 :=
  (by decide +kernel : ∀ t : Fin grid0.N, _)
theorem index1 : ∀ t : Fin cfg0.N, win0_1.index t (0 : Fin 3) = t.val ∧ win0_1.index t (1 : Fin 3) = 0 ∧ win0_1.index t (2 : Fin 3) = 4 :=
  (by decide +kernel : ∀ t : Fin grid0.N, _)
theorem index2 : ∀ t : Fin cfg0.N, win0_2.index t (0 : Fin 4) = 0 ∧ win0_2.index t (1 : Fin 4) = t.val ∧ win0_2.index t (2 : Fin 4) = 0 ∧ win0_2.index t (3 : Fin 4) = 0 :=
  (by decide +kernel : ∀ t : Fin grid0.N, _)
theorem index3 : ∀ t : Fin cfg0.N, win0_3.index t (0 : Fin 3) = 0 ∧ win0_3.index t (1 : Fin 3) = 0 ∧ win0_3.index t (2 : Fin 3) = 0 :=
  (by decide +kernel : ∀ t : Fin grid0.N, _)
theorem index4 : ∀ t : Fin cfg0.N, win0_4.index t (0 : Fin 3) = 0 ∧ win0_4.index t (1 : Fin 3) = 0 ∧ win0_4.index t (2 : Fin 3) = 0 :=
  (by decide +kernel : ∀ t : Fin grid0.N, _)
theorem index5 : ∀ t : Fin cfg0.N, win0_5.index t (0 : Fin 3) = 0 ∧ win0_5.index t (1 : Fin 3) = 0 ∧ win0_5.index t (2 : Fin 3) = 0 :=
  (by decide +kernel : ∀ t : Fin grid0.N, _)
theorem index6 : ∀ t : Fin cfg0.N, win0_6.index t (0 : Fin 3) = t.val ∧ win0_6.index t (1 : Fin 3) = 0 ∧ win0_6.index t (2 : Fin 3) = 0 :=
  (by decide +kernel : ∀ t : Fin grid0.N, _)
theorem index7 : ∀ t : Fin cfg0.N, win0_7.index t (0 : Fin 3) = t.val ∧ win0_7.index t (1 : Fin 3) = 0 ∧ win0_7.index t (2 : Fin 3) = 0 :=
  (by decide +kernel : ∀ t : Fin grid0.N, _)

theorem u_apply (t : Fin cfg0.N) (j : Fin 1024) : (X0_0 m c t : Vec Ideal S1x1x1024 .f32) (ix3 0 0 j) = zArg m c (ix3 (seq t) 0 ⟨3072 + j.val, by omega⟩) := by
  obtain ⟨e0, e1, e2⟩ := index0 t
  have ef : (X0_0 m c t : Vec Ideal S1x1x1024 .f32) (ix3 0 0 j) = _ := dif_pos (moved0_0 t (ix3 0 0 j))
  rw [ef]
  refine (congrArg (V m c main_arg0 : Vec Ideal S32x1x10880 .f32) (funext fun a => Fin.ext ?_)).trans (congrFun (V_main_arg0 m c) _)
  match a with
  | ⟨0, _⟩ => show win0_0.index t (0 : Fin 3) * 1 + 1 * 0 = t.val; omega
  | ⟨1, _⟩ => show win0_0.index t (1 : Fin 3) * 1 + 1 * 0 = 0; omega
  | ⟨2, _⟩ => show win0_0.index t (2 : Fin 3) * 1024 + 1 * j.val = 3072 + j.val; omega

theorem v_apply (t : Fin cfg0.N) (j : Fin 1024) : (X0_1 m c t : Vec Ideal S1x1x1024 .f32) (ix3 0 0 j) = zArg m c (ix3 (seq t) 0 ⟨4096 + j.val, by omega⟩) := by
  obtain ⟨e0, e1, e2⟩ := index1 t
  have ef : (X0_1 m c t : Vec Ideal S1x1x1024 .f32) (ix3 0 0 j) = _ := dif_pos (moved0_1 t (ix3 0 0 j))
  rw [ef]
  refine (congrArg (V m c main_arg0 : Vec Ideal S32x1x10880 .f32) (funext fun a => Fin.ext ?_)).trans (congrFun (V_main_arg0 m c) _)
  match a with
  | ⟨0, _⟩ => show win0_1.index t (0 : Fin 3) * 1 + 1 * 0 = t.val; omega
  | ⟨1, _⟩ => show win0_1.index t (1 : Fin 3) * 1 + 1 * 0 = 0; omega
  | ⟨2, _⟩ => show win0_1.index t (2 : Fin 3) * 1024 + 1 * j.val = 4096 + j.val; omega

theorem st_apply (t : Fin cfg0.N) (k : Fin 30) (j : Fin 1024) : (iblk m c 2 t : Vec Ideal S1x1x30x1024 .f32) (ix4 0 0 k j) = stArg m c (ix4 0 (seq t) k j) := by
  obtain ⟨e0, e1, e2, e3⟩ := index2 t
  refine (congrArg (V m c main_arg1 : Vec Ideal S2x32x30x1024 .f32) (funext fun a => Fin.ext ?_)).trans (congrFun (V_main_arg1 m c) _)
  match a with
  | ⟨0, _⟩ => show win0_2.index t (0 : Fin 4) * 1 + 1 * 0 = 0; omega
  | ⟨1, _⟩ => show win0_2.index t (1 : Fin 4) * 1 + 1 * 0 = t.val; omega
  | ⟨2, _⟩ => show win0_2.index t (2 : Fin 4) * 30 + 1 * k.val = k.val; omega
  | ⟨3, _⟩ => show win0_2.index t (3 : Fin 4) * 1024 + 1 * j.val = j.val; omega

theorem w_apply (t : Fin cfg0.N) (k : Fin 31) (j : Fin 1024) : (iblk m c 3 t : Vec Ideal S1x31x1024 .f32) (ix3 0 k j) = wArg m c (ix3 0 k j) := by
  obtain ⟨e0, e1, e2⟩ := index3 t
  refine (congrArg (V m c main_arg2 : Vec Ideal S2x31x1024 .f32) (funext fun a => Fin.ext ?_)).trans (congrFun (V_main_arg2 m c) _)
  match a with
  | ⟨0, _⟩ => show win0_3.index t (0 : Fin 3) * 1 + 1 * 0 = 0; omega
  | ⟨1, _⟩ => show win0_3.index t (1 : Fin 3) * 31 + 1 * k.val = k.val; omega
  | ⟨2, _⟩ => show win0_3.index t (2 : Fin 3) * 1024 + 1 * j.val = j.val; omega

theorem b_apply (t : Fin cfg0.N) (j : Fin 1024) : (iblk m c 4 t : Vec Ideal S1x1x1024 .f32) (ix3 0 0 j) = bArg m c (ix2 0 j) := by
  obtain ⟨e0, e1, e2⟩ := index4 t
  refine ((congrArg (V m c main_v0 : Vec Ideal S2x1x1024 .f32) (funext fun a => Fin.ext ?_)).trans (congrFun (V_bias m c) (ix3 0 0 j))).trans (cast_apply _ j)
  match a with
  | ⟨0, _⟩ => show win0_4.index t (0 : Fin 3) * 1 + 1 * 0 = 0; omega
  | ⟨1, _⟩ => show win0_4.index t (1 : Fin 3) * 1 + 1 * 0 = 0; omega
  | ⟨2, _⟩ => show win0_4.index t (2 : Fin 3) * 1024 + 1 * j.val = j.val; omega

theorem g_apply (t : Fin cfg0.N) (j : Fin 1024) : (iblk m c 5 t : Vec Ideal S1x1x1024 .f32) (ix3 0 0 j) = gArg m c (ix2 0 j) := by
  obtain ⟨e0, e1, e2⟩ := index5 t
  refine ((congrArg (V m c main_v1 : Vec Ideal S2x1x1024 .f32) (funext fun a => Fin.ext ?_)).trans (congrFun (V_gain m c) (ix3 0 0 j))).trans (cast_apply _ j)
  match a with
  | ⟨0, _⟩ => show win0_5.index t (0 : Fin 3) * 1 + 1 * 0 = 0; omega
  | ⟨1, _⟩ => show win0_5.index t (1 : Fin 3) * 1 + 1 * 0 = 0; omega
  | ⟨2, _⟩ => show win0_5.index t (2 : Fin 3) * 1024 + 1 * j.val = j.val; omega

/-- A point's window is its sequence's. -/
theorem window_apply (t : Fin cfg0.N) :
    window (fun k j => (iblk m c 2 t : Vec Ideal S1x1x30x1024 .f32) (ix4 0 0 k j))
        (gated (fun j => (X0_0 m c t : Vec Ideal S1x1x1024 .f32) (ix3 0 0 j)) (fun j => (X0_1 m c t : Vec Ideal S1x1x1024 .f32) (ix3 0 0 j)))
      = seqWindow (zArg m c) (stArg m c) (seq t) := by
  simp only [u_apply m c t, v_apply m c t, st_apply m c t]
  rfl

/-- What a point stores is its sequence's entries of the two results. -/
theorem outArr_apply (t : Fin cfg0.N) (y : S1x1x1024.Idx) :
    outArr (X0_0 m c t) (X0_1 m c t) (iblk m c 2 t) (iblk m c 3 t) (iblk m c 4 t) (iblk m c 5 t) y = kernelOut m c (ix3 (seq t) 0 (y 2)) := by
  unfold outArr
  rw [window_apply]
  simp only [w_apply m c t, b_apply m c t, g_apply m c t]
  rfl

theorem stateArr_apply (t : Fin cfg0.N) (y : S1x30x1024.Idx) :
    stateArr (X0_0 m c t) (X0_1 m c t) (iblk m c 2 t) y = kernelState m c (ix3 (seq t) (y 1) (y 2)) := by
  unfold stateArr
  rw [window_apply]
  rfl

theorem flushed_eq (t : Fin cfg0.N) : (dats m 0 c).flushed 6 t = ((cfg0.win 6).blk t).view.read (Elt Ideal) (kernelOut m c) := by
  rw [Value.flushed6_A, out_eq]
  funext y
  show outArr _ _ _ _ _ _ ((cfg0.win 6).xinj (grid0.coords t) y) = kernelOut m c (((cfg0.win 6).blk t).view.emb y)
  rw [outArr_apply]
  obtain ⟨e0, e1, e2⟩ := index6 t
  have h0 : (y 0).val < 1 := (y 0).isLt
  have h1 : (y 1).val < 1 := (y 1).isLt
  refine congrArg (kernelOut m c) (funext fun a => Fin.ext ?_)
  match a with
  | ⟨0, _⟩ => show t.val = win0_6.index t (0 : Fin 3) * 1 + 1 * (y 0).val; omega
  | ⟨1, _⟩ => show 0 = win0_6.index t (1 : Fin 3) * 1 + 1 * (y 1).val; omega
  | ⟨2, _⟩ => show (y 2).val = win0_6.index t (2 : Fin 3) * 1024 + 1 * (y 2).val; omega

theorem flushed_state (t : Fin cfg0.N) : (dats m 0 c).flushed 7 t = ((cfg0.win 7).blk t).view.read (Elt Ideal) (kernelState m c) := by
  rw [Value.flushed7_A, state_eq]
  funext y
  show stateArr _ _ _ ((cfg0.win 7).xinj (grid0.coords t) y) = kernelState m c (((cfg0.win 7).blk t).view.emb y)
  rw [stateArr_apply]
  obtain ⟨e0, e1, e2⟩ := index7 t
  have h0 : (y 0).val < 1 := (y 0).isLt
  refine congrArg (kernelState m c) (funext fun a => Fin.ext ?_)
  match a with
  | ⟨0, _⟩ => show t.val = win0_7.index t (0 : Fin 3) * 1 + 1 * (y 0).val; omega
  | ⟨1, _⟩ => show (y 1).val = win0_7.index t (1 : Fin 3) * 30 + 1 * (y 1).val; omega
  | ⟨2, _⟩ => show (y 2).val = win0_7.index t (2 : Fin 3) * 1024 + 1 * (y 2).val; omega

theorem cover (i : S32x1x1024.Idx) : ∃ t : Fin cfg0.N, (cfg0.win 6).flush t = true ∧ i ∈ ((cfg0.win 6).blk t).view.set := by
  have h1 : (i 1).val < 1 := (i 1).isLt
  have h2 : (i 2).val < 1024 := (i 2).isLt
  obtain ⟨t, et⟩ : ∃ t : Fin cfg0.N, t.val = (i 0).val := ⟨⟨_, lt_of_lt_of_eq (show (i 0).val < 32 from (i 0).isLt) N_0.symm⟩, rfl⟩
  refine ⟨t, flush0_6 t, ?_⟩
  obtain ⟨e0, e1, e2⟩ := index6 t
  show i ∈ ((View.whole main_v2_0).slice (win0_6.rect t)).set
  rw [View.set_slice_whole, Rect.mem_set_unit]
  intro a
  match a with
  | ⟨0, _⟩ =>
    show win0_6.index t (0 : Fin 3) * 1 ≤ (i 0).val ∧ (i 0).val < win0_6.index t (0 : Fin 3) * 1 + 1
    omega
  | ⟨1, _⟩ =>
    show win0_6.index t (1 : Fin 3) * 1 ≤ (i 1).val ∧ (i 1).val < win0_6.index t (1 : Fin 3) * 1 + 1
    omega
  | ⟨2, _⟩ =>
    show win0_6.index t (2 : Fin 3) * 1024 ≤ (i 2).val ∧ (i 2).val < win0_6.index t (2 : Fin 3) * 1024 + 1024
    omega

theorem cover_state (i : S32x30x1024.Idx) : ∃ t : Fin cfg0.N, (cfg0.win 7).flush t = true ∧ i ∈ ((cfg0.win 7).blk t).view.set := by
  have h1 : (i 1).val < 30 := (i 1).isLt
  have h2 : (i 2).val < 1024 := (i 2).isLt
  obtain ⟨t, et⟩ : ∃ t : Fin cfg0.N, t.val = (i 0).val := ⟨⟨_, lt_of_lt_of_eq (show (i 0).val < 32 from (i 0).isLt) N_0.symm⟩, rfl⟩
  refine ⟨t, flush0_7 t, ?_⟩
  obtain ⟨e0, e1, e2⟩ := index7 t
  show i ∈ ((View.whole main_v2_1).slice (win0_7.rect t)).set
  rw [View.set_slice_whole, Rect.mem_set_unit]
  intro a
  match a with
  | ⟨0, _⟩ =>
    show win0_7.index t (0 : Fin 3) * 1 ≤ (i 0).val ∧ (i 0).val < win0_7.index t (0 : Fin 3) * 1 + 1
    omega
  | ⟨1, _⟩ =>
    show win0_7.index t (1 : Fin 3) * 30 ≤ (i 1).val ∧ (i 1).val < win0_7.index t (1 : Fin 3) * 30 + 30
    omega
  | ⟨2, _⟩ =>
    show win0_7.index t (2 : Fin 3) * 1024 ≤ (i 2).val ∧ (i 2).val < win0_7.index t (2 : Fin 3) * 1024 + 1024
    omega

/-- The kernel's first result. -/
theorem arr_eq : (dats m 0 c).arrAt 6 cfg0.N = kernelOut m c :=
  (dats m 0 c).arrAt_eq_of_cover 6 _ (fun t _ => flushed_eq m c t) cover

/-- The kernel's second result. -/
theorem arr_state : (dats m 0 c).arrAt 7 cfg0.N = kernelState m c :=
  (dats m 0 c).arrAt_eq_of_cover 7 _ (fun t _ => flushed_state m c t) cover_state

end Cert.Layer.ConvSample

end
-- ==== Proof.ConvSample.Ref.lean ====
/-
  The results of the reference of the sample's convolution, read at an index.
-/
module

public import proofs.«01_k».proof.Proof.ConvSample.Fold
public import proofs.«01_k».proof.Proof.Gen.ConvSampleRefIdeal.Read
public import Idealize.ShloMosaic.Lib.Pointwise

@[expose] public section

noncomputable section

namespace Cert.Layer.ConvSampleRef

open Idealize.ShloMosaic Idealize.ShloMosaic.TcCoe
open Cert.ConvSampleRefIdeal Cert.ConvSampleRefIdeal.Gen Cert.ConvSampleRefIdeal.Read
open Cert.Layer.ConvSample
open scoped BigOperators

variable (z : Vec Ideal S32x1x10880 .f32) (st : Vec Ideal S2x32x30x1024 .f32) (w : Vec Ideal S2x31x1024 .f32) (bias g : Vec Ideal S2x1024 .f32)

theorem gated_apply (b : Fin 32) (j : Fin 1024) :
    val_main_v8 (F := Ideal) z (ix3 b 0 j) = gated (fun j => z (ix3 b 0 ⟨3072 + j.val, by omega⟩)) (fun j => z (ix3 b 0 ⟨4096 + j.val, by omega⟩)) j := by
  unfold val_main_v8 val_main_v7 val_main_v5 val_main_v3 val_main_v2
  pointwise [val_main_v0, val_main_v1, val_main_v4, val_main_v6, val_main_cst, val_main_cst_0]
  rfl

theorem past_apply (b : Fin 32) (t : Fin 30) (j : Fin 1024) : val_main_v10 (F := Ideal) st (ix3 b t j) = st (ix4 0 b t j) := by
  pointwise [val_main_v10, val_main_v9]

/-- The positions the convolution sees. -/
theorem window_apply (b : Fin 32) (t : Fin 31) (j : Fin 1024) : val_main_v11 (F := Ideal) z st (ix3 b t j) = seqWindow z st b t j := by
  unfold seqWindow window
  by_cases h : t.val < 30
  · rw [dif_pos h]
    unfold val_main_v11
    refine (concatenate_apply_piece (t := S32x31x1024) 1 _ _ (ix3 b t j) 0 (by show 0 < 2; decide) S32x30x1024 _ rfl rfl 0 rfl (ix3 b ⟨t.val, h⟩ j) (fun q hq => ?_) ?_).trans (past_apply st b ⟨t.val, h⟩ j)
    · match q with
      | ⟨0, _⟩ => rfl
      | ⟨1, _⟩ => exact absurd rfl hq
      | ⟨2, _⟩ => rfl
    · show 0 + t.val = t.val; omega
  · rw [dif_neg h]
    unfold val_main_v11
    refine (concatenate_apply_piece (t := S32x31x1024) 1 _ _ (ix3 b t j) 1 (by show 1 < 2; decide) S32x1x1024 _ rfl rfl 30 rfl (ix3 b 0 j) (fun q hq => ?_) ?_).trans (gated_apply z b j)
    · match q with
      | ⟨0, _⟩ => rfl
      | ⟨1, _⟩ => exact absurd rfl hq
      | ⟨2, _⟩ => rfl
    · show 30 + 0 = t.val; omega

theorem conv_apply (b : Fin 32) (j : Fin 1024) :
    val_main_v23 (F := Ideal) z st w bias (ix3 b 0 j) = conv (seqWindow z st b) (fun t j => w (ix3 0 t j)) (fun j => bias (ix2 0 j)) j := by
  have h := window_apply z st b
  unfold val_main_v23 val_main_v18 val_main_v17 val_main_v16
  generalize val_main_v11 (F := Ideal) z st = W at h ⊢
  pointwise [val_main_v15, val_main_v14, val_main_v13, val_main_v12, val_main_v22, val_main_v21, val_main_v20, val_main_v19, val_main_cst_1]
  simp only [h]
  rfl

theorem scaled_apply (b : Fin 32) (j : Fin 1024) :
    val_main_v38 (F := Ideal) z st w bias g (ix3 b 0 j)
      = scaled (conv (seqWindow z st b) (fun t j => w (ix3 0 t j)) (fun j => bias (ix2 0 j))) (fun j => g (ix2 0 j)) j := by
  have h := conv_apply z st w bias b
  unfold val_main_v38 val_main_v35 val_main_v34 val_main_v33 val_main_v32 val_main_v30 val_main_v28 val_main_v27 val_main_v26
  generalize val_main_v23 (F := Ideal) z st w bias = Y at h ⊢
  pointwise [val_main_v37, val_main_v36, val_main_v25, val_main_v24, val_main_v31, val_main_cst_4, val_main_v29, val_main_cst_3, val_main_cst_2]
  simp only [h]
  rfl

/-- The reference's first result. -/
theorem ref_eq : val_main_v40 (F := Ideal) z st w bias g = fun i => convAll z st w bias g (i 0) (i 2) := by
  funext i
  obtain ⟨b, j, rfl⟩ : ∃ (b : Fin 32) (j : Fin 1024), i = ix3 b (0 : Fin 1) j :=
    ⟨i 0, i 2, (eq_ix3 i).trans (congrArg (fun a => ix3 (i 0) a (i 2)) (Subsingleton.elim (α := Fin 1) (i 1) 0))⟩
  have h := scaled_apply z st w bias g b
  show _ = convAll z st w bias g b j
  unfold val_main_v40 val_main_v39 val_main_call0_v5 val_main_call0_v3 val_main_call0_v1 val_main_call0_v0
  generalize val_main_v38 (F := Ideal) z st w bias g = Y at h ⊢
  pointwise [val_main_call0_v4, val_main_call0_v2, val_main_call0_cst, val_main_call0_cst_0]
  simp only [h]
  rfl

/-- The reference's second result. -/
theorem ref_state : val_main_v41 (F := Ideal) z st = fun i => seqWindow z st (i 0) ⟨(i 1).val + 1, Nat.succ_lt_succ (i 1).isLt⟩ (i 2) := by
  funext i
  rw [val_main_v41_apply]
  refine (congrArg (val_main_v11 (F := Ideal) z st) (funext fun a => Fin.ext ?_)).trans (window_apply z st (i 0) ⟨(i 1).val + 1, Nat.succ_lt_succ (i 1).isLt⟩ (i 2))
  match a with
  | ⟨0, _⟩ => rfl
  | ⟨1, _⟩ => show 1 + (i 1).val = (i 1).val + 1; omega
  | ⟨2, _⟩ => rfl

end Cert.Layer.ConvSampleRef

end
-- ==== Proof.ConvSample.Claims.lean ====
/-
  The claims of the convolution on the sample.
-/
module

public import proofs.«01_k».proof.Defs
public import proofs.«01_k».proof.Proof.ConvSample.Fold
public import proofs.«01_k».proof.Proof.ConvSample.Ref
public import proofs.«01_k».proof.Proof.Gen.ConvSample
public import proofs.«01_k».proof.Proof.Gen.ConvSample.Frame
public import proofs.«01_k».proof.Proof.Gen.ConvSampleIdeal
public import proofs.«01_k».proof.Proof.Gen.ConvSampleRefIdeal

@[expose] public section

noncomputable section

namespace Cert.Layer.ConvSample

open Idealize.ShloMosaic Idealize.ShloMosaic.TcCoe
open Idealize.SL.Sem

theorem frame_kernel : Cert.quiescent_ConvSample := fun m ρ _ => Cert.ConvSample.Gen.frame m ρ

theorem frame_ideal : Cert.quiescent_ConvSampleIdeal := fun m ρ _ => Cert.ConvSampleIdeal.Gen.frame m ρ

theorem frame_reference : Cert.quiescent_ConvSampleRefIdeal := fun m ρ _ =>
  (θ_run Cert.ConvSampleRefIdeal.defs _ _).mono (fun r h => ⟨fun c => (h c).2.2,
      Idealize.ShloMosaic.sem_eq_zero_of_no_sems (by decide) r.2⟩)
    (Cert.ConvSampleRefIdeal.Value.run (F := Ideal) m ρ)

/-- The kernel's results and the reference's are the same functions of the same arguments. -/
theorem algebraic : Cert.algebraic_ConvSampleIdeal_ConvSampleRefIdeal := by
  intro m ρ m' ρ' _ hagree
  refine ⟨fun c => kernelOut m c, fun c => kernelState m c,
    (θ_run _ _ _).mono (fun _ h c => ⟨(h c).1.trans (arr_eq m c), (h c).2.1.trans (arr_state m c), (h c).2.2⟩) (Cert.ConvSampleIdeal.Value.run_blocks (F := Ideal) m ρ), ?_⟩
  refine (θ_run _ _ _).mono (fun _ h c => ⟨(h c).1.trans ?_, (h c).2.1.trans ?_, (h c).2.2⟩) (Cert.ConvSampleRefIdeal.Value.run (F := Ideal) m' ρ')
  all_goals obtain ⟨h0, h1, h2, h3, h4⟩ := hagree c
  · rw [Cert.ConvSampleRefIdeal.Read.val_main_v40_eq, h0, h1, h2, h3, h4]
    exact ConvSampleRef.ref_eq _ _ _ _ _
  · rw [h0, h1]
    exact (Cert.ConvSampleRefIdeal.Read.val_main_v41_eq _ _).trans (ConvSampleRef.ref_state _ _)

end Cert.Layer.ConvSample

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Gen.ReferenceIdeal.Step
public import proofs.«01_k».proof.Proof.Algebraic
public import proofs.«01_k».proof.Proof.Ffn.Claims
public import proofs.«01_k».proof.Proof.Inproj.Claims
public import proofs.«01_k».proof.Proof.Mixout.Claims
public import proofs.«01_k».proof.Proof.FfnSample.Claims
public import proofs.«01_k».proof.Proof.RetSample.Claims
public import proofs.«01_k».proof.Proof.PrepSample.Claims
public import proofs.«01_k».proof.Proof.ConvSample.Claims
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts,
  Cert.Ffn.Gen.facts, Cert.FfnIdeal.Gen.facts, Cert.FfnRefIdeal.Gen.facts,
  Cert.Inproj.Gen.facts, Cert.InprojIdeal.Gen.facts, Cert.InprojRefIdeal.Gen.facts,
  Cert.Mixout.Gen.facts, Cert.MixoutIdeal.Gen.facts, Cert.MixoutRefIdeal.Gen.facts,
  Cert.FfnSample.Gen.facts, Cert.FfnSampleIdeal.Gen.facts, Cert.FfnSampleRefIdeal.Gen.facts,
  Cert.RetSample.Gen.facts, Cert.RetSampleIdeal.Gen.facts, Cert.RetSampleRefIdeal.Gen.facts,
  Cert.PrepSample.Gen.facts, Cert.PrepSampleIdeal.Gen.facts, Cert.PrepSampleRefIdeal.Gen.facts,
  Cert.ConvSample.Gen.facts, Cert.ConvSampleIdeal.Gen.facts, Cert.ConvSampleRefIdeal.Gen.facts,
  Cert.Retention.Final.preFacts, Cert.Retention.Final.frame_kernel, Cert.Retention.Final.frame_ideal,
  Cert.Retention.Final.frame_ideal_pre, Cert.Retention.Final.frame_reference, Cert.Retention.Final.frame_reference_pre,
  Cert.Layer.Ffn.frame_kernel, Cert.Layer.Ffn.frame_ideal, Cert.Layer.Ffn.frame_reference,
  Cert.Layer.Inproj.frame_kernel, Cert.Layer.Inproj.frame_ideal, Cert.Layer.Inproj.frame_reference,
  Cert.Layer.Mixout.frame_kernel, Cert.Layer.Mixout.frame_ideal, Cert.Layer.Mixout.frame_reference,
  Cert.Layer.FfnSample.frame_kernel, Cert.Layer.FfnSample.frame_ideal, Cert.Layer.FfnSample.frame_reference,
  Cert.Layer.RetSample.frame_kernel, Cert.Layer.RetSample.frame_ideal, Cert.Layer.RetSample.frame_reference,
  Cert.Layer.PrepSample.frame_kernel, Cert.Layer.PrepSample.frame_ideal, Cert.Layer.PrepSample.frame_reference,
  Cert.Layer.ConvSample.frame_kernel, Cert.Layer.ConvSample.frame_ideal, Cert.Layer.ConvSample.frame_reference,
  trivial, Cert.Retention.Final.algebraic,
  trivial, Cert.Layer.Ffn.algebraic,
  trivial, Cert.Layer.Inproj.algebraic,
  trivial, Cert.Layer.Mixout.algebraic,
  trivial, Cert.Layer.FfnSample.algebraic,
  trivial, Cert.Layer.RetSample.algebraic,
  trivial, Cert.Layer.PrepSample.algebraic,
  trivial, Cert.Layer.ConvSample.algebraic⟩

end Cert.Proof

end
